-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sb [hPre_finite_sb : Cert.Pre_finite_sb.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sb.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_sb.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sb [hPre_finite_sb : Cert.Pre_finite_sb.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sb.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_sb.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_in [hPre_finite_in : Cert.Pre_finite_in.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_in [hPre_finite_in : Cert.Pre_finite_in.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_tail [hPre_finite_tail : Cert.Pre_finite_tail.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_tail [hPre_finite_tail : Cert.Pre_finite_tail.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_fwd [hPre_finite_fwd : Cert.Pre_finite_fwd.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_fwd.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_fwd [hPre_finite_fwd : Cert.Pre_finite_fwd.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_fwd.fn (F := Ideal) (m ((c.tc : Thread Cert.Reference5Ideal.nD Cert.Reference5Ideal.τ).loc Cert.Reference5Ideal.main_arg0))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_swa [hPre_finite_swa : Cert.Pre_finite_swa.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_swa.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).1 = (fun _ => 1#1)
    ∧ (Cert.Pre_finite_swa.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_swa [hPre_finite_swa : Cert.Pre_finite_swa.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_swa.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).1 = (fun _ => 1#1)
    ∧ (Cert.Pre_finite_swa.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_sb [hKernelIdeal : Cert.KernelIdeal.Facts] [hPre_finite_sb : Cert.Pre_finite_sb.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sb m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_sb [hReferenceIdeal : Cert.ReferenceIdeal.Facts] [hPre_finite_sb : Cert.Pre_finite_sb.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sb m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_in [hKernel2Ideal : Cert.Kernel2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_in m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_in [hReference2Ideal : Cert.Reference2Ideal.Facts] [hPre_finite_in : Cert.Pre_finite_in.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_in m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_tail [hKernel4Ideal : Cert.Kernel4Ideal.Facts] [hPre_finite_tail : Cert.Pre_finite_tail.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_tail m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_tail [hReference4Ideal : Cert.Reference4Ideal.Facts] [hPre_finite_tail : Cert.Pre_finite_tail.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_tail m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_finite_fwd [hKernel5Ideal : Cert.Kernel5Ideal.Facts] [hPre_finite_fwd : Cert.Pre_finite_fwd.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_fwd m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_finite_fwd [hReference5Ideal : Cert.Reference5Ideal.Facts] [hPre_finite_fwd : Cert.Pre_finite_fwd.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_fwd m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite_swa [hKernel6Ideal : Cert.Kernel6Ideal.Facts] [hPre_finite_swa : Cert.Pre_finite_swa.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_swa m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite_swa [hReference6Ideal : Cert.Reference6Ideal.Facts] [hPre_finite_swa : Cert.Pre_finite_swa.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_swa m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite_sb [hKernelIdeal : Cert.KernelIdeal.Facts] [hReferenceIdeal : Cert.ReferenceIdeal.Facts] [hPre_finite_sb : Cert.Pre_finite_sb.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sb m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite_in [hKernel2Ideal : Cert.Kernel2Ideal.Facts] [hReference2Ideal : Cert.Reference2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_in m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v11)) (v2 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v11) = v1 c
          ∧ r.2.mem ((c.tc : Thread Cert.Kernel2Ideal.nD Cert.Kernel2Ideal.τ).loc Cert.Kernel2Ideal.main_v8_1) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal_pre_finite_tail [hKernel4Ideal : Cert.Kernel4Ideal.Facts] [hReference4Ideal : Cert.Reference4Ideal.Facts] [hPre_finite_tail : Cert.Pre_finite_tail.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_tail m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)) (v6 : (c : Dev Cert.Kernel4Ideal.nD) → Buf (Elt Ideal) ((c.tc : Thread Cert.Kernel4Ideal.nD Cert.Kernel4Ideal.τ).loc Cert.Kernel4Ideal.main_v14_6)) (v7 : (c : Dev Cert.Kernel4Ideal.nD) → Buf (Elt Ideal) ((c.tc : Thread Cert.Kernel4Ideal.nD Cert.Kernel4Ideal.τ).loc Cert.Kernel4Ideal.main_v14_7)) (v8 : (c : Dev Cert.Kernel4Ideal.nD) → Buf (Elt Ideal) ((c.tc : Thread Cert.Kernel4Ideal.nD Cert.Kernel4Ideal.τ).loc Cert.Kernel4Ideal.main_v14_8)) (v9 : (c : Dev Cert.Kernel4Ideal.nD) → Buf (Elt Ideal) ((c.tc : Thread Cert.Kernel4Ideal.nD Cert.Kernel4Ideal.τ).loc Cert.Kernel4Ideal.main_v14_9)) (v10 : (c : Dev Cert.Kernel4Ideal.nD) → Buf (Elt Ideal) ((c.tc : Thread Cert.Kernel4Ideal.nD Cert.Kernel4Ideal.τ).loc Cert.Kernel4Ideal.main_v14_10)) (v11 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_v14_6) = v6 c
          ∧ r.2.mem ((c.tc : Thread Cert.Kernel4Ideal.nD Cert.Kernel4Ideal.τ).loc Cert.Kernel4Ideal.main_v14_7) = v7 c
          ∧ r.2.mem ((c.tc : Thread Cert.Kernel4Ideal.nD Cert.Kernel4Ideal.τ).loc Cert.Kernel4Ideal.main_v14_8) = v8 c
          ∧ r.2.mem ((c.tc : Thread Cert.Kernel4Ideal.nD Cert.Kernel4Ideal.τ).loc Cert.Kernel4Ideal.main_v14_9) = v9 c
          ∧ r.2.mem ((c.tc : Thread Cert.Kernel4Ideal.nD Cert.Kernel4Ideal.τ).loc Cert.Kernel4Ideal.main_v14_10) = v10 c
          ∧ r.2.mem ((c.tc : Thread Cert.Kernel4Ideal.nD Cert.Kernel4Ideal.τ).loc Cert.Kernel4Ideal.main_v16) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v115) = v0 c
          ∧ r.2.mem ((c.tc : Thread Cert.Reference4Ideal.nD Cert.Reference4Ideal.τ).loc Cert.Reference4Ideal.main_v116) = v1 c
          ∧ r.2.mem ((c.tc : Thread Cert.Reference4Ideal.nD Cert.Reference4Ideal.τ).loc Cert.Reference4Ideal.main_v118) = v2 c
          ∧ r.2.mem ((c.tc : Thread Cert.Reference4Ideal.nD Cert.Reference4Ideal.τ).loc Cert.Reference4Ideal.main_v119) = v3 c
          ∧ r.2.mem ((c.tc : Thread Cert.Reference4Ideal.nD Cert.Reference4Ideal.τ).loc Cert.Reference4Ideal.main_v121) = v4 c
          ∧ r.2.mem ((c.tc : Thread Cert.Reference4Ideal.nD Cert.Reference4Ideal.τ).loc Cert.Reference4Ideal.main_v123) = v5 c
          ∧ r.2.mem ((c.tc : Thread Cert.Reference4Ideal.nD Cert.Reference4Ideal.τ).loc Cert.Reference4Ideal.main_v125) = v6 c
          ∧ r.2.mem ((c.tc : Thread Cert.Reference4Ideal.nD Cert.Reference4Ideal.τ).loc Cert.Reference4Ideal.main_v127) = v7 c
          ∧ r.2.mem ((c.tc : Thread Cert.Reference4Ideal.nD Cert.Reference4Ideal.τ).loc Cert.Reference4Ideal.main_v129) = v8 c
          ∧ r.2.mem ((c.tc : Thread Cert.Reference4Ideal.nD Cert.Reference4Ideal.τ).loc Cert.Reference4Ideal.main_v131) = v9 c
          ∧ r.2.mem ((c.tc : Thread Cert.Reference4Ideal.nD Cert.Reference4Ideal.τ).loc Cert.Reference4Ideal.main_v132) = v10 c
          ∧ r.2.mem ((c.tc : Thread Cert.Reference4Ideal.nD Cert.Reference4Ideal.τ).loc Cert.Reference4Ideal.main_v65) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_fwd [hKernel5Ideal : Cert.Kernel5Ideal.Facts] [hReference5Ideal : Cert.Reference5Ideal.Facts] [hPre_finite_fwd : Cert.Pre_finite_fwd.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_fwd m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  IdealRules.named_const.Statement Cert.Kernel6Ideal.κ "mask" .f32 0xF149F2CA#32 ⊥

def algebraic_Kernel6Ideal_Reference6Ideal_pre_finite_swa [hKernel6Ideal : Cert.Kernel6Ideal.Facts] [hReference6Ideal : Cert.Reference6Ideal.Facts] [hPre_finite_swa : Cert.Pre_finite_swa.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_swa m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v130) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v19)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_sb : Cert.Pre_finite_sb.Facts) (hPre_finite_in : Cert.Pre_finite_in.Facts) (hPre_finite_tail : Cert.Pre_finite_tail.Facts) (hPre_finite_fwd : Cert.Pre_finite_fwd.Facts) (hPre_finite_swa : Cert.Pre_finite_swa.Facts),
    quiescent_Kernel (hKernel := hKernel)
    ∧ quiescent_KernelIdeal (hKernelIdeal := hKernelIdeal)
    ∧ quiescent_KernelIdeal_pre_finite_sb (hKernelIdeal := hKernelIdeal) (hPre_finite_sb := hPre_finite_sb)
    ∧ quiescent_ReferenceIdeal (hReferenceIdeal := hReferenceIdeal)
    ∧ quiescent_ReferenceIdeal_pre_finite_sb (hReferenceIdeal := hReferenceIdeal) (hPre_finite_sb := hPre_finite_sb)
    ∧ quiescent_Kernel2 (hKernel2 := hKernel2)
    ∧ quiescent_Kernel2Ideal (hKernel2Ideal := hKernel2Ideal)
    ∧ quiescent_Kernel2Ideal_pre_finite_in (hKernel2Ideal := hKernel2Ideal) (hPre_finite_in := hPre_finite_in)
    ∧ quiescent_Reference2Ideal (hReference2Ideal := hReference2Ideal)
    ∧ quiescent_Reference2Ideal_pre_finite_in (hReference2Ideal := hReference2Ideal) (hPre_finite_in := hPre_finite_in)
    ∧ quiescent_Kernel4 (hKernel4 := hKernel4)
    ∧ quiescent_Kernel4Ideal (hKernel4Ideal := hKernel4Ideal)
    ∧ quiescent_Kernel4Ideal_pre_finite_tail (hKernel4Ideal := hKernel4Ideal) (hPre_finite_tail := hPre_finite_tail)
    ∧ quiescent_Reference4Ideal (hReference4Ideal := hReference4Ideal)
    ∧ quiescent_Reference4Ideal_pre_finite_tail (hReference4Ideal := hReference4Ideal) (hPre_finite_tail := hPre_finite_tail)
    ∧ quiescent_Kernel5 (hKernel5 := hKernel5)
    ∧ quiescent_Kernel5Ideal (hKernel5Ideal := hKernel5Ideal)
    ∧ quiescent_Kernel5Ideal_pre_finite_fwd (hKernel5Ideal := hKernel5Ideal) (hPre_finite_fwd := hPre_finite_fwd)
    ∧ quiescent_Reference5Ideal (hReference5Ideal := hReference5Ideal)
    ∧ quiescent_Reference5Ideal_pre_finite_fwd (hReference5Ideal := hReference5Ideal) (hPre_finite_fwd := hPre_finite_fwd)
    ∧ quiescent_Kernel6 (hKernel6 := hKernel6)
    ∧ quiescent_Kernel6Ideal (hKernel6Ideal := hKernel6Ideal)
    ∧ quiescent_Kernel6Ideal_pre_finite_swa (hKernel6Ideal := hKernel6Ideal) (hPre_finite_swa := hPre_finite_swa)
    ∧ quiescent_Reference6Ideal (hReference6Ideal := hReference6Ideal)
    ∧ quiescent_Reference6Ideal_pre_finite_swa (hReference6Ideal := hReference6Ideal) (hPre_finite_swa := hPre_finite_swa)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_sb (hKernelIdeal := hKernelIdeal) (hReferenceIdeal := hReferenceIdeal) (hPre_finite_sb := hPre_finite_sb)
    ∧ preserves_Kernel2_Kernel2Ideal
    ∧ algebraic_Kernel2Ideal_Reference2Ideal_pre_finite_in (hKernel2Ideal := hKernel2Ideal) (hReference2Ideal := hReference2Ideal) (hPre_finite_in := hPre_finite_in)
    ∧ preserves_Kernel4_Kernel4Ideal
    ∧ algebraic_Kernel4Ideal_Reference4Ideal_pre_finite_tail (hKernel4Ideal := hKernel4Ideal) (hReference4Ideal := hReference4Ideal) (hPre_finite_tail := hPre_finite_tail)
    ∧ preserves_Kernel5_Kernel5Ideal
    ∧ algebraic_Kernel5Ideal_Reference5Ideal_pre_finite_fwd (hKernel5Ideal := hKernel5Ideal) (hReference5Ideal := hReference5Ideal) (hPre_finite_fwd := hPre_finite_fwd)
    ∧ preserves_Kernel6_Kernel6Ideal
    ∧ algebraic_Kernel6Ideal_Reference6Ideal_pre_finite_swa (hKernel6Ideal := hKernel6Ideal) (hReference6Ideal := hReference6Ideal) (hPre_finite_swa := hPre_finite_swa)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_fwd.lean ====
abbrev S1x8320x1536 : Shape := ⟨3, ![1, 8320, 1536]⟩
abbrev S_ : Shape := ⟨0, ![]⟩

class Facts : Prop where
  bcast_S_S1x8320x1536 : S_.BroadcastsInDim S1x8320x1536 (![] : Fin 0 → Fin S1x8320x1536.rank)

variable [Facts]

def fn {F : FTy → Type} [FloatOps F] (main_arg0 : FVec F S1x8320x1536 .f32) : IVec S1x8320x1536 1 :=
  let main_v0 : FVec F S1x8320x1536 .f32 := Host.absf main_arg0
  let main_cst : FVec F S_ .f32 := constant S_ .f32 0x7F800000#32
  let main_v1 : FVec F S1x8320x1536 .f32 := broadcastInDim S1x8320x1536 ![] bcast_S_S1x8320x1536 main_cst
  let main_v2 : IVec S1x8320x1536 1 := cmpf .olt main_v0 main_v1
  main_v2
-- ==== Pre_finite_in.lean ====
abbrev S1x8192x1024 : Shape := ⟨3, ![1, 8192, 1024]⟩
abbrev S16x1024 : Shape := ⟨2, ![16, 1024]⟩
abbrev S1x1024 : Shape := ⟨2, ![1, 1024]⟩
abbrev S1x1024x6400 : Shape := ⟨3, ![1, 1024, 6400]⟩
abbrev S1x8320x6400 : Shape := ⟨3, ![1, 8320, 6400]⟩
abbrev S1x8320x1024 : Shape := ⟨3, ![1, 8320, 1024]⟩
abbrev S_ : Shape := ⟨0, ![]⟩

class Facts : Prop where
  bcast_S_S1x8192x1024 : S_.BroadcastsInDim S1x8192x1024 (![] : Fin 0 → Fin S1x8192x1024.rank)
  bcast_S_S16x1024 : S_.BroadcastsInDim S16x1024 (![] : Fin 0 → Fin S16x1024.rank)
  bcast_S_S1x1024 : S_.BroadcastsInDim S1x1024 (![] : Fin 0 → Fin S1x1024.rank)
  bcast_S_S1x1024x6400 : S_.BroadcastsInDim S1x1024x6400 (![] : Fin 0 → Fin S1x1024x6400.rank)
  bcast_S_S1x8320x6400 : S_.BroadcastsInDim S1x8320x6400 (![] : Fin 0 → Fin S1x8320x6400.rank)

variable [Facts]

def fn {F : FTy → Type} [FloatOps F] (main_arg0 : FVec F S1x8192x1024 .f32) (main_arg1 : FVec F S16x1024 .f32) (main_arg2 : FVec F S1x1024 .f32) (main_arg3 : FVec F S1x1024x6400 .f32) (main_arg4 : FVec F S1x8320x6400 .f32) (main_arg5 : FVec F S1x8320x1024 .f32) : IVec S1x8192x1024 1 × IVec S16x1024 1 × IVec S1x1024 1 × IVec S1x1024x6400 1 × IVec S1x8320x6400 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x6400 .f32 := Host.absf main_arg3
  let main_cst_2 : FVec F S_ .f32 := constant S_ .f32 0x7F800000#32
  let main_v10 : FVec F S1x1024x6400 .f32 := broadcastInDim S1x1024x6400 ![] bcast_S_S1x1024x6400 main_cst_2
  let main_v11 : IVec S1x1024x6400 1 := cmpf .olt main_v9 main_v10
  let main_v12 : FVec F S1x8320x6400 .f32 := Host.absf main_arg4
  let main_cst_3 : FVec F S_ .f32 := constant S_ .f32 0x7F800000#32
  let main_v13 : FVec F S1x8320x6400 .f32 := broadcastInDim S1x8320x6400 ![] bcast_S_S1x8320x6400 main_cst_3
  let main_v14 : IVec S1x8320x6400 1 := cmpf .olt main_v12 main_v13
  (main_v2, main_v5, main_v8, main_v11, main_v14)
-- ==== Pre_finite_sb.lean ====
abbrev S1x8320x1536 : Shape := ⟨3, ![1, 8320, 1536]⟩
abbrev S1x8320x512 : Shape := ⟨3, ![1, 8320, 512]⟩
abbrev S_ : Shape := ⟨0, ![]⟩

class Facts : Prop where
  bcast_S_S1x8320x1536 : S_.BroadcastsInDim S1x8320x1536 (![] : Fin 0 → Fin S1x8320x1536.rank)
  bcast_S_S1x8320x512 : S_.BroadcastsInDim S1x8320x512 (![] : Fin 0 → Fin S1x8320x512.rank)

variable [Facts]

def fn {F : FTy → Type} [FloatOps F] (main_arg0 : FVec F S1x8320x1536 .f32) (main_arg1 : FVec F S1x8320x512 .f32) : IVec S1x8320x1536 1 × IVec S1x8320x512 1 :=
  let main_v0 : FVec F S1x8320x1536 .f32 := Host.absf main_arg0
  let main_cst : FVec F S_ .f32 := constant S_ .f32 0x7F800000#32
  let main_v1 : FVec F S1x8320x1536 .f32 := broadcastInDim S1x8320x1536 ![] bcast_S_S1x8320x1536 main_cst
  let main_v2 : IVec S1x8320x1536 1 := cmpf .olt main_v0 main_v1
  let main_v3 : FVec F S1x8320x512 .f32 := Host.absf main_arg1
  let main_cst_0 : FVec F S_ .f32 := constant S_ .f32 0x7F800000#32
  let main_v4 : FVec F S1x8320x512 .f32 := broadcastInDim S1x8320x512 ![] bcast_S_S1x8320x512 main_cst_0
  let main_v5 : IVec S1x8320x512 1 := cmpf .olt main_v3 main_v4
  (main_v2, main_v5)
-- ==== Pre_finite_swa.lean ====
abbrev S1x8320x2816 : Shape := ⟨3, ![1, 8320, 2816]⟩
abbrev S1x16 : Shape := ⟨2, ![1, 16]⟩
abbrev S_ : Shape := ⟨0, ![]⟩

class Facts : Prop where
  bcast_S_S1x8320x2816 : S_.BroadcastsInDim S1x8320x2816 (![] : Fin 0 → Fin S1x8320x2816.rank)
  bcast_S_S1x16 : S_.BroadcastsInDim S1x16 (![] : Fin 0 → Fin S1x16.rank)

variable [Facts]

def fn {F : FTy → Type} [FloatOps F] (main_arg0 : FVec F S1x8320x2816 .f32) (main_arg1 : FVec F S1x16 .f32) : IVec S1x8320x2816 1 × IVec S1x16 1 :=
  let main_v0 : FVec F S1x8320x2816 .f32 := Host.absf main_arg0
  let main_cst : FVec F S_ .f32 := constant S_ .f32 0x7F800000#32
  let main_v1 : FVec F S1x8320x2816 .f32 := broadcastInDim S1x8320x2816 ![] bcast_S_S1x8320x2816 main_cst
  let main_v2 : IVec S1x8320x2816 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  (main_v2, main_v5)
-- ==== Pre_finite_tail.lean ====
abbrev S1x8320x1024 : Shape := ⟨3, ![1, 8320, 1024]⟩
abbrev S1x8192x1024 : Shape := ⟨3, ![1, 8192, 1024]⟩
abbrev S1x8320x512 : Shape := ⟨3, ![1, 8320, 512]⟩
abbrev S1x8320x3584 : Shape := ⟨3, ![1, 8320, 3584]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩

class Facts : Prop where
  bcast_S_S1x8320x1024 : S_.BroadcastsInDim S1x8320x1024 (![] : Fin 0 → Fin S1x8320x1024.rank)
  bcast_S_S1x8192x1024 : S_.BroadcastsInDim S1x8192x1024 (![] : Fin 0 → Fin S1x8192x1024.rank)
  bcast_S_S1x8320x512 : S_.BroadcastsInDim S1x8320x512 (![] : Fin 0 → Fin S1x8320x512.rank)
  bcast_S_S1x8320x3584 : S_.BroadcastsInDim S1x8320x3584 (![] : Fin 0 → Fin S1x8320x3584.rank)
  bcast_S_S1x512x1024 : S_.BroadcastsInDim S1x512x1024 (![] : Fin 0 → Fin S1x512x1024.rank)
  bcast_S_S1x1024x1024 : S_.BroadcastsInDim S1x1024x1024 (![] : Fin 0 → Fin S1x1024x1024.rank)
  bcast_S_S1024 : S_.BroadcastsInDim S1024 (![] : Fin 0 → Fin S1024.rank)

variable [Facts]

def fn_part1 {F : FTy → Type} [FloatOps F] (main_arg6 : FVec F S1x1024x1024 .f32) (main_arg7 : FVec F S1x1024x1024 .f32) (main_arg8 : FVec F S1024 .f32) (main_v2 : IVec S1x8320x1024 1) (main_v5 : IVec S1x8192x1024 1) (main_v8 : IVec S1x8320x512 1) (main_v11 : IVec S1x8320x1024 1) (main_v14 : IVec S1x8320x3584 1) (main_v17 : IVec S1x512x1024 1) : IVec S1x8320x1024 1 × IVec S1x8192x1024 1 × IVec S1x8320x512 1 × IVec S1x8320x1024 1 × IVec S1x8320x3584 1 × IVec S1x512x1024 1 × IVec S1x1024x1024 1 × IVec S1x1024x1024 1 × IVec S1024 1 :=
  let main_v18 : FVec F S1x1024x1024 .f32 := Host.absf main_arg6
  let main_cst_5 : FVec F S_ .f32 := constant S_ .f32 0x7F800000#32
  let main_v19 : FVec F S1x1024x1024 .f32 := broadcastInDim S1x1024x1024 ![] bcast_S_S1x1024x1024 main_cst_5
  let main_v20 : IVec S1x1024x1024 1 := cmpf .olt main_v18 main_v19
  let main_v21 : FVec F S1x1024x1024 .f32 := Host.absf main_arg7
  let main_cst_6 : FVec F S_ .f32 := constant S_ .f32 0x7F800000#32
  let main_v22 : FVec F S1x1024x1024 .f32 := broadcastInDim S1x1024x1024 ![] bcast_S_S1x1024x1024 main_cst_6
  let main_v23 : IVec S1x1024x1024 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  (main_v2, main_v5, main_v8, main_v11, main_v14, main_v17, main_v20, main_v23, main_v26)

def fn {F : FTy → Type} [FloatOps F] (main_arg0 : FVec F S1x8320x1024 .f32) (main_arg1 : FVec F S1x8192x1024 .f32) (main_arg2 : FVec F S1x8320x512 .f32) (main_arg3 : FVec F S1x8320x1024 .f32) (main_arg4 : FVec F S1x8320x3584 .f32) (main_arg5 : FVec F S1x512x1024 .f32) (main_arg6 : FVec F S1x1024x1024 .f32) (main_arg7 : FVec F S1x1024x1024 .f32) (main_arg8 : FVec F S1024 .f32) : IVec S1x8320x1024 1 × IVec S1x8192x1024 1 × IVec S1x8320x512 1 × IVec S1x8320x1024 1 × IVec S1x8320x3584 1 × IVec S1x512x1024 1 × IVec S1x1024x1024 1 × IVec S1x1024x1024 1 × IVec S1024 1 :=
  let main_v0 : FVec F S1x8320x1024 .f32 := Host.absf main_arg0
  let main_cst : FVec F S_ .f32 := constant S_ .f32 0x7F800000#32
  let main_v1 : FVec F S1x8320x1024 .f32 := broadcastInDim S1x8320x1024 ![] bcast_S_S1x8320x1024 main_cst
  let main_v2 : IVec S1x8320x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8320x512 .f32 := Host.absf main_arg2
  let main_cst_1 : FVec F S_ .f32 := constant S_ .f32 0x7F800000#32
  let main_v7 : FVec F S1x8320x512 .f32 := broadcastInDim S1x8320x512 ![] bcast_S_S1x8320x512 main_cst_1
  let main_v8 : IVec S1x8320x512 1 := cmpf .olt main_v6 main_v7
  let main_v9 : FVec F S1x8320x1024 .f32 := Host.absf main_arg3
  let main_cst_2 : FVec F S_ .f32 := constant S_ .f32 0x7F800000#32
  let main_v10 : FVec F S1x8320x1024 .f32 := broadcastInDim S1x8320x1024 ![] bcast_S_S1x8320x1024 main_cst_2
  let main_v11 : IVec S1x8320x1024 1 := cmpf .olt main_v9 main_v10
  let main_v12 : FVec F S1x8320x3584 .f32 := Host.absf main_arg4
  let main_cst_3 : FVec F S_ .f32 := constant S_ .f32 0x7F800000#32
  let main_v13 : FVec F S1x8320x3584 .f32 := broadcastInDim S1x8320x3584 ![] bcast_S_S1x8320x3584 main_cst_3
  let main_v14 : IVec S1x8320x3584 1 := cmpf .olt main_v12 main_v13
  let main_v15 : FVec F S1x512x1024 .f32 := Host.absf main_arg5
  let main_cst_4 : FVec F S_ .f32 := constant S_ .f32 0x7F800000#32
  let main_v16 : FVec F S1x512x1024 .f32 := broadcastInDim S1x512x1024 ![] bcast_S_S1x512x1024 main_cst_4
  let main_v17 : IVec S1x512x1024 1 := cmpf .olt main_v15 main_v16
  fn_part1 (F := F) main_arg6 main_arg7 main_arg8 main_v2 main_v5 main_v8 main_v11 main_v14 main_v17
-- ==== Kernel.lean ====
abbrev S1x8320x1536 : Shape := ⟨3, ![1, 8320, 1536]⟩
abbrev S1x8320x512 : Shape := ⟨3, ![1, 8320, 512]⟩
abbrev S256x128 : Shape := ⟨2, ![256, 128]⟩
abbrev S1x8320x8x64 : Shape := ⟨4, ![1, 8320, 8, 64]⟩
abbrev S1x8x8320x8320 : Shape := ⟨4, ![1, 8, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S1x8x8320x8319 : Shape := ⟨4, ![1, 8, 8320, 8319]⟩
abbrev S1x8x8320x1 : Shape := ⟨4, ![1, 8, 8320, 1]⟩
abbrev S1x8x64x8320 : Shape := ⟨4, ![1, 8, 64, 8320]⟩
abbrev S8320x512 : Shape := ⟨2, ![8320, 512]⟩
abbrev S8320x1536 : Shape := ⟨2, ![8320, 1536]⟩
abbrev S128x128 : Shape := ⟨2, ![128, 128]⟩
abbrev S8320x128 : Shape := ⟨2, ![8320, 128]⟩
abbrev S2x128x1 : Shape := ⟨3, ![2, 128, 1]⟩
abbrev S1x128 : Shape := ⟨2, ![1, 128]⟩
abbrev S128 : Shape := ⟨1, ![128]⟩
abbrev S128x1 : Shape := ⟨2, ![128, 1]⟩
abbrev S128x256 : Shape := ⟨2, ![128, 256]⟩
abbrev S1x128x1 : Shape := ⟨3, ![1, 128, 1]⟩

abbrev nBuf : Space → Nat
  | .hbm => 70
  | .vmem => 24
  | .smem => 0
  | _ => 0

abbrev bufTy : (tb : Table) → Fin (tcTables nBuf tb) → BufTy
  | .hbm, ⟨0, _⟩ => ⟨S1x8320x1536, .f32⟩
  | .hbm, ⟨1, _⟩ => ⟨S1x8320x512, .f32⟩
  | .hbm, ⟨2, _⟩ => ⟨S256x128, .bf16⟩
  | .hbm, ⟨3, _⟩ => ⟨S1x8320x512, .f32⟩
  | .hbm, ⟨4, _⟩ => ⟨S1x8320x512, .f32⟩
  | .hbm, ⟨5, _⟩ => ⟨S1x8320x512, .f32⟩
  | .hbm, ⟨6, _⟩ => ⟨S1x8320x8x64, .f32⟩
  | .hbm, ⟨7, _⟩ => ⟨S1x8320x8x64, .f32⟩
  | .hbm, ⟨8, _⟩ => ⟨S1x8320x8x64, .f32⟩
  | .hbm, ⟨9, _⟩ => ⟨S1x8x8320x8320, .f32⟩
  | .hbm, ⟨10, _⟩ => ⟨S_, .f32⟩
  | .hbm, ⟨11, _⟩ => ⟨S1x8x8320x8320, .f32⟩
  | .hbm, ⟨12, _⟩ => ⟨S1x8x8320x8320, .f32⟩
  | .hbm, ⟨13, _⟩ => ⟨S8320, .i32⟩
  | .hbm, ⟨14, _⟩ => ⟨S_, .i32⟩
  | .hbm, ⟨15, _⟩ => ⟨S8320, .i32⟩
  | .hbm, ⟨16, _⟩ => ⟨S8320, .i1⟩
  | .hbm, ⟨17, _⟩ => ⟨S1x8320, .i32⟩
  | .hbm, ⟨18, _⟩ => ⟨S8320x1, .i32⟩
  | .hbm, ⟨19, _⟩ => ⟨S8320x8320, .i32⟩
  | .hbm, ⟨20, _⟩ => ⟨S8320x8320, .i32⟩
  | .hbm, ⟨21, _⟩ => ⟨S8320x8320, .i1⟩
  | .hbm, ⟨22, _⟩ => ⟨S1x8320, .i1⟩
  | .hbm, ⟨23, _⟩ => ⟨S8320x8320, .i1⟩
  | .hbm, ⟨24, _⟩ => ⟨S8320x8320, .i1⟩
  | .hbm, ⟨25, _⟩ => ⟨S1x8x8320x8320, .f32⟩
  | .hbm, ⟨26, _⟩ => ⟨S_, .f32⟩
  | .hbm, ⟨27, _⟩ => ⟨S1x8x8320x8320, .f32⟩
  | .hbm, ⟨28, _⟩ => ⟨S1x8x8320x8320, .f32⟩
  | .hbm, ⟨29, _⟩ => ⟨S1x8x8320x8320, .f32⟩
  | .hbm, ⟨30, _⟩ => ⟨S1x8x8320x8320, .f32⟩
  | .hbm, ⟨31, _⟩ => ⟨S1x8x8320x8320, .i1⟩
  | .hbm, ⟨32, _⟩ => ⟨S1x8x8320x8320, .f32⟩
  | .hbm, ⟨33, _⟩ => ⟨S1x8x8320x8320, .f32⟩
  | .hbm, ⟨34, _⟩ => ⟨S1x8x8320x8320, .f32⟩
  | .hbm, ⟨35, _⟩ => ⟨S1x8x8320x8320, .f32⟩
  | .hbm, ⟨36, _⟩ => ⟨S1x8x8320x8320, .f32⟩
  | .hbm, ⟨37, _⟩ => ⟨S1x8x8320x8320, .f32⟩
  | .hbm, ⟨38, _⟩ => ⟨S1x8x8320x8320, .f32⟩
  | .hbm, ⟨39, _⟩ => ⟨S1x8x8320x8320, .f32⟩
  | .hbm, ⟨40, _⟩ => ⟨S1x8x8320x8320, .f32⟩
  | .hbm, ⟨41, _⟩ => ⟨S1x8x8320x8320, .f32⟩
  | .hbm, ⟨42, _⟩ => ⟨S_, .f32⟩
  | .hbm, ⟨43, _⟩ => ⟨S_, .f32⟩
  | .hbm, ⟨44, _⟩ => ⟨S1x8x8320x8320, .i1⟩
  | .hbm, ⟨45, _⟩ => ⟨S1x8x8320x8320, .f32⟩
  | .hbm, ⟨46, _⟩ => ⟨S1x8x8320x8320, .f32⟩
  | .hbm, ⟨47, _⟩ => ⟨S_, .f32⟩
  | .hbm, ⟨48, _⟩ => ⟨S_, .f32⟩
  | .hbm, ⟨49, _⟩ => ⟨S1x8x8320x8320, .f32⟩
  | .hbm, ⟨50, _⟩ => ⟨S1x8x8320x8319, .f32⟩
  | .hbm, ⟨51, _⟩ => ⟨S1x8x8320x1, .f32⟩
  | .hbm, ⟨52, _⟩ => ⟨S_, .f32⟩
  | .hbm, ⟨53, _⟩ => ⟨S1x8x8320x1, .f32⟩
  | .hbm, ⟨54, _⟩ => ⟨S1x8x8320x8320, .f32⟩
  | .hbm, ⟨55, _⟩ => ⟨S1x8x8320x8320, .f32⟩
  | .hbm, ⟨56, _⟩ => ⟨S1x8x8320x8320, .f32⟩
  | .hbm, ⟨57, _⟩ => ⟨S_, .f32⟩
  | .hbm, ⟨58, _⟩ => ⟨S_, .f32⟩
  | .hbm, ⟨59, _⟩ => ⟨S1x8x8320x8320, .i1⟩
  | .hbm, ⟨60, _⟩ => ⟨S1x8x8320x8320, .f32⟩
  | .hbm, ⟨61, _⟩ => ⟨S1x8x8320x8320, .f32⟩
  | .hbm, ⟨62, _⟩ => ⟨S1x8x64x8320, .f32⟩
  | .hbm, ⟨63, _⟩ => ⟨S1x8320x8x64, .f32⟩
  | .hbm, ⟨64, _⟩ => ⟨S8320x512, .f32⟩
  | .hbm, ⟨65, _⟩ => ⟨S8320x1536, .f32⟩
  | .hbm, ⟨66, _⟩ => ⟨S8320x512, .f32⟩
  | .hbm, ⟨67, _⟩ => ⟨S8320x512, .f32⟩
  | .hbm, ⟨68, _⟩ => ⟨S8320x512, .f32⟩
  | .hbm, ⟨69, _⟩ => ⟨S8320x512, .f32⟩
  | .local _ .vmem, ⟨0, _⟩ => ⟨S128x128, .f32⟩
  | .local _ .vmem, ⟨1, _⟩ => ⟨S128x128, .f32⟩
  | .local _ .vmem, ⟨2, _⟩ => ⟨S8320x128, .f32⟩
  | .local _ .vmem, ⟨3, _⟩ => ⟨S8320x128, .f32⟩
  | .local _ .vmem, ⟨4, _⟩ => ⟨S8320x128, .f32⟩
  | .local _ .vmem, ⟨5, _⟩ => ⟨S8320x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S256x128, .bf16⟩
  | .local _ .vmem, ⟨11, _⟩ => ⟨S128x128, .f32⟩
  | .local _ .vmem, ⟨12, _⟩ => ⟨S128x128, .f32⟩
  | .local _ .vmem, ⟨13, _⟩ => ⟨S8320x128, .f32⟩
  | .local _ .vmem, ⟨14, _⟩ => ⟨S8320x128, .f32⟩
  | .local _ .vmem, ⟨15, _⟩ => ⟨S8320x128, .f32⟩
  | .local _ .vmem, ⟨16, _⟩ => ⟨S8320x128, .f32⟩
  | .local _ .vmem, ⟨17, _⟩ => ⟨S8320x128, .bf16⟩
  | .local _ .vmem, ⟨18, _⟩ => ⟨S8320x128, .bf16⟩
  | .local _ .vmem, ⟨19, _⟩ => ⟨S8320x128, .bf16⟩
  | .local _ .vmem, ⟨20, _⟩ => ⟨S8320x128, .bf16⟩
  | .local _ .vmem, ⟨21, _⟩ => ⟨S128x128, .f32⟩
  | .local _ .vmem, ⟨22, _⟩ => ⟨S2x128x1, .f32⟩
  | .local _ .vmem, ⟨23, _⟩ => ⟨S2x128x1, .f32⟩
  | _, _ => ⟨S1x8320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_3 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36_0 : Ref sig .tc := ⟨.hbm, 67, rfl⟩
abbrev main_v36_1 : Ref sig .tc := ⟨.hbm, 68, rfl⟩
abbrev main_v36_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 65], ![false, false]⟩

def k0_mult1 (i : grid0.Coords) : BitVec 32 :=
  let arg1 : BitVec 32 := BitVec.ofNat 32 (i 1).val
  let c128_i32_25 : BitVec 32 := 128#32
  let v70 : BitVec 32 := Scalar.muli arg1 c128_i32_25
  v70
def k0_off1 (i : grid0.Coords) : Fin 2 → Nat :=
  let arg1 : BitVec 32 := BitVec.ofNat 32 (i 1).val
  let c128_i32_25 : BitVec 32 := 128#32
  let v70 : BitVec 32 := Scalar.muli arg1 c128_i32_25
  let v71 : BitVec 32 := v70
  let v72 : Index := Scalar.indexCast v71
  let c0_26 : Index := 0#32
  ![v72.toNat, 0]
@[reducible] def k0_t1_loop (i : grid0.Coords) : Scf.Loop 32 :=
  let c0_i32_99 : BitVec 32 := 0#32
  let arg1 : BitVec 32 := BitVec.ofNat 32 (i 1).val
  let c1_i32 : BitVec 32 := 1#32
  let v242 : BitVec 32 := Scalar.subi arg1 c1_i32
  let c0_i32_97 : BitVec 32 := 0#32
  let v243 : BitVec 32 := Scalar.maxsi v242 c0_i32_97
  let v244 : BitVec 32 := Scalar.subi v243 c0_i32_99
  let c1_i32_100 : BitVec 32 := 1#32
  let v246 : BitVec 32 := Scalar.divsi v244 c1_i32_100
  let v247 : BitVec 32 := Scalar.muli v246 c1_i32_100
  let v248 : BitVec 32 := Scalar.addi c0_i32_99 v247
  let c1_i32_101 : BitVec 32 := 1#32
  ⟨c0_i32_99, v248, c1_i32_101⟩
def k0_mult2 (i : grid0.Coords) (k0_t1 : Fin (k0_t1_loop i).trips) : BitVec 32 :=
  let arg1 : BitVec 32 := BitVec.ofNat 32 (i 1).val
  let c1_i32_110 : BitVec 32 := 1#32
  let v256 : BitVec 32 := Scalar.subi arg1 c1_i32_110
  let c0_i32_99 : BitVec 32 := 0#32
  let c1_i32_101 : BitVec 32 := 1#32
  let arg18 : BitVec 32 := Scf.iv c0_i32_99 c1_i32_101 k0_t1
  let v257 : BitVec 32 := Scalar.subi v256 arg18
  let c128_i32_111 : BitVec 32 := 128#32
  let v258 : BitVec 32 := Scalar.muli v257 c128_i32_111
  v258
def k0_off2 (i : grid0.Coords) (k0_t1 : Fin (k0_t1_loop i).trips) : Fin 2 → Nat :=
  let arg1 : BitVec 32 := BitVec.ofNat 32 (i 1).val
  let c1_i32_110 : BitVec 32 := 1#32
  let v256 : BitVec 32 := Scalar.subi arg1 c1_i32_110
  let c0_i32_99 : BitVec 32 := 0#32
  let c1_i32_101 : BitVec 32 := 1#32
  let arg18 : BitVec 32 := Scf.iv c0_i32_99 c1_i32_101 k0_t1
  let v257 : BitVec 32 := Scalar.subi v256 arg18
  let c128_i32_111 : BitVec 32 := 128#32
  let v258 : BitVec 32 := Scalar.muli v257 c128_i32_111
  let v259 : BitVec 32 := v258
  let v260 : Index := Scalar.indexCast v259
  let c0_112 : Index := 0#32
  ![v260.toNat, 0]
@[reducible] def k0_t2_loop (i : grid0.Coords) : Scf.Loop 32 :=
  let c0_i32_99 : BitVec 32 := 0#32
  let arg1 : BitVec 32 := BitVec.ofNat 32 (i 1).val
  let c1_i32 : BitVec 32 := 1#32
  let v242 : BitVec 32 := Scalar.subi arg1 c1_i32
  let c0_i32_97 : BitVec 32 := 0#32
  let v243 : BitVec 32 := Scalar.maxsi v242 c0_i32_97
  let v244 : BitVec 32 := Scalar.subi v243 c0_i32_99
  let c1_i32_100 : BitVec 32 := 1#32
  let v246 : BitVec 32 := Scalar.divsi v244 c1_i32_100
  let v247 : BitVec 32 := Scalar.muli v246 c1_i32_100
  let v248 : BitVec 32 := Scalar.addi c0_i32_99 v247
  let v245 : BitVec 32 := Scalar.addi c0_i32_99 v244
  let c1_i32_102 : BitVec 32 := 1#32
  ⟨v248, v245, c1_i32_102⟩
def k0_mult3 (i : grid0.Coords) (k0_t2 : Fin (k0_t2_loop i).trips) : BitVec 32 :=
  let arg1 : BitVec 32 := BitVec.ofNat 32 (i 1).val
  let c1_i32_110 : BitVec 32 := 1#32
  let v256 : BitVec 32 := Scalar.subi arg1 c1_i32_110
  let c0_i32_99 : BitVec 32 := 0#32
  let c1_i32 : BitVec 32 := 1#32
  let v242 : BitVec 32 := Scalar.subi arg1 c1_i32
  let c0_i32_97 : BitVec 32 := 0#32
  let v243 : BitVec 32 := Scalar.maxsi v242 c0_i32_97
  let v244 : BitVec 32 := Scalar.subi v243 c0_i32_99
  let c1_i32_100 : BitVec 32 := 1#32
  let v246 : BitVec 32 := Scalar.divsi v244 c1_i32_100
  let v247 : BitVec 32 := Scalar.muli v246 c1_i32_100
  let v248 : BitVec 32 := Scalar.addi c0_i32_99 v247
  let c1_i32_102 : BitVec 32 := 1#32
  let arg18 : BitVec 32 := Scf.iv v248 c1_i32_102 k0_t2
  let v257 : BitVec 32 := Scalar.subi v256 arg18
  let c128_i32_111 : BitVec 32 := 128#32
  let v258 : BitVec 32 := Scalar.muli v257 c128_i32_111
  v258
def k0_off3 (i : grid0.Coords) (k0_t2 : Fin (k0_t2_loop i).trips) : Fin 2 → Nat :=
  let arg1 : BitVec 32 := BitVec.ofNat 32 (i 1).val
  let c1_i32_110 : BitVec 32 := 1#32
  let v256 : BitVec 32 := Scalar.subi arg1 c1_i32_110
  let c0_i32_99 : BitVec 32 := 0#32
  let c1_i32 : BitVec 32 := 1#32
  let v242 : BitVec 32 := Scalar.subi arg1 c1_i32
  let c0_i32_97 : BitVec 32 := 0#32
  let v243 : BitVec 32 := Scalar.maxsi v242 c0_i32_97
  let v244 : BitVec 32 := Scalar.subi v243 c0_i32_99
  let c1_i32_100 : BitVec 32 := 1#32
  let v246 : BitVec 32 := Scalar.divsi v244 c1_i32_100
  let v247 : BitVec 32 := Scalar.muli v246 c1_i32_100
  let v248 : BitVec 32 := Scalar.addi c0_i32_99 v247
  let c1_i32_102 : BitVec 32 := 1#32
  let arg18 : BitVec 32 := Scf.iv v248 c1_i32_102 k0_t2
  let v257 : BitVec 32 := Scalar.subi v256 arg18
  let c128_i32_111 : BitVec 32 := 128#32
  let v258 : BitVec 32 := Scalar.muli v257 c128_i32_111
  let v259 : BitVec 32 := v258
  let v260 : Index := Scalar.indexCast v259
  let c0_112 : Index := 0#32
  ![v260.toNat, 0]
def k0_cond2 (i : grid0.Coords) : BitVec 1 :=
  let arg1 : BitVec 32 := BitVec.ofNat 32 (i 1).val
  let c0_i32_103 : BitVec 32 := 0#32
  let v249 : BitVec 1 := Scalar.cmpi .sgt arg1 c0_i32_103
  let v250 : BitVec 32 := Scalar.extui v249
  let c0_i32_104 : BitVec 32 := 0#32
  let v251 : BitVec 1 := Scalar.cmpi .ne v250 c0_i32_104
  v251

def k0_mult4 : BitVec 32 :=
  let c0_i32_111 : BitVec 32 := 0#32
  c0_i32_111
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8320x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8320x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8320x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S1x8320x1536 : Shape := ⟨3, ![1, 8320, 1536]⟩
abbrev S1x8320x512 : Shape := ⟨3, ![1, 8320, 512]⟩
abbrev S1x8320x8x64 : Shape := ⟨4, ![1, 8320, 8, 64]⟩
abbrev S1x8x8320x8320 : Shape := ⟨4, ![1, 8, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S1x8x8320x8319 : Shape := ⟨4, ![1, 8, 8320, 8319]⟩
abbrev S1x8x8320x1 : Shape := ⟨4, ![1, 8, 8320, 1]⟩
abbrev S1x8x64x8320 : Shape := ⟨4, ![1, 8, 64, 8320]⟩
abbrev S1x8x8320x64 : Shape := ⟨4, ![1, 8, 8320, 64]⟩
abbrev S8320x512 : Shape := ⟨2, ![8320, 512]⟩

abbrev nBuf : Space → Nat
  | .hbm => 136
  | .vmem => 0
  | .smem => 0
  | _ => 0

abbrev hbmTy0_0 (i : Nat) : BufTy := match i % 128 with
  | 0 => ⟨S1x8320x1536, .f32⟩
  | 1 => ⟨S1x8320x512, .f32⟩
  | 2 => ⟨S1x8320x512, .f32⟩
  | 3 => ⟨S1x8320x512, .f32⟩
  | 4 => ⟨S1x8320x512, .f32⟩
  | 5 => ⟨S1x8320x8x64, .f32⟩
  | 6 => ⟨S1x8320x8x64, .f32⟩
  | 7 => ⟨S1x8320x8x64, .f32⟩
  | 8 => ⟨S1x8x8320x8320, .f32⟩
  | 9 => ⟨S_, .f32⟩
  | 10 => ⟨S1x8x8320x8320, .f32⟩
  | 11 => ⟨S1x8x8320x8320, .f32⟩
  | 12 => ⟨S8320, .i32⟩
  | 13 => ⟨S_, .i32⟩
  | 14 => ⟨S8320, .i32⟩
  | 15 => ⟨S8320, .i1⟩
  | 16 => ⟨S1x8320, .i32⟩
  | 17 => ⟨S8320x1, .i32⟩
  | 18 => ⟨S8320x8320, .i32⟩
  | 19 => ⟨S8320x8320, .i32⟩
  | 20 => ⟨S8320x8320, .i1⟩
  | 21 => ⟨S1x8320, .i1⟩
  | 22 => ⟨S8320x8320, .i1⟩
  | 23 => ⟨S8320x8320, .i1⟩
  | 24 => ⟨S1x8x8320x8320, .f32⟩
  | 25 => ⟨S_, .f32⟩
  | 26 => ⟨S1x8x8320x8320, .f32⟩
  | 27 => ⟨S1x8x8320x8320, .f32⟩
  | 28 => ⟨S1x8x8320x8320, .f32⟩
  | 29 => ⟨S1x8x8320x8320, .f32⟩
  | 30 => ⟨S1x8x8320x8320, .i1⟩
  | 31 => ⟨S1x8x8320x8320, .f32⟩
  | 32 => ⟨S1x8x8320x8320, .f32⟩
  | 33 => ⟨S1x8x8320x8320, .f32⟩
  | 34 => ⟨S1x8x8320x8320, .f32⟩
  | 35 => ⟨S1x8x8320x8320, .f32⟩
  | 36 => ⟨S1x8x8320x8320, .f32⟩
  | 37 => ⟨S1x8x8320x8320, .f32⟩
  | 38 => ⟨S1x8x8320x8320, .f32⟩
  | 39 => ⟨S_, .f32⟩
  | 40 => ⟨S1x8x8320x8320, .f32⟩
  | 41 => ⟨S1x8x8320x8320, .i1⟩
  | 42 => ⟨S_, .f32⟩
  | 43 => ⟨S1x8x8320x8320, .f32⟩
  | 44 => ⟨S1x8x8320x8320, .f32⟩
  | 45 => ⟨S_, .f32⟩
  | 46 => ⟨S1x8x8320x8320, .f32⟩
  | 47 => ⟨S1x8x8320x8320, .i1⟩
  | 48 => ⟨S_, .f32⟩
  | 49 => ⟨S1x8x8320x8320, .f32⟩
  | 50 => ⟨S1x8x8320x8320, .f32⟩
  | 51 => ⟨S1x8x8320x8320, .f32⟩
  | 52 => ⟨S1x8x8320x8320, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S1x8x8320x8320, .f32⟩
  | 61 => ⟨S1x8x8320x8320, .i1⟩
  | 62 => ⟨S_, .f32⟩
  | 63 => ⟨S1x8x8320x8320, .f32⟩
  | 64 => ⟨S1x8x8320x8320, .f32⟩
  | 65 => ⟨S1x8x8320x8320, .f32⟩
  | 66 => ⟨S1x8x8320x8320, .f32⟩
  | 67 => ⟨S1x8x8320x8320, .f32⟩
  | 68 => ⟨S_, .f32⟩
  | 69 => ⟨S1x8x8320x8320, .f32⟩
  | 70 => ⟨S1x8x8320x8320, .f32⟩
  | 71 => ⟨S1x8x8320x8320, .f32⟩
  | 72 => ⟨S1x8x8320x8320, .f32⟩
  | 73 => ⟨S_, .f32⟩
  | 74 => ⟨S_, .f32⟩
  | 75 => ⟨S1x8x8320x8320, .i1⟩
  | 76 => ⟨S1x8x8320x8320, .f32⟩
  | 77 => ⟨S1x8x8320x8320, .f32⟩
  | 78 => ⟨S_, .f32⟩
  | 79 => ⟨S1x8x8320x8320, .f32⟩
  | 80 => ⟨S_, .f32⟩
  | 81 => ⟨S_, .f32⟩
  | 82 => ⟨S1x8x8320x8320, .f32⟩
  | 83 => ⟨S1x8x8320x8319, .f32⟩
  | 84 => ⟨S1x8x8320x1, .f32⟩
  | 85 => ⟨S_, .f32⟩
  | 86 => ⟨S1x8x8320x1, .f32⟩
  | 87 => ⟨S1x8x8320x8320, .f32⟩
  | 88 => ⟨S_, .f32⟩
  | 89 => ⟨S1x8x8320x1, .f32⟩
  | 90 => ⟨S1x8x8320x8320, .f32⟩
  | 91 => ⟨S1x8x8320x8320, .f32⟩
  | 92 => ⟨S_, .f32⟩
  | 93 => ⟨S_, .f32⟩
  | 94 => ⟨S1x8x8320x8320, .i1⟩
  | 95 => ⟨S1x8x8320x8320, .f32⟩
  | 96 => ⟨S1x8x8320x8320, .f32⟩
  | 97 => ⟨S_, .f32⟩
  | 98 => ⟨S1x8x8320x8320, .f32⟩
  | 99 => ⟨S1x8x64x8320, .f32⟩
  | 100 => ⟨S1x8320x8x64, .f32⟩
  | 101 => ⟨S1x8320x8x64, .f32⟩
  | 102 => ⟨S1x8x64x8320, .f32⟩
  | 103 => ⟨S1x8x8320x8320, .f32⟩
  | 104 => ⟨S1x8x64x8320, .f32⟩
  | 105 => ⟨S1x8320x8x64, .f32⟩
  | 106 => ⟨S_, .f32⟩
  | 107 => ⟨S1x8x8320x8320, .f32⟩
  | 108 => ⟨S1x8x8320x8320, .f32⟩
  | 109 => ⟨S1x8x8320x8320, .f32⟩
  | 110 => ⟨S1x8x8320x8319, .f32⟩
  | 111 => ⟨S1x8x8320x1, .f32⟩
  | 112 => ⟨S_, .f32⟩
  | 113 => ⟨S1x8x8320x8320, .f32⟩
  | 114 => ⟨S_, .f32⟩
  | 115 => ⟨S_, .f32⟩
  | 116 => ⟨S1x8x8320x8320, .f32⟩
  | 117 => ⟨S_, .f32⟩
  | 118 => ⟨S1x8x8320x8320, .f32⟩
  | 119 => ⟨S1x8x8320x8320, .f32⟩
  | 120 => ⟨S1x8x8320x8320, .f32⟩
  | 121 => ⟨S1x8x8320x8320, .f32⟩
  | 122 => ⟨S1x8x8320x8320, .f32⟩
  | 123 => ⟨S1x8x8320x8320, .f32⟩
  | 124 => ⟨S1x8x8320x8320, .f32⟩
  | 125 => ⟨S1x8x8320x8320, .f32⟩
  | 126 => ⟨S_, .f32⟩
  | 127 => ⟨S1x8x8320x8320, .f32⟩
  | _ => ⟨S1x8320x1536, .f32⟩

abbrev hbmTy0_1 (i : Nat) : BufTy := match i % 128 with
  | 0 => ⟨S1x8x8320x8320, .f32⟩
  | 1 => ⟨S1x8x8320x64, .f32⟩
  | 2 => ⟨S1x8320x8x64, .f32⟩
  | 3 => ⟨S1x8x8320x64, .f32⟩
  | 4 => ⟨S1x8320x8x64, .f32⟩
  | 5 => ⟨S8320x512, .f32⟩
  | 6 => ⟨S8320x512, .f32⟩
  | 7 => ⟨S8320x512, .f32⟩
  | _ => ⟨S1x8320x1536, .f32⟩

abbrev hbmTy (i : Nat) : BufTy := match i / 128 with
  | 0 => hbmTy0_0 i
  | 1 => hbmTy0_1 i
  | _ => ⟨S1x8320x1536, .f32⟩

abbrev bufTy : (tb : Table) → Fin (tcTables nBuf tb) → BufTy
  | .hbm, ⟨i, _⟩ => hbmTy i
  | _, _ => ⟨S1x8320x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_v21 : Ref sig .tc := ⟨.hbm, 72, rfl⟩
abbrev main_cst_0 : Ref sig .tc := ⟨.hbm, 73, rfl⟩
abbrev main_call1_v0 : Ref sig .tc := ⟨.hbm, 74, rfl⟩
abbrev main_v22_1 : Ref sig .tc := ⟨.hbm, 75, rfl⟩
abbrev main_call1_v2 : Ref sig .tc := ⟨.hbm, 76, rfl⟩
abbrev main_v22_0 : Ref sig .tc := ⟨.hbm, 77, rfl⟩
abbrev main_call1_cst : Ref sig .tc := ⟨.hbm, 78, rfl⟩
abbrev main_v22_2 : Ref sig .tc := ⟨.hbm, 79, rfl⟩
abbrev main_call2_cst : Ref sig .tc := ⟨.hbm, 80, rfl⟩
abbrev main_call2_v0 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_1 : Ref sig .tc := ⟨.hbm, 85, rfl⟩
abbrev main_v26 : Ref sig .tc := ⟨.hbm, 86, rfl⟩
abbrev main_v27 : Ref sig .tc := ⟨.hbm, 87, rfl⟩
abbrev main_cst_2 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_3 : Ref sig .tc := ⟨.hbm, 92, rfl⟩
abbrev main_call3_v0 : Ref sig .tc := ⟨.hbm, 93, rfl⟩
abbrev main_v31_1 : Ref sig .tc := ⟨.hbm, 94, rfl⟩
abbrev main_call3_v2 : Ref sig .tc := ⟨.hbm, 95, rfl⟩
abbrev main_v31_0 : Ref sig .tc := ⟨.hbm, 96, rfl⟩
abbrev main_call3_cst : Ref sig .tc := ⟨.hbm, 97, rfl⟩
abbrev main_v31_2 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_call4_cst : Ref sig .tc := ⟨.hbm, 106, rfl⟩
abbrev main_call4_v0 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_cst_4 : Ref sig .tc := ⟨.hbm, 112, rfl⟩
abbrev main_v43 : Ref sig .tc := ⟨.hbm, 113, rfl⟩
abbrev main_call5_cst : Ref sig .tc := ⟨.hbm, 114, rfl⟩
abbrev main_call5_v0 : Ref sig .tc := ⟨.hbm, 115, rfl⟩
abbrev main_v44 : Ref sig .tc := ⟨.hbm, 116, rfl⟩
abbrev main_call6_cst : Ref sig .tc := ⟨.hbm, 117, rfl⟩
abbrev main_call6_v0 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_call7_v0 : Ref sig .tc := ⟨.hbm, 122, rfl⟩
abbrev main_call7_v1 : Ref sig .tc := ⟨.hbm, 123, rfl⟩
abbrev main_v48 : Ref sig .tc := ⟨.hbm, 124, rfl⟩
abbrev main_v49 : Ref sig .tc := ⟨.hbm, 125, rfl⟩
abbrev main_cst_5 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩

abbrev nD : Nat := 1
abbrev τ : Topo := Topo.v7x

variable {F : FTy → Type} [FloatOps F]
-- ==== Kernel2.lean ====
abbrev S1x8192x1024 : Shape := ⟨3, ![1, 8192, 1024]⟩
abbrev S16x1024 : Shape := ⟨2, ![16, 1024]⟩
abbrev S1x1024 : Shape := ⟨2, ![1, 1024]⟩
abbrev S1x1024x6400 : Shape := ⟨3, ![1, 1024, 6400]⟩
abbrev S1x8320x6400 : Shape := ⟨3, ![1, 8320, 6400]⟩
abbrev S1x8320x1024 : Shape := ⟨3, ![1, 8320, 1024]⟩
abbrev S_ : Shape := ⟨0, ![]⟩
abbrev S112x1024 : Shape := ⟨2, ![112, 1024]⟩
abbrev S8192x1024 : Shape := ⟨2, ![8192, 1024]⟩
abbrev S8320x1024 : Shape := ⟨2, ![8320, 1024]⟩
abbrev S8320x6400 : Shape := ⟨2, ![8320, 6400]⟩
abbrev S1024x6400 : Shape := ⟨2, ![1024, 6400]⟩
abbrev S640x640 : Shape := ⟨2, ![640, 640]⟩
abbrev S1024x640 : Shape := ⟨2, ![1024, 640]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 20
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S16x1024, .f32⟩
  | .hbm, ⟨2, _⟩ => ⟨S1x1024, .f32⟩
  | .hbm, ⟨3, _⟩ => ⟨S1x1024x6400, .f32⟩
  | .hbm, ⟨4, _⟩ => ⟨S1x8320x6400, .f32⟩
  | .hbm, ⟨5, _⟩ => ⟨S1x8320x1024, .f32⟩
  | .hbm, ⟨6, _⟩ => ⟨S_, .f32⟩
  | .hbm, ⟨7, _⟩ => ⟨S112x1024, .f32⟩
  | .hbm, ⟨8, _⟩ => ⟨S8192x1024, .f32⟩
  | .hbm, ⟨9, _⟩ => ⟨S8320x1024, .f32⟩
  | .hbm, ⟨10, _⟩ => ⟨S8320x6400, .f32⟩
  | .hbm, ⟨11, _⟩ => ⟨S8320x6400, .bf16⟩
  | .hbm, ⟨12, _⟩ => ⟨S1024x6400, .f32⟩
  | .hbm, ⟨13, _⟩ => ⟨S1024x6400, .bf16⟩
  | .hbm, ⟨14, _⟩ => ⟨S8320x1024, .f32⟩
  | .hbm, ⟨15, _⟩ => ⟨S8320x1024, .f32⟩
  | .hbm, ⟨16, _⟩ => ⟨S1x1024, .f32⟩
  | .hbm, ⟨17, _⟩ => ⟨S8192x1024, .f32⟩
  | .hbm, ⟨18, _⟩ => ⟨S1x8192x1024, .f32⟩
  | .hbm, ⟨19, _⟩ => ⟨S16x1024, .f32⟩
  | .local _ .vmem, ⟨0, _⟩ => ⟨S640x640, .bf16⟩
  | .local _ .vmem, ⟨1, _⟩ => ⟨S640x640, .bf16⟩
  | .local _ .vmem, ⟨2, _⟩ => ⟨S1024x640, .bf16⟩
  | .local _ .vmem, ⟨3, _⟩ => ⟨S1024x640, .bf16⟩
  | .local _ .vmem, ⟨4, _⟩ => ⟨S640x1024, .f32⟩
  | .local _ .vmem, ⟨5, _⟩ => ⟨S640x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S1x1024, .f32⟩
  | .local _ .vmem, ⟨12, _⟩ => ⟨S640x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![13, 10], ![false, false]⟩

def k0_cond3 (i : grid0.Coords) : BitVec 1 :=
  let arg1 : BitVec 32 := BitVec.ofNat 32 (i 1).val
  let c9_i32 : BitVec 32 := 9#32
  let v18 : BitVec 1 := Scalar.cmpi .eq arg1 c9_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S1x8192x1024 : Shape := ⟨3, ![1, 8192, 1024]⟩
abbrev S16x1024 : Shape := ⟨2, ![16, 1024]⟩
abbrev S1x1024 : Shape := ⟨2, ![1, 1024]⟩
abbrev S1x1024x6400 : Shape := ⟨3, ![1, 1024, 6400]⟩
abbrev S1x8320x6400 : Shape := ⟨3, ![1, 8320, 6400]⟩
abbrev S1x8320x1024 : Shape := ⟨3, ![1, 8320, 1024]⟩
abbrev S1x16x1024 : Shape := ⟨3, ![1, 16, 1024]⟩
abbrev S_ : Shape := ⟨0, ![]⟩
abbrev S1x112x1024 : Shape := ⟨3, ![1, 112, 1024]⟩
abbrev S1024 : Shape := ⟨1, ![1024]⟩
abbrev S1x8320 : Shape := ⟨2, ![1, 8320]⟩
abbrev S1x8320x1 : Shape := ⟨3, ![1, 8320, 1]⟩
abbrev S1x1x1024 : Shape := ⟨3, ![1, 1, 1024]⟩
abbrev S1024x6400 : Shape := ⟨2, ![1024, 6400]⟩
abbrev S8320 : Shape := ⟨1, ![8320]⟩

abbrev nBuf : Space → Nat
  | .hbm => 69
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S16x1024, .f32⟩
  | .hbm, ⟨2, _⟩ => ⟨S1x1024, .f32⟩
  | .hbm, ⟨3, _⟩ => ⟨S1x1024x6400, .f32⟩
  | .hbm, ⟨4, _⟩ => ⟨S1x8320x6400, .f32⟩
  | .hbm, ⟨5, _⟩ => ⟨S1x8320x1024, .f32⟩
  | .hbm, ⟨6, _⟩ => ⟨S1x16x1024, .f32⟩
  | .hbm, ⟨7, _⟩ => ⟨S_, .f32⟩
  | .hbm, ⟨8, _⟩ => ⟨S1x112x1024, .f32⟩
  | .hbm, ⟨9, _⟩ => ⟨S1x8320x1024, .f32⟩
  | .hbm, ⟨10, _⟩ => ⟨S_, .f32⟩
  | .hbm, ⟨11, _⟩ => ⟨S1x112x1024, .f32⟩
  | .hbm, ⟨12, _⟩ => ⟨S1024, .f32⟩
  | .hbm, ⟨13, _⟩ => ⟨S1x8320x1024, .f32⟩
  | .hbm, ⟨14, _⟩ => ⟨S_, .f32⟩
  | .hbm, ⟨15, _⟩ => ⟨S1x8320, .f32⟩
  | .hbm, ⟨16, _⟩ => ⟨S1x8320x1, .f32⟩
  | .hbm, ⟨17, _⟩ => ⟨S_, .f32⟩
  | .hbm, ⟨18, _⟩ => ⟨S1x8320x1, .f32⟩
  | .hbm, ⟨19, _⟩ => ⟨S1x8320x1, .f32⟩
  | .hbm, ⟨20, _⟩ => ⟨S_, .f32⟩
  | .hbm, ⟨21, _⟩ => ⟨S1x8320x1, .f32⟩
  | .hbm, ⟨22, _⟩ => ⟨S1x8320x1, .f32⟩
  | .hbm, ⟨23, _⟩ => ⟨S1x8320x1, .f32⟩
  | .hbm, ⟨24, _⟩ => ⟨S1x8320x1, .f32⟩
  | .hbm, ⟨25, _⟩ => ⟨S_, .f32⟩
  | .hbm, ⟨26, _⟩ => ⟨S1x8320x1, .f32⟩
  | .hbm, ⟨27, _⟩ => ⟨S1x8320x1, .f32⟩
  | .hbm, ⟨28, _⟩ => ⟨S1x8320x1024, .f32⟩
  | .hbm, ⟨29, _⟩ => ⟨S1x8320x1024, .f32⟩
  | .hbm, ⟨30, _⟩ => ⟨S1x1x1024, .f32⟩
  | .hbm, ⟨31, _⟩ => ⟨S1x8320x1024, .f32⟩
  | .hbm, ⟨32, _⟩ => ⟨S1x8320x1024, .f32⟩
  | .hbm, ⟨33, _⟩ => ⟨S1024x6400, .f32⟩
  | .hbm, ⟨34, _⟩ => ⟨S1x8320x6400, .f32⟩
  | .hbm, ⟨35, _⟩ => ⟨S1x8320x1024, .f32⟩
  | .hbm, ⟨36, _⟩ => ⟨S1x8320x1024, .f32⟩
  | .hbm, ⟨37, _⟩ => ⟨S_, .f32⟩
  | .hbm, ⟨38, _⟩ => ⟨S1x1024, .f32⟩
  | .hbm, ⟨39, _⟩ => ⟨S1x1x1024, .f32⟩
  | .hbm, ⟨40, _⟩ => ⟨S1x8320x1024, .f32⟩
  | .hbm, ⟨41, _⟩ => ⟨S1x8320x1024, .f32⟩
  | .hbm, ⟨42, _⟩ => ⟨S_, .f32⟩
  | .hbm, ⟨43, _⟩ => ⟨S1024, .f32⟩
  | .hbm, ⟨44, _⟩ => ⟨S1x8320x1024, .f32⟩
  | .hbm, ⟨45, _⟩ => ⟨S_, .f32⟩
  | .hbm, ⟨46, _⟩ => ⟨S1x8320, .f32⟩
  | .hbm, ⟨47, _⟩ => ⟨S1x8320x1, .f32⟩
  | .hbm, ⟨48, _⟩ => ⟨S1x8320x1024, .f32⟩
  | .hbm, ⟨49, _⟩ => ⟨S1x8320x1024, .f32⟩
  | .hbm, ⟨50, _⟩ => ⟨S1x8320x1024, .f32⟩
  | .hbm, ⟨51, _⟩ => ⟨S1x8320x1, .f32⟩
  | .hbm, ⟨52, _⟩ => ⟨S_, .f32⟩
  | .hbm, ⟨53, _⟩ => ⟨S1x8320x1, .f32⟩
  | .hbm, ⟨54, _⟩ => ⟨S1x8320x1, .f32⟩
  | .hbm, ⟨55, _⟩ => ⟨S_, .f32⟩
  | .hbm, ⟨56, _⟩ => ⟨S8320, .f32⟩
  | .hbm, ⟨57, _⟩ => ⟨S1x8320, .f32⟩
  | .hbm, ⟨58, _⟩ => ⟨S1x8320x1024, .f32⟩
  | .hbm, ⟨59, _⟩ => ⟨S1x8320x1024, .f32⟩
  | .hbm, ⟨60, _⟩ => ⟨S1x8320x1024, .f32⟩
  | .hbm, ⟨61, _⟩ => ⟨S1x8320x1024, .f32⟩
  | .hbm, ⟨62, _⟩ => ⟨S1x8320x1024, .f32⟩
  | .hbm, ⟨63, _⟩ => ⟨S1x1024, .f32⟩
  | .hbm, ⟨64, _⟩ => ⟨S1x112x1024, .f32⟩
  | .hbm, ⟨65, _⟩ => ⟨S1x16x1024, .f32⟩
  | .hbm, ⟨66, _⟩ => ⟨S1x8192x1024, .f32⟩
  | .hbm, ⟨67, _⟩ => ⟨S_, .f32⟩
  | .hbm, ⟨68, _⟩ => ⟨S16x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel4.lean ====
abbrev S1x8320x1024 : Shape := ⟨3, ![1, 8320, 1024]⟩
abbrev S1x8192x1024 : Shape := ⟨3, ![1, 8192, 1024]⟩
abbrev S1x8320x512 : Shape := ⟨3, ![1, 8320, 512]⟩
abbrev S1x8320x3584 : Shape := ⟨3, ![1, 8320, 3584]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S128x1024 : Shape := ⟨2, ![128, 1024]⟩
abbrev S8192x1024 : Shape := ⟨2, ![8192, 1024]⟩
abbrev S8320x1024 : Shape := ⟨2, ![8320, 1024]⟩
abbrev S8320x512 : Shape := ⟨2, ![8320, 512]⟩
abbrev S8320x3584 : Shape := ⟨2, ![8320, 3584]⟩
abbrev S512x1024 : Shape := ⟨2, ![512, 1024]⟩
abbrev S1024x1024 : Shape := ⟨2, ![1024, 1024]⟩
abbrev S1x1024 : Shape := ⟨2, ![1, 1024]⟩
abbrev S8x128 : Shape := ⟨2, ![8, 128]⟩
abbrev S208x1024 : Shape := ⟨2, ![208, 1024]⟩
abbrev S208x512 : Shape := ⟨2, ![208, 512]⟩
abbrev S208x3584 : Shape := ⟨2, ![208, 3584]⟩
abbrev S208 : Shape := ⟨1, ![208]⟩
abbrev S208x1 : Shape := ⟨2, ![208, 1]⟩
abbrev S1x208x1024 : Shape := ⟨3, ![1, 208, 1024]⟩
abbrev S1 : Shape := ⟨1, ![1]⟩
abbrev S1x1x1 : Shape := ⟨3, ![1, 1, 1]⟩
abbrev S1x1 : Shape := ⟨2, ![1, 1]⟩

abbrev nBuf : Space → Nat
  | .hbm => 38
  | .vmem => 36
  | .smem => 0
  | _ => 0

abbrev bufTy : (tb : Table) → Fin (tcTables nBuf tb) → BufTy
  | .hbm, ⟨0, _⟩ => ⟨S1x8320x1024, .f32⟩
  | .hbm, ⟨1, _⟩ => ⟨S1x8192x1024, .f32⟩
  | .hbm, ⟨2, _⟩ => ⟨S1x8320x512, .f32⟩
  | .hbm, ⟨3, _⟩ => ⟨S1x8320x1024, .f32⟩
  | .hbm, ⟨4, _⟩ => ⟨S1x8320x3584, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1024, .f32⟩
  | .hbm, ⟨9, _⟩ => ⟨S_, .f32⟩
  | .hbm, ⟨10, _⟩ => ⟨S128x1024, .f32⟩
  | .hbm, ⟨11, _⟩ => ⟨S8192x1024, .f32⟩
  | .hbm, ⟨12, _⟩ => ⟨S8320x1024, .f32⟩
  | .hbm, ⟨13, _⟩ => ⟨S8320x1024, .f32⟩
  | .hbm, ⟨14, _⟩ => ⟨S8320x512, .f32⟩
  | .hbm, ⟨15, _⟩ => ⟨S8320x1024, .f32⟩
  | .hbm, ⟨16, _⟩ => ⟨S8320x3584, .f32⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S8320x512, .f32⟩
  | .hbm, ⟨25, _⟩ => ⟨S8320x1024, .f32⟩
  | .hbm, ⟨26, _⟩ => ⟨S8320x3584, .f32⟩
  | .hbm, ⟨27, _⟩ => ⟨S8320x1024, .f32⟩
  | .hbm, ⟨28, _⟩ => ⟨S8320x1024, .bf16⟩
  | .hbm, ⟨29, _⟩ => ⟨S8320x512, .bf16⟩
  | .hbm, ⟨30, _⟩ => ⟨S8320x1024, .bf16⟩
  | .hbm, ⟨31, _⟩ => ⟨S8320x1024, .bf16⟩
  | .hbm, ⟨32, _⟩ => ⟨S8320x1024, .bf16⟩
  | .hbm, ⟨33, _⟩ => ⟨S8320x1024, .bf16⟩
  | .hbm, ⟨34, _⟩ => ⟨S1x1024, .f32⟩
  | .hbm, ⟨35, _⟩ => ⟨S8x128, .f32⟩
  | .hbm, ⟨36, _⟩ => ⟨S1x1, .f32⟩
  | .hbm, ⟨37, _⟩ => ⟨S_, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x512, .f32⟩
  | .local _ .vmem, ⟨5, _⟩ => ⟨S208x512, .f32⟩
  | .local _ .vmem, ⟨6, _⟩ => ⟨S208x1024, .f32⟩
  | .local _ .vmem, ⟨7, _⟩ => ⟨S208x1024, .f32⟩
  | .local _ .vmem, ⟨8, _⟩ => ⟨S208x3584, .f32⟩
  | .local _ .vmem, ⟨9, _⟩ => ⟨S208x3584, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S208x512, .f32⟩
  | .local _ .vmem, ⟨15, _⟩ => ⟨S208x512, .f32⟩
  | .local _ .vmem, ⟨16, _⟩ => ⟨S208x1024, .f32⟩
  | .local _ .vmem, ⟨17, _⟩ => ⟨S208x1024, .f32⟩
  | .local _ .vmem, ⟨18, _⟩ => ⟨S208x3584, .f32⟩
  | .local _ .vmem, ⟨19, _⟩ => ⟨S208x3584, .f32⟩
  | .local _ .vmem, ⟨20, _⟩ => ⟨S208x1024, .f32⟩
  | .local _ .vmem, ⟨21, _⟩ => ⟨S208x1024, .f32⟩
  | .local _ .vmem, ⟨22, _⟩ => ⟨S208x1024, .bf16⟩
  | .local _ .vmem, ⟨23, _⟩ => ⟨S208x1024, .bf16⟩
  | .local _ .vmem, ⟨24, _⟩ => ⟨S208x512, .bf16⟩
  | .local _ .vmem, ⟨25, _⟩ => ⟨S208x512, .bf16⟩
  | .local _ .vmem, ⟨26, _⟩ => ⟨S208x1024, .bf16⟩
  | .local _ .vmem, ⟨27, _⟩ => ⟨S208x1024, .bf16⟩
  | .local _ .vmem, ⟨28, _⟩ => ⟨S208x1024, .bf16⟩
  | .local _ .vmem, ⟨29, _⟩ => ⟨S208x1024, .bf16⟩
  | .local _ .vmem, ⟨30, _⟩ => ⟨S208x1024, .bf16⟩
  | .local _ .vmem, ⟨31, _⟩ => ⟨S208x1024, .bf16⟩
  | .local _ .vmem, ⟨32, _⟩ => ⟨S208x1024, .bf16⟩
  | .local _ .vmem, ⟨33, _⟩ => ⟨S208x1024, .bf16⟩
  | .local _ .vmem, ⟨34, _⟩ => ⟨S1x1024, .f32⟩
  | .local _ .vmem, ⟨35, _⟩ => ⟨S8x128, .f32⟩
  | _, _ => ⟨S1x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev main_v14_8 : Ref sig .tc := ⟨.hbm, 32, rfl⟩
abbrev main_v14_9 : Ref sig .tc := ⟨.hbm, 33, rfl⟩
abbrev main_v14_10 : Ref sig .tc := ⟨.hbm, 34, rfl⟩
abbrev main_v14_11 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S208x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S208x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S208x3584 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S208x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S208x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S208x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S208x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S208x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S208x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S208x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S1x8320x1024 : Shape := ⟨3, ![1, 8320, 1024]⟩
abbrev S1x8192x1024 : Shape := ⟨3, ![1, 8192, 1024]⟩
abbrev S1x8320x512 : Shape := ⟨3, ![1, 8320, 512]⟩
abbrev S1x8320x3584 : Shape := ⟨3, ![1, 8320, 3584]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S1x8320 : Shape := ⟨2, ![1, 8320]⟩
abbrev S1x8320x1 : Shape := ⟨3, ![1, 8320, 1]⟩
abbrev S1x1x1024 : Shape := ⟨3, ![1, 1, 1024]⟩
abbrev S1x8192 : Shape := ⟨2, ![1, 8192]⟩
abbrev S1x1024 : Shape := ⟨2, ![1, 1024]⟩
abbrev S8320 : Shape := ⟨1, ![8320]⟩
abbrev S8320x512 : Shape := ⟨2, ![8320, 512]⟩
abbrev S8320x1024 : Shape := ⟨2, ![8320, 1024]⟩
abbrev S8320x3584 : Shape := ⟨2, ![8320, 3584]⟩

abbrev nBuf : Space → Nat
  | .hbm => 200
  | .vmem => 0
  | .smem => 0
  | _ => 0

abbrev hbmTy0_0 (i : Nat) : BufTy := match i % 128 with
  | 0 => ⟨S1x8320x1024, .f32⟩
  | 1 => ⟨S1x8192x1024, .f32⟩
  | 2 => ⟨S1x8320x512, .f32⟩
  | 3 => ⟨S1x8320x1024, .f32⟩
  | 4 => ⟨S1x8320x3584, .f32⟩
  | 5 => ⟨S1x512x1024, .f32⟩
  | 6 => ⟨S1x1024x1024, .f32⟩
  | 7 => ⟨S1x1024x1024, .f32⟩
  | 8 => ⟨S1024, .f32⟩
  | 9 => ⟨S1x8320x512, .f32⟩
  | 10 => ⟨S1x8320x1024, .f32⟩
  | 11 => ⟨S1x8320x1024, .f32⟩
  | 12 => ⟨S1x8320x1024, .f32⟩
  | 13 => ⟨S1x8320x512, .f32⟩
  | 14 => ⟨S1x8320x512, .f32⟩
  | 15 => ⟨S_, .f32⟩
  | 16 => ⟨S1x8320x512, .f32⟩
  | 17 => ⟨S1x8320x512, .f32⟩
  | 18 => ⟨S_, .f32⟩
  | 19 => ⟨S1x8320x512, .f32⟩
  | 20 => ⟨S1x8320x512, .f32⟩
  | 21 => ⟨S_, .f32⟩
  | 22 => ⟨S1x8320x512, .f32⟩
  | 23 => ⟨S1x8320x512, .f32⟩
  | 24 => ⟨S1x8320x512, .f32⟩
  | 25 => ⟨S1x8320x512, .f32⟩
  | 26 => ⟨S1x8320x512, .f32⟩
  | 27 => ⟨S1x8320x1024, .f32⟩
  | 28 => ⟨S1x8320x1024, .f32⟩
  | 29 => ⟨S_, .f32⟩
  | 30 => ⟨S1x8320x1024, .f32⟩
  | 31 => ⟨S1x8320x1024, .f32⟩
  | 32 => ⟨S_, .f32⟩
  | 33 => ⟨S1x8320x1024, .f32⟩
  | 34 => ⟨S1x8320x1024, .f32⟩
  | 35 => ⟨S_, .f32⟩
  | 36 => ⟨S1x8320x1024, .f32⟩
  | 37 => ⟨S1x8320x1024, .f32⟩
  | 38 => ⟨S1x8320x1024, .f32⟩
  | 39 => ⟨S1x8320x1024, .f32⟩
  | 40 => ⟨S1x8320x1024, .f32⟩
  | 41 => ⟨S512x1024, .f32⟩
  | 42 => ⟨S1x8320x1024, .f32⟩
  | 43 => ⟨S1024x1024, .f32⟩
  | 44 => ⟨S1x8320x1024, .f32⟩
  | 45 => ⟨S1x8320x512, .f32⟩
  | 46 => ⟨S1x8320x1024, .f32⟩
  | 47 => ⟨S1x8320x1024, .f32⟩
  | 48 => ⟨S1x8320x1024, .f32⟩
  | 49 => ⟨S1x8320x1024, .f32⟩
  | 50 => ⟨S1x8320x1024, .f32⟩
  | 51 => ⟨S_, .f32⟩
  | 52 => ⟨S1x8320x1024, .f32⟩
  | 53 => ⟨S1x8320x1024, .f32⟩
  | 54 => ⟨S_, .f32⟩
  | 55 => ⟨S1x8320x1024, .f32⟩
  | 56 => ⟨S1x8320x1024, .f32⟩
  | 57 => ⟨S_, .f32⟩
  | 58 => ⟨S1x8320x1024, .f32⟩
  | 59 => ⟨S1x8320x1024, .f32⟩
  | 60 => ⟨S1x8320x1024, .f32⟩
  | 61 => ⟨S1x8320x1024, .f32⟩
  | 62 => ⟨S1x8320x1024, .f32⟩
  | 63 => ⟨S1x8320x1024, .f32⟩
  | 64 => ⟨S_, .f32⟩
  | 65 => ⟨S1x8320x1024, .f32⟩
  | 66 => ⟨S1x8320x1024, .f32⟩
  | 67 => ⟨S_, .f32⟩
  | 68 => ⟨S1x8320x1024, .f32⟩
  | 69 => ⟨S1x8320x1024, .f32⟩
  | 70 => ⟨S_, .f32⟩
  | 71 => ⟨S1x8320x1024, .f32⟩
  | 72 => ⟨S1x8320x1024, .f32⟩
  | 73 => ⟨S1x8320x1024, .f32⟩
  | 74 => ⟨S1x8320x1024, .f32⟩
  | 75 => ⟨S1x8320x1024, .f32⟩
  | 76 => ⟨S1024x1024, .f32⟩
  | 77 => ⟨S1x8320x1024, .f32⟩
  | 78 => ⟨S1x8320x1024, .f32⟩
  | 79 => ⟨S1x8320x1024, .f32⟩
  | 80 => ⟨S_, .f32⟩
  | 81 => ⟨S1x8320, .f32⟩
  | 82 => ⟨S1x8320x1, .f32⟩
  | 83 => ⟨S_, .f32⟩
  | 84 => ⟨S1x8320x1, .f32⟩
  | 85 => ⟨S1x8320x1, .f32⟩
  | 86 => ⟨S_, .f32⟩
  | 87 => ⟨S1x8320x1, .f32⟩
  | 88 => ⟨S1x8320x1, .f32⟩
  | 89 => ⟨S1x8320x1, .f32⟩
  | 90 => ⟨S1x8320x1, .f32⟩
  | 91 => ⟨S_, .f32⟩
  | 92 => ⟨S1x8320x1, .f32⟩
  | 93 => ⟨S1x8320x1, .f32⟩
  | 94 => ⟨S1x8320x1024, .f32⟩
  | 95 => ⟨S1x8320x1024, .f32⟩
  | 96 => ⟨S1x1x1024, .f32⟩
  | 97 => ⟨S1x8320x1024, .f32⟩
  | 98 => ⟨S1x8320x1024, .f32⟩
  | 99 => ⟨S1x8192x1024, .f32⟩
  | 100 => ⟨S1x8192x1024, .f32⟩
  | 101 => ⟨S1x8192x1024, .f32⟩
  | 102 => ⟨S_, .f32⟩
  | 103 => ⟨S1x8192x1024, .f32⟩
  | 104 => ⟨S1x8192x1024, .f32⟩
  | 105 => ⟨S_, .f32⟩
  | 106 => ⟨S1x8192, .f32⟩
  | 107 => ⟨S_, .f32⟩
  | 108 => ⟨S1x8192, .f32⟩
  | 109 => ⟨S1x8192, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S1x8192, .f32⟩
  | 118 => ⟨S_, .f32⟩
  | 119 => ⟨S1x8192, .f32⟩
  | 120 => ⟨S1x8192, .f32⟩
  | 121 => ⟨S1x8192x1024, .f32⟩
  | 122 => ⟨S1x8192x1024, .f32⟩
  | 123 => ⟨S_, .f32⟩
  | 124 => ⟨S1x8320x1024, .f32⟩
  | 125 => ⟨S1x8320x1024, .f32⟩
  | 126 => ⟨S_, .f32⟩
  | 127 => ⟨S1x1024, .f32⟩
  | _ => ⟨S1x8320x1024, .f32⟩

abbrev hbmTy0_1 (i : Nat) : BufTy := match i % 128 with
  | 0 => ⟨S1x1x1024, .f32⟩
  | 1 => ⟨S1x8320x1024, .f32⟩
  | 2 => ⟨S1x8320x1024, .f32⟩
  | 3 => ⟨S_, .f32⟩
  | 4 => ⟨S1024, .f32⟩
  | 5 => ⟨S1x8320x1024, .f32⟩
  | 6 => ⟨S_, .f32⟩
  | 7 => ⟨S1x8320, .f32⟩
  | 8 => ⟨S1x8320x1, .f32⟩
  | 9 => ⟨S1x8320x1024, .f32⟩
  | 10 => ⟨S1x8320x1024, .f32⟩
  | 11 => ⟨S1x8320x1, .f32⟩
  | 12 => ⟨S_, .f32⟩
  | 13 => ⟨S1x8320x1, .f32⟩
  | 14 => ⟨S1x8320x1, .f32⟩
  | 15 => ⟨S_, .f32⟩
  | 16 => ⟨S8320, .f32⟩
  | 17 => ⟨S1x8320, .f32⟩
  | 18 => ⟨S1x8320x1024, .f32⟩
  | 19 => ⟨S1x8320x1024, .f32⟩
  | 20 => ⟨S1x8320x1024, .f32⟩
  | 21 => ⟨S1x8320x1024, .f32⟩
  | 22 => ⟨S1x8320x1024, .f32⟩
  | 23 => ⟨S1x8320x1024, .f32⟩
  | 24 => ⟨S1x8320x1024, .f32⟩
  | 25 => ⟨S1x8320x1024, .f32⟩
  | 26 => ⟨S1x8320x1024, .f32⟩
  | 27 => ⟨S1x8320x1024, .f32⟩
  | 28 => ⟨S1x8320x1024, .f32⟩
  | 29 => ⟨S1x8320x1024, .f32⟩
  | 30 => ⟨S_, .f32⟩
  | 31 => ⟨S1x8320x512, .f32⟩
  | 32 => ⟨S_, .f32⟩
  | 33 => ⟨S1x8320x1024, .f32⟩
  | 34 => ⟨S1x8320x3584, .f32⟩
  | 35 => ⟨S1x8320x1024, .f32⟩
  | 36 => ⟨S1x8320x512, .f32⟩
  | 37 => ⟨S1x8320x1024, .f32⟩
  | 38 => ⟨S1x8320x1024, .f32⟩
  | 39 => ⟨S1x8320x1024, .f32⟩
  | 40 => ⟨S1x8320x1024, .f32⟩
  | 41 => ⟨S1x8320x1024, .f32⟩
  | 42 => ⟨S1x8320x1024, .f32⟩
  | 43 => ⟨S1x8320x512, .f32⟩
  | 44 => ⟨S1x8320x512, .f32⟩
  | 45 => ⟨S1x8320x512, .f32⟩
  | 46 => ⟨S1x8320x512, .f32⟩
  | 47 => ⟨S1x8320x512, .f32⟩
  | 48 => ⟨S1x8320x512, .f32⟩
  | 49 => ⟨S_, .f32⟩
  | 50 => ⟨S1x8320x1024, .f32⟩
  | 51 => ⟨S_, .f32⟩
  | 52 => ⟨S1x8320x1024, .f32⟩
  | 53 => ⟨S1x8320x3584, .f32⟩
  | 54 => ⟨S8320x512, .f32⟩
  | 55 => ⟨S8320x1024, .f32⟩
  | 56 => ⟨S1x8320x3584, .f32⟩
  | 57 => ⟨S8320x3584, .f32⟩
  | 58 => ⟨S8320x1024, .f32⟩
  | 59 => ⟨S8320x1024, .f32⟩
  | 60 => ⟨S8320x1024, .bf16⟩
  | 61 => ⟨S8320x512, .f32⟩
  | 62 => ⟨S8320x512, .bf16⟩
  | 63 => ⟨S8320x1024, .f32⟩
  | 64 => ⟨S8320x1024, .bf16⟩
  | 65 => ⟨S8320x1024, .f32⟩
  | 66 => ⟨S8320x1024, .bf16⟩
  | 67 => ⟨S8320x1024, .f32⟩
  | 68 => ⟨S8320x1024, .bf16⟩
  | 69 => ⟨S8320x1024, .f32⟩
  | 70 => ⟨S8320x1024, .bf16⟩
  | 71 => ⟨S1x1024, .f32⟩
  | _ => ⟨S1x8320x1024, .f32⟩

abbrev hbmTy (i : Nat) : BufTy := match i / 128 with
  | 0 => hbmTy0_0 i
  | 1 => hbmTy0_1 i
  | _ => ⟨S1x8320x1024, .f32⟩

abbrev bufTy : (tb : Table) → Fin (tcTables nBuf tb) → BufTy
  | .hbm, ⟨i, _⟩ => hbmTy i
  | _, _ => ⟨S1x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v4_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v4_1 : Ref sig .tc := ⟨.hbm, 24, rfl⟩
abbrev main_v4_0 : Ref sig .tc := ⟨.hbm, 25, rfl⟩
abbrev main_v5 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_v6_2 : Ref sig .tc := ⟨.hbm, 34, rfl⟩
abbrev main_call1_cst_1 : Ref sig .tc := ⟨.hbm, 35, rfl⟩
abbrev main_call1_v6 : Ref sig .tc := ⟨.hbm, 36, rfl⟩
abbrev main_call1_v7 : Ref sig .tc := ⟨.hbm, 37, rfl⟩
abbrev main_v6_1 : Ref sig .tc := ⟨.hbm, 38, rfl⟩
abbrev main_v6_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst : Ref sig .tc := ⟨.hbm, 51, rfl⟩
abbrev main_v18 : Ref sig .tc := ⟨.hbm, 52, rfl⟩
abbrev main_v19 : Ref sig .tc := ⟨.hbm, 53, rfl⟩
abbrev main_cst_0 : Ref sig .tc := ⟨.hbm, 54, rfl⟩
abbrev main_v20 : Ref sig .tc := ⟨.hbm, 55, rfl⟩
abbrev main_v21 : Ref sig .tc := ⟨.hbm, 56, rfl⟩
abbrev main_cst_1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_5 : Ref sig .tc := ⟨.hbm, 80, rfl⟩
abbrev main_v41 : Ref sig .tc := ⟨.hbm, 81, rfl⟩
abbrev main_v42 : Ref sig .tc := ⟨.hbm, 82, rfl⟩
abbrev main_cst_6 : Ref sig .tc := ⟨.hbm, 83, rfl⟩
abbrev main_v43 : Ref sig .tc := ⟨.hbm, 84, rfl⟩
abbrev main_v44 : Ref sig .tc := ⟨.hbm, 85, rfl⟩
abbrev main_cst_7 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_8 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_9 : Ref sig .tc := ⟨.hbm, 102, rfl⟩
abbrev main_v59 : Ref sig .tc := ⟨.hbm, 103, rfl⟩
abbrev main_v60 : Ref sig .tc := ⟨.hbm, 104, rfl⟩
abbrev main_cst_10 : Ref sig .tc := ⟨.hbm, 105, rfl⟩
abbrev main_v61 : Ref sig .tc := ⟨.hbm, 106, rfl⟩
abbrev main_cst_11 : Ref sig .tc := ⟨.hbm, 107, rfl⟩
abbrev main_v62 : Ref sig .tc := ⟨.hbm, 108, rfl⟩
abbrev main_v63 : Ref sig .tc := ⟨.hbm, 109, rfl⟩
abbrev main_cst_12 : Ref sig .tc := ⟨.hbm, 110, rfl⟩
abbrev main_v64 : Ref sig .tc := ⟨.hbm, 111, rfl⟩
abbrev main_cst_13 : Ref sig .tc := ⟨.hbm, 112, rfl⟩
abbrev main_v65 : Ref sig .tc := ⟨.hbm, 113, rfl⟩
abbrev main_cst_14 : Ref sig .tc := ⟨.hbm, 114, rfl⟩
abbrev main_cst_15 : Ref sig .tc := ⟨.hbm, 115, rfl⟩
abbrev main_v66 : Ref sig .tc := ⟨.hbm, 116, rfl⟩
abbrev main_v67 : Ref sig .tc := ⟨.hbm, 117, rfl⟩
abbrev main_cst_16 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_17 : Ref sig .tc := ⟨.hbm, 123, rfl⟩
abbrev main_v72 : Ref sig .tc := ⟨.hbm, 124, rfl⟩
abbrev main_v73 : Ref sig .tc := ⟨.hbm, 125, rfl⟩
abbrev main_cst_18 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_19 : Ref sig .tc := ⟨.hbm, 131, rfl⟩
abbrev main_v78 : Ref sig .tc := ⟨.hbm, 132, rfl⟩
abbrev main_v79 : Ref sig .tc := ⟨.hbm, 133, rfl⟩
abbrev main_cst_20 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_21 : Ref sig .tc := ⟨.hbm, 140, rfl⟩
abbrev main_v85 : Ref sig .tc := ⟨.hbm, 141, rfl⟩
abbrev main_v86 : Ref sig .tc := ⟨.hbm, 142, rfl⟩
abbrev main_cst_22 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_23 : Ref sig .tc := ⟨.hbm, 158, rfl⟩
abbrev main_v101 : Ref sig .tc := ⟨.hbm, 159, rfl⟩
abbrev main_cst_24 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_v111 : Ref sig .tc := ⟨.hbm, 176, rfl⟩
abbrev main_cst_25 : Ref sig .tc := ⟨.hbm, 177, rfl⟩
abbrev main_v112 : Ref sig .tc := ⟨.hbm, 178, rfl⟩
abbrev main_cst_26 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩

abbrev nD : Nat := 1
abbrev τ : Topo := Topo.v7x

variable {F : FTy → Type} [FloatOps F]
-- ==== Kernel5.lean ====
abbrev S1x8320x1536 : Shape := ⟨3, ![1, 8320, 1536]⟩
abbrev S256x128 : Shape := ⟨2, ![256, 128]⟩
abbrev S8320x1536 : Shape := ⟨2, ![8320, 1536]⟩
abbrev S8320x512 : Shape := ⟨2, ![8320, 512]⟩
abbrev S128x128 : Shape := ⟨2, ![128, 128]⟩
abbrev S8320x128 : Shape := ⟨2, ![8320, 128]⟩
abbrev S2x128x1 : Shape := ⟨3, ![2, 128, 1]⟩
abbrev S1x128 : Shape := ⟨2, ![1, 128]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S1x8320x1536, .f32⟩
  | .hbm, ⟨1, _⟩ => ⟨S256x128, .bf16⟩
  | .hbm, ⟨2, _⟩ => ⟨S8320x1536, .f32⟩
  | .hbm, ⟨3, _⟩ => ⟨S8320x512, .f32⟩
  | .local _ .vmem, ⟨0, _⟩ => ⟨S128x128, .f32⟩
  | .local _ .vmem, ⟨1, _⟩ => ⟨S128x128, .f32⟩
  | .local _ .vmem, ⟨2, _⟩ => ⟨S8320x128, .f32⟩
  | .local _ .vmem, ⟨3, _⟩ => ⟨S8320x128, .f32⟩
  | .local _ .vmem, ⟨4, _⟩ => ⟨S8320x128, .f32⟩
  | .local _ .vmem, ⟨5, _⟩ => ⟨S8320x128, .f32⟩
  | .local _ .vmem, ⟨6, _⟩ => ⟨S256x128, .bf16⟩
  | .local _ .vmem, ⟨7, _⟩ => ⟨S128x128, .f32⟩
  | .local _ .vmem, ⟨8, _⟩ => ⟨S128x128, .f32⟩
  | .local _ .vmem, ⟨9, _⟩ => ⟨S8320x128, .bf16⟩
  | .local _ .vmem, ⟨10, _⟩ => ⟨S8320x128, .bf16⟩
  | .local _ .vmem, ⟨11, _⟩ => ⟨S8320x128, .bf16⟩
  | .local _ .vmem, ⟨12, _⟩ => ⟨S128x128, .f32⟩
  | .local _ .vmem, ⟨13, _⟩ => ⟨S2x128x1, .f32⟩
  | _, _ => ⟨S1x8320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 65], ![false, false]⟩

def k0_mult1 (i : grid0.Coords) : BitVec 32 :=
  let arg1 : BitVec 32 := BitVec.ofNat 32 (i 1).val
  let c128_i32_11 : BitVec 32 := 128#32
  let v37 : BitVec 32 := Scalar.muli arg1 c128_i32_11
  v37
def k0_off1 (i : grid0.Coords) : Fin 2 → Nat :=
  let arg1 : BitVec 32 := BitVec.ofNat 32 (i 1).val
  let c128_i32_11 : BitVec 32 := 128#32
  let v37 : BitVec 32 := Scalar.muli arg1 c128_i32_11
  let v38 : BitVec 32 := v37
  let v39 : Index := Scalar.indexCast v38
  let c0_12 : Index := 0#32
  ![v39.toNat, 0]
@[reducible] def k0_t1_loop (i : grid0.Coords) : Scf.Loop 32 :=
  let c0_i32_54 : BitVec 32 := 0#32
  let arg1 : BitVec 32 := BitVec.ofNat 32 (i 1).val
  let c1_i32 : BitVec 32 := 1#32
  let v131 : BitVec 32 := Scalar.subi arg1 c1_i32
  let c0_i32_52 : BitVec 32 := 0#32
  let v132 : BitVec 32 := Scalar.maxsi v131 c0_i32_52
  let v133 : BitVec 32 := Scalar.subi v132 c0_i32_54
  let c1_i32_55 : BitVec 32 := 1#32
  let v135 : BitVec 32 := Scalar.divsi v133 c1_i32_55
  let v136 : BitVec 32 := Scalar.muli v135 c1_i32_55
  let v137 : BitVec 32 := Scalar.addi c0_i32_54 v136
  let c1_i32_56 : BitVec 32 := 1#32
  ⟨c0_i32_54, v137, c1_i32_56⟩
def k0_mult2 (i : grid0.Coords) (k0_t1 : Fin (k0_t1_loop i).trips) : BitVec 32 :=
  let arg1 : BitVec 32 := BitVec.ofNat 32 (i 1).val
  let c1_i32_64 : BitVec 32 := 1#32
  let v143 : BitVec 32 := Scalar.subi arg1 c1_i32_64
  let c0_i32_54 : BitVec 32 := 0#32
  let c1_i32_56 : BitVec 32 := 1#32
  let arg12 : BitVec 32 := Scf.iv c0_i32_54 c1_i32_56 k0_t1
  let v144 : BitVec 32 := Scalar.subi v143 arg12
  let c128_i32_65 : BitVec 32 := 128#32
  let v145 : BitVec 32 := Scalar.muli v144 c128_i32_65
  v145
def k0_off2 (i : grid0.Coords) (k0_t1 : Fin (k0_t1_loop i).trips) : Fin 2 → Nat :=
  let arg1 : BitVec 32 := BitVec.ofNat 32 (i 1).val
  let c1_i32_64 : BitVec 32 := 1#32
  let v143 : BitVec 32 := Scalar.subi arg1 c1_i32_64
  let c0_i32_54 : BitVec 32 := 0#32
  let c1_i32_56 : BitVec 32 := 1#32
  let arg12 : BitVec 32 := Scf.iv c0_i32_54 c1_i32_56 k0_t1
  let v144 : BitVec 32 := Scalar.subi v143 arg12
  let c128_i32_65 : BitVec 32 := 128#32
  let v145 : BitVec 32 := Scalar.muli v144 c128_i32_65
  let v146 : BitVec 32 := v145
  let v147 : Index := Scalar.indexCast v146
  let c0_66 : Index := 0#32
  ![v147.toNat, 0]
@[reducible] def k0_t2_loop (i : grid0.Coords) : Scf.Loop 32 :=
  let c0_i32_54 : BitVec 32 := 0#32
  let arg1 : BitVec 32 := BitVec.ofNat 32 (i 1).val
  let c1_i32 : BitVec 32 := 1#32
  let v131 : BitVec 32 := Scalar.subi arg1 c1_i32
  let c0_i32_52 : BitVec 32 := 0#32
  let v132 : BitVec 32 := Scalar.maxsi v131 c0_i32_52
  let v133 : BitVec 32 := Scalar.subi v132 c0_i32_54
  let c1_i32_55 : BitVec 32 := 1#32
  let v135 : BitVec 32 := Scalar.divsi v133 c1_i32_55
  let v136 : BitVec 32 := Scalar.muli v135 c1_i32_55
  let v137 : BitVec 32 := Scalar.addi c0_i32_54 v136
  let v134 : BitVec 32 := Scalar.addi c0_i32_54 v133
  let c1_i32_57 : BitVec 32 := 1#32
  ⟨v137, v134, c1_i32_57⟩
def k0_mult3 (i : grid0.Coords) (k0_t2 : Fin (k0_t2_loop i).trips) : BitVec 32 :=
  let arg1 : BitVec 32 := BitVec.ofNat 32 (i 1).val
  let c1_i32_64 : BitVec 32 := 1#32
  let v143 : BitVec 32 := Scalar.subi arg1 c1_i32_64
  let c0_i32_54 : BitVec 32 := 0#32
  let c1_i32 : BitVec 32 := 1#32
  let v131 : BitVec 32 := Scalar.subi arg1 c1_i32
  let c0_i32_52 : BitVec 32 := 0#32
  let v132 : BitVec 32 := Scalar.maxsi v131 c0_i32_52
  let v133 : BitVec 32 := Scalar.subi v132 c0_i32_54
  let c1_i32_55 : BitVec 32 := 1#32
  let v135 : BitVec 32 := Scalar.divsi v133 c1_i32_55
  let v136 : BitVec 32 := Scalar.muli v135 c1_i32_55
  let v137 : BitVec 32 := Scalar.addi c0_i32_54 v136
  let c1_i32_57 : BitVec 32 := 1#32
  let arg12 : BitVec 32 := Scf.iv v137 c1_i32_57 k0_t2
  let v144 : BitVec 32 := Scalar.subi v143 arg12
  let c128_i32_65 : BitVec 32 := 128#32
  let v145 : BitVec 32 := Scalar.muli v144 c128_i32_65
  v145
def k0_off3 (i : grid0.Coords) (k0_t2 : Fin (k0_t2_loop i).trips) : Fin 2 → Nat :=
  let arg1 : BitVec 32 := BitVec.ofNat 32 (i 1).val
  let c1_i32_64 : BitVec 32 := 1#32
  let v143 : BitVec 32 := Scalar.subi arg1 c1_i32_64
  let c0_i32_54 : BitVec 32 := 0#32
  let c1_i32 : BitVec 32 := 1#32
  let v131 : BitVec 32 := Scalar.subi arg1 c1_i32
  let c0_i32_52 : BitVec 32 := 0#32
  let v132 : BitVec 32 := Scalar.maxsi v131 c0_i32_52
  let v133 : BitVec 32 := Scalar.subi v132 c0_i32_54
  let c1_i32_55 : BitVec 32 := 1#32
  let v135 : BitVec 32 := Scalar.divsi v133 c1_i32_55
  let v136 : BitVec 32 := Scalar.muli v135 c1_i32_55
  let v137 : BitVec 32 := Scalar.addi c0_i32_54 v136
  let c1_i32_57 : BitVec 32 := 1#32
  let arg12 : BitVec 32 := Scf.iv v137 c1_i32_57 k0_t2
  let v144 : BitVec 32 := Scalar.subi v143 arg12
  let c128_i32_65 : BitVec 32 := 128#32
  let v145 : BitVec 32 := Scalar.muli v144 c128_i32_65
  let v146 : BitVec 32 := v145
  let v147 : Index := Scalar.indexCast v146
  let c0_66 : Index := 0#32
  ![v147.toNat, 0]
def k0_cond2 (i : grid0.Coords) : BitVec 1 :=
  let arg1 : BitVec 32 := BitVec.ofNat 32 (i 1).val
  let c0_i32_58 : BitVec 32 := 0#32
  let v138 : BitVec 1 := Scalar.cmpi .sgt arg1 c0_i32_58
  let v139 : BitVec 32 := Scalar.extui v138
  let c0_i32_59 : BitVec 32 := 0#32
  let v140 : BitVec 1 := Scalar.cmpi .ne v139 c0_i32_59
  v140

def k0_mult4 : BitVec 32 :=
  let c0_i32_65 : BitVec 32 := 0#32
  c0_i32_65
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8320x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S1x8320x1536 : Shape := ⟨3, ![1, 8320, 1536]⟩
abbrev S1x8320x512 : Shape := ⟨3, ![1, 8320, 512]⟩
abbrev S1x8320x8x64 : Shape := ⟨4, ![1, 8320, 8, 64]⟩
abbrev S1x8x8320x8320 : Shape := ⟨4, ![1, 8, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S1x8x8320x8319 : Shape := ⟨4, ![1, 8, 8320, 8319]⟩
abbrev S1x8x8320x1 : Shape := ⟨4, ![1, 8, 8320, 1]⟩
abbrev S1x8x64x8320 : Shape := ⟨4, ![1, 8, 64, 8320]⟩
abbrev S8320x512 : Shape := ⟨2, ![8320, 512]⟩

abbrev nBuf : Space → Nat
  | .hbm => 63
  | .vmem => 0
  | .smem => 0
  | _ => 0

abbrev bufTy : (tb : Table) → Fin (tcTables nBuf tb) → BufTy
  | .hbm, ⟨0, _⟩ => ⟨S1x8320x1536, .f32⟩
  | .hbm, ⟨1, _⟩ => ⟨S1x8320x512, .f32⟩
  | .hbm, ⟨2, _⟩ => ⟨S1x8320x512, .f32⟩
  | .hbm, ⟨3, _⟩ => ⟨S1x8320x512, .f32⟩
  | .hbm, ⟨4, _⟩ => ⟨S1x8320x8x64, .f32⟩
  | .hbm, ⟨5, _⟩ => ⟨S1x8320x8x64, .f32⟩
  | .hbm, ⟨6, _⟩ => ⟨S1x8320x8x64, .f32⟩
  | .hbm, ⟨7, _⟩ => ⟨S1x8x8320x8320, .f32⟩
  | .hbm, ⟨8, _⟩ => ⟨S_, .f32⟩
  | .hbm, ⟨9, _⟩ => ⟨S1x8x8320x8320, .f32⟩
  | .hbm, ⟨10, _⟩ => ⟨S1x8x8320x8320, .f32⟩
  | .hbm, ⟨11, _⟩ => ⟨S8320, .i32⟩
  | .hbm, ⟨12, _⟩ => ⟨S_, .i32⟩
  | .hbm, ⟨13, _⟩ => ⟨S8320, .i32⟩
  | .hbm, ⟨14, _⟩ => ⟨S8320, .i1⟩
  | .hbm, ⟨15, _⟩ => ⟨S1x8320, .i32⟩
  | .hbm, ⟨16, _⟩ => ⟨S8320x1, .i32⟩
  | .hbm, ⟨17, _⟩ => ⟨S8320x8320, .i32⟩
  | .hbm, ⟨18, _⟩ => ⟨S8320x8320, .i32⟩
  | .hbm, ⟨19, _⟩ => ⟨S8320x8320, .i1⟩
  | .hbm, ⟨20, _⟩ => ⟨S1x8320, .i1⟩
  | .hbm, ⟨21, _⟩ => ⟨S8320x8320, .i1⟩
  | .hbm, ⟨22, _⟩ => ⟨S8320x8320, .i1⟩
  | .hbm, ⟨23, _⟩ => ⟨S1x8x8320x8320, .f32⟩
  | .hbm, ⟨24, _⟩ => ⟨S_, .f32⟩
  | .hbm, ⟨25, _⟩ => ⟨S1x8x8320x8320, .f32⟩
  | .hbm, ⟨26, _⟩ => ⟨S1x8x8320x8320, .f32⟩
  | .hbm, ⟨27, _⟩ => ⟨S1x8x8320x8320, .f32⟩
  | .hbm, ⟨28, _⟩ => ⟨S1x8x8320x8320, .f32⟩
  | .hbm, ⟨29, _⟩ => ⟨S1x8x8320x8320, .i1⟩
  | .hbm, ⟨30, _⟩ => ⟨S1x8x8320x8320, .f32⟩
  | .hbm, ⟨31, _⟩ => ⟨S1x8x8320x8320, .f32⟩
  | .hbm, ⟨32, _⟩ => ⟨S1x8x8320x8320, .f32⟩
  | .hbm, ⟨33, _⟩ => ⟨S1x8x8320x8320, .f32⟩
  | .hbm, ⟨34, _⟩ => ⟨S1x8x8320x8320, .f32⟩
  | .hbm, ⟨35, _⟩ => ⟨S1x8x8320x8320, .f32⟩
  | .hbm, ⟨36, _⟩ => ⟨S1x8x8320x8320, .f32⟩
  | .hbm, ⟨37, _⟩ => ⟨S1x8x8320x8320, .f32⟩
  | .hbm, ⟨38, _⟩ => ⟨S1x8x8320x8320, .f32⟩
  | .hbm, ⟨39, _⟩ => ⟨S1x8x8320x8320, .f32⟩
  | .hbm, ⟨40, _⟩ => ⟨S_, .f32⟩
  | .hbm, ⟨41, _⟩ => ⟨S_, .f32⟩
  | .hbm, ⟨42, _⟩ => ⟨S1x8x8320x8320, .i1⟩
  | .hbm, ⟨43, _⟩ => ⟨S1x8x8320x8320, .f32⟩
  | .hbm, ⟨44, _⟩ => ⟨S1x8x8320x8320, .f32⟩
  | .hbm, ⟨45, _⟩ => ⟨S_, .f32⟩
  | .hbm, ⟨46, _⟩ => ⟨S_, .f32⟩
  | .hbm, ⟨47, _⟩ => ⟨S1x8x8320x8320, .f32⟩
  | .hbm, ⟨48, _⟩ => ⟨S1x8x8320x8319, .f32⟩
  | .hbm, ⟨49, _⟩ => ⟨S1x8x8320x1, .f32⟩
  | .hbm, ⟨50, _⟩ => ⟨S_, .f32⟩
  | .hbm, ⟨51, _⟩ => ⟨S1x8x8320x1, .f32⟩
  | .hbm, ⟨52, _⟩ => ⟨S1x8x8320x8320, .f32⟩
  | .hbm, ⟨53, _⟩ => ⟨S1x8x8320x8320, .f32⟩
  | .hbm, ⟨54, _⟩ => ⟨S1x8x8320x8320, .f32⟩
  | .hbm, ⟨55, _⟩ => ⟨S_, .f32⟩
  | .hbm, ⟨56, _⟩ => ⟨S_, .f32⟩
  | .hbm, ⟨57, _⟩ => ⟨S1x8x8320x8320, .i1⟩
  | .hbm, ⟨58, _⟩ => ⟨S1x8x8320x8320, .f32⟩
  | .hbm, ⟨59, _⟩ => ⟨S1x8x8320x8320, .f32⟩
  | .hbm, ⟨60, _⟩ => ⟨S1x8x64x8320, .f32⟩
  | .hbm, ⟨61, _⟩ => ⟨S1x8320x8x64, .f32⟩
  | .hbm, ⟨62, _⟩ => ⟨S8320x512, .f32⟩
  | _, _ => ⟨S1x8320x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩

abbrev nD : Nat := 1
abbrev τ : Topo := Topo.v7x

variable {F : FTy → Type} [FloatOps F]
-- ==== Kernel6.lean ====
abbrev S1x8320x2816 : Shape := ⟨3, ![1, 8320, 2816]⟩
abbrev S1x16 : Shape := ⟨2, ![1, 16]⟩
abbrev S32 : Shape := ⟨1, ![32]⟩
abbrev S_ : Shape := ⟨0, ![]⟩
abbrev S8320 : Shape := ⟨1, ![8320]⟩
abbrev S8320x1 : Shape := ⟨2, ![8320, 1]⟩
abbrev S1x32 : Shape := ⟨2, ![1, 32]⟩
abbrev S8320x32 : Shape := ⟨2, ![8320, 32]⟩
abbrev S1x8320x1x32 : Shape := ⟨4, ![1, 8320, 1, 32]⟩
abbrev S1x8320x4x32 : Shape := ⟨4, ![1, 8320, 4, 32]⟩
abbrev S8320x128 : Shape := ⟨2, ![8320, 128]⟩
abbrev S8320x2816 : Shape := ⟨2, ![8320, 2816]⟩
abbrev S8320x1024 : Shape := ⟨2, ![8320, 1024]⟩
abbrev S128x128 : Shape := ⟨2, ![128, 128]⟩
abbrev S1x128 : Shape := ⟨2, ![1, 128]⟩
abbrev S256x128 : Shape := ⟨2, ![256, 128]⟩
abbrev S128x256 : Shape := ⟨2, ![128, 256]⟩
abbrev S1x1 : Shape := ⟨2, ![1, 1]⟩
abbrev S128 : Shape := ⟨1, ![128]⟩
abbrev S128x1 : Shape := ⟨2, ![128, 1]⟩

abbrev nBuf : Space → Nat
  | .hbm => 30
  | .vmem => 20
  | .smem => 1
  | _ => 0

abbrev bufTy : (tb : Table) → Fin (tcTables nBuf tb) → BufTy
  | .hbm, ⟨0, _⟩ => ⟨S1x8320x2816, .f32⟩
  | .hbm, ⟨1, _⟩ => ⟨S1x16, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S8320, .i32⟩
  | .hbm, ⟨11, _⟩ => ⟨S_, .i32⟩
  | .hbm, ⟨12, _⟩ => ⟨S8320, .i32⟩
  | .hbm, ⟨13, _⟩ => ⟨S8320, .i32⟩
  | .hbm, ⟨14, _⟩ => ⟨S8320, .f32⟩
  | .hbm, ⟨15, _⟩ => ⟨S8320x1, .f32⟩
  | .hbm, ⟨16, _⟩ => ⟨S1x32, .f32⟩
  | .hbm, ⟨17, _⟩ => ⟨S8320x32, .f32⟩
  | .hbm, ⟨18, _⟩ => ⟨S8320x32, .f32⟩
  | .hbm, ⟨19, _⟩ => ⟨S8320x32, .f32⟩
  | .hbm, ⟨20, _⟩ => ⟨S8320x32, .f32⟩
  | .hbm, ⟨21, _⟩ => ⟨S1x8320x1x32, .f32⟩
  | .hbm, ⟨22, _⟩ => ⟨S1x8320x4x32, .f32⟩
  | .hbm, ⟨23, _⟩ => ⟨S8320x128, .f32⟩
  | .hbm, ⟨24, _⟩ => ⟨S8320x32, .f32⟩
  | .hbm, ⟨25, _⟩ => ⟨S1x8320x1x32, .f32⟩
  | .hbm, ⟨26, _⟩ => ⟨S1x8320x4x32, .f32⟩
  | .hbm, ⟨27, _⟩ => ⟨S8320x128, .f32⟩
  | .hbm, ⟨28, _⟩ => ⟨S8320x2816, .f32⟩
  | .hbm, ⟨29, _⟩ => ⟨S8320x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .smem, ⟨0, _⟩ => ⟨S1x16, .f32⟩
  | _, _ => ⟨S1x8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![65, 8], ![false, false]⟩

def k0_off1 (i : grid0.Coords) (c0_i32_63 : BitVec 32) : Fin 2 → Nat :=
  let c0_64 : Index := 0#32
  let c2_i32 : BitVec 32 := 2#32
  let arg1 : BitVec 32 := BitVec.ofNat 32 (i 1).val
  let v164 : BitVec 32 := Scalar.muli c2_i32 arg1
  let v165 : BitVec 32 := Scalar.addi v164 c0_i32_63
  let v166 : Index := Scalar.indexCast v165
  ![0, v166.toNat]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c20_i32 : BitVec 32 := 20#32
  let c0_i32_0 : BitVec 32 := 0#32
  ![v1.toNat, c20_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c21_i32 : BitVec 32 := 21#32
  let c0_i32_0 : BitVec 32 := 0#32
  ![v1.toNat, c21_i32.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, c21_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .smem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S1x8320x2816 : Shape := ⟨3, ![1, 8320, 2816]⟩
abbrev S1x16 : Shape := ⟨2, ![1, 16]⟩
abbrev S1x8320x1536 : Shape := ⟨3, ![1, 8320, 1536]⟩
abbrev S1x8320x1024 : Shape := ⟨3, ![1, 8320, 1024]⟩
abbrev S1x8320x128 : Shape := ⟨3, ![1, 8320, 128]⟩
abbrev S16 : Shape := ⟨1, ![16]⟩
abbrev S8320 : Shape := ⟨1, ![8320]⟩
abbrev S1x8320x16x64 : Shape := ⟨4, ![1, 8320, 16, 64]⟩
abbrev S_ : Shape := ⟨0, ![]⟩
abbrev S32 : Shape := ⟨1, ![32]⟩
abbrev S8320x1 : Shape := ⟨2, ![8320, 1]⟩
abbrev S1x32 : Shape := ⟨2, ![1, 32]⟩
abbrev S8320x32 : Shape := ⟨2, ![8320, 32]⟩
abbrev S1x8320x1x32 : Shape := ⟨4, ![1, 8320, 1, 32]⟩
abbrev S1x8320x16x32 : Shape := ⟨4, ![1, 8320, 16, 32]⟩
abbrev S1x8320x2x64 : Shape := ⟨4, ![1, 8320, 2, 64]⟩
abbrev S1x8320x2x32 : Shape := ⟨4, ![1, 8320, 2, 32]⟩
abbrev S1x65x128x2x8x64 : Shape := ⟨6, ![1, 65, 128, 2, 8, 64]⟩
abbrev S1x65x128x2x64 : Shape := ⟨5, ![1, 65, 128, 2, 64]⟩
abbrev S1x64x128x2x64 : Shape := ⟨5, ![1, 64, 128, 2, 64]⟩
abbrev S1x65x256x2x64 : Shape := ⟨5, ![1, 65, 256, 2, 64]⟩
abbrev S65x128 : Shape := ⟨2, ![65, 128]⟩
abbrev S64x128 : Shape := ⟨2, ![64, 128]⟩
abbrev S65x256 : Shape := ⟨2, ![65, 256]⟩
abbrev S1x65x2x256x128x8 : Shape := ⟨6, ![1, 65, 2, 256, 128, 8]⟩
abbrev S1x65x2x8x128x256 : Shape := ⟨6, ![1, 65, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S65x1x256 : Shape := ⟨3, ![65, 1, 256]⟩
abbrev S65x128x256 : Shape := ⟨3, ![65, 128, 256]⟩
abbrev S1x65x1x1x128x256 : Shape := ⟨6, ![1, 65, 1, 1, 128, 256]⟩
abbrev S2x8 : Shape := ⟨2, ![2, 8]⟩
abbrev S1x1x2x8x1x1 : Shape := ⟨6, ![1, 1, 2, 8, 1, 1]⟩
abbrev S1x65x2x8x128x1 : Shape := ⟨6, ![1, 65, 2, 8, 128, 1]⟩
abbrev S1x65x2x8x128x257 : Shape := ⟨6, ![1, 65, 2, 8, 128, 257]⟩
abbrev S1x65x2x8x128 : Shape := ⟨5, ![1, 65, 2, 8, 128]⟩
abbrev S1x65x2x64x8x128 : Shape := ⟨6, ![1, 65, 2, 64, 8, 128]⟩
abbrev S8320x1024 : Shape := ⟨2, ![8320, 1024]⟩

abbrev nBuf : Space → Nat
  | .hbm => 156
  | .vmem => 0
  | .smem => 0
  | _ => 0

abbrev hbmTy0_0 (i : Nat) : BufTy := match i % 128 with
  | 0 => ⟨S1x8320x2816, .f32⟩
  | 1 => ⟨S1x16, .f32⟩
  | 2 => ⟨S1x8320x1536, .f32⟩
  | 3 => ⟨S1x8320x1024, .f32⟩
  | 4 => ⟨S1x8320x128, .f32⟩
  | 5 => ⟨S1x8320x128, .f32⟩
  | 6 => ⟨S16, .f32⟩
  | 7 => ⟨S8320, .i32⟩
  | 8 => ⟨S1x8320x16x64, .f32⟩
  | 9 => ⟨S_, .i32⟩
  | 10 => ⟨S8320, .i32⟩
  | 11 => ⟨S8320, .i32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S8320, .f32⟩
  | 21 => ⟨S8320x1, .f32⟩
  | 22 => ⟨S1x32, .f32⟩
  | 23 => ⟨S8320x32, .f32⟩
  | 24 => ⟨S8320x32, .f32⟩
  | 25 => ⟨S8320x32, .f32⟩
  | 26 => ⟨S8320x32, .f32⟩
  | 27 => ⟨S1x8320x1x32, .f32⟩
  | 28 => ⟨S8320x32, .f32⟩
  | 29 => ⟨S1x8320x1x32, .f32⟩
  | 30 => ⟨S1x8320x16x32, .f32⟩
  | 31 => ⟨S1x8320x16x32, .f32⟩
  | 32 => ⟨S1x8320x16x32, .f32⟩
  | 33 => ⟨S1x8320x16x32, .f32⟩
  | 34 => ⟨S1x8320x16x32, .f32⟩
  | 35 => ⟨S1x8320x16x32, .f32⟩
  | 36 => ⟨S1x8320x16x32, .f32⟩
  | 37 => ⟨S1x8320x16x32, .f32⟩
  | 38 => ⟨S1x8320x16x32, .f32⟩
  | 39 => ⟨S1x8320x16x32, .f32⟩
  | 40 => ⟨S1x8320x16x32, .f32⟩
  | 41 => ⟨S1x8320x16x32, .f32⟩
  | 42 => ⟨S1x8320x16x64, .f32⟩
  | 43 => ⟨S1x8320x2x64, .f32⟩
  | 44 => ⟨S_, .i32⟩
  | 45 => ⟨S8320, .i32⟩
  | 46 => ⟨S8320, .i32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S8320, .f32⟩
  | 56 => ⟨S8320x1, .f32⟩
  | 57 => ⟨S1x32, .f32⟩
  | 58 => ⟨S8320x32, .f32⟩
  | 59 => ⟨S8320x32, .f32⟩
  | 60 => ⟨S8320x32, .f32⟩
  | 61 => ⟨S8320x32, .f32⟩
  | 62 => ⟨S1x8320x1x32, .f32⟩
  | 63 => ⟨S8320x32, .f32⟩
  | 64 => ⟨S1x8320x1x32, .f32⟩
  | 65 => ⟨S1x8320x2x32, .f32⟩
  | 66 => ⟨S1x8320x2x32, .f32⟩
  | 67 => ⟨S1x8320x2x32, .f32⟩
  | 68 => ⟨S1x8320x2x32, .f32⟩
  | 69 => ⟨S1x8320x2x32, .f32⟩
  | 70 => ⟨S1x8320x2x32, .f32⟩
  | 71 => ⟨S1x8320x2x32, .f32⟩
  | 72 => ⟨S1x8320x2x32, .f32⟩
  | 73 => ⟨S1x8320x2x32, .f32⟩
  | 74 => ⟨S1x8320x2x32, .f32⟩
  | 75 => ⟨S1x8320x2x32, .f32⟩
  | 76 => ⟨S1x8320x2x32, .f32⟩
  | 77 => ⟨S1x8320x2x64, .f32⟩
  | 78 => ⟨S1x8320x2x64, .f32⟩
  | 79 => ⟨S_, .i32⟩
  | 80 => ⟨S8320, .i32⟩
  | 81 => ⟨S8320, .i1⟩
  | 82 => ⟨S1x65x128x2x8x64, .f32⟩
  | 83 => ⟨S1x65x128x2x64, .f32⟩
  | 84 => ⟨S1x64x128x2x64, .f32⟩
  | 85 => ⟨S_, .i32⟩
  | 86 => ⟨S_, .f32⟩
  | 87 => ⟨S1x65x128x2x64, .f32⟩
  | 88 => ⟨S1x65x256x2x64, .f32⟩
  | 89 => ⟨S1x65x128x2x64, .f32⟩
  | 90 => ⟨S1x64x128x2x64, .f32⟩
  | 91 => ⟨S_, .i32⟩
  | 92 => ⟨S_, .f32⟩
  | 93 => ⟨S1x65x128x2x64, .f32⟩
  | 94 => ⟨S1x65x256x2x64, .f32⟩
  | 95 => ⟨S65x128, .i1⟩
  | 96 => ⟨S64x128, .i1⟩
  | 97 => ⟨S_, .i1⟩
  | 98 => ⟨S65x128, .i1⟩
  | 99 => ⟨S65x256, .i1⟩
  | 100 => ⟨S1x65x2x256x128x8, .f32⟩
  | 101 => ⟨S1x65x2x8x128x256, .f32⟩
  | 102 => ⟨S_, .f32⟩
  | 103 => ⟨S1x65x2x8x128x256, .f32⟩
  | 104 => ⟨S1x65x2x8x128x256, .f32⟩
  | 105 => ⟨S128, .i32⟩
  | 106 => ⟨S_, .i32⟩
  | 107 => ⟨S128, .i32⟩
  | 108 => ⟨S128, .i32⟩
  | 109 => ⟨S128x1, .i32⟩
  | 110 => ⟨S256, .i32⟩
  | 111 => ⟨S1x256, .i32⟩
  | 112 => ⟨S128x256, .i32⟩
  | 113 => ⟨S128x256, .i32⟩
  | 114 => ⟨S128x256, .i32⟩
  | 115 => ⟨S_, .i32⟩
  | 116 => ⟨S128x256, .i32⟩
  | 117 => ⟨S128x256, .i1⟩
  | 118 => ⟨S_, .i32⟩
  | 119 => ⟨S128x256, .i32⟩
  | 120 => ⟨S128x256, .i1⟩
  | 121 => ⟨S128x256, .i1⟩
  | 122 => ⟨S1x128x256, .i1⟩
  | 123 => ⟨S65x1x256, .i1⟩
  | 124 => ⟨S65x128x256, .i1⟩
  | 125 => ⟨S65x128x256, .i1⟩
  | 126 => ⟨S65x128x256, .i1⟩
  | 127 => ⟨S1x65x1x1x128x256, .i1⟩
  | _ => ⟨S1x8320x2816, .f32⟩

abbrev hbmTy0_1 (i : Nat) : BufTy := match i % 128 with
  | 0 => ⟨S_, .f32⟩
  | 1 => ⟨S_, .f32⟩
  | 2 => ⟨S1x65x2x8x128x256, .i1⟩
  | 3 => ⟨S1x65x2x8x128x256, .f32⟩
  | 4 => ⟨S1x65x2x8x128x256, .f32⟩
  | 5 => ⟨S2x8, .f32⟩
  | 6 => ⟨S1x1x2x8x1x1, .f32⟩
  | 7 => ⟨S1x65x2x8x128x1, .f32⟩
  | 8 => ⟨S1x65x2x8x128x257, .f32⟩
  | 9 => ⟨S_, .f32⟩
  | 10 => ⟨S1x65x2x8x128, .f32⟩
  | 11 => ⟨S_, .f32⟩
  | 12 => ⟨S1x65x2x8x128, .f32⟩
  | 13 => ⟨S1x65x2x8x128, .f32⟩
  | 14 => ⟨S1x65x2x8x128x1, .f32⟩
  | 15 => ⟨S1x65x2x8x128x257, .f32⟩
  | 16 => ⟨S1x65x2x8x128x257, .f32⟩
  | 17 => ⟨S1x65x2x8x128x257, .f32⟩
  | 18 => ⟨S_, .f32⟩
  | 19 => ⟨S1x65x2x8x128, .f32⟩
  | 20 => ⟨S1x65x2x8x128x1, .f32⟩
  | 21 => ⟨S1x65x2x8x128x257, .f32⟩
  | 22 => ⟨S1x65x2x8x128x257, .f32⟩
  | 23 => ⟨S1x65x2x8x128x256, .f32⟩
  | 24 => ⟨S1x65x2x64x8x128, .f32⟩
  | 25 => ⟨S1x65x128x2x8x64, .f32⟩
  | 26 => ⟨S1x8320x1024, .f32⟩
  | 27 => ⟨S8320x1024, .f32⟩
  | _ => ⟨S1x8320x2816, .f32⟩

abbrev hbmTy (i : Nat) : BufTy := match i / 128 with
  | 0 => hbmTy0_0 i
  | 1 => hbmTy0_1 i
  | _ => ⟨S1x8320x2816, .f32⟩

abbrev bufTy : (tb : Table) → Fin (tcTables nBuf tb) → BufTy
  | .hbm, ⟨i, _⟩ => hbmTy i
  | _, _ => ⟨S1x8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_c_1 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_c_4 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_c_5 : Ref sig .tc := ⟨.hbm, 85, rfl⟩
abbrev main_call0_v0 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_c_6 : Ref sig .tc := ⟨.hbm, 91, rfl⟩
abbrev main_call1_v0 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_c_7 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_8 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_c_9 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_c_10 : Ref sig .tc := ⟨.hbm, 115, rfl⟩
abbrev main_v99 : Ref sig .tc := ⟨.hbm, 116, rfl⟩
abbrev main_v100 : Ref sig .tc := ⟨.hbm, 117, rfl⟩
abbrev main_c_11 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_cst_12 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_13 : Ref sig .tc := ⟨.hbm, 137, rfl⟩
abbrev main_v115 : Ref sig .tc := ⟨.hbm, 138, rfl⟩
abbrev main_cst_14 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_15 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩

abbrev nD : Nat := 1
abbrev τ : Topo := Topo.v7x

variable {F : FTy → Type} [FloatOps F]
-- ==== Kernel7.lean ====
abbrev S1x8192x1024 : Shape := ⟨3, ![1, 8192, 1024]⟩
abbrev S16x1024 : Shape := ⟨2, ![16, 1024]⟩
abbrev S1x1024 : Shape := ⟨2, ![1, 1024]⟩
abbrev S1x1024x6400 : Shape := ⟨3, ![1, 1024, 6400]⟩
abbrev S_ : Shape := ⟨0, ![]⟩
abbrev S112x1024 : Shape := ⟨2, ![112, 1024]⟩
abbrev S8192x1024 : Shape := ⟨2, ![8192, 1024]⟩
abbrev S8320x1024 : Shape := ⟨2, ![8320, 1024]⟩
abbrev S1024x6400 : Shape := ⟨2, ![1024, 6400]⟩
abbrev S1024x3584 : Shape := ⟨2, ![1024, 3584]⟩
abbrev S8320x3584 : Shape := ⟨2, ![8320, 3584]⟩
abbrev S640x1024 : Shape := ⟨2, ![640, 1024]⟩
abbrev S1024x1792 : Shape := ⟨2, ![1024, 1792]⟩
abbrev S640x1792 : Shape := ⟨2, ![640, 1792]⟩
abbrev S640 : Shape := ⟨1, ![640]⟩
abbrev S640x1 : Shape := ⟨2, ![640, 1]⟩

abbrev nBuf : Space → Nat
  | .hbm => 13
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S16x1024, .f32⟩
  | .hbm, ⟨2, _⟩ => ⟨S1x1024, .f32⟩
  | .hbm, ⟨3, _⟩ => ⟨S1x1024x6400, .f32⟩
  | .hbm, ⟨4, _⟩ => ⟨S_, .f32⟩
  | .hbm, ⟨5, _⟩ => ⟨S112x1024, .f32⟩
  | .hbm, ⟨6, _⟩ => ⟨S8192x1024, .f32⟩
  | .hbm, ⟨7, _⟩ => ⟨S8320x1024, .f32⟩
  | .hbm, ⟨8, _⟩ => ⟨S1024x6400, .f32⟩
  | .hbm, ⟨9, _⟩ => ⟨S1024x6400, .bf16⟩
  | .hbm, ⟨10, _⟩ => ⟨S1024x3584, .bf16⟩
  | .hbm, ⟨11, _⟩ => ⟨S8320x3584, .f32⟩
  | .hbm, ⟨12, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1792, .bf16⟩
  | .local _ .vmem, ⟨5, _⟩ => ⟨S640x1792, .f32⟩
  | .local _ .vmem, ⟨6, _⟩ => ⟨S640x1792, .f32⟩
  | .local _ .vmem, ⟨7, _⟩ => ⟨S640x1024, .bf16⟩
  | .local _ .vmem, ⟨8, _⟩ => ⟨S640x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S1x8192x1024 : Shape := ⟨3, ![1, 8192, 1024]⟩
abbrev S16x1024 : Shape := ⟨2, ![16, 1024]⟩
abbrev S1x1024 : Shape := ⟨2, ![1, 1024]⟩
abbrev S1x1024x6400 : Shape := ⟨3, ![1, 1024, 6400]⟩
abbrev S1x16x1024 : Shape := ⟨3, ![1, 16, 1024]⟩
abbrev S_ : Shape := ⟨0, ![]⟩
abbrev S1x112x1024 : Shape := ⟨3, ![1, 112, 1024]⟩
abbrev S1x8320x1024 : Shape := ⟨3, ![1, 8320, 1024]⟩
abbrev S1024 : Shape := ⟨1, ![1024]⟩
abbrev S1x8320 : Shape := ⟨2, ![1, 8320]⟩
abbrev S1x8320x1 : Shape := ⟨3, ![1, 8320, 1]⟩
abbrev S1x1x1024 : Shape := ⟨3, ![1, 1, 1024]⟩
abbrev S1024x6400 : Shape := ⟨2, ![1024, 6400]⟩
abbrev S1x8320x6400 : Shape := ⟨3, ![1, 8320, 6400]⟩
abbrev S1x8320x3584 : Shape := ⟨3, ![1, 8320, 3584]⟩
abbrev S8320x3584 : Shape := ⟨2, ![8320, 3584]⟩
abbrev S8320x1024 : Shape := ⟨2, ![8320, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S16x1024, .f32⟩
  | .hbm, ⟨2, _⟩ => ⟨S1x1024, .f32⟩
  | .hbm, ⟨3, _⟩ => ⟨S1x1024x6400, .f32⟩
  | .hbm, ⟨4, _⟩ => ⟨S1x16x1024, .f32⟩
  | .hbm, ⟨5, _⟩ => ⟨S_, .f32⟩
  | .hbm, ⟨6, _⟩ => ⟨S1x112x1024, .f32⟩
  | .hbm, ⟨7, _⟩ => ⟨S1x8320x1024, .f32⟩
  | .hbm, ⟨8, _⟩ => ⟨S1024, .f32⟩
  | .hbm, ⟨9, _⟩ => ⟨S1x8320x1024, .f32⟩
  | .hbm, ⟨10, _⟩ => ⟨S_, .f32⟩
  | .hbm, ⟨11, _⟩ => ⟨S1x8320, .f32⟩
  | .hbm, ⟨12, _⟩ => ⟨S1x8320x1, .f32⟩
  | .hbm, ⟨13, _⟩ => ⟨S_, .f32⟩
  | .hbm, ⟨14, _⟩ => ⟨S1x8320x1, .f32⟩
  | .hbm, ⟨15, _⟩ => ⟨S1x8320x1, .f32⟩
  | .hbm, ⟨16, _⟩ => ⟨S_, .f32⟩
  | .hbm, ⟨17, _⟩ => ⟨S1x8320x1, .f32⟩
  | .hbm, ⟨18, _⟩ => ⟨S1x8320x1, .f32⟩
  | .hbm, ⟨19, _⟩ => ⟨S1x8320x1, .f32⟩
  | .hbm, ⟨20, _⟩ => ⟨S1x8320x1024, .f32⟩
  | .hbm, ⟨21, _⟩ => ⟨S1x8320x1024, .f32⟩
  | .hbm, ⟨22, _⟩ => ⟨S1x1x1024, .f32⟩
  | .hbm, ⟨23, _⟩ => ⟨S1x8320x1024, .f32⟩
  | .hbm, ⟨24, _⟩ => ⟨S1x8320x1024, .f32⟩
  | .hbm, ⟨25, _⟩ => ⟨S1024x6400, .f32⟩
  | .hbm, ⟨26, _⟩ => ⟨S1x8320x6400, .f32⟩
  | .hbm, ⟨27, _⟩ => ⟨S1x8320x3584, .f32⟩
  | .hbm, ⟨28, _⟩ => ⟨S8320x3584, .f32⟩
  | .hbm, ⟨29, _⟩ => ⟨S8320x1024, .f32⟩
  | .hbm, ⟨30, _⟩ => ⟨S8320x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel8.lean ====
abbrev S1x8192x1024 : Shape := ⟨3, ![1, 8192, 1024]⟩
abbrev S16x1024 : Shape := ⟨2, ![16, 1024]⟩
abbrev S1x1024 : Shape := ⟨2, ![1, 1024]⟩
abbrev S1x1024x6400 : Shape := ⟨3, ![1, 1024, 6400]⟩
abbrev S1x8320x6400 : Shape := ⟨3, ![1, 8320, 6400]⟩
abbrev S_ : Shape := ⟨0, ![]⟩
abbrev S112x1024 : Shape := ⟨2, ![112, 1024]⟩
abbrev S8192x1024 : Shape := ⟨2, ![8192, 1024]⟩
abbrev S8320x1024 : Shape := ⟨2, ![8320, 1024]⟩
abbrev S8320 : Shape := ⟨1, ![8320]⟩
abbrev S8320x1 : Shape := ⟨2, ![8320, 1]⟩
abbrev S1024x8320 : Shape := ⟨2, ![1024, 8320]⟩
abbrev S8320x6400 : Shape := ⟨2, ![8320, 6400]⟩
abbrev S1024x6400 : Shape := ⟨2, ![1024, 6400]⟩
abbrev S1024x640 : Shape := ⟨2, ![1024, 640]⟩
abbrev S640x1280 : Shape := ⟨2, ![640, 1280]⟩
abbrev S1024x1280 : Shape := ⟨2, ![1024, 1280]⟩

abbrev nBuf : Space → Nat
  | .hbm => 29
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S16x1024, .f32⟩
  | .hbm, ⟨2, _⟩ => ⟨S1x1024, .f32⟩
  | .hbm, ⟨3, _⟩ => ⟨S1x1024x6400, .f32⟩
  | .hbm, ⟨4, _⟩ => ⟨S1x8320x6400, .f32⟩
  | .hbm, ⟨5, _⟩ => ⟨S_, .f32⟩
  | .hbm, ⟨6, _⟩ => ⟨S112x1024, .f32⟩
  | .hbm, ⟨7, _⟩ => ⟨S8192x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .bf16⟩
  | .hbm, ⟨25, _⟩ => ⟨S1024x8320, .bf16⟩
  | .hbm, ⟨26, _⟩ => ⟨S8320x6400, .f32⟩
  | .hbm, ⟨27, _⟩ => ⟨S8320x6400, .bf16⟩
  | .hbm, ⟨28, _⟩ => ⟨S1024x6400, .f32⟩
  | .local _ .vmem, ⟨0, _⟩ => ⟨S1024x640, .bf16⟩
  | .local _ .vmem, ⟨1, _⟩ => ⟨S1024x640, .bf16⟩
  | .local _ .vmem, ⟨2, _⟩ => ⟨S640x1280, .bf16⟩
  | .local _ .vmem, ⟨3, _⟩ => ⟨S640x1280, .bf16⟩
  | .local _ .vmem, ⟨4, _⟩ => ⟨S1024x1280, .f32⟩
  | .local _ .vmem, ⟨5, _⟩ => ⟨S1024x1280, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S1x8192x1024 : Shape := ⟨3, ![1, 8192, 1024]⟩
abbrev S16x1024 : Shape := ⟨2, ![16, 1024]⟩
abbrev S1x1024 : Shape := ⟨2, ![1, 1024]⟩
abbrev S1x1024x6400 : Shape := ⟨3, ![1, 1024, 6400]⟩
abbrev S1x8320x6400 : Shape := ⟨3, ![1, 8320, 6400]⟩
abbrev S1x16x1024 : Shape := ⟨3, ![1, 16, 1024]⟩
abbrev S_ : Shape := ⟨0, ![]⟩
abbrev S1x112x1024 : Shape := ⟨3, ![1, 112, 1024]⟩
abbrev S1x8320x1024 : Shape := ⟨3, ![1, 8320, 1024]⟩
abbrev S1024 : Shape := ⟨1, ![1024]⟩
abbrev S1x8320 : Shape := ⟨2, ![1, 8320]⟩
abbrev S1x8320x1 : Shape := ⟨3, ![1, 8320, 1]⟩
abbrev S1x1x1024 : Shape := ⟨3, ![1, 1, 1024]⟩
abbrev S1024x6400 : Shape := ⟨2, ![1024, 6400]⟩
abbrev S6400x1024 : Shape := ⟨2, ![6400, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S16x1024, .f32⟩
  | .hbm, ⟨2, _⟩ => ⟨S1x1024, .f32⟩
  | .hbm, ⟨3, _⟩ => ⟨S1x1024x6400, .f32⟩
  | .hbm, ⟨4, _⟩ => ⟨S1x8320x6400, .f32⟩
  | .hbm, ⟨5, _⟩ => ⟨S1x16x1024, .f32⟩
  | .hbm, ⟨6, _⟩ => ⟨S_, .f32⟩
  | .hbm, ⟨7, _⟩ => ⟨S1x112x1024, .f32⟩
  | .hbm, ⟨8, _⟩ => ⟨S1x8320x1024, .f32⟩
  | .hbm, ⟨9, _⟩ => ⟨S1024, .f32⟩
  | .hbm, ⟨10, _⟩ => ⟨S1x8320x1024, .f32⟩
  | .hbm, ⟨11, _⟩ => ⟨S_, .f32⟩
  | .hbm, ⟨12, _⟩ => ⟨S1x8320, .f32⟩
  | .hbm, ⟨13, _⟩ => ⟨S1x8320x1, .f32⟩
  | .hbm, ⟨14, _⟩ => ⟨S_, .f32⟩
  | .hbm, ⟨15, _⟩ => ⟨S1x8320x1, .f32⟩
  | .hbm, ⟨16, _⟩ => ⟨S1x8320x1, .f32⟩
  | .hbm, ⟨17, _⟩ => ⟨S_, .f32⟩
  | .hbm, ⟨18, _⟩ => ⟨S1x8320x1, .f32⟩
  | .hbm, ⟨19, _⟩ => ⟨S1x8320x1, .f32⟩
  | .hbm, ⟨20, _⟩ => ⟨S1x8320x1, .f32⟩
  | .hbm, ⟨21, _⟩ => ⟨S1x8320x1024, .f32⟩
  | .hbm, ⟨22, _⟩ => ⟨S1x8320x1024, .f32⟩
  | .hbm, ⟨23, _⟩ => ⟨S1x1x1024, .f32⟩
  | .hbm, ⟨24, _⟩ => ⟨S1x8320x1024, .f32⟩
  | .hbm, ⟨25, _⟩ => ⟨S1x8320x1024, .f32⟩
  | .hbm, ⟨26, _⟩ => ⟨S1024x6400, .f32⟩
  | .hbm, ⟨27, _⟩ => ⟨S1x8320x6400, .f32⟩
  | .hbm, ⟨28, _⟩ => ⟨S6400x1024, .f32⟩
  | .hbm, ⟨29, _⟩ => ⟨S1024x6400, .f32⟩
  | .hbm, ⟨30, _⟩ => ⟨S1x1024x6400, .f32⟩
  | .hbm, ⟨31, _⟩ => ⟨S1024x6400, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel9.lean ====
abbrev S8x8976x128 : Shape := ⟨3, ![8, 8976, 128]⟩
abbrev S8976x128 : Shape := ⟨2, ![8976, 128]⟩
abbrev S8x528x128 : Shape := ⟨3, ![8, 528, 128]⟩
abbrev S528x128 : Shape := ⟨2, ![528, 128]⟩
abbrev S1x528x128 : Shape := ⟨3, ![1, 528, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x8976x128, .f32⟩
  | .hbm, ⟨1, _⟩ => ⟨S8976x128, .f32⟩
  | .hbm, ⟨2, _⟩ => ⟨S8976x128, .f32⟩
  | .hbm, ⟨3, _⟩ => ⟨S8976x128, .f32⟩
  | .hbm, ⟨4, _⟩ => ⟨S8976x128, .f32⟩
  | .hbm, ⟨5, _⟩ => ⟨S8976x128, .f32⟩
  | .hbm, ⟨6, _⟩ => ⟨S8976x128, .f32⟩
  | .hbm, ⟨7, _⟩ => ⟨S8976x128, .f32⟩
  | .local _ .vmem, ⟨0, _⟩ => ⟨S8x528x128, .f32⟩
  | .local _ .vmem, ⟨1, _⟩ => ⟨S8x528x128, .f32⟩
  | .local _ .vmem, ⟨2, _⟩ => ⟨S528x128, .f32⟩
  | .local _ .vmem, ⟨3, _⟩ => ⟨S528x128, .f32⟩
  | .local _ .vmem, ⟨4, _⟩ => ⟨S528x128, .f32⟩
  | .local _ .vmem, ⟨5, _⟩ => ⟨S528x128, .f32⟩
  | .local _ .vmem, ⟨6, _⟩ => ⟨S528x128, .f32⟩
  | .local _ .vmem, ⟨7, _⟩ => ⟨S528x128, .f32⟩
  | .local _ .vmem, ⟨8, _⟩ => ⟨S528x128, .f32⟩
  | .local _ .vmem, ⟨9, _⟩ => ⟨S528x128, .f32⟩
  | .local _ .vmem, ⟨10, _⟩ => ⟨S528x128, .f32⟩
  | .local _ .vmem, ⟨11, _⟩ => ⟨S528x128, .f32⟩
  | .local _ .vmem, ⟨12, _⟩ => ⟨S528x128, .f32⟩
  | .local _ .vmem, ⟨13, _⟩ => ⟨S528x128, .f32⟩
  | .local _ .vmem, ⟨14, _⟩ => ⟨S528x128, .f32⟩
  | .local _ .vmem, ⟨15, _⟩ => ⟨S528x128, .f32⟩
  | _, _ => ⟨S8x8976x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x528x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S528x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S528x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S528x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S528x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S528x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x8976x128 : Shape := ⟨3, ![8, 8976, 128]⟩
abbrev S8976x128 : Shape := ⟨2, ![8976, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8976x128, .f32⟩
  | .hbm, ⟨1, _⟩ => ⟨S8976x128, .f32⟩
  | .hbm, ⟨2, _⟩ => ⟨S8976x128, .f32⟩
  | .hbm, ⟨3, _⟩ => ⟨S8976x128, .f32⟩
  | .hbm, ⟨4, _⟩ => ⟨S_, .f32⟩
  | .hbm, ⟨5, _⟩ => ⟨S8976x128, .f32⟩
  | .hbm, ⟨6, _⟩ => ⟨S_, .f32⟩
  | .hbm, ⟨7, _⟩ => ⟨S8976x128, .f32⟩
  | .hbm, ⟨8, _⟩ => ⟨S8976x128, .f32⟩
  | .hbm, ⟨9, _⟩ => ⟨S_, .f32⟩
  | .hbm, ⟨10, _⟩ => ⟨S8976x128, .f32⟩
  | .hbm, ⟨11, _⟩ => ⟨S8976x128, .f32⟩
  | .hbm, ⟨12, _⟩ => ⟨S8976x128, .f32⟩
  | .hbm, ⟨13, _⟩ => ⟨S_, .f32⟩
  | .hbm, ⟨14, _⟩ => ⟨S8976x128, .f32⟩
  | .hbm, ⟨15, _⟩ => ⟨S8976x128, .f32⟩
  | .hbm, ⟨16, _⟩ => ⟨S8976x128, .f32⟩
  | .hbm, ⟨17, _⟩ => ⟨S_, .f32⟩
  | .hbm, ⟨18, _⟩ => ⟨S8976x128, .f32⟩
  | .hbm, ⟨19, _⟩ => ⟨S8976x128, .f32⟩
  | .hbm, ⟨20, _⟩ => ⟨S8976x128, .f32⟩
  | .hbm, ⟨21, _⟩ => ⟨S_, .f32⟩
  | .hbm, ⟨22, _⟩ => ⟨S8976x128, .f32⟩
  | .hbm, ⟨23, _⟩ => ⟨S8976x128, .f32⟩
  | .hbm, ⟨24, _⟩ => ⟨S_, .f32⟩
  | .hbm, ⟨25, _⟩ => ⟨S8976x128, .f32⟩
  | .hbm, ⟨26, _⟩ => ⟨S8976x128, .f32⟩
  | .hbm, ⟨27, _⟩ => ⟨S8976x128, .f32⟩
  | .hbm, ⟨28, _⟩ => ⟨S_, .f32⟩
  | .hbm, ⟨29, _⟩ => ⟨S8976x128, .f32⟩
  | .hbm, ⟨30, _⟩ => ⟨S8976x128, .f32⟩
  | .hbm, ⟨31, _⟩ => ⟨S8976x128, .f32⟩
  | .hbm, ⟨32, _⟩ => ⟨S_, .f32⟩
  | .hbm, ⟨33, _⟩ => ⟨S8976x128, .f32⟩
  | .hbm, ⟨34, _⟩ => ⟨S8976x128, .f32⟩
  | .hbm, ⟨35, _⟩ => ⟨S8976x128, .f32⟩
  | .hbm, ⟨36, _⟩ => ⟨S_, .f32⟩
  | .hbm, ⟨37, _⟩ => ⟨S8976x128, .f32⟩
  | .hbm, ⟨38, _⟩ => ⟨S8976x128, .f32⟩
  | _, _ => ⟨S8x8976x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.SbSpec.lean ====
/-
  What one tile of the attention's backward kernel computes, written once for the three places of the kernel that
  compute a tile: the diagonal tile, the tiles between and the first tile. Each works on two heads, one after the
  other, with the same operations; they differ only in the mask (none at the tiles between).
-/
module

public import proofs.«01_k».proof.Proof.Gen.KernelIdeal.Skeleton
public import Idealize.ShloMosaic.Lib.Pointwise

@[expose] public section

noncomputable section

namespace Cert.KernelIdeal.Sb

open Idealize.ShloMosaic Idealize.ShloMosaic.TcCoe
open Gen

variable {F : FTy → Type} [FloatOps F]

/-- The zero block. -/
def zb : FVec F S128x128 .f32 := broadcast S128x128 (Scalar.ofBits .f32 0x00000000#32)

/-- A block masked: its entries outside the mask are zero. Without a mask, the block itself. -/
def msk (m : Option (IVec S128x128 1)) (x : FVec F S128x128 .f32) : FVec F S128x128 .f32 :=
  match m with
  | none => x
  | some b => select b x zb

/-- A block beside its rounding's rest, in the narrow format. -/
def pair (x : FVec F S128x128 .f32) : FVec F S128x256 .bf16 :=
  concatenate S128x256 1
    [⟨S128x128, truncf .bf16 x bitsLt_bf16_f32⟩,
     ⟨S128x128, truncf .bf16 (subf x (extf .f32 (truncf .bf16 x bitsLt_bf16_f32) bitsLt_bf16_f32)) bitsLt_bf16_f32⟩]
    concatenates_S128x128_S128x128_S128x256_d1

/-- The sums over the columns behind each column: the block times the stacked triangle. -/
def behind (u : Vec F S256x128 .bf16) (x : FVec F S128x128 .f32) : FVec F S128x128 .f32 :=
  matmul dot_S128x256_S256x128_S128x128_1_0_0_1_n_n none (pair x) u (constant S128x128 .f32 0x00000000#32)

/-- The products of the rows of two blocks. -/
def rowsDot (q k : Vec F S128x128 .bf16) : FVec F S128x128 .f32 :=
  matmul dot_S128x128_S128x128_S128x128_1_1_0_0_n_n none q k (constant S128x128 .f32 0x00000000#32)

/-- `log (1 + exp (-|z|))` of the scores. -/
def tSp (q k : Vec F S128x128 .bf16) : FVec F S128x128 .f32 := log1p (exp (subf zb (absf (rowsDot q k))))
/-- The logarithm of the scores' sigmoid. -/
def tLb (q k : Vec F S128x128 .bf16) : FVec F S128x128 .f32 := subf (minimumf (rowsDot q k) zb) (tSp q k)
/-- The logarithm of one minus the scores' sigmoid, masked. -/
def tLm (m : Option (IVec S128x128 1)) (q k : Vec F S128x128 .bf16) : FVec F S128x128 .f32 :=
  msk m (subf (subf zb (maximumf (rowsDot q k) zb)) (tSp q k))
/-- A carried column as a column. -/
def col (c : Vec F S1x128x1 .f32) : FVec F S128x1 .f32 := shapeCast S128x1 c shapeCasts_S1x128x1_S128x1
/-- The weights. -/
def tW (m : Option (IVec S128x128 1)) (q k : Vec F S128x128 .bf16) (u : Vec F S256x128 .bf16) (c : Vec F S1x128x1 .f32) :
    FVec F S128x128 .bf16 :=
  truncf .bf16 (msk m (exp (addf (addf (tLb q k) (behind u (tLm m q k))) (broadcastTo S128x128 (col c) broadcasts_S128x1_S128x128))))
    bitsLt_bf16_f32
/-- The weights times their gradient. -/
def tE (m : Option (IVec S128x128 1)) (q k d v : Vec F S128x128 .bf16) (u : Vec F S256x128 .bf16) (c : Vec F S1x128x1 .f32) :
    FVec F S128x128 .f32 :=
  mulf (extf .f32 (tW m q k u c) bitsLt_bf16_f32) (rowsDot d v)
/-- The column carried on: with the block's sum added. -/
def tNext (u : Vec F S256x128 .bf16) (c : Vec F S1x128x1 .f32) (x : FVec F S128x128 .f32) : FVec F S1x128x1 .f32 :=
  shapeCast S1x128x1
    (addf (addf (col c) (extractStridedSlice S128x1 ![0, 0] (behind u x) slices_S128x128_o0_0_S128x1))
      (extractStridedSlice S128x1 ![0, 0] x slices_S128x128_o0_0_S128x1))
    shapeCasts_S128x1_S1x128x1
/-- The scores' gradient. -/
def tDz (m : Option (IVec S128x128 1)) (q k d v : Vec F S128x128 .bf16) (u : Vec F S256x128 .bf16) (c ce : Vec F S1x128x1 .f32)
    (ds : FVec F S128x1 .f32) : FVec F S128x128 .bf16 :=
  truncf .bf16
    (msk m (subf (tE m q k d v u c)
      (mulf (exp (tLb q k))
        (subf (subf (broadcastTo S128x128 ds broadcasts_S128x1_S128x128) (behind u (tE m q k d v u c)))
          (broadcastTo S128x128 (col ce) broadcasts_S128x1_S128x128)))))
    bitsLt_bf16_f32
/-- A block with the product of two blocks added. -/
def plusDot (x : FVec F S128x128 .f32) (a b : Vec F S128x128 .bf16) : FVec F S128x128 .f32 :=
  addf x (matmul dot_S128x128_S128x128_S128x128_1_0_0_1_n_n none a b (constant S128x128 .f32 0x00000000#32))
/-- A block with the product of a block's transpose and a block added. -/
def plusDotT (x : FVec F S128x128 .f32) (a b : Vec F S128x128 .bf16) : FVec F S128x128 .f32 :=
  addf x (matmul dot_S128x128_S128x128_S128x128_0_0_1_1_n_n none a b (constant S128x128 .f32 0x00000000#32))

/-! ## Rows of the long arrays -/

/-- Where the rows of block `j` lie. -/
abbrev rowRect (j : Nat) (h : ∀ a : Fin 2, (![128 * j, 0] : Fin 2 → Nat) a + S128x128.size a ≤ S8320x128.size a) :
    Rect S8320x128 := Rect.unit (s := S8320x128) ![128 * j, 0] S128x128.size h

theorem row_inb (j : Fin 65) (a : Fin 2) : (![128 * j.val, 0] : Fin 2 → Nat) a + S128x128.size a ≤ S8320x128.size a := by
  match a with
  | ⟨0, _⟩ => show 128 * j.val + 128 ≤ 8320; omega
  | ⟨1, _⟩ => show 0 + 128 ≤ 128; omega

/-- The rows of block `j`. -/
def rows {e : EltTy} (j : Fin 65) (x : Vec F S8320x128 e) : Vec F S128x128 e :=
  fun p => x (ix2 ⟨128 * j.val + (p 0).val, by have := (p 0).isLt; change (p 0).val < 128 at this; show _ < 8320; omega⟩ (p 1))

/-- The array with the rows of block `j` replaced. -/
def putRows {e : EltTy} (j : Fin 65) (y : Vec F S128x128 e) (x : Vec F S8320x128 e) : Vec F S8320x128 e :=
  fun p => if h : 128 * j.val ≤ (p 0).val ∧ (p 0).val < 128 * j.val + 128
    then y (ix2 ⟨(p 0).val - 128 * j.val, by show _ < 128; omega⟩ (p 1)) else x p

/-- Column `a` of the two carried ones. -/
def colOf {e : EltTy} (a : Fin 2) (x : Vec F S2x128x1 e) : Vec F S1x128x1 e := fun p => x (ix3 a (p 1) (p 2))

/-- The carried columns with column `a` replaced. -/
def putCol {e : EltTy} (a : Fin 2) (y : Vec F S1x128x1 e) (x : Vec F S2x128x1 e) : Vec F S2x128x1 e :=
  fun p => if (p 0).val = a.val then y (ix3 0 (p 1) (p 2)) else x p

/-! ## A tile -/

/-- What the body carries from tile to tile: the gradients of the keys and of the values of the whole sequence, the
    gradient of the row block's queries, and the two carried columns of each of the two heads. -/
structure St (F : FTy → Type) where
  dk : Vec F S8320x128 .f32
  dv : Vec F S8320x128 .f32
  dq : Vec F S128x128 .f32
  c : Vec F S2x128x1 .f32
  ce : Vec F S2x128x1 .f32

/-- What the body reads: the keys, each head's keys alone, the values, the stacked triangle, and of the row block each
    head's queries, output gradient and row sums. -/
structure Env (F : FTy → Type) where
  kb : Vec F S8320x128 .bf16
  ka : Vec F S8320x128 .bf16
  kc : Vec F S8320x128 .bf16
  vb : Vec F S8320x128 .bf16
  u : Vec F S256x128 .bf16
  q0 : FVec F S128x128 .bf16
  q1 : FVec F S128x128 .bf16
  d0 : FVec F S128x128 .bf16
  d1 : FVec F S128x128 .bf16
  s0 : FVec F S128x1 .f32
  s1 : FVec F S128x1 .f32

section
variable (E : Env F) (m : Option (IVec S128x128 1)) (j : Fin 65) (s : St F)

/-- The tile's gradient of the scores, first head. -/
def dz0 : FVec F S128x128 .bf16 :=
  tDz m E.q0 (rows j E.kb) E.d0 (rows j E.vb) E.u (colOf 0 s.c) (colOf 0 s.ce) E.s0
/-- The tile's gradient of the scores, second head. -/
def dz1 : FVec F S128x128 .bf16 :=
  tDz m E.q1 (rows j E.kb) E.d1 (rows j E.vb) E.u (colOf 1 s.c) (colOf 1 s.ce) E.s1

/-- One tile: keys block `j` of the row block. -/
def tile : St F where
  dk := putRows j (plusDotT (plusDotT (rows j s.dk) (dz0 E m j s) E.q0) (dz1 E m j s) E.q1) s.dk
  dv := putRows j (plusDotT (plusDotT (rows j s.dv) (tW m E.q0 (rows j E.kb) E.u (colOf 0 s.c)) E.d0)
    (tW m E.q1 (rows j E.kb) E.u (colOf 1 s.c)) E.d1) s.dv
  dq := plusDot (plusDot s.dq (dz0 E m j s) (rows j E.ka)) (dz1 E m j s) (rows j E.kc)
  c := putCol 1 (tNext E.u (colOf 1 s.c) (tLm m E.q1 (rows j E.kb)))
    (putCol 0 (tNext E.u (colOf 0 s.c) (tLm m E.q0 (rows j E.kb))) s.c)
  ce := putCol 1 (tNext E.u (colOf 1 s.ce) (tE m E.q1 (rows j E.kb) E.d1 (rows j E.vb) E.u (colOf 1 s.c)))
    (putCol 0 (tNext E.u (colOf 0 s.ce) (tE m E.q0 (rows j E.kb) E.d0 (rows j E.vb) E.u (colOf 0 s.c))) s.ce)

theorem tile_dk : (tile E m j s).dk = putRows j (plusDotT (plusDotT (rows j s.dk) (dz0 E m j s) E.q0) (dz1 E m j s) E.q1) s.dk := rfl

theorem tile_dv : (tile E m j s).dv = putRows j (plusDotT (plusDotT (rows j s.dv) (tW m E.q0 (rows j E.kb) E.u (colOf 0 s.c)) E.d0)
    (tW m E.q1 (rows j E.kb) E.u (colOf 1 s.c)) E.d1) s.dv := rfl

theorem tile_dq : (tile E m j s).dq = plusDot (plusDot s.dq (dz0 E m j s) (rows j E.ka)) (dz1 E m j s) (rows j E.kc) := rfl

theorem tile_c : (tile E m j s).c = putCol 1 (tNext E.u (colOf 1 s.c) (tLm m E.q1 (rows j E.kb)))
    (putCol 0 (tNext E.u (colOf 0 s.c) (tLm m E.q0 (rows j E.kb))) s.c) := rfl

theorem tile_ce : (tile E m j s).ce = putCol 1 (tNext E.u (colOf 1 s.ce) (tE m E.q1 (rows j E.kb) E.d1 (rows j E.vb) E.u (colOf 1 s.c)))
    (putCol 0 (tNext E.u (colOf 0 s.ce) (tE m E.q0 (rows j E.kb) E.d0 (rows j E.vb) E.u (colOf 0 s.c))) s.ce) := rfl
end

/-- The row block's operands from its blocks. -/
def env (kb ka kc vb : Vec F S8320x128 .bf16) (u : Vec F S256x128 .bf16) (q o d : Vec F S128x128 .f32) : Env F where
  kb := kb
  ka := ka
  kc := kc
  vb := vb
  u := u
  q0 := k0_pay124 q
  q1 := k0_pay125 q
  d0 := k0_pay127 d
  d1 := k0_pay128 d
  s0 := k0_pay131 (k0_pay130 d o)
  s1 := k0_pay132 k0_pay115 (k0_pay129 d o)

/-- The body's carried values before the first tile. -/
def start (dk dv : Vec F S8320x128 .f32) : St F where
  dk := dk
  dv := dv
  dq := k0_pay133
  c := k0_pay134
  ce := k0_pay135

/-- The mask of the diagonal tile of row block `i`. -/
def diagMask (i : Nat) : IVec S128x128 1 := k0_pay136 (BitVec.ofNat 32 i)

/-- The tiles between: after `n` of them, going from keys block `i - 1` down. -/
def between (E : Env F) (i : Fin 65) (s : St F) : Nat → St F
  | 0 => s
  | n + 1 => tile E none ⟨i.val - 1 - n, by omega⟩ (between E i s n)

/-- What the body leaves at row block `i`. -/
def rowBlock (E : Env F) (i : Fin 65) (s : St F) : St F :=
  if i.val = 0 then tile E (some (diagMask i.val)) i s
  else tile E (some k0_pay78) 0 (between E i (tile E (some (diagMask i.val)) i s) (i.val - 1))

end Cert.KernelIdeal.Sb

end
-- ==== Proof.SbMem.lean ====
/-
  Reading and writing row blocks and carried columns of whole memrefs, and where the kernel's row blocks lie.
-/
module

public import proofs.«01_k».proof.Proof.SbSpec
public import Idealize.ShloMosaic.Lib.WritesUnit
public import Idealize.ShloMosaic.Lib.VecWindow
public import Idealize.ShloMosaic.Lib.Pipeline.Value
public import Idealize.ShloMosaic.Lib.Pipeline.ValueKit.Tiles

@[expose] public section

noncomputable section

namespace Cert.KernelIdeal.Sb

open Idealize.ShloMosaic Idealize.ShloMosaic.TcCoe Idealize.ShloMosaic.Tactic
open Gen

variable {F : FTy → Type} [FloatOps F]

theorem ld_at {s : Shape} {e : EltTy} (X : s.Idx → Elt F e) (off size : Fin s.rank → Nat) (inb) (x : (Rect.unit off size inb).shape.Idx)
    (i : s.Idx) (hi : ∀ a, (i a : Nat) = off a + x a) : View.ld X (Rect.unit off size inb) x = X i :=
  congrArg X (funext fun a => Fin.ext ((Rect.idx_unit_val off size inb x a).trans (hi a).symm))

theorem zeroOff : (![0, 0] : Fin 2 → Nat) = fun _ => 0 := by decide

section
variable {sig : RefSig} {κ : Kind} {sp : Space} {e : EltTy}

/-- Contents that read as `x` are the contents made from `x`. -/
theorem eq_unread {s : Shape} {a : Memref sig κ sp s e} (h : a.IsWhole) {f : BufTy.Contents (Elt F) a.view.ty} {x : s.Idx → Elt F e}
    (hf : a.view.read (Elt F) f = x) : f = h.unread x := by rw [← hf, h.unread_read]

theorem read_rows {a : Memref sig κ sp S8320x128 e} (h : a.IsWhole) (x : Vec F S8320x128 e) (j : Fin 65) {off : Fin 2 → Nat}
    (hoff : off = ![128 * j.val, 0]) (inb : ∀ b, off b + S128x128.size b ≤ S8320x128.size b) :
    a.view.readAt (Elt F) (Rect.unit (s := S8320x128) off S128x128.size inb) (h.unread x) = rows j x := by
  subst hoff
  rw [View.readAt_eq_ld, h.read_unread]
  funext p
  exact Cert.KernelIdeal.Sb.ld_at x _ _ inb p _ (fun b => by
    match b with
    | ⟨0, _⟩ => rfl
    | ⟨1, _⟩ => exact (Nat.zero_add _).symm)

theorem writes_rows {a : Memref sig κ sp S8320x128 e} (h : a.IsWhole) (x : Vec F S8320x128 e) (j : Fin 65) {off : Fin 2 → Nat}
    (hoff : off = ![128 * j.val, 0]) (inb : ∀ b, off b + S128x128.size b ≤ S8320x128.size b) (w : Vec F S128x128 e) :
    a.view.writes (Elt F) (h.unread x) [⟨Rect.unit (s := S8320x128) off S128x128.size inb, w⟩] = h.unread (putRows j w x) := by
  refine eq_unread h (funext fun p => ?_)
  unfold putRows
  by_cases hp : 128 * j.val ≤ (p 0).val ∧ (p 0).val < 128 * j.val + 128
  · rw [dif_pos hp]
    refine View.read_writes_cons_rows_of_mem (d := ![8320, 128]) (o := 128 * j.val) a.view _ inb w [] p _ hoff ?_ ?_
    · show (p 0).val = 128 * j.val + ((p 0).val - 128 * j.val); omega
    · rfl
  · rw [dif_neg hp]
    refine (View.read_writes_cons_rows_of_not_mem (d := ![8320, 128]) (o := 128 * j.val) (W := 128) a.view _ inb w [] p hoff rfl ?_).trans ?_
    · omega
    · exact congrFun (h.read_unread x) p

theorem read_col {a : Memref sig κ sp S2x128x1 e} (h : a.IsWhole) (x : Vec F S2x128x1 e) (b : Fin 2)
    (inb : ∀ k, (![b.val, 0, 0] : Fin 3 → Nat) k + S1x128x1.size k ≤ S2x128x1.size k) :
    a.view.readAt (Elt F) (Rect.unit (s := S2x128x1) ![b.val, 0, 0] S1x128x1.size inb) (h.unread x) = colOf b x := by
  rw [View.readAt_eq_ld, h.read_unread]
  funext p
  exact Cert.KernelIdeal.Sb.ld_at x _ _ inb p _ (fun k => by
    match k with
    | ⟨0, _⟩ => have := (p 0).isLt; change (p 0).val < 1 at this; show b.val = b.val + (p 0).val; omega
    | ⟨1, _⟩ => exact (Nat.zero_add _).symm
    | ⟨2, _⟩ => exact (Nat.zero_add _).symm)

theorem read_cons_col {a : Memref sig κ sp S2x128x1 e} (f : BufTy.Contents (Elt F) a.view.ty) (b : Fin 2)
    (inb : ∀ k, (![b.val, 0, 0] : Fin 3 → Nat) k + S1x128x1.size k ≤ S2x128x1.size k) (w : Vec F S1x128x1 e)
    (L : List (View.Piece (Elt F) S2x128x1 e)) :
    a.view.read (Elt F) (a.view.writes (Elt F) f (⟨Rect.unit (s := S2x128x1) ![b.val, 0, 0] S1x128x1.size inb, w⟩ :: L))
      = putCol b w (a.view.read (Elt F) (a.view.writes (Elt F) f L)) := by
  funext p
  unfold putCol
  by_cases hp : (p 0).val = b.val
  · rw [if_pos hp]
    refine View.read_writes_cons_unit_of_mem a.view f inb w L p _ rfl ?_
    intro k
    match k with
    | ⟨0, _⟩ => exact hp
    | ⟨1, _⟩ => exact (Nat.zero_add _).symm
    | ⟨2, _⟩ => exact (Nat.zero_add _).symm
  · rw [if_neg hp]
    refine View.read_writes_cons_unit_of_not_mem a.view f inb w L p rfl (0 : Fin 3) ?_
    show (p 0).val < b.val ∨ b.val + 1 ≤ (p 0).val
    omega

theorem writes_cols {a : Memref sig κ sp S2x128x1 e} (h : a.IsWhole) (x : Vec F S2x128x1 e)
    (inb0 : ∀ k, (![0, 0, 0] : Fin 3 → Nat) k + S1x128x1.size k ≤ S2x128x1.size k)
    (inb1 : ∀ k, (![1, 0, 0] : Fin 3 → Nat) k + S1x128x1.size k ≤ S2x128x1.size k) (w0 w1 : Vec F S1x128x1 e) :
    a.view.writes (Elt F) (h.unread x)
        [⟨Rect.unit (s := S2x128x1) ![1, 0, 0] S1x128x1.size inb1, w1⟩, ⟨Rect.unit (s := S2x128x1) ![0, 0, 0] S1x128x1.size inb0, w0⟩]
      = h.unread (putCol 1 w1 (putCol 0 w0 x)) := by
  refine eq_unread h ?_
  refine (read_cons_col (h.unread x) 1 inb1 w1 _).trans (congrArg (putCol 1 w1) ((read_cons_col (h.unread x) 0 inb0 w0 []).trans ?_))
  exact congrArg (putCol 0 w0) (h.read_unread x)

theorem writes_cols_whole {a : Memref sig κ sp S2x128x1 e} (h : a.IsWhole) (f : BufTy.Contents (Elt F) a.view.ty) (x : Vec F S2x128x1 e)
    {off : Fin 3 → Nat} (inb : ∀ k, off k + S2x128x1.size k ≤ S2x128x1.size k)
    (inb0 : ∀ k, (![0, 0, 0] : Fin 3 → Nat) k + S1x128x1.size k ≤ S2x128x1.size k)
    (inb1 : ∀ k, (![1, 0, 0] : Fin 3 → Nat) k + S1x128x1.size k ≤ S2x128x1.size k) (w0 w1 : Vec F S1x128x1 e) :
    a.view.writes (Elt F) f
        [⟨Rect.unit (s := S2x128x1) ![1, 0, 0] S1x128x1.size inb1, w1⟩, ⟨Rect.unit (s := S2x128x1) ![0, 0, 0] S1x128x1.size inb0, w0⟩,
          ⟨Rect.unit (s := S2x128x1) off S2x128x1.size inb, x⟩]
      = h.unread (putCol 1 w1 (putCol 0 w0 x)) := by
  refine eq_unread h ?_
  refine (read_cons_col f 1 inb1 w1 _).trans (congrArg (putCol 1 w1) ((read_cons_col f 0 inb0 w0 _).trans ?_))
  exact congrArg (putCol 0 w0) (View.read_writes_full a.view f inb x [])

theorem writes_whole {s : Shape} {a : Memref sig κ sp s e} (h : a.IsWhole) (f : BufTy.Contents (Elt F) a.view.ty) {off : Fin s.rank → Nat}
    (inb : ∀ b, off b + s.size b ≤ s.size b) (w : s.Idx → Elt F e) (L : List (View.Piece (Elt F) s e)) :
    a.view.writes (Elt F) f (⟨Rect.unit off s.size inb, w⟩ :: L) = h.unread w := by
  refine eq_unread h ?_
  exact View.read_writes_full a.view f inb w L

theorem read_whole {s : Shape} {a : Memref sig κ sp s e} (h : a.IsWhole) (x : s.Idx → Elt F e) {off : Fin s.rank → Nat}
    (hoff : off = fun _ => 0) (inb : ∀ b, off b + s.size b ≤ s.size b) :
    a.view.readAt (Elt F) (Rect.unit (s := s) off s.size inb) (h.unread x) = x := by
  rw [View.readAt_eq_ld, h.read_unread, View.ld_unit_zero (S := s) hoff]

theorem colOf_putCol_one {w : Vec F S1x128x1 e} {x : Vec F S2x128x1 e} : colOf 1 (putCol 0 w x) = colOf 1 x := by
  funext p
  unfold colOf putCol
  exact if_neg (show ¬((1:Nat) = 0) by decide)
end

section
variable {sig : RefSig} {e : EltTy}

/-- A column read back from a whole write. -/
theorem cov_col {a : Memref sig .tc .vmem S2x128x1 e} (h : a.IsWhole) (x : Vec F S2x128x1 e) (b : Fin 2) {off : Fin 3 → Nat}
    (inb : ∀ k, off k + S2x128x1.size k ≤ S2x128x1.size k)
    (inb' : ∀ k, (![b.val, 0, 0] : Fin 3 → Nat) k + S1x128x1.size k ≤ S2x128x1.size k) :
    a.view.readCov (Val := Elt F) [⟨Rect.unit (s := S2x128x1) off S2x128x1.size inb, x⟩]
      (Rect.unit (s := S2x128x1) ![b.val, 0, 0] S1x128x1.size inb').toLoadRect = colOf b x := by
  unfold View.readCov
  rw [writes_whole h a.view.junk inb x []]
  exact read_col h x b inb'

/-- The second column read back after the first was written over a whole write. -/
theorem cov_col_one {a : Memref sig .tc .vmem S2x128x1 e} (h : a.IsWhole) (x : Vec F S2x128x1 e) (w : Vec F S1x128x1 e) {off : Fin 3 → Nat}
    (inb : ∀ k, off k + S2x128x1.size k ≤ S2x128x1.size k)
    (inb0 : ∀ k, (![0, 0, 0] : Fin 3 → Nat) k + S1x128x1.size k ≤ S2x128x1.size k)
    (inb1 : ∀ k, (![1, 0, 0] : Fin 3 → Nat) k + S1x128x1.size k ≤ S2x128x1.size k) :
    a.view.readCov (Val := Elt F) [⟨Rect.unit (s := S2x128x1) ![0, 0, 0] S1x128x1.size inb0, w⟩,
        ⟨Rect.unit (s := S2x128x1) off S2x128x1.size inb, x⟩]
      (Rect.unit (s := S2x128x1) ![1, 0, 0] S1x128x1.size inb1).toLoadRect = colOf 1 x := by
  unfold View.readCov
  have hw : a.view.writes (Elt F) a.view.junk [⟨Rect.unit (s := S2x128x1) ![0, 0, 0] S1x128x1.size inb0, w⟩,
      ⟨Rect.unit (s := S2x128x1) off S2x128x1.size inb, x⟩] = h.unread (putCol 0 w x) :=
    eq_unread h ((read_cons_col a.view.junk 0 inb0 w _).trans
      (congrArg (putCol 0 w) (View.read_writes_full a.view a.view.junk inb x [])))
  rw [hw]
  exact (read_col h _ 1 inb1).trans colOf_putCol_one

/-- Rows read back from a whole write. -/
theorem cov_rows {a : Memref sig .tc .vmem S8320x128 e} (h : a.IsWhole) (x : Vec F S8320x128 e) (j : Fin 65) {off off' : Fin 2 → Nat}
    (hoff : off' = ![128 * j.val, 0]) (inb : ∀ b, off b + S8320x128.size b ≤ S8320x128.size b)
    (inb' : ∀ b, off' b + S128x128.size b ≤ S8320x128.size b) :
    a.view.readAt (Elt F) (Rect.unit (s := S8320x128) off' S128x128.size inb').toLoadRect
      (a.view.writes (Elt F) a.view.junk [⟨Rect.unit (s := S8320x128) off S8320x128.size inb, x⟩]) = rows j x := by
  rw [writes_whole h a.view.junk inb x []]
  exact read_rows h x j hoff inb'

/-- Rows written over a whole write. -/
theorem writes_rows_whole {a : Memref sig .tc .vmem S8320x128 e} (h : a.IsWhole) (f : BufTy.Contents (Elt F) a.view.ty) (x : Vec F S8320x128 e) (j : Fin 65)
    {off off' : Fin 2 → Nat} (hoff : off' = ![128 * j.val, 0]) (inb : ∀ b, off b + S8320x128.size b ≤ S8320x128.size b)
    (inb' : ∀ b, off' b + S128x128.size b ≤ S8320x128.size b) (w : Vec F S128x128 e) :
    a.view.writes (Elt F) f [⟨Rect.unit (s := S8320x128) off' S128x128.size inb', w⟩, ⟨Rect.unit (s := S8320x128) off S8320x128.size inb, x⟩]
      = h.unread (putRows j w x) := by
  refine eq_unread h (funext fun p => ?_)
  unfold putRows
  by_cases hp : 128 * j.val ≤ (p 0).val ∧ (p 0).val < 128 * j.val + 128
  · rw [dif_pos hp]
    refine View.read_writes_cons_rows_of_mem (d := ![8320, 128]) (o := 128 * j.val) a.view _ inb' w _ p _ hoff ?_ ?_
    · show (p 0).val = 128 * j.val + ((p 0).val - 128 * j.val); omega
    · rfl
  · rw [dif_neg hp]
    refine (View.read_writes_cons_rows_of_not_mem (d := ![8320, 128]) (o := 128 * j.val) (W := 128) a.view _ inb' w _ p hoff rfl ?_).trans ?_
    · omega
    · exact congrFun (View.read_writes_full a.view f inb x []) p

/-- A whole write read back. -/
theorem cov_whole {s : Shape} {a : Memref sig .tc .vmem s e} (h : a.IsWhole) (x : s.Idx → Elt F e) {off : Fin s.rank → Nat} (hoff : off = fun _ => 0)
    (inb : ∀ b, off b + s.size b ≤ s.size b) (L : List (View.Piece (Elt F) s e)) :
    a.view.readCov (Val := Elt F) (⟨Rect.unit (s := s) off s.size inb, x⟩ :: L) (Rect.unit (s := s) off s.size inb).toLoadRect = x := by
  unfold View.readCov
  rw [writes_whole h a.view.junk inb x L]
  exact read_whole h x hoff inb
end

/-! ## Where the row blocks lie, word against number -/

/-- The diagonal tile's rows. -/
theorem word_row : ∀ n : Fin 65, (Scalar.indexCast (Scalar.muli (BitVec.ofNat 32 n.val) 128#32)).toNat = 128 * n.val := by decide +kernel

/-- The number of tiles between. -/
theorem word_trips : ∀ n : Fin 65, Scf.trips 0#32 (Scalar.addi 0#32 (Scalar.muli (Scalar.divsi
    (Scalar.subi (Scalar.maxsi (Scalar.subi (BitVec.ofNat 32 n.val) 1#32) 0#32) 0#32) 1#32) 1#32)) 1#32 = n.val - 1 := by
  decide +kernel

/-- There is no remainder. -/
theorem word_rest : ∀ n : Fin 65, Scf.trips (Scalar.addi 0#32 (Scalar.muli (Scalar.divsi
    (Scalar.subi (Scalar.maxsi (Scalar.subi (BitVec.ofNat 32 n.val) 1#32) 0#32) 0#32) 1#32) 1#32))
    (Scalar.addi 0#32 (Scalar.subi (Scalar.maxsi (Scalar.subi (BitVec.ofNat 32 n.val) 1#32) 0#32) 0#32)) 1#32 = 0 := by
  decide +kernel

/-- The rows of the tiles between. -/
theorem word_between : ∀ n : Fin 65, ∀ k : Fin 64, k.val < n.val - 1 →
    (Scalar.indexCast (Scalar.muli (Scalar.subi (Scalar.subi (BitVec.ofNat 32 n.val) 1#32) (Scf.iv 0#32 1#32 k.val)) 128#32)).toNat
      = 128 * (n.val - 1 - k.val) := by decide +kernel

theorem off1_eq (i : grid0.Coords) : k0_off1 i = ![128 * (i 1).val, 0] := by
  unfold k0_off1
  dsimp only
  rw [word_row ⟨(i 1).val, (i 1).isLt⟩]

theorem trips1_eq (i : grid0.Coords) : (k0_t1_loop i).trips = (i 1).val - 1 := word_trips ⟨(i 1).val, (i 1).isLt⟩

theorem trips2_eq (i : grid0.Coords) : (k0_t2_loop i).trips = 0 := word_rest ⟨(i 1).val, (i 1).isLt⟩

theorem off2_eq (i : grid0.Coords) (k : Fin (k0_t1_loop i).trips) : k0_off2 i k = ![128 * ((i 1).val - 1 - k.val), 0] := by
  have h : (i 1).val < 65 := (i 1).isLt
  have hk : k.val < (i 1).val - 1 := lt_of_lt_of_eq k.isLt (trips1_eq i)
  have := word_between ⟨(i 1).val, h⟩ ⟨k.val, by omega⟩ hk
  unfold k0_off2
  dsimp only
  exact congrArg (fun x => ![x, 0]) this

end Cert.KernelIdeal.Sb

end
-- ==== Proof.SbTrip.lean ====
/-
  One tile between.
-/
module

public import proofs.«01_k».proof.Proof.SbMem
public import Idealize.ShloMosaic.Lib.Exec
public import Idealize.ShloMosaic.Lib.Tactic
public import Idealize.ShloMosaic.Lib.Pipeline.Kit

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

/-- What the loop over the tiles between holds when the carried values are `s`. -/
abbrev Carried (c : Dev nD) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .bf16) (harg7 : arg7.IsWhole) (arg8 : Memref sig .tc .vmem S128x128 .f32) (harg8 : arg8.IsWhole) (arg9 : Memref sig .tc .vmem S8320x128 .f32) (harg9 : arg9.IsWhole) (arg10 : Memref sig .tc .vmem S8320x128 .f32) (harg10 : arg10.IsWhole) (arg11 : Memref sig .tc .vmem S8320x128 .bf16) (harg11 : arg11.IsWhole) (arg12 : Memref sig .tc .vmem S8320x128 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S128x128 .f32) (harg15 : arg15.IsWhole) (arg16 : Memref sig .tc .vmem S2x128x1 .f32) (harg16 : arg16.IsWhole) (arg17 : Memref sig .tc .vmem S2x128x1 .f32) (harg17 : arg17.IsWhole) (E : Env F) (s : St F) : sProp 𝕄 :=
  iprop((arg7.view.loc (c : Thread nD τ) ↦[arg7.view.set]{fullShare} harg7.unread E.u) ∗ (arg11.view.loc (c : Thread nD τ) ↦[arg11.view.set]{fullShare} harg11.unread E.kb) ∗ (arg12.view.loc (c : Thread nD τ) ↦[arg12.view.set]{fullShare} harg12.unread E.ka) ∗ (arg13.view.loc (c : Thread nD τ) ↦[arg13.view.set]{fullShare} harg13.unread E.kc) ∗ (arg14.view.loc (c : Thread nD τ) ↦[arg14.view.set]{fullShare} harg14.unread E.vb) ∗ (∃ f : BufTy.Contents (Elt F) arg9.view.ty, (arg9.view.loc (c : Thread nD τ) ↦[arg9.view.set]{fullShare} f) ∗ ⌜f = harg9.unread (s.dk)⌝) ∗ (∃ f : BufTy.Contents (Elt F) arg10.view.ty, (arg10.view.loc (c : Thread nD τ) ↦[arg10.view.set]{fullShare} f) ∗ ⌜f = harg10.unread (s.dv)⌝) ∗ (∃ f : BufTy.Contents (Elt F) arg15.view.ty, (arg15.view.loc (c : Thread nD τ) ↦[arg15.view.set]{fullShare} f) ∗ ⌜f = harg15.unread (s.dq)⌝) ∗ (∃ f : BufTy.Contents (Elt F) arg16.view.ty, (arg16.view.loc (c : Thread nD τ) ↦[arg16.view.set]{fullShare} f) ∗ ⌜f = harg16.unread (s.c)⌝) ∗ (∃ f : BufTy.Contents (Elt F) arg17.view.ty, (arg17.view.loc (c : Thread nD τ) ↦[arg17.view.set]{fullShare} f) ∗ ⌜f = harg17.unread (s.ce)⌝))

set_option maxHeartbeats 1600000 in
/-- One trip is one tile without a mask. -/
theorem trip (c : Dev nD) (i : grid0.Coords) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .bf16) (harg7 : arg7.IsWhole) (arg8 : Memref sig .tc .vmem S128x128 .f32) (harg8 : arg8.IsWhole) (arg9 : Memref sig .tc .vmem S8320x128 .f32) (harg9 : arg9.IsWhole) (arg10 : Memref sig .tc .vmem S8320x128 .f32) (harg10 : arg10.IsWhole) (arg11 : Memref sig .tc .vmem S8320x128 .bf16) (harg11 : arg11.IsWhole) (arg12 : Memref sig .tc .vmem S8320x128 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S128x128 .f32) (harg15 : arg15.IsWhole) (arg16 : Memref sig .tc .vmem S2x128x1 .f32) (harg16 : arg16.IsWhole) (arg17 : Memref sig .tc .vmem S2x128x1 .f32) (harg17 : arg17.IsWhole) (arg1 : BitVec 32) (E : Env F) (s : St F) (k : Fin (k0_t1_loop i).trips) (j : Fin 65) (hj : j.val = (i 1).val - 1 - k.val) (Es : Set ℕ) :
    Carried c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E s
      ⊢ wp frame (wpE (defs₀ (F := F)) Variants.none c none) Es (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 E.q0 E.q1 E.d0 E.d1 E.s0 E.s1 k ())
          (fun _ => Carried c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 E (tile E none j s)) := by
  have ho : k0_off2 i k = ![128 * j.val, 0] := by rw [off2_eq, hj]
  unfold k0_t1_body
  simp only [k0_part4_eq_skeleton, k0_part1_eq_skeleton, k0_part2_eq_skeleton, k0_part3_eq_skeleton]
  unfold Carried
  iintro ⟨H7, H11, H12, H13, H14, ⟨%f9, H9, %e9⟩, ⟨%f10, H10, %e10⟩, ⟨%f15, H15, %e15⟩, ⟨%f16, H16, %e16⟩, ⟨%f17, H17, %e17⟩⟩
  subst e9 e10 e15 e16 e17
  sl_exec
  sl_step
  isplitl [H7]; · iexact H7
  isplitl [H11]; · iexact H11
  isplitl [H12]; · iexact H12
  isplitl [H13]; · iexact H13
  isplitl [H14]; · iexact H14
  have rd11 := fun inb => read_rows harg11 E.kb j ho inb
  have rd12 := fun inb => read_rows harg12 E.ka j ho inb
  have rd13 := fun inb => read_rows harg13 E.kc j ho inb
  have rd14 := fun inb => read_rows harg14 E.vb j ho inb
  have rd9 := fun inb => read_rows harg9 s.dk j ho inb
  have rd10 := fun inb => read_rows harg10 s.dv j ho inb
  have rd16_0 : ∀ inb, arg16.view.readAt (Elt F) (Rect.unit (s := S2x128x1) ![0, 0, 0] S1x128x1.size inb) (harg16.unread s.c) = _ := fun inb => read_col harg16 s.c 0 inb
  have rd16_1 : ∀ inb, arg16.view.readAt (Elt F) (Rect.unit (s := S2x128x1) ![1, 0, 0] S1x128x1.size inb) (harg16.unread s.c) = _ := fun inb => read_col harg16 s.c 1 inb
  have rd17_0 : ∀ inb, arg17.view.readAt (Elt F) (Rect.unit (s := S2x128x1) ![0, 0, 0] S1x128x1.size inb) (harg17.unread s.ce) = _ := fun inb => read_col harg17 s.ce 0 inb
  have rd17_1 : ∀ inb, arg17.view.readAt (Elt F) (Rect.unit (s := S2x128x1) ![1, 0, 0] S1x128x1.size inb) (harg17.unread s.ce) = _ := fun inb => read_col harg17 s.ce 1 inb
  have rd7 := fun inb => read_whole harg7 E.u (off := ![0, 0]) zeroOff inb
  have rd15 := fun inb => read_whole harg15 s.dq (off := ![0, 0]) zeroOff inb
  isplitl [H9]
  · iexists _
    isplitl [H9]; · iexact H9
    ipureintro
    refine (writes_rows harg9 s.dk j ho _ _).trans (congrArg harg9.unread ?_)
    unfold tile; dsimp only
    refine congrArg (fun y => putRows j y _) ?_
    sl_unfold_run_names
    simp only [rd11, rd14, rd12, rd13, rd9, rd10, rd16_0, rd16_1, rd17_0, rd17_1, rd7, rd15]
    try simp only [k0_pay4, k0_pay5, k0_pay21, k0_pay23, k0_pay24, k0_pay38, k0_pay39, k0_pay40, shapeCast_self]
    rfl
  isplitl [H10]
  · iexists _
    isplitl [H10]; · iexact H10
    ipureintro
    refine (writes_rows harg10 s.dv j ho _ _).trans (congrArg harg10.unread ?_)
    unfold tile; dsimp only
    refine congrArg (fun y => putRows j y _) ?_
    sl_unfold_run_names
    simp only [rd11, rd14, rd12, rd13, rd9, rd10, rd16_0, rd16_1, rd17_0, rd17_1, rd7, rd15]
    try simp only [k0_pay4, k0_pay5, k0_pay21, k0_pay23, k0_pay24, k0_pay38, k0_pay39, k0_pay40, shapeCast_self]
    rfl
  isplitl [H15]
  · iexists _
    isplitl [H15]; · iexact H15
    ipureintro
    refine (writes_whole harg15 _ _ _ _).trans (congrArg harg15.unread ?_)
    unfold tile; dsimp only
    sl_unfold_run_names
    simp only [rd11, rd14, rd12, rd13, rd9, rd10, rd16_0, rd16_1, rd17_0, rd17_1, rd7, rd15]
    try simp only [k0_pay4, k0_pay5, k0_pay21, k0_pay23, k0_pay24, k0_pay38, k0_pay39, k0_pay40, shapeCast_self]
    rfl
  isplitl [H16]
  · iexists _
    isplitl [H16]; · iexact H16
    ipureintro
    refine (writes_cols harg16 s.c _ _ _ _).trans (congrArg harg16.unread ?_)
    unfold tile; dsimp only
    refine congrArg₂ (fun x y => putCol 1 x (putCol 0 y _)) ?_ ?_
    · sl_unfold_run_names
      simp only [rd11, rd14, rd12, rd13, rd9, rd10, rd16_0, rd16_1, rd17_0, rd17_1, rd7, rd15]
      try simp only [k0_pay4, k0_pay5, k0_pay21, k0_pay23, k0_pay24, k0_pay38, k0_pay39, k0_pay40, shapeCast_self]
      rfl
    · sl_unfold_run_names
      simp only [rd11, rd14, rd12, rd13, rd9, rd10, rd16_0, rd16_1, rd17_0, rd17_1, rd7, rd15]
      try simp only [k0_pay4, k0_pay5, k0_pay21, k0_pay23, k0_pay24, k0_pay38, k0_pay39, k0_pay40, shapeCast_self]
      rfl
  · iexists _
    isplitl [H17]; · iexact H17
    ipureintro
    refine (writes_cols harg17 s.ce _ _ _ _).trans (congrArg harg17.unread ?_)
    unfold tile; dsimp only
    refine congrArg₂ (fun x y => putCol 1 x (putCol 0 y _)) ?_ ?_
    · sl_unfold_run_names
      simp only [rd11, rd14, rd12, rd13, rd9, rd10, rd16_0, rd16_1, rd17_0, rd17_1, rd7, rd15]
      try simp only [k0_pay4, k0_pay5, k0_pay21, k0_pay23, k0_pay24, k0_pay38, k0_pay39, k0_pay40, shapeCast_self]
      rfl
    · sl_unfold_run_names
      simp only [rd11, rd14, rd12, rd13, rd9, rd10, rd16_0, rd16_1, rd17_0, rd17_1, rd7, rd15]
      try simp only [k0_pay4, k0_pay5, k0_pay21, k0_pay23, k0_pay24, k0_pay38, k0_pay39, k0_pay40, shapeCast_self]
      rfl

end Cert.KernelIdeal.Sb

end
-- ==== Proof.SbBodyA.lean ====
/-
  The body at the first row block.
-/
module

public import proofs.«01_k».proof.Proof.SbTrip
public import Idealize.ShloMosaic.Lib.Exec
public import Idealize.ShloMosaic.Lib.Tactic
public import Idealize.ShloMosaic.Lib.Pipeline.Kit

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

set_option maxHeartbeats 3200000 in
/-- The body at a row block that is the first. -/
theorem bodyA (c : Dev nD) (i : grid0.Coords) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .bf16) (harg7 : arg7.IsWhole) (arg8 : Memref sig .tc .vmem S128x128 .f32) (harg8 : arg8.IsWhole) (arg9 : Memref sig .tc .vmem S8320x128 .f32) (harg9 : arg9.IsWhole) (arg10 : Memref sig .tc .vmem S8320x128 .f32) (harg10 : arg10.IsWhole) (arg11 : Memref sig .tc .vmem S8320x128 .bf16) (harg11 : arg11.IsWhole) (arg12 : Memref sig .tc .vmem S8320x128 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S128x128 .f32) (harg15 : arg15.IsWhole) (arg16 : Memref sig .tc .vmem S2x128x1 .f32) (harg16 : arg16.IsWhole) (arg17 : Memref sig .tc .vmem S2x128x1 .f32) (harg17 : arg17.IsWhole) (hc0 : (Scalar.cmpi .ne (Scalar.extui (Scalar.cmpi .eq (BitVec.ofNat 32 (i 1).val) 0#32)) 0#32) = 1#1) (hc1 : ¬k0_cond2 i = 1#1) (hi : (i 1).val = 0)
    (q o d : Vec F S128x128 .f32) (kf vf : Vec F S8320x128 .f32) (u : Vec F S256x128 .bf16)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (Es : Set ℕ) (K : PUnit → sProp 𝕄) :
    iprop((arg2.view.loc (c : Thread nD τ) ↦[arg2.view.set]{fullShare} harg2.unread q) ∗ (arg3.view.loc (c : Thread nD τ) ↦[arg3.view.set]{fullShare} harg3.unread kf) ∗ (arg4.view.loc (c : Thread nD τ) ↦[arg4.view.set]{fullShare} harg4.unread vf) ∗ (arg5.view.loc (c : Thread nD τ) ↦[arg5.view.set]{fullShare} harg5.unread o) ∗ (arg6.view.loc (c : Thread nD τ) ↦[arg6.view.set]{fullShare} harg6.unread d) ∗ (arg7.view.loc (c : Thread nD τ) ↦[arg7.view.set]{fullShare} harg7.unread u) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} harg2.unread q) ∗ (arg3.view.loc (c : Thread nD τ) ↦[arg3.view.set]{fullShare} harg3.unread kf) ∗ (arg4.view.loc (c : Thread nD τ) ↦[arg4.view.set]{fullShare} harg4.unread vf) ∗ (arg5.view.loc (c : Thread nD τ) ↦[arg5.view.set]{fullShare} harg5.unread o) ∗ (arg6.view.loc (c : Thread nD τ) ↦[arg6.view.set]{fullShare} harg6.unread d) ∗ (arg7.view.loc (c : Thread nD τ) ↦[arg7.view.set]{fullShare} harg7.unread u) ∗ (∃ f : BufTy.Contents (Elt F) arg8.view.ty, (arg8.view.loc (c : Thread nD τ) ↦[arg8.view.set]{fullShare} f) ∗ ⌜f = harg8.unread (k0_pay3 (rowBlock (env (k0_pay117 kf) (k0_pay118 kf) (k0_pay119 kf) (k0_pay120 vf) u q o d) (i 1) (start k0_pay121 k0_pay122)).dq)⌝) ∗ (∃ f : BufTy.Contents (Elt F) arg9.view.ty, (arg9.view.loc (c : Thread nD τ) ↦[arg9.view.set]{fullShare} f) ∗ ⌜f = harg9.unread ((rowBlock (env (k0_pay117 kf) (k0_pay118 kf) (k0_pay119 kf) (k0_pay120 vf) u q o d) (i 1) (start k0_pay121 k0_pay122)).dk)⌝) ∗ (∃ f : BufTy.Contents (Elt F) arg10.view.ty, (arg10.view.loc (c : Thread nD τ) ↦[arg10.view.set]{fullShare} f) ∗ ⌜f = harg10.unread ((rowBlock (env (k0_pay117 kf) (k0_pay118 kf) (k0_pay119 kf) (k0_pay120 vf) u q o d) (i 1) (start k0_pay121 k0_pay122)).dv)⌝) ∗ (∃ f : BufTy.Contents (Elt F) arg11.view.ty, (arg11.view.loc (c : Thread nD τ) ↦[arg11.view.set]{fullShare} f) ∗ ⌜f = harg11.unread (k0_pay117 kf)⌝) ∗ (∃ f : BufTy.Contents (Elt F) arg12.view.ty, (arg12.view.loc (c : Thread nD τ) ↦[arg12.view.set]{fullShare} f) ∗ ⌜f = harg12.unread (k0_pay118 kf)⌝) ∗ (∃ f : BufTy.Contents (Elt F) arg13.view.ty, (arg13.view.loc (c : Thread nD τ) ↦[arg13.view.set]{fullShare} f) ∗ ⌜f = harg13.unread (k0_pay119 kf)⌝) ∗ (∃ f : BufTy.Contents (Elt F) arg14.view.ty, (arg14.view.loc (c : Thread nD τ) ↦[arg14.view.set]{fullShare} f) ∗ ⌜f = harg14.unread (k0_pay120 vf)⌝) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) Variants.none c none) Es (cc0_sb_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have ho := off1_eq i
  have ra2 := fun inb => read_whole harg2 q (off := ![0, 0]) zeroOff inb
  have ra5 := fun inb => read_whole harg5 o (off := ![0, 0]) zeroOff inb
  have ra6 := fun inb => read_whole harg6 d (off := ![0, 0]) zeroOff inb
  have ra7 := fun inb => read_whole harg7 u (off := ![0, 0]) zeroOff inb
  have ra3 := fun inb => read_whole harg3 kf (off := ![0, 0]) zeroOff inb
  have ra4 := fun inb => read_whole harg4 vf (off := ![0, 0]) zeroOff inb
  have rb11 := fun inb inb' => cov_rows harg11 (k0_pay117 kf) (i 1) (off := ![0, 0]) ho inb inb'
  have rb12 := fun inb inb' => cov_rows harg12 (k0_pay118 kf) (i 1) (off := ![0, 0]) ho inb inb'
  have rb13 := fun inb inb' => cov_rows harg13 (k0_pay119 kf) (i 1) (off := ![0, 0]) ho inb inb'
  have rb14 := fun inb inb' => cov_rows harg14 (k0_pay120 vf) (i 1) (off := ![0, 0]) ho inb inb'
  have rb9 := fun inb inb' => cov_rows harg9 (k0_pay121 (F := F)) (i 1) (off := ![0, 0]) ho inb inb'
  have rb10 := fun inb inb' => cov_rows harg10 (k0_pay122 (F := F)) (i 1) (off := ![0, 0]) ho inb inb'
  have rc15 := fun inb L => cov_whole (F := F) harg15 k0_pay133 (off := ![0, 0]) zeroOff inb L
  have rc16_0 : ∀ inb inb', arg16.view.readCov (Val := Elt F) [⟨Rect.unit (s := S2x128x1) ![0, 0, 0] S2x128x1.size inb, k0_pay134⟩] (Rect.unit (s := S2x128x1) ![0, 0, 0] S1x128x1.size inb').toLoadRect = _ := fun inb inb' => cov_col harg16 (k0_pay134 (F := F)) 0 inb inb'
  have rc17_0 : ∀ inb inb', arg17.view.readCov (Val := Elt F) [⟨Rect.unit (s := S2x128x1) ![0, 0, 0] S2x128x1.size inb, k0_pay135⟩] (Rect.unit (s := S2x128x1) ![0, 0, 0] S1x128x1.size inb').toLoadRect = _ := fun inb inb' => cov_col harg17 (k0_pay135 (F := F)) 0 inb inb'
  have rc16_1 := fun w inb inb0 inb1 => cov_col_one harg16 (k0_pay134 (F := F)) w (off := ![0, 0, 0]) inb inb0 inb1
  have rc17_1 := fun w inb inb0 inb1 => cov_col_one harg17 (k0_pay135 (F := F)) w (off := ![0, 0, 0]) inb inb0 inb1
  simp only [cc0_sb_attention_bwd_eq_skeleton]; unfold cc0_sb_attention_bwd_skel
  simp only [k0_part13_eq_skeleton, k0_part14_eq_skeleton, k0_part15_eq_skeleton, k0_part16_eq_skeleton, k0_part17_eq_skeleton, k0_part18_eq_skeleton, k0_part9_eq_skeleton, k0_part10_eq_skeleton, k0_part11_eq_skeleton, k0_part12_eq_skeleton]
  iintro ⟨H2, H3, H4, H5, H6, H7, H8, H9, H10, H11, H12, H13, H14, H15, H16, H17, Hk⟩
  sl_exec (disch := first | sl_exact hc0 | sl_exact hc1)
  have htr1 : (k0_t1_loop i).trips = 0 := by rw [trips1_eq, hi]
  have htr := trips2_eq i
  sl_for0 htr1
  sl_for0 htr
  sl_exec (disch := first | sl_exact hc0 | sl_exact hc1)
  sl_step
  have hrow : rowBlock (env (k0_pay117 kf) (k0_pay118 kf) (k0_pay119 kf) (k0_pay120 vf) u q o d) (i 1) (start k0_pay121 k0_pay122) = tile (env (k0_pay117 kf) (k0_pay118 kf) (k0_pay119 kf) (k0_pay120 vf) u q o d) (some (diagMask (i 1).val)) (i 1) (start k0_pay121 k0_pay122) := by
    unfold rowBlock; exact if_pos hi
  rw [hrow]
  have rd15' := fun w inb L => cov_whole (F := F) harg15 w (off := ![0, 0]) zeroOff inb L
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    sl_unfold_run_names
    refine (writes_whole harg8 _ _ _ _).trans (congrArg harg8.unread ?_)
    refine Eq.trans ?_ (congrArg k0_pay3 (tile_dq _ _ _ _).symm)
    sl_unfold_run_names
    simp only [ra2, ra3, ra4, ra5, ra6, ra7, rb9, rb10, rb11, rb12, rb13, rb14, rc15, rd15', rc16_0, rc16_1, rc17_0, rc17_1]
    try simp only [k0_pay137, k0_pay138, k0_pay154, k0_pay155, k0_pay156, k0_pay171, k0_pay172, k0_pay173, shapeCast_self]
    rfl
  isplitl [H9]
  · iexists _
    isplitl [H9]; · iexact H9
    ipureintro
    sl_unfold_run_names
    refine (writes_rows_whole harg9 _ _ (i 1) ho _ _ _).trans (congrArg harg9.unread ?_)
    refine Eq.trans ?_ (tile_dk _ _ _ _).symm
    refine congrArg (fun y => putRows (i 1) y _) ?_
    sl_unfold_run_names
    simp only [ra2, ra3, ra4, ra5, ra6, ra7, rb9, rb10, rb11, rb12, rb13, rb14, rc15, rd15', rc16_0, rc16_1, rc17_0, rc17_1]
    try simp only [k0_pay137, k0_pay138, k0_pay154, k0_pay155, k0_pay156, k0_pay171, k0_pay172, k0_pay173, shapeCast_self]
    rfl
  isplitl [H10]
  · iexists _
    isplitl [H10]; · iexact H10
    ipureintro
    sl_unfold_run_names
    refine (writes_rows_whole harg10 _ _ (i 1) ho _ _ _).trans (congrArg harg10.unread ?_)
    refine Eq.trans ?_ (tile_dv _ _ _ _).symm
    refine congrArg (fun y => putRows (i 1) y _) ?_
    sl_unfold_run_names
    simp only [ra2, ra3, ra4, ra5, ra6, ra7, rb9, rb10, rb11, rb12, rb13, rb14, rc15, rd15', rc16_0, rc16_1, rc17_0, rc17_1]
    try simp only [k0_pay137, k0_pay138, k0_pay154, k0_pay155, k0_pay156, k0_pay171, k0_pay172, k0_pay173, shapeCast_self]
    rfl
  isplitl [H11]
  · iexists _
    isplitl [H11]; · iexact H11
    ipureintro
    sl_unfold_run_names
    refine (writes_whole harg11 _ _ _ _).trans (congrArg harg11.unread ?_)
    simp only [ra2, ra3, ra4, ra5, ra6, ra7, rb9, rb10, rb11, rb12, rb13, rb14, rc15, rd15', rc16_0, rc16_1, rc17_0, rc17_1]
  isplitl [H12]
  · iexists _
    isplitl [H12]; · iexact H12
    ipureintro
    sl_unfold_run_names
    refine (writes_whole harg12 _ _ _ _).trans (congrArg harg12.unread ?_)
    simp only [ra2, ra3, ra4, ra5, ra6, ra7, rb9, rb10, rb11, rb12, rb13, rb14, rc15, rd15', rc16_0, rc16_1, rc17_0, rc17_1]
  isplitl [H13]
  · iexists _
    isplitl [H13]; · iexact H13
    ipureintro
    sl_unfold_run_names
    refine (writes_whole harg13 _ _ _ _).trans (congrArg harg13.unread ?_)
    simp only [ra2, ra3, ra4, ra5, ra6, ra7, rb9, rb10, rb11, rb12, rb13, rb14, rc15, rd15', rc16_0, rc16_1, rc17_0, rc17_1]
  isplitl [H14]
  · iexists _
    isplitl [H14]; · iexact H14
    ipureintro
    sl_unfold_run_names
    refine (writes_whole harg14 _ _ _ _).trans (congrArg harg14.unread ?_)
    simp only [ra2, ra3, ra4, ra5, ra6, ra7, rb9, rb10, rb11, rb12, rb13, rb14, rc15, rd15', rc16_0, rc16_1, rc17_0, rc17_1]
  isplitl [H15]; · iexists _; iexact H15
  isplitl [H16]; · iexists _; iexact H16
  iexists _; iexact H17

end Cert.KernelIdeal.Sb

end
-- ==== Proof.SbBodyB.lean ====
/-
  The body at a row block that is not the first.
-/
module

public import proofs.«01_k».proof.Proof.SbTrip
public import Idealize.ShloMosaic.Lib.Exec
public import Idealize.ShloMosaic.Lib.Tactic
public import Idealize.ShloMosaic.Lib.Pipeline.Kit

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (UR sig nD τ) ℕ

set_option maxHeartbeats 3200000 in
/-- The body at a row block that is not the first. -/
theorem bodyB (c : Dev nD) (i : grid0.Coords) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .bf16) (harg7 : arg7.IsWhole) (arg8 : Memref sig .tc .vmem S128x128 .f32) (harg8 : arg8.IsWhole) (arg9 : Memref sig .tc .vmem S8320x128 .f32) (harg9 : arg9.IsWhole) (arg10 : Memref sig .tc .vmem S8320x128 .f32) (harg10 : arg10.IsWhole) (arg11 : Memref sig .tc .vmem S8320x128 .bf16) (harg11 : arg11.IsWhole) (arg12 : Memref sig .tc .vmem S8320x128 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S128x128 .f32) (harg15 : arg15.IsWhole) (arg16 : Memref sig .tc .vmem S2x128x1 .f32) (harg16 : arg16.IsWhole) (arg17 : Memref sig .tc .vmem S2x128x1 .f32) (harg17 : arg17.IsWhole) (hc0 : ¬(Scalar.cmpi .ne (Scalar.extui (Scalar.cmpi .eq (BitVec.ofNat 32 (i 1).val) 0#32)) 0#32) = 1#1) (hc1 : k0_cond2 i = 1#1) (hi : ¬(i 1).val = 0)
    (q o d : Vec F S128x128 .f32) (kf vf : Vec F S8320x128 .f32) (u : Vec F S256x128 .bf16)
    (dk dv : Vec F S8320x128 .f32) (kb ka kc vb : Vec F S8320x128 .bf16)
    (f8 : BufTy.Contents (Elt F) arg8.view.ty) (f15 : BufTy.Contents (Elt F) arg15.view.ty) (f16 : BufTy.Contents (Elt F) arg16.view.ty) (f17 : BufTy.Contents (Elt F) arg17.view.ty)
    (Es : Set ℕ) (K : PUnit → sProp 𝕄) :
    iprop((arg2.view.loc (c : Thread nD τ) ↦[arg2.view.set]{fullShare} harg2.unread q) ∗ (arg3.view.loc (c : Thread nD τ) ↦[arg3.view.set]{fullShare} harg3.unread kf) ∗ (arg4.view.loc (c : Thread nD τ) ↦[arg4.view.set]{fullShare} harg4.unread vf) ∗ (arg5.view.loc (c : Thread nD τ) ↦[arg5.view.set]{fullShare} harg5.unread o) ∗ (arg6.view.loc (c : Thread nD τ) ↦[arg6.view.set]{fullShare} harg6.unread d) ∗ (arg7.view.loc (c : Thread nD τ) ↦[arg7.view.set]{fullShare} harg7.unread u) ∗ (arg8.view.loc (c : Thread nD τ) ↦[arg8.view.set]{fullShare} f8) ∗ (arg9.view.loc (c : Thread nD τ) ↦[arg9.view.set]{fullShare} harg9.unread dk) ∗ (arg10.view.loc (c : Thread nD τ) ↦[arg10.view.set]{fullShare} harg10.unread dv) ∗ (arg11.view.loc (c : Thread nD τ) ↦[arg11.view.set]{fullShare} harg11.unread kb) ∗ (arg12.view.loc (c : Thread nD τ) ↦[arg12.view.set]{fullShare} harg12.unread ka) ∗ (arg13.view.loc (c : Thread nD τ) ↦[arg13.view.set]{fullShare} harg13.unread kc) ∗ (arg14.view.loc (c : Thread nD τ) ↦[arg14.view.set]{fullShare} harg14.unread vb) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} harg2.unread q) ∗ (arg3.view.loc (c : Thread nD τ) ↦[arg3.view.set]{fullShare} harg3.unread kf) ∗ (arg4.view.loc (c : Thread nD τ) ↦[arg4.view.set]{fullShare} harg4.unread vf) ∗ (arg5.view.loc (c : Thread nD τ) ↦[arg5.view.set]{fullShare} harg5.unread o) ∗ (arg6.view.loc (c : Thread nD τ) ↦[arg6.view.set]{fullShare} harg6.unread d) ∗ (arg7.view.loc (c : Thread nD τ) ↦[arg7.view.set]{fullShare} harg7.unread u)
            ∗ (∃ f : BufTy.Contents (Elt F) arg8.view.ty, (arg8.view.loc (c : Thread nD τ) ↦[arg8.view.set]{fullShare} f) ∗ ⌜f = harg8.unread (k0_pay3 (rowBlock (env kb ka kc vb u q o d) (i 1) (start dk dv)).dq)⌝) ∗ (∃ f : BufTy.Contents (Elt F) arg9.view.ty, (arg9.view.loc (c : Thread nD τ) ↦[arg9.view.set]{fullShare} f) ∗ ⌜f = harg9.unread ((rowBlock (env kb ka kc vb u q o d) (i 1) (start dk dv)).dk)⌝) ∗ (∃ f : BufTy.Contents (Elt F) arg10.view.ty, (arg10.view.loc (c : Thread nD τ) ↦[arg10.view.set]{fullShare} f) ∗ ⌜f = harg10.unread ((rowBlock (env kb ka kc vb u q o d) (i 1) (start dk dv)).dv)⌝)
            ∗ (arg11.view.loc (c : Thread nD τ) ↦[arg11.view.set]{fullShare} harg11.unread kb) ∗ (arg12.view.loc (c : Thread nD τ) ↦[arg12.view.set]{fullShare} harg12.unread ka) ∗ (arg13.view.loc (c : Thread nD τ) ↦[arg13.view.set]{fullShare} harg13.unread kc) ∗ (arg14.view.loc (c : Thread nD τ) ↦[arg14.view.set]{fullShare} harg14.unread vb) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) Variants.none c none) Es (cc0_sb_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have ho := off1_eq i
  have ra2 := fun inb => read_whole harg2 q (off := ![0, 0]) zeroOff inb
  have ra5 := fun inb => read_whole harg5 o (off := ![0, 0]) zeroOff inb
  have ra6 := fun inb => read_whole harg6 d (off := ![0, 0]) zeroOff inb
  have ra7 := fun inb => read_whole harg7 u (off := ![0, 0]) zeroOff inb
  have rb11 := fun inb => read_rows harg11 kb (i 1) ho inb
  have rb12 := fun inb => read_rows harg12 ka (i 1) ho inb
  have rb13 := fun inb => read_rows harg13 kc (i 1) ho inb
  have rb14 := fun inb => read_rows harg14 vb (i 1) ho inb
  have rb9 := fun inb => read_rows harg9 dk (i 1) ho inb
  have rb10 := fun inb => read_rows harg10 dv (i 1) ho inb
  have rc15 := fun inb L => cov_whole (F := F) harg15 k0_pay133 (off := ![0, 0]) zeroOff inb L
  have rc16_0 : ∀ inb inb', arg16.view.readCov (Val := Elt F) [⟨Rect.unit (s := S2x128x1) ![0, 0, 0] S2x128x1.size inb, k0_pay134⟩] (Rect.unit (s := S2x128x1) ![0, 0, 0] S1x128x1.size inb').toLoadRect = _ := fun inb inb' => cov_col harg16 (k0_pay134 (F := F)) 0 inb inb'
  have rc17_0 : ∀ inb inb', arg17.view.readCov (Val := Elt F) [⟨Rect.unit (s := S2x128x1) ![0, 0, 0] S2x128x1.size inb, k0_pay135⟩] (Rect.unit (s := S2x128x1) ![0, 0, 0] S1x128x1.size inb').toLoadRect = _ := fun inb inb' => cov_col harg17 (k0_pay135 (F := F)) 0 inb inb'
  have rc16_1 := fun w inb inb0 inb1 => cov_col_one harg16 (k0_pay134 (F := F)) w (off := ![0, 0, 0]) inb inb0 inb1
  have rc17_1 := fun w inb inb0 inb1 => cov_col_one harg17 (k0_pay135 (F := F)) w (off := ![0, 0, 0]) inb inb0 inb1
  simp only [cc0_sb_attention_bwd_eq_skeleton]; unfold cc0_sb_attention_bwd_skel
  simp only [k0_part13_eq_skeleton, k0_part14_eq_skeleton, k0_part15_eq_skeleton, k0_part16_eq_skeleton, k0_part17_eq_skeleton, k0_part18_eq_skeleton, k0_part9_eq_skeleton, k0_part10_eq_skeleton, k0_part11_eq_skeleton, k0_part12_eq_skeleton]
  iintro ⟨H2, H3, H4, H5, H6, H7, H8, H9, H10, H11, H12, H13, H14, H15, H16, H17, Hk⟩
  sl_exec (disch := first | sl_exact hc0 | sl_exact hc1)
  sl_for (fun n _ => Carried c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (env kb ka kc vb u q o d) (between (env kb ka kc vb u q o d) (i 1) (tile (env kb ka kc vb u q o d) (some (diagMask (i 1).val)) (i 1) (start dk dv)) n)) $$ [H7 H9 H10 H11 H12 H13 H14 H15 H16 H17]
  · intro k acc
    sl_unfold_run_names
    simp only [ra2, ra5, ra6]
    exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (env kb ka kc vb u q o d) _ k ⟨(i 1).val - 1 - k.val, by have := (i 1).isLt; change (i 1).val < 65 at this; omega⟩ rfl Es
  · unfold Carried
    isplitl [H7]; · iexact H7
    isplitl [H11]; · iexact H11
    isplitl [H12]; · iexact H12
    isplitl [H13]; · iexact H13
    isplitl [H14]; · iexact H14
    isplitl [H9]
    · iexists _
      isplitl [H9]; · iexact H9
      ipureintro
      refine (writes_rows harg9 dk (i 1) ho _ _).trans (congrArg harg9.unread ?_)
      refine Eq.trans ?_ (tile_dk _ _ _ _).symm
      refine congrArg (fun y => putRows (i 1) y _) ?_
      sl_unfold_run_names
      simp only [ra2, ra5, ra6, ra7, rb9, rb10, rb11, rb12, rb13, rb14, rc15, rc16_0, rc16_1, rc17_0, rc17_1]
      try simp only [k0_pay137, k0_pay138, k0_pay154, k0_pay155, k0_pay156, k0_pay171, k0_pay172, k0_pay173, shapeCast_self]
      rfl
    isplitl [H10]
    · iexists _
      isplitl [H10]; · iexact H10
      ipureintro
      refine (writes_rows harg10 dv (i 1) ho _ _).trans (congrArg harg10.unread ?_)
      refine Eq.trans ?_ (tile_dv _ _ _ _).symm
      refine congrArg (fun y => putRows (i 1) y _) ?_
      sl_unfold_run_names
      simp only [ra2, ra5, ra6, ra7, rb9, rb10, rb11, rb12, rb13, rb14, rc15, rc16_0, rc16_1, rc17_0, rc17_1]
      try simp only [k0_pay137, k0_pay138, k0_pay154, k0_pay155, k0_pay156, k0_pay171, k0_pay172, k0_pay173, shapeCast_self]
      rfl
    isplitl [H15]
    · iexists _
      isplitl [H15]; · iexact H15
      ipureintro
      sl_unfold_run_names
      refine (writes_whole harg15 _ _ _ _).trans (congrArg harg15.unread ?_)
      refine Eq.trans ?_ (tile_dq _ _ _ _).symm
      sl_unfold_run_names
      simp only [ra2, ra5, ra6, ra7, rb9, rb10, rb11, rb12, rb13, rb14, rc15, rc16_0, rc16_1, rc17_0, rc17_1]
      try simp only [k0_pay137, k0_pay138, k0_pay154, k0_pay155, k0_pay156, k0_pay171, k0_pay172, k0_pay173, shapeCast_self]
      rfl
    isplitl [H16]
    · iexists _
      isplitl [H16]; · iexact H16
      ipureintro
      sl_unfold_run_names
      refine (writes_cols_whole harg16 _ _ _ _ _ _ _).trans (congrArg harg16.unread ?_)
      refine Eq.trans ?_ (tile_c _ _ _ _).symm
      refine congrArg₂ (fun x y => putCol 1 x (putCol 0 y _)) ?_ ?_
      · sl_unfold_run_names
        simp only [ra2, ra5, ra6, ra7, rb9, rb10, rb11, rb12, rb13, rb14, rc15, rc16_0, rc16_1, rc17_0, rc17_1]
        rfl
      · sl_unfold_run_names
        simp only [ra2, ra5, ra6, ra7, rb9, rb10, rb11, rb12, rb13, rb14, rc15, rc16_0, rc16_1, rc17_0, rc17_1]
        rfl
    · iexists _
      isplitl [H17]; · iexact H17
      ipureintro
      sl_unfold_run_names
      refine (writes_cols_whole harg17 _ _ _ _ _ _ _).trans (congrArg harg17.unread ?_)
      refine Eq.trans ?_ (tile_ce _ _ _ _).symm
      refine congrArg₂ (fun x y => putCol 1 x (putCol 0 y _)) ?_ ?_
      · sl_unfold_run_names
        simp only [ra2, ra5, ra6, ra7, rb9, rb10, rb11, rb12, rb13, rb14, rc15, rc16_0, rc16_1, rc17_0, rc17_1]
        rfl
      · sl_unfold_run_names
        simp only [ra2, ra5, ra6, ra7, rb9, rb10, rb11, rb12, rb13, rb14, rc15, rc16_0, rc16_1, rc17_0, rc17_1]
        rfl
  · iintro %acc HI
    unfold Carried
    icases HI with ⟨H7, H11, H12, H13, H14, ⟨%g9, H9, %e9⟩, ⟨%g10, H10, %e10⟩, ⟨%g15, H15, %e15⟩, ⟨%g16, H16, %e16⟩, ⟨%g17, H17, %e17⟩⟩
    have hrow : rowBlock (env kb ka kc vb u q o d) (i 1) (start dk dv) = tile (env kb ka kc vb u q o d) (some k0_pay78) 0 (between (env kb ka kc vb u q o d) (i 1) (tile (env kb ka kc vb u q o d) (some (diagMask (i 1).val)) (i 1) (start dk dv)) (k0_t1_loop i).trips) := by
      rw [trips1_eq]; unfold rowBlock; exact if_neg hi
    rw [hrow]
    generalize between (env kb ka kc vb u q o d) (i 1) (tile (env kb ka kc vb u q o d) (some (diagMask (i 1).val)) (i 1) (start dk dv)) (k0_t1_loop i).trips = s at e9 e10 e15 e16 e17 ⊢
    subst e9 e10 e15 e16 e17
    have htr := trips2_eq i
    sl_for0 htr
    sl_exec (disch := first | sl_exact hc0 | sl_exact hc1)
    sl_step
    have r0 : (![0, 0] : Fin 2 → Nat) = ![128 * (0 : Fin 65).val, 0] := rfl
    have rd11 := fun inb => read_rows harg11 (env kb ka kc vb u q o d).kb 0 r0 inb
    have rd12 := fun inb => read_rows harg12 (env kb ka kc vb u q o d).ka 0 r0 inb
    have rd13 := fun inb => read_rows harg13 (env kb ka kc vb u q o d).kc 0 r0 inb
    have rd14 := fun inb => read_rows harg14 (env kb ka kc vb u q o d).vb 0 r0 inb
    have rd9 := fun inb => read_rows harg9 s.dk 0 r0 inb
    have rd10 := fun inb => read_rows harg10 s.dv 0 r0 inb
    have rd16_0 : ∀ inb, arg16.view.readAt (Elt F) (Rect.unit (s := S2x128x1) ![0, 0, 0] S1x128x1.size inb) (harg16.unread s.c) = _ := fun inb => read_col harg16 s.c 0 inb
    have rd16_1 : ∀ inb, arg16.view.readAt (Elt F) (Rect.unit (s := S2x128x1) ![1, 0, 0] S1x128x1.size inb) (harg16.unread s.c) = _ := fun inb => read_col harg16 s.c 1 inb
    have rd17_0 : ∀ inb, arg17.view.readAt (Elt F) (Rect.unit (s := S2x128x1) ![0, 0, 0] S1x128x1.size inb) (harg17.unread s.ce) = _ := fun inb => read_col harg17 s.ce 0 inb
    have rd17_1 : ∀ inb, arg17.view.readAt (Elt F) (Rect.unit (s := S2x128x1) ![1, 0, 0] S1x128x1.size inb) (harg17.unread s.ce) = _ := fun inb => read_col harg17 s.ce 1 inb
    have rd15 := fun inb => read_whole harg15 s.dq (off := ![0, 0]) zeroOff inb
    have rd15' := fun w inb L => cov_whole (F := F) harg15 w (off := ![0, 0]) zeroOff inb L
    iapply Hk
    isplitl [H2]; · iexact H2
    isplitl [H3]; · iexact H3
    isplitl [H4]; · iexact H4
    isplitl [H5]; · iexact H5
    isplitl [H6]; · iexact H6
    isplitl [H7]; · iexact H7
    isplitl [H8]
    · iexists _
      isplitl [H8]; · iexact H8
      ipureintro
      refine (writes_whole harg8 _ _ _ _).trans (congrArg harg8.unread ?_)
      refine Eq.trans ?_ (congrArg k0_pay3 (tile_dq _ _ _ _).symm)
      sl_unfold_run_names
      simp only [ra2, ra5, ra6, ra7, rd9, rd10, rd11, rd12, rd13, rd14, rd15, rd15', rd16_0, rd16_1, rd17_0, rd17_1]
      try simp only [k0_pay1, k0_pay2, k0_pay79, k0_pay80, k0_pay94, k0_pay95, k0_pay96, k0_pay112, k0_pay113, k0_pay114, shapeCast_self]
      rfl
    isplitl [H9]
    · iexists _
      isplitl [H9]; · iexact H9
      ipureintro
      refine (writes_rows harg9 s.dk 0 r0 _ _).trans (congrArg harg9.unread ?_)
      refine Eq.trans ?_ (tile_dk _ _ _ _).symm
      refine congrArg (fun y => putRows 0 y _) ?_
      sl_unfold_run_names
      simp only [ra2, ra5, ra6, ra7, rd9, rd10, rd11, rd12, rd13, rd14, rd15, rd15', rd16_0, rd16_1, rd17_0, rd17_1]
      try simp only [k0_pay1, k0_pay2, k0_pay79, k0_pay80, k0_pay94, k0_pay95, k0_pay96, k0_pay112, k0_pay113, k0_pay114, shapeCast_self]
      rfl
    isplitl [H10]
    · iexists _
      isplitl [H10]; · iexact H10
      ipureintro
      refine (writes_rows harg10 s.dv 0 r0 _ _).trans (congrArg harg10.unread ?_)
      refine Eq.trans ?_ (tile_dv _ _ _ _).symm
      refine congrArg (fun y => putRows 0 y _) ?_
      sl_unfold_run_names
      simp only [ra2, ra5, ra6, ra7, rd9, rd10, rd11, rd12, rd13, rd14, rd15, rd15', rd16_0, rd16_1, rd17_0, rd17_1]
      try simp only [k0_pay1, k0_pay2, k0_pay79, k0_pay80, k0_pay94, k0_pay95, k0_pay96, k0_pay112, k0_pay113, k0_pay114, shapeCast_self]
      rfl
    isplitl [H11]; · iexact H11
    isplitl [H12]; · iexact H12
    isplitl [H13]; · iexact H13
    isplitl [H14]; · iexact H14
    isplitl [H15]; · iexists _; iexact H15
    isplitl [H16]; · iexists _; iexact H16
    iexists _; iexact H17

end Cert.KernelIdeal.Sb

end
-- ==== Proof.SbCases.lean ====
/-
  The two cases of a grid point of the attention's backward kernel, the memrefs it is handed, and the invariant's
  scratch buffers one by one.
-/
module

public import proofs.«01_k».proof.Proof.Gen.KernelIdeal.Frame
public import Idealize.ShloMosaic.Lib.Pipeline.Value

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 65) — by arithmetic of the point. -/
theorem hcond0_0 : ∀ t : Fin cfg0.N, cond0_0 (grid0.coords t) ↔ t.val % 65 = 0 :=
  (fun t => by
    have ht : t.val < 260 := Nat.lt_of_lt_of_eq t.isLt N_0
    have e0 : (grid0.coords t 0).val = t.val / 65 % 4 := Pipeline.Grid.coords_val t 0 (by decide) rfl
    have e1 : (grid0.coords t 1).val = t.val / 1 % 65 := Pipeline.Grid.coords_val t 1 (by decide) rfl
    simp only [cond0_0, e0, e1]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 65 :=
  (by decide +kernel : ∀ t : Fin grid0.N, cond0_1 (grid0.coords t) ↔ 1 ≤ t.val % 65)

/-! ## The kernel body on any staging memrefs: a subtype the run finds -/

/-- Each window's current staging memref at point `t`, spelled as the pipeline passes it (`bodyAt0`), and its wholeness. -/
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8320x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8320x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8320x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8320x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8320x128 .bf16 := Memref.whole cc0_scratch0
abbrev scM0_1 : Memref sig .tc .vmem S8320x128 .bf16 := Memref.whole cc0_scratch1
abbrev scM0_2 : Memref sig .tc .vmem S8320x128 .bf16 := Memref.whole cc0_scratch2
abbrev scM0_3 : Memref sig .tc .vmem S8320x128 .bf16 := Memref.whole cc0_scratch3
abbrev scM0_4 : Memref sig .tc .vmem S128x128 .f32 := Memref.whole cc0_scratch4
abbrev scM0_5 : Memref sig .tc .vmem S2x128x1 .f32 := Memref.whole cc0_scratch5
abbrev scM0_6 : Memref sig .tc .vmem S2x128x1 .f32 := Memref.whole cc0_scratch6
/-- The scratch `arg11` the kernel carries between points, as a view: what it holds is stated through it. -/
abbrev VS0_0 : View sig .tc .vmem S8320x128 .bf16 := scM0_0.view
/-- The scratch `arg12` the kernel carries between points, as a view: what it holds is stated through it. -/
abbrev VS0_1 : View sig .tc .vmem S8320x128 .bf16 := scM0_1.view
/-- The scratch `arg13` the kernel carries between points, as a view: what it holds is stated through it. -/
abbrev VS0_2 : View sig .tc .vmem S8320x128 .bf16 := scM0_2.view
/-- The scratch `arg14` the kernel carries between points, as a view: what it holds is stated through it. -/
abbrev VS0_3 : View sig .tc .vmem S8320x128 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Sb

end
-- ==== Proof.SbOwns.lean ====
/-
  The body's two triples over what the memrefs hold.
-/
module

public import proofs.«01_k».proof.Proof.SbBodyA
public import proofs.«01_k».proof.Proof.SbBodyB
public import proofs.«01_k».proof.Proof.SbCases

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

set_option maxHeartbeats 1600000 in
/-- The body at the first row block, over the memrefs' contents. -/
theorem ownsA (c : Dev nD) (i : grid0.Coords) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .bf16) (harg7 : arg7.IsWhole) (arg8 : Memref sig .tc .vmem S128x128 .f32) (harg8 : arg8.IsWhole) (arg9 : Memref sig .tc .vmem S8320x128 .f32) (harg9 : arg9.IsWhole) (arg10 : Memref sig .tc .vmem S8320x128 .f32) (harg10 : arg10.IsWhole) (arg11 : Memref sig .tc .vmem S8320x128 .bf16) (harg11 : arg11.IsWhole) (arg12 : Memref sig .tc .vmem S8320x128 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S128x128 .f32) (harg15 : arg15.IsWhole) (arg16 : Memref sig .tc .vmem S2x128x1 .f32) (harg16 : arg16.IsWhole) (arg17 : Memref sig .tc .vmem S2x128x1 .f32) (harg17 : arg17.IsWhole) (hc0 : cond0_0 i) (hc1 : ¬cond0_1 i) (hi : (i 1).val = 0)
    (q o d : Vec F S128x128 .f32) (kf vf : Vec F S8320x128 .f32) (u : Vec F S256x128 .bf16) (Es : Set ℕ) (K : PUnit → sProp 𝕄) :
    iprop(owns (c : Thread nD τ) arg2 fullShare q ∗ owns (c : Thread nD τ) arg3 fullShare kf ∗ owns (c : Thread nD τ) arg4 fullShare vf ∗ owns (c : Thread nD τ) arg5 fullShare o ∗ owns (c : Thread nD τ) arg6 fullShare d ∗ owns (c : Thread nD τ) arg7 fullShare u ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare q ∗ owns (c : Thread nD τ) arg3 fullShare kf ∗ owns (c : Thread nD τ) arg4 fullShare vf ∗ owns (c : Thread nD τ) arg5 fullShare o ∗ owns (c : Thread nD τ) arg6 fullShare d ∗ owns (c : Thread nD τ) arg7 fullShare u ∗ owns (c : Thread nD τ) arg8 fullShare (k0_pay3 (rowBlock (env (k0_pay117 kf) (k0_pay118 kf) (k0_pay119 kf) (k0_pay120 vf) u q o d) (i 1) (start k0_pay121 k0_pay122)).dq) ∗ owns (c : Thread nD τ) arg9 fullShare (rowBlock (env (k0_pay117 kf) (k0_pay118 kf) (k0_pay119 kf) (k0_pay120 vf) u q o d) (i 1) (start k0_pay121 k0_pay122)).dk ∗ owns (c : Thread nD τ) arg10 fullShare (rowBlock (env (k0_pay117 kf) (k0_pay118 kf) (k0_pay119 kf) (k0_pay120 vf) u q o d) (i 1) (start k0_pay121 k0_pay122)).dv ∗ owns (c : Thread nD τ) arg11 fullShare (k0_pay117 kf) ∗ owns (c : Thread nD τ) arg12 fullShare (k0_pay118 kf) ∗ owns (c : Thread nD τ) arg13 fullShare (k0_pay119 kf) ∗ owns (c : Thread nD τ) arg14 fullShare (k0_pay120 vf) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Es (cc0_sb_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  iapply (bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hi q o d kf vf u f8 f9 f10 f11 f12 f13 f14 f15 f16 f17 Es K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, ⟨%g8, H8, %e8⟩, ⟨%g9, H9, %e9⟩, ⟨%g10, H10, %e10⟩, ⟨%g11, H11, %e11⟩, ⟨%g12, H12, %e12⟩, ⟨%g13, H13, %e13⟩, ⟨%g14, H14, %e14⟩, ⟨%g15, H15⟩, ⟨%g16, H16⟩, ⟨%g17, H17⟩⟩
  subst e8 e9 e10 e11 e12 e13 e14
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

set_option maxHeartbeats 1600000 in
/-- The body at a row block that is not the first, over the memrefs' contents. -/
theorem ownsB (c : Dev nD) (i : grid0.Coords) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .bf16) (harg7 : arg7.IsWhole) (arg8 : Memref sig .tc .vmem S128x128 .f32) (harg8 : arg8.IsWhole) (arg9 : Memref sig .tc .vmem S8320x128 .f32) (harg9 : arg9.IsWhole) (arg10 : Memref sig .tc .vmem S8320x128 .f32) (harg10 : arg10.IsWhole) (arg11 : Memref sig .tc .vmem S8320x128 .bf16) (harg11 : arg11.IsWhole) (arg12 : Memref sig .tc .vmem S8320x128 .bf16) (harg12 : arg12.IsWhole) (arg13 : Memref sig .tc .vmem S8320x128 .bf16) (harg13 : arg13.IsWhole) (arg14 : Memref sig .tc .vmem S8320x128 .bf16) (harg14 : arg14.IsWhole) (arg15 : Memref sig .tc .vmem S128x128 .f32) (harg15 : arg15.IsWhole) (arg16 : Memref sig .tc .vmem S2x128x1 .f32) (harg16 : arg16.IsWhole) (arg17 : Memref sig .tc .vmem S2x128x1 .f32) (harg17 : arg17.IsWhole) (hc0 : ¬cond0_0 i) (hc1 : cond0_1 i) (hi : ¬(i 1).val = 0)
    (q o d : Vec F S128x128 .f32) (kf vf : Vec F S8320x128 .f32) (u : Vec F S256x128 .bf16) (dk dv : Vec F S8320x128 .f32) (kb ka kc vb : Vec F S8320x128 .bf16) (Es : Set ℕ) (K : PUnit → sProp 𝕄) :
    iprop(owns (c : Thread nD τ) arg2 fullShare q ∗ owns (c : Thread nD τ) arg3 fullShare kf ∗ owns (c : Thread nD τ) arg4 fullShare vf ∗ owns (c : Thread nD τ) arg5 fullShare o ∗ owns (c : Thread nD τ) arg6 fullShare d ∗ owns (c : Thread nD τ) arg7 fullShare u ∗ (∃ d, owns (c : Thread nD τ) arg8 fullShare d) ∗ owns (c : Thread nD τ) arg9 fullShare dk ∗ owns (c : Thread nD τ) arg10 fullShare dv ∗ owns (c : Thread nD τ) arg11 fullShare kb ∗ owns (c : Thread nD τ) arg12 fullShare ka ∗ owns (c : Thread nD τ) arg13 fullShare kc ∗ owns (c : Thread nD τ) arg14 fullShare vb ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare q ∗ owns (c : Thread nD τ) arg3 fullShare kf ∗ owns (c : Thread nD τ) arg4 fullShare vf ∗ owns (c : Thread nD τ) arg5 fullShare o ∗ owns (c : Thread nD τ) arg6 fullShare d ∗ owns (c : Thread nD τ) arg7 fullShare u ∗ owns (c : Thread nD τ) arg8 fullShare (k0_pay3 (rowBlock (env kb ka kc vb u q o d) (i 1) (start dk dv)).dq) ∗ owns (c : Thread nD τ) arg9 fullShare (rowBlock (env kb ka kc vb u q o d) (i 1) (start dk dv)).dk ∗ owns (c : Thread nD τ) arg10 fullShare (rowBlock (env kb ka kc vb u q o d) (i 1) (start dk dv)).dv ∗ owns (c : Thread nD τ) arg11 fullShare kb ∗ owns (c : Thread nD τ) arg12 fullShare ka ∗ owns (c : Thread nD τ) arg13 fullShare kc ∗ owns (c : Thread nD τ) arg14 fullShare vb ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Es (cc0_sb_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13; obtain rfl := harg14.eq_unread hf14
  iapply (bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hi q o d kf vf u dk dv kb ka kc vb f8 f15 f16 f17 Es K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, ⟨%g8, H8, %e8⟩, ⟨%g9, H9, %e9⟩, ⟨%g10, H10, %e10⟩, H11, H12, H13, H14, ⟨%g15, H15⟩, ⟨%g16, H16⟩, ⟨%g17, H17⟩⟩
  subst e8 e9 e10
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.KernelIdeal.Sb

end
-- ==== Proof.SbFrame.lean ====
/-
  The attention's backward kernel point by point: what the outputs and the carried scratch hold after each point, the
  body's obligation, and the run of the whole program.
-/
module

public import proofs.«01_k».proof.Proof.SbOwns
public import Idealize.ShloMosaic.Lib.Claim

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each window's block lies -/

theorem idx0 : ∀ t : Fin grid0.N, win0_0.index t (0 : Fin 2) = t.val % 65 ∧ win0_0.index t (1 : Fin 2) = t.val / 65 := by decide +kernel
theorem idx1 : ∀ t : Fin grid0.N, win0_1.index t (0 : Fin 2) = 0 ∧ win0_1.index t (1 : Fin 2) = 4 + t.val / 65 := by decide +kernel
theorem idx2 : ∀ t : Fin grid0.N, win0_2.index t (0 : Fin 2) = 0 ∧ win0_2.index t (1 : Fin 2) = 8 + t.val / 65 := by decide +kernel
theorem idx3 : ∀ t : Fin grid0.N, win0_3.index t (0 : Fin 2) = t.val % 65 ∧ win0_3.index t (1 : Fin 2) = t.val / 65 := by decide +kernel
theorem idx4 : ∀ t : Fin grid0.N, win0_4.index t (0 : Fin 2) = t.val % 65 ∧ win0_4.index t (1 : Fin 2) = t.val / 65 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = t.val % 65 ∧ win0_6.index t (1 : Fin 2) = t.val / 65 := by decide +kernel
theorem idx7 : ∀ t : Fin grid0.N, win0_7.index t (0 : Fin 2) = 0 ∧ win0_7.index t (1 : Fin 2) = t.val / 65 := by decide +kernel
theorem idx8 : ∀ t : Fin grid0.N, win0_8.index t (0 : Fin 2) = 0 ∧ win0_8.index t (1 : Fin 2) = t.val / 65 := by decide +kernel

/-! ## The two long windows' blocks stay through a pair of heads -/

set_option maxHeartbeats 1600000 in
theorem iblk_stay1 (c : Dev nD) (t t' : Fin cfg0.N) (h : t.val / 65 = t'.val / 65) : iblk m c 1 t = iblk m c 1 t' := by
  unfold iblk
  generalize V m c (Pipeline.arrRef spec0 1) = X
  funext p
  rw [View.read_apply, View.read_apply]
  refine congrArg X (funext fun a => Fin.ext ?_)
  have e := idx1 t
  have e' := idx1 t'
  match a with
  | ⟨0, _⟩ =>
    show win0_1.index t (0 : Fin 2) * 8320 + 1 * (p (0 : Fin 2)).val = win0_1.index t' (0 : Fin 2) * 8320 + 1 * (p (0 : Fin 2)).val
    omega
  | ⟨1, _⟩ =>
    show win0_1.index t (1 : Fin 2) * 128 + 1 * (p (1 : Fin 2)).val = win0_1.index t' (1 : Fin 2) * 128 + 1 * (p (1 : Fin 2)).val
    omega

set_option maxHeartbeats 1600000 in
theorem iblk_stay2 (c : Dev nD) (t t' : Fin cfg0.N) (h : t.val / 65 = t'.val / 65) : iblk m c 2 t = iblk m c 2 t' := by
  unfold iblk
  generalize V m c (Pipeline.arrRef spec0 2) = X
  funext p
  rw [View.read_apply, View.read_apply]
  refine congrArg X (funext fun a => Fin.ext ?_)
  have e := idx2 t
  have e' := idx2 t'
  match a with
  | ⟨0, _⟩ =>
    show win0_2.index t (0 : Fin 2) * 8320 + 1 * (p (0 : Fin 2)).val = win0_2.index t' (0 : Fin 2) * 8320 + 1 * (p (0 : Fin 2)).val
    omega
  | ⟨1, _⟩ =>
    show win0_2.index t (1 : Fin 2) * 128 + 1 * (p (1 : Fin 2)).val = win0_2.index t' (1 : Fin 2) * 128 + 1 * (p (1 : Fin 2)).val
    omega

/-! ## What the kernel leaves after each point -/

/-- The row block of a point. -/
abbrev rowAt (t : Fin cfg0.N) : Fin 65 := grid0.coords t 1

/-- What the body reads at a point. -/
def envAt (c : Dev nD) (t : Fin cfg0.N) : Env F :=
  env (k0_pay117 (iblk m c 1 t)) (k0_pay118 (iblk m c 1 t)) (k0_pay119 (iblk m c 1 t)) (k0_pay120 (iblk m c 2 t)) (iblk m c 5 t) (iblk m c 0 t) (iblk m c 3 t) (iblk m c 4 t)

/-- What the body leaves after point `n`: over the first point's zeros at a pair's first row block, else over what the
    point before left. -/
def stAt (c : Dev nD) : (n : ℕ) → n < cfg0.N → St F
  | 0, h => rowBlock (envAt m c ⟨0, h⟩) (rowAt ⟨0, h⟩) (start k0_pay121 k0_pay122)
  | n + 1, h => rowBlock (envAt m c ⟨n + 1, h⟩) (rowAt ⟨n + 1, h⟩)
      (if (n + 1) % 65 = 0 then start k0_pay121 k0_pay122
        else start (stAt c n (Nat.lt_of_succ_lt h)).dk (stAt c n (Nat.lt_of_succ_lt h)).dv)

theorem stAt_first (c : Dev nD) (t : Fin cfg0.N) (h : t.val % 65 = 0) :
    stAt m c t.val t.isLt = rowBlock (envAt m c t) (rowAt t) (start k0_pay121 k0_pay122) := by
  obtain ⟨n, hn⟩ := t
  cases n with
  | zero => rfl
  | succ n => exact congrArg (rowBlock _ _) (if_pos h)

theorem stAt_next (c : Dev nD) (t : Fin cfg0.N) (h : ¬t.val % 65 = 0) :
    stAt m c t.val t.isLt = rowBlock (envAt m c t) (rowAt t)
      (start (stAt m c (t.val - 1) (Nat.lt_of_le_of_lt (Nat.sub_le _ _) t.isLt)).dk
        (stAt m c (t.val - 1) (Nat.lt_of_le_of_lt (Nat.sub_le _ _) t.isLt)).dv) := by
  obtain ⟨n, hn⟩ := t
  cases n with
  | zero => exact absurd (Nat.zero_mod _) h
  | succ n => exact congrArg (rowBlock _ _) (if_neg h)

/-- The invariant before position `n`: before the first point every scratch buffer at anything; afterwards the carried
    ones at the keys and values of the pair of heads of the point before. -/
def PhiS (c : Dev nD) : (n : ℕ) → n ≤ cfg0.N → sProp 𝕄
  | 0, _ => Pipeline.ΦA spec0 c
  | n + 1, hn => iprop(iprop(owns (c : Thread nD τ) scM0_0 fullShare (k0_pay117 (iblk m c 1 ⟨n, hn⟩)) ∗ owns (c : Thread nD τ) scM0_1 fullShare (k0_pay118 (iblk m c 1 ⟨n, hn⟩)) ∗ owns (c : Thread nD τ) scM0_2 fullShare (k0_pay119 (iblk m c 1 ⟨n, hn⟩)) ∗ owns (c : Thread nD τ) scM0_3 fullShare (k0_pay120 (iblk m c 2 ⟨n, hn⟩)) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (k0_pay117 (iblk m c 1 t)) ∗ owns (c : Thread nD τ) scM0_1 fullShare (k0_pay118 (iblk m c 1 t)) ∗ owns (c : Thread nD τ) scM0_2 fullShare (k0_pay119 (iblk m c 1 t)) ∗ owns (c : Thread nD τ) scM0_3 fullShare (k0_pay120 (iblk m c 2 t)) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (k0_pay117 (iblk m c 1 ⟨n - 1, by omega⟩)) ∗ owns (c : Thread nD τ) scM0_1 fullShare (k0_pay118 (iblk m c 1 ⟨n - 1, by omega⟩)) ∗ owns (c : Thread nD τ) scM0_2 fullShare (k0_pay119 (iblk m c 1 ⟨n - 1, by omega⟩)) ∗ owns (c : Thread nD τ) scM0_3 fullShare (k0_pay120 (iblk m c 2 ⟨n - 1, by omega⟩)) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (stAt m c t.val t.isLt).dq
    | ⟨7, _⟩ => (stAt m c t.val t.isLt).dk
    | ⟨8, _⟩ => (stAt m c t.val t.isLt).dv
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay3 (stAt m c t.val t.isLt).dq := by dsimp only [dats]
theorem after0_7 (c : Dev nD) (t : Fin cfg0.N) : (dats m 0 c).after 7 t = (stAt m c t.val t.isLt).dk := by dsimp only [dats]
theorem after0_8 (c : Dev nD) (t : Fin cfg0.N) : (dats m 0 c).after 8 t = (stAt m c t.val t.isLt).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The two long outputs are found as the point before left them -/

theorem noFlush7 : ∀ t : Fin cfg0.N, ¬t.val % 65 = 0 → (cfg0.win 7).flush ⟨t.val - 1, Nat.lt_of_le_of_lt (Nat.sub_le _ _) t.isLt⟩ = false := by
  decide +kernel
theorem before0_7 (c : Dev nD) (t : Fin cfg0.N) (h : ¬t.val % 65 = 0) (d) :
    (dats m 0 c).before 7 t d = (stAt m c (t.val - 1) (Nat.lt_of_le_of_lt (Nat.sub_le _ _) t.isLt)).dk :=
  ((dats m 0 c).before_out_kept 7 rfl t (fun h0 => h (by rw [h0])) (noFlush7 t h) (fun _ => rfl) (fun _ _ => rfl) d).trans
    (after0_7 m c _)
theorem noFlush8 : ∀ t : Fin cfg0.N, ¬t.val % 65 = 0 → (cfg0.win 8).flush ⟨t.val - 1, Nat.lt_of_le_of_lt (Nat.sub_le _ _) t.isLt⟩ = false := by
  decide +kernel
theorem before0_8 (c : Dev nD) (t : Fin cfg0.N) (h : ¬t.val % 65 = 0) (d) :
    (dats m 0 c).before 8 t d = (stAt m c (t.val - 1) (Nat.lt_of_le_of_lt (Nat.sub_le _ _) t.isLt)).dv :=
  ((dats m 0 c).before_out_kept 8 rfl t (fun h0 => h (by rw [h0])) (noFlush8 t h) (fun _ => rfl) (fun _ _ => rfl) d).trans
    (after0_8 m c _)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

theorem coord1 (t : Fin cfg0.N) : (grid0.coords t 1).val = t.val % 65 := by
  have e1 : (grid0.coords t 1).val = t.val / 1 % 65 := Pipeline.Grid.coords_val t 1 (by decide) rfl
  rw [e1, Nat.div_one]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  by_cases h0 : t.val % 65 = 0
  · have h1 : ¬1 ≤ t.val % 65 := by omega
    have hi : (grid0.coords t 1).val = 0 := (coord1 t).trans h0
    rw [stAt_first m c t h0]
    have hΦ : (dats m 0 c).Φ t.castSucc ⊢ Pipeline.ΦA spec0 c := by
      rw [PhiS_castSucc]
      by_cases hz : t.val = 0
      · rw [PhiS_zero m c _ _ hz]
      · rw [PhiS_pos m c _ _ hz, PhiA0_eq]
        iintro ⟨⟨HS0, HS1, HS2, HS3, HS4, HS5, HS6⟩, Hg⟩
        isplitl [HS0 HS1 HS2 HS3 HS4 HS5 HS6]
        · isplitl [HS0]; · iexists _; iexact HS0
          isplitl [HS1]; · iexists _; iexact HS1
          isplitl [HS2]; · iexists _; iexact HS2
          isplitl [HS3]; · iexists _; iexact HS3
          isplitl [HS4]; · iexact HS4
          isplitl [HS5]; · iexact HS5
          iexact HS6
        iexact Hg
    rw [PhiA0_eq] at hΦ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := hΦ $$ HΦ
    icases HΦ with ⟨⟨HS0, HS1, HS2, HS3, HS4, HS5, HS6⟩, Hg⟩
    iapply (ownsA c (grid0.coords t) _ _ _ _ _ _ _ _ _ _ _ _ _ _ _ _ _ _ _ _ _ _ _ _ _ _ _ _ _ _ _ _ ((hcond0_0 t).mpr h0) (fun h => h1 ((hcond0_1 t).mp h)) hi (iblk m c 0 t) (iblk m c 3 t) (iblk m c 4 t) (iblk m c 1 t) (iblk m c 2 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h1 : 1 ≤ t.val % 65 := by omega
    have hi : ¬(grid0.coords t 1).val = 0 := fun h => h0 ((coord1 t).symm.trans h)
    have hz : t.val ≠ 0 := fun h => h0 (by rw [h])
    rw [stAt_next m c t h0, PhiS_castSucc, PhiS_pos m c _ _ hz,
      iblk_stay1 m c ⟨t.val - 1, Nat.lt_of_le_of_lt (Nat.sub_le _ _) t.isLt⟩ t (by show (t.val - 1) / 65 = _; omega), iblk_stay2 m c ⟨t.val - 1, Nat.lt_of_le_of_lt (Nat.sub_le _ _) t.isLt⟩ t (by show (t.val - 1) / 65 = _; omega)]
    simp only [before0_7 m c t h0, before0_8 m c t h0]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (ownsB c (grid0.coords t) _ _ _ _ _ _ _ _ _ _ _ _ _ _ _ _ _ _ _ _ _ _ _ _ _ _ _ _ _ _ _ _ (fun h => h0 ((hcond0_0 t).mp h)) ((hcond0_1 t).mpr h1) hi (iblk m c 0 t) (iblk m c 3 t) (iblk m c 4 t) (iblk m c 1 t) (iblk m c 2 t) (iblk m c 5 t) _ _ (k0_pay117 (iblk m c 1 t)) (k0_pay118 (iblk m c 1 t)) (k0_pay119 (iblk m c 1 t)) (k0_pay120 (iblk m c 2 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 260 := N_0; omega), PhiA0_eq]
  iintro ⟨⟨HS0, HS1, HS2, HS3, HS4, HS5, HS6⟩, Hg⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexact HS5
    iexact HS6
  iexact Hg

/-! ## The run and the frame -/

-- the launch theorem's implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- Every run ends with the arguments unchanged and nothing left outstanding. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Sb

end
-- ==== Proof.SbKernel.lean ====
/-
  The kernel before idealization has the same text as the ideal kernel: its frame is the run of `SbFrame` at the bits.
-/
module

public import proofs.«01_k».proof.Defs
public import proofs.«01_k».proof.Proof.Gen.Kernel
public import proofs.«01_k».proof.Proof.SbFrame
public import Idealize.ShloMosaic.Lib.Tactic

@[expose] public section

set_option maxRecDepth 16384

noncomputable section

namespace Cert.KernelIdeal.Sb

open Idealize.ShloMosaic Idealize.SL.Sem Gen

/-- The frame claim of the kernel is that of the ideal kernel's text at the bits. -/
theorem same_text : Cert.quiescent_Kernel (hKernel := Cert.Kernel.Gen.facts) =
    ∀ (m : (ℓ : Loc nD τ sig) → Buf (Elt Bits) ℓ) (ρ : Dev nD → PrngReg), True →
      θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) := by
  sl_kernel_rfl

theorem frame_kernel : Cert.quiescent_Kernel (hKernel := Cert.Kernel.Gen.facts) :=
  same_text.mpr fun m ρ _ => frame (F := Bits) m ρ

end Cert.KernelIdeal.Sb

end
-- ==== Proof.SbMath.lean ====
/-
  The attention's backward pass in real numbers: the weights of a head from its scores `z`, and the gradient of its
  scores from the gradient `g` of its weights. Rows and columns are counted by natural numbers; the sequence has 8320
  places, of which the first 112 are padding.
-/
module

public import Idealize.ShloMosaic.Lib.Pointwise

@[expose] public section

noncomputable section

namespace Cert.SbMath

open Finset

/-- `log (1 + exp (-|x|))`. -/
def sp (x : ℝ) : ℝ := Real.log (1 + Real.exp (-|x|))
/-- The logarithm of the sigmoid. -/
def lb (x : ℝ) : ℝ := min x 0 - sp x
/-- The logarithm of one minus the sigmoid. -/
def l1 (x : ℝ) : ℝ := -max x 0 - sp x

theorem exp_sp (x : ℝ) : Real.exp (sp x) = 1 + Real.exp (-|x|) := by
  unfold sp
  exact Real.exp_log (by positivity)

/-- The sigmoid and one minus it. -/
theorem exp_lb_add_exp_l1 (x : ℝ) : Real.exp (lb x) + Real.exp (l1 x) = 1 := by
  have h : (1 : ℝ) + Real.exp (-|x|) ≠ 0 := by positivity
  unfold lb l1
  rw [Real.exp_sub, Real.exp_sub, exp_sp, ← add_div, div_eq_one_iff_eq h]
  rcases le_total 0 x with hx | hx
  · rw [min_eq_right hx, max_eq_left hx, abs_of_nonneg hx, Real.exp_zero]
  · rw [min_eq_left hx, max_eq_right hx, abs_of_nonpos hx, neg_neg, neg_zero, Real.exp_zero, add_comm]

/-- The column `t` counts in row `R`: it lies before it and is no padding. -/
abbrev keep (R t : ℕ) : Prop := t < R ∧ 112 ≤ t

section
variable (z g : ℕ → ℕ → ℝ)

/-- The masked logarithm of one minus the sigmoid. -/
def lm (R t : ℕ) : ℝ := if keep R t then l1 (z R t) else 0
/-- Its sum over the columns from `t` on. -/
def lmFrom (R t : ℕ) : ℝ := ∑ u ∈ Ico t 8320, lm z R u
/-- The weight without its mask. -/
def wx (R t : ℕ) : ℝ := Real.exp (lb (z R t) + lmFrom z R (t + 1))
/-- The weight. -/
def w (R t : ℕ) : ℝ := if keep R t then wx z R t else 0
/-- The weight times its gradient. -/
def e (R t : ℕ) : ℝ := w z R t * g R t
/-- Its sum over the columns from `t` on. -/
def eFrom (R t : ℕ) : ℝ := ∑ u ∈ Ico t 8320, e z g R u
/-- Its sum over the columns up to `t`. -/
def eUpto (R t : ℕ) : ℝ := ∑ u ∈ range (t + 1), e z g R u
/-- The gradient of the scores. -/
def dz (R t : ℕ) : ℝ := if keep R t then e z g R t - Real.exp (lb (z R t)) * eUpto z g R t else 0

theorem lm_of_not (R t : ℕ) (h : ¬ keep R t) : lm z R t = 0 := if_neg h
theorem w_of_not (R t : ℕ) (h : ¬ keep R t) : w z R t = 0 := if_neg h
theorem dz_of_not (R t : ℕ) (h : ¬ keep R t) : dz z g R t = 0 := if_neg h
theorem e_of_not (R t : ℕ) (h : ¬ keep R t) : e z g R t = 0 := by unfold e; rw [w_of_not z R t h, zero_mul]

theorem lmFrom_zero (R t : ℕ) (h : R ≤ t) : lmFrom z R t = 0 :=
  sum_eq_zero fun u hu => lm_of_not z R u fun hk => by have := (mem_Ico.mp hu).1; have := hk.1; omega

theorem eFrom_zero (R t : ℕ) (h : R ≤ t) : eFrom z g R t = 0 :=
  sum_eq_zero fun u hu => e_of_not z g R u fun hk => by have := (mem_Ico.mp hu).1; have := hk.1; omega

/-- The whole sum less the part behind `t`. -/
theorem eFrom_sub (R t : ℕ) (h : t < 8320) : eFrom z g R 0 - eFrom z g R (t + 1) = eUpto z g R t := by
  unfold eFrom eUpto
  rw [← range_eq_Ico, range_eq_Ico, range_eq_Ico, ← sum_Ico_consecutive _ (Nat.zero_le (t + 1)) (by omega : t + 1 ≤ 8320),
    add_sub_cancel_right]

/-- The transposed chain gives the same gradient: with the sums before `t` and one minus the sigmoid. -/
theorem dz_eq (R t : ℕ) :
    dz z g R t = -(if keep R t then ∑ u ∈ range t, e z g R u else 0)
      + (e z g R t + (if keep R t then ∑ u ∈ range t, e z g R u else 0)) * Real.exp (l1 (z R t)) := by
  unfold dz
  by_cases h : keep R t
  · rw [if_pos h, if_pos h]
    unfold eUpto
    rw [sum_range_succ]
    have := exp_lb_add_exp_l1 (z R t)
    rw [show Real.exp (lb (z R t)) = 1 - Real.exp (l1 (z R t)) by linarith]
    ring
  · rw [if_neg h, if_neg h, e_of_not z g R t h]
    ring
end

/-- A sum over the columns from block `j` on: block `j`'s and the rest. -/
theorem sum_block (f : ℕ → ℝ) (j : ℕ) (hj : j < 65) :
    ∑ u ∈ Ico (128 * j) 8320, f u = ∑ c ∈ range 128, f (128 * j + c) + ∑ u ∈ Ico (128 * (j + 1)) 8320, f u := by
  rw [← sum_Ico_consecutive f (by omega : 128 * j ≤ 128 * (j + 1)) (by omega : 128 * (j + 1) ≤ 8320),
    sum_Ico_eq_sum_range]
  congr 2
  congr 1
  omega

/-- The part of a sum behind a column of block `j`: within the block, and the rest. -/
theorem sum_behind (f : ℕ → ℝ) (j c : ℕ) (hj : j < 65) (hc : c < 128) :
    ∑ c' ∈ range 128, (if c < c' then f (128 * j + c') else 0) + ∑ u ∈ Ico (128 * (j + 1)) 8320, f u
      = ∑ u ∈ Ico (128 * j + c + 1) 8320, f u := by
  rw [← sum_Ico_consecutive f (by omega : 128 * j + c + 1 ≤ 128 * (j + 1)) (by omega : 128 * (j + 1) ≤ 8320)]
  congr 1
  rw [← sum_filter]
  have : (range 128).filter (fun c' => c < c') = Ico (c + 1) 128 := by ext x; simp only [mem_filter, mem_range, mem_Ico]; omega
  rw [this, sum_Ico_eq_sum_range, sum_Ico_eq_sum_range]
  refine sum_congr (by congr 1; omega) fun x _ => ?_
  congr 1
  omega

/-! ## Lanes of two heads -/

/-- A lane's entry where the lane is of head `a`, zero elsewhere. -/
def hm (a : Fin 2) (l : ℕ) (x : ℝ) : ℝ := if (a = 0 ↔ l < 64) then x else 0

/-- A sum over the lanes of one head. -/
theorem sum_lanes (a : Fin 2) (f : ℕ → ℝ) (g : ℕ → ℝ) :
    ∑ l ∈ range 128, hm a l (f l) * g l = ∑ d ∈ range 64, f (64 * a.val + d) * g (64 * a.val + d) := by
  rw [show (128 : ℕ) = 64 + 64 from rfl, sum_range_add]
  match a with
  | ⟨0, _⟩ =>
    have h2 : ∑ x ∈ range 64, hm 0 (64 + x) (f (64 + x)) * g (64 + x) = 0 := sum_eq_zero fun x _ => by
      unfold hm; rw [if_neg (by simp), zero_mul]
    refine (congrArg (_ + ·) h2).trans ?_
    rw [add_zero]
    refine sum_congr rfl fun x hx => ?_
    have := mem_range.mp hx
    show hm 0 x (f x) * g x = f (64 * 0 + x) * g (64 * 0 + x)
    unfold hm
    rw [if_pos (by simp [this]), Nat.mul_zero, Nat.zero_add]
  | ⟨1, _⟩ =>
    have h1 : ∑ x ∈ range 64, hm 1 x (f x) * g x = 0 := sum_eq_zero fun x hx => by
      have := mem_range.mp hx
      unfold hm; rw [if_neg (by simp [this]), zero_mul]
    refine (congrArg (· + _) h1).trans ?_
    rw [zero_add]
    refine sum_congr rfl fun x hx => ?_
    show hm 1 (64 + x) (f (64 + x)) * g (64 + x) = f (64 * 1 + x) * g (64 * 1 + x)
    unfold hm
    rw [if_pos (by simp), Nat.mul_one]

/-! ## The whole arrays -/

section
variable (Q K V D : ℕ → ℕ → ℝ)

/-- The scores of head `h`. -/
def zH (h R t : ℕ) : ℝ := (∑ d ∈ range 64, Q R (64 * h + d) * K t (64 * h + d)) * (1 / 8)
/-- The gradient of the weights of head `h`. -/
def gH (h R t : ℕ) : ℝ := ∑ d ∈ range 64, D R (64 * h + d) * V t (64 * h + d)
/-- The attention's output. -/
def oH (R c : ℕ) : ℝ := ∑ t ∈ range 8320, w (zH Q K (c / 64)) R t * V t c
/-- The queries' gradient. -/
def dqH (R c : ℕ) : ℝ := (∑ t ∈ range 8320, dz (zH Q K (c / 64)) (gH V D (c / 64)) R t * K t c) * (1 / 8)
/-- The keys' gradient. -/
def dkH (t c : ℕ) : ℝ := ∑ R ∈ range 8320, dz (zH Q K (c / 64)) (gH V D (c / 64)) R t * (Q R c * (1 / 8))
/-- The values' gradient. -/
def dvH (t c : ℕ) : ℝ := ∑ R ∈ range 8320, w (zH Q K (c / 64)) R t * D R c
end

end Cert.SbMath

end
-- ==== Proof.Reals.lean ====
/-
  Extended reals that are real numbers: sums, constants, the finiteness precondition read at an index, and sums cut into
  blocks.
-/
module

public import Idealize.ShloMosaic.Lib.Pointwise.Tactic
public import Idealize.ShloMosaic.Lib.Pointwise
public import Idealize.ShloMosaic.Lib.IdealHost

@[expose] public section

namespace Cert.Reals

open Idealize.ShloMosaic

/-- The real sum, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem const_1024 : Ideal.ofBits .f32 0x44800000#32 = ((1024 : ℝ) : EReal) := by
  simp [Ideal.ofBits, Ideal.ieee, -EReal.coe_mul]; norm_num

theorem const_neg_half : Ideal.ofBits .f32 0xBF000000#32 = ((-(1 / 2) : ℝ) : EReal) := by
  simp [Ideal.ofBits, Ideal.ieee, -EReal.coe_mul, -EReal.coe_neg]; norm_num

/-- The norms' small constant. -/
noncomputable def eps : ℝ := 8796093 / 8796093022208

theorem const_eps : Ideal.ofBits .f32 0x358637BD#32 = ((eps : ℝ) : EReal) := by
  simp [Ideal.ofBits, Ideal.ieee, -EReal.coe_mul, eps]; norm_num

theorem eps_pos : 0 < eps := by unfold eps; norm_num

theorem const_inf : Ideal.ofBits .f32 0x7F800000#32 = ⊤ := by
  simp [Ideal.ofBits, Ideal.ieee]

/-- Where every absolute value compares below infinity, every element is a real number. -/
theorem real_of_finite {s : Shape} (hb : (⟨0, ![]⟩ : Shape).BroadcastsInDim s (![] : Fin 0 → Fin s.rank)) (x : FVec Ideal s .f32)
    (h : cmpf .olt (Host.absf x) (broadcastInDim s ![] hb (constant (F := Ideal) ⟨0, ![]⟩ .f32 0x7F800000#32)) = fun _ => 1#1)
    (i : s.Idx) : ∃ r : ℝ, (x i : EReal) = r := by
  have h1 : Ideal.cmp .olt (max (x i : EReal) (-(x i))) (Ideal.ofBits .f32 0x7F800000#32) = 1#1 := congrFun h i
  rw [const_inf] at h1
  have h2 : max (x i : EReal) (-(x i)) < ⊤ := by
    by_contra hc
    simp [Ideal.cmp, hc] at h1
  have h3 := max_lt_iff.mp h2
  generalize (x i : EReal) = v at h3 ⊢
  induction v using EReal.rec with
  | bot => simp at h3
  | top => simp at h3
  | coe r => exact ⟨r, rfl⟩

/-- A sum of `a` blocks of `b` terms each. -/
theorem sum_blocks {M : Type*} [AddCommMonoid M] (G : ℕ → M) (b : ℕ) : ∀ a : ℕ,
    ∑ r ∈ Finset.range (a * b), G r = ∑ i ∈ Finset.range a, ∑ j ∈ Finset.range b, G (i * b + j)
  | 0 => by simp
  | a + 1 => by rw [Nat.succ_mul, Finset.sum_range_add, Finset.sum_range_succ, sum_blocks G b a]

end Cert.Reals
-- ==== Proof.SbTile.lean ====
/-
  One tile's blocks in real numbers: where the blocks that a tile reads are real, so are the blocks that it computes, and
  they are the weights, their products with their gradient, and the gradient of the scores of `SbMath`.
-/
module

public import proofs.«01_k».proof.Proof.SbSpec
public import proofs.«01_k».proof.Proof.SbMath
public import proofs.«01_k».proof.Proof.Reals
public import Idealize.ShloMosaic.Lib.Pointwise.Tactic

@[expose] public section

noncomputable section

namespace Cert.KernelIdeal.Sb

open Idealize.ShloMosaic Idealize.ShloMosaic.TcCoe
open Gen Cert.SbMath

/-! ## Extended reals -/

theorem coe_min (x y : ℝ) : ((min x y : ℝ) : EReal) = min (x : EReal) y := EReal.coe_strictMono.monotone.map_min
theorem coe_max (x y : ℝ) : ((max x y : ℝ) : EReal) = max (x : EReal) y := EReal.coe_strictMono.monotone.map_max

theorem abs_coe (x : ℝ) : FloatOps.absf (F := Ideal) (φ := .f32) (x : EReal) = ((|x| : ℝ) : EReal) := by
  show max (x : EReal) (-(x : EReal)) = _
  rw [← EReal.coe_neg, ← coe_max]; rfl

theorem log1p_exp_coe (y : ℝ) : Ideal.log1p (Ideal.exp (y : EReal)) = ((Real.log (1 + Real.exp y) : ℝ) : EReal) := by
  unfold Ideal.log1p
  rw [Ideal.exp_coe, ← EReal.coe_one, ← EReal.coe_add, Ideal.log_coe, if_neg (not_le.mpr (by positivity))]

theorem sp_coe (x : ℝ) : Ideal.log1p (Ideal.exp (0 - FloatOps.absf (F := Ideal) (φ := .f32) (x : EReal))) = ((sp x : ℝ) : EReal) := by
  rw [abs_coe, ← EReal.coe_zero, ← EReal.coe_sub, log1p_exp_coe, zero_sub]; rfl

/-- A sum of real numbers over a finite type, counted by natural numbers. -/
theorem fsum (n : ℕ) (f : ℕ → ℝ) : ∑ x : Fin n, ((f x.val : ℝ) : EReal) = ((∑ x ∈ Finset.range n, f x : ℝ) : EReal) := by
  rw [Cert.Reals.coe_sum, Finset.sum_range]

/-! ## Blocks of real numbers -/

/-- The block holds the real numbers `f`. -/
def R2 (X : S128x128.Idx → EReal) (f : ℕ → ℕ → ℝ) : Prop := ∀ r c : Fin 128, X (ix2 r c) = ((f r.val c.val : ℝ) : EReal)

/-- The carried column holds the real numbers `f`. -/
def RC (X : S1x128x1.Idx → EReal) (f : ℕ → ℝ) : Prop := ∀ r : Fin 128, X (ix3 0 r 0) = ((f r.val : ℝ) : EReal)

/-- The array with two stacked triangles of ones. -/
def Tri (X : S256x128.Idx → EReal) : Prop := ∀ (c : Fin 256) (j : Fin 128), X (ix2 c j) = if j.val < c.val % 128 then 1 else 0

/-- The mask keeps the columns that count, at rows from `R` on and columns from `t` on. -/
def MaskIs (m : Option (IVec S128x128 1)) (R t : ℕ) : Prop := ∀ r c : Fin 128,
  match m with
  | none => keep (R + r.val) (t + c.val)
  | some b => b (ix2 r c) = if keep (R + r.val) (t + c.val) then 1#1 else 0#1

theorem rd_rowsDot {q k : Vec Ideal S128x128 .bf16} {qf kf : ℕ → ℕ → ℝ} (hq : R2 q qf) (hk : R2 k kf) :
    R2 (rowsDot q k) (fun r c => ∑ l ∈ Finset.range 128, qf r l * kf c l) := fun r c => by
  unfold rowsDot; pointwise [dot_S128x128_S128x128_S128x128_1_1_0_0_n_n]
  rw [← fsum]
  exact Finset.sum_congr rfl fun l _ => by rw [hq r l, hk c l, EReal.coe_mul]

theorem rd_behind {u : Vec Ideal S256x128 .bf16} {x : FVec Ideal S128x128 .f32} {f : ℕ → ℕ → ℝ} (hu : Tri u) (hx : R2 x f) :
    R2 (behind u x) (fun r c => ∑ c' ∈ Finset.range 128, if c < c' then f r c' else 0) := fun r c => by
  unfold behind pair; pointwise [dot_S128x256_S256x128_S128x128_1_0_0_1_n_n]
  rw [← fsum 128 (fun c' => if c.val < c' then f r.val c' else 0)]
  refine Eq.trans (congrArg₂ (· + ·) (Finset.sum_congr rfl fun (l : Fin 128) _ => ?_) (Finset.sum_eq_zero fun (l : Fin 128) _ => ?_)) (add_zero (M := EReal) _)
  · rw [hx r l, hu, show ((⟨l.val, _⟩ : Fin 256).val % 128) = l.val from Nat.mod_eq_of_lt l.isLt]
    by_cases h : c.val < l.val
    · rw [if_pos h, if_pos h, mul_one (M := EReal)]
    · rw [if_neg h, if_neg h, mul_zero (M₀ := EReal), EReal.coe_zero]
  · rw [hx r l, ← EReal.coe_sub, sub_self, EReal.coe_zero, zero_mul (M₀ := EReal)]

theorem rd_msk {m : Option (IVec S128x128 1)} {x : FVec Ideal S128x128 .f32} {f : ℕ → ℕ → ℝ} {R t : ℕ} (hm : MaskIs m R t)
    (hx : R2 x f) : R2 (msk m x) (fun r c => if keep (R + r) (t + c) then f r c else 0) := fun r c => by
  match m, hm with
  | none, hm =>
    have hk : keep (R + r.val) (t + c.val) := hm r c
    exact (hx r c).trans (congrArg _ (if_pos hk).symm)
  | some b, hm =>
    unfold msk zb; pointwise
    rw [show b (ix2 r c) = _ from hm r c, hx r c]
    by_cases h : keep (R + r.val) (t + c.val)
    · rw [if_pos h, if_pos h]; rfl
    · rw [if_neg h, if_neg h, EReal.coe_zero]; rfl

theorem rd_plusDot {x : FVec Ideal S128x128 .f32} {a b : Vec Ideal S128x128 .bf16} {f af bf : ℕ → ℕ → ℝ} (hx : R2 x f) (ha : R2 a af)
    (hb : R2 b bf) : R2 (plusDot x a b) (fun r c => f r c + ∑ l ∈ Finset.range 128, af r l * bf l c) := fun r c => by
  unfold plusDot; pointwise [dot_S128x128_S128x128_S128x128_1_0_0_1_n_n]
  rw [hx r c, EReal.coe_add, ← fsum]
  exact congrArg _ (Finset.sum_congr rfl fun l _ => by rw [ha r l, hb l c, EReal.coe_mul])

theorem rd_plusDotT {x : FVec Ideal S128x128 .f32} {a b : Vec Ideal S128x128 .bf16} {f af bf : ℕ → ℕ → ℝ} (hx : R2 x f) (ha : R2 a af)
    (hb : R2 b bf) : R2 (plusDotT x a b) (fun r c => f r c + ∑ l ∈ Finset.range 128, af l r * bf l c) := fun r c => by
  unfold plusDotT; pointwise [dot_S128x128_S128x128_S128x128_0_0_1_1_n_n]
  rw [hx r c, EReal.coe_add, ← fsum]
  exact congrArg _ (Finset.sum_congr rfl fun l _ => by rw [ha l r, hb l c, EReal.coe_mul])

/-- A carried column, with a block's sum added: the sum from the block before on. -/
theorem rd_next {u : Vec Ideal S256x128 .bf16} {x : FVec Ideal S128x128 .f32} {c : Vec Ideal S1x128x1 .f32} {f : ℕ → ℕ → ℝ} {j : ℕ}
    (hj : j < 65) (hu : Tri u) (hx : R2 x (fun r c => f r (128 * j + c)))
    (hc : RC c (fun r => ∑ t ∈ Finset.Ico (128 * (j + 1)) 8320, f r t)) :
    RC (tNext u c x) (fun r => ∑ t ∈ Finset.Ico (128 * j) 8320, f r t) := fun r => by
  have hb := rd_behind hu hx r 0
  unfold tNext col
  generalize behind u x = Z at hb ⊢
  pointwise
  have hx0 := hx r 0
  have hc0 := hc r
  rw [hx0, hc0, hb, ← EReal.coe_add, ← EReal.coe_add]
  refine congrArg _ ?_
  have h1 := sum_block (f r.val) j hj
  have h2 := sum_behind (f r.val) j 0 hj (by omega)
  have h3 := Finset.sum_eq_sum_Ico_succ_bot (show 128 * j < 8320 by omega) (f r.val)
  have e0 : ((0 : Fin 128).val) = 0 := rfl
  beta_reduce
  simp only [e0, Nat.add_zero] at h2 ⊢
  rw [h3, ← h2]
  ring

section
variable {m : Option (IVec S128x128 1)} {q k d v : Vec Ideal S128x128 .bf16} {u : Vec Ideal S256x128 .bf16}
  {c ce : Vec Ideal S1x128x1 .f32} {ds : FVec Ideal S128x1 .f32} {z g : ℕ → ℕ → ℝ} {R j : ℕ}

theorem rd_lb (hz : R2 (rowsDot q k) (fun r c => z (R + r) (128 * j + c))) :
    R2 (tLb q k) (fun r c => lb (z (R + r) (128 * j + c))) := fun r c => by
  have h := hz r c
  unfold tLb tSp zb
  generalize rowsDot q k = Z at h ⊢
  pointwise
  rw [h, sp_coe, ← EReal.coe_zero, ← coe_min, ← EReal.coe_sub]; rfl

theorem rd_lm (hm : MaskIs m R (128 * j)) (hz : R2 (rowsDot q k) (fun r c => z (R + r) (128 * j + c))) :
    R2 (tLm m q k) (fun r c => lm z (R + r) (128 * j + c)) := by
  unfold tLm
  refine rd_msk (f := fun r c => l1 (z (R + r) (128 * j + c))) hm fun r c => ?_
  have h := hz r c
  unfold tSp zb
  generalize rowsDot q k = Z at h ⊢
  pointwise
  rw [h, sp_coe, ← EReal.coe_zero, ← coe_max, ← EReal.coe_sub, ← EReal.coe_sub, zero_sub]; rfl

theorem rd_w (hj : j < 65) (hm : MaskIs m R (128 * j)) (hu : Tri u) (hz : R2 (rowsDot q k) (fun r c => z (R + r) (128 * j + c)))
    (hc : RC c (fun r => lmFrom z (R + r) (128 * (j + 1)))) :
    R2 (tW m q k u c) (fun r c => w z (R + r) (128 * j + c)) := by
  have hb := rd_behind hu (rd_lm hm hz)
  have hl := rd_lb hz
  refine rd_msk (x := exp (addf (addf (tLb q k) (behind u (tLm m q k))) (broadcastTo S128x128 (col c) broadcasts_S128x1_S128x128)))
    (f := fun r c => wx z (R + r) (128 * j + c)) hm fun r t => ?_
  have hb := hb r t
  have hl := hl r t
  unfold col
  generalize behind u (tLm m q k) = B at hb ⊢
  generalize tLb q k = L at hl ⊢
  pointwise
  rw [hl, hb, show c (ix3 0 r 0) = _ from hc r, ← EReal.coe_add, ← EReal.coe_add, Ideal.exp_coe]
  refine congrArg _ ?_
  unfold wx
  rw [add_assoc]
  exact congrArg (fun y => Real.exp (lb (z (R + r.val) (128 * j + t.val)) + y)) (sum_behind (fun u => lm z (R + r.val) u) j t.val hj t.isLt)

theorem rd_e (hj : j < 65) (hm : MaskIs m R (128 * j)) (hu : Tri u) (hz : R2 (rowsDot q k) (fun r c => z (R + r) (128 * j + c)))
    (hg : R2 (rowsDot d v) (fun r c => g (R + r) (128 * j + c)))
    (hc : RC c (fun r => lmFrom z (R + r) (128 * (j + 1)))) :
    R2 (tE m q k d v u c) (fun r c => e z g (R + r) (128 * j + c)) := fun r t => by
  have hw := rd_w hj hm hu hz hc r t
  have hg := hg r t
  unfold tE
  generalize rowsDot d v = G at hg ⊢
  generalize tW m q k u c = W at hw ⊢
  pointwise
  rw [hw, hg, ← EReal.coe_mul]; rfl

theorem rd_dz (hj : j < 65) (hm : MaskIs m R (128 * j)) (hu : Tri u) (hz : R2 (rowsDot q k) (fun r c => z (R + r) (128 * j + c)))
    (hg : R2 (rowsDot d v) (fun r c => g (R + r) (128 * j + c)))
    (hc : RC c (fun r => lmFrom z (R + r) (128 * (j + 1))))
    (hce : RC ce (fun r => eFrom z g (R + r) (128 * (j + 1))))
    (hds : ∀ r : Fin 128, ds (ix2 r 0) = ((eFrom z g (R + r.val) 0 : ℝ) : EReal)) :
    R2 (tDz m q k d v u c ce ds) (fun r c => dz z g (R + r) (128 * j + c)) := by
  have he := rd_e hj hm hu hz hg hc
  have hb := rd_behind hu he
  have hl := rd_lb hz
  unfold tDz
  generalize tE m q k d v u c = E at he hb ⊢
  refine rd_msk (x := subf E (mulf (exp (tLb q k)) (subf (subf (broadcastTo S128x128 ds broadcasts_S128x1_S128x128) (behind u E))
    (broadcastTo S128x128 (col ce) broadcasts_S128x1_S128x128))))
    (f := fun r c => e z g (R + r) (128 * j + c) - Real.exp (lb (z (R + r) (128 * j + c))) * eUpto z g (R + r) (128 * j + c)) hm fun r t => ?_
  have hb := hb r t
  have hl := hl r t
  have he := he r t
  unfold col
  generalize behind u E = B at hb ⊢
  generalize tLb q k = L at hl ⊢
  pointwise
  rw [hl, hb, he, show ce (ix3 0 r 0) = _ from hce r, hds r, Ideal.exp_coe, ← EReal.coe_sub, ← EReal.coe_sub, ← EReal.coe_mul, ← EReal.coe_sub]
  refine congrArg _ ?_
  rw [← eFrom_sub z g (R + r.val) (128 * j + t.val) (by omega), sub_sub]
  refine congrArg (fun y => e z g (R + r.val) (128 * j + t.val) - Real.exp (lb (z (R + r.val) (128 * j + t.val))) * (eFrom z g (R + r.val) 0 - y)) ?_
  exact sum_behind (fun u => e z g (R + r.val) u) j t.val hj t.isLt
end

end Cert.KernelIdeal.Sb

end
-- ==== Proof.SbSum.lean ====
/-
  Running sums along the last axis of a four-axis array, as a window as wide as the axis prints them: padded behind, the
  window's sum runs from a place to the axis's end; padded before, from its start to the place.
-/
module

public import proofs.«01_k».proof.Proof.SbTile

@[expose] public section

noncomputable section

namespace Cert.SbSum

open Idealize.ShloMosaic

theorem foldl_add {α : Type} (F : α → EReal) (l : List α) (v : EReal) : l.foldl (fun r n => r + F n) v = v + (l.map F).sum := by
  induction l generalizing v with
  | nil => simp
  | cons a l ih => rw [List.foldl_cons, ih, List.map_cons, List.sum_cons, add_assoc]

/-- The window's places are those of its last axis. -/
def lastAxis (N : ℕ) : (⟨4, ![1, 1, 1, N]⟩ : Shape).Idx ≃ Fin N where
  toFun p := p 3
  invFun n := ix4 0 0 0 n
  left_inv p := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv n := rfl

/-- A window as wide as the last axis: its sum, place by place. -/
theorem window_sum {A B C N : ℕ} (lo hi : Fin 4 → ℕ) (x : (⟨4, ![A, B, C, N]⟩ : Shape).Idx → EReal) (v : (⟨0, ![]⟩ : Shape).Idx → EReal)
    (h : (⟨4, ![A, B, C, N]⟩ : Shape).ReduceWindows ![1, 1, 1, N] ![1, 1, 1, 1] lo hi ⟨4, ![A, B, C, N]⟩)
    (hu : 0 < (⟨0, ![]⟩ : Shape).numel) (hv : v (Shape.Idx.first hu) = 0) (j : (⟨4, ![A, B, C, N]⟩ : Shape).Idx) (G : Fin N → EReal)
    (hG : ∀ (n : Fin N), (if hin : ∀ a : Fin 4, lo a ≤ (j a).val * (![1, 1, 1, 1] : Fin 4 → ℕ) a + (ix4 (0 : Fin 1) (0 : Fin 1) (0 : Fin 1) n a).val
        ∧ (j a).val * (![1, 1, 1, 1] : Fin 4 → ℕ) a + (ix4 (0 : Fin 1) (0 : Fin 1) (0 : Fin 1) n a).val - lo a < (![A, B, C, N] : Fin 4 → ℕ) a
        then x (fun a => ⟨(j a).val * (![1, 1, 1, 1] : Fin 4 → ℕ) a + (ix4 (0 : Fin 1) (0 : Fin 1) (0 : Fin 1) n a).val - lo a, (hin a).2⟩) else 0) = G n) :
    Host.reduceWindowAdd (F := Ideal) (φ := .f32) ![1, 1, 1, N] ![1, 1, 1, 1] lo hi x v h hu j = ∑ n : Fin N, G n := by
  show Host.reduceWindow (· + ·) ![1, 1, 1, N] ![1, 1, 1, 1] lo hi x v h hu j = _
  unfold Host.reduceWindow
  dsimp only
  rw [hv]
  refine (foldl_add _ _ _).trans ?_
  rw [zero_add, ← Fin.sum_univ_def]
  refine Eq.trans (Finset.sum_congr rfl fun i _ => dite_congr rfl (fun _ => rfl) (fun _ => rfl)) ?_
  refine (Equiv.sum_comp (Shape.rowMajor (⟨4, ![1, 1, 1, N]⟩ : Shape)).symm (fun p => if hin : ∀ a : Fin 4, lo a ≤ (j a).val * (![1, 1, 1, 1] : Fin 4 → ℕ) a + (p a).val
        ∧ (j a).val * (![1, 1, 1, 1] : Fin 4 → ℕ) a + (p a).val - lo a < (![A, B, C, N] : Fin 4 → ℕ) a
        then x (fun a => ⟨(j a).val * (![1, 1, 1, 1] : Fin 4 → ℕ) a + (p a).val - lo a, (hin a).2⟩) else 0)).trans ?_
  refine (Equiv.sum_comp (lastAxis N).symm _).symm.trans ?_
  exact Finset.sum_congr rfl fun n _ => hG n

/-- Padded behind: the sum from a place on. -/
theorem suffix {A B C M : ℕ} (x : (⟨4, ![A, B, C, M + 1]⟩ : Shape).Idx → EReal) (v : (⟨0, ![]⟩ : Shape).Idx → EReal)
    (h : (⟨4, ![A, B, C, M + 1]⟩ : Shape).ReduceWindows ![1, 1, 1, M + 1] ![1, 1, 1, 1] ![0, 0, 0, 0] ![0, 0, 0, M] ⟨4, ![A, B, C, M + 1]⟩)
    (hu : 0 < (⟨0, ![]⟩ : Shape).numel) (hv : v (Shape.Idx.first hu) = 0) (a : Fin A) (b : Fin B) (c : Fin C) (t : Fin (M + 1))
    (f : ℕ → ℝ) (hx : ∀ u : Fin (M + 1), x (ix4 a b c u) = ((f u.val : ℝ) : EReal)) :
    Host.reduceWindowAdd (F := Ideal) (φ := .f32) ![1, 1, 1, M + 1] ![1, 1, 1, 1] ![0, 0, 0, 0] ![0, 0, 0, M] x v h hu (ix4 a b c t)
      = ((∑ u ∈ Finset.Ico t.val (M + 1), f u : ℝ) : EReal) := by
  refine (window_sum _ _ x v h hu hv (ix4 a b c t) (fun n => ((if t.val + n.val < M + 1 then f (t.val + n.val) else 0 : ℝ) : EReal)) fun n => ?_).trans ?_
  · by_cases hn : t.val + n.val < M + 1
    · rw [if_pos hn]
      rw [dif_pos (fun a' => match a' with
        | ⟨0, _⟩ => ⟨Nat.zero_le _, by show a.val * 1 + 0 - 0 < A; omega⟩
        | ⟨1, _⟩ => ⟨Nat.zero_le _, by show b.val * 1 + 0 - 0 < B; omega⟩
        | ⟨2, _⟩ => ⟨Nat.zero_le _, by show c.val * 1 + 0 - 0 < C; omega⟩
        | ⟨3, _⟩ => ⟨Nat.zero_le _, by show t.val * 1 + n.val - 0 < M + 1; omega⟩)]
      refine Eq.trans (congrArg x (funext fun a' => Fin.ext ?_)) (hx ⟨t.val + n.val, hn⟩)
      match a' with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show t.val * 1 + n.val - 0 = t.val + n.val; omega
    · rw [if_neg hn, dif_neg fun hin => hn ?_]
      · rfl
      · have h3 := (hin 3).2
        change t.val * 1 + n.val - 0 < M + 1 at h3
        omega
  · rw [Cert.KernelIdeal.Sb.fsum (M + 1) (fun n => if t.val + n < M + 1 then f (t.val + n) else 0)]
    refine congrArg _ ?_
    rw [← Finset.sum_filter, Finset.sum_Ico_eq_sum_range]
    refine Finset.sum_congr ?_ fun _ _ => rfl
    ext n
    simp only [Finset.mem_filter, Finset.mem_range]
    omega

/-- Padded before: the sum up to a place. -/
theorem prefix_ {A B C M : ℕ} (x : (⟨4, ![A, B, C, M + 1]⟩ : Shape).Idx → EReal) (v : (⟨0, ![]⟩ : Shape).Idx → EReal)
    (h : (⟨4, ![A, B, C, M + 1]⟩ : Shape).ReduceWindows ![1, 1, 1, M + 1] ![1, 1, 1, 1] ![0, 0, 0, M] ![0, 0, 0, 0] ⟨4, ![A, B, C, M + 1]⟩)
    (hu : 0 < (⟨0, ![]⟩ : Shape).numel) (hv : v (Shape.Idx.first hu) = 0) (a : Fin A) (b : Fin B) (c : Fin C) (t : Fin (M + 1))
    (f : ℕ → ℝ) (hx : ∀ u : Fin (M + 1), x (ix4 a b c u) = ((f u.val : ℝ) : EReal)) :
    Host.reduceWindowAdd (F := Ideal) (φ := .f32) ![1, 1, 1, M + 1] ![1, 1, 1, 1] ![0, 0, 0, M] ![0, 0, 0, 0] x v h hu (ix4 a b c t)
      = ((∑ u ∈ Finset.range (t.val + 1), f u : ℝ) : EReal) := by
  refine (window_sum _ _ x v h hu hv (ix4 a b c t) (fun n => ((if M ≤ t.val + n.val then f (t.val + n.val - M) else 0 : ℝ) : EReal)) fun n => ?_).trans ?_
  · by_cases hn : M ≤ t.val + n.val
    · rw [if_pos hn]
      rw [dif_pos (fun a' => match a' with
        | ⟨0, _⟩ => ⟨Nat.zero_le _, by show a.val * 1 + 0 - 0 < A; omega⟩
        | ⟨1, _⟩ => ⟨Nat.zero_le _, by show b.val * 1 + 0 - 0 < B; omega⟩
        | ⟨2, _⟩ => ⟨Nat.zero_le _, by show c.val * 1 + 0 - 0 < C; omega⟩
        | ⟨3, _⟩ => ⟨by show M ≤ t.val * 1 + n.val; omega, by show t.val * 1 + n.val - M < M + 1; omega⟩)]
      refine Eq.trans (congrArg x (funext fun a' => Fin.ext ?_)) (hx ⟨t.val + n.val - M, by omega⟩)
      match a' with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show t.val * 1 + n.val - M = t.val + n.val - M; omega
    · rw [if_neg hn, dif_neg fun hin => hn ?_]
      · rfl
      · have h3 := (hin 3).1
        change M ≤ t.val * 1 + n.val at h3
        omega
  · rw [Cert.KernelIdeal.Sb.fsum (M + 1) (fun n => if M ≤ t.val + n then f (t.val + n - M) else 0)]
    refine congrArg _ ?_
    rw [← Finset.sum_filter]
    have : (Finset.range (M + 1)).filter (fun n => M ≤ t.val + n) = Finset.Ico (M - t.val) (M + 1) := by
      ext n; simp only [Finset.mem_filter, Finset.mem_range, Finset.mem_Ico]; omega
    rw [this, Finset.sum_Ico_eq_sum_range]
    refine Finset.sum_congr (by congr 1; omega) fun n _ => ?_
    congr 1
    omega

end Cert.SbSum

end
-- ==== Proof.SbState.lean ====
/-
  The tiles of a row block in real numbers: what the body carries after the tiles from some keys block on. The gradient of
  the keys and of the values is the sum over the row blocks before, with the row block's part from that keys block on; the
  gradient of the queries, and the carried columns, are sums over the columns from that keys block on.
-/
module

public import proofs.«01_k».proof.Proof.SbTile
public import Idealize.ShloMosaic.Lib.WordCmp

@[expose] public section

noncomputable section

namespace Cert.KernelIdeal.Sb

open Idealize.ShloMosaic Idealize.ShloMosaic.TcCoe
open Gen Cert.SbMath

/-- The arrays of two heads side by side: queries, keys, values and the output's gradient. -/
structure Lanes where
  q : ℕ → ℕ → ℝ
  k : ℕ → ℕ → ℝ
  v : ℕ → ℕ → ℝ
  d : ℕ → ℕ → ℝ

namespace Lanes
variable (X : Lanes) (a : Fin 2)
/-- The scaled queries of head `a`. -/
def qa (R l : ℕ) : ℝ := hm a l (X.q R l * (1 / 8))
/-- The keys of head `a`. -/
def ka (t l : ℕ) : ℝ := hm a l (X.k t l)
/-- The output's gradient of head `a`. -/
def da (R l : ℕ) : ℝ := hm a l (X.d R l)
/-- The scores of head `a`. -/
def za (R t : ℕ) : ℝ := ∑ l ∈ Finset.range 128, X.qa a R l * X.k t l
/-- The weights' gradient of head `a`. -/
def ga (R t : ℕ) : ℝ := ∑ l ∈ Finset.range 128, X.da a R l * X.v t l
/-- A row's part of the keys' gradient. -/
def dkT (t l R : ℕ) : ℝ := dz (X.za 0) (X.ga 0) R t * X.qa 0 R l + dz (X.za 1) (X.ga 1) R t * X.qa 1 R l
/-- A row's part of the values' gradient. -/
def dvT (t l R : ℕ) : ℝ := w (X.za 0) R t * X.da 0 R l + w (X.za 1) R t * X.da 1 R l
/-- A column's part of the queries' gradient. -/
def dqT (R l t : ℕ) : ℝ := dz (X.za 0) (X.ga 0) R t * X.ka 0 t l + dz (X.za 1) (X.ga 1) R t * X.ka 1 t l
end Lanes

/-- The long array holds the real numbers `f`. -/
def RL (Y : S8320x128.Idx → EReal) (f : ℕ → ℕ → ℝ) : Prop := ∀ (t : Fin 8320) (l : Fin 128), Y (ix2 t l) = ((f t.val l.val : ℝ) : EReal)

theorem rd_rows {Y : Vec Ideal S8320x128 .f32} {f : ℕ → ℕ → ℝ} (j : Fin 65) (h : RL Y f) :
    R2 (rows j Y) (fun r l => f (128 * j.val + r) l) := fun r c => h ⟨128 * j.val + r.val, by omega⟩ c

theorem rd_rows' {Y : Vec Ideal S8320x128 .bf16} {f : ℕ → ℕ → ℝ} (j : Fin 65) (h : RL Y f) :
    R2 (rows j Y) (fun r l => f (128 * j.val + r) l) := fun r c => h ⟨128 * j.val + r.val, by omega⟩ c

/-- What a row block's tiles read, in real numbers. -/
structure EnvR (E : Env Ideal) (X : Lanes) (i : ℕ) : Prop where
  kb : RL E.kb X.k
  ka : RL E.ka (X.ka 0)
  kc : RL E.kc (X.ka 1)
  vb : RL E.vb X.v
  u : Tri E.u
  q0 : R2 E.q0 (fun r l => X.qa 0 (128 * i + r) l)
  q1 : R2 E.q1 (fun r l => X.qa 1 (128 * i + r) l)
  d0 : R2 E.d0 (fun r l => X.da 0 (128 * i + r) l)
  d1 : R2 E.d1 (fun r l => X.da 1 (128 * i + r) l)
  s0 : ∀ r : Fin 128, E.s0 (ix2 r 0) = ((eFrom (X.za 0) (X.ga 0) (128 * i + r.val) 0 : ℝ) : EReal)
  s1 : ∀ r : Fin 128, E.s1 (ix2 r 0) = ((eFrom (X.za 1) (X.ga 1) (128 * i + r.val) 0 : ℝ) : EReal)

/-- A sum over the rows before row block `i`, and from keys block `J` on over the row block's too. -/
def upTo (f : ℕ → ℝ) (i J t : ℕ) : ℝ :=
  ∑ R ∈ Finset.range (128 * i), f R + if 128 * J ≤ t then ∑ r ∈ Finset.range 128, f (128 * i + r) else 0

/-- What the body carries after the tiles from keys block `J` on, at row block `i`. -/
structure Holds (X : Lanes) (i J : ℕ) (s : St Ideal) : Prop where
  dk : RL s.dk (fun t l => upTo (X.dkT t l) i J t)
  dv : RL s.dv (fun t l => upTo (X.dvT t l) i J t)
  dq : R2 s.dq (fun r l => ∑ t ∈ Finset.Ico (128 * J) 8320, X.dqT (128 * i + r) l t)
  c : ∀ (a : Fin 2) (r : Fin 128), s.c (ix3 a r 0) = ((lmFrom (X.za a) (128 * i + r.val) (128 * J) : ℝ) : EReal)
  ce : ∀ (a : Fin 2) (r : Fin 128), s.ce (ix3 a r 0) = ((eFrom (X.za a) (X.ga a) (128 * i + r.val) (128 * J) : ℝ) : EReal)

/-- The rows of keys block `j`, replaced by themselves with the row block's parts added. -/
theorem put_upTo {Y : Vec Ideal S8320x128 .f32} {y : FVec Ideal S128x128 .f32} {f : ℕ → ℕ → ℕ → ℝ} {i : ℕ} (j : Fin 65)
    (hY : RL Y (fun t l => upTo (f t l) i (j.val + 1) t))
    (hy : R2 y (fun r l => upTo (f (128 * j.val + r) l) i (j.val + 1) (128 * j.val + r)
      + ∑ r' ∈ Finset.range 128, f (128 * j.val + r) l (128 * i + r'))) :
    RL (putRows j y Y) (fun t l => upTo (f t l) i j.val t) := fun t l => by
  show (if h : 128 * j.val ≤ t.val ∧ t.val < 128 * j.val + 128 then y (ix2 ⟨t.val - 128 * j.val, by omega⟩ l) else Y (ix2 t l)) = _
  by_cases h : 128 * j.val ≤ t.val ∧ t.val < 128 * j.val + 128
  · rw [dif_pos h, hy ⟨t.val - 128 * j.val, by omega⟩ l]
    refine congrArg _ ?_
    have e : 128 * j.val + (t.val - 128 * j.val) = t.val := by omega
    beta_reduce
    show upTo (f (128 * j.val + (t.val - 128 * j.val)) l.val) i (j.val + 1) (128 * j.val + (t.val - 128 * j.val)) + _ = _
    simp only [e]
    unfold upTo
    rw [if_neg (by omega), if_pos h.1, add_zero]
  · rw [dif_neg h, hY t l]
    refine congrArg _ ?_
    beta_reduce
    unfold upTo
    by_cases h' : 128 * j.val ≤ t.val
    · rw [if_pos (by omega), if_pos h']
    · rw [if_neg (by omega), if_neg h']

section
variable {X : Lanes} {E : Env Ideal} {s : St Ideal} {m : Option (IVec S128x128 1)} {i : ℕ} (j : Fin 65)

theorem rd_z0 (hE : EnvR E X i) : R2 (rowsDot E.q0 (rows j E.kb)) (fun r c => X.za 0 (128 * i + r) (128 * j.val + c)) :=
  rd_rowsDot hE.q0 (rd_rows' j hE.kb)
theorem rd_z1 (hE : EnvR E X i) : R2 (rowsDot E.q1 (rows j E.kb)) (fun r c => X.za 1 (128 * i + r) (128 * j.val + c)) :=
  rd_rowsDot hE.q1 (rd_rows' j hE.kb)
theorem rd_g0 (hE : EnvR E X i) : R2 (rowsDot E.d0 (rows j E.vb)) (fun r c => X.ga 0 (128 * i + r) (128 * j.val + c)) :=
  rd_rowsDot hE.d0 (rd_rows' j hE.vb)
theorem rd_g1 (hE : EnvR E X i) : R2 (rowsDot E.d1 (rows j E.vb)) (fun r c => X.ga 1 (128 * i + r) (128 * j.val + c)) :=
  rd_rowsDot hE.d1 (rd_rows' j hE.vb)

theorem tile_holds (hE : EnvR E X i) (hM : MaskIs m (128 * i) (128 * j.val)) (h : Holds X i (j.val + 1) s) :
    Holds X i j.val (tile E m j s) := by
  have hj := j.isLt
  have c0 : RC (colOf 0 s.c) (fun r => lmFrom (X.za 0) (128 * i + r) (128 * (j.val + 1))) := fun r => h.c 0 r
  have c1 : RC (colOf 1 s.c) (fun r => lmFrom (X.za 1) (128 * i + r) (128 * (j.val + 1))) := fun r => h.c 1 r
  have e0 : RC (colOf 0 s.ce) (fun r => eFrom (X.za 0) (X.ga 0) (128 * i + r) (128 * (j.val + 1))) := fun r => h.ce 0 r
  have e1 : RC (colOf 1 s.ce) (fun r => eFrom (X.za 1) (X.ga 1) (128 * i + r) (128 * (j.val + 1))) := fun r => h.ce 1 r
  have z0 := rd_z0 j hE
  have z1 := rd_z1 j hE
  have g0 := rd_g0 j hE
  have g1 := rd_g1 j hE
  have dz0h := rd_dz hj hM hE.u z0 g0 c0 e0 hE.s0
  have dz1h := rd_dz hj hM hE.u z1 g1 c1 e1 hE.s1
  have w0h := rd_w hj hM hE.u z0 c0
  have w1h := rd_w hj hM hE.u z1 c1
  have lm0 := rd_lm hM z0
  have lm1 := rd_lm hM z1
  have e0h := rd_e hj hM hE.u z0 g0 c0
  have e1h := rd_e hj hM hE.u z1 g1 c1
  have nc0 := rd_next (f := fun r t => lm (X.za 0) (128 * i + r) t) hj hE.u lm0 c0
  have nc1 := rd_next (f := fun r t => lm (X.za 1) (128 * i + r) t) hj hE.u lm1 c1
  have ne0 := rd_next (f := fun r t => e (X.za 0) (X.ga 0) (128 * i + r) t) hj hE.u e0h e0
  have ne1 := rd_next (f := fun r t => e (X.za 1) (X.ga 1) (128 * i + r) t) hj hE.u e1h e1
  refine ⟨?_, ?_, ?_, ?_, ?_⟩
  · rw [tile_dk]
    refine put_upTo j h.dk fun r l => ?_
    refine (rd_plusDotT (rd_plusDotT (rd_rows j h.dk) dz0h hE.q0) dz1h hE.q1 r l).trans (congrArg _ ?_)
    beta_reduce
    rw [add_assoc, ← Finset.sum_add_distrib]; rfl
  · rw [tile_dv]
    refine put_upTo j h.dv fun r l => ?_
    refine (rd_plusDotT (rd_plusDotT (rd_rows j h.dv) w0h hE.d0) w1h hE.d1 r l).trans (congrArg _ ?_)
    beta_reduce
    rw [add_assoc, ← Finset.sum_add_distrib]; rfl
  · rw [tile_dq]
    intro r l
    refine (rd_plusDot (rd_plusDot h.dq dz0h (rd_rows' j hE.ka)) dz1h (rd_rows' j hE.kc) r l).trans (congrArg _ ?_)
    beta_reduce
    rw [sum_block _ j.val hj, add_assoc, ← Finset.sum_add_distrib, add_comm]; rfl
  · intro a r
    rw [tile_c]
    match a with
    | ⟨0, _⟩ => exact nc0 r
    | ⟨1, _⟩ => exact nc1 r
  · intro a r
    rw [tile_ce]
    match a with
    | ⟨0, _⟩ => exact ne0 r
    | ⟨1, _⟩ => exact ne1 r
end

/-! ## The masks -/

theorem cmp_slt (a b : ℕ) (ha : a < 2 ^ 31) (hb : b < 2 ^ 31) :
    IntOp.cmpi .slt (BitVec.ofNat 32 a) (BitVec.ofNat 32 b) = if a < b then 1#1 else 0#1 := by
  have h1 : (BitVec.ofNat 32 a).toInt = a := WordCmp.toInt_ofNat_of_lt (w := 32) ha
  have h2 : (BitVec.ofNat 32 b).toInt = b := WordCmp.toInt_ofNat_of_lt (w := 32) hb
  by_cases h : a < b <;> simp [IntOp.cmpi, BitVec.slt, h1, h2, h]

theorem cmp_sge (a b : ℕ) (ha : a < 2 ^ 31) (hb : b < 2 ^ 31) :
    IntOp.cmpi .sge (BitVec.ofNat 32 a) (BitVec.ofNat 32 b) = if b ≤ a then 1#1 else 0#1 := by
  have h1 : (BitVec.ofNat 32 a).toInt = a := WordCmp.toInt_ofNat_of_lt (w := 32) ha
  have h2 : (BitVec.ofNat 32 b).toInt = b := WordCmp.toInt_ofNat_of_lt (w := 32) hb
  by_cases h : b ≤ a <;> simp [IntOp.cmpi, BitVec.sle, h1, h2, h]

theorem and_ite (p q : Prop) [Decidable p] [Decidable q] :
    IntOp.andi (if p then 1#1 else 0#1) (if q then 1#1 else 0#1) = if p ∧ q then 1#1 else 0#1 := by
  by_cases hp : p <;> by_cases hq : q <;> simp [IntOp.andi, hp, hq]

theorem mask_diag (i : ℕ) (hi : i < 65) : MaskIs (some (diagMask i)) (128 * i) (128 * i) := fun r c => by
  show diagMask i (ix2 r c) = _
  unfold diagMask k0_pay136
  pointwise
  have e : IntOp.addi (Scalar.muli (BitVec.ofNat 32 i) 128#32) (BitVec.ofNat 32 c.val) = BitVec.ofNat 32 (128 * i + c.val) := by
    show BitVec.ofNat 32 i * 128#32 + BitVec.ofNat 32 c.val = _
    rw [Nat.mul_comm, BitVec.ofNat_add, BitVec.ofNat_mul]
  rw [e, cmp_slt _ _ (by omega) (by omega), cmp_sge _ 112 (by omega) (by omega), and_ite]
  refine if_congr ?_ rfl rfl
  unfold keep
  omega

theorem mask_first (i : ℕ) (hi : 0 < i) : MaskIs (some k0_pay78) (128 * i) (128 * (0 : Fin 65).val) := fun r c => by
  show k0_pay78 (ix2 r c) = _
  unfold k0_pay78
  pointwise
  rw [cmp_sge _ 112 (by omega) (by omega)]
  refine if_congr ?_ rfl rfl
  unfold keep
  have : (0 : Fin 65).val = 0 := rfl
  omega

theorem mask_none (i j : ℕ) (hj : 0 < j) (hi : j < i) : MaskIs none (128 * i) (128 * j) := fun r c => by
  show keep _ _
  unfold keep
  omega

/-! ## A row block -/

section
variable {X : Lanes} {E : Env Ideal}

theorem start_holds (i : ℕ) {dk dv : Vec Ideal S8320x128 .f32}
    (hk : RL dk (fun t l => ∑ R ∈ Finset.range (128 * i), X.dkT t l R))
    (hv : RL dv (fun t l => ∑ R ∈ Finset.range (128 * i), X.dvT t l R)) : Holds X i (i + 1) (start dk dv) := by
  refine ⟨fun t l => ?_, fun t l => ?_, fun r l => ?_, fun a r => ?_, fun a r => ?_⟩
  · refine (hk t l).trans (congrArg _ ?_)
    unfold upTo
    beta_reduce
    split
    · next h =>
      rw [Finset.sum_eq_zero (s := Finset.range 128), add_zero]
      intro r hr
      have := Finset.mem_range.mp hr
      have hn : ¬ keep (128 * i + r) t.val := fun hk => by have := hk.1; omega
      unfold Lanes.dkT
      rw [dz_of_not _ _ _ _ hn, dz_of_not _ _ _ _ hn]; ring
    · rw [add_zero]
  · refine (hv t l).trans (congrArg _ ?_)
    unfold upTo
    beta_reduce
    split
    · next h =>
      rw [Finset.sum_eq_zero (s := Finset.range 128), add_zero]
      intro r hr
      have := Finset.mem_range.mp hr
      have hn : ¬ keep (128 * i + r) t.val := fun hk => by have := hk.1; omega
      unfold Lanes.dvT
      rw [w_of_not _ _ _ hn, w_of_not _ _ _ hn]; ring
    · rw [add_zero]
  · refine Eq.trans (b := (0 : EReal)) ?_ ?_
    · show k0_pay133 (F := Ideal) (ix2 r l) = _
      unfold k0_pay133; pointwise
    · rw [← EReal.coe_zero]
      refine congrArg _ (Finset.sum_eq_zero fun t ht => ?_).symm
      have := Finset.mem_Ico.mp ht
      have hn : ¬ keep (128 * i + r.val) t := fun hk => by have := hk.1; omega
      unfold Lanes.dqT
      rw [dz_of_not _ _ _ _ hn, dz_of_not _ _ _ _ hn]; ring
  · refine Eq.trans (b := (0 : EReal)) ?_ ?_
    · show k0_pay134 (F := Ideal) (ix3 a r 0) = _
      unfold k0_pay134; pointwise
    · rw [lmFrom_zero _ _ _ (by omega), EReal.coe_zero]
  · refine Eq.trans (b := (0 : EReal)) ?_ ?_
    · show k0_pay135 (F := Ideal) (ix3 a r 0) = _
      unfold k0_pay135; pointwise
    · rw [eFrom_zero _ _ _ _ (by omega), EReal.coe_zero]

theorem between_holds (i : Fin 65) {s : St Ideal} (hE : EnvR E X i.val) (h : Holds X i.val i.val s) (n : ℕ) (hn : n + 1 ≤ i.val) :
    Holds X i.val (i.val - n) (between E i s n) := by
  induction n with
  | zero => exact h
  | succ n ih =>
    have ih := ih (by omega)
    have e : i.val - n = (⟨i.val - 1 - n, by omega⟩ : Fin 65).val + 1 := by show i.val - n = i.val - 1 - n + 1; omega
    rw [e] at ih
    have := tile_holds (m := none) ⟨i.val - 1 - n, by omega⟩ hE (mask_none _ _ (by show 0 < i.val - 1 - n; omega) (by show i.val - 1 - n < i.val; omega)) ih
    rw [show i.val - (n + 1) = i.val - 1 - n from by omega]
    exact this

/-- After a row block: all its tiles are done. -/
theorem rowBlock_holds (i : Fin 65) (hE : EnvR E X i.val) {dk dv : Vec Ideal S8320x128 .f32}
    (hk : RL dk (fun t l => ∑ R ∈ Finset.range (128 * i.val), X.dkT t l R))
    (hv : RL dv (fun t l => ∑ R ∈ Finset.range (128 * i.val), X.dvT t l R)) : Holds X i.val 0 (rowBlock E i (start dk dv)) := by
  have h := start_holds (X := X) i.val hk hv
  have h := tile_holds i hE (mask_diag i.val i.isLt) h
  unfold rowBlock
  split
  · next h0 => rw [h0] at h ⊢; exact h
  · next h0 =>
    have hb := between_holds i hE h (i.val - 1) (by omega)
    rw [show i.val - (i.val - 1) = (0 : Fin 65).val + 1 from by show i.val - (i.val - 1) = 0 + 1; omega] at hb
    exact tile_holds 0 hE (mask_first i.val (by omega)) hb

theorem upTo_all (f : ℕ → ℝ) (i t : ℕ) : upTo f i 0 t = ∑ R ∈ Finset.range (128 * (i + 1)), f R := by
  unfold upTo
  rw [if_pos (by omega), show 128 * (i + 1) = 128 * i + 128 from by ring, Finset.sum_range_add]
end

end Cert.KernelIdeal.Sb

end
-- ==== Proof.SbRef.lean ====
/-
  The reference of the stick-breaking attention's backward pass, read at an index: with real arguments its three results
  are the gradients `dqH`, `dkH` and `dvH` of `SbMath`.
-/
module

public import proofs.«01_k».proof.Proof.SbSum
public import proofs.«01_k».proof.Proof.SbState
public import proofs.«01_k».proof.Proof.Gen.ReferenceIdeal.Read

@[expose] public section

set_option maxRecDepth 16384

noncomputable section

namespace Cert.SbRef

open Idealize.ShloMosaic Idealize.ShloMosaic.TcCoe Cert.ReferenceIdeal Cert.ReferenceIdeal.Read Cert.Reals Cert.SbMath
open Cert.KernelIdeal.Sb (fsum coe_max coe_min abs_coe cmp_slt cmp_sge and_ite)

/-- The fused projection's entry, counted by natural numbers. -/
def qkvF (x0 : S1x8320x1536.Idx → EReal) (R c : ℕ) : ℝ :=
  if h : R < 8320 ∧ c < 1536 then (x0 (ix3 0 ⟨R, h.1⟩ ⟨c, h.2⟩)).toReal else 0
/-- The queries. -/
def qF (x0 : S1x8320x1536.Idx → EReal) (R c : ℕ) : ℝ := qkvF x0 R c
/-- The keys. -/
def kF (x0 : S1x8320x1536.Idx → EReal) (R c : ℕ) : ℝ := qkvF x0 R (512 + c)
/-- The values. -/
def vF (x0 : S1x8320x1536.Idx → EReal) (R c : ℕ) : ℝ := qkvF x0 R (1024 + c)
/-- The output's gradient. -/
def dF (x1 : S1x8320x512.Idx → EReal) (R c : ℕ) : ℝ := if h : R < 8320 ∧ c < 512 then (x1 (ix3 0 ⟨R, h.1⟩ ⟨c, h.2⟩)).toReal else 0

variable {x0 : S1x8320x1536.Idx → EReal} {x1 : S1x8320x512.Idx → EReal}

theorem qkvF_eq (h0 : ∀ i, ∃ r : ℝ, x0 i = r) (R : Fin 8320) (c : Fin 1536) : x0 (ix3 0 R c) = ((qkvF x0 R.val c.val : ℝ) : EReal) := by
  unfold qkvF
  rw [dif_pos ⟨R.isLt, c.isLt⟩]
  obtain ⟨r, hr⟩ := h0 (ix3 0 R c)
  exact hr.trans (congrArg _ (by rw [hr]; rfl))

theorem dF_eq (h1 : ∀ i, ∃ r : ℝ, x1 i = r) (R : Fin 8320) (c : Fin 512) : x1 (ix3 0 R c) = ((dF x1 R.val c.val : ℝ) : EReal) := by
  unfold dF
  rw [dif_pos ⟨R.isLt, c.isLt⟩]
  obtain ⟨r, hr⟩ := h1 (ix3 0 R c)
  exact hr.trans (congrArg _ (by rw [hr]; rfl))

theorem const_eighth : Ideal.ofBits .f32 0x3E000000#32 = ((1 / 8 : ℝ) : EReal) := by
  simp [Ideal.ofBits, Ideal.ieee, -EReal.coe_mul]; norm_num

/-- The four-axis array holds the real numbers `f`, head by head. -/
def H4 (X : S1x8x8320x8320.Idx → EReal) (f : ℕ → ℕ → ℕ → ℝ) : Prop :=
  ∀ (h : Fin 8) (R t : Fin 8320), X (ix4 0 h R t) = ((f h.val R.val t.val : ℝ) : EReal)

/-! ## Arguments by head -/

theorem rd_q (h0 : ∀ i, ∃ r : ℝ, x0 i = r) (R : Fin 8320) (h : Fin 8) (d : Fin 64) :
    val_main_v3 (F := Ideal) x0 (ix4 0 R h d) = ((qF x0 R.val (64 * h.val + d.val) : ℝ) : EReal) := by
  unfold val_main_v3 val_main_v0
  pointwise
  refine (qkvF_eq h0 _ _).trans (congrArg _ ?_)
  show qkvF x0 _ _ = qkvF x0 _ _
  congr 1
  show h.val * 64 + d.val = _
  omega

theorem rd_k (h0 : ∀ i, ∃ r : ℝ, x0 i = r) (R : Fin 8320) (h : Fin 8) (d : Fin 64) :
    val_main_v4 (F := Ideal) x0 (ix4 0 R h d) = ((kF x0 R.val (64 * h.val + d.val) : ℝ) : EReal) := by
  unfold val_main_v4 val_main_v1
  pointwise
  refine (qkvF_eq h0 _ _).trans (congrArg _ ?_)
  show qkvF x0 _ _ = qkvF x0 _ _
  congr 1
  show 512 + (h.val * 64 + d.val) = _
  omega

theorem rd_v (h0 : ∀ i, ∃ r : ℝ, x0 i = r) (R : Fin 8320) (h : Fin 8) (d : Fin 64) :
    val_main_v5 (F := Ideal) x0 (ix4 0 R h d) = ((vF x0 R.val (64 * h.val + d.val) : ℝ) : EReal) := by
  unfold val_main_v5 val_main_v2
  pointwise
  refine (qkvF_eq h0 _ _).trans (congrArg _ ?_)
  show qkvF x0 _ _ = qkvF x0 _ _
  congr 1
  show 1024 + (h.val * 64 + d.val) = _
  omega

theorem rd_d (h1 : ∀ i, ∃ r : ℝ, x1 i = r) (R : Fin 8320) (h : Fin 8) (d : Fin 64) :
    val_main_v35 (F := Ideal) x1 (ix4 0 h d R) = ((dF x1 R.val (64 * h.val + d.val) : ℝ) : EReal) := by
  unfold val_main_v35 val_main_v34
  pointwise
  refine (dF_eq h1 _ _).trans (congrArg _ ?_)
  congr 1
  show h.val * 64 + d.val = _
  omega

/-! ## The weights -/

/-- The scores. -/
abbrev zF (x0 : S1x8320x1536.Idx → EReal) (h : ℕ) : ℕ → ℕ → ℝ := zH (qF x0) (kF x0) h
/-- The weights' gradient. -/
abbrev gF (x0 : S1x8320x1536.Idx → EReal) (x1 : S1x8320x512.Idx → EReal) (h : ℕ) : ℕ → ℕ → ℝ := gH (vF x0) (dF x1) h

theorem rd_z (h0 : ∀ i, ∃ r : ℝ, x0 i = r) : H4 (val_main_v8 (F := Ideal) x0) (zF x0) := fun h R t => by
  unfold val_main_v8 val_main_v7 val_main_v6 val_main_cst
  pointwise
  rw [const_eighth]
  refine Eq.trans (congrArg (· * _) ((Finset.sum_congr rfl fun d _ => ?_).trans
    (fsum 64 (fun d => qF x0 R.val (64 * h.val + d) * kF x0 t.val (64 * h.val + d))))) (EReal.coe_mul _ _).symm
  rw [rd_q h0, rd_k h0, ← EReal.coe_mul]

/-- The softplus of the negated scores. -/
theorem rd_soft (h0 : ∀ i, ∃ r : ℝ, x0 i = r) : H4 (val_main_call0_v1_0 (F := Ideal) x0) (fun h R t => -lb (zF x0 h R t)) := fun h R t => by
  have hz := rd_z h0 h R t
  unfold val_main_call0_v1_0 val_main_call0_call0_v11 val_main_call0_call0_v10 val_main_call0_call0_v9 val_main_call0_call0_v8
    val_main_call0_call0_v7 val_main_call0_call0_v6 val_main_call0_call0_v4 val_main_call0_call0_v3 val_main_call0_call0_v1
    val_main_call0_v0
  generalize val_main_v8 (F := Ideal) x0 = Z at hz ⊢
  unfold val_main_call0_call0_v0 val_main_call0_call0_v2 val_main_call0_call0_v5 val_main_call0_call0_cst
  pointwise
  rw [hz, if_neg (fun h => h rfl)]
  generalize zF x0 h.val R.val t.val = y
  rw [← EReal.coe_neg, abs_coe, ← EReal.coe_neg, Cert.KernelIdeal.Sb.log1p_exp_coe, ← EReal.coe_zero, ← coe_max, ← EReal.coe_add]
  refine congrArg _ ?_
  unfold lb sp
  rw [abs_neg, show max (-y) 0 = -min y 0 by rw [← neg_zero, max_neg_neg, neg_zero]]
  ring

theorem rd_lb (h0 : ∀ i, ∃ r : ℝ, x0 i = r) : H4 (val_main_v20_0 (F := Ideal) x0) (fun h R t => lb (zF x0 h R t)) := fun h R t => by
  have hs := rd_soft h0 h R t
  unfold val_main_v20_0
  generalize val_main_call0_v1_0 (F := Ideal) x0 = Z at hs ⊢
  pointwise
  rw [hs, ← EReal.coe_neg, neg_neg]

theorem lb_sub (y : ℝ) : lb y - y = l1 y := by
  unfold lb l1
  have := min_add_max y 0
  linarith

/-- One minus the sigmoid, from the log-sigmoid's own rule. -/
theorem rd_exp1 (h0 : ∀ i, ∃ r : ℝ, x0 i = r) : H4 (val_main_v20_1 (F := Ideal) x0) (fun h R t => Real.exp (l1 (zF x0 h R t))) := fun h R t => by
  have hs := rd_soft h0 h R t
  have hz := rd_z h0 h R t
  unfold val_main_v20_1 val_main_call0_call0_v21 val_main_call0_call0_v20 val_main_call0_call0_v18 val_main_call0_call0_v16 val_main_call0_call0_v14
  generalize val_main_call0_v1_0 (F := Ideal) x0 = Y at hs ⊢
  unfold val_main_call0_v0
  generalize val_main_v8 (F := Ideal) x0 = Z at hz ⊢
  unfold val_main_call0_call0_v13 val_main_call0_call0_cst_0 val_main_call0_call0_v15 val_main_call0_call0_cst_1
    val_main_call0_call0_v17 val_main_call0_call0_cst_2 val_main_call0_call0_v19 val_main_call0_call0_cst_3
  pointwise
  rw [hs, hz, const_inf, ← EReal.coe_neg, if_neg (EReal.coe_ne_top _), if_neg (EReal.coe_ne_top _), ← EReal.coe_sub, Ideal.exp_coe]
  refine congrArg _ (congrArg _ ?_)
  rw [← lb_sub]
  ring

theorem rd_mask (h : Fin 8) (R t : Fin 8320) : val_main_v22_1 (F := Ideal) (ix4 0 h R t) = if keep R.val t.val then 1#1 else 0#1 := by
  unfold val_main_v22_1 val_main_v19 val_main_v18 val_main_v17 val_main_v16 val_main_v15 val_main_v14 val_main_v13 val_main_v12
    val_main_v11 val_main_v10 val_main_v9 val_main_c
  pointwise
  have h1 := t.isLt
  have h2 := R.isLt
  rw [cmp_slt _ _ (by omega) (by omega), cmp_sge _ 112 (by omega) (by omega), and_ite]

theorem mask_same : val_main_v31_1 (F := Ideal) = val_main_v22_1 (F := Ideal) := rfl

/-- A masked choice. -/
theorem pick {R t : ℕ} {b : BitVec 1} {x y : EReal} (f : ℝ) (hb : b = if keep R t then 1#1 else 0#1) (hx : x = ((f : ℝ) : EReal)) (hy : y = 0) :
    Scalar.select b x y = (((if keep R t then f else 0) : ℝ) : EReal) := by
  subst hb hx hy
  by_cases hk : keep R t
  · rw [if_pos hk, if_pos hk]; rfl
  · rw [if_neg hk, if_neg hk]; rfl

theorem rd_lm (h0 : ∀ i, ∃ r : ℝ, x0 i = r) : H4 (val_main_v22_0 (F := Ideal) x0) (fun h R t => lm (zF x0 h) R t) := fun h R t => by
  have hl := rd_lb h0 h R t
  have hz := rd_z h0 h R t
  have hm := rd_mask h R t
  unfold val_main_v22_0 val_main_v21
  generalize val_main_v20_0 (F := Ideal) x0 = Y at hl ⊢
  generalize val_main_v8 (F := Ideal) x0 = Z at hz ⊢
  generalize val_main_v22_1 (F := Ideal) = M at hm ⊢
  unfold val_main_call1_v2 val_main_call1_v0 val_main_cst_0
  refine pick _ hm ?_ ?_
  · show Y _ - Z _ = _
    rw [hl, hz, ← EReal.coe_sub, lb_sub]
  · pointwise
    show constant (F := Ideal) S_ .f32 0x00000000#32 ix0 = 0
    pointwise

theorem rd_from (h0 : ∀ i, ∃ r : ℝ, x0 i = r) : H4 (val_main_v23 (F := Ideal) x0) (fun h R t => lmFrom (zF x0 h) R t) := fun h R t => by
  have hl := rd_lm h0 h R
  unfold val_main_v23
  refine Cert.SbSum.suffix (M := 8319) _ _ _ _ ?_ 0 h R t (fun u => lm (zF x0 h.val) R.val u) hl
  unfold val_main_call2_v0 val_main_call2_cst
  pointwise

theorem rd_behind (h0 : ∀ i, ∃ r : ℝ, x0 i = r) : H4 (val_main_v27 (F := Ideal) x0) (fun h R t => lmFrom (zF x0 h) R (t + 1)) := fun h R t => by
  have hl := rd_from h0 h R
  unfold val_main_v27 val_main_v26 val_main_v24 val_main_cst_1
  generalize val_main_v23 (F := Ideal) x0 = Z at hl ⊢
  pointwise
  have ht := t.isLt
  by_cases hk : t.val < 8319
  · rw [dif_pos hk, hl]
    refine congrArg _ ?_
    show lmFrom _ _ (1 + t.val) = _
    rw [Nat.add_comm]
  · rw [dif_neg hk, show t.val + 1 = 8320 by omega]
    rfl

theorem rd_wx (h0 : ∀ i, ∃ r : ℝ, x0 i = r) : H4 (val_main_v30 (F := Ideal) x0) (fun h R t => wx (zF x0 h) R t) := fun h R t => by
  have hl := rd_lb h0 h R t
  have hb := rd_behind h0 h R t
  unfold val_main_v30 val_main_v29
  generalize val_main_v20_0 (F := Ideal) x0 = Y at hl ⊢
  generalize val_main_v27 (F := Ideal) x0 = Z at hb ⊢
  pointwise
  rw [hl, hb, ← EReal.coe_add, Ideal.exp_coe]
  rfl

theorem rd_w (h0 : ∀ i, ∃ r : ℝ, x0 i = r) : H4 (val_main_v31_0 (F := Ideal) x0) (fun h R t => w (zF x0 h) R t) := fun h R t => by
  have hw := rd_wx h0 h R t
  have hm := rd_mask h R t
  unfold val_main_v31_0
  rw [mask_same]
  generalize val_main_v30 (F := Ideal) x0 = Y at hw ⊢
  generalize val_main_v22_1 (F := Ideal) = M at hm ⊢
  unfold val_main_call3_v2 val_main_call3_v0 val_main_cst_3
  refine pick _ hm hw ?_
  pointwise
  show constant (F := Ideal) S_ .f32 0x00000000#32 ix0 = 0
  pointwise

/-! ## The gradients of the weights and of the scores -/

theorem rd_g (h0 : ∀ i, ∃ r : ℝ, x0 i = r) (h1 : ∀ i, ∃ r : ℝ, x1 i = r) : H4 (val_main_v36 (F := Ideal) x0 x1) (gF x0 x1) := fun h R t => by
  have hd := rd_d h1 R h
  have hv := rd_v h0 t h
  unfold val_main_v36
  generalize val_main_v35 (F := Ideal) x1 = Y at hd ⊢
  generalize val_main_v5 (F := Ideal) x0 = Z at hv ⊢
  pointwise
  refine (Finset.sum_congr rfl fun d _ => ?_).trans (fsum 64 (fun d => dF x1 R.val (64 * h.val + d) * vF x0 t.val (64 * h.val + d)))
  rw [hd, hv, ← EReal.coe_mul]

theorem rd_e (h0 : ∀ i, ∃ r : ℝ, x0 i = r) (h1 : ∀ i, ∃ r : ℝ, x1 i = r) :
    H4 (val_main_v40 (F := Ideal) x0 x1) (fun h R t => e (zF x0 h) (gF x0 x1 h) R t) := fun h R t => by
  have hw := rd_wx h0 h R t
  have hg := rd_g h0 h1 h R t
  have hm := rd_mask h R t
  unfold val_main_v40 val_main_v39
  rw [mask_same]
  generalize val_main_v30 (F := Ideal) x0 = Y at hw ⊢
  generalize val_main_v36 (F := Ideal) x0 x1 = Z at hg ⊢
  generalize val_main_v22_1 (F := Ideal) = M at hm ⊢
  have hs := pick (y := val_main_call4_v0 (F := Ideal) (ix4 0 h R t)) _ hm hg (by unfold val_main_call4_v0 val_main_call4_cst; pointwise)
  refine Eq.trans (congrArg₂ (· * ·) hs hw) ((EReal.coe_mul _ _).symm.trans (congrArg _ ?_))
  unfold e w
  beta_reduce
  by_cases hk : keep R.val t.val
  · rw [if_pos hk, if_pos hk, mul_comm]
  · rw [if_neg hk, if_neg hk, zero_mul, zero_mul]

theorem rd_before (h0 : ∀ i, ∃ r : ℝ, x0 i = r) (h1 : ∀ i, ∃ r : ℝ, x1 i = r) :
    H4 (val_main_v44 (F := Ideal) x0 x1) (fun h R t => ∑ u ∈ Finset.range t, e (zF x0 h) (gF x0 x1 h) R u) := fun h R t => by
  have he := rd_e h0 h1 h R
  unfold val_main_v44
  have hs : ∀ u : Fin 8320, val_main_v43 (F := Ideal) x0 x1 (ix4 0 h R u)
      = (((if 1 ≤ u.val then e (zF x0 h.val) (gF x0 x1 h.val) R.val (u.val - 1) else 0) : ℝ) : EReal) := fun u => by
    unfold val_main_v43 val_main_v41 val_main_cst_4
    generalize val_main_v40 (F := Ideal) x0 x1 = Z at he ⊢
    pointwise
    have hu := u.isLt
    by_cases hk : 1 ≤ u.val
    · rw [dif_pos ⟨hk, by omega⟩, he, if_pos hk]
    · rw [dif_neg fun h => hk h.1, if_neg hk]; rfl
  refine (Cert.SbSum.prefix_ (M := 8319) _ _ _ _ ?_ 0 h R t
    (fun u => if 1 ≤ u then e (zF x0 h.val) (gF x0 x1 h.val) R.val (u - 1) else 0) hs).trans (congrArg _ ?_)
  · unfold val_main_call5_v0 val_main_call5_cst
    pointwise
  · rw [Finset.sum_range_succ', if_neg (by omega), add_zero]
    exact Finset.sum_congr rfl fun u _ => if_pos (by omega)

theorem rd_dz (h0 : ∀ i, ∃ r : ℝ, x0 i = r) (h1 : ∀ i, ∃ r : ℝ, x1 i = r) :
    H4 (val_main_v51 (F := Ideal) x0 x1) (fun h R t => dz (zF x0 h) (gF x0 x1 h) R t * (1 / 8)) := fun h R t => by
  have he := rd_e h0 h1 h R t
  have hb := rd_before h0 h1 h R t
  have hx := rd_exp1 h0 h R t
  have hm := rd_mask h R t
  have hc : val_main_v45 (F := Ideal) x0 x1 (ix4 0 h R t)
      = (((if keep R.val t.val then ∑ u ∈ Finset.range t.val, e (zF x0 h.val) (gF x0 x1 h.val) R.val u else 0) : ℝ) : EReal) := by
    unfold val_main_v45
    generalize val_main_v44 (F := Ideal) x0 x1 = Z at hb ⊢
    generalize val_main_v22_1 (F := Ideal) = M at hm ⊢
    unfold val_main_call6_v0 val_main_call6_cst
    refine pick _ hm hb ?_
    pointwise
  unfold val_main_v51 val_main_v50 val_main_cst_5 val_main_v49 val_main_v48 val_main_call7_v1 val_main_call7_v0 val_main_v47 val_main_v46
  generalize val_main_v45 (F := Ideal) x0 x1 = C at hc ⊢
  generalize val_main_v40 (F := Ideal) x0 x1 = E at he ⊢
  generalize val_main_v20_1 (F := Ideal) x0 = X at hx ⊢
  pointwise
  rw [hc, he, hx, const_eighth, ← EReal.coe_add, ← EReal.coe_neg, ← EReal.coe_neg, ← EReal.coe_mul, ← EReal.coe_neg, ← EReal.coe_add,
    ← EReal.coe_mul]
  refine congrArg _ ?_
  rw [dz_eq]
  ring

/-! ## The results -/

theorem split_col (c : Fin 512) : 64 * (c.val / 64) + c.val % 64 = c.val := by omega

theorem rd_dq (h0 : ∀ i, ∃ r : ℝ, x0 i = r) (h1 : ∀ i, ∃ r : ℝ, x1 i = r) (R : Fin 8320) (c : Fin 512) :
    val_main_v56 (F := Ideal) x0 x1 (ix2 R c) = ((dqH (qF x0) (kF x0) (vF x0) (dF x1) R.val c.val : ℝ) : EReal) := by
  have hz := rd_dz h0 h1
  have hk := rd_k h0
  unfold val_main_v56 val_main_v55 val_main_v54
  generalize val_main_v51 (F := Ideal) x0 x1 = Z at hz ⊢
  generalize val_main_v4 (F := Ideal) x0 = K at hk ⊢
  pointwise
  refine (Finset.sum_congr rfl fun x _ => ?_).trans ((fsum 8320 (fun t => dz (zF x0 (c.val / 64)) (gF x0 x1 (c.val / 64)) R.val t * (1 / 8)
    * kF x0 t c.val)).trans (congrArg _ ?_))
  · rw [hz, hk, ← EReal.coe_mul]
    show (((_ * kF x0 x.val (64 * (c.val / 64) + c.val % 64) : ℝ)) : EReal) = _
    rw [split_col]
  · unfold dqH
    rw [Finset.sum_mul]
    exact Finset.sum_congr rfl fun t _ => by ring

theorem rd_dk (h0 : ∀ i, ∃ r : ℝ, x0 i = r) (h1 : ∀ i, ∃ r : ℝ, x1 i = r) (R : Fin 8320) (c : Fin 512) :
    val_main_v57 (F := Ideal) x0 x1 (ix2 R c) = ((dkH (qF x0) (kF x0) (vF x0) (dF x1) R.val c.val : ℝ) : EReal) := by
  have hz := rd_dz h0 h1
  have hk := rd_q h0
  unfold val_main_v57 val_main_v53 val_main_v52
  generalize val_main_v51 (F := Ideal) x0 x1 = Z at hz ⊢
  generalize val_main_v3 (F := Ideal) x0 = K at hk ⊢
  pointwise
  refine (Finset.sum_congr rfl fun x _ => ?_).trans ((fsum 8320 (fun t => dz (zF x0 (c.val / 64)) (gF x0 x1 (c.val / 64)) t R.val * (1 / 8)
    * qF x0 t c.val)).trans (congrArg _ ?_))
  · rw [hz, hk, ← EReal.coe_mul]
    show (((_ * qF x0 x.val (64 * (c.val / 64) + c.val % 64) : ℝ)) : EReal) = _
    rw [split_col]
  · exact Finset.sum_congr rfl fun t _ => by ring

theorem rd_dv (h0 : ∀ i, ∃ r : ℝ, x0 i = r) (h1 : ∀ i, ∃ r : ℝ, x1 i = r) (R : Fin 8320) (c : Fin 512) :
    val_main_v58 (F := Ideal) x0 x1 (ix2 R c) = ((dvH (qF x0) (kF x0) (dF x1) R.val c.val : ℝ) : EReal) := by
  have hz := rd_w h0
  have hk := rd_d h1
  unfold val_main_v58 val_main_v38 val_main_v37
  generalize val_main_v31_0 (F := Ideal) x0 = Z at hz ⊢
  generalize val_main_v35 (F := Ideal) x1 = K at hk ⊢
  pointwise
  refine (Finset.sum_congr rfl fun x _ => ?_).trans (fsum 8320 (fun t => w (zF x0 (c.val / 64)) t R.val * dF x1 t c.val))
  rw [hz, hk, ← EReal.coe_mul]
  show (((dF x1 x.val (64 * (c.val / 64) + c.val % 64) * _ : ℝ)) : EReal) = _
  rw [split_col, mul_comm]

theorem rd_o (h0 : ∀ i, ∃ r : ℝ, x0 i = r) (R : Fin 8320) (h : Fin 8) (d : Fin 64) :
    val_main_v33 (F := Ideal) x0 (ix4 0 R h d) = ((oH (qF x0) (kF x0) (vF x0) R.val (64 * h.val + d.val) : ℝ) : EReal) := by
  have hz := rd_w h0
  have hk := rd_v h0
  unfold val_main_v33 val_main_v32
  generalize val_main_v31_0 (F := Ideal) x0 = Z at hz ⊢
  generalize val_main_v5 (F := Ideal) x0 = K at hk ⊢
  pointwise
  refine (Finset.sum_congr rfl fun x _ => ?_).trans (fsum 8320 (fun t => w (zF x0 ((64 * h.val + d.val) / 64)) R.val t
    * vF x0 t (64 * h.val + d.val)))
  have := d.isLt
  rw [hz, hk, ← EReal.coe_mul, show (64 * h.val + d.val) / 64 = h.val by omega, mul_comm]

end Cert.SbRef

end
-- ==== Proof.SbHost.lean ====
/-
  What the host's forward lines leave at the kernel's entry: the arguments by rows, the attention's output as the
  reference's own stages compute it, and the two stacked triangles.
-/
module

public import proofs.«01_k».proof.Proof.SbFrame
public import proofs.«01_k».proof.Proof.SbRef
public import Idealize.ShloMosaic.Lib.StableHlo.ReadAt

@[expose] public section

set_option maxRecDepth 16384

noncomputable section

namespace Cert.KernelIdeal.Sb

open Idealize.ShloMosaic Idealize.ShloMosaic.TcCoe Idealize.SL.Sem
open Gen Cert.SbMath Cert.SbRef Cert.ReferenceIdeal.Read

section
variable (W : Valuation τ sig (Elt Ideal)) (x0 : S1x8320x1536.Idx → EReal)

theorem after_both (l₁ l₂ : List (HloOp τ sig (Elt Ideal))) : StableHlo.after (l₁ ++ l₂) W = StableHlo.after l₂ (StableHlo.after l₁ W) := by
  induction l₁ generalizing W with
  | nil => rfl
  | cons op l ih => exact ih _

/-- The scores, the mask and the values after the first stretch. -/
theorem host0 (h : W (Proc.devRef .tc main_arg0) = x0) :
    StableHlo.after (hostOps0 (F := Ideal)) W (Proc.devRef .tc main_v8) = val_main_v8 (F := Ideal) x0
    ∧ StableHlo.after (hostOps0 (F := Ideal)) W (Proc.devRef .tc main_v19) = val_main_v19 (F := Ideal)
    ∧ StableHlo.after (hostOps0 (F := Ideal)) W (Proc.devRef .tc main_v5) = val_main_v5 (F := Ideal) x0 := by
  subst h
  refine ⟨?_, ?_, ?_⟩
  · after_reads_simp
    rfl
  · after_reads_simp
    rfl
  · after_reads_simp
    rfl

/-- The log-sigmoid. -/
theorem host1 (h : W (Proc.devRef .tc main_v8) = val_main_v8 (F := Ideal) x0) :
    StableHlo.after (hostOps0_1 (F := Ideal)) W (Proc.devRef .tc main_v20) = val_main_v20_0 (F := Ideal) x0
    ∧ StableHlo.after (hostOps0_1 (F := Ideal)) W (Proc.devRef .tc main_v8) = W (Proc.devRef .tc main_v8)
    ∧ StableHlo.after (hostOps0_1 (F := Ideal)) W (Proc.devRef .tc main_v19) = W (Proc.devRef .tc main_v19)
    ∧ StableHlo.after (hostOps0_1 (F := Ideal)) W (Proc.devRef .tc main_v5) = W (Proc.devRef .tc main_v5) := by
  refine ⟨?_, ?_, ?_, ?_⟩
  · after_reads_simp
    rw [h]
    rfl
  · after_reads_simp
  · after_reads_simp
  · after_reads_simp

theorem host2 (h : W (Proc.devRef .tc main_v8) = val_main_v8 (F := Ideal) x0) (h' : W (Proc.devRef .tc main_v20) = val_main_v20_0 (F := Ideal) x0) :
    StableHlo.after (hostOps0_2 (F := Ideal)) W (Proc.devRef .tc main_v21) = val_main_v21 (F := Ideal) x0
    ∧ StableHlo.after (hostOps0_2 (F := Ideal)) W (Proc.devRef .tc main_cst_1) = val_main_cst_0 (F := Ideal)
    ∧ StableHlo.after (hostOps0_2 (F := Ideal)) W (Proc.devRef .tc main_v20) = W (Proc.devRef .tc main_v20)
    ∧ StableHlo.after (hostOps0_2 (F := Ideal)) W (Proc.devRef .tc main_v19) = W (Proc.devRef .tc main_v19)
    ∧ StableHlo.after (hostOps0_2 (F := Ideal)) W (Proc.devRef .tc main_v5) = W (Proc.devRef .tc main_v5) := by
  refine ⟨?_, ?_, ?_, ?_, ?_⟩
  · after_reads_simp
    rw [h, h']
    rfl
  · after_reads_simp
    rfl
  · after_reads_simp
  · after_reads_simp
  · after_reads_simp

/-- The masked logarithms. -/
theorem host3 (h : W (Proc.devRef .tc main_v21) = val_main_v21 (F := Ideal) x0) (h' : W (Proc.devRef .tc main_cst_1) = val_main_cst_0 (F := Ideal))
    (hm : W (Proc.devRef .tc main_v19) = val_main_v19 (F := Ideal)) :
    StableHlo.after (hostOps0_3 (F := Ideal)) W (Proc.devRef .tc main_v22) = val_main_v22_0 (F := Ideal) x0
    ∧ StableHlo.after (hostOps0_3 (F := Ideal)) W (Proc.devRef .tc main_v20) = W (Proc.devRef .tc main_v20)
    ∧ StableHlo.after (hostOps0_3 (F := Ideal)) W (Proc.devRef .tc main_v19) = W (Proc.devRef .tc main_v19)
    ∧ StableHlo.after (hostOps0_3 (F := Ideal)) W (Proc.devRef .tc main_v5) = W (Proc.devRef .tc main_v5) := by
  refine ⟨?_, ?_, ?_, ?_⟩
  · after_reads_simp
    rw [h, h', hm]
    rfl
  · after_reads_simp
  · after_reads_simp
  · after_reads_simp

/-- Their running sums. -/
theorem host4 (h : W (Proc.devRef .tc main_v22) = val_main_v22_0 (F := Ideal) x0) :
    StableHlo.after (hostOps0_4 (F := Ideal)) W (Proc.devRef .tc main_v23) = val_main_v23 (F := Ideal) x0
    ∧ StableHlo.after (hostOps0_4 (F := Ideal)) W (Proc.devRef .tc main_v20) = W (Proc.devRef .tc main_v20)
    ∧ StableHlo.after (hostOps0_4 (F := Ideal)) W (Proc.devRef .tc main_v19) = W (Proc.devRef .tc main_v19)
    ∧ StableHlo.after (hostOps0_4 (F := Ideal)) W (Proc.devRef .tc main_v5) = W (Proc.devRef .tc main_v5) := by
  refine ⟨?_, ?_, ?_, ?_⟩
  · after_reads_simp
    rw [h]
    rfl
  · after_reads_simp
  · after_reads_simp
  · after_reads_simp

theorem host5 (h : W (Proc.devRef .tc main_v23) = val_main_v23 (F := Ideal) x0) (h' : W (Proc.devRef .tc main_v20) = val_main_v20_0 (F := Ideal) x0) :
    StableHlo.after (hostOps0_5 (F := Ideal)) W (Proc.devRef .tc main_v29) = val_main_v30 (F := Ideal) x0
    ∧ StableHlo.after (hostOps0_5 (F := Ideal)) W (Proc.devRef .tc main_cst_3) = val_main_cst_3 (F := Ideal)
    ∧ StableHlo.after (hostOps0_5 (F := Ideal)) W (Proc.devRef .tc main_v19) = W (Proc.devRef .tc main_v19)
    ∧ StableHlo.after (hostOps0_5 (F := Ideal)) W (Proc.devRef .tc main_v5) = W (Proc.devRef .tc main_v5) := by
  refine ⟨?_, ?_, ?_, ?_⟩
  · have e24 : StableHlo.upto (hostOps0_5 (F := Ideal)) W 4 (Proc.devRef .tc main_v24) = val_main_v24 (F := Ideal) x0 := by
      unfold StableHlo.upto
      simp only [hostOps0_5, List.take_succ_cons, List.take_zero]
      after_results_simp
      rw [h]
      rfl
    have e26 : StableHlo.upto (hostOps0_5 (F := Ideal)) W 4 (Proc.devRef .tc main_v26) = val_main_v26 (F := Ideal) := by
      unfold StableHlo.upto
      simp only [hostOps0_5, List.take_succ_cons, List.take_zero]
      after_results_simp
      rfl
    after_reads_simp
    rw [h', e24, e26]
    rfl
  · after_reads_simp
    rfl
  · after_reads_simp
  · after_reads_simp

/-- The weights. -/
theorem host6 (h : W (Proc.devRef .tc main_v29) = val_main_v30 (F := Ideal) x0) (h' : W (Proc.devRef .tc main_cst_3) = val_main_cst_3 (F := Ideal))
    (hm : W (Proc.devRef .tc main_v19) = val_main_v19 (F := Ideal)) :
    StableHlo.after (hostOps0_6 (F := Ideal)) W (Proc.devRef .tc main_v30) = val_main_v31_0 (F := Ideal) x0
    ∧ StableHlo.after (hostOps0_6 (F := Ideal)) W (Proc.devRef .tc main_v5) = W (Proc.devRef .tc main_v5) := by
  refine ⟨?_, ?_⟩
  · after_reads_simp
    rw [h, h', hm]
    rfl
  · after_reads_simp

/-- The output. -/
theorem host7 (h : W (Proc.devRef .tc main_v30) = val_main_v31_0 (F := Ideal) x0) (h' : W (Proc.devRef .tc main_v5) = val_main_v5 (F := Ideal) x0) :
    StableHlo.after (hostOps0_7 (F := Ideal)) W (Proc.devRef .tc main_v33) = shapeCast S8320x512 (val_main_v33 (F := Ideal) x0) shapeCasts_S1x8320x8x64_S8320x512 := by
  after_reads_simp
  rw [h, h']
  rfl
end

variable (m : (ℓ : Loc nD τ sig) → Buf (Elt Ideal) ℓ)

theorem V_v34 (c : Dev nD) (R : Fin 8320) (k : Fin 1536) :
    (V m c main_v34 : S8320x1536.Idx → EReal) (ix2 R k) = (m ((c.tc : Thread nD τ).loc main_arg0) : S1x8320x1536.Idx → EReal) (ix3 0 R k) := by
  unfold V
  after_reads_at

theorem V_v35 (c : Dev nD) (R : Fin 8320) (k : Fin 512) :
    (V m c main_v35 : S8320x512.Idx → EReal) (ix2 R k) = (m ((c.tc : Thread nD τ).loc main_arg1) : S1x8320x512.Idx → EReal) (ix3 0 R k) := by
  unfold V
  after_reads_at

theorem V_cst (c : Dev nD) (i : S256x128.Idx) :
    (V m c main_cst : S256x128.Idx → EReal) i = Ideal.ofBits .bf16 (lit0 (S256x128.rowMajor i)) := by
  unfold V
  after_reads_at

theorem V_v33 (c : Dev nD) :
    (V m c main_v33 : S8320x512.Idx → EReal) = shapeCast S8320x512 (val_main_v33 (F := Ideal) (m ((c.tc : Thread nD τ).loc main_arg0))) shapeCasts_S1x8320x8x64_S8320x512 := by
  have e : List.flatten [hostOps0, hostOps0_1, hostOps0_2, hostOps0_3, hostOps0_4, hostOps0_5, hostOps0_6, hostOps0_7]
      = hostOps0 ++ (hostOps0_1 ++ (hostOps0_2 ++ (hostOps0_3 ++ (hostOps0_4 ++ (hostOps0_5 ++ (hostOps0_6 ++ (hostOps0_7 : List (HloOp τ sig (Elt Ideal))))))))) := by
    simp only [List.flatten_cons, List.flatten_nil, List.append_nil]
  unfold V
  rw [e, after_both, after_both, after_both, after_both, after_both, after_both, after_both]
  obtain ⟨z0, k0, v0⟩ := host0 (fun b => m (c, b)) (m ((c.tc : Thread nD τ).loc main_arg0)) rfl
  generalize StableHlo.after (hostOps0 (F := Ideal)) (fun b => m (c, b)) = W0 at z0 k0 v0 ⊢
  obtain ⟨l1, z1, k1, v1⟩ := host1 W0 _ z0
  generalize StableHlo.after (hostOps0_1 (F := Ideal)) W0 = W1 at l1 z1 k1 v1 ⊢
  obtain ⟨d2, c2, l2, k2, v2⟩ := host2 W1 _ (z1.trans z0) l1
  generalize StableHlo.after (hostOps0_2 (F := Ideal)) W1 = W2 at d2 c2 l2 k2 v2 ⊢
  obtain ⟨d3, l3, k3, v3⟩ := host3 W2 _ d2 c2 (k2.trans (k1.trans k0))
  generalize StableHlo.after (hostOps0_3 (F := Ideal)) W2 = W3 at d3 l3 k3 v3 ⊢
  obtain ⟨d4, l4, k4, v4⟩ := host4 W3 _ d3
  generalize StableHlo.after (hostOps0_4 (F := Ideal)) W3 = W4 at d4 l4 k4 v4 ⊢
  obtain ⟨d5, c5, k5, v5⟩ := host5 W4 _ d4 (l4.trans (l3.trans (l2.trans l1)))
  generalize StableHlo.after (hostOps0_5 (F := Ideal)) W4 = W5 at d5 c5 k5 v5 ⊢
  obtain ⟨d6, v6⟩ := host6 W5 _ d5 c5 (k5.trans (k4.trans (k3.trans (k2.trans (k1.trans k0)))))
  generalize StableHlo.after (hostOps0_6 (F := Ideal)) W5 = W6 at d6 v6 ⊢
  exact host7 W6 _ d6 (v6.trans (v5.trans (v4.trans (v3.trans (v2.trans (v1.trans v0))))))

/-- The fused projection and the output's gradient, the program's two arguments. -/
def aq (c : Dev nD) : S1x8320x1536.Idx → EReal := m ((c.tc : Thread nD τ).loc main_arg0)
def ad (c : Dev nD) : S1x8320x512.Idx → EReal := m ((c.tc : Thread nD τ).loc main_arg1)

/-- The attention's output at the kernel's entry. -/
theorem V_o (c : Dev nD) (h0 : ∀ i, ∃ r : ℝ, aq m c i = r) (R : Fin 8320) (k : Fin 512) :
    (V m c main_v33 : S8320x512.Idx → EReal) (ix2 R k) = ((oH (qF (aq m c)) (kF (aq m c)) (vF (aq m c)) R.val k.val : ℝ) : EReal) := by
  rw [V_v33]
  have ho := rd_o h0
  change shapeCast S8320x512 (val_main_v33 (F := Ideal) (aq m c)) shapeCasts_S1x8320x8x64_S8320x512 (ix2 R k) = _
  generalize val_main_v33 (F := Ideal) (aq m c) = O at ho ⊢
  pointwise
  refine (ho _ _ _).trans ?_
  show ((oH _ _ _ R.val (64 * (k.val / 64) + k.val % 64) : ℝ) : EReal) = _
  rw [split_col]

theorem V_qkv (c : Dev nD) (h0 : ∀ i, ∃ r : ℝ, aq m c i = r) (R : Fin 8320) (k : Fin 1536) :
    (V m c main_v34 : S8320x1536.Idx → EReal) (ix2 R k) = ((qkvF (aq m c) R.val k.val : ℝ) : EReal) :=
  (V_v34 m c R k).trans (qkvF_eq h0 R k)

theorem V_do (c : Dev nD) (h1 : ∀ i, ∃ r : ℝ, ad m c i = r) (R : Fin 8320) (k : Fin 512) :
    (V m c main_v35 : S8320x512.Idx → EReal) (ix2 R k) = ((dF (ad m c) R.val k.val : ℝ) : EReal) :=
  (V_v35 m c R k).trans (dF_eq h1 R k)

end Cert.KernelIdeal.Sb

end
-- ==== Proof.SbTri.lean ====
/-
  The kernel's literal array is the two stacked triangles of ones: every entry checked, row by row.
-/
module

public import proofs.«01_k».proof.Proof.SbHost
public import proofs.«01_k».proof.Proof.SbTile

@[expose] public section

set_option maxRecDepth 16384

noncomputable section

namespace Cert.KernelIdeal.Sb

open Idealize.ShloMosaic Idealize.ShloMosaic.TcCoe Gen

/-- The first `n` entries of the literal's row `c` are ones before column `c % 128` and zeros from there on. -/
def rowOk (c n : ℕ) : Bool :=
  Nat.rec true (fun j ih => and (Nat.beq (lit0t (c * 128 + j)).toNat (cond (Nat.ble (j + 1) (c % 128)) 16256 0)) ih) n

/-- So are the rows from `a` on, as many as `n`. -/
def rowsOk (a n : ℕ) : Bool := Nat.rec true (fun k ih => and (rowOk (a + k) 128) ih) n

theorem rows0 : rowsOk 0 32 = true := by decide +kernel
theorem rows1 : rowsOk 32 32 = true := by decide +kernel
theorem rows2 : rowsOk 64 32 = true := by decide +kernel
theorem rows3 : rowsOk 96 32 = true := by decide +kernel
theorem rows4 : rowsOk 128 32 = true := by decide +kernel
theorem rows5 : rowsOk 160 32 = true := by decide +kernel
theorem rows6 : rowsOk 192 32 = true := by decide +kernel
theorem rows7 : rowsOk 224 32 = true := by decide +kernel

theorem rowsOk_at (a : ℕ) : ∀ (n : ℕ) (_ : rowsOk a n = true) (k : ℕ) (_ : k < n), rowOk (a + k) 128 = true
  | 0, _, k, hk => absurd hk (Nat.not_lt_zero k)
  | n + 1, h, k, hk => by
    have h' : (rowOk (a + n) 128 && rowsOk a n) = true := h
    obtain ⟨h1, h2⟩ := (Bool.and_eq_true_iff).mp h'
    by_cases e : k = n
    · rw [e]; exact h1
    · exact rowsOk_at a n h2 k (by omega)

theorem rowOk_at (c : ℕ) : ∀ (n : ℕ) (_ : rowOk c n = true) (j : ℕ) (_ : j < n),
    (lit0t (c * 128 + j)).toNat = if j < c % 128 then 16256 else 0
  | 0, _, j, hj => absurd hj (Nat.not_lt_zero j)
  | n + 1, h, j, hj => by
    have h' : (Nat.beq (lit0t (c * 128 + n)).toNat (cond (Nat.ble (n + 1) (c % 128)) 16256 0) && rowOk c n) = true := h
    obtain ⟨h1, h2⟩ := (Bool.and_eq_true_iff).mp h'
    by_cases e : j = n
    · rw [e, Nat.eq_of_beq_eq_true h1]
      by_cases l : n < c % 128
      · rw [if_pos l, Nat.ble_eq_true_of_le l]; rfl
      · rw [if_neg l, Bool.eq_false_iff.mpr (fun hb => l (Nat.le_of_ble_eq_true hb))]; rfl
    · exact rowOk_at c n h2 j (by omega)

theorem row_ok (c : Fin 256) : rowOk c.val 128 = true := by
  have e : 32 * (c.val / 32) + c.val % 32 = c.val := by omega
  have hm : c.val % 32 < 32 := by omega
  have hd : c.val / 32 < 8 := by omega
  generalize c.val / 32 = K at e hd
  rw [← e]
  match K, hd with
  | 0, _ => exact rowsOk_at _ 32 rows0 _ hm
  | 1, _ => exact rowsOk_at _ 32 rows1 _ hm
  | 2, _ => exact rowsOk_at _ 32 rows2 _ hm
  | 3, _ => exact rowsOk_at _ 32 rows3 _ hm
  | 4, _ => exact rowsOk_at _ 32 rows4 _ hm
  | 5, _ => exact rowsOk_at _ 32 rows5 _ hm
  | 6, _ => exact rowsOk_at _ 32 rows6 _ hm
  | 7, _ => exact rowsOk_at _ 32 rows7 _ hm

theorem lit_at (c : Fin 256) (j : Fin 128) : lit0t (c.val * 128 + j.val) = if j.val < c.val % 128 then 0x3F80#16 else 0#16 := by
  refine BitVec.eq_of_toNat_eq ((rowOk_at _ 128 (row_ok c) j.val j.isLt).trans ?_)
  by_cases h : j.val < c.val % 128
  · rw [if_pos h, if_pos h]; rfl
  · rw [if_neg h, if_neg h]; rfl

theorem one_bf16 : Ideal.ofBits .bf16 0x3F80#16 = 1 := by
  simp [Ideal.ofBits, Ideal.ieee]
  rw [← EReal.coe_mul]
  norm_num

theorem zero_bf16 : Ideal.ofBits .bf16 0#16 = 0 := by
  simp [Ideal.ofBits, Ideal.ieee]

variable (m : (ℓ : Loc nD τ sig) → Buf (Elt Ideal) ℓ)

theorem V_tri (c : Dev nD) : Tri (V m c main_cst) := fun r j => by
  refine (V_cst m c (ix2 r j)).trans ?_
  have e : lit0 (S256x128.rowMajor (ix2 r j)) = lit0t (r.val * 128 + j.val) := by
    have hv : (S256x128.rowMajor (ix2 r j)).val = r.val * 128 + j.val := Shape.rowMajor_val_two _
    generalize S256x128.rowMajor (ix2 r j) = p at hv ⊢
    obtain ⟨p, hp⟩ := p
    exact congrArg lit0t hv
  rw [e, lit_at]
  by_cases h : j.val < r.val % 128
  · rw [if_pos h, if_pos h]; exact one_bf16
  · rw [if_neg h, if_neg h]; exact zero_bf16

end Cert.KernelIdeal.Sb

end
-- ==== Proof.SbEnv.lean ====
/-
  What the attention's backward kernel reads at a point, in real numbers.
-/
module

public import proofs.«01_k».proof.Proof.SbTri
public import proofs.«01_k».proof.Proof.SbHost
public import proofs.«01_k».proof.Proof.SbState

@[expose] public section

set_option maxRecDepth 16384

noncomputable section

namespace Cert.KernelIdeal.Sb

open Idealize.ShloMosaic Idealize.ShloMosaic.TcCoe
open Gen Cert.SbMath Cert.SbRef

variable (m : (ℓ : Loc nD τ sig) → Buf (Elt Ideal) ℓ)

/-! ## The blocks -/

set_option maxHeartbeats 1600000 in
/-- The rows of the queries. -/
theorem blk0 (c : Dev nD) (t : Fin cfg0.N) (r l : Fin 128) (R : Fin 8320) (k : Fin 1536) (hR : R.val = 128 * (t.val % 65) + r.val)
    (hk : k.val = 128 * (t.val / 65) + l.val) :
    (iblk m c 0 t : S128x128.Idx → EReal) (ix2 r l) = (V m c main_v34 : S8320x1536.Idx → EReal) (ix2 R k) := by
  unfold iblk
  rw [View.read_apply]
  show (V m c main_v34 : S8320x1536.Idx → EReal) _ = _
  generalize (V m c main_v34 : S8320x1536.Idx → EReal) = Y
  refine congrArg Y (funext fun a => Fin.ext ?_)
  have e := idx0 t
  match a with
  | ⟨0, _⟩ =>
    show win0_0.index t (0 : Fin 2) * 128 + 1 * r.val = R.val
    omega
  | ⟨1, _⟩ =>
    show win0_0.index t (1 : Fin 2) * 128 + 1 * l.val = k.val
    omega

set_option maxHeartbeats 1600000 in
/-- The keys of a pair of heads. -/
theorem blk1 (c : Dev nD) (t : Fin cfg0.N) (r : Fin 8320) (l : Fin 128) (k : Fin 1536)
    (hk : k.val = 512 + (128 * (t.val / 65) + l.val)) :
    (iblk m c 1 t : S8320x128.Idx → EReal) (ix2 r l) = (V m c main_v34 : S8320x1536.Idx → EReal) (ix2 r k) := by
  unfold iblk
  rw [View.read_apply]
  show (V m c main_v34 : S8320x1536.Idx → EReal) _ = _
  generalize (V m c main_v34 : S8320x1536.Idx → EReal) = Y
  refine congrArg Y (funext fun a => Fin.ext ?_)
  have e := idx1 t
  match a with
  | ⟨0, _⟩ =>
    show win0_1.index t (0 : Fin 2) * 8320 + 1 * r.val = r.val
    omega
  | ⟨1, _⟩ =>
    show win0_1.index t (1 : Fin 2) * 128 + 1 * l.val = k.val
    omega

set_option maxHeartbeats 1600000 in
/-- The values of a pair of heads. -/
theorem blk2 (c : Dev nD) (t : Fin cfg0.N) (r : Fin 8320) (l : Fin 128) (k : Fin 1536)
    (hk : k.val = 1024 + (128 * (t.val / 65) + l.val)) :
    (iblk m c 2 t : S8320x128.Idx → EReal) (ix2 r l) = (V m c main_v34 : S8320x1536.Idx → EReal) (ix2 r k) := by
  unfold iblk
  rw [View.read_apply]
  show (V m c main_v34 : S8320x1536.Idx → EReal) _ = _
  generalize (V m c main_v34 : S8320x1536.Idx → EReal) = Y
  refine congrArg Y (funext fun a => Fin.ext ?_)
  have e := idx2 t
  match a with
  | ⟨0, _⟩ =>
    show win0_2.index t (0 : Fin 2) * 8320 + 1 * r.val = r.val
    omega
  | ⟨1, _⟩ =>
    show win0_2.index t (1 : Fin 2) * 128 + 1 * l.val = k.val
    omega

set_option maxHeartbeats 1600000 in
/-- The rows of the attention's output. -/
theorem blk3 (c : Dev nD) (t : Fin cfg0.N) (r l : Fin 128) (R : Fin 8320) (k : Fin 512) (hR : R.val = 128 * (t.val % 65) + r.val)
    (hk : k.val = 128 * (t.val / 65) + l.val) :
    (iblk m c 3 t : S128x128.Idx → EReal) (ix2 r l) = (V m c main_v33 : S8320x512.Idx → EReal) (ix2 R k) := by
  unfold iblk
  rw [View.read_apply]
  show (V m c main_v33 : S8320x512.Idx → EReal) _ = _
  generalize (V m c main_v33 : S8320x512.Idx → EReal) = Y
  refine congrArg Y (funext fun a => Fin.ext ?_)
  have e := idx3 t
  match a with
  | ⟨0, _⟩ =>
    show win0_3.index t (0 : Fin 2) * 128 + 1 * r.val = R.val
    omega
  | ⟨1, _⟩ =>
    show win0_3.index t (1 : Fin 2) * 128 + 1 * l.val = k.val
    omega

set_option maxHeartbeats 1600000 in
/-- The rows of the output's gradient. -/
theorem blk4 (c : Dev nD) (t : Fin cfg0.N) (r l : Fin 128) (R : Fin 8320) (k : Fin 512) (hR : R.val = 128 * (t.val % 65) + r.val)
    (hk : k.val = 128 * (t.val / 65) + l.val) :
    (iblk m c 4 t : S128x128.Idx → EReal) (ix2 r l) = (V m c main_v35 : S8320x512.Idx → EReal) (ix2 R k) := by
  unfold iblk
  rw [View.read_apply]
  show (V m c main_v35 : S8320x512.Idx → EReal) _ = _
  generalize (V m c main_v35 : S8320x512.Idx → EReal) = Y
  refine congrArg Y (funext fun a => Fin.ext ?_)
  have e := idx4 t
  match a with
  | ⟨0, _⟩ =>
    show win0_4.index t (0 : Fin 2) * 128 + 1 * r.val = R.val
    omega
  | ⟨1, _⟩ =>
    show win0_4.index t (1 : Fin 2) * 128 + 1 * l.val = k.val
    omega

set_option maxHeartbeats 1600000 in
/-- The two stacked triangles. -/
theorem blk5 (c : Dev nD) (t : Fin cfg0.N) (r : Fin 256) (l : Fin 128) :
    (iblk m c 5 t : S256x128.Idx → EReal) (ix2 r l) = (V m c main_cst : S256x128.Idx → EReal) (ix2 r l) := by
  unfold iblk
  rw [View.read_apply]
  show (V m c main_cst : S256x128.Idx → EReal) _ = _
  generalize (V m c main_cst : S256x128.Idx → EReal) = Y
  refine congrArg Y (funext fun a => Fin.ext ?_)
  have e := idx5 t
  match a with
  | ⟨0, _⟩ =>
    show win0_5.index t (0 : Fin 2) * 256 + 1 * r.val = r.val
    omega
  | ⟨1, _⟩ =>
    show win0_5.index t (1 : Fin 2) * 128 + 1 * l.val = l.val
    omega

/-! ## What the body makes of them -/

/-- The test for the first head's lanes, word against word. -/
theorem lane_bit : ∀ l : Fin 128, IntOp.cmpi .slt (BitVec.ofNat 32 l.val) 64#32 = if l.val < 64 then 1#1 else 0#1 := by decide +kernel

theorem sel_first (l : Fin 128) (x : ℝ) :
    Scalar.select (IntOp.cmpi .slt (BitVec.ofNat 32 l.val) 64#32) ((x : ℝ) : EReal) 0 = ((hm 0 l.val x : ℝ) : EReal) := by
  rw [lane_bit]
  unfold hm
  by_cases h : l.val < 64
  · rw [if_pos h, if_pos (by simp [h])]; rfl
  · rw [if_neg h, if_neg (by simp [h])]; rfl

theorem sel_second (l : Fin 128) (x : ℝ) :
    Scalar.select (IntOp.cmpi .slt (BitVec.ofNat 32 l.val) 64#32) 0 ((x : ℝ) : EReal) = ((hm 1 l.val x : ℝ) : EReal) := by
  rw [lane_bit]
  unfold hm
  by_cases h : l.val < 64
  · rw [if_pos h, if_neg (by simp [h])]; rfl
  · rw [if_neg h, if_pos (by simp [h])]; rfl

section
variable {q k d : ℕ → ℕ → ℝ}

theorem rd_117 {H : Vec Ideal S8320x128 .f32} (h : RL H k) : RL (k0_pay117 H) k := fun t l => by
  have e := h t l
  unfold k0_pay117 k0_pay116
  pointwise
  exact e

theorem rd_118 {H : Vec Ideal S8320x128 .f32} (h : RL H k) : RL (k0_pay118 H) (fun t l => hm 0 l (k t l)) := fun t l => by
  have e := h t l
  unfold k0_pay118 k0_pay116 k0_pay115
  pointwise
  rw [e]
  exact sel_first l _

theorem rd_119 {H : Vec Ideal S8320x128 .f32} (h : RL H k) : RL (k0_pay119 H) (fun t l => hm 1 l (k t l)) := fun t l => by
  have e := h t l
  unfold k0_pay119 k0_pay116 k0_pay115
  pointwise
  rw [e]
  exact sel_second l _

theorem rd_120 {H : Vec Ideal S8320x128 .f32} (h : RL H k) : RL (k0_pay120 H) k := fun t l => by
  have e := h t l
  unfold k0_pay120
  pointwise
  exact e

theorem rd_124 {H : Vec Ideal S128x128 .f32} (h : R2 H q) : R2 (k0_pay124 H) (fun r l => hm 0 l (q r l * (1 / 8))) := fun r l => by
  have e := h r l
  unfold k0_pay124 k0_pay123 k0_pay115
  pointwise
  rw [e, const_eighth, ← EReal.coe_mul]
  exact sel_first l _

theorem rd_125 {H : Vec Ideal S128x128 .f32} (h : R2 H q) : R2 (k0_pay125 H) (fun r l => hm 1 l (q r l * (1 / 8))) := fun r l => by
  have e := h r l
  unfold k0_pay125 k0_pay123 k0_pay115
  pointwise
  rw [e, const_eighth, ← EReal.coe_mul]
  exact sel_second l _

theorem rd_127 {H : Vec Ideal S128x128 .f32} (h : R2 H d) : R2 (k0_pay127 H) (fun r l => hm 0 l (d r l)) := fun r l => by
  have e := h r l
  unfold k0_pay127 k0_pay126 k0_pay115
  pointwise
  rw [e]
  exact sel_first l _

theorem rd_128 {H : Vec Ideal S128x128 .f32} (h : R2 H d) : R2 (k0_pay128 H) (fun r l => hm 1 l (d r l)) := fun r l => by
  have e := h r l
  unfold k0_pay128 k0_pay126 k0_pay115
  pointwise
  rw [e]
  exact sel_second l _

theorem rd_131 {H O : Vec Ideal S128x128 .f32} {o : ℕ → ℕ → ℝ} (h : R2 H d) (ho : R2 O o) (r : Fin 128) :
    (k0_pay131 (k0_pay130 H O) : S128x1.Idx → EReal) (ix2 r 0) = ((∑ l ∈ Finset.range 128, hm 0 l (o r.val l * d r.val l) : ℝ) : EReal) := by
  unfold k0_pay131 k0_pay130 k0_pay129 k0_pay126 k0_pay115
  pointwise
  refine (Finset.sum_congr rfl fun x _ => ?_).trans (fsum 128 (fun l => hm 0 l (o r.val l * d r.val l)))
  rw [h r x, ho r x, ← EReal.coe_mul]
  exact sel_first x _

theorem rd_132 {H O : Vec Ideal S128x128 .f32} {o : ℕ → ℕ → ℝ} (h : R2 H d) (ho : R2 O o) (r : Fin 128) :
    (k0_pay132 k0_pay115 (k0_pay129 H O) : S128x1.Idx → EReal) (ix2 r 0) = ((∑ l ∈ Finset.range 128, hm 1 l (o r.val l * d r.val l) : ℝ) : EReal) := by
  unfold k0_pay132 k0_pay129 k0_pay126 k0_pay115
  pointwise
  refine (Finset.sum_congr rfl fun x _ => ?_).trans (fsum 128 (fun l => hm 1 l (o r.val l * d r.val l)))
  rw [h r x, ho r x, ← EReal.coe_mul]
  exact sel_second x _

theorem rd_3 {X : Vec Ideal S128x128 .f32} {f : ℕ → ℕ → ℝ} (h : R2 X f) : R2 (k0_pay3 X) (fun r l => f r l * (1 / 8)) := fun r l => by
  have e := h r l
  unfold k0_pay3
  pointwise
  rw [e, const_eighth, ← EReal.coe_mul]
end

/-! ## A pair of heads -/

/-- The pair `p` of heads: 128 columns of the fused projection's three parts and of the output's gradient. -/
def lanes (c : Dev nD) (p : ℕ) : Lanes where
  q := fun R l => qF (aq m c) R (128 * p + l)
  k := fun t l => kF (aq m c) t (128 * p + l)
  v := fun t l => vF (aq m c) t (128 * p + l)
  d := fun R l => dF (ad m c) R (128 * p + l)

theorem half (a : Fin 2) (p d : ℕ) : 128 * p + (64 * a.val + d) = 64 * (2 * p + a.val) + d := by omega

/-- The pair's scores are the two heads'. -/
theorem za_eq (c : Dev nD) (p : ℕ) (a : Fin 2) : (lanes m c p).za a = zH (qF (aq m c)) (kF (aq m c)) (2 * p + a.val) := by
  funext R t
  unfold Lanes.za Lanes.qa zH
  rw [sum_lanes, Finset.sum_mul]
  refine Finset.sum_congr rfl fun d _ => ?_
  unfold lanes
  beta_reduce
  dsimp only
  rw [half]
  ring

theorem ga_eq (c : Dev nD) (p : ℕ) (a : Fin 2) : (lanes m c p).ga a = gH (vF (aq m c)) (dF (ad m c)) (2 * p + a.val) := by
  funext R t
  unfold Lanes.ga Lanes.da gH
  rw [sum_lanes]
  refine Finset.sum_congr rfl fun d _ => ?_
  unfold lanes
  dsimp only
  rw [half]

/-- The row sums of the output times its gradient are the whole sums of the weights times theirs. -/
theorem row_sum (c : Dev nD) (p : ℕ) (a : Fin 2) (R : ℕ) :
    ∑ l ∈ Finset.range 128, hm a l (oH (qF (aq m c)) (kF (aq m c)) (vF (aq m c)) R (128 * p + l) * dF (ad m c) R (128 * p + l))
      = eFrom ((lanes m c p).za a) ((lanes m c p).ga a) R 0 := by
  have h1 := sum_lanes a (fun l => oH (qF (aq m c)) (kF (aq m c)) (vF (aq m c)) R (128 * p + l) * dF (ad m c) R (128 * p + l)) (fun _ => 1)
  simp only [mul_one] at h1
  rw [h1, za_eq, ga_eq]
  unfold eFrom e gH oH
  rw [← Finset.range_eq_Ico]
  simp only [Finset.mul_sum, Finset.sum_mul]
  rw [Finset.sum_comm]
  refine Finset.sum_congr rfl fun t _ => Finset.sum_congr rfl fun d hd => ?_
  have hd' := Finset.mem_range.mp hd
  rw [half, show (64 * (2 * p + a.val) + d) / 64 = 2 * p + a.val by omega]
  ring

section
variable (c : Dev nD) (t : Fin cfg0.N)

theorem n_lt : t.val < 260 := lt_of_lt_of_eq t.isLt (show cfg0.N = 260 from N_0)
theorem pair_lt : t.val / 65 < 4 := by have := n_lt t; omega

theorem q_at (h0 : ∀ i, ∃ r : ℝ, aq m c i = r) : R2 (iblk m c 0 t) (fun r l => (lanes m c (t.val / 65)).q (128 * (t.val % 65) + r) l) := fun r l => by
  have hp := pair_lt t
  rw [blk0 m c t r l ⟨128 * (t.val % 65) + r.val, by omega⟩ ⟨128 * (t.val / 65) + l.val, by omega⟩ rfl rfl, V_qkv m c h0]
  rfl

theorem k_at (h0 : ∀ i, ∃ r : ℝ, aq m c i = r) : RL (iblk m c 1 t) (lanes m c (t.val / 65)).k := fun r l => by
  have hp := pair_lt t
  rw [blk1 m c t r l ⟨512 + (128 * (t.val / 65) + l.val), by omega⟩ rfl, V_qkv m c h0]
  rfl

theorem v_at (h0 : ∀ i, ∃ r : ℝ, aq m c i = r) : RL (iblk m c 2 t) (lanes m c (t.val / 65)).v := fun r l => by
  have hp := pair_lt t
  rw [blk2 m c t r l ⟨1024 + (128 * (t.val / 65) + l.val), by omega⟩ rfl, V_qkv m c h0]
  rfl

theorem o_at (h0 : ∀ i, ∃ r : ℝ, aq m c i = r) : R2 (iblk m c 3 t)
    (fun r l => oH (qF (aq m c)) (kF (aq m c)) (vF (aq m c)) (128 * (t.val % 65) + r) (128 * (t.val / 65) + l)) := fun r l => by
  have hp := pair_lt t
  rw [blk3 m c t r l ⟨128 * (t.val % 65) + r.val, by omega⟩ ⟨128 * (t.val / 65) + l.val, by omega⟩ rfl rfl, V_o m c h0]

theorem d_at (h1 : ∀ i, ∃ r : ℝ, ad m c i = r) : R2 (iblk m c 4 t) (fun r l => (lanes m c (t.val / 65)).d (128 * (t.val % 65) + r) l) := fun r l => by
  have hp := pair_lt t
  rw [blk4 m c t r l ⟨128 * (t.val % 65) + r.val, by omega⟩ ⟨128 * (t.val / 65) + l.val, by omega⟩ rfl rfl, V_do m c h1]
  rfl

theorem u_at : Tri (iblk m c 5 t) := fun r l => (blk5 m c t r l).trans (V_tri m c r l)

/-- What the body makes of blocks of real numbers. -/
theorem env_real {B0 B3 B4 : Vec Ideal S128x128 .f32} {B1 B2 : Vec Ideal S8320x128 .f32} {B5 : Vec Ideal S256x128 .bf16} {X : Lanes} {i : ℕ} {o : ℕ → ℕ → ℝ}
    (hq : R2 B0 (fun r l => X.q (128 * i + r) l)) (hk : RL B1 X.k) (hv : RL B2 X.v) (ho : R2 B3 o) (hd : R2 B4 (fun r l => X.d (128 * i + r) l)) (hu : Tri B5)
    (hs : ∀ (a : Fin 2) (r : ℕ), ∑ l ∈ Finset.range 128, hm a l (o r l * X.d (128 * i + r) l) = eFrom (X.za a) (X.ga a) (128 * i + r) 0) :
    EnvR (env (k0_pay117 B1) (k0_pay118 B1) (k0_pay119 B1) (k0_pay120 B2) B5 B0 B3 B4) X i where
  kb := by show RL (k0_pay117 B1) _; exact rd_117 hk
  ka := by show RL (k0_pay118 B1) _; exact rd_118 hk
  kc := by show RL (k0_pay119 B1) _; exact rd_119 hk
  vb := by show RL (k0_pay120 B2) _; exact rd_120 hv
  u := by show Tri B5; exact hu
  q0 := by show R2 (k0_pay124 B0) _; exact rd_124 hq
  q1 := by show R2 (k0_pay125 B0) _; exact rd_125 hq
  d0 := by show R2 (k0_pay127 B4) _; exact rd_127 hd
  d1 := by show R2 (k0_pay128 B4) _; exact rd_128 hd
  s0 := fun r => by
    show (k0_pay131 (k0_pay130 B4 B3) : S128x1.Idx → EReal) (ix2 r 0) = _
    rw [rd_131 hd ho r, ← hs 0 r.val]
  s1 := fun r => by
    show (k0_pay132 k0_pay115 (k0_pay129 B4 B3) : S128x1.Idx → EReal) (ix2 r 0) = _
    rw [rd_132 hd ho r, ← hs 1 r.val]

/-- What the body reads at a point. -/
theorem env_at (h0 : ∀ i, ∃ r : ℝ, aq m c i = r) (h1 : ∀ i, ∃ r : ℝ, ad m c i = r) :
    EnvR (envAt m c t) (lanes m c (t.val / 65)) (t.val % 65) :=
  env_real (q_at m c t h0) (k_at m c t h0) (v_at m c t h0) (o_at m c t h0) (d_at m c t h1) (u_at m c t)
    (fun a r => row_sum m c (t.val / 65) a (128 * (t.val % 65) + r))

end

end Cert.KernelIdeal.Sb

end
-- ==== Proof.SbOut.lean ====
/-
  The arrays the attention's backward kernel writes, in real numbers: what the body leaves after each point, and the three
  gradients put together from the blocks.
-/
module

public import proofs.«01_k».proof.Proof.SbEnv

@[expose] public section

set_option maxRecDepth 16384

noncomputable section

namespace Cert.KernelIdeal.Sb

open Idealize.ShloMosaic Idealize.ShloMosaic.TcCoe
open Gen Cert.SbMath Cert.SbRef

variable (m : (ℓ : Loc nD τ sig) → Buf (Elt Ideal) ℓ)

/-! ## What the body leaves after each point -/

theorem rd_zero121 (f : ℕ → ℕ → ℕ → ℝ) : RL (k0_pay121 (F := Ideal)) (fun t l => ∑ R ∈ Finset.range (128 * 0), f t l R) := fun t l => by
  unfold k0_pay121
  pointwise
  simp

theorem rd_zero122 (f : ℕ → ℕ → ℕ → ℝ) : RL (k0_pay122 (F := Ideal)) (fun t l => ∑ R ∈ Finset.range (128 * 0), f t l R) := fun t l => by
  unfold k0_pay122
  pointwise
  simp

theorem done_upTo {Y : S8320x128.Idx → EReal} {f : ℕ → ℕ → ℕ → ℝ} {i : ℕ} (h : RL Y (fun t l => upTo (f t l) i 0 t)) :
    RL Y (fun t l => ∑ R ∈ Finset.range (128 * (i + 1)), f t l R) := fun t l => by
  rw [h t l]
  exact congrArg _ (upTo_all (f t.val l.val) i t.val)

/-- A row block's number given by the point's. -/
theorem row_block {X : Lanes} {E : Env Ideal} (i : Fin 65) (j : ℕ) (hj : i.val = j) (hE : EnvR E X j) {dk dv : Vec Ideal S8320x128 .f32}
    (hk : RL dk (fun t l => ∑ R ∈ Finset.range (128 * j), X.dkT t l R))
    (hv : RL dv (fun t l => ∑ R ∈ Finset.range (128 * j), X.dvT t l R)) : Holds X j 0 (rowBlock E i (start dk dv)) := by
  subst hj
  exact rowBlock_holds i hE hk hv

section
variable (c : Dev nD) (h0 : ∀ i, ∃ r : ℝ, aq m c i = r) (h1 : ∀ i, ∃ r : ℝ, ad m c i = r)
include h0 h1

theorem first_holds (t : Fin cfg0.N) (hz : t.val % 65 = 0) : Holds (lanes m c (t.val / 65)) (t.val % 65) 0 (stAt m c t.val t.isLt) := by
  rw [stAt_first m c t hz]
  refine row_block (rowAt t) (t.val % 65) (coord1 t) (env_at m c t h0 h1) ?_ ?_
  · rw [hz]; exact rd_zero121 _
  · rw [hz]; exact rd_zero122 _

theorem next_holds (t : Fin cfg0.N) (hz : ¬t.val % 65 = 0)
    (hp : Holds (lanes m c ((t.val - 1) / 65)) ((t.val - 1) % 65) 0 (stAt m c (t.val - 1) (Nat.lt_of_le_of_lt (Nat.sub_le _ _) t.isLt))) :
    Holds (lanes m c (t.val / 65)) (t.val % 65) 0 (stAt m c t.val t.isLt) := by
  rw [stAt_next m c t hz]
  generalize stAt m c (t.val - 1) (Nat.lt_of_le_of_lt (Nat.sub_le _ _) t.isLt) = s at hp ⊢
  have e1 : (t.val - 1) / 65 = t.val / 65 := by omega
  have e2 : (t.val - 1) % 65 + 1 = t.val % 65 := by omega
  have hk := done_upTo hp.dk
  have hv := done_upTo hp.dv
  rw [e1, e2] at hk hv
  exact row_block (rowAt t) (t.val % 65) (coord1 t) (env_at m c t h0 h1) hk hv

theorem st_holds : ∀ (n : ℕ) (hn : n < cfg0.N), Holds (lanes m c (n / 65)) (n % 65) 0 (stAt m c n hn) := by
  intro n
  induction n with
  | zero => exact fun hn => first_holds m c h0 h1 ⟨0, hn⟩ rfl
  | succ n ih =>
    intro hn
    by_cases hz : (n + 1) % 65 = 0
    · exact first_holds m c h0 h1 ⟨n + 1, hn⟩ hz
    · exact next_holds m c h0 h1 ⟨n + 1, hn⟩ hz (ih (Nat.lt_of_succ_lt hn))

end

/-! ## A pair's gradients are the heads' -/

/-- A lane belongs to one head. -/
theorem two_hm (l : ℕ) (hl : l < 128) (x : ℝ) (A : ℕ → ℝ) : A 0 * hm 0 l x + A 1 * hm 1 l x = A (l / 64) * x := by
  unfold hm
  by_cases h : l < 64
  · rw [if_pos (by simp [h]), if_neg (by simp [h]), show l / 64 = 0 by omega]; ring
  · rw [if_neg (by simp [h]), if_pos (by simp [h]), show l / 64 = 1 by omega]; ring

section
variable (c : Dev nD)

/-- The three gradients. -/
def gq (R k : ℕ) : ℝ := dqH (qF (aq m c)) (kF (aq m c)) (vF (aq m c)) (dF (ad m c)) R k
def gk (R k : ℕ) : ℝ := dkH (qF (aq m c)) (kF (aq m c)) (vF (aq m c)) (dF (ad m c)) R k
def gv (R k : ℕ) : ℝ := dvH (qF (aq m c)) (kF (aq m c)) (dF (ad m c)) R k

theorem head_of (p l : ℕ) (hl : l < 128) : (128 * p + l) / 64 = 2 * p + l / 64 := by omega

theorem gk_eq (p t l : ℕ) (hl : l < 128) : ∑ R ∈ Finset.range 8320, (lanes m c p).dkT t l R = gk m c t (128 * p + l) := by
  unfold gk dkH
  refine Finset.sum_congr rfl fun R _ => ?_
  unfold Lanes.dkT Lanes.qa
  rw [za_eq, za_eq, ga_eq, ga_eq, head_of p l hl]
  exact two_hm l hl _ (fun a => dz (zH (qF (aq m c)) (kF (aq m c)) (2 * p + a)) (gH (vF (aq m c)) (dF (ad m c)) (2 * p + a)) R t)

theorem gv_eq (p t l : ℕ) (hl : l < 128) : ∑ R ∈ Finset.range 8320, (lanes m c p).dvT t l R = gv m c t (128 * p + l) := by
  unfold gv dvH
  refine Finset.sum_congr rfl fun R _ => ?_
  unfold Lanes.dvT Lanes.da
  rw [za_eq, za_eq, head_of p l hl]
  exact two_hm l hl _ (fun a => w (zH (qF (aq m c)) (kF (aq m c)) (2 * p + a)) R t)

theorem gq_eq (p R l : ℕ) (hl : l < 128) :
    (∑ t ∈ Finset.Ico (128 * 0) 8320, (lanes m c p).dqT R l t) * (1 / 8) = gq m c R (128 * p + l) := by
  unfold gq dqH
  rw [Nat.mul_zero, ← Finset.range_eq_Ico]
  refine congrArg (· * (1 / 8 : ℝ)) (Finset.sum_congr rfl fun t _ => ?_)
  unfold Lanes.dqT Lanes.ka
  rw [za_eq, za_eq, ga_eq, ga_eq, head_of p l hl]
  exact two_hm l hl _ (fun a => dz (zH (qF (aq m c)) (kF (aq m c)) (2 * p + a)) (gH (vF (aq m c)) (dF (ad m c)) (2 * p + a)) R t)

end

/-! ## The arrays -/

section
variable (c : Dev nD) (h0 : ∀ i, ∃ r : ℝ, aq m c i = r) (h1 : ∀ i, ∃ r : ℝ, ad m c i = r)

/-- The arrays of the queries', the keys' and the values' gradients. -/
def arrQ : Buf (Elt Ideal) ((c : Thread nD τ).loc main_v36_0) := fun i : S8320x512.Idx => ((gq m c (i 0).val (i 1).val : ℝ) : EReal)
def arrK : Buf (Elt Ideal) ((c : Thread nD τ).loc main_v36_1) := fun i : S8320x512.Idx => ((gk m c (i 0).val (i 1).val : ℝ) : EReal)
def arrV : Buf (Elt Ideal) ((c : Thread nD τ).loc main_v36_2) := fun i : S8320x512.Idx => ((gv m c (i 0).val (i 1).val : ℝ) : EReal)

include h0 h1

theorem out_dq (t : Fin cfg0.N) (r l : Fin 128) :
    (k0_pay3 (stAt m c t.val t.isLt).dq : S128x128.Idx → EReal) (ix2 r l)
      = ((gq m c (128 * (t.val % 65) + r.val) (128 * (t.val / 65) + l.val) : ℝ) : EReal) := by
  rw [rd_3 (st_holds m c h0 h1 t.val t.isLt).dq r l]
  exact congrArg _ (gq_eq m c (t.val / 65) (128 * (t.val % 65) + r.val) l.val l.isLt)

theorem out_dk (t : Fin cfg0.N) (ht : t.val % 65 = 64) (r : Fin 8320) (l : Fin 128) :
    ((stAt m c t.val t.isLt).dk : S8320x128.Idx → EReal) (ix2 r l) = ((gk m c r.val (128 * (t.val / 65) + l.val) : ℝ) : EReal) := by
  have h := done_upTo (st_holds m c h0 h1 t.val t.isLt).dk
  rw [ht] at h
  rw [h r l]
  exact congrArg _ (gk_eq m c (t.val / 65) r.val l.val l.isLt)

theorem out_dv (t : Fin cfg0.N) (ht : t.val % 65 = 64) (r : Fin 8320) (l : Fin 128) :
    ((stAt m c t.val t.isLt).dv : S8320x128.Idx → EReal) (ix2 r l) = ((gv m c r.val (128 * (t.val / 65) + l.val) : ℝ) : EReal) := by
  have h := done_upTo (st_holds m c h0 h1 t.val t.isLt).dv
  rw [ht] at h
  rw [h r l]
  exact congrArg _ (gv_eq m c (t.val / 65) r.val l.val l.isLt)

omit h0 h1 in
theorem flush7_iff : ∀ t : Fin cfg0.N, (cfg0.win 7).flush t = true ↔ t.val % 65 = 64 := by decide +kernel
omit h0 h1 in
theorem flush8_iff : ∀ t : Fin cfg0.N, (cfg0.win 8).flush t = true ↔ t.val % 65 = 64 := by decide +kernel
omit h0 h1 in
theorem flush6_all : ∀ t : Fin cfg0.N, (cfg0.win 6).flush t = true := by decide +kernel

theorem flushed6 (t : Fin cfg0.N) (hf : (cfg0.win 6).flush t = true) :
    (dats m 0 c).flushed 6 t = ((cfg0.win 6).blk t).view.read (Elt Ideal) (arrQ m c) := by
  show (cfg0.win 6).cut (grid0.coords t) ((dats m 0 c).after 6 t) = _
  rw [after0_6]
  obtain ⟨e0, e1⟩ := idx6 t
  funext y
  have hb0 : (((cfg0.win 6).blk t).view.emb y 0).val = win0_6.index t (0 : Fin 2) * 128 + 1 * (y 0).val := rfl
  have hb1 : (((cfg0.win 6).blk t).view.emb y 1).val = win0_6.index t (1 : Fin 2) * 128 + 1 * (y 1).val := rfl
  rw [View.read_apply]
  show (k0_pay3 (stAt m c t.val t.isLt).dq : S128x128.Idx → EReal) ((cfg0.win 6).xinj (grid0.coords t) y) = ((gq m c _ _ : ℝ) : EReal)
  have hy : (cfg0.win 6).xinj (grid0.coords t) y = (ix2 ⟨(y 0).val, (y 0).isLt⟩ ⟨(y 1).val, (y 1).isLt⟩ : S128x128.Idx) := by
    funext a
    match a with
    | ⟨0, _⟩ => rfl
    | ⟨1, _⟩ => rfl
  rw [hy, out_dq m c h0 h1 t _ _, hb0, hb1, e0, e1]
  refine congrArg (fun x : ℝ => (x : EReal)) (congrArg₂ (gq m c) ?_ ?_)
  · show 128 * (t.val % 65) + (y 0).val = _
    omega
  · show 128 * (t.val / 65) + (y 1).val = _
    omega

omit h0 h1 in
theorem mem6 (t : Fin cfg0.N) (i : S8320x512.Idx) :
    i ∈ ((cfg0.win 6).blk t).view.set ↔ ∀ a : Fin 2, win0_6.index t a * S128x128.size a ≤ (i a).val ∧ (i a).val < win0_6.index t a * S128x128.size a + S128x128.size a := by
  show i ∈ ((View.whole main_v36_0).slice (win0_6.rect t)).set ↔ _
  rw [View.set_slice_whole, Rect.mem_set_unit]
  exact Iff.rfl

theorem arr6 : (dats m 0 c).arrAt 6 cfg0.N = arrQ m c := by
  refine (dats m 0 c).arrAt_eq_of_cover 6 _ (fun t hf => flushed6 m c h0 h1 t hf) (fun i => ?_)
  have b0 : (i 0).val < 8320 := (i 0).isLt
  have b1 : (i 1).val < 512 := (i 1).isLt
  have hlt : 65 * ((i 1).val / 128) + (i 0).val / 128 < cfg0.N := lt_of_lt_of_eq (by omega) (show cfg0.N = 260 from N_0).symm
  obtain ⟨e0, e1⟩ := idx6 ⟨65 * ((i 1).val / 128) + (i 0).val / 128, hlt⟩
  refine ⟨⟨65 * ((i 1).val / 128) + (i 0).val / 128, hlt⟩, flush6_all _, ?_⟩
  rw [mem6]
  intro a
  match a with
  | ⟨0, _⟩ =>
    show win0_6.index _ (0 : Fin 2) * 128 ≤ (i 0).val ∧ (i 0).val < win0_6.index _ (0 : Fin 2) * 128 + 128
    rw [e0]
    show (65 * ((i 1).val / 128) + (i 0).val / 128) % 65 * 128 ≤ (i 0).val ∧ (i 0).val < (65 * ((i 1).val / 128) + (i 0).val / 128) % 65 * 128 + 128; omega
  | ⟨1, _⟩ =>
    show win0_6.index _ (1 : Fin 2) * 128 ≤ (i 1).val ∧ (i 1).val < win0_6.index _ (1 : Fin 2) * 128 + 128
    rw [e1]
    show (65 * ((i 1).val / 128) + (i 0).val / 128) / 65 * 128 ≤ (i 1).val ∧ (i 1).val < (65 * ((i 1).val / 128) + (i 0).val / 128) / 65 * 128 + 128
    omega

theorem flushed7 (t : Fin cfg0.N) (hf : (cfg0.win 7).flush t = true) :
    (dats m 0 c).flushed 7 t = ((cfg0.win 7).blk t).view.read (Elt Ideal) (arrK m c) := by
  show (cfg0.win 7).cut (grid0.coords t) ((dats m 0 c).after 7 t) = _
  rw [after0_7]
  have hm : t.val % 65 = 64 := (flush7_iff t).mp hf
  obtain ⟨e0, e1⟩ := idx7 t
  funext y
  have hb0 : (((cfg0.win 7).blk t).view.emb y 0).val = win0_7.index t (0 : Fin 2) * 8320 + 1 * (y 0).val := rfl
  have hb1 : (((cfg0.win 7).blk t).view.emb y 1).val = win0_7.index t (1 : Fin 2) * 128 + 1 * (y 1).val := rfl
  rw [View.read_apply]
  show ((stAt m c t.val t.isLt).dk : S8320x128.Idx → EReal) ((cfg0.win 7).xinj (grid0.coords t) y) = ((gk m c _ _ : ℝ) : EReal)
  have hy : (cfg0.win 7).xinj (grid0.coords t) y = (ix2 ⟨(y 0).val, (y 0).isLt⟩ ⟨(y 1).val, (y 1).isLt⟩ : S8320x128.Idx) := by
    funext a
    match a with
    | ⟨0, _⟩ => rfl
    | ⟨1, _⟩ => rfl
  rw [hy, out_dk m c h0 h1 t hm _ _, hb0, hb1, e0, e1]
  refine congrArg (fun x : ℝ => (x : EReal)) (congrArg₂ (gk m c) ?_ ?_)
  · show (y 0).val = _
    omega
  · show 128 * (t.val / 65) + (y 1).val = _
    omega

omit h0 h1 in
theorem mem7 (t : Fin cfg0.N) (i : S8320x512.Idx) :
    i ∈ ((cfg0.win 7).blk t).view.set ↔ ∀ a : Fin 2, win0_7.index t a * S8320x128.size a ≤ (i a).val ∧ (i a).val < win0_7.index t a * S8320x128.size a + S8320x128.size a := by
  show i ∈ ((View.whole main_v36_1).slice (win0_7.rect t)).set ↔ _
  rw [View.set_slice_whole, Rect.mem_set_unit]
  exact Iff.rfl

theorem arr7 : (dats m 0 c).arrAt 7 cfg0.N = arrK m c := by
  refine (dats m 0 c).arrAt_eq_of_cover 7 _ (fun t hf => flushed7 m c h0 h1 t hf) (fun i => ?_)
  have b0 : (i 0).val < 8320 := (i 0).isLt
  have b1 : (i 1).val < 512 := (i 1).isLt
  have hlt : 65 * ((i 1).val / 128) + 64 < cfg0.N := lt_of_lt_of_eq (by omega) (show cfg0.N = 260 from N_0).symm
  obtain ⟨e0, e1⟩ := idx7 ⟨65 * ((i 1).val / 128) + 64, hlt⟩
  refine ⟨⟨65 * ((i 1).val / 128) + 64, hlt⟩, (flush7_iff _).mpr (by show (65 * ((i 1).val / 128) + 64) % 65 = 64; omega), ?_⟩
  rw [mem7]
  intro a
  match a with
  | ⟨0, _⟩ =>
    show win0_7.index _ (0 : Fin 2) * 8320 ≤ (i 0).val ∧ (i 0).val < win0_7.index _ (0 : Fin 2) * 8320 + 8320
    rw [e0]
    show 0 * 8320 ≤ (i 0).val ∧ (i 0).val < 0 * 8320 + 8320; omega
  | ⟨1, _⟩ =>
    show win0_7.index _ (1 : Fin 2) * 128 ≤ (i 1).val ∧ (i 1).val < win0_7.index _ (1 : Fin 2) * 128 + 128
    rw [e1]
    show (65 * ((i 1).val / 128) + 64) / 65 * 128 ≤ (i 1).val ∧ (i 1).val < (65 * ((i 1).val / 128) + 64) / 65 * 128 + 128
    omega

theorem flushed8 (t : Fin cfg0.N) (hf : (cfg0.win 8).flush t = true) :
    (dats m 0 c).flushed 8 t = ((cfg0.win 8).blk t).view.read (Elt Ideal) (arrV m c) := by
  show (cfg0.win 8).cut (grid0.coords t) ((dats m 0 c).after 8 t) = _
  rw [after0_8]
  have hm : t.val % 65 = 64 := (flush8_iff t).mp hf
  obtain ⟨e0, e1⟩ := idx8 t
  funext y
  have hb0 : (((cfg0.win 8).blk t).view.emb y 0).val = win0_8.index t (0 : Fin 2) * 8320 + 1 * (y 0).val := rfl
  have hb1 : (((cfg0.win 8).blk t).view.emb y 1).val = win0_8.index t (1 : Fin 2) * 128 + 1 * (y 1).val := rfl
  rw [View.read_apply]
  show ((stAt m c t.val t.isLt).dv : S8320x128.Idx → EReal) ((cfg0.win 8).xinj (grid0.coords t) y) = ((gv m c _ _ : ℝ) : EReal)
  have hy : (cfg0.win 8).xinj (grid0.coords t) y = (ix2 ⟨(y 0).val, (y 0).isLt⟩ ⟨(y 1).val, (y 1).isLt⟩ : S8320x128.Idx) := by
    funext a
    match a with
    | ⟨0, _⟩ => rfl
    | ⟨1, _⟩ => rfl
  rw [hy, out_dv m c h0 h1 t hm _ _, hb0, hb1, e0, e1]
  refine congrArg (fun x : ℝ => (x : EReal)) (congrArg₂ (gv m c) ?_ ?_)
  · show (y 0).val = _
    omega
  · show 128 * (t.val / 65) + (y 1).val = _
    omega

omit h0 h1 in
theorem mem8 (t : Fin cfg0.N) (i : S8320x512.Idx) :
    i ∈ ((cfg0.win 8).blk t).view.set ↔ ∀ a : Fin 2, win0_8.index t a * S8320x128.size a ≤ (i a).val ∧ (i a).val < win0_8.index t a * S8320x128.size a + S8320x128.size a := by
  show i ∈ ((View.whole main_v36_2).slice (win0_8.rect t)).set ↔ _
  rw [View.set_slice_whole, Rect.mem_set_unit]
  exact Iff.rfl

theorem arr8 : (dats m 0 c).arrAt 8 cfg0.N = arrV m c := by
  refine (dats m 0 c).arrAt_eq_of_cover 8 _ (fun t hf => flushed8 m c h0 h1 t hf) (fun i => ?_)
  have b0 : (i 0).val < 8320 := (i 0).isLt
  have b1 : (i 1).val < 512 := (i 1).isLt
  have hlt : 65 * ((i 1).val / 128) + 64 < cfg0.N := lt_of_lt_of_eq (by omega) (show cfg0.N = 260 from N_0).symm
  obtain ⟨e0, e1⟩ := idx8 ⟨65 * ((i 1).val / 128) + 64, hlt⟩
  refine ⟨⟨65 * ((i 1).val / 128) + 64, hlt⟩, (flush8_iff _).mpr (by show (65 * ((i 1).val / 128) + 64) % 65 = 64; omega), ?_⟩
  rw [mem8]
  intro a
  match a with
  | ⟨0, _⟩ =>
    show win0_8.index _ (0 : Fin 2) * 8320 ≤ (i 0).val ∧ (i 0).val < win0_8.index _ (0 : Fin 2) * 8320 + 8320
    rw [e0]
    show 0 * 8320 ≤ (i 0).val ∧ (i 0).val < 0 * 8320 + 8320; omega
  | ⟨1, _⟩ =>
    show win0_8.index _ (1 : Fin 2) * 128 ≤ (i 1).val ∧ (i 1).val < win0_8.index _ (1 : Fin 2) * 128 + 128
    rw [e1]
    show (65 * ((i 1).val / 128) + 64) / 65 * 128 ≤ (i 1).val ∧ (i 1).val < (65 * ((i 1).val / 128) + 64) / 65 * 128 + 128
    omega

end

end Cert.KernelIdeal.Sb

end
-- ==== Proof.SbRun.lean ====
/-
  The whole run of the attention's backward kernel and of the reference, and the equation of their three gradients.
-/
module

public import proofs.«01_k».proof.Proof.SbOut
public import proofs.«01_k».proof.Proof.Gen.ReferenceIdeal.Run
public import proofs.«01_k».proof.Proof.Gen.ReferenceIdeal
public import proofs.«01_k».proof.Proof.Gen.Pre_finite_sb
public import proofs.«01_k».proof.Defs

@[expose] public section

set_option maxRecDepth 16384

noncomputable section

namespace Cert.KernelIdeal.Sb

open Idealize.ShloMosaic Idealize.ShloMosaic.TcCoe Idealize.SL.Sem
open Gen Cert.SbMath Cert.SbRef

variable (m : (ℓ : Loc nD τ sig) → Buf (Elt Ideal) ℓ) (ρ : Dev nD → PrngReg)

theorem run_kernel (h0 : ∀ c i, ∃ r : ℝ, aq m c i = r) (h1 : ∀ c i, ∃ r : ℝ, ad m c i = r) :
    θ_run defs (onTc (τ := τ) (main (F := Ideal))) ⟨m, fun _ => 0, ρ⟩ fun r => ∀ c : Dev nD,
      r.2.mem ((c.tc : Thread nD τ).loc main_v36_0) = arrQ m c
      ∧ r.2.mem ((c.tc : Thread nD τ).loc main_v36_1) = arrK m c
      ∧ r.2.mem ((c.tc : Thread nD τ).loc main_v36_2) = arrV m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 6).trans (arr6 m c (h0 c) (h1 c)),
      ((h c).1 7).trans (arr7 m c (h0 c) (h1 c)),
      ((h c).1 8).trans (arr8 m c (h0 c) (h1 c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

theorem eta (i : S8320x512.Idx) : i = ix2 (i 0) (i 1) := by
  funext a
  match a with
  | ⟨0, _⟩ => rfl
  | ⟨1, _⟩ => rfl

theorem algebraic : Cert.algebraic_KernelIdeal_ReferenceIdeal_pre_finite_sb (hKernelIdeal := Cert.KernelIdeal.Gen.facts)
    (hReferenceIdeal := Cert.ReferenceIdeal.Gen.facts) (hPre_finite_sb := Cert.Pre_finite_sb.Gen.facts) := by
  intro m g m' g' hpre hagree
  have h0 : ∀ c i, ∃ r : ℝ, aq m c i = r := fun c i => Reals.real_of_finite _ _ (hpre c).1 i
  have h1 : ∀ c i, ∃ r : ℝ, ad m c i = r := fun c i => Reals.real_of_finite _ _ (hpre c).2 i
  refine ⟨arrQ m, arrK m, arrV m, run_kernel m g h0 h1, (θ_run _ _ _).mono (fun r h c => ?_) (Cert.ReferenceIdeal.Value.run m' g')⟩
  obtain ⟨a0, a1⟩ := hagree c
  refine ⟨(h c).1.trans ?_, (h c).2.1.trans ?_, (h c).2.2.1.trans ?_, (h c).2.2.2⟩
  all_goals clear h
  · rw [Cert.ReferenceIdeal.Read.val_main_v56_eq, a0, a1]
    funext (i : S8320x512.Idx)
    rw [eta i]
    exact rd_dq (h0 c) (h1 c) (i 0) (i 1)
  · rw [Cert.ReferenceIdeal.Read.val_main_v57_eq, a0, a1]
    funext (i : S8320x512.Idx)
    rw [eta i]
    exact rd_dk (h0 c) (h1 c) (i 0) (i 1)
  · rw [Cert.ReferenceIdeal.Read.val_main_v58_eq, a0, a1]
    funext (i : S8320x512.Idx)
    rw [eta i]
    exact rd_dv (h0 c) (h1 c) (i 0) (i 1)

end Cert.KernelIdeal.Sb

end
-- ==== Proof.InProjCases.lean ====
/-
  What one grid point of the input projection's backward kernel leaves in the buffers it writes, as the printed
  payloads of its stores over the blocks it reads.
-/
module

public import proofs.«01_k».proof.Proof.Gen.Kernel2Ideal.Frame
public import Idealize.ShloMosaic.Lib.Pipeline.Value

@[expose] public section

set_option maxRecDepth 16384

noncomputable section

namespace Cert.InProj

open Idealize.ShloMosaic Idealize.ShloMosaic.TcCoe Idealize.SL.Sem
open Cert.Kernel2Ideal Cert.Kernel2Ideal.Gen

variable {F : FTy → Type} [FloatOps F]

theorem zeroOff : (![0, 0] : Fin 2 → Nat) = fun _ => 0 := funext fun a => by fin_cases a <;> rfl

section
variable (c : Dev nD) (i : grid0.Coords)
  (a2 : Memref sig .tc .vmem S640x640 .bf16) (h2 : a2.IsWhole) (a3 : Memref sig .tc .vmem S1024x640 .bf16) (h3 : a3.IsWhole)
  (a4 : Memref sig .tc .vmem S640x1024 .f32) (h4 : a4.IsWhole) (a5 : Memref sig .tc .vmem S1x1024 .f32) (h5 : a5.IsWhole)
  (a6 : Memref sig .tc .vmem S640x1024 .f32) (h6 : a6.IsWhole) (a7 : Memref sig .tc .vmem S640x1024 .f32) (h7 : a7.IsWhole)
  (a8 : Memref sig .tc .vmem S1x1024 .f32) (h8 : a8.IsWhole) (a9 : Memref sig .tc .vmem S640x1024 .f32) (h9 : a9.IsWhole)
  (x0 : Vec F S640x640 .bf16) (x1 : Vec F S1024x640 .bf16) (x2 : Vec F S640x1024 .f32) (x3 : Vec F S1x1024 .f32)
  (x4 : Vec F S640x1024 .f32) (xo6 : Vec F S1x1024 .f32) (xs0 : Vec F S640x1024 .f32)

/-- The first point clears the gain's gradient. -/
theorem gain_first (hc0 : cond0_0 i) (hc1 : cond0_1 i) (hc2 : ¬cond0_2 i) :
    out0_A_6 c i a2 h2 a3 h3 a4 h4 a5 h5 a6 h6 a7 h7 a8 h8 a9 h9 hc0 hc1 hc2 x0 x1 x2 x3 x4 = k0_pay2 := by
  unfold out0_A_6
  rw [View.read_writes_eq_canon _ _ _ (cover0_A_6 c i a2 h2 a3 h3 a4 h4 a5 h5 a6 h6 a7 h7 a8 h8 a9 h9 hc0 hc1 hc2 x0 x1 x2 x3 x4)]
  unfold kernelRun0_A
  dsimp only
  rw [View.canon_unit_zero zeroOff]

/-- The first point leaves the first part of the contraction in the scratch. -/
theorem scratch_first (hc0 : cond0_0 i) (hc1 : cond0_1 i) (hc2 : ¬cond0_2 i) :
    sout0_A_0 c i a2 h2 a3 h3 a4 h4 a5 h5 a6 h6 a7 h7 a8 h8 a9 h9 hc0 hc1 hc2 x0 x1 x2 x3 x4 = k0_pay3 k0_pay1 x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  sl_unfold_words
  rw [View.canon_cons_unit_zero (S := S640x1024) zeroOff, View.readCov_unit_zero (S := S640x1024) _ zeroOff]
  simp only [View.readAt_eq_ld, h2.read_unread, h3.read_unread, View.ld_unit_zero (S := S640x640) zeroOff,
    View.ld_unit_zero (S := S1024x640) zeroOff, shapeCast_self]

/-- The first point of every later row block does the same. -/
theorem scratch_row (hc0 : cond0_0 i) (hc1 : ¬cond0_1 i) (hc2 : ¬cond0_2 i) :
    sout0_D_0 c i a2 h2 a3 h3 a4 h4 a5 h5 a6 h6 a7 h7 a8 h8 a9 h9 hc0 hc1 hc2 x0 x1 x2 x3 x4 = k0_pay3 k0_pay1 x0 x1 := by
  unfold sout0_D_0
  rw [View.read_writes_eq_canon _ _ _ (scover0_D_0 c i a2 h2 a3 h3 a4 h4 a5 h5 a6 h6 a7 h7 a8 h8 a9 h9 hc0 hc1 hc2 x0 x1 x2 x3 x4)]
  unfold kernelRun0_D
  dsimp only
  sl_unfold_words
  rw [View.canon_cons_unit_zero (S := S640x1024) zeroOff, View.readCov_unit_zero (S := S640x1024) _ zeroOff]
  simp only [View.readAt_eq_ld, h2.read_unread, h3.read_unread, View.ld_unit_zero (S := S640x640) zeroOff,
    View.ld_unit_zero (S := S1024x640) zeroOff, shapeCast_self]

/-- A point inside a row block adds its part of the contraction. -/
theorem scratch_mid (hc0 : ¬cond0_0 i) (hc1 : ¬cond0_1 i) (hc2 : ¬cond0_2 i) :
    sout0_B_0 c i a2 h2 a3 h3 a4 h4 a5 h5 a6 h6 a7 h7 a8 h8 a9 h9 hc0 hc1 hc2 x0 x1 x2 x3 x4 xs0 = k0_pay3 xs0 x0 x1 := by
  unfold sout0_B_0
  rw [View.read_writes_eq_canon _ _ _ (scover0_B_0 c i a2 h2 a3 h3 a4 h4 a5 h5 a6 h6 a7 h7 a8 h8 a9 h9 hc0 hc1 hc2 x0 x1 x2 x3 x4 xs0)]
  unfold kernelRun0_B
  dsimp only
  rw [View.canon_unit_zero zeroOff]
  simp only [View.readAt_eq_ld, h2.read_unread, h3.read_unread, h9.read_unread, View.ld_unit_zero (S := S640x640) zeroOff,
    View.ld_unit_zero (S := S1024x640) zeroOff, View.ld_unit_zero (S := S640x1024) zeroOff, shapeCast_self]

/-- The last point of a row block finishes the contraction and writes the row block of the input's gradient. -/
theorem rows_last (hc0 : ¬cond0_0 i) (hc1 : ¬cond0_1 i) (hc2 : cond0_2 i) :
    out0_C_5 c i a2 h2 a3 h3 a4 h4 a5 h5 a6 h6 a7 h7 a8 h8 a9 h9 hc0 hc1 hc2 x0 x1 x2 x3 x4 xo6 xs0
      = k0_pay8 x2 (k0_pay3 xs0 x0 x1) x3 x4 := by
  unfold out0_C_5
  rw [View.read_writes_eq_canon _ _ _ (cover0_C_5 c i a2 h2 a3 h3 a4 h4 a5 h5 a6 h6 a7 h7 a8 h8 a9 h9 hc0 hc1 hc2 x0 x1 x2 x3 x4 xo6 xs0)]
  unfold kernelRun0_C
  dsimp only
  sl_unfold_words
  rw [View.canon_unit_zero zeroOff, View.readCov_unit_zero (S := S640x1024) _ zeroOff]
  simp only [View.readAt_eq_ld, h2.read_unread, h3.read_unread, h4.read_unread, h5.read_unread, h6.read_unread, h9.read_unread,
    View.ld_unit_zero (S := S640x640) zeroOff, View.ld_unit_zero (S := S1024x640) zeroOff,
    View.ld_unit_zero (S := S640x1024) zeroOff, View.ld_unit_zero (S := S1x1024) zeroOff, shapeCast_self]

/-- The last point of a row block adds its row block's part to the gain's gradient. -/
theorem gain_last (hc0 : ¬cond0_0 i) (hc1 : ¬cond0_1 i) (hc2 : cond0_2 i) :
    out0_C_6 c i a2 h2 a3 h3 a4 h4 a5 h5 a6 h6 a7 h7 a8 h8 a9 h9 hc0 hc1 hc2 x0 x1 x2 x3 x4 xo6 xs0
      = k0_pay7 x2 (k0_pay3 xs0 x0 x1) xo6 := by
  unfold out0_C_6
  rw [View.read_writes_eq_canon _ _ _ (cover0_C_6 c i a2 h2 a3 h3 a4 h4 a5 h5 a6 h6 a7 h7 a8 h8 a9 h9 hc0 hc1 hc2 x0 x1 x2 x3 x4 xo6 xs0)]
  unfold kernelRun0_C
  dsimp only
  sl_unfold_words
  rw [View.canon_unit_zero zeroOff, View.readCov_unit_zero (S := S640x1024) _ zeroOff]
  simp only [View.readAt_eq_ld, h2.read_unread, h3.read_unread, h4.read_unread, h8.read_unread, h9.read_unread,
    View.ld_unit_zero (S := S640x640) zeroOff, View.ld_unit_zero (S := S1024x640) zeroOff,
    View.ld_unit_zero (S := S640x1024) zeroOff, View.ld_unit_zero (S := S1x1024) zeroOff, shapeCast_self]

end

variable (m : (ℓ : Loc nD τ sig) → Buf (Elt F) ℓ)

/-- The point before. -/
def before (t : Fin cfg0.N) : Fin cfg0.N := ⟨t.val - 1, Nat.lt_of_le_of_lt (Nat.sub_le _ _) t.isLt⟩

/-- The finished contraction of a row block, standing at its last point. -/
def full (c : Dev nD) (t : Fin cfg0.N) : Vec F S640x1024 .f32 :=
  k0_pay3 (outsAt0 m c (before t).val (before t).isLt).2.2 (iblk m c 0 t) (iblk m c 1 t)

theorem points (t : Fin cfg0.N) : t.val < 130 := lt_of_lt_of_eq t.isLt (show cfg0.N = 130 from N_0)

/-- What the first point of a row block leaves in the scratch. -/
theorem scratch_at_first (c : Dev nD) (t : Fin cfg0.N) (ht : t.val % 10 = 0) :
    (outsAt0 m c t.val t.isLt).2.2 = k0_pay3 k0_pay1 (iblk m c 0 t) (iblk m c 1 t) := by
  have hN := points t
  by_cases h1 : t.val % 130 = 0
  · refine (congrArg (fun p => p.2.2) (outsAt0_A m c t ht h1 (by omega))).trans ?_
    dsimp only
    exact scratch_first (F := F) ..
  · refine (congrArg (fun p => p.2.2) (outsAt0_D m c t ht h1 (by omega))).trans ?_
    dsimp only
    exact scratch_row (F := F) ..

/-- What a point inside a row block leaves in the scratch. -/
theorem scratch_at_mid (c : Dev nD) (t : Fin cfg0.N) (h0 : t.val % 10 ≠ 0) (h9 : t.val % 10 ≠ 9) :
    (outsAt0 m c t.val t.isLt).2.2 = k0_pay3 (outsAt0 m c (before t).val (before t).isLt).2.2 (iblk m c 0 t) (iblk m c 1 t) := by
  have hN := points t
  refine (congrArg (fun p => p.2.2) (outsAt0_B m c t h0 (by omega) h9)).trans ?_
  dsimp only
  exact scratch_mid (F := F) ..

/-- What the last point of a row block leaves: the row block of the gradient, and the gain's gradient with this block's
    part added. -/
theorem outs_last (c : Dev nD) (t : Fin cfg0.N) (ht : t.val % 10 = 9) :
    (outsAt0 m c t.val t.isLt).1 = k0_pay8 (iblk m c 2 t) (full m c t) (iblk m c 3 t) (iblk m c 4 t)
    ∧ (outsAt0 m c t.val t.isLt).2.1
        = k0_pay7 (iblk m c 2 t) (full m c t) (outsAt0 m c (before t).val (before t).isLt).2.1 := by
  have hN := points t
  have hb := outsAt0_C m c t (by omega) (by omega) ht
  unfold full
  refine ⟨(congrArg (fun p => p.1) hb).trans ?_, (congrArg (fun p => p.2.1) hb).trans ?_⟩
  · dsimp only
    exact rows_last (F := F) ..
  · dsimp only
    exact gain_last (F := F) ..

/-- Every other point past the first leaves the gain's gradient as it was. -/
theorem gain_kept (c : Dev nD) (t : Fin cfg0.N) (ht : t.val % 10 ≠ 9) (h1 : t.val ≠ 0) :
    (outsAt0 m c t.val t.isLt).2.1 = (outsAt0 m c (before t).val (before t).isLt).2.1 := by
  have hN := points t
  by_cases h0 : t.val % 10 = 0
  · exact congrArg (fun p => p.2.1) (outsAt0_D m c t h0 (by omega) (by omega))
  · exact congrArg (fun p => p.2.1) (outsAt0_B m c t h0 (by omega) ht)

/-- The first point leaves the cleared gain's gradient. -/
theorem gain_zero (c : Dev nD) (h : 0 < cfg0.N) : (outsAt0 m c 0 h).2.1 = k0_pay2 := by
  refine (congrArg (fun p => p.2.1) (outsAt0_A m c ⟨0, h⟩ rfl rfl (by show ¬0 % 10 = 9; decide))).trans ?_
  dsimp only
  exact gain_first (F := F) ..

end Cert.InProj

end
-- ==== Proof.InProjForm.lean ====
/-
  The input projection's backward pass as formulas over the extended reals, and the two ways of writing the gradient
  through the root mean square norm, equal where the inputs are real numbers.
-/
module

public import proofs.«01_k».proof.Proof.Reals

@[expose] public section

noncomputable section

namespace Cert.InProj

open Idealize.ShloMosaic Cert.Reals

/-- The arguments by their coordinates. -/
structure Args where
  x : Fin 8192 → Fin 1024 → EReal
  tok : Fin 16 → Fin 1024 → EReal
  gain : Fin 1024 → EReal
  w : Fin 1024 → Fin 6400 → EReal
  dproj : Fin 8320 → Fin 6400 → EReal
  dh1 : Fin 8320 → Fin 1024 → EReal

/-- The arguments' arrays by coordinates. -/
def args (x0 : (⟨3, ![1, 8192, 1024]⟩ : Shape).Idx → EReal) (x1 : (⟨2, ![16, 1024]⟩ : Shape).Idx → EReal)
    (x2 : (⟨2, ![1, 1024]⟩ : Shape).Idx → EReal) (x3 : (⟨3, ![1, 1024, 6400]⟩ : Shape).Idx → EReal)
    (x4 : (⟨3, ![1, 8320, 6400]⟩ : Shape).Idx → EReal) (x5 : (⟨3, ![1, 8320, 1024]⟩ : Shape).Idx → EReal) : Args where
  x r j := x0 (ix3 0 r j)
  tok r j := x1 (ix2 r j)
  gain j := x2 (ix2 0 j)
  w j k := x3 (ix3 0 j k)
  dproj r k := x4 (ix3 0 r k)
  dh1 r j := x5 (ix3 0 r j)

namespace Args

variable (A : Args)

/-- The padded rows: zeros, the meta tokens, the tokens. -/
def hid (r : Fin 8320) (j : Fin 1024) : EReal :=
  if h : r.val < 112 then 0
  else if h' : r.val - 112 < 16 then A.tok ⟨r.val - 112, h'⟩ j
  else A.x ⟨r.val - 112 - 16, by omega⟩ j

/-- The gradient at the normalised rows: the cotangent times the transposed weights. -/
def dxn (r : Fin 8320) (j : Fin 1024) : EReal := ∑ k, A.dproj r k * A.w j k

/-- A row's mean square plus the small constant. -/
def var (r : Fin 8320) : EReal :=
  Ideal.div (∑ j, A.hid r j * A.hid r j) (Ideal.ofBits .f32 0x44800000#32) + Ideal.ofBits .f32 0x358637BD#32

/-- Its reciprocal root. -/
def rstd (r : Fin 8320) : EReal := Ideal.rsqrt (A.var r)

/-- The normalised rows before the gain. -/
def xhat (r : Fin 8320) (j : Fin 1024) : EReal := A.hid r j * A.rstd r

/-- The gain's gradient. -/
def dgain (j : Fin 1024) : EReal := ∑ r, A.dxn r j * A.xhat r j

/-- The rows' gradient, as the kernel writes it: with the residual path's cotangent added. -/
def dhid (r : Fin 8320) (j : Fin 1024) : EReal :=
  A.rstd r * (A.dxn r j * A.gain j
    - A.xhat r j * Ideal.div (∑ k, A.dxn r k * A.gain k * A.xhat r k) (Ideal.ofBits .f32 0x44800000#32)) + A.dh1 r j

/-- The rows' gradient as the derivative of the norm gives it: the part through the mean square, counted twice. -/
def dsq (r : Fin 8320) : EReal :=
  Ideal.div ((∑ k, A.hid r k * (A.dxn r k * A.gain k))
    * (Ideal.ofBits .f32 0xBF000000#32 * Ideal.div (A.rstd r) (A.var r))) (Ideal.ofBits .f32 0x44800000#32)

/-- Every argument that a product takes is a real number. -/
structure Real : Prop where
  x : ∀ r j, ∃ v : ℝ, A.x r j = v
  tok : ∀ r j, ∃ v : ℝ, A.tok r j = v
  gain : ∀ j, ∃ v : ℝ, A.gain j = v
  w : ∀ j k, ∃ v : ℝ, A.w j k = v
  dproj : ∀ r k, ∃ v : ℝ, A.dproj r k = v

variable {A}

theorem hid_real (hA : A.Real) (r : Fin 8320) (j : Fin 1024) : ∃ v : ℝ, A.hid r j = v := by
  unfold hid
  split
  · exact ⟨0, rfl⟩
  · split
    · exact hA.tok _ _
    · exact hA.x _ _

theorem dxn_real (hA : A.Real) (r : Fin 8320) (j : Fin 1024) : ∃ v : ℝ, A.dxn r j = v := by
  choose p hp using hA.dproj r
  choose q hq using hA.w j
  refine ⟨∑ k, p k * q k, ?_⟩
  unfold dxn
  rw [coe_sum]
  exact Finset.sum_congr rfl fun k _ => by rw [hp, hq, EReal.coe_mul]

/-- The two ways of writing the rows' gradient agree on real arguments. -/
theorem dhid_eq (hA : A.Real) (r : Fin 8320) (j : Fin 1024) :
    A.dhid r j = A.dh1 r j + A.dxn r j * A.gain j * A.rstd r + A.hid r j * A.dsq r + A.dsq r * A.hid r j := by
  choose h hh using hid_real hA r
  choose d hd using dxn_real hA r
  choose g hg using hA.gain
  have hn : (1024 : ℝ) ≠ 0 := by norm_num
  have hv : A.var r = (((∑ k, h k * h k) * (1 / 1024) + eps : ℝ) : EReal) := by
    unfold var
    simp only [hh, const_1024, const_eps, Ideal.div_coe hn, ← EReal.coe_mul, ← coe_sum, ← EReal.coe_add]
  set v : ℝ := (∑ k, h k * h k) * (1 / 1024) + eps with hvd
  have hv0 : 0 < v := add_pos_of_nonneg_of_pos
    (mul_nonneg (Finset.sum_nonneg fun k _ => mul_self_nonneg _) (by norm_num)) eps_pos
  have hr : A.rstd r = (((Real.sqrt v)⁻¹ : ℝ) : EReal) := by
    unfold rstd
    rw [hv, Ideal.rsqrt_coe, if_neg (not_lt.mpr hv0.le), if_neg hv0.ne']
  set s : ℝ := (Real.sqrt v)⁻¹ with hs
  have hss : s * s = 1 / v := by
    rw [hs, ← mul_inv, Real.mul_self_sqrt hv0.le, one_div]
  have hq : A.dsq r = (((∑ k, h k * (d k * g k)) * (-(1 / 2) * (s * (1 / v))) * (1 / 1024) : ℝ) : EReal) := by
    unfold dsq
    simp only [hh, hd, hg, hv, hr, const_1024, const_neg_half, Ideal.div_coe hn, Ideal.div_coe hv0.ne', ← EReal.coe_mul, ← coe_sum]
  have hsum : (∑ k, d k * g k * (h k * s)) = (∑ k, h k * (d k * g k)) * s := by
    rw [Finset.sum_mul]
    exact Finset.sum_congr rfl fun k _ => by ring
  unfold dhid xhat
  simp only [hh, hd, hg, hr, hq, const_1024, Ideal.div_coe hn, ← EReal.coe_mul, ← coe_sum, ← EReal.coe_sub]
  rw [hsum, add_assoc, add_assoc, add_comm, ← EReal.coe_add, ← EReal.coe_add]
  congr 2
  rw [← hss]
  ring

end Args

end Cert.InProj

end
-- ==== Proof.InProjValue.lean ====
/-
  What the input projection's backward kernel leaves in its two arrays, as the formulas of `InProjForm`.
-/
module

public import proofs.«01_k».proof.Proof.InProjCases
public import proofs.«01_k».proof.Proof.InProjForm
public import Idealize.ShloMosaic.Lib.Pointwise.Tactic
public import Idealize.ShloMosaic.Lib.Pointwise
public import Idealize.ShloMosaic.Lib.StableHlo.ReadAt

@[expose] public section

set_option maxRecDepth 16384

noncomputable section

namespace Cert.InProj

open Idealize.ShloMosaic Idealize.ShloMosaic.TcCoe Idealize.SL.Sem Cert.Kernel2Ideal Cert.Kernel2Ideal.Gen Cert.Reals

variable (m : (ℓ : Loc nD τ sig) → Buf (Elt Ideal) ℓ)

/-- The kernel's arguments by their coordinates. -/
def kargs (c : Dev nD) : Args := args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5))

/-! ## What the region's arrays hold at its entry -/

theorem V_h (c : Dev nD) (i : Fin 8320) (j : Fin 1024) :
    (V m c main_v2 : S8320x1024.Idx → EReal) (ix2 i j) = (kargs m c).hid i j := by
  have e : V m c main_v2 = (concatenate S8320x1024 0 [⟨S112x1024, (broadcastInDim S112x1024 ![] bcast_S_S112x1024 (constant (F := Ideal) S_ .f32 0x00000000#32) : FVec Ideal S112x1024 .f32)⟩,
     ⟨S16x1024, (m ((c.tc : Thread nD τ).loc main_arg1) : FVec Ideal S16x1024 .f32)⟩,
     ⟨S8192x1024, (shapeCast S8192x1024 (m ((c.tc : Thread nD τ).loc main_arg0) : FVec Ideal S1x8192x1024 .f32) shapeCasts_S1x8192x1024_S8192x1024 : FVec Ideal S8192x1024 .f32)⟩] concatenates_S112x1024_S16x1024_S8192x1024_S8320x1024_d0 : FVec Ideal S8320x1024 .f32) := by
    unfold V V0
    simp only [List.flatten_cons, List.flatten_nil, List.append_nil, hostOps0]
    after_results_simp <;> (try dsimp only [Matrix.cons_val]) <;> (try after_results_simp) <;> rfl
  rw [e]
  unfold kargs
  clean_types
  generalize m (c.tc.loc main_arg0) = X
  generalize m (c.tc.loc main_arg1) = Y
  change S1x8192x1024.Idx → EReal at X
  change S16x1024.Idx → EReal at Y
  pointwise
  rfl

theorem V_dproj (c : Dev nD) (i : Fin 8320) (k : Fin 6400) :
    (V m c main_v4 : S8320x6400.Idx → EReal) (ix2 i k) = (kargs m c).dproj i k := by
  unfold V V0
  after_reads_at
  rfl

theorem V_w (c : Dev nD) (j : Fin 1024) (k : Fin 6400) :
    (V m c main_v6 : S1024x6400.Idx → EReal) (ix2 j k) = (kargs m c).w j k := by
  unfold V V0
  after_reads_at
  rfl

theorem V_gain (c : Dev nD) (j : Fin 1024) : (V m c main_arg2 : S1x1024.Idx → EReal) (ix2 0 j) = (kargs m c).gain j := by
  rw [V_main_arg2]
  rfl

theorem V_dh1 (c : Dev nD) (i : Fin 8320) (j : Fin 1024) :
    (V m c main_v7 : S8320x1024.Idx → EReal) (ix2 i j) = (kargs m c).dh1 i j := by
  unfold V V0
  after_reads_at
  rfl

/-! ## The blocks of the windows -/

theorem idx0 : ∀ t : Fin grid0.N, win0_0.index t (0 : Fin 2) = t.val / 10 ∧ win0_0.index t (1 : Fin 2) = t.val % 10 := by decide +kernel
theorem idx1 : ∀ t : Fin grid0.N, win0_1.index t (0 : Fin 2) = 0 ∧ win0_1.index t (1 : Fin 2) = t.val % 10 := by decide +kernel
theorem idx2 : ∀ t : Fin grid0.N, win0_2.index t (0 : Fin 2) = t.val / 10 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val / 10 ∧ win0_4.index t (1 : Fin 2) = 0 := by decide +kernel
theorem idx5 : ∀ t : Fin grid0.N, win0_5.index t (0 : Fin 2) = t.val / 10 ∧ win0_5.index t (1 : Fin 2) = 0 := by decide +kernel
theorem idx6 : ∀ t : Fin grid0.N, win0_6.index t (0 : Fin 2) = 0 ∧ win0_6.index t (1 : Fin 2) = 0 := by decide +kernel

theorem blk0 (c : Dev nD) (t : Fin cfg0.N) (i : Fin 640) (k : Fin 640) (r : Fin 8320) (q : Fin 6400)
    (hr : r.val = t.val / 10 * 640 + i.val) (hq : q.val = t.val % 10 * 640 + k.val) :
    (iblk m c 0 t : S640x640.Idx → EReal) (ix2 i k) = (kargs m c).dproj r q := by
  refine Eq.trans ?_ (V_dproj m c r q)
  unfold iblk
  rw [View.read_apply]
  show V m c main_v4 _ = _
  refine congrArg _ (funext fun a => Fin.ext ?_)
  match a with
  | ⟨0, _⟩ => show win0_0.index t (0 : Fin 2) * 640 + 1 * i.val = r.val; have := (idx0 t).1; omega
  | ⟨1, _⟩ => show win0_0.index t (1 : Fin 2) * 640 + 1 * k.val = q.val; have := (idx0 t).2; omega

theorem blk1 (c : Dev nD) (t : Fin cfg0.N) (j : Fin 1024) (k : Fin 640) (q : Fin 6400) (hq : q.val = t.val % 10 * 640 + k.val) :
    (iblk m c 1 t : S1024x640.Idx → EReal) (ix2 j k) = (kargs m c).w j q := by
  refine Eq.trans ?_ (V_w m c j q)
  unfold iblk
  rw [View.read_apply]
  show V m c main_v6 _ = _
  refine congrArg _ (funext fun a => Fin.ext ?_)
  match a with
  | ⟨0, _⟩ => show win0_1.index t (0 : Fin 2) * 1024 + 1 * j.val = j.val; have := (idx1 t).1; omega
  | ⟨1, _⟩ => show win0_1.index t (1 : Fin 2) * 640 + 1 * k.val = q.val; have := (idx1 t).2; omega

theorem blk2 (c : Dev nD) (t : Fin cfg0.N) (i : Fin 640) (j : Fin 1024) (r : Fin 8320) (hr : r.val = t.val / 10 * 640 + i.val) :
    (iblk m c 2 t : S640x1024.Idx → EReal) (ix2 i j) = (kargs m c).hid r j := by
  refine Eq.trans ?_ (V_h m c r j)
  unfold iblk
  rw [View.read_apply]
  show V m c main_v2 _ = _
  refine congrArg _ (funext fun a => Fin.ext ?_)
  match a with
  | ⟨0, _⟩ => show win0_2.index t (0 : Fin 2) * 640 + 1 * i.val = r.val; have := (idx2 t).1; omega
  | ⟨1, _⟩ => show win0_2.index t (1 : Fin 2) * 1024 + 1 * j.val = j.val; have := (idx2 t).2; omega

theorem blk3 (c : Dev nD) (t : Fin cfg0.N) (j : Fin 1024) :
    (iblk m c 3 t : S1x1024.Idx → EReal) (ix2 0 j) = (kargs m c).gain j := by
  refine Eq.trans ?_ (V_gain m c j)
  unfold iblk
  rw [View.read_apply]
  show V m c main_arg2 _ = _
  refine congrArg _ (funext fun a => Fin.ext ?_)
  match a with
  | ⟨0, _⟩ => show win0_3.index t (0 : Fin 2) * 1 + 1 * 0 = 0; have := (idx3 t).1; omega
  | ⟨1, _⟩ => show win0_3.index t (1 : Fin 2) * 1024 + 1 * j.val = j.val; have := (idx3 t).2; omega

theorem blk4 (c : Dev nD) (t : Fin cfg0.N) (i : Fin 640) (j : Fin 1024) (r : Fin 8320) (hr : r.val = t.val / 10 * 640 + i.val) :
    (iblk m c 4 t : S640x1024.Idx → EReal) (ix2 i j) = (kargs m c).dh1 r j := by
  refine Eq.trans ?_ (V_dh1 m c r j)
  unfold iblk
  rw [View.read_apply]
  show V m c main_v7 _ = _
  refine congrArg _ (funext fun a => Fin.ext ?_)
  match a with
  | ⟨0, _⟩ => show win0_4.index t (0 : Fin 2) * 640 + 1 * i.val = r.val; have := (idx4 t).1; omega
  | ⟨1, _⟩ => show win0_4.index t (1 : Fin 2) * 1024 + 1 * j.val = j.val; have := (idx4 t).2; omega

/-! ## The payloads -/

theorem pay1_at (i : Fin 640) (j : Fin 1024) : k0_pay1 (F := Ideal) (ix2 i j) = (0 : EReal) := by
  unfold k0_pay1
  pointwise

theorem pay2_at (j : Fin 1024) : k0_pay2 (F := Ideal) (ix2 0 j) = (0 : EReal) := by
  unfold k0_pay2
  pointwise

theorem pay3_at (a : FVec Ideal S640x1024 .f32) (x : FVec Ideal S640x640 .bf16) (y : FVec Ideal S1024x640 .bf16) (i : Fin 640) (j : Fin 1024) :
    k0_pay3 (F := Ideal) a x y (ix2 i j) = ((a (ix2 i j) : EReal) + ∑ k, (x (ix2 i k) : EReal) * y (ix2 j k)) := by
  unfold k0_pay3
  pointwise [dot_S640x640_S1024x640_S640x1024_1_1_0_0_n_n]

/-- The reciprocal root of a row of a block. -/
theorem pay5_at (c : Dev nD) (h : FVec Ideal S640x1024 .f32) (i : Fin 640) (r : Fin 8320)
    (hh : ∀ j, (h (ix2 i j) : EReal) = (kargs m c).hid r j) : k0_pay5 (F := Ideal) h (ix2 i 0) = (kargs m c).rstd r := by
  unfold k0_pay5 k0_pay4
  pointwise
  simp only [hh]
  rfl

theorem pay6_at (c : Dev nD) (h : FVec Ideal S640x1024 .f32) (i : Fin 640) (r : Fin 8320)
    (hh : ∀ j, (h (ix2 i j) : EReal) = (kargs m c).hid r j) (j : Fin 1024) :
    k0_pay6 (F := Ideal) h (ix2 i j) = (kargs m c).xhat r j := by
  unfold k0_pay6 k0_pay4
  pointwise
  rw [pay5_at m c h i r hh, hh]
  rfl

/-- One term of the contraction, by its position. -/
def term (c : Dev nD) (r : Fin 8320) (j : Fin 1024) (q : ℕ) : EReal :=
  if h : q < 6400 then (kargs m c).dproj r ⟨q, h⟩ * (kargs m c).w j ⟨q, h⟩ else 0

/-- A point's part of the contraction. -/
theorem part_at (c : Dev nD) (t : Fin cfg0.N) (i : Fin 640) (j : Fin 1024) (r : Fin 8320) (hr : r.val = t.val / 10 * 640 + i.val)
    (X : S640x640.Idx → EReal) (Y : S1024x640.Idx → EReal) (hX : iblk m c 0 t = X) (hY : iblk m c 1 t = Y) :
    (∑ k, X (ix2 i k) * Y (ix2 j k)) = ∑ k ∈ Finset.range 640, term m c r j (t.val % 10 * 640 + k) := by
  subst hX
  subst hY
  rw [Finset.sum_range]
  refine Finset.sum_congr rfl fun k _ => ?_
  unfold term
  rw [dif_pos (show t.val % 10 * 640 + k.val < 6400 by omega)]
  exact congrArg₂ (fun a b : EReal => a * b) (blk0 m c t i k r ⟨t.val % 10 * 640 + k.val, by omega⟩ hr rfl)
    (blk1 m c t j k ⟨t.val % 10 * 640 + k.val, by omega⟩ rfl)

/-- The scratch before a row block's last point: the contraction over the columns done. -/
theorem scratch_upto (c : Dev nD) (i : Fin 640) (j : Fin 1024) : ∀ (n : ℕ) (hn : n < cfg0.N) (r : Fin 8320), n % 10 ≠ 9 →
    r.val = n / 10 * 640 + i.val → ((outsAt0 m c n hn).2.2 : S640x1024.Idx → EReal) (ix2 i j)
      = ∑ k ∈ Finset.range ((n % 10 + 1) * 640), term m c r j k := by
  have first : ∀ (t : Fin cfg0.N) (r : Fin 8320), t.val % 10 = 0 → r.val = t.val / 10 * 640 + i.val →
      ((outsAt0 m c t.val t.isLt).2.2 : S640x1024.Idx → EReal) (ix2 i j) = ∑ k ∈ Finset.range ((t.val % 10 + 1) * 640), term m c r j k := by
    intro t r ht hr
    rw [scratch_at_first m c t ht, pay3_at, pay1_at, zero_add, part_at m c t i j r hr _ _ rfl rfl, ht]
    exact Finset.sum_congr (by norm_num) fun k _ => by rw [zero_mul, zero_add]
  intro n
  induction n with
  | zero => exact fun hn r _ hr => first ⟨0, hn⟩ r rfl hr
  | succ n ih =>
    intro hn r h9 hr
    by_cases h0 : (n + 1) % 10 = 0
    · exact first ⟨n + 1, hn⟩ r h0 hr
    · have hs := scratch_at_mid m c ⟨n + 1, hn⟩ h0 h9
      refine (congrArg (fun v : S640x1024.Idx → EReal => v (ix2 i j)) hs).trans ?_
      refine (pay3_at _ _ _ i j).trans ?_
      rw [part_at m c ⟨n + 1, hn⟩ i j r hr _ _ rfl rfl,
        show ((n + 1) % 10 + 1) * 640 = (n % 10 + 1) * 640 + 640 by omega, Finset.sum_range_add]
      refine congrArg₂ (· + ·) (ih (Nat.lt_of_succ_lt hn) r (by omega) (by omega)) (Finset.sum_congr rfl fun k _ => ?_)
      exact congrArg (term m c r j) (by show (n + 1) % 10 * 640 + k = _; omega)

/-- A finished row block: every entry is the whole contraction. -/
theorem full_at (c : Dev nD) (t : Fin cfg0.N) (ht : t.val % 10 = 9) (i : Fin 640) (j : Fin 1024) (r : Fin 8320)
    (hr : r.val = t.val / 10 * 640 + i.val) : (full m c t : S640x1024.Idx → EReal) (ix2 i j) = (kargs m c).dxn r j := by
  have hb : (before t).val = t.val - 1 := rfl
  unfold full
  rw [pay3_at, part_at m c t i j r hr _ _ rfl rfl, scratch_upto m c i j _ (before t).isLt r (by omega) (by omega), hb, ht,
    show (t.val - 1) % 10 = 8 by omega, ← Finset.sum_range_add]
  unfold Args.dxn
  show ∑ k ∈ Finset.range 6400, term m c r j k = _
  rw [Finset.sum_range]
  exact Finset.sum_congr rfl fun k _ => dif_pos k.isLt

/-- The row block the last point of its row writes. -/
theorem rows_at (c : Dev nD) (t : Fin cfg0.N) (ht : t.val % 10 = 9) (i : Fin 640) (j : Fin 1024) (r : Fin 8320)
    (hr : r.val = t.val / 10 * 640 + i.val) : ((outsAt0 m c t.val t.isLt).1 : S640x1024.Idx → EReal) (ix2 i j) = (kargs m c).dhid r j := by
  rw [(outs_last m c t ht).1]
  have hh : ∀ j, ((iblk m c 2 t : S640x1024.Idx → EReal) (ix2 i j) : EReal) = (kargs m c).hid r j := fun j => blk2 m c t i j r hr
  have hd := blk4 m c t i j r hr
  have hg := fun j => blk3 m c t j
  have hx := fun j => full_at m c t ht i j r hr
  generalize iblk m c 2 t = H at hh ⊢
  generalize iblk m c 4 t = D at hd ⊢
  generalize iblk m c 3 t = G at hg ⊢
  generalize full m c t = X at hx ⊢
  change S640x1024.Idx → EReal at H
  change S640x1024.Idx → EReal at D
  change S1x1024.Idx → EReal at G
  change S640x1024.Idx → EReal at X
  unfold k0_pay8
  pointwise
  rw [pay5_at m c H i r hh]
  simp only [pay6_at m c H i r hh, hd, hg, hx]
  rfl

/-- Row `n`'s part of the gain's gradient. -/
def gainPart (c : Dev nD) (j : Fin 1024) (n : ℕ) : EReal :=
  if h : n < 8320 then (kargs m c).dxn ⟨n, h⟩ j * (kargs m c).xhat ⟨n, h⟩ j else 0

/-- The part of the gain's gradient that row block `t / 10` adds. -/
theorem gain_step (c : Dev nD) (t : Fin cfg0.N) (ht : t.val % 10 = 9) (j : Fin 1024) :
    ((outsAt0 m c t.val t.isLt).2.1 : S1x1024.Idx → EReal) (ix2 0 j)
      = ((outsAt0 m c (before t).val (before t).isLt).2.1 : S1x1024.Idx → EReal) (ix2 0 j)
        + ∑ i ∈ Finset.range 640, gainPart m c j
            (t.val / 10 * 640 + i) := by
  have hN : t.val < 130 := lt_of_lt_of_eq t.isLt (show cfg0.N = 130 from N_0)
  rw [(outs_last m c t ht).2]
  have hh : ∀ (i : Fin 640) j, ((iblk m c 2 t : S640x1024.Idx → EReal) (ix2 i j) : EReal) = (kargs m c).hid ⟨t.val / 10 * 640 + i.val, by omega⟩ j :=
    fun i j => blk2 m c t i j _ rfl
  have hx := fun (i : Fin 640) j => full_at m c t ht i j ⟨t.val / 10 * 640 + i.val, by omega⟩ rfl
  generalize iblk m c 2 t = H at hh ⊢
  generalize full m c t = X at hx ⊢
  generalize (outsAt0 m c (before t).val (before t).isLt).2.1 = D
  change S640x1024.Idx → EReal at H
  change S640x1024.Idx → EReal at X
  change S1x1024.Idx → EReal at D
  unfold k0_pay7
  pointwise
  refine congrArg (D (ix2 0 j) + ·) ?_
  rw [Finset.sum_range]
  refine Finset.sum_congr rfl fun i _ => ?_
  unfold gainPart
  rw [dif_pos (show t.val / 10 * 640 + i.val < 8320 by omega), hx, pay6_at m c H i _ (hh i)]

/-- The gain's gradient after point `n`: the parts of the row blocks finished so far. -/
theorem gain_upto (c : Dev nD) (j : Fin 1024) : ∀ (n : ℕ) (hn : n < cfg0.N),
    ((outsAt0 m c n hn).2.1 : S1x1024.Idx → EReal) (ix2 0 j)
      = ∑ b ∈ Finset.range ((n + 1) / 10), ∑ i ∈ Finset.range 640,
          gainPart m c j (b * 640 + i) := by
  intro n
  induction n with
  | zero =>
    intro hn
    rw [gain_zero m c hn, pay2_at]
    rfl
  | succ n ih =>
    intro hn
    by_cases hb : (n + 1) % 10 = 9
    · refine (gain_step m c ⟨n + 1, hn⟩ hb j).trans ?_
      rw [show (n + 1 + 1) / 10 = (n + 1) / 10 + 1 by omega, Finset.sum_range_succ _ ((n + 1) / 10)]
      exact congrArg₂ (· + ·) (ih (Nat.lt_of_succ_lt hn)) rfl
    · refine (congrArg (fun v : S1x1024.Idx → EReal => v (ix2 0 j)) (gain_kept m c ⟨n + 1, hn⟩ hb (Nat.succ_ne_zero n))).trans ?_
      refine (ih (Nat.lt_of_succ_lt hn)).trans ?_
      rw [show (n + 1 + 1) / 10 = (n + 1) / 10 by omega]

/-! ## The arrays after the run -/

/-- The array of the rows' gradient. -/
def rowsArr (c : Dev nD) : Buf (Elt Ideal) ((c : Thread nD τ).loc main_v8_0) :=
  fun i : S8320x1024.Idx => (kargs m c).dhid (i 0) (i 1)

/-- The array of the gain's gradient. -/
def gainArr (c : Dev nD) : Buf (Elt Ideal) ((c : Thread nD τ).loc main_v8_1) :=
  fun i : S1x1024.Idx => (kargs m c).dgain (i 1)

theorem flushed5 (c : Dev nD) (t : Fin cfg0.N) (hf : (cfg0.win 5).flush t = true) :
    (dats m 0 c).flushed 5 t = ((cfg0.win 5).blk t).view.read (Elt Ideal) (rowsArr m c) := by
  show (cfg0.win 5).cut (grid0.coords t) ((dats m 0 c).after 5 t) = _
  rw [after0_5]
  have hm : t.val % 10 = 9 := (flush0_5 t).mp hf
  obtain ⟨e0, e1⟩ := idx5 t
  funext y
  have hb0 : (((cfg0.win 5).blk t).view.emb y 0).val = win0_5.index t (0 : Fin 2) * 640 + 1 * (y 0).val := rfl
  have hb1 : (((cfg0.win 5).blk t).view.emb y 1).val = win0_5.index t (1 : Fin 2) * 1024 + 1 * (y 1).val := rfl
  rw [View.read_apply]
  show ((outsAt0 m c t.val t.isLt).1 : S640x1024.Idx → EReal) ((cfg0.win 5).xinj (grid0.coords t) y) = (kargs m c).dhid _ _
  have hy : (cfg0.win 5).xinj (grid0.coords t) y = (ix2 ⟨(y 0).val, (y 0).isLt⟩ ⟨(y 1).val, (y 1).isLt⟩ : S640x1024.Idx) := by
    funext a
    match a with
    | ⟨0, _⟩ => rfl
    | ⟨1, _⟩ => rfl
  rw [hy, rows_at m c t hm _ _ (((cfg0.win 5).blk t).view.emb y 0) (by rw [hb0, e0]; show _ = _ + (y 0).val; omega)]
  refine congrArg _ (Fin.ext ?_)
  rw [hb1, e1]
  show (y 1).val = _
  omega

theorem mem5 (t : Fin cfg0.N) (i : S8320x1024.Idx) :
    i ∈ ((cfg0.win 5).blk t).view.set ↔ ∀ a : Fin 2, win0_5.index t a * S640x1024.size a ≤ (i a).val ∧ (i a).val < win0_5.index t a * S640x1024.size a + S640x1024.size a := by
  show i ∈ ((View.whole main_v8_0).slice (win0_5.rect t)).set ↔ _
  rw [View.set_slice_whole, Rect.mem_set_unit]
  exact Iff.rfl

theorem arr5 (c : Dev nD) : (dats m 0 c).arrAt 5 cfg0.N = rowsArr m c := by
  refine (dats m 0 c).arrAt_eq_of_cover 5 _ (fun t hf => flushed5 m c t hf) (fun i => ?_)
  have h0 : (i 0).val < 8320 := (i 0).isLt
  have h1 : (i 1).val < 1024 := (i 1).isLt
  have hlt : 10 * ((i 0).val / 640) + 9 < cfg0.N := lt_of_lt_of_eq (by omega) (show cfg0.N = 130 from N_0).symm
  obtain ⟨e0, e1⟩ := idx5 ⟨10 * ((i 0).val / 640) + 9, hlt⟩
  refine ⟨⟨10 * ((i 0).val / 640) + 9, hlt⟩, (flush0_5 _).mpr (by show (10 * ((i 0).val / 640) + 9) % 10 = 9; omega), ?_⟩
  rw [mem5]
  intro a
  match a with
  | ⟨0, _⟩ => show win0_5.index _ (0 : Fin 2) * 640 ≤ (i 0).val ∧ (i 0).val < win0_5.index _ (0 : Fin 2) * 640 + 640; rw [e0]; show (10 * ((i 0).val / 640) + 9) / 10 * 640 ≤ (i 0).val ∧ (i 0).val < (10 * ((i 0).val / 640) + 9) / 10 * 640 + 640; omega
  | ⟨1, _⟩ => show win0_5.index _ (1 : Fin 2) * 1024 ≤ (i 1).val ∧ (i 1).val < win0_5.index _ (1 : Fin 2) * 1024 + 1024; rw [e1]; omega

theorem gain_total (c : Dev nD) (t : Fin cfg0.N) (ht : t.val % 130 = 129) (j : Fin 1024) :
    ((outsAt0 m c t.val t.isLt).2.1 : S1x1024.Idx → EReal) (ix2 0 j) = (kargs m c).dgain j := by
  have hN : t.val < 130 := lt_of_lt_of_eq t.isLt (show cfg0.N = 130 from N_0)
  rw [gain_upto, show (t.val + 1) / 10 = 13 by omega, ← sum_blocks (gainPart m c j), Finset.sum_range]
  exact Finset.sum_congr rfl fun r _ => dif_pos r.isLt

theorem flushed6 (c : Dev nD) (t : Fin cfg0.N) (hf : (cfg0.win 6).flush t = true) :
    (dats m 0 c).flushed 6 t = ((cfg0.win 6).blk t).view.read (Elt Ideal) (gainArr m c) := by
  show (cfg0.win 6).cut (grid0.coords t) ((dats m 0 c).after 6 t) = _
  rw [after0_6]
  have hm : t.val % 130 = 129 := (flush0_6 t).mp hf
  obtain ⟨e0, e1⟩ := idx6 t
  funext y
  have hb1 : (((cfg0.win 6).blk t).view.emb y 1).val = win0_6.index t (1 : Fin 2) * 1024 + 1 * (y 1).val := rfl
  rw [View.read_apply]
  show ((outsAt0 m c t.val t.isLt).2.1 : S1x1024.Idx → EReal) ((cfg0.win 6).xinj (grid0.coords t) y) = (kargs m c).dgain _
  have hy : (cfg0.win 6).xinj (grid0.coords t) y = (ix2 0 ⟨(y 1).val, (y 1).isLt⟩ : S1x1024.Idx) := by
    funext a
    match a with
    | ⟨0, _⟩ => exact Fin.ext (Nat.lt_one_iff.mp (y 0).isLt)
    | ⟨1, _⟩ => rfl
  rw [hy, gain_total m c t hm]
  refine congrArg _ (Fin.ext ?_)
  rw [hb1, e1]
  show (y 1).val = _
  omega

theorem mem6 (t : Fin cfg0.N) (i : S1x1024.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v8_1).slice (win0_6.rect t)).set ↔ _
  rw [View.set_slice_whole, Rect.mem_set_unit]
  exact Iff.rfl

theorem arr6 (c : Dev nD) : (dats m 0 c).arrAt 6 cfg0.N = gainArr m c := by
  refine (dats m 0 c).arrAt_eq_of_cover 6 _ (fun t hf => flushed6 m c t hf) (fun i => ?_)
  have h0 : (i 0).val < 1 := (i 0).isLt
  have h1 : (i 1).val < 1024 := (i 1).isLt
  have hlt : 129 < cfg0.N := lt_of_lt_of_eq (by omega) (show cfg0.N = 130 from N_0).symm
  obtain ⟨e0, e1⟩ := idx6 ⟨129, hlt⟩
  refine ⟨⟨129, hlt⟩, (flush0_6 _).mpr (by show 129 % 130 = 129; omega), ?_⟩
  rw [mem6]
  intro a
  match a with
  | ⟨0, _⟩ => show win0_6.index _ (0 : Fin 2) * 1 ≤ (i 0).val ∧ (i 0).val < win0_6.index _ (0 : Fin 2) * 1 + 1; rw [e0]; omega
  | ⟨1, _⟩ => show win0_6.index _ (1 : Fin 2) * 1024 ≤ (i 1).val ∧ (i 1).val < win0_6.index _ (1 : Fin 2) * 1024 + 1024; rw [e1]; omega

end Cert.InProj

end
-- ==== Proof.Sums.lean ====
/-
  Sums over two axes of which both have one element.
-/
module

public import proofs.«01_k».proof.Proof.Reals
public import Idealize.ShloMosaic.Lib.Pointwise.Tactic
public import Idealize.ShloMosaic.Lib.Pointwise

@[expose] public section

set_option maxRecDepth 16384

noncomputable section

namespace Cert.Reals

open Idealize.ShloMosaic Idealize.ShloMosaic.TcCoe

/-- A sum over two axes of which both have one element. -/
theorem reduce_d02 (h : (⟨3, ![1, 8320, 1]⟩ : Shape).ReducesTo [0, 2] ⟨1, ![8320]⟩) (v : (⟨3, ![1, 8320, 1]⟩ : Shape).Idx → EReal)
    (init : EReal) (r : Fin 8320) : Ideal.hostReduceAdd h v init (ix1 r) = init + v (ix3 0 r 0) := by
  refine congrArg (init + ·) ((Finset.sum_filter_eq_sum_of_fiber _ (fun _ : Fin 1 => (ix3 0 r 0 : (⟨3, ![1, 8320, 1]⟩ : Shape).Idx))
    (fun a b _ => Subsingleton.elim a b) (fun i => ?_) v).trans (by simp))
  constructor
  · intro e
    refine ⟨0, funext fun a => Fin.ext ?_⟩
    match a with
    | ⟨0, _⟩ => exact (Nat.lt_one_iff.mp (i 0).isLt).symm
    | ⟨1, _⟩ => exact (congrArg Fin.val (congrFun e 0)).symm
    | ⟨2, _⟩ => exact (Nat.lt_one_iff.mp (i 2).isLt).symm
  · rintro ⟨_, rfl⟩
    funext b
    match b with
    | ⟨0, _⟩ => rfl

theorem reduce_d01 (h : (⟨3, ![1, 1, 1024]⟩ : Shape).ReducesTo [0, 1] ⟨1, ![1024]⟩) (v : (⟨3, ![1, 1, 1024]⟩ : Shape).Idx → EReal)
    (init : EReal) (r : Fin 1024) : Ideal.hostReduceAdd h v init (ix1 r) = init + v (ix3 0 0 r) := by
  refine congrArg (init + ·) ((Finset.sum_filter_eq_sum_of_fiber _ (fun _ : Fin 1 => (ix3 0 0 r : (⟨3, ![1, 1, 1024]⟩ : Shape).Idx))
    (fun a b _ => Subsingleton.elim a b) (fun i => ?_) v).trans (by simp))
  constructor
  · intro e
    refine ⟨0, funext fun a => Fin.ext ?_⟩
    match a with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
  · rintro ⟨_, rfl⟩
    funext b
    match b with
    | ⟨0, _⟩ => rfl

end Cert.Reals

end
-- ==== Proof.InProjRef.lean ====
/-
  The reference of the input projection's backward pass, read at an index.
-/
module

public import proofs.«01_k».proof.Proof.InProjForm
public import proofs.«01_k».proof.Proof.Sums
public import proofs.«01_k».proof.Proof.Gen.Reference2Ideal.Read

@[expose] public section

set_option maxRecDepth 16384

noncomputable section

namespace Cert.InProj

open Idealize.ShloMosaic Idealize.ShloMosaic.TcCoe Cert.Reference2Ideal Cert.Reference2Ideal.Read Cert.Reals

variable (x0 : S1x8192x1024.Idx → EReal) (x1 : S16x1024.Idx → EReal) (x2 : S1x1024.Idx → EReal) (x3 : S1x1024x6400.Idx → EReal)
  (x4 : S1x8320x6400.Idx → EReal) (x5 : S1x8320x1024.Idx → EReal)

theorem ref_hid (r : Fin 8320) (j : Fin 1024) :
    val_main_v2 (F := Ideal) x0 x1 (ix3 0 r j) = (args x0 x1 x2 x3 x4 x5).hid r j := by
  unfold val_main_v2 val_main_v1 val_main_v0 val_main_cst
  pointwise
  rfl

theorem ref_var (r : Fin 8320) : val_main_v11 (F := Ideal) x0 x1 (ix3 0 r 0) = (args x0 x1 x2 x3 x4 x5).var r := by
  unfold val_main_v11 val_main_v10 val_main_v9 val_main_v8 val_main_v7 val_main_v6 val_main_v5 val_main_cst_1 val_main_cst_2 val_main_cst_3
  pointwise
  simp only [ref_hid x0 x1 x2 x3 x4 x5]
  rfl

theorem ref_rstd (r : Fin 8320) : val_main_v12 (F := Ideal) x0 x1 (ix3 0 r 0) = (args x0 x1 x2 x3 x4 x5).rstd r :=
  congrArg Ideal.rsqrt (ref_var x0 x1 x2 x3 x4 x5 r)

theorem ref_dxn (r : Fin 8320) (j : Fin 1024) :
    val_main_v23 (F := Ideal) x3 x4 (ix3 0 r j) = (args x0 x1 x2 x3 x4 x5).dxn r j := by
  rw [val_main_v23_apply]
  refine Finset.sum_congr rfl fun k _ => ?_
  have e1 : lidx_main_v23 (ix3 0 r j) k = ix3 0 r k := by
    funext a; match a with
    | ⟨0, _⟩ => rfl
    | ⟨1, _⟩ => rfl
    | ⟨2, _⟩ => rfl
  have e2 : ridx_main_v23 (ix3 0 r j) k = ix2 j k := by
    funext a; match a with
    | ⟨0, _⟩ => rfl
    | ⟨1, _⟩ => rfl
  rw [e1, e2]
  unfold val_main_v21
  pointwise
  rfl

theorem ref_gain (j : Fin 1024) : val_main_v4 (F := Ideal) x2 (ix1 j) = (args x0 x1 x2 x3 x4 x5).gain j := by
  unfold val_main_v4
  pointwise
  rfl

theorem ref_dsq (r : Fin 8320) : val_main_v39 (F := Ideal) x0 x1 x2 x3 x4 (ix1 r) = (args x0 x1 x2 x3 x4 x5).dsq r := by
  unfold val_main_v39
  pointwise
  rw [reduce_d02]
  unfold val_main_v38 val_main_v37 val_main_v36 val_main_v32 val_main_v31 val_main_v30 val_main_v28 val_main_v27
    val_main_v15 val_main_v14 val_main_v13 val_main_v18 val_main_cst_9 val_main_cst_8 val_main_cst_7
  pointwise
  simp only [ref_hid x0 x1 x2 x3 x4 x5, ref_dxn x0 x1 x2 x3 x4 x5, ref_rstd x0 x1 x2 x3 x4 x5, ref_var x0 x1 x2 x3 x4 x5,
    ref_gain x0 x1 x2 x3 x4 x5]
  rfl

theorem ref_dhid (r : Fin 8320) (j : Fin 1024) :
    val_main_v45 (F := Ideal) x0 x1 x2 x3 x4 x5 (ix3 0 r j) = (args x0 x1 x2 x3 x4 x5).dh1 r j
      + (args x0 x1 x2 x3 x4 x5).dxn r j * (args x0 x1 x2 x3 x4 x5).gain j * (args x0 x1 x2 x3 x4 x5).rstd r
      + (args x0 x1 x2 x3 x4 x5).hid r j * (args x0 x1 x2 x3 x4 x5).dsq r
      + (args x0 x1 x2 x3 x4 x5).dsq r * (args x0 x1 x2 x3 x4 x5).hid r j := by
  unfold val_main_v45 val_main_v44 val_main_v43 val_main_v42 val_main_v41 val_main_v40 val_main_v35 val_main_v34 val_main_v33 val_main_v28
    val_main_v27 val_main_v18
  pointwise
  simp only [ref_hid x0 x1 x2 x3 x4 x5, ref_dxn x0 x1 x2 x3 x4 x5, ref_rstd x0 x1 x2 x3 x4 x5, ref_dsq x0 x1 x2 x3 x4 x5,
    ref_gain x0 x1 x2 x3 x4 x5]
  rfl

theorem ref_dgain (j : Fin 1024) :
    val_main_v46 (F := Ideal) x0 x1 x3 x4 (ix2 0 j) = (args x0 x1 x2 x3 x4 x5).dgain j := by
  unfold val_main_v46 val_main_v29 val_main_v26 val_main_v25 val_main_v24 val_main_v17 val_main_v16
  pointwise
  rw [reduce_d01]
  pointwise
  unfold val_main_cst_5 val_main_cst_6
  generalize hz : constant (F := Ideal) S_ .f32 0x00000000#32 (Shape.Idx.first Gen.h_S_) = z
  obtain rfl : z = (0 : EReal) := by rw [← hz]; pointwise
  refine (zero_add (M := EReal) _).trans ((zero_add (M := EReal) _).trans ?_)
  simp only [ref_hid x0 x1 x2 x3 x4 x5, ref_dxn x0 x1 x2 x3 x4 x5, ref_rstd x0 x1 x2 x3 x4 x5]
  exact Finset.sum_congr rfl fun r _ => mul_comm _ _

theorem ref_rows (r : Fin 8192) (j : Fin 1024) (r' : Fin 8320) (hr : r'.val = 128 + r.val) :
    val_main_v49 (F := Ideal) x0 x1 x2 x3 x4 x5 (ix3 0 r j) = val_main_v45 (F := Ideal) x0 x1 x2 x3 x4 x5 (ix3 0 r' j) := by
  unfold val_main_v49
  pointwise
  exact congrArg (fun q => val_main_v45 (F := Ideal) x0 x1 x2 x3 x4 x5 (ix3 0 q j)) (Fin.ext (by simp [hr]))

theorem ref_tok (r : Fin 16) (j : Fin 1024) (r' : Fin 8320) (hr : r'.val = 112 + r.val) :
    val_main_v50 (F := Ideal) x0 x1 x2 x3 x4 x5 (ix2 r j) = val_main_v45 (F := Ideal) x0 x1 x2 x3 x4 x5 (ix3 0 r' j) := by
  unfold val_main_v50 val_main_v48 val_main_cst_10
  pointwise
  refine (Fintype.sum_unique _).trans ?_
  exact congrArg (fun q => val_main_v45 (F := Ideal) x0 x1 x2 x3 x4 x5 (ix3 0 q j)) (Fin.ext (by simp [hr]))

end Cert.InProj

end
-- ==== Proof.InProjRun.lean ====
/-
  The input projection's backward pass: the run of the kernel and the run of the reference end with the same results.
-/
module

public import proofs.«01_k».proof.Proof.InProjValue
public import proofs.«01_k».proof.Proof.InProjRef
public import proofs.«01_k».proof.Proof.Gen.Reference2Ideal.Run
public import proofs.«01_k».proof.Proof.Gen.Pre_finite_in
public import proofs.«01_k».proof.Defs
public import Idealize.ShloMosaic.Lib.Pipeline.Value

@[expose] public section

set_option maxRecDepth 16384

noncomputable section

namespace Cert.InProj

open Idealize.ShloMosaic Idealize.ShloMosaic.TcCoe Idealize.SL.Sem Cert.Kernel2Ideal Cert.Kernel2Ideal.Gen

variable (m : (ℓ : Loc nD τ sig) → Buf (Elt Ideal) ℓ) (ρ : Dev nD → PrngReg)

/-- The gradient of the tokens: the rows past the padding and the meta tokens. -/
def xRes (c : Dev nD) : Buf (Elt Ideal) ((c : Thread nD τ).loc main_v10) :=
  broadcastInDim S1x8192x1024 ![1, 2] bcast_S8192x1024_S1x8192x1024_1_2
    (extractStridedSlice S8192x1024 ![128, 0] (rowsArr m c : FVec Ideal S8320x1024 .f32) slices_S8320x1024_S8192x1024_128_0)

/-- The gradient of the meta tokens: the sixteen rows before them. -/
def tokRes (c : Dev nD) : Buf (Elt Ideal) ((c : Thread nD τ).loc main_v11) :=
  extractStridedSlice S16x1024 ![112, 0] (rowsArr m c : FVec Ideal S8320x1024 .f32) slices_S8320x1024_S16x1024_112_0

/-- No two windows stage the same array. -/
theorem windows_apart : Function.Injective (Pipeline.arrRef spec0) := by decide

theorem tail_v10 (c : Dev nD) : Pipeline.afterTail₀ cfgs (dats m) 0 (V0 m) [hostOps1] c main_v10 = xRes m c := by
  unfold Pipeline.afterTail₀ xRes
  simp only [List.flatten_cons, List.flatten_nil, List.append_nil, hostOps1]
  after_results_simp
  rw [← arr5]
  exact congrArg (fun v : FVec Ideal S8320x1024 .f32 => broadcastInDim S1x8192x1024 ![1, 2] bcast_S8192x1024_S1x8192x1024_1_2
    (extractStridedSlice S8192x1024 ![128, 0] v slices_S8320x1024_S8192x1024_128_0))
    (Pipeline.withArrays_arr spec0 windows_apart c (V0 m c) _ 5)

theorem tail_v11 (c : Dev nD) : Pipeline.afterTail₀ cfgs (dats m) 0 (V0 m) [hostOps1] c main_v11 = tokRes m c := by
  unfold Pipeline.afterTail₀ tokRes
  simp only [List.flatten_cons, List.flatten_nil, List.append_nil, hostOps1]
  after_results_simp
  rw [← arr5]
  exact congrArg (fun v : FVec Ideal S8320x1024 .f32 => extractStridedSlice S16x1024 ![112, 0] v slices_S8320x1024_S16x1024_112_0)
    (Pipeline.withArrays_arr spec0 windows_apart c (V0 m c) _ 5)

theorem run_kernel : θ_run defs (onTc (τ := τ) (main (F := Ideal))) ⟨m, fun _ => 0, ρ⟩ fun r => ∀ c : Dev nD,
      r.2.mem ((c.tc : Thread nD τ).loc main_v10) = xRes m c
      ∧ r.2.mem ((c.tc : Thread nD τ).loc main_v11) = tokRes m c
      ∧ r.2.mem ((c.tc : Thread nD τ).loc main_v8_1) = gainArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).2 main_v10 (Pipeline.mem_restRefs_of main_v10 (by decide) (by decide))).trans (tail_v10 m c),
      ((h c).2 main_v11 (Pipeline.mem_restRefs_of main_v11 (by decide) (by decide))).trans (tail_v11 m c),
      ((h c).1 6).trans (arr6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-! ## The two programs' results by coordinates -/

theorem xRes_at (c : Dev nD) (r : Fin 8192) (j : Fin 1024) :
    (xRes m c : S1x8192x1024.Idx → EReal) (ix3 0 r j) = (kargs m c).dhid ⟨128 + r.val, by omega⟩ j := by
  unfold xRes
  pointwise
  rfl

theorem tokRes_at (c : Dev nD) (r : Fin 16) (j : Fin 1024) :
    (tokRes m c : S16x1024.Idx → EReal) (ix2 r j) = (kargs m c).dhid ⟨112 + r.val, by omega⟩ j := by
  unfold tokRes
  pointwise
  rfl

/-! ## The equation -/

section
variable (m' : (ℓ : Loc Cert.Reference2Ideal.nD Cert.Reference2Ideal.τ Cert.Reference2Ideal.sig) → Buf (Elt Ideal) ℓ)

/-- The precondition's five components say that the entries are real numbers. -/
theorem kargs_real (h : Cert.Pre_Kernel2Ideal_finite_in (hPre_finite_in := Cert.Pre_finite_in.Gen.facts) m) (c : Dev nD) : (kargs m c).Real := by
  obtain ⟨h0, h1, h2, h3, h4⟩ := h c
  exact ⟨fun r j => Reals.real_of_finite _ _ h0 _, fun r j => Reals.real_of_finite _ _ h1 _, fun j => Reals.real_of_finite _ _ h2 _,
    fun j k => Reals.real_of_finite _ _ h3 _, fun r k => Reals.real_of_finite _ _ h4 _⟩

theorem algebraic_in : Cert.algebraic_Kernel2Ideal_Reference2Ideal_pre_finite_in (hKernel2Ideal := Cert.Kernel2Ideal.Gen.facts)
    (hReference2Ideal := Cert.Reference2Ideal.Gen.facts) (hPre_finite_in := Cert.Pre_finite_in.Gen.facts) := by
  intro m g m' g' hpre hagree
  refine ⟨xRes m, tokRes m, gainArr m, run_kernel m g, (θ_run _ _ _).mono (fun r h c => ?_) (Cert.Reference2Ideal.Value.run m' g')⟩
  obtain ⟨a0, a1, a2, a3, a4, a5⟩ := hagree c
  have hA := kargs_real m hpre c
  have hd : ∀ r j, Cert.Reference2Ideal.Read.val_main_v45 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (ix3 0 r j) = (kargs m c).dhid r j :=
    fun r j => (ref_dhid _ _ _ _ _ _ r j).trans (Args.dhid_eq hA r j).symm
  refine ⟨(h c).1.trans ?_, (h c).2.1.trans ?_, (h c).2.2.1.trans ?_, (h c).2.2.2⟩
  all_goals clear h
  · rw [Cert.Reference2Ideal.Read.val_main_v49_eq, a0, a1, a2, a3, a4, a5]
    funext (i : S1x8192x1024.Idx)
    have hi : i = ix3 0 (i 1) (i 2) := by
      funext a; match a with
      | ⟨0, _⟩ => exact Fin.ext (Nat.lt_one_iff.mp (i 0).isLt)
      | ⟨1, _⟩ => rfl
      | ⟨2, _⟩ => rfl
    rw [hi]
    exact (ref_rows _ _ _ _ _ _ _ _ ⟨128 + (i 1).val, by have : (i 1).val < 8192 := (i 1).isLt; omega⟩ rfl).trans
      ((hd _ _).trans (xRes_at m c (i 1) (i 2)).symm)
  · rw [Cert.Reference2Ideal.Read.val_main_v50_eq, a0, a1, a2, a3, a4, a5]
    funext (i : S16x1024.Idx)
    have hi : i = ix2 (i 0) (i 1) := by
      funext a; match a with
      | ⟨0, _⟩ => rfl
      | ⟨1, _⟩ => rfl
    rw [hi]
    exact (ref_tok _ _ _ _ _ _ _ _ ⟨112 + (i 0).val, by have : (i 0).val < 16 := (i 0).isLt; omega⟩ rfl).trans
      ((hd _ _).trans (tokRes_at m c (i 0) (i 1)).symm)
  · refine (Cert.Reference2Ideal.Read.val_main_v46_eq _ _ _ _).trans ?_
    rw [a0, a1, a3, a4]
    funext (i : S1x1024.Idx)
    have hi : i = ix2 0 (i 1) := by
      funext a; match a with
      | ⟨0, _⟩ => exact Fin.ext (Nat.lt_one_iff.mp (i 0).isLt)
      | ⟨1, _⟩ => rfl
    rw [hi]
    exact ref_dgain _ _ (m ((c.tc : Thread nD τ).loc main_arg2)) _ _ (m ((c.tc : Thread nD τ).loc main_arg5)) _

end

end Cert.InProj

end
-- ==== Proof.TailCases.lean ====
/-
  What one grid point of the tail's kernel leaves in the buffers it writes, as the printed payloads of its stores over
  the blocks it reads.
-/
module

public import proofs.«01_k».proof.Proof.Gen.Kernel4Ideal.Frame
public import Idealize.ShloMosaic.Lib.Pipeline.Value

@[expose] public section

set_option maxRecDepth 16384
set_option maxHeartbeats 4000000

noncomputable section

namespace Cert.Tail

open Idealize.ShloMosaic Idealize.ShloMosaic.TcCoe Idealize.SL.Sem
open Cert.Kernel4Ideal Cert.Kernel4Ideal.Gen

variable {F : FTy → Type} [FloatOps F]

theorem zeroOff : (![0, 0] : Fin 2 → Nat) = fun _ => 0 := funext fun a => by fin_cases a <;> rfl

section
variable (g : BitVec 32) (x0 : Vec F S208x1024 .f32) (x1 : Vec F S208x1024 .f32) (x2 : Vec F S208x512 .f32) (x3 : Vec F S208x1024 .f32)
  (x4 : Vec F S208x3584 .f32) (x5 : Vec F S512x1024 .bf16) (x6 : Vec F S1024x1024 .bf16) (x7 : Vec F S1024x1024 .bf16)
  (x8 : Vec F S1x1024 .f32) (xo19 : Vec F S1x1024 .f32) (xo20 : Vec F S8x128 .f32)

/-- The gates' block, by its four groups of columns. -/
def gate0 : Vec F S208x512 .f32 := View.ld x4 (Rect.unit ![0, 0] ![208, 512] inb_S208x3584_S208x512_0_0)
def gate1 : Vec F S208x1024 .f32 := View.ld x4 (Rect.unit ![0, 512] ![208, 1024] inb_S208x3584_S208x1024_0_512)
def gate2 : Vec F S208x1024 .f32 := View.ld x4 (Rect.unit ![0, 1536] ![208, 1024] inb_S208x3584_S208x1024_0_1536)
def gate3 : Vec F S208x1024 .f32 := View.ld x4 (Rect.unit ![0, 2560] ![208, 1024] inb_S208x3584_S208x1024_0_2560)

/-- The merged rows. -/
def mergedB : FVec F S208x1024 .bf16 := k0_pay18 (gate0 x4) (gate1 x4) (gate2 x4) (gate3 x4) x2 x3 x5 x6

/-- The rows' reciprocal roots, the normalised rows and the rows' errors. -/
def rstdB : FVec F S208x1 .f32 := k0_pay20 (mergedB x2 x3 x4 x5 x6) x0 x7
def hhatB : FVec F S208x1024 .f32 := k0_pay21 (mergedB x2 x3 x4 x5 x6) x0 x7
def errB : FVec F S208x1024 .f32 := k0_pay23 g (mergedB x2 x3 x4 x5 x6) x0 x7 x8 x1

/-- The gradient at the residual's sum, at the merged rows, and at the two branches. -/
def dh1B : FVec F S208x1024 .f32 :=
  k0_pay30 (rstdB x0 x2 x3 x4 x5 x6 x7) (hhatB x0 x2 x3 x4 x5 x6 x7) (k0_pay22 x8) (errB g x0 x1 x2 x3 x4 x5 x6 x7 x8)
def dh1bB : FVec F S208x1024 .bf16 :=
  k0_pay31 (rstdB x0 x2 x3 x4 x5 x6 x7) (hhatB x0 x2 x3 x4 x5 x6 x7) (k0_pay22 x8) (errB g x0 x1 x2 x3 x4 x5 x6 x7 x8)
def dmB : FVec F S208x1024 .f32 :=
  k0_pay32 (rstdB x0 x2 x3 x4 x5 x6 x7) (hhatB x0 x2 x3 x4 x5 x6 x7) (k0_pay22 x8) (errB g x0 x1 x2 x3 x4 x5 x6 x7 x8) x7
def dysbB : FVec F S208x1024 .bf16 :=
  k0_pay33 (k0_pay6 (gate2 x4)) (rstdB x0 x2 x3 x4 x5 x6 x7) (hhatB x0 x2 x3 x4 x5 x6 x7) (k0_pay22 x8) (errB g x0 x1 x2 x3 x4 x5 x6 x7 x8) x7
def dyswB : FVec F S208x1024 .bf16 :=
  k0_pay34 (k0_pay7 (gate3 x4)) (rstdB x0 x2 x3 x4 x5 x6 x7) (hhatB x0 x2 x3 x4 x5 x6 x7) (k0_pay22 x8) (errB g x0 x1 x2 x3 x4 x5 x6 x7 x8) x7

/-- The gradients of the two branches' outputs. -/
def dosbB : FVec F S208x512 .f32 := k0_pay38 (k0_pay10 (gate0 x4)) (dysbB g x0 x1 x2 x3 x4 x5 x6 x7 x8) (k0_pay35 x5)
def doswB : FVec F S208x1024 .f32 := k0_pay39 (k0_pay11 (gate1 x4)) (dyswB g x0 x1 x2 x3 x4 x5 x6 x7 x8) x6

/-- The four groups of columns of the gates' gradient. -/
def dgate0 : FVec F S208x512 .f32 :=
  k0_pay40 (k0_pay4 (gate0 x4)) (k0_pay8 (gate0 x4)) (k0_pay12 x2) (dysbB g x0 x1 x2 x3 x4 x5 x6 x7 x8) (k0_pay35 x5)
def dgate1 : FVec F S208x1024 .f32 :=
  k0_pay41 (k0_pay5 (gate1 x4)) (k0_pay9 (gate1 x4)) (k0_pay13 x3) (dyswB g x0 x1 x2 x3 x4 x5 x6 x7 x8) x6
def dgate2 : FVec F S208x1024 .f32 :=
  k0_pay42 (k0_pay6 (gate2 x4)) (k0_pay16 (gate0 x4) x2 x5) (dmB g x0 x1 x2 x3 x4 x5 x6 x7 x8)
def dgate3 : FVec F S208x1024 .f32 :=
  k0_pay1 (k0_pay7 (gate3 x4)) (k0_pay43 (k0_pay17 (gate1 x4) x3 x6) (dmB g x0 x1 x2 x3 x4 x5 x6 x7 x8)) (k0_pay44 (k0_pay7 (gate3 x4)))

/-- The block of the gates' gradient, stored by groups of columns. -/
def dgB : Vec F S208x3584 .f32 := View.canon (Val := Elt F)
  [⟨Rect.unit ![0, 2560] ![208, 1024] inb_S208x3584_S208x1024_0_2560, dgate3 g x0 x1 x2 x3 x4 x5 x6 x7 x8⟩,
   ⟨Rect.unit ![0, 1536] ![208, 1024] inb_S208x3584_S208x1024_0_1536, dgate2 g x0 x1 x2 x3 x4 x5 x6 x7 x8⟩,
   ⟨Rect.unit ![0, 512] ![208, 1024] inb_S208x3584_S208x1024_0_512, dgate1 g x0 x1 x2 x3 x4 x5 x6 x7 x8⟩,
   ⟨Rect.unit ![0, 0] ![208, 512] inb_S208x3584_S208x512_0_0, dgate0 g x0 x1 x2 x3 x4 x5 x6 x7 x8⟩]

/-- The gain's gradient and the loss, with this block's part added. -/
def dgfB : FVec F S1x1024 .f32 := k0_pay29 (hhatB x0 x2 x3 x4 x5 x6 x7) (errB g x0 x1 x2 x3 x4 x5 x6 x7 x8) xo19
def lossB : FVec F S8x128 .f32 := k0_pay27 k0_pay24 (k0_pay25 xo20) (k0_pay26 g (mergedB x2 x3 x4 x5 x6) x0 x7 x8 x1)

end

section
variable (c : Dev nD) (i : grid0.Coords)
  (a1 : Memref sig .tc .vmem S208x1024 .f32) (h1 : a1.IsWhole) (a2 : Memref sig .tc .vmem S208x1024 .f32) (h2 : a2.IsWhole)
  (a3 : Memref sig .tc .vmem S208x512 .f32) (h3 : a3.IsWhole) (a4 : Memref sig .tc .vmem S208x1024 .f32) (h4 : a4.IsWhole)
  (a5 : Memref sig .tc .vmem S208x3584 .f32) (h5 : a5.IsWhole) (a6 : Memref sig .tc .vmem S512x1024 .bf16) (h6 : a6.IsWhole)
  (a7 : Memref sig .tc .vmem S1024x1024 .bf16) (h7 : a7.IsWhole) (a8 : Memref sig .tc .vmem S1024x1024 .bf16) (h8 : a8.IsWhole)
  (a9 : Memref sig .tc .vmem S1x1024 .f32) (h9 : a9.IsWhole) (a10 : Memref sig .tc .vmem S208x512 .f32) (h10 : a10.IsWhole)
  (a11 : Memref sig .tc .vmem S208x1024 .f32) (h11 : a11.IsWhole) (a12 : Memref sig .tc .vmem S208x3584 .f32) (h12 : a12.IsWhole)
  (a13 : Memref sig .tc .vmem S208x1024 .f32) (h13 : a13.IsWhole) (a14 : Memref sig .tc .vmem S208x1024 .bf16) (h14 : a14.IsWhole)
  (a15 : Memref sig .tc .vmem S208x512 .bf16) (h15 : a15.IsWhole) (a16 : Memref sig .tc .vmem S208x1024 .bf16) (h16 : a16.IsWhole)
  (a17 : Memref sig .tc .vmem S208x1024 .bf16) (h17 : a17.IsWhole) (a18 : Memref sig .tc .vmem S208x1024 .bf16) (h18 : a18.IsWhole)
  (a19 : Memref sig .tc .vmem S208x1024 .bf16) (h19 : a19.IsWhole) (a20 : Memref sig .tc .vmem S1x1024 .f32) (h20 : a20.IsWhole)
  (a21 : Memref sig .tc .vmem S8x128 .f32) (h21 : a21.IsWhole)
  (x0 : Vec F S208x1024 .f32) (x1 : Vec F S208x1024 .f32) (x2 : Vec F S208x512 .f32) (x3 : Vec F S208x1024 .f32)
  (x4 : Vec F S208x3584 .f32) (x5 : Vec F S512x1024 .bf16) (x6 : Vec F S1024x1024 .bf16) (x7 : Vec F S1024x1024 .bf16)
  (x8 : Vec F S1x1024 .f32) (xo19 : Vec F S1x1024 .f32) (xo20 : Vec F S8x128 .f32)

/-- What the first point leaves in its twelve outputs. -/
theorem outs_first (hc0 : cond0_0 i) :
    out0_A_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = dosbB (BitVec.ofNat 32 (i 0).val) x0 x1 x2 x3 x4 x5 x6 x7 x8
    ∧ out0_A_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = doswB (BitVec.ofNat 32 (i 0).val) x0 x1 x2 x3 x4 x5 x6 x7 x8
    ∧ out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = dgB (BitVec.ofNat 32 (i 0).val) x0 x1 x2 x3 x4 x5 x6 x7 x8
    ∧ out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = dh1B (BitVec.ofNat 32 (i 0).val) x0 x1 x2 x3 x4 x5 x6 x7 x8
    ∧ out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = mergedB x2 x3 x4 x5 x6
    ∧ out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = k0_pay14 (gate0 x4) x2
    ∧ out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = k0_pay15 (gate1 x4) x3
    ∧ out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = dh1bB (BitVec.ofNat 32 (i 0).val) x0 x1 x2 x3 x4 x5 x6 x7 x8
    ∧ out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = dysbB (BitVec.ofNat 32 (i 0).val) x0 x1 x2 x3 x4 x5 x6 x7 x8
    ∧ out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = dyswB (BitVec.ofNat 32 (i 0).val) x0 x1 x2 x3 x4 x5 x6 x7 x8
    ∧ out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = dgfB (BitVec.ofNat 32 (i 0).val) x0 x1 x2 x3 x4 x5 x6 x7 x8 k0_pay2
    ∧ out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 = lossB (BitVec.ofNat 32 (i 0).val) x0 x1 x2 x3 x4 x5 x6 x7 x8 k0_pay3 := by
  refine ⟨?_, ?_, ?_, ?_, ?_, ?_, ?_, ?_, ?_, ?_, ?_, ?_⟩
  unfold out0_A_9
  rw [View.read_writes_eq_canon _ _ _ (fun _ => cover0_A_9 ..)]
  rotate_left 1
  unfold out0_A_10
  rw [View.read_writes_eq_canon _ _ _ (fun _ => cover0_A_10 ..)]
  rotate_left 1
  unfold out0_A_11
  rw [View.read_writes_eq_canon _ _ _ (fun _ => cover0_A_11 ..)]
  rotate_left 1
  unfold out0_A_12
  rw [View.read_writes_eq_canon _ _ _ (fun _ => cover0_A_12 ..)]
  rotate_left 1
  unfold out0_A_13
  rw [View.read_writes_eq_canon _ _ _ (fun _ => cover0_A_13 ..)]
  rotate_left 1
  unfold out0_A_14
  rw [View.read_writes_eq_canon _ _ _ (fun _ => cover0_A_14 ..)]
  rotate_left 1
  unfold out0_A_15
  rw [View.read_writes_eq_canon _ _ _ (fun _ => cover0_A_15 ..)]
  rotate_left 1
  unfold out0_A_16
  rw [View.read_writes_eq_canon _ _ _ (fun _ => cover0_A_16 ..)]
  rotate_left 1
  unfold out0_A_17
  rw [View.read_writes_eq_canon _ _ _ (fun _ => cover0_A_17 ..)]
  rotate_left 1
  unfold out0_A_18
  rw [View.read_writes_eq_canon _ _ _ (fun _ => cover0_A_18 ..)]
  rotate_left 1
  unfold out0_A_19
  rw [View.read_writes_eq_canon _ _ _ (fun _ => cover0_A_19 ..)]
  rotate_left 1
  unfold out0_A_20
  rw [View.read_writes_eq_canon _ _ _ (fun _ => cover0_A_20 ..)]
  rotate_left 1
  all_goals
    unfold kernelRun0_A
    dsimp only
    sl_unfold_words
  rotate_right 2
  · rw [View.canon_cons_unit_zero (S := S1x1024) zeroOff, View.readCov_unit_zero (S := S1x1024) _ zeroOff]
    simp only [View.readAt_eq_ld, h1.read_unread, h2.read_unread, h3.read_unread, h4.read_unread, h5.read_unread, h6.read_unread,
      h7.read_unread, h8.read_unread, h9.read_unread, h20.read_unread, h21.read_unread, View.ld_unit_zero (S := S208x1024) zeroOff,
      View.ld_unit_zero (S := S208x512) zeroOff, View.ld_unit_zero (S := S512x1024) zeroOff,
      View.ld_unit_zero (S := S1024x1024) zeroOff, View.ld_unit_zero (S := S1x1024) zeroOff, View.ld_unit_zero (S := S8x128) zeroOff]
    rfl
  · rw [View.canon_cons_unit_zero (S := S8x128) zeroOff, View.readCov_unit_zero (S := S8x128) _ zeroOff]
    simp only [View.readAt_eq_ld, h1.read_unread, h2.read_unread, h3.read_unread, h4.read_unread, h5.read_unread, h6.read_unread,
      h7.read_unread, h8.read_unread, h9.read_unread, h20.read_unread, h21.read_unread, View.ld_unit_zero (S := S208x1024) zeroOff,
      View.ld_unit_zero (S := S208x512) zeroOff, View.ld_unit_zero (S := S512x1024) zeroOff,
      View.ld_unit_zero (S := S1024x1024) zeroOff, View.ld_unit_zero (S := S1x1024) zeroOff, View.ld_unit_zero (S := S8x128) zeroOff]
    rfl
  all_goals try rw [View.canon_unit_zero zeroOff]
  all_goals
    simp only [View.readAt_eq_ld, h1.read_unread, h2.read_unread, h3.read_unread, h4.read_unread, h5.read_unread, h6.read_unread,
      h7.read_unread, h8.read_unread, h9.read_unread, h20.read_unread, h21.read_unread, View.ld_unit_zero (S := S208x1024) zeroOff,
      View.ld_unit_zero (S := S208x512) zeroOff, View.ld_unit_zero (S := S512x1024) zeroOff,
      View.ld_unit_zero (S := S1024x1024) zeroOff, View.ld_unit_zero (S := S1x1024) zeroOff, View.ld_unit_zero (S := S8x128) zeroOff]
    rfl
/-- What every later point leaves in its twelve outputs. -/
theorem outs_later (hc0 : ¬cond0_0 i) :
    out0_B_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = dosbB (BitVec.ofNat 32 (i 0).val) x0 x1 x2 x3 x4 x5 x6 x7 x8
    ∧ out0_B_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = doswB (BitVec.ofNat 32 (i 0).val) x0 x1 x2 x3 x4 x5 x6 x7 x8
    ∧ out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = dgB (BitVec.ofNat 32 (i 0).val) x0 x1 x2 x3 x4 x5 x6 x7 x8
    ∧ out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = dh1B (BitVec.ofNat 32 (i 0).val) x0 x1 x2 x3 x4 x5 x6 x7 x8
    ∧ out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = mergedB x2 x3 x4 x5 x6
    ∧ out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = k0_pay14 (gate0 x4) x2
    ∧ out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = k0_pay15 (gate1 x4) x3
    ∧ out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = dh1bB (BitVec.ofNat 32 (i 0).val) x0 x1 x2 x3 x4 x5 x6 x7 x8
    ∧ out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = dysbB (BitVec.ofNat 32 (i 0).val) x0 x1 x2 x3 x4 x5 x6 x7 x8
    ∧ out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = dyswB (BitVec.ofNat 32 (i 0).val) x0 x1 x2 x3 x4 x5 x6 x7 x8
    ∧ out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = dgfB (BitVec.ofNat 32 (i 0).val) x0 x1 x2 x3 x4 x5 x6 x7 x8 xo19
    ∧ out0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc0 x0 x1 x2 x3 x4 x5 x6 x7 x8 xo19 xo20 = lossB (BitVec.ofNat 32 (i 0).val) x0 x1 x2 x3 x4 x5 x6 x7 x8 xo20 := by
  refine ⟨?_, ?_, ?_, ?_, ?_, ?_, ?_, ?_, ?_, ?_, ?_, ?_⟩
  unfold out0_B_9
  rw [View.read_writes_eq_canon _ _ _ (fun _ => cover0_B_9 ..)]
  rotate_left 1
  unfold out0_B_10
  rw [View.read_writes_eq_canon _ _ _ (fun _ => cover0_B_10 ..)]
  rotate_left 1
  unfold out0_B_11
  rw [View.read_writes_eq_canon _ _ _ (fun _ => cover0_B_11 ..)]
  rotate_left 1
  unfold out0_B_12
  rw [View.read_writes_eq_canon _ _ _ (fun _ => cover0_B_12 ..)]
  rotate_left 1
  unfold out0_B_13
  rw [View.read_writes_eq_canon _ _ _ (fun _ => cover0_B_13 ..)]
  rotate_left 1
  unfold out0_B_14
  rw [View.read_writes_eq_canon _ _ _ (fun _ => cover0_B_14 ..)]
  rotate_left 1
  unfold out0_B_15
  rw [View.read_writes_eq_canon _ _ _ (fun _ => cover0_B_15 ..)]
  rotate_left 1
  unfold out0_B_16
  rw [View.read_writes_eq_canon _ _ _ (fun _ => cover0_B_16 ..)]
  rotate_left 1
  unfold out0_B_17
  rw [View.read_writes_eq_canon _ _ _ (fun _ => cover0_B_17 ..)]
  rotate_left 1
  unfold out0_B_18
  rw [View.read_writes_eq_canon _ _ _ (fun _ => cover0_B_18 ..)]
  rotate_left 1
  unfold out0_B_19
  rw [View.read_writes_eq_canon _ _ _ (fun _ => cover0_B_19 ..)]
  rotate_left 1
  unfold out0_B_20
  rw [View.read_writes_eq_canon _ _ _ (fun _ => cover0_B_20 ..)]
  rotate_left 1
  all_goals
    unfold kernelRun0_B
    dsimp only
    sl_unfold_words
  all_goals try rw [View.canon_unit_zero zeroOff]
  all_goals
    simp only [View.readAt_eq_ld, h1.read_unread, h2.read_unread, h3.read_unread, h4.read_unread, h5.read_unread, h6.read_unread,
      h7.read_unread, h8.read_unread, h9.read_unread, h20.read_unread, h21.read_unread, View.ld_unit_zero (S := S208x1024) zeroOff,
      View.ld_unit_zero (S := S208x512) zeroOff, View.ld_unit_zero (S := S512x1024) zeroOff,
      View.ld_unit_zero (S := S1024x1024) zeroOff, View.ld_unit_zero (S := S1x1024) zeroOff, View.ld_unit_zero (S := S8x128) zeroOff]
    rfl
end

variable (m : (ℓ : Loc nD τ sig) → Buf (Elt F) ℓ)

/-- The point before. -/
def before (t : Fin cfg0.N) : Fin cfg0.N := ⟨t.val - 1, Nat.lt_of_le_of_lt (Nat.sub_le _ _) t.isLt⟩

/-- A function of a point's row block and the nine blocks it reads, at the blocks of point `t`. -/
def at9 {α : Type} (c : Dev nD) (t : Fin cfg0.N)
    (f : BitVec 32 → Vec F S208x1024 .f32 → Vec F S208x1024 .f32 → Vec F S208x512 .f32 → Vec F S208x1024 .f32 → Vec F S208x3584 .f32 →
      Vec F S512x1024 .bf16 → Vec F S1024x1024 .bf16 → Vec F S1024x1024 .bf16 → Vec F S1x1024 .f32 → α) : α :=
  f (BitVec.ofNat 32 (grid0.coords t 0).val) (iblk m c 0 t) (iblk m c 1 t) (iblk m c 2 t) (iblk m c 3 t) (iblk m c 4 t) (iblk m c 5 t) (iblk m c 6 t)
    (iblk m c 7 t) (iblk m c 8 t)

/-- The ten row blocks a point leaves. -/
theorem rows_at (c : Dev nD) (t : Fin cfg0.N) :
    (outsAt0 m c t.val t.isLt).1 = at9 m c t dosbB ∧ (outsAt0 m c t.val t.isLt).2.1 = at9 m c t doswB
    ∧ (outsAt0 m c t.val t.isLt).2.2.1 = at9 m c t dgB ∧ (outsAt0 m c t.val t.isLt).2.2.2.1 = at9 m c t dh1B
    ∧ (outsAt0 m c t.val t.isLt).2.2.2.2.1 = mergedB (iblk m c 2 t) (iblk m c 3 t) (iblk m c 4 t) (iblk m c 5 t) (iblk m c 6 t)
    ∧ (outsAt0 m c t.val t.isLt).2.2.2.2.2.1 = k0_pay14 (gate0 (iblk m c 4 t)) (iblk m c 2 t)
    ∧ (outsAt0 m c t.val t.isLt).2.2.2.2.2.2.1 = k0_pay15 (gate1 (iblk m c 4 t)) (iblk m c 3 t)
    ∧ (outsAt0 m c t.val t.isLt).2.2.2.2.2.2.2.1 = at9 m c t dh1bB
    ∧ (outsAt0 m c t.val t.isLt).2.2.2.2.2.2.2.2.1 = at9 m c t dysbB
    ∧ (outsAt0 m c t.val t.isLt).2.2.2.2.2.2.2.2.2.1 = at9 m c t dyswB := by
  by_cases h : t.val % 40 = 0
  · rw [outsAt0_A m c t h]
    dsimp only
    obtain ⟨e9, e10, e11, e12, e13, e14, e15, e16, e17, e18, -, -⟩ := outs_first (F := F) ..
    exact ⟨e9, e10, e11, e12, e13, e14, e15, e16, e17, e18⟩
  · rw [outsAt0_B m c t h]
    dsimp only
    obtain ⟨e9, e10, e11, e12, e13, e14, e15, e16, e17, e18, -, -⟩ := outs_later (F := F) ..
    exact ⟨e9, e10, e11, e12, e13, e14, e15, e16, e17, e18⟩

/-- The two sums after the first point. -/
theorem sums_first (c : Dev nD) (h : 0 < cfg0.N) :
    (outsAt0 m c 0 h).2.2.2.2.2.2.2.2.2.2.1 = at9 m c ⟨0, h⟩ dgfB k0_pay2
    ∧ (outsAt0 m c 0 h).2.2.2.2.2.2.2.2.2.2.2 = at9 m c ⟨0, h⟩ lossB k0_pay3 := by
  refine ⟨(congrArg (fun p => p.2.2.2.2.2.2.2.2.2.2.1) (outsAt0_A m c ⟨0, h⟩ rfl)).trans ?_,
    (congrArg (fun p => p.2.2.2.2.2.2.2.2.2.2.2) (outsAt0_A m c ⟨0, h⟩ rfl)).trans ?_⟩
  · dsimp only
    exact (outs_first (F := F) ..).2.2.2.2.2.2.2.2.2.2.1
  · dsimp only
    exact (outs_first (F := F) ..).2.2.2.2.2.2.2.2.2.2.2

/-- Every later point adds its part to both. -/
theorem sums_later (c : Dev nD) (t : Fin cfg0.N) (h : ¬t.val % 40 = 0) :
    (outsAt0 m c t.val t.isLt).2.2.2.2.2.2.2.2.2.2.1
        = at9 m c t dgfB (outsAt0 m c (before t).val (before t).isLt).2.2.2.2.2.2.2.2.2.2.1
    ∧ (outsAt0 m c t.val t.isLt).2.2.2.2.2.2.2.2.2.2.2
        = at9 m c t lossB (outsAt0 m c (before t).val (before t).isLt).2.2.2.2.2.2.2.2.2.2.2 := by
  refine ⟨(congrArg (fun p => p.2.2.2.2.2.2.2.2.2.2.1) (outsAt0_B m c t h)).trans ?_,
    (congrArg (fun p => p.2.2.2.2.2.2.2.2.2.2.2) (outsAt0_B m c t h)).trans ?_⟩
  · dsimp only
    exact (outs_later (F := F) ..).2.2.2.2.2.2.2.2.2.2.1
  · dsimp only
    exact (outs_later (F := F) ..).2.2.2.2.2.2.2.2.2.2.2

end Cert.Tail

end
-- ==== Proof.TailForm.lean ====
/-
  The tail of the step as formulas over the extended reals: what its kernel computes, what the derivative of the plain
  program computes, and their agreement where the inputs are real numbers.
-/
module

public import proofs.«01_k».proof.Proof.Reals

@[expose] public section

noncomputable section

namespace Cert.Tail

open Idealize.ShloMosaic Cert.Reals

/-- The value is a real number. -/
def IsReal (x : EReal) : Prop := ∃ v : ℝ, x = v

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) {f : ι → EReal} (hf : ∀ i, IsReal (f i)) : IsReal (∑ i ∈ s, f i) := by
  choose v hv using hf
  exact ⟨∑ i ∈ s, v i, by rw [coe_sum]; exact Finset.sum_congr rfl fun i _ => hv i⟩

theorem IsReal.logistic {x : EReal} (hx : IsReal x) : IsReal (Ideal.logistic x) := by
  obtain ⟨a, rfl⟩ := hx; exact ⟨_, Ideal.logistic_coe a⟩

theorem const_one : (1 : EReal) = ((1 : ℝ) : EReal) := rfl

theorem const_half : Ideal.ofBits .f32 0x3F000000#32 = ((1 / 2 : ℝ) : EReal) := by
  simp [Ideal.ofBits, Ideal.ieee, -EReal.coe_mul]; norm_num

theorem const_two : Ideal.ofBits .f32 0x40000000#32 = ((2 : ℝ) : EReal) := by
  simp [Ideal.ofBits, Ideal.ieee, -EReal.coe_mul]; norm_num

theorem const_inv1024 : Ideal.ofBits .f32 0x3A800000#32 = ((1 / 1024 : ℝ) : EReal) := by
  simp [Ideal.ofBits, Ideal.ieee, -EReal.coe_mul]; norm_num

theorem const_inv2048 : Ideal.ofBits .f32 0x3A000000#32 = ((1 / 2048 : ℝ) : EReal) := by
  simp [Ideal.ofBits, Ideal.ieee, -EReal.coe_mul]; norm_num

/-- A row's mean square plus the small constant, and its reciprocal root. -/
def rowVar (h : Fin 1024 → EReal) : EReal :=
  Ideal.div (∑ j, h j * h j) (Ideal.ofBits .f32 0x44800000#32) + Ideal.ofBits .f32 0x358637BD#32

def rowRstd (h : Fin 1024 → EReal) : EReal := Ideal.rsqrt (rowVar h)

/-- A row's gradient through the norm, as the kernel writes it. -/
def rowGrad (h d g : Fin 1024 → EReal) (j : Fin 1024) : EReal :=
  rowRstd h * (d j * g j
    - h j * rowRstd h * Ideal.div (∑ k, d k * g k * (h k * rowRstd h)) (Ideal.ofBits .f32 0x44800000#32))

/-- The part through the mean square, as the derivative gives it. -/
def rowDsq (h d g : Fin 1024 → EReal) : EReal :=
  Ideal.div ((∑ k, h k * (d k * g k)) * (Ideal.ofBits .f32 0xBF000000#32 * Ideal.div (rowRstd h) (rowVar h)))
    (Ideal.ofBits .f32 0x44800000#32)

theorem rowVar_real {h : Fin 1024 → EReal} (hh : ∀ j, IsReal (h j)) : ∃ v : ℝ, 0 < v ∧ rowVar h = v := by
  choose f hf using hh
  have hn : (1024 : ℝ) ≠ 0 := by norm_num
  refine ⟨(∑ k, f k * f k) * (1 / 1024) + eps, add_pos_of_nonneg_of_pos
    (mul_nonneg (Finset.sum_nonneg fun k _ => mul_self_nonneg _) (by norm_num)) eps_pos, ?_⟩
  unfold rowVar
  simp only [hf, const_1024, const_eps, Ideal.div_coe hn, ← EReal.coe_mul, ← coe_sum, ← EReal.coe_add]

theorem rowRstd_coe {h : Fin 1024 → EReal} {v : ℝ} (hv0 : 0 < v) (hv : rowVar h = v) :
    rowRstd h = (((Real.sqrt v)⁻¹ : ℝ) : EReal) := by
  unfold rowRstd
  rw [hv, Ideal.rsqrt_coe, if_neg (not_lt.mpr hv0.le), if_neg hv0.ne']

/-- The two ways of writing a row's gradient through the norm agree on real arguments. -/
theorem rowGrad_eq {h d g : Fin 1024 → EReal} (hh : ∀ j, IsReal (h j)) (hd : ∀ j, IsReal (d j)) (hg : ∀ j, IsReal (g j))
    (j : Fin 1024) :
    rowGrad h d g j = d j * g j * rowRstd h + h j * rowDsq h d g + rowDsq h d g * h j := by
  obtain ⟨v, hv0, hv⟩ := rowVar_real hh
  have hr := rowRstd_coe hv0 hv
  choose h' hh using hh
  choose d' hd using hd
  choose g' hg using hg
  have hn : (1024 : ℝ) ≠ 0 := by norm_num
  set s : ℝ := (Real.sqrt v)⁻¹ with hs
  have hss : s * s = 1 / v := by
    rw [hs, ← mul_inv, Real.mul_self_sqrt hv0.le, one_div]
  have hq : rowDsq h d g = (((∑ k, h' k * (d' k * g' k)) * (-(1 / 2) * (s * (1 / v))) * (1 / 1024) : ℝ) : EReal) := by
    unfold rowDsq
    simp only [hh, hd, hg, hv, hr, const_1024, const_neg_half, Ideal.div_coe hn, Ideal.div_coe hv0.ne', ← EReal.coe_mul, ← coe_sum]
  have hsum : (∑ k, d' k * g' k * (h' k * s)) = (∑ k, h' k * (d' k * g' k)) * s := by
    rw [Finset.sum_mul]
    exact Finset.sum_congr rfl fun k _ => by ring
  unfold rowGrad
  simp only [hh, hd, hg, hr, hq, const_1024, Ideal.div_coe hn, ← EReal.coe_mul, ← coe_sum, ← EReal.coe_sub, ← EReal.coe_add]
  rw [hsum]
  congr 1
  rw [← hss]
  ring

/-- The arguments by their coordinates. -/
structure Args where
  h : Fin 8320 → Fin 1024 → EReal
  t : Fin 8192 → Fin 1024 → EReal
  osb : Fin 8320 → Fin 512 → EReal
  osw : Fin 8320 → Fin 1024 → EReal
  ga : Fin 8320 → Fin 3584 → EReal
  wsb : Fin 512 → Fin 1024 → EReal
  wsw : Fin 1024 → Fin 1024 → EReal
  wo : Fin 1024 → Fin 1024 → EReal
  gf : Fin 1024 → EReal

namespace Args

variable (A : Args)

/-- The gates, by groups of columns. -/
def z0 (r : Fin 8320) (k : Fin 512) : EReal := A.ga r ⟨k.val, by omega⟩
def z1 (r : Fin 8320) (k : Fin 1024) : EReal := A.ga r ⟨512 + k.val, by omega⟩
def z2 (r : Fin 8320) (k : Fin 1024) : EReal := A.ga r ⟨1536 + k.val, by omega⟩
def z3 (r : Fin 8320) (k : Fin 1024) : EReal := A.ga r ⟨2560 + k.val, by omega⟩

/-- The two branches' gated rows and their products with the weights. -/
def usb (r : Fin 8320) (k : Fin 512) : EReal := A.osb r k * (A.z0 r k * Ideal.logistic (A.z0 r k))
def usw (r : Fin 8320) (k : Fin 1024) : EReal := A.osw r k * (A.z1 r k * Ideal.logistic (A.z1 r k))
def ysb (r : Fin 8320) (j : Fin 1024) : EReal := ∑ k, A.usb r k * A.wsb k j
def ysw (r : Fin 8320) (j : Fin 1024) : EReal := ∑ k, A.usw r k * A.wsw k j

/-- The merged rows and the residual's sum. -/
def mg (r : Fin 8320) (j : Fin 1024) : EReal :=
  Ideal.logistic (A.z2 r j) * A.ysb r j + Ideal.logistic (A.z3 r j) * A.ysw r j
def h1 (r : Fin 8320) (j : Fin 1024) : EReal := A.h r j + ∑ k, A.mg r k * A.wo k j

/-- The error of a row's output, zero on the rows before the tokens. -/
def err (r : Fin 8320) (j : Fin 1024) : EReal :=
  if 128 ≤ r.val then A.h1 r j * rowRstd (A.h1 r) * A.gf j - A.t ⟨r.val - 128, by omega⟩ j else 0

/-- The gradient at the output. -/
def dy (r : Fin 8320) (j : Fin 1024) : EReal := A.err r j * Ideal.ofBits .f32 0x3A800000#32

/-- The gradients at the residual's sum, at the merged rows and at the two branches' outputs. -/
def dh1 (r : Fin 8320) (j : Fin 1024) : EReal := rowGrad (A.h1 r) (A.dy r) A.gf j
def dm (r : Fin 8320) (k : Fin 1024) : EReal := ∑ j, A.dh1 r j * A.wo k j
def dysb (r : Fin 8320) (j : Fin 1024) : EReal := A.dm r j * Ideal.logistic (A.z2 r j)
def dysw (r : Fin 8320) (j : Fin 1024) : EReal := A.dm r j * Ideal.logistic (A.z3 r j)
def dusb (r : Fin 8320) (k : Fin 512) : EReal := ∑ j, A.dysb r j * A.wsb k j
def dusw (r : Fin 8320) (k : Fin 1024) : EReal := ∑ j, A.dysw r j * A.wsw k j
def dosb (r : Fin 8320) (k : Fin 512) : EReal := A.dusb r k * (A.z0 r k * Ideal.logistic (A.z0 r k))
def dosw (r : Fin 8320) (k : Fin 1024) : EReal := A.dusw r k * (A.z1 r k * Ideal.logistic (A.z1 r k))

/-- The gates' gradient, by groups of columns. -/
def dz0 (r : Fin 8320) (k : Fin 512) : EReal :=
  A.dusb r k * A.osb r k * (Ideal.logistic (A.z0 r k) * (1 + A.z0 r k * (1 - Ideal.logistic (A.z0 r k))))
def dz1 (r : Fin 8320) (k : Fin 1024) : EReal :=
  A.dusw r k * A.osw r k * (Ideal.logistic (A.z1 r k) * (1 + A.z1 r k * (1 - Ideal.logistic (A.z1 r k))))
def dz2 (r : Fin 8320) (k : Fin 1024) : EReal :=
  A.dm r k * A.ysb r k * (Ideal.logistic (A.z2 r k) * (1 - Ideal.logistic (A.z2 r k)))
def dz3 (r : Fin 8320) (k : Fin 1024) : EReal :=
  A.dm r k * A.ysw r k * (Ideal.logistic (A.z3 r k) * (1 - Ideal.logistic (A.z3 r k)))

/-- The gates' gradient by column. -/
def dga (r : Fin 8320) (k : Fin 3584) : EReal :=
  if h : k.val < 512 then A.dz0 r ⟨k.val, h⟩
  else if h' : k.val < 1536 then A.dz1 r ⟨k.val - 512, by omega⟩
  else if h'' : k.val < 2560 then A.dz2 r ⟨k.val - 1536, by omega⟩
  else A.dz3 r ⟨k.val - 2560, by omega⟩

/-- The gain's gradient. -/
def dgf (j : Fin 1024) : EReal := ∑ r, A.dy r j * (A.h1 r j * rowRstd (A.h1 r))

/-- Every argument is a real number. -/
structure Real : Prop where
  h : ∀ r j, IsReal (A.h r j)
  t : ∀ r j, IsReal (A.t r j)
  osb : ∀ r j, IsReal (A.osb r j)
  osw : ∀ r j, IsReal (A.osw r j)
  ga : ∀ r j, IsReal (A.ga r j)
  wsb : ∀ r j, IsReal (A.wsb r j)
  wsw : ∀ r j, IsReal (A.wsw r j)
  wo : ∀ r j, IsReal (A.wo r j)
  gf : ∀ j, IsReal (A.gf j)

variable {A}

theorem h1_real (hA : A.Real) (r : Fin 8320) (j : Fin 1024) : IsReal (A.h1 r j) := by
  have u0 : ∀ k, IsReal (A.usb r k) := fun k => (hA.osb r k).mul ((hA.ga _ _).mul (hA.ga _ _).logistic)
  have u1 : ∀ k, IsReal (A.usw r k) := fun k => (hA.osw r k).mul ((hA.ga _ _).mul (hA.ga _ _).logistic)
  have y0 : ∀ k, IsReal (A.ysb r k) := fun k => IsReal.sum _ fun i => (u0 i).mul (hA.wsb i k)
  have y1 : ∀ k, IsReal (A.ysw r k) := fun k => IsReal.sum _ fun i => (u1 i).mul (hA.wsw i k)
  exact (hA.h r j).add (IsReal.sum _ fun k =>
    (((hA.ga _ _).logistic.mul (y0 k)).add ((hA.ga _ _).logistic.mul (y1 k))).mul (hA.wo k j))

theorem rstd_real (hA : A.Real) (r : Fin 8320) : IsReal (rowRstd (A.h1 r)) := by
  obtain ⟨v, hv0, hv⟩ := rowVar_real (h1_real hA r)
  exact ⟨_, rowRstd_coe hv0 hv⟩

theorem err_real (hA : A.Real) (r : Fin 8320) (j : Fin 1024) : IsReal (A.err r j) := by
  unfold err
  split
  · exact (((h1_real hA r j).mul (rstd_real hA r)).mul (hA.gf j)).sub (hA.t _ _)
  · exact ⟨0, rfl⟩

theorem dy_real (hA : A.Real) (r : Fin 8320) (j : Fin 1024) : IsReal (A.dy r j) :=
  (err_real hA r j).mul ⟨_, const_inv1024⟩

/-- The gradient at the residual's sum, as the derivative of the norm gives it. -/
theorem dh1_eq (hA : A.Real) (r : Fin 8320) (j : Fin 1024) :
    A.dh1 r j = A.dy r j * A.gf j * rowRstd (A.h1 r) + A.h1 r j * rowDsq (A.h1 r) (A.dy r) A.gf
      + rowDsq (A.h1 r) (A.dy r) A.gf * A.h1 r j :=
  rowGrad_eq (h1_real hA r) (dy_real hA r) hA.gf j

theorem dm_real (hA : A.Real) (r : Fin 8320) (k : Fin 1024) : IsReal (A.dm r k) := by
  refine IsReal.sum _ fun j => IsReal.mul ?_ (hA.wo k j)
  obtain ⟨s, hs⟩ := rstd_real hA r
  have hn : (1024 : ℝ) ≠ 0 := by norm_num
  refine IsReal.mul ⟨s, hs⟩ (((dy_real hA r j).mul (hA.gf j)).sub
    (((h1_real hA r j).mul ⟨s, hs⟩).mul ?_))
  obtain ⟨q, hq⟩ := IsReal.sum Finset.univ fun k =>
    ((dy_real hA r k).mul (hA.gf k)).mul ((h1_real hA r k).mul ⟨s, hs⟩)
  rw [hq, const_1024]
  exact ⟨_, by rw [Ideal.div_coe hn, ← EReal.coe_mul]⟩

theorem dusb_real (hA : A.Real) (r : Fin 8320) (k : Fin 512) : IsReal (A.dusb r k) :=
  IsReal.sum _ fun j => ((dm_real hA r j).mul (hA.ga _ _).logistic).mul (hA.wsb k j)

theorem dusw_real (hA : A.Real) (r : Fin 8320) (k : Fin 1024) : IsReal (A.dusw r k) :=
  IsReal.sum _ fun j => ((dm_real hA r j).mul (hA.ga _ _).logistic).mul (hA.wsw k j)

/-- The derivative of the gating function, as the kernel writes it and as the sum of the product rule's two terms. -/
theorem silu_deriv {u o z : EReal} (hu : IsReal u) (ho : IsReal o) (hz : IsReal z) :
    u * o * (Ideal.logistic z * (1 + z * (1 - Ideal.logistic z)))
      = z * (o * u) * (Ideal.logistic z * (1 - Ideal.logistic z)) + o * u * Ideal.logistic z := by
  obtain ⟨s, hs⟩ := hz.logistic
  obtain ⟨u, rfl⟩ := hu; obtain ⟨o, rfl⟩ := ho; obtain ⟨z, rfl⟩ := hz
  simp only [hs, const_one, ← EReal.coe_mul, ← EReal.coe_add, ← EReal.coe_sub]
  congr 1
  ring

/-- Twice the error times half a row's weight. -/
theorem dy_twice {e : EReal} (he : IsReal e) :
    Ideal.div (Ideal.ofBits .f32 0x3F000000#32 * 1) (Ideal.ofBits .f32 0x44800000#32) * (Ideal.ofBits .f32 0x40000000#32 * e)
      = e * Ideal.ofBits .f32 0x3A800000#32 := by
  obtain ⟨e, rfl⟩ := he
  have hn : (1024 : ℝ) ≠ 0 := by norm_num
  simp only [const_half, const_one, const_two, const_1024, const_inv1024, ← EReal.coe_mul, Ideal.div_coe hn]
  congr 1
  ring

/-- The loss: the kernel weighs each block's sum of squares, the plain program each row's. -/
theorem loss_eq (hA : A.Real) (q : ℕ → EReal)
    (hq : ∀ n, q n = if h : n < 8320 then ∑ j, A.err ⟨n, h⟩ j * A.err ⟨n, h⟩ j else 0) :
    (∑ b ∈ Finset.range 40, Ideal.ofBits .f32 0x3A000000#32 * ∑ i ∈ Finset.range 208, q (b * 208 + i))
      = Ideal.ofBits .f32 0x3F000000#32 * ∑ r : Fin 8192, Ideal.div
          (∑ j, A.err ⟨r.val + 128, by omega⟩ j * A.err ⟨r.val + 128, by omega⟩ j) (Ideal.ofBits .f32 0x44800000#32) := by
  have hreal : ∀ n, IsReal (q n) := fun n => by
    rw [hq]
    split
    · exact IsReal.sum _ fun j => (err_real hA _ j).mul (err_real hA _ j)
    · exact ⟨0, rfl⟩
  have hrow : ∀ r : Fin 8192, (∑ j, A.err ⟨r.val + 128, by omega⟩ j * A.err ⟨r.val + 128, by omega⟩ j) = q (128 + r.val) := fun r => by
    rw [hq, dif_pos (by omega)]
    exact Finset.sum_congr rfl fun j _ => by rw [Fin.ext (Nat.add_comm r.val 128) (a := ⟨r.val + 128, by omega⟩) (b := ⟨128 + r.val, by omega⟩)]
  have hzero : ∀ n < 128, q n = 0 := fun n hn => by
    rw [hq, dif_pos (by omega)]
    refine Finset.sum_eq_zero fun j _ => ?_
    unfold err
    rw [if_neg (by show ¬128 ≤ n; omega), zero_mul (M₀ := EReal)]
  simp only [hrow]
  choose f hf using hreal
  have hz : ∀ n < 128, f n = 0 := fun n hn => EReal.coe_injective ((hf n).symm.trans (hzero n hn))
  have hn : (1024 : ℝ) ≠ 0 := by norm_num
  simp only [hf, const_half, const_inv2048, const_1024, Ideal.div_coe hn, ← EReal.coe_mul, ← coe_sum]
  congr 1
  rw [← Finset.mul_sum, ← sum_blocks f, ← Finset.sum_mul, show 40 * 208 = 128 + 8192 from rfl, Finset.sum_range_add,
    Finset.sum_eq_zero (fun n h => hz n (Finset.mem_range.mp h)), Finset.sum_range]
  ring

end Args

end Cert.Tail

end
-- ==== Proof.TailBlock.lean ====
/-
  The payloads of the tail's kernel at one row of a block, as the formulas of `TailForm`.
-/
module

public import proofs.«01_k».proof.Proof.TailCases
public import proofs.«01_k».proof.Proof.TailForm
public import Idealize.ShloMosaic.Lib.Pointwise.Tactic
public import Idealize.ShloMosaic.Lib.Pointwise

@[expose] public section

set_option maxRecDepth 16384

noncomputable section

namespace Cert.Tail

open Idealize.ShloMosaic Idealize.ShloMosaic.TcCoe Idealize.SL.Sem Cert.Kernel4Ideal Cert.Kernel4Ideal.Gen Cert.Reals

/-- Row `i` of a point's blocks is row `r` of the arguments; `g` is the point's row block. -/
structure Row (A : Args) (g : BitVec 32) (i : Fin 208) (r : Fin 8320) (x0 x1 : S208x1024.Idx → EReal) (x2 : S208x512.Idx → EReal)
    (x3 : S208x1024.Idx → EReal) (x4 : S208x3584.Idx → EReal) (x5 : S512x1024.Idx → EReal) (x6 x7 : S1024x1024.Idx → EReal)
    (x8 : S1x1024.Idx → EReal) : Prop where
  g : IntOp.cmpi .sge (IntOp.addi (Scalar.muli g 208#32) (BitVec.ofNat 32 i.val)) 128#32 = if 128 ≤ r.val then 1#1 else 0#1
  h : ∀ j, x0 (ix2 i j) = A.h r j
  t : ∀ (hr : 128 ≤ r.val) j, x1 (ix2 i j) = A.t ⟨r.val - 128, by omega⟩ j
  osb : ∀ k, x2 (ix2 i k) = A.osb r k
  osw : ∀ k, x3 (ix2 i k) = A.osw r k
  ga : ∀ k, x4 (ix2 i k) = A.ga r k
  wsb : ∀ k j, x5 (ix2 k j) = A.wsb k j
  wsw : ∀ k j, x6 (ix2 k j) = A.wsw k j
  wo : ∀ k j, x7 (ix2 k j) = A.wo k j
  gf : ∀ j, x8 (ix2 0 j) = A.gf j

section
variable {A : Args} {g : BitVec 32} {i : Fin 208} {r : Fin 8320} {x0 x1 : S208x1024.Idx → EReal} {x2 : S208x512.Idx → EReal}
    {x3 : S208x1024.Idx → EReal} {x4 : S208x3584.Idx → EReal} {x5 : S512x1024.Idx → EReal} {x6 x7 : S1024x1024.Idx → EReal}
    {x8 : S1x1024.Idx → EReal} (R : Row A g i r x0 x1 x2 x3 x4 x5 x6 x7 x8)

include R

theorem gate0_at (k : Fin 512) : (gate0 (F := Ideal) x4 (ix2 i k) : EReal) = A.z0 r k := by
  refine Eq.trans (congrArg x4 (funext fun a => Fin.ext ?_)) (R.ga ⟨k.val, by omega⟩)
  match a with
  | ⟨0, _⟩ => show 0 + 1 * i.val = i.val; omega
  | ⟨1, _⟩ => show 0 + 1 * k.val = k.val; omega

theorem gate1_at (k : Fin 1024) : (gate1 (F := Ideal) x4 (ix2 i k) : EReal) = A.z1 r k := by
  refine Eq.trans (congrArg x4 (funext fun a => Fin.ext ?_)) (R.ga ⟨512 + k.val, by omega⟩)
  match a with
  | ⟨0, _⟩ => show 0 + 1 * i.val = i.val; omega
  | ⟨1, _⟩ => show 512 + 1 * k.val = 512 + k.val; omega

theorem gate2_at (k : Fin 1024) : (gate2 (F := Ideal) x4 (ix2 i k) : EReal) = A.z2 r k := by
  refine Eq.trans (congrArg x4 (funext fun a => Fin.ext ?_)) (R.ga ⟨1536 + k.val, by omega⟩)
  match a with
  | ⟨0, _⟩ => show 0 + 1 * i.val = i.val; omega
  | ⟨1, _⟩ => show 1536 + 1 * k.val = 1536 + k.val; omega

theorem gate3_at (k : Fin 1024) : (gate3 (F := Ideal) x4 (ix2 i k) : EReal) = A.z3 r k := by
  refine Eq.trans (congrArg x4 (funext fun a => Fin.ext ?_)) (R.ga ⟨2560 + k.val, by omega⟩)
  match a with
  | ⟨0, _⟩ => show 0 + 1 * i.val = i.val; omega
  | ⟨1, _⟩ => show 2560 + 1 * k.val = 2560 + k.val; omega

omit R in
theorem pay14_at (z o : S208x512.Idx → EReal) (k : Fin 512) :
    (k0_pay14 (F := Ideal) z o (ix2 i k) : EReal) = o (ix2 i k) * (z (ix2 i k) * Ideal.logistic (z (ix2 i k))) := by
  unfold k0_pay14 k0_pay12 k0_pay10 k0_pay4 k0_pay8 k0_pay4
  pointwise

omit R in
theorem pay15_at (z o : S208x1024.Idx → EReal) (k : Fin 1024) :
    (k0_pay15 (F := Ideal) z o (ix2 i k) : EReal) = o (ix2 i k) * (z (ix2 i k) * Ideal.logistic (z (ix2 i k))) := by
  unfold k0_pay15 k0_pay13 k0_pay11 k0_pay5 k0_pay9 k0_pay5
  pointwise

theorem usb_at (k : Fin 512) : (k0_pay14 (F := Ideal) (gate0 (F := Ideal) x4) x2 (ix2 i k) : EReal) = A.usb r k := by
  rw [pay14_at, gate0_at R, R.osb]; rfl

theorem usw_at (k : Fin 1024) : (k0_pay15 (F := Ideal) (gate1 (F := Ideal) x4) x3 (ix2 i k) : EReal) = A.usw r k := by
  rw [pay15_at, gate1_at R, R.osw]; rfl

theorem ysb_at (j : Fin 1024) : (k0_pay16 (F := Ideal) (gate0 (F := Ideal) x4) x2 x5 (ix2 i j) : EReal) = A.ysb r j := by
  have hu := usb_at R
  unfold k0_pay16
  generalize k0_pay14 (F := Ideal) (gate0 (F := Ideal) x4) x2 = U at hu ⊢
  change S208x512.Idx → EReal at U
  pointwise [dot_S208x512_S512x1024_S208x1024_1_0_0_1_n_n]
  simp only [hu, R.wsb]
  rfl

theorem ysw_at (j : Fin 1024) : (k0_pay17 (F := Ideal) (gate1 (F := Ideal) x4) x3 x6 (ix2 i j) : EReal) = A.ysw r j := by
  have hu := usw_at R
  unfold k0_pay17
  generalize k0_pay15 (F := Ideal) (gate1 (F := Ideal) x4) x3 = U at hu ⊢
  change S208x1024.Idx → EReal at U
  pointwise [dot_S208x1024_S1024x1024_S208x1024_1_0_0_1_n_n]
  simp only [hu, R.wsw]
  rfl

theorem s2_at (j : Fin 1024) : (k0_pay6 (F := Ideal) (gate2 (F := Ideal) x4) (ix2 i j) : EReal) = Ideal.logistic (A.z2 r j) := by
  have hz := gate2_at R
  generalize gate2 (F := Ideal) x4 = Z at hz ⊢
  change S208x1024.Idx → EReal at Z
  unfold k0_pay6
  pointwise
  rw [hz]

theorem s3_at (j : Fin 1024) : (k0_pay7 (F := Ideal) (gate3 (F := Ideal) x4) (ix2 i j) : EReal) = Ideal.logistic (A.z3 r j) := by
  have hz := gate3_at R
  generalize gate3 (F := Ideal) x4 = Z at hz ⊢
  change S208x1024.Idx → EReal at Z
  unfold k0_pay7
  pointwise
  rw [hz]

theorem merged_at (j : Fin 1024) : (mergedB (F := Ideal) x2 x3 x4 x5 x6 (ix2 i j) : EReal) = A.mg r j := by
  have e2 := s2_at R j
  have e3 := s3_at R j
  have y2 := ysb_at R j
  have y3 := ysw_at R j
  unfold mergedB k0_pay18
  generalize k0_pay6 (F := Ideal) (gate2 (F := Ideal) x4) = S2 at e2 ⊢
  generalize k0_pay7 (F := Ideal) (gate3 (F := Ideal) x4) = S3 at e3 ⊢
  generalize k0_pay16 (F := Ideal) (gate0 (F := Ideal) x4) x2 x5 = Y2 at y2 ⊢
  generalize k0_pay17 (F := Ideal) (gate1 (F := Ideal) x4) x3 x6 = Y3 at y3 ⊢
  change S208x1024.Idx → EReal at S2
  change S208x1024.Idx → EReal at S3
  change S208x1024.Idx → EReal at Y2
  change S208x1024.Idx → EReal at Y3
  pointwise
  rw [e2, e3, y2, y3]
  rfl

theorem h1_at (j : Fin 1024) : (k0_pay19 (F := Ideal) (mergedB (F := Ideal) x2 x3 x4 x5 x6) x0 x7 (ix2 i j) : EReal) = A.h1 r j := by
  have hm := merged_at R
  generalize mergedB (F := Ideal) x2 x3 x4 x5 x6 = M at hm ⊢
  change S208x1024.Idx → EReal at M
  unfold k0_pay19
  pointwise [dot_S208x1024_S1024x1024_S208x1024_1_0_0_1_n_n]
  simp only [hm, R.wo, R.h]
  rfl

theorem rstd_at : (rstdB (F := Ideal) x0 x2 x3 x4 x5 x6 x7 (ix2 i 0) : EReal) = rowRstd (A.h1 r) := by
  have hh := h1_at R
  unfold rstdB k0_pay20
  generalize k0_pay19 (F := Ideal) (mergedB (F := Ideal) x2 x3 x4 x5 x6) x0 x7 = H at hh ⊢
  change S208x1024.Idx → EReal at H
  pointwise
  simp only [hh]
  rfl

theorem hhat_at (j : Fin 1024) : (hhatB (F := Ideal) x0 x2 x3 x4 x5 x6 x7 (ix2 i j) : EReal) = A.h1 r j * rowRstd (A.h1 r) := by
  have hh := h1_at R
  have hr : (k0_pay20 (F := Ideal) (mergedB (F := Ideal) x2 x3 x4 x5 x6) x0 x7 (ix2 i 0) : EReal) = _ := rstd_at R
  unfold hhatB k0_pay21
  generalize k0_pay19 (F := Ideal) (mergedB (F := Ideal) x2 x3 x4 x5 x6) x0 x7 = H at hh ⊢
  generalize k0_pay20 (F := Ideal) (mergedB (F := Ideal) x2 x3 x4 x5 x6) x0 x7 = Q at hr ⊢
  change S208x1024.Idx → EReal at H
  change S208x1.Idx → EReal at Q
  pointwise
  rw [hh, hr]

theorem err_at (j : Fin 1024) : (errB (F := Ideal) g x0 x1 x2 x3 x4 x5 x6 x7 x8 (ix2 i j) : EReal) = A.err r j := by
  have hh : ∀ j, (k0_pay21 (F := Ideal) (mergedB (F := Ideal) x2 x3 x4 x5 x6) x0 x7 (ix2 i j) : EReal) = _ := hhat_at R
  unfold errB k0_pay23 k0_pay22
  generalize k0_pay21 (F := Ideal) (mergedB (F := Ideal) x2 x3 x4 x5 x6) x0 x7 = H at hh ⊢
  change S208x1024.Idx → EReal at H
  pointwise
  unfold Args.err
  rw [R.g]
  by_cases hr : 128 ≤ r.val
  · rw [if_pos hr, if_pos hr, hh, R.gf, R.t hr]
    exact if_pos rfl
  · rw [if_neg hr, if_neg hr]
    exact if_neg (by decide)

theorem dy_at (j : Fin 1024) : (k0_pay28 (F := Ideal) (errB (F := Ideal) g x0 x1 x2 x3 x4 x5 x6 x7 x8) (ix2 i j) : EReal) = A.dy r j := by
  have he := err_at R
  generalize errB (F := Ideal) g x0 x1 x2 x3 x4 x5 x6 x7 x8 = E at he ⊢
  change S208x1024.Idx → EReal at E
  unfold k0_pay28
  pointwise
  rw [he]
  rfl

theorem dh1_at (j : Fin 1024) : (dh1B (F := Ideal) g x0 x1 x2 x3 x4 x5 x6 x7 x8 (ix2 i j) : EReal) = A.dh1 r j := by
  have hd := dy_at R
  have hh := hhat_at R
  have hr := rstd_at R
  unfold dh1B k0_pay30 k0_pay22
  generalize k0_pay28 (F := Ideal) (errB (F := Ideal) g x0 x1 x2 x3 x4 x5 x6 x7 x8) = D at hd ⊢
  generalize hhatB (F := Ideal) x0 x2 x3 x4 x5 x6 x7 = H at hh ⊢
  generalize rstdB (F := Ideal) x0 x2 x3 x4 x5 x6 x7 = Q at hr ⊢
  change S208x1024.Idx → EReal at D
  change S208x1024.Idx → EReal at H
  change S208x1.Idx → EReal at Q
  pointwise
  simp only [hd, hh, hr, R.gf]
  rfl

theorem dh1b_at (j : Fin 1024) : (dh1bB (F := Ideal) g x0 x1 x2 x3 x4 x5 x6 x7 x8 (ix2 i j) : EReal) = A.dh1 r j := by
  refine Eq.trans ?_ (dh1_at R j)
  unfold dh1bB k0_pay31 dh1B
  pointwise

theorem dm_at (k : Fin 1024) : (dmB (F := Ideal) g x0 x1 x2 x3 x4 x5 x6 x7 x8 (ix2 i k) : EReal) = A.dm r k := by
  have hd : ∀ j, (k0_pay31 (F := Ideal) (rstdB x0 x2 x3 x4 x5 x6 x7) (hhatB x0 x2 x3 x4 x5 x6 x7) (k0_pay22 x8)
    (errB g x0 x1 x2 x3 x4 x5 x6 x7 x8) (ix2 i j) : EReal) = _ := dh1b_at R
  unfold dmB k0_pay32
  generalize k0_pay31 (F := Ideal) (rstdB x0 x2 x3 x4 x5 x6 x7) (hhatB x0 x2 x3 x4 x5 x6 x7) (k0_pay22 x8)
    (errB g x0 x1 x2 x3 x4 x5 x6 x7 x8) = D at hd ⊢
  change S208x1024.Idx → EReal at D
  pointwise [dot_S208x1024_S1024x1024_S208x1024_1_1_0_0_n_n]
  simp only [hd, R.wo]
  rfl

theorem dysb_at (j : Fin 1024) : (dysbB (F := Ideal) g x0 x1 x2 x3 x4 x5 x6 x7 x8 (ix2 i j) : EReal) = A.dysb r j := by
  have hd : (k0_pay32 (F := Ideal) (rstdB x0 x2 x3 x4 x5 x6 x7) (hhatB x0 x2 x3 x4 x5 x6 x7) (k0_pay22 x8)
    (errB g x0 x1 x2 x3 x4 x5 x6 x7 x8) x7 (ix2 i j) : EReal) = _ := dm_at R j
  have hs := s2_at R j
  unfold dysbB k0_pay33
  generalize k0_pay32 (F := Ideal) (rstdB x0 x2 x3 x4 x5 x6 x7) (hhatB x0 x2 x3 x4 x5 x6 x7) (k0_pay22 x8)
    (errB g x0 x1 x2 x3 x4 x5 x6 x7 x8) x7 = D at hd ⊢
  generalize k0_pay6 (F := Ideal) (gate2 (F := Ideal) x4) = S at hs ⊢
  change S208x1024.Idx → EReal at D
  change S208x1024.Idx → EReal at S
  pointwise
  rw [hd, hs]
  rfl

theorem dysw_at (j : Fin 1024) : (dyswB (F := Ideal) g x0 x1 x2 x3 x4 x5 x6 x7 x8 (ix2 i j) : EReal) = A.dysw r j := by
  have hd : (k0_pay32 (F := Ideal) (rstdB x0 x2 x3 x4 x5 x6 x7) (hhatB x0 x2 x3 x4 x5 x6 x7) (k0_pay22 x8)
    (errB g x0 x1 x2 x3 x4 x5 x6 x7 x8) x7 (ix2 i j) : EReal) = _ := dm_at R j
  have hs := s3_at R j
  unfold dyswB k0_pay34
  generalize k0_pay32 (F := Ideal) (rstdB x0 x2 x3 x4 x5 x6 x7) (hhatB x0 x2 x3 x4 x5 x6 x7) (k0_pay22 x8)
    (errB g x0 x1 x2 x3 x4 x5 x6 x7 x8) x7 = D at hd ⊢
  generalize k0_pay7 (F := Ideal) (gate3 (F := Ideal) x4) = S at hs ⊢
  change S208x1024.Idx → EReal at D
  change S208x1024.Idx → EReal at S
  pointwise
  rw [hd, hs]
  rfl

theorem dusb_at (k : Fin 512) :
    (k0_pay36 (F := Ideal) (dysbB (F := Ideal) g x0 x1 x2 x3 x4 x5 x6 x7 x8) (k0_pay35 (F := Ideal) x5) (ix2 i k) : EReal) = A.dusb r k := by
  have hd := dysb_at R
  generalize dysbB (F := Ideal) g x0 x1 x2 x3 x4 x5 x6 x7 x8 = D at hd ⊢
  change S208x1024.Idx → EReal at D
  unfold k0_pay36 k0_pay35
  pointwise [dot_S208x1024_S512x1024_S208x512_1_1_0_0_n_n]
  simp only [hd, R.wsb]
  rfl

theorem dusw_at (k : Fin 1024) :
    (k0_pay37 (F := Ideal) (dyswB (F := Ideal) g x0 x1 x2 x3 x4 x5 x6 x7 x8) x6 (ix2 i k) : EReal) = A.dusw r k := by
  have hd := dysw_at R
  generalize dyswB (F := Ideal) g x0 x1 x2 x3 x4 x5 x6 x7 x8 = D at hd ⊢
  change S208x1024.Idx → EReal at D
  unfold k0_pay37
  pointwise [dot_S208x1024_S1024x1024_S208x1024_1_1_0_0_n_n]
  simp only [hd, R.wsw]
  rfl

theorem dosb_at (k : Fin 512) : (dosbB (F := Ideal) g x0 x1 x2 x3 x4 x5 x6 x7 x8 (ix2 i k) : EReal) = A.dosb r k := by
  have hd := dusb_at R k
  have hz := gate0_at R k
  unfold dosbB k0_pay38
  generalize k0_pay36 (F := Ideal) (dysbB (F := Ideal) g x0 x1 x2 x3 x4 x5 x6 x7 x8) (k0_pay35 (F := Ideal) x5) = D at hd ⊢
  generalize gate0 (F := Ideal) x4 = Z at hz ⊢
  change S208x512.Idx → EReal at D
  change S208x512.Idx → EReal at Z
  unfold k0_pay10 k0_pay8 k0_pay4
  pointwise
  rw [hd, hz]
  rfl

theorem dosw_at (k : Fin 1024) : (doswB (F := Ideal) g x0 x1 x2 x3 x4 x5 x6 x7 x8 (ix2 i k) : EReal) = A.dosw r k := by
  have hd := dusw_at R k
  have hz := gate1_at R k
  unfold doswB k0_pay39
  generalize k0_pay37 (F := Ideal) (dyswB (F := Ideal) g x0 x1 x2 x3 x4 x5 x6 x7 x8) x6 = D at hd ⊢
  generalize gate1 (F := Ideal) x4 = Z at hz ⊢
  change S208x1024.Idx → EReal at D
  change S208x1024.Idx → EReal at Z
  unfold k0_pay11 k0_pay9 k0_pay5
  pointwise
  rw [hd, hz]
  rfl

theorem dz0_at (k : Fin 512) : (dgate0 (F := Ideal) g x0 x1 x2 x3 x4 x5 x6 x7 x8 (ix2 i k) : EReal) = A.dz0 r k := by
  have hd := dusb_at R k
  have hz := gate0_at R k
  have ho := R.osb k
  unfold dgate0 k0_pay40
  generalize k0_pay36 (F := Ideal) (dysbB (F := Ideal) g x0 x1 x2 x3 x4 x5 x6 x7 x8) (k0_pay35 (F := Ideal) x5) = D at hd ⊢
  generalize gate0 (F := Ideal) x4 = Z at hz ⊢
  change S208x512.Idx → EReal at D
  change S208x512.Idx → EReal at Z
  unfold k0_pay8 k0_pay4 k0_pay12
  pointwise
  rw [hd, hz, ho]
  rfl

theorem dz1_at (k : Fin 1024) : (dgate1 (F := Ideal) g x0 x1 x2 x3 x4 x5 x6 x7 x8 (ix2 i k) : EReal) = A.dz1 r k := by
  have hd := dusw_at R k
  have hz := gate1_at R k
  have ho := R.osw k
  unfold dgate1 k0_pay41
  generalize k0_pay37 (F := Ideal) (dyswB (F := Ideal) g x0 x1 x2 x3 x4 x5 x6 x7 x8) x6 = D at hd ⊢
  generalize gate1 (F := Ideal) x4 = Z at hz ⊢
  change S208x1024.Idx → EReal at D
  change S208x1024.Idx → EReal at Z
  unfold k0_pay9 k0_pay5 k0_pay13
  pointwise
  rw [hd, hz, ho]
  rfl

theorem dz2_at (k : Fin 1024) : (dgate2 (F := Ideal) g x0 x1 x2 x3 x4 x5 x6 x7 x8 (ix2 i k) : EReal) = A.dz2 r k := by
  have hd := dm_at R k
  have hs := s2_at R k
  have hy := ysb_at R k
  unfold dgate2 k0_pay42
  generalize dmB (F := Ideal) g x0 x1 x2 x3 x4 x5 x6 x7 x8 = D at hd ⊢
  generalize k0_pay6 (F := Ideal) (gate2 (F := Ideal) x4) = S at hs ⊢
  generalize k0_pay16 (F := Ideal) (gate0 (F := Ideal) x4) x2 x5 = Y at hy ⊢
  change S208x1024.Idx → EReal at D
  change S208x1024.Idx → EReal at S
  change S208x1024.Idx → EReal at Y
  pointwise
  rw [hd, hs, hy]
  rfl

theorem dz3_at (k : Fin 1024) : (dgate3 (F := Ideal) g x0 x1 x2 x3 x4 x5 x6 x7 x8 (ix2 i k) : EReal) = A.dz3 r k := by
  have hd := dm_at R k
  have hs := s3_at R k
  have hy := ysw_at R k
  unfold dgate3 k0_pay1 k0_pay43 k0_pay44
  generalize dmB (F := Ideal) g x0 x1 x2 x3 x4 x5 x6 x7 x8 = D at hd ⊢
  generalize k0_pay7 (F := Ideal) (gate3 (F := Ideal) x4) = S at hs ⊢
  generalize k0_pay17 (F := Ideal) (gate1 (F := Ideal) x4) x3 x6 = Y at hy ⊢
  change S208x1024.Idx → EReal at D
  change S208x1024.Idx → EReal at S
  change S208x1024.Idx → EReal at Y
  pointwise
  rw [hd, hs, hy]
  rfl

/-- The block of the gates' gradient: the four stores, by the column. -/
theorem dg_at (k : Fin 3584) : (dgB (F := Ideal) g x0 x1 x2 x3 x4 x5 x6 x7 x8 (ix2 i k) : EReal) = A.dga r k := by
  have hk := k.isLt
  have h0 : ∀ q : Fin 512, (Rect.unit (s := S208x3584) ![0, 0] ![208, 512] inb_S208x3584_S208x512_0_0).emb (ix2 i q) = ix2 i ⟨q.val, by omega⟩ := by
    intro q; funext a
    match a with
    | ⟨0, _⟩ => exact Fin.ext (by show 0 + 1 * i.val = i.val; omega)
    | ⟨1, _⟩ => exact Fin.ext (by show 0 + 1 * q.val = q.val; omega)
  have h1 : ∀ q : Fin 1024, (Rect.unit (s := S208x3584) ![0, 512] ![208, 1024] inb_S208x3584_S208x1024_0_512).emb (ix2 i q) = ix2 i ⟨512 + q.val, by omega⟩ := by
    intro q; funext a
    match a with
    | ⟨0, _⟩ => exact Fin.ext (by show 0 + 1 * i.val = i.val; omega)
    | ⟨1, _⟩ => exact Fin.ext (by show 512 + 1 * q.val = 512 + q.val; omega)
  have h2 : ∀ q : Fin 1024, (Rect.unit (s := S208x3584) ![0, 1536] ![208, 1024] inb_S208x3584_S208x1024_0_1536).emb (ix2 i q) = ix2 i ⟨1536 + q.val, by omega⟩ := by
    intro q; funext a
    match a with
    | ⟨0, _⟩ => exact Fin.ext (by show 0 + 1 * i.val = i.val; omega)
    | ⟨1, _⟩ => exact Fin.ext (by show 1536 + 1 * q.val = 1536 + q.val; omega)
  have h3 : ∀ q : Fin 1024, (Rect.unit (s := S208x3584) ![0, 2560] ![208, 1024] inb_S208x3584_S208x1024_0_2560).emb (ix2 i q) = ix2 i ⟨2560 + q.val, by omega⟩ := by
    intro q; funext a
    match a with
    | ⟨0, _⟩ => exact Fin.ext (by show 0 + 1 * i.val = i.val; omega)
    | ⟨1, _⟩ => exact Fin.ext (by show 2560 + 1 * q.val = 2560 + q.val; omega)
  have n1 : k.val < 512 → ix2 i k ∉ (Rect.unit (s := S208x3584) ![0, 512] ![208, 1024] inb_S208x3584_S208x1024_0_512).set := by
    intro h hm
    have := (Rect.mem_set_unit.mp hm 1).1
    exact absurd (show 512 ≤ k.val from this) (by omega)
  have n2 : k.val < 1536 → ix2 i k ∉ (Rect.unit (s := S208x3584) ![0, 1536] ![208, 1024] inb_S208x3584_S208x1024_0_1536).set := by
    intro h hm
    have := (Rect.mem_set_unit.mp hm 1).1
    exact absurd (show 1536 ≤ k.val from this) (by omega)
  have n3 : k.val < 2560 → ix2 i k ∉ (Rect.unit (s := S208x3584) ![0, 2560] ![208, 1024] inb_S208x3584_S208x1024_0_2560).set := by
    intro h hm
    have := (Rect.mem_set_unit.mp hm 1).1
    exact absurd (show 2560 ≤ k.val from this) (by omega)
  have e0 := dz0_at R
  have e1 := dz1_at R
  have e2 := dz2_at R
  have e3 := dz3_at R
  unfold dgB Args.dga
  generalize dgate0 (F := Ideal) g x0 x1 x2 x3 x4 x5 x6 x7 x8 = D0 at e0 ⊢
  generalize dgate1 (F := Ideal) g x0 x1 x2 x3 x4 x5 x6 x7 x8 = D1 at e1 ⊢
  generalize dgate2 (F := Ideal) g x0 x1 x2 x3 x4 x5 x6 x7 x8 = D2 at e2 ⊢
  generalize dgate3 (F := Ideal) g x0 x1 x2 x3 x4 x5 x6 x7 x8 = D3 at e3 ⊢
  by_cases c0 : k.val < 512
  · rw [dif_pos c0, View.canon_cons_of_not_mem, View.canon_cons_of_not_mem, View.canon_cons_of_not_mem]
    · refine Eq.trans ?_ (e0 ⟨k.val, c0⟩)
      rw [show ix2 i k = _ from (h0 ⟨k.val, c0⟩).symm]
      exact View.canon_cons_emb _ _ _ _
    · exact n1 c0
    · exact n2 (by omega)
    · exact n3 (by omega)
  · rw [dif_neg c0]
    by_cases c1 : k.val < 1536
    · have hq : ix2 i k = ix2 i (⟨512 + (k.val - 512), by omega⟩ : Fin 3584) :=
        congrArg (ix2 i) (Fin.ext (by show k.val = 512 + (k.val - 512); omega))
      rw [dif_pos c1, View.canon_cons_of_not_mem, View.canon_cons_of_not_mem]
      · refine Eq.trans ?_ (e1 ⟨k.val - 512, by omega⟩)
        rw [hq, show ix2 i _ = _ from (h1 ⟨k.val - 512, by omega⟩).symm]
        exact View.canon_cons_emb _ _ _ _
      · exact n2 c1
      · exact n3 (by omega)
    · rw [dif_neg c1]
      by_cases c2 : k.val < 2560
      · have hq : ix2 i k = ix2 i (⟨1536 + (k.val - 1536), by omega⟩ : Fin 3584) :=
          congrArg (ix2 i) (Fin.ext (by show k.val = 1536 + (k.val - 1536); omega))
        rw [dif_pos c2, View.canon_cons_of_not_mem]
        · refine Eq.trans ?_ (e2 ⟨k.val - 1536, by omega⟩)
          rw [hq, show ix2 i _ = _ from (h2 ⟨k.val - 1536, by omega⟩).symm]
          exact View.canon_cons_emb _ _ _ _
        · exact n3 c2
      · have hq : ix2 i k = ix2 i (⟨2560 + (k.val - 2560), by omega⟩ : Fin 3584) :=
          congrArg (ix2 i) (Fin.ext (by show k.val = 2560 + (k.val - 2560); omega))
        rw [dif_neg c2]
        refine Eq.trans ?_ (e3 ⟨k.val - 2560, by omega⟩)
        rw [hq, show ix2 i _ = _ from (h3 ⟨k.val - 2560, by omega⟩).symm]
        exact View.canon_cons_emb _ _ _ _

end

section
variable {A : Args} {g : BitVec 32} {ρ : Fin 208 → Fin 8320} {x0 x1 : S208x1024.Idx → EReal} {x2 : S208x512.Idx → EReal}
    {x3 : S208x1024.Idx → EReal} {x4 : S208x3584.Idx → EReal} {x5 : S512x1024.Idx → EReal} {x6 x7 : S1024x1024.Idx → EReal}
    {x8 : S1x1024.Idx → EReal} (R : ∀ i, Row A g i (ρ i) x0 x1 x2 x3 x4 x5 x6 x7 x8)

include R

/-- The gain's gradient: the block's rows are added. -/
theorem dgf_at (acc : S1x1024.Idx → EReal) (j : Fin 1024) :
    (dgfB (F := Ideal) g x0 x1 x2 x3 x4 x5 x6 x7 x8 acc (ix2 0 j) : EReal)
      = acc (ix2 0 j) + ∑ i, A.dy (ρ i) j * (A.h1 (ρ i) j * rowRstd (A.h1 (ρ i))) := by
  have hd := fun i => dy_at (R i) j
  have hh := fun i => hhat_at (R i) j
  unfold dgfB k0_pay29
  generalize k0_pay28 (F := Ideal) (errB (F := Ideal) g x0 x1 x2 x3 x4 x5 x6 x7 x8) = D at hd ⊢
  generalize hhatB (F := Ideal) x0 x2 x3 x4 x5 x6 x7 = H at hh ⊢
  change S208x1024.Idx → EReal at D
  change S208x1024.Idx → EReal at H
  pointwise
  simp only [hd, hh]

/-- The loss: the block's squared errors are added, weighted. -/
theorem loss_at (acc : S8x128.Idx → EReal) :
    (lossB (F := Ideal) g x0 x1 x2 x3 x4 x5 x6 x7 x8 acc (ix2 0 0) : EReal)
      = acc (ix2 0 0) + Ideal.ofBits .f32 0x3A000000#32 * ∑ i, ∑ j, A.err (ρ i) j * A.err (ρ i) j := by
  have he := fun i j => err_at (R i) j
  unfold lossB k0_pay27 k0_pay24 k0_pay25 k0_pay26
  change ∀ i j, (k0_pay23 (F := Ideal) g (mergedB x2 x3 x4 x5 x6) x0 x7 x8 x1 (ix2 i j) : EReal) = A.err (ρ i) j at he
  generalize k0_pay23 (F := Ideal) g (mergedB x2 x3 x4 x5 x6) x0 x7 x8 x1 = E at he ⊢
  change S208x1024.Idx → EReal at E
  pointwise
  simp only [he]
  exact congrArg (acc (ix2 0 0) + ·) (if_pos (by decide))

end

end Cert.Tail

end
-- ==== Proof.TailRead.lean ====
/-
  What the tail's kernel reads: the arrays at its entry, and the blocks of a point as rows of the arguments.
-/
module

public import proofs.«01_k».proof.Proof.TailBlock
public import Idealize.ShloMosaic.Lib.StableHlo.ReadAt

@[expose] public section

set_option maxRecDepth 16384

noncomputable section

namespace Cert.Tail

open Idealize.ShloMosaic Idealize.ShloMosaic.TcCoe Idealize.SL.Sem Cert.Kernel4Ideal Cert.Kernel4Ideal.Gen Cert.Reals

variable (m : (ℓ : Loc nD τ sig) → Buf (Elt Ideal) ℓ)

/-- The arguments' arrays by coordinates. -/
def args (x0 : (⟨3, ![1, 8320, 1024]⟩ : Shape).Idx → EReal) (x1 : (⟨3, ![1, 8192, 1024]⟩ : Shape).Idx → EReal)
    (x2 : (⟨3, ![1, 8320, 512]⟩ : Shape).Idx → EReal) (x3 : (⟨3, ![1, 8320, 1024]⟩ : Shape).Idx → EReal)
    (x4 : (⟨3, ![1, 8320, 3584]⟩ : Shape).Idx → EReal) (x5 : (⟨3, ![1, 512, 1024]⟩ : Shape).Idx → EReal)
    (x6 x7 : (⟨3, ![1, 1024, 1024]⟩ : Shape).Idx → EReal) (x8 : (⟨1, ![1024]⟩ : Shape).Idx → EReal) : Args where
  h r j := x0 (ix3 0 r j)
  t r j := x1 (ix3 0 r j)
  osb r j := x2 (ix3 0 r j)
  osw r j := x3 (ix3 0 r j)
  ga r j := x4 (ix3 0 r j)
  wsb k j := x5 (ix3 0 k j)
  wsw k j := x6 (ix3 0 k j)
  wo k j := x7 (ix3 0 k j)
  gf j := x8 (ix1 j)

/-- The kernel's arguments by their coordinates. -/
def kargs (c : Dev nD) : Args := args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8))

/-! ## What the region's arrays hold at its entry -/

theorem V_h (c : Dev nD) (i : Fin 8320) (j : Fin 1024) :
    (V m c main_v3 : S8320x1024.Idx → EReal) (ix2 i j) = (kargs m c).h i j := by
  unfold V V0
  after_reads_at
  rfl

theorem V_osb (c : Dev nD) (i : Fin 8320) (j : Fin 512) :
    (V m c main_v4 : S8320x512.Idx → EReal) (ix2 i j) = (kargs m c).osb i j := by
  unfold V V0
  after_reads_at
  rfl

theorem V_osw (c : Dev nD) (i : Fin 8320) (j : Fin 1024) :
    (V m c main_v5 : S8320x1024.Idx → EReal) (ix2 i j) = (kargs m c).osw i j := by
  unfold V V0
  after_reads_at
  rfl

theorem V_ga (c : Dev nD) (i : Fin 8320) (j : Fin 3584) :
    (V m c main_v6 : S8320x3584.Idx → EReal) (ix2 i j) = (kargs m c).ga i j := by
  unfold V V0
  after_reads_at
  rfl

theorem V_wsb (c : Dev nD) (i : Fin 512) (j : Fin 1024) :
    (V m c main_v8 : S512x1024.Idx → EReal) (ix2 i j) = (kargs m c).wsb i j := by
  unfold V V0
  after_reads_at
  rfl

theorem V_wsw (c : Dev nD) (i : Fin 1024) (j : Fin 1024) :
    (V m c main_v10 : S1024x1024.Idx → EReal) (ix2 i j) = (kargs m c).wsw i j := by
  unfold V V0
  after_reads_at
  rfl

theorem V_wo (c : Dev nD) (i : Fin 1024) (j : Fin 1024) :
    (V m c main_v12 : S1024x1024.Idx → EReal) (ix2 i j) = (kargs m c).wo i j := by
  unfold V V0
  after_reads_at
  rfl

theorem V_t (c : Dev nD) (i : Fin 8320) (hi : 128 ≤ i.val) (j : Fin 1024) :
    (V m c main_v2 : S8320x1024.Idx → EReal) (ix2 i j) = (kargs m c).t ⟨i.val - 128, by omega⟩ j := by
  have e : V m c main_v2 = (concatenate S8320x1024 0 [⟨S128x1024, (broadcastInDim S128x1024 ![] bcast_S_S128x1024 (constant (F := Ideal) S_ .f32 0x00000000#32) : FVec Ideal S128x1024 .f32)⟩,
     ⟨S8192x1024, (shapeCast S8192x1024 (m ((c.tc : Thread nD τ).loc main_arg1) : FVec Ideal S1x8192x1024 .f32) shapeCasts_S1x8192x1024_S8192x1024 : FVec Ideal S8192x1024 .f32)⟩] concatenates_S128x1024_S8192x1024_S8320x1024_d0 : FVec Ideal S8320x1024 .f32) := by
    unfold V V0
    simp only [List.flatten_cons, List.flatten_nil, List.append_nil, hostOps0]
    after_results_simp <;> (try dsimp only [Matrix.cons_val]) <;> (try after_results_simp) <;> rfl
  rw [e]
  unfold kargs
  clean_types
  generalize m (c.tc.loc main_arg1) = X
  change S1x8192x1024.Idx → EReal at X
  pointwise
  exact dif_neg (not_lt.mpr hi)

theorem V_gf (c : Dev nD) (j : Fin 1024) : (V m c main_v13 : S1x1024.Idx → EReal) (ix2 0 j) = (kargs m c).gf j := by
  unfold V V0
  after_reads_at
  rfl

/-! ## The blocks of the windows -/

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = t.val ∧ win0_9.index t (1 : Fin 2) = 0 := by decide +kernel
theorem idx10 : ∀ t : Fin grid0.N, win0_10.index t (0 : Fin 2) = t.val ∧ win0_10.index t (1 : Fin 2) = 0 := by decide +kernel
theorem idx11 : ∀ t : Fin grid0.N, win0_11.index t (0 : Fin 2) = t.val ∧ win0_11.index t (1 : Fin 2) = 0 := by decide +kernel
theorem idx12 : ∀ t : Fin grid0.N, win0_12.index t (0 : Fin 2) = t.val ∧ win0_12.index t (1 : Fin 2) = 0 := by decide +kernel
theorem idx13 : ∀ t : Fin grid0.N, win0_13.index t (0 : Fin 2) = t.val ∧ win0_13.index t (1 : Fin 2) = 0 := by decide +kernel
theorem idx14 : ∀ t : Fin grid0.N, win0_14.index t (0 : Fin 2) = t.val ∧ win0_14.index t (1 : Fin 2) = 0 := by decide +kernel
theorem idx15 : ∀ t : Fin grid0.N, win0_15.index t (0 : Fin 2) = t.val ∧ win0_15.index t (1 : Fin 2) = 0 := by decide +kernel
theorem idx16 : ∀ t : Fin grid0.N, win0_16.index t (0 : Fin 2) = t.val ∧ win0_16.index t (1 : Fin 2) = 0 := by decide +kernel
theorem idx17 : ∀ t : Fin grid0.N, win0_17.index t (0 : Fin 2) = t.val ∧ win0_17.index t (1 : Fin 2) = 0 := by decide +kernel
theorem idx18 : ∀ t : Fin grid0.N, win0_18.index t (0 : Fin 2) = t.val ∧ win0_18.index t (1 : Fin 2) = 0 := by decide +kernel
theorem idx19 : ∀ t : Fin grid0.N, win0_19.index t (0 : Fin 2) = 0 ∧ win0_19.index t (1 : Fin 2) = 0 := by decide +kernel
theorem idx20 : ∀ t : Fin grid0.N, win0_20.index t (0 : Fin 2) = 0 ∧ win0_20.index t (1 : Fin 2) = 0 := by decide +kernel

theorem blk0 (c : Dev nD) (t : Fin cfg0.N) (i : Fin 208) (j : Fin 1024) (r : Fin 8320) (hr : r.val = t.val * 208 + i.val) :
    (iblk m c 0 t : S208x1024.Idx → EReal) (ix2 i j) = (kargs m c).h r j := by
  refine Eq.trans ?_ (V_h m c r j)
  unfold iblk
  rw [View.read_apply]
  show V m c main_v3 _ = _
  refine congrArg _ (funext fun a => Fin.ext ?_)
  match a with
  | ⟨0, _⟩ => show win0_0.index t (0 : Fin 2) * 208 + 1 * i.val = r.val; have := (idx0 t).1; omega
  | ⟨1, _⟩ => show win0_0.index t (1 : Fin 2) * 1024 + 1 * j.val = j.val; have := (idx0 t).2; omega

theorem blk2 (c : Dev nD) (t : Fin cfg0.N) (i : Fin 208) (j : Fin 512) (r : Fin 8320) (hr : r.val = t.val * 208 + i.val) :
    (iblk m c 2 t : S208x512.Idx → EReal) (ix2 i j) = (kargs m c).osb r j := by
  refine Eq.trans ?_ (V_osb m c r j)
  unfold iblk
  rw [View.read_apply]
  show V m c main_v4 _ = _
  refine congrArg _ (funext fun a => Fin.ext ?_)
  match a with
  | ⟨0, _⟩ => show win0_2.index t (0 : Fin 2) * 208 + 1 * i.val = r.val; have := (idx2 t).1; omega
  | ⟨1, _⟩ => show win0_2.index t (1 : Fin 2) * 512 + 1 * j.val = j.val; have := (idx2 t).2; omega

theorem blk3 (c : Dev nD) (t : Fin cfg0.N) (i : Fin 208) (j : Fin 1024) (r : Fin 8320) (hr : r.val = t.val * 208 + i.val) :
    (iblk m c 3 t : S208x1024.Idx → EReal) (ix2 i j) = (kargs m c).osw r j := by
  refine Eq.trans ?_ (V_osw m c r j)
  unfold iblk
  rw [View.read_apply]
  show V m c main_v5 _ = _
  refine congrArg _ (funext fun a => Fin.ext ?_)
  match a with
  | ⟨0, _⟩ => show win0_3.index t (0 : Fin 2) * 208 + 1 * i.val = r.val; have := (idx3 t).1; omega
  | ⟨1, _⟩ => show win0_3.index t (1 : Fin 2) * 1024 + 1 * j.val = j.val; have := (idx3 t).2; omega

theorem blk4 (c : Dev nD) (t : Fin cfg0.N) (i : Fin 208) (j : Fin 3584) (r : Fin 8320) (hr : r.val = t.val * 208 + i.val) :
    (iblk m c 4 t : S208x3584.Idx → EReal) (ix2 i j) = (kargs m c).ga r j := by
  refine Eq.trans ?_ (V_ga m c r j)
  unfold iblk
  rw [View.read_apply]
  show V m c main_v6 _ = _
  refine congrArg _ (funext fun a => Fin.ext ?_)
  match a with
  | ⟨0, _⟩ => show win0_4.index t (0 : Fin 2) * 208 + 1 * i.val = r.val; have := (idx4 t).1; omega
  | ⟨1, _⟩ => show win0_4.index t (1 : Fin 2) * 3584 + 1 * j.val = j.val; have := (idx4 t).2; omega

theorem blk5 (c : Dev nD) (t : Fin cfg0.N) (i : Fin 512) (j : Fin 1024) :
    (iblk m c 5 t : S512x1024.Idx → EReal) (ix2 i j) = (kargs m c).wsb i j := by
  refine Eq.trans ?_ (V_wsb m c i j)
  unfold iblk
  rw [View.read_apply]
  show V m c main_v8 _ = _
  refine congrArg _ (funext fun a => Fin.ext ?_)
  match a with
  | ⟨0, _⟩ => show win0_5.index t (0 : Fin 2) * 512 + 1 * i.val = i.val; have := (idx5 t).1; omega
  | ⟨1, _⟩ => show win0_5.index t (1 : Fin 2) * 1024 + 1 * j.val = j.val; have := (idx5 t).2; omega

theorem blk6 (c : Dev nD) (t : Fin cfg0.N) (i : Fin 1024) (j : Fin 1024) :
    (iblk m c 6 t : S1024x1024.Idx → EReal) (ix2 i j) = (kargs m c).wsw i j := by
  refine Eq.trans ?_ (V_wsw m c i j)
  unfold iblk
  rw [View.read_apply]
  show V m c main_v10 _ = _
  refine congrArg _ (funext fun a => Fin.ext ?_)
  match a with
  | ⟨0, _⟩ => show win0_6.index t (0 : Fin 2) * 1024 + 1 * i.val = i.val; have := (idx6 t).1; omega
  | ⟨1, _⟩ => show win0_6.index t (1 : Fin 2) * 1024 + 1 * j.val = j.val; have := (idx6 t).2; omega

theorem blk7 (c : Dev nD) (t : Fin cfg0.N) (i : Fin 1024) (j : Fin 1024) :
    (iblk m c 7 t : S1024x1024.Idx → EReal) (ix2 i j) = (kargs m c).wo i j := by
  refine Eq.trans ?_ (V_wo m c i j)
  unfold iblk
  rw [View.read_apply]
  show V m c main_v12 _ = _
  refine congrArg _ (funext fun a => Fin.ext ?_)
  match a with
  | ⟨0, _⟩ => show win0_7.index t (0 : Fin 2) * 1024 + 1 * i.val = i.val; have := (idx7 t).1; omega
  | ⟨1, _⟩ => show win0_7.index t (1 : Fin 2) * 1024 + 1 * j.val = j.val; have := (idx7 t).2; omega

theorem blk1 (c : Dev nD) (t : Fin cfg0.N) (i : Fin 208) (j : Fin 1024) (r : Fin 8320) (hr : r.val = t.val * 208 + i.val) (h : 128 ≤ r.val) :
    (iblk m c 1 t : S208x1024.Idx → EReal) (ix2 i j) = (kargs m c).t ⟨r.val - 128, by omega⟩ j := by
  refine Eq.trans ?_ (V_t m c r h j)
  unfold iblk
  rw [View.read_apply]
  show V m c main_v2 _ = _
  refine congrArg _ (funext fun a => Fin.ext ?_)
  match a with
  | ⟨0, _⟩ => show win0_1.index t (0 : Fin 2) * 208 + 1 * i.val = r.val; have := (idx1 t).1; omega
  | ⟨1, _⟩ => show win0_1.index t (1 : Fin 2) * 1024 + 1 * j.val = j.val; have := (idx1 t).2; omega

theorem blk8 (c : Dev nD) (t : Fin cfg0.N) (j : Fin 1024) : (iblk m c 8 t : S1x1024.Idx → EReal) (ix2 0 j) = (kargs m c).gf j := by
  refine Eq.trans ?_ (V_gf m c j)
  unfold iblk
  rw [View.read_apply]
  show V m c main_v13 _ = _
  refine congrArg _ (funext fun a => Fin.ext ?_)
  match a with
  | ⟨0, _⟩ => show win0_8.index t (0 : Fin 2) * 1 + 1 * 0 = 0; have := (idx8 t).1; omega
  | ⟨1, _⟩ => show win0_8.index t (1 : Fin 2) * 1024 + 1 * j.val = j.val; have := (idx8 t).2; omega

/-- The row test of the kernel on its words. -/
theorem test_at : ∀ (t : Fin 40) (i : Fin 208), IntOp.cmpi .sge (IntOp.addi (Scalar.muli (BitVec.ofNat 32 t.val) 208#32) (BitVec.ofNat 32 i.val)) 128#32
    = if 128 ≤ t.val * 208 + i.val then 1#1 else 0#1 := by decide +kernel

theorem coord_at : ∀ t : Fin grid0.N, (grid0.coords t 0).val = t.val := by decide +kernel

/-- The row of the arguments that row `i` of point `t`'s blocks is. -/
def rowOf (t : Fin cfg0.N) (i : Fin 208) : Fin 8320 :=
  ⟨t.val * 208 + i.val, by have : t.val < 40 := lt_of_lt_of_eq t.isLt (show cfg0.N = 40 from N_0); omega⟩

/-- The blocks of a point hold the rows of its row block. -/
theorem row_blocks (c : Dev nD) (t : Fin cfg0.N) (i : Fin 208) :
    Row (kargs m c) (BitVec.ofNat 32 (grid0.coords t 0).val) i (rowOf t i) (iblk m c 0 t) (iblk m c 1 t) (iblk m c 2 t) (iblk m c 3 t)
      (iblk m c 4 t) (iblk m c 5 t) (iblk m c 6 t) (iblk m c 7 t) (iblk m c 8 t) where
  g := by
    rw [coord_at t]
    exact test_at ⟨t.val, lt_of_lt_of_eq t.isLt (show cfg0.N = 40 from N_0)⟩ i
  h j := blk0 m c t i j _ rfl
  t hr j := blk1 m c t i j _ rfl hr
  osb j := blk2 m c t i j _ rfl
  osw j := blk3 m c t i j _ rfl
  ga j := blk4 m c t i j _ rfl
  wsb k j := blk5 m c t k j
  wsw k j := blk6 m c t k j
  wo k j := blk7 m c t k j
  gf j := blk8 m c t j

end Cert.Tail

end
-- ==== Proof.TailValue.lean ====
/-
  What the tail's kernel leaves in its twelve arrays, as the formulas of `TailForm`.
-/
module

public import proofs.«01_k».proof.Proof.TailRead

@[expose] public section

set_option maxRecDepth 16384

noncomputable section

namespace Cert.Tail

open Idealize.ShloMosaic Idealize.ShloMosaic.TcCoe Idealize.SL.Sem Cert.Kernel4Ideal Cert.Kernel4Ideal.Gen Cert.Reals

variable (m : (ℓ : Loc nD τ sig) → Buf (Elt Ideal) ℓ)

/-! ## The two sums over the points -/

/-- Row `n`'s part of the gain's gradient, and its squared errors. -/
def gainPart (A : Args) (j : Fin 1024) (n : ℕ) : EReal :=
  if h : n < 8320 then A.dy ⟨n, h⟩ j * (A.h1 ⟨n, h⟩ j * rowRstd (A.h1 ⟨n, h⟩)) else 0

def sqPart (A : Args) (n : ℕ) : EReal := if h : n < 8320 then ∑ j, A.err ⟨n, h⟩ j * A.err ⟨n, h⟩ j else 0

theorem gain_block (A : Args) (t : Fin cfg0.N) (j : Fin 1024) :
    (∑ i, A.dy (rowOf t i) j * (A.h1 (rowOf t i) j * rowRstd (A.h1 (rowOf t i)))) = ∑ i ∈ Finset.range 208, gainPart A j (t.val * 208 + i) := by
  rw [Finset.sum_range]
  refine Finset.sum_congr rfl fun i _ => ?_
  unfold gainPart
  rw [dif_pos (show t.val * 208 + i.val < 8320 from (rowOf t i).isLt)]
  rfl

theorem sq_block (A : Args) (t : Fin cfg0.N) :
    (∑ i, ∑ j, A.err (rowOf t i) j * A.err (rowOf t i) j) = ∑ i ∈ Finset.range 208, sqPart A (t.val * 208 + i) := by
  rw [Finset.sum_range]
  refine Finset.sum_congr rfl fun i _ => ?_
  unfold sqPart
  rw [dif_pos (show t.val * 208 + i.val < 8320 from (rowOf t i).isLt)]
  rfl

theorem pay2_at (j : Fin 1024) : k0_pay2 (F := Ideal) (ix2 0 j) = (0 : EReal) := by
  unfold k0_pay2
  pointwise

theorem pay3_at : k0_pay3 (F := Ideal) (ix2 0 0) = (0 : EReal) := by
  unfold k0_pay3
  pointwise

/-- The gain's gradient after point `n`. -/
theorem gain_upto (c : Dev nD) (j : Fin 1024) : ∀ (n : ℕ) (hn : n < cfg0.N),
    ((outsAt0 m c n hn).2.2.2.2.2.2.2.2.2.2.1 : S1x1024.Idx → EReal) (ix2 0 j)
      = ∑ b ∈ Finset.range (n + 1), ∑ i ∈ Finset.range 208, gainPart (kargs m c) j (b * 208 + i) := by
  intro n
  induction n with
  | zero =>
    intro hn
    refine (congrArg (fun v : S1x1024.Idx → EReal => v (ix2 0 j)) (sums_first m c hn).1).trans ?_
    refine (dgf_at (row_blocks m c ⟨0, hn⟩) _ j).trans ?_
    rw [pay2_at, zero_add, gain_block, Finset.sum_range_one]
  | succ n ih =>
    intro hn
    have hN : n + 1 < 40 := lt_of_lt_of_eq hn (show cfg0.N = 40 from N_0)
    refine (congrArg (fun v : S1x1024.Idx → EReal => v (ix2 0 j)) (sums_later m c ⟨n + 1, hn⟩ (by show ¬(n + 1) % 40 = 0; omega)).1).trans ?_
    refine (dgf_at (row_blocks m c ⟨n + 1, hn⟩) _ j).trans ?_
    rw [gain_block, Finset.sum_range_succ _ (n + 1)]
    exact congrArg₂ (· + ·) (ih (Nat.lt_of_succ_lt hn)) rfl

/-- The loss after point `n`. -/
theorem loss_upto (c : Dev nD) : ∀ (n : ℕ) (hn : n < cfg0.N),
    ((outsAt0 m c n hn).2.2.2.2.2.2.2.2.2.2.2 : S8x128.Idx → EReal) (ix2 0 0)
      = ∑ b ∈ Finset.range (n + 1), Ideal.ofBits .f32 0x3A000000#32 * ∑ i ∈ Finset.range 208, sqPart (kargs m c) (b * 208 + i) := by
  intro n
  induction n with
  | zero =>
    intro hn
    refine (congrArg (fun v : S8x128.Idx → EReal => v (ix2 0 0)) (sums_first m c hn).2).trans ?_
    refine (loss_at (row_blocks m c ⟨0, hn⟩) _).trans ?_
    rw [pay3_at, zero_add, sq_block, Finset.sum_range_one]
  | succ n ih =>
    intro hn
    have hN : n + 1 < 40 := lt_of_lt_of_eq hn (show cfg0.N = 40 from N_0)
    refine (congrArg (fun v : S8x128.Idx → EReal => v (ix2 0 0)) (sums_later m c ⟨n + 1, hn⟩ (by show ¬(n + 1) % 40 = 0; omega)).2).trans ?_
    refine (loss_at (row_blocks m c ⟨n + 1, hn⟩) _).trans ?_
    rw [sq_block, Finset.sum_range_succ _ (n + 1)]
    exact congrArg₂ (· + ·) (ih (Nat.lt_of_succ_lt hn)) rfl

/-! ## The arrays after the run -/

/-- The array of window 9 after the run. -/
def dosbArr (c : Dev nD) : Buf (Elt Ideal) ((c : Thread nD τ).loc main_v14_0) :=
  fun i : S8320x512.Idx => (kargs m c).dosb (i 0) (i 1)

theorem mem9 (t : Fin cfg0.N) (i : S8320x512.Idx) :
    i ∈ ((cfg0.win 9).blk t).view.set ↔ ∀ a : Fin 2, win0_9.index t a * S208x512.size a ≤ (i a).val ∧ (i a).val < win0_9.index t a * S208x512.size a + S208x512.size a := by
  show i ∈ ((View.whole main_v14_0).slice (win0_9.rect t)).set ↔ _
  rw [View.set_slice_whole, Rect.mem_set_unit]
  exact Iff.rfl

theorem arr9 (c : Dev nD) : (dats m 0 c).arrAt 9 cfg0.N = dosbArr m c := by
  refine (dats m 0 c).arrAt_eq_of_cover 9 _ (fun t _ => ?_) (fun i => ?_)
  · show (cfg0.win 9).cut (grid0.coords t) ((dats m 0 c).after 9 t) = _
    rw [after0_9]
    obtain ⟨e0, e1⟩ := idx9 t
    funext y
    rw [View.read_apply]
    have hb0 : (((cfg0.win 9).blk t).view.emb y 0 : Fin 8320) = rowOf t ⟨(y 0).val, (y 0).isLt⟩ :=
      Fin.ext (by show win0_9.index t (0 : Fin 2) * 208 + 1 * (y 0).val = t.val * 208 + (y 0).val; rw [e0, Nat.one_mul])
    have hb1 : (((cfg0.win 9).blk t).view.emb y 1 : Fin 512) = ⟨(y 1).val, (y 1).isLt⟩ :=
      Fin.ext (by show win0_9.index t (1 : Fin 2) * 512 + 1 * (y 1).val = (y 1).val; rw [e1, Nat.zero_mul, Nat.zero_add, Nat.one_mul])
    show ((outsAt0 m c t.val t.isLt).1 : S208x512.Idx → EReal) ((cfg0.win 9).xinj (grid0.coords t) y) = (kargs m c).dosb _ _
    rw [hb0, hb1]
    have hy : (cfg0.win 9).xinj (grid0.coords t) y = (ix2 ⟨(y 0).val, (y 0).isLt⟩ ⟨(y 1).val, (y 1).isLt⟩ : S208x512.Idx) := by
      funext a
      match a with
      | ⟨0, _⟩ => rfl
      | ⟨1, _⟩ => rfl
    rw [hy]
    exact (congrArg (fun v : S208x512.Idx → EReal => v _) (rows_at m c t).1).trans (dosb_at (row_blocks m c t _) _)
  · have h0 : (i 0).val < 8320 := (i 0).isLt
    have h1 : (i 1).val < 512 := (i 1).isLt
    have hlt : (i 0).val / 208 < cfg0.N := lt_of_lt_of_eq (by omega) (show cfg0.N = 40 from N_0).symm
    obtain ⟨e0, e1⟩ := idx9 ⟨(i 0).val / 208, hlt⟩
    refine ⟨⟨(i 0).val / 208, hlt⟩, flush0_9 _, ?_⟩
    rw [mem9]
    intro a
    match a with
    | ⟨0, _⟩ => show win0_9.index _ (0 : Fin 2) * 208 ≤ (i 0).val ∧ (i 0).val < win0_9.index _ (0 : Fin 2) * 208 + 208; rw [e0]; show (i 0).val / 208 * 208 ≤ (i 0).val ∧ (i 0).val < (i 0).val / 208 * 208 + 208; omega
    | ⟨1, _⟩ => show win0_9.index _ (1 : Fin 2) * 512 ≤ (i 1).val ∧ (i 1).val < win0_9.index _ (1 : Fin 2) * 512 + 512; rw [e1]; omega

/-- The array of window 10 after the run. -/
def doswArr (c : Dev nD) : Buf (Elt Ideal) ((c : Thread nD τ).loc main_v14_1) :=
  fun i : S8320x1024.Idx => (kargs m c).dosw (i 0) (i 1)

theorem mem10 (t : Fin cfg0.N) (i : S8320x1024.Idx) :
    i ∈ ((cfg0.win 10).blk t).view.set ↔ ∀ a : Fin 2, win0_10.index t a * S208x1024.size a ≤ (i a).val ∧ (i a).val < win0_10.index t a * S208x1024.size a + S208x1024.size a := by
  show i ∈ ((View.whole main_v14_1).slice (win0_10.rect t)).set ↔ _
  rw [View.set_slice_whole, Rect.mem_set_unit]
  exact Iff.rfl

theorem arr10 (c : Dev nD) : (dats m 0 c).arrAt 10 cfg0.N = doswArr m c := by
  refine (dats m 0 c).arrAt_eq_of_cover 10 _ (fun t _ => ?_) (fun i => ?_)
  · show (cfg0.win 10).cut (grid0.coords t) ((dats m 0 c).after 10 t) = _
    rw [after0_10]
    obtain ⟨e0, e1⟩ := idx10 t
    funext y
    rw [View.read_apply]
    have hb0 : (((cfg0.win 10).blk t).view.emb y 0 : Fin 8320) = rowOf t ⟨(y 0).val, (y 0).isLt⟩ :=
      Fin.ext (by show win0_10.index t (0 : Fin 2) * 208 + 1 * (y 0).val = t.val * 208 + (y 0).val; rw [e0, Nat.one_mul])
    have hb1 : (((cfg0.win 10).blk t).view.emb y 1 : Fin 1024) = ⟨(y 1).val, (y 1).isLt⟩ :=
      Fin.ext (by show win0_10.index t (1 : Fin 2) * 1024 + 1 * (y 1).val = (y 1).val; rw [e1, Nat.zero_mul, Nat.zero_add, Nat.one_mul])
    show ((outsAt0 m c t.val t.isLt).2.1 : S208x1024.Idx → EReal) ((cfg0.win 10).xinj (grid0.coords t) y) = (kargs m c).dosw _ _
    rw [hb0, hb1]
    have hy : (cfg0.win 10).xinj (grid0.coords t) y = (ix2 ⟨(y 0).val, (y 0).isLt⟩ ⟨(y 1).val, (y 1).isLt⟩ : S208x1024.Idx) := by
      funext a
      match a with
      | ⟨0, _⟩ => rfl
      | ⟨1, _⟩ => rfl
    rw [hy]
    exact (congrArg (fun v : S208x1024.Idx → EReal => v _) (rows_at m c t).2.1).trans (dosw_at (row_blocks m c t _) _)
  · have h0 : (i 0).val < 8320 := (i 0).isLt
    have h1 : (i 1).val < 1024 := (i 1).isLt
    have hlt : (i 0).val / 208 < cfg0.N := lt_of_lt_of_eq (by omega) (show cfg0.N = 40 from N_0).symm
    obtain ⟨e0, e1⟩ := idx10 ⟨(i 0).val / 208, hlt⟩
    refine ⟨⟨(i 0).val / 208, hlt⟩, flush0_10 _, ?_⟩
    rw [mem10]
    intro a
    match a with
    | ⟨0, _⟩ => show win0_10.index _ (0 : Fin 2) * 208 ≤ (i 0).val ∧ (i 0).val < win0_10.index _ (0 : Fin 2) * 208 + 208; rw [e0]; show (i 0).val / 208 * 208 ≤ (i 0).val ∧ (i 0).val < (i 0).val / 208 * 208 + 208; omega
    | ⟨1, _⟩ => show win0_10.index _ (1 : Fin 2) * 1024 ≤ (i 1).val ∧ (i 1).val < win0_10.index _ (1 : Fin 2) * 1024 + 1024; rw [e1]; omega

/-- The array of window 11 after the run. -/
def dgaArr (c : Dev nD) : Buf (Elt Ideal) ((c : Thread nD τ).loc main_v14_2) :=
  fun i : S8320x3584.Idx => (kargs m c).dga (i 0) (i 1)

theorem mem11 (t : Fin cfg0.N) (i : S8320x3584.Idx) :
    i ∈ ((cfg0.win 11).blk t).view.set ↔ ∀ a : Fin 2, win0_11.index t a * S208x3584.size a ≤ (i a).val ∧ (i a).val < win0_11.index t a * S208x3584.size a + S208x3584.size a := by
  show i ∈ ((View.whole main_v14_2).slice (win0_11.rect t)).set ↔ _
  rw [View.set_slice_whole, Rect.mem_set_unit]
  exact Iff.rfl

theorem arr11 (c : Dev nD) : (dats m 0 c).arrAt 11 cfg0.N = dgaArr m c := by
  refine (dats m 0 c).arrAt_eq_of_cover 11 _ (fun t _ => ?_) (fun i => ?_)
  · show (cfg0.win 11).cut (grid0.coords t) ((dats m 0 c).after 11 t) = _
    rw [after0_11]
    obtain ⟨e0, e1⟩ := idx11 t
    funext y
    rw [View.read_apply]
    have hb0 : (((cfg0.win 11).blk t).view.emb y 0 : Fin 8320) = rowOf t ⟨(y 0).val, (y 0).isLt⟩ :=
      Fin.ext (by show win0_11.index t (0 : Fin 2) * 208 + 1 * (y 0).val = t.val * 208 + (y 0).val; rw [e0, Nat.one_mul])
    have hb1 : (((cfg0.win 11).blk t).view.emb y 1 : Fin 3584) = ⟨(y 1).val, (y 1).isLt⟩ :=
      Fin.ext (by show win0_11.index t (1 : Fin 2) * 3584 + 1 * (y 1).val = (y 1).val; rw [e1, Nat.zero_mul, Nat.zero_add, Nat.one_mul])
    show ((outsAt0 m c t.val t.isLt).2.2.1 : S208x3584.Idx → EReal) ((cfg0.win 11).xinj (grid0.coords t) y) = (kargs m c).dga _ _
    rw [hb0, hb1]
    have hy : (cfg0.win 11).xinj (grid0.coords t) y = (ix2 ⟨(y 0).val, (y 0).isLt⟩ ⟨(y 1).val, (y 1).isLt⟩ : S208x3584.Idx) := by
      funext a
      match a with
      | ⟨0, _⟩ => rfl
      | ⟨1, _⟩ => rfl
    rw [hy]
    exact (congrArg (fun v : S208x3584.Idx → EReal => v _) (rows_at m c t).2.2.1).trans (dg_at (row_blocks m c t _) _)
  · have h0 : (i 0).val < 8320 := (i 0).isLt
    have h1 : (i 1).val < 3584 := (i 1).isLt
    have hlt : (i 0).val / 208 < cfg0.N := lt_of_lt_of_eq (by omega) (show cfg0.N = 40 from N_0).symm
    obtain ⟨e0, e1⟩ := idx11 ⟨(i 0).val / 208, hlt⟩
    refine ⟨⟨(i 0).val / 208, hlt⟩, flush0_11 _, ?_⟩
    rw [mem11]
    intro a
    match a with
    | ⟨0, _⟩ => show win0_11.index _ (0 : Fin 2) * 208 ≤ (i 0).val ∧ (i 0).val < win0_11.index _ (0 : Fin 2) * 208 + 208; rw [e0]; show (i 0).val / 208 * 208 ≤ (i 0).val ∧ (i 0).val < (i 0).val / 208 * 208 + 208; omega
    | ⟨1, _⟩ => show win0_11.index _ (1 : Fin 2) * 3584 ≤ (i 1).val ∧ (i 1).val < win0_11.index _ (1 : Fin 2) * 3584 + 3584; rw [e1]; omega

/-- The array of window 12 after the run. -/
def dh1Arr (c : Dev nD) : Buf (Elt Ideal) ((c : Thread nD τ).loc main_v14_3) :=
  fun i : S8320x1024.Idx => (kargs m c).dh1 (i 0) (i 1)

theorem mem12 (t : Fin cfg0.N) (i : S8320x1024.Idx) :
    i ∈ ((cfg0.win 12).blk t).view.set ↔ ∀ a : Fin 2, win0_12.index t a * S208x1024.size a ≤ (i a).val ∧ (i a).val < win0_12.index t a * S208x1024.size a + S208x1024.size a := by
  show i ∈ ((View.whole main_v14_3).slice (win0_12.rect t)).set ↔ _
  rw [View.set_slice_whole, Rect.mem_set_unit]
  exact Iff.rfl

theorem arr12 (c : Dev nD) : (dats m 0 c).arrAt 12 cfg0.N = dh1Arr m c := by
  refine (dats m 0 c).arrAt_eq_of_cover 12 _ (fun t _ => ?_) (fun i => ?_)
  · show (cfg0.win 12).cut (grid0.coords t) ((dats m 0 c).after 12 t) = _
    rw [after0_12]
    obtain ⟨e0, e1⟩ := idx12 t
    funext y
    rw [View.read_apply]
    have hb0 : (((cfg0.win 12).blk t).view.emb y 0 : Fin 8320) = rowOf t ⟨(y 0).val, (y 0).isLt⟩ :=
      Fin.ext (by show win0_12.index t (0 : Fin 2) * 208 + 1 * (y 0).val = t.val * 208 + (y 0).val; rw [e0, Nat.one_mul])
    have hb1 : (((cfg0.win 12).blk t).view.emb y 1 : Fin 1024) = ⟨(y 1).val, (y 1).isLt⟩ :=
      Fin.ext (by show win0_12.index t (1 : Fin 2) * 1024 + 1 * (y 1).val = (y 1).val; rw [e1, Nat.zero_mul, Nat.zero_add, Nat.one_mul])
    show ((outsAt0 m c t.val t.isLt).2.2.2.1 : S208x1024.Idx → EReal) ((cfg0.win 12).xinj (grid0.coords t) y) = (kargs m c).dh1 _ _
    rw [hb0, hb1]
    have hy : (cfg0.win 12).xinj (grid0.coords t) y = (ix2 ⟨(y 0).val, (y 0).isLt⟩ ⟨(y 1).val, (y 1).isLt⟩ : S208x1024.Idx) := by
      funext a
      match a with
      | ⟨0, _⟩ => rfl
      | ⟨1, _⟩ => rfl
    rw [hy]
    exact (congrArg (fun v : S208x1024.Idx → EReal => v _) (rows_at m c t).2.2.2.1).trans (dh1_at (row_blocks m c t _) _)
  · have h0 : (i 0).val < 8320 := (i 0).isLt
    have h1 : (i 1).val < 1024 := (i 1).isLt
    have hlt : (i 0).val / 208 < cfg0.N := lt_of_lt_of_eq (by omega) (show cfg0.N = 40 from N_0).symm
    obtain ⟨e0, e1⟩ := idx12 ⟨(i 0).val / 208, hlt⟩
    refine ⟨⟨(i 0).val / 208, hlt⟩, flush0_12 _, ?_⟩
    rw [mem12]
    intro a
    match a with
    | ⟨0, _⟩ => show win0_12.index _ (0 : Fin 2) * 208 ≤ (i 0).val ∧ (i 0).val < win0_12.index _ (0 : Fin 2) * 208 + 208; rw [e0]; show (i 0).val / 208 * 208 ≤ (i 0).val ∧ (i 0).val < (i 0).val / 208 * 208 + 208; omega
    | ⟨1, _⟩ => show win0_12.index _ (1 : Fin 2) * 1024 ≤ (i 1).val ∧ (i 1).val < win0_12.index _ (1 : Fin 2) * 1024 + 1024; rw [e1]; omega

/-- The array of window 13 after the run. -/
def mgArr (c : Dev nD) : Buf (Elt Ideal) ((c : Thread nD τ).loc main_v14_4) :=
  fun i : S8320x1024.Idx => (kargs m c).mg (i 0) (i 1)

theorem mem13 (t : Fin cfg0.N) (i : S8320x1024.Idx) :
    i ∈ ((cfg0.win 13).blk t).view.set ↔ ∀ a : Fin 2, win0_13.index t a * S208x1024.size a ≤ (i a).val ∧ (i a).val < win0_13.index t a * S208x1024.size a + S208x1024.size a := by
  show i ∈ ((View.whole main_v14_4).slice (win0_13.rect t)).set ↔ _
  rw [View.set_slice_whole, Rect.mem_set_unit]
  exact Iff.rfl

theorem arr13 (c : Dev nD) : (dats m 0 c).arrAt 13 cfg0.N = mgArr m c := by
  refine (dats m 0 c).arrAt_eq_of_cover 13 _ (fun t _ => ?_) (fun i => ?_)
  · show (cfg0.win 13).cut (grid0.coords t) ((dats m 0 c).after 13 t) = _
    rw [after0_13]
    obtain ⟨e0, e1⟩ := idx13 t
    funext y
    rw [View.read_apply]
    have hb0 : (((cfg0.win 13).blk t).view.emb y 0 : Fin 8320) = rowOf t ⟨(y 0).val, (y 0).isLt⟩ :=
      Fin.ext (by show win0_13.index t (0 : Fin 2) * 208 + 1 * (y 0).val = t.val * 208 + (y 0).val; rw [e0, Nat.one_mul])
    have hb1 : (((cfg0.win 13).blk t).view.emb y 1 : Fin 1024) = ⟨(y 1).val, (y 1).isLt⟩ :=
      Fin.ext (by show win0_13.index t (1 : Fin 2) * 1024 + 1 * (y 1).val = (y 1).val; rw [e1, Nat.zero_mul, Nat.zero_add, Nat.one_mul])
    show ((outsAt0 m c t.val t.isLt).2.2.2.2.1 : S208x1024.Idx → EReal) ((cfg0.win 13).xinj (grid0.coords t) y) = (kargs m c).mg _ _
    rw [hb0, hb1]
    have hy : (cfg0.win 13).xinj (grid0.coords t) y = (ix2 ⟨(y 0).val, (y 0).isLt⟩ ⟨(y 1).val, (y 1).isLt⟩ : S208x1024.Idx) := by
      funext a
      match a with
      | ⟨0, _⟩ => rfl
      | ⟨1, _⟩ => rfl
    rw [hy]
    exact (congrArg (fun v : S208x1024.Idx → EReal => v _) (rows_at m c t).2.2.2.2.1).trans (merged_at (row_blocks m c t _) _)
  · have h0 : (i 0).val < 8320 := (i 0).isLt
    have h1 : (i 1).val < 1024 := (i 1).isLt
    have hlt : (i 0).val / 208 < cfg0.N := lt_of_lt_of_eq (by omega) (show cfg0.N = 40 from N_0).symm
    obtain ⟨e0, e1⟩ := idx13 ⟨(i 0).val / 208, hlt⟩
    refine ⟨⟨(i 0).val / 208, hlt⟩, flush0_13 _, ?_⟩
    rw [mem13]
    intro a
    match a with
    | ⟨0, _⟩ => show win0_13.index _ (0 : Fin 2) * 208 ≤ (i 0).val ∧ (i 0).val < win0_13.index _ (0 : Fin 2) * 208 + 208; rw [e0]; show (i 0).val / 208 * 208 ≤ (i 0).val ∧ (i 0).val < (i 0).val / 208 * 208 + 208; omega
    | ⟨1, _⟩ => show win0_13.index _ (1 : Fin 2) * 1024 ≤ (i 1).val ∧ (i 1).val < win0_13.index _ (1 : Fin 2) * 1024 + 1024; rw [e1]; omega

/-- The array of window 14 after the run. -/
def usbArr (c : Dev nD) : Buf (Elt Ideal) ((c : Thread nD τ).loc main_v14_5) :=
  fun i : S8320x512.Idx => (kargs m c).usb (i 0) (i 1)

theorem mem14 (t : Fin cfg0.N) (i : S8320x512.Idx) :
    i ∈ ((cfg0.win 14).blk t).view.set ↔ ∀ a : Fin 2, win0_14.index t a * S208x512.size a ≤ (i a).val ∧ (i a).val < win0_14.index t a * S208x512.size a + S208x512.size a := by
  show i ∈ ((View.whole main_v14_5).slice (win0_14.rect t)).set ↔ _
  rw [View.set_slice_whole, Rect.mem_set_unit]
  exact Iff.rfl

theorem arr14 (c : Dev nD) : (dats m 0 c).arrAt 14 cfg0.N = usbArr m c := by
  refine (dats m 0 c).arrAt_eq_of_cover 14 _ (fun t _ => ?_) (fun i => ?_)
  · show (cfg0.win 14).cut (grid0.coords t) ((dats m 0 c).after 14 t) = _
    rw [after0_14]
    obtain ⟨e0, e1⟩ := idx14 t
    funext y
    rw [View.read_apply]
    have hb0 : (((cfg0.win 14).blk t).view.emb y 0 : Fin 8320) = rowOf t ⟨(y 0).val, (y 0).isLt⟩ :=
      Fin.ext (by show win0_14.index t (0 : Fin 2) * 208 + 1 * (y 0).val = t.val * 208 + (y 0).val; rw [e0, Nat.one_mul])
    have hb1 : (((cfg0.win 14).blk t).view.emb y 1 : Fin 512) = ⟨(y 1).val, (y 1).isLt⟩ :=
      Fin.ext (by show win0_14.index t (1 : Fin 2) * 512 + 1 * (y 1).val = (y 1).val; rw [e1, Nat.zero_mul, Nat.zero_add, Nat.one_mul])
    show ((outsAt0 m c t.val t.isLt).2.2.2.2.2.1 : S208x512.Idx → EReal) ((cfg0.win 14).xinj (grid0.coords t) y) = (kargs m c).usb _ _
    rw [hb0, hb1]
    have hy : (cfg0.win 14).xinj (grid0.coords t) y = (ix2 ⟨(y 0).val, (y 0).isLt⟩ ⟨(y 1).val, (y 1).isLt⟩ : S208x512.Idx) := by
      funext a
      match a with
      | ⟨0, _⟩ => rfl
      | ⟨1, _⟩ => rfl
    rw [hy]
    exact (congrArg (fun v : S208x512.Idx → EReal => v _) (rows_at m c t).2.2.2.2.2.1).trans (usb_at (row_blocks m c t _) _)
  · have h0 : (i 0).val < 8320 := (i 0).isLt
    have h1 : (i 1).val < 512 := (i 1).isLt
    have hlt : (i 0).val / 208 < cfg0.N := lt_of_lt_of_eq (by omega) (show cfg0.N = 40 from N_0).symm
    obtain ⟨e0, e1⟩ := idx14 ⟨(i 0).val / 208, hlt⟩
    refine ⟨⟨(i 0).val / 208, hlt⟩, flush0_14 _, ?_⟩
    rw [mem14]
    intro a
    match a with
    | ⟨0, _⟩ => show win0_14.index _ (0 : Fin 2) * 208 ≤ (i 0).val ∧ (i 0).val < win0_14.index _ (0 : Fin 2) * 208 + 208; rw [e0]; show (i 0).val / 208 * 208 ≤ (i 0).val ∧ (i 0).val < (i 0).val / 208 * 208 + 208; omega
    | ⟨1, _⟩ => show win0_14.index _ (1 : Fin 2) * 512 ≤ (i 1).val ∧ (i 1).val < win0_14.index _ (1 : Fin 2) * 512 + 512; rw [e1]; omega

/-- The array of window 15 after the run. -/
def uswArr (c : Dev nD) : Buf (Elt Ideal) ((c : Thread nD τ).loc main_v14_6) :=
  fun i : S8320x1024.Idx => (kargs m c).usw (i 0) (i 1)

theorem mem15 (t : Fin cfg0.N) (i : S8320x1024.Idx) :
    i ∈ ((cfg0.win 15).blk t).view.set ↔ ∀ a : Fin 2, win0_15.index t a * S208x1024.size a ≤ (i a).val ∧ (i a).val < win0_15.index t a * S208x1024.size a + S208x1024.size a := by
  show i ∈ ((View.whole main_v14_6).slice (win0_15.rect t)).set ↔ _
  rw [View.set_slice_whole, Rect.mem_set_unit]
  exact Iff.rfl

theorem arr15 (c : Dev nD) : (dats m 0 c).arrAt 15 cfg0.N = uswArr m c := by
  refine (dats m 0 c).arrAt_eq_of_cover 15 _ (fun t _ => ?_) (fun i => ?_)
  · show (cfg0.win 15).cut (grid0.coords t) ((dats m 0 c).after 15 t) = _
    rw [after0_15]
    obtain ⟨e0, e1⟩ := idx15 t
    funext y
    rw [View.read_apply]
    have hb0 : (((cfg0.win 15).blk t).view.emb y 0 : Fin 8320) = rowOf t ⟨(y 0).val, (y 0).isLt⟩ :=
      Fin.ext (by show win0_15.index t (0 : Fin 2) * 208 + 1 * (y 0).val = t.val * 208 + (y 0).val; rw [e0, Nat.one_mul])
    have hb1 : (((cfg0.win 15).blk t).view.emb y 1 : Fin 1024) = ⟨(y 1).val, (y 1).isLt⟩ :=
      Fin.ext (by show win0_15.index t (1 : Fin 2) * 1024 + 1 * (y 1).val = (y 1).val; rw [e1, Nat.zero_mul, Nat.zero_add, Nat.one_mul])
    show ((outsAt0 m c t.val t.isLt).2.2.2.2.2.2.1 : S208x1024.Idx → EReal) ((cfg0.win 15).xinj (grid0.coords t) y) = (kargs m c).usw _ _
    rw [hb0, hb1]
    have hy : (cfg0.win 15).xinj (grid0.coords t) y = (ix2 ⟨(y 0).val, (y 0).isLt⟩ ⟨(y 1).val, (y 1).isLt⟩ : S208x1024.Idx) := by
      funext a
      match a with
      | ⟨0, _⟩ => rfl
      | ⟨1, _⟩ => rfl
    rw [hy]
    exact (congrArg (fun v : S208x1024.Idx → EReal => v _) (rows_at m c t).2.2.2.2.2.2.1).trans (usw_at (row_blocks m c t _) _)
  · have h0 : (i 0).val < 8320 := (i 0).isLt
    have h1 : (i 1).val < 1024 := (i 1).isLt
    have hlt : (i 0).val / 208 < cfg0.N := lt_of_lt_of_eq (by omega) (show cfg0.N = 40 from N_0).symm
    obtain ⟨e0, e1⟩ := idx15 ⟨(i 0).val / 208, hlt⟩
    refine ⟨⟨(i 0).val / 208, hlt⟩, flush0_15 _, ?_⟩
    rw [mem15]
    intro a
    match a with
    | ⟨0, _⟩ => show win0_15.index _ (0 : Fin 2) * 208 ≤ (i 0).val ∧ (i 0).val < win0_15.index _ (0 : Fin 2) * 208 + 208; rw [e0]; show (i 0).val / 208 * 208 ≤ (i 0).val ∧ (i 0).val < (i 0).val / 208 * 208 + 208; omega
    | ⟨1, _⟩ => show win0_15.index _ (1 : Fin 2) * 1024 ≤ (i 1).val ∧ (i 1).val < win0_15.index _ (1 : Fin 2) * 1024 + 1024; rw [e1]; omega

/-- The array of window 16 after the run. -/
def dh1bArr (c : Dev nD) : Buf (Elt Ideal) ((c : Thread nD τ).loc main_v14_7) :=
  fun i : S8320x1024.Idx => (kargs m c).dh1 (i 0) (i 1)

theorem mem16 (t : Fin cfg0.N) (i : S8320x1024.Idx) :
    i ∈ ((cfg0.win 16).blk t).view.set ↔ ∀ a : Fin 2, win0_16.index t a * S208x1024.size a ≤ (i a).val ∧ (i a).val < win0_16.index t a * S208x1024.size a + S208x1024.size a := by
  show i ∈ ((View.whole main_v14_7).slice (win0_16.rect t)).set ↔ _
  rw [View.set_slice_whole, Rect.mem_set_unit]
  exact Iff.rfl

theorem arr16 (c : Dev nD) : (dats m 0 c).arrAt 16 cfg0.N = dh1bArr m c := by
  refine (dats m 0 c).arrAt_eq_of_cover 16 _ (fun t _ => ?_) (fun i => ?_)
  · show (cfg0.win 16).cut (grid0.coords t) ((dats m 0 c).after 16 t) = _
    rw [after0_16]
    obtain ⟨e0, e1⟩ := idx16 t
    funext y
    rw [View.read_apply]
    have hb0 : (((cfg0.win 16).blk t).view.emb y 0 : Fin 8320) = rowOf t ⟨(y 0).val, (y 0).isLt⟩ :=
      Fin.ext (by show win0_16.index t (0 : Fin 2) * 208 + 1 * (y 0).val = t.val * 208 + (y 0).val; rw [e0, Nat.one_mul])
    have hb1 : (((cfg0.win 16).blk t).view.emb y 1 : Fin 1024) = ⟨(y 1).val, (y 1).isLt⟩ :=
      Fin.ext (by show win0_16.index t (1 : Fin 2) * 1024 + 1 * (y 1).val = (y 1).val; rw [e1, Nat.zero_mul, Nat.zero_add, Nat.one_mul])
    show ((outsAt0 m c t.val t.isLt).2.2.2.2.2.2.2.1 : S208x1024.Idx → EReal) ((cfg0.win 16).xinj (grid0.coords t) y) = (kargs m c).dh1 _ _
    rw [hb0, hb1]
    have hy : (cfg0.win 16).xinj (grid0.coords t) y = (ix2 ⟨(y 0).val, (y 0).isLt⟩ ⟨(y 1).val, (y 1).isLt⟩ : S208x1024.Idx) := by
      funext a
      match a with
      | ⟨0, _⟩ => rfl
      | ⟨1, _⟩ => rfl
    rw [hy]
    exact (congrArg (fun v : S208x1024.Idx → EReal => v _) (rows_at m c t).2.2.2.2.2.2.2.1).trans (dh1b_at (row_blocks m c t _) _)
  · have h0 : (i 0).val < 8320 := (i 0).isLt
    have h1 : (i 1).val < 1024 := (i 1).isLt
    have hlt : (i 0).val / 208 < cfg0.N := lt_of_lt_of_eq (by omega) (show cfg0.N = 40 from N_0).symm
    obtain ⟨e0, e1⟩ := idx16 ⟨(i 0).val / 208, hlt⟩
    refine ⟨⟨(i 0).val / 208, hlt⟩, flush0_16 _, ?_⟩
    rw [mem16]
    intro a
    match a with
    | ⟨0, _⟩ => show win0_16.index _ (0 : Fin 2) * 208 ≤ (i 0).val ∧ (i 0).val < win0_16.index _ (0 : Fin 2) * 208 + 208; rw [e0]; show (i 0).val / 208 * 208 ≤ (i 0).val ∧ (i 0).val < (i 0).val / 208 * 208 + 208; omega
    | ⟨1, _⟩ => show win0_16.index _ (1 : Fin 2) * 1024 ≤ (i 1).val ∧ (i 1).val < win0_16.index _ (1 : Fin 2) * 1024 + 1024; rw [e1]; omega

/-- The array of window 17 after the run. -/
def dysbArr (c : Dev nD) : Buf (Elt Ideal) ((c : Thread nD τ).loc main_v14_8) :=
  fun i : S8320x1024.Idx => (kargs m c).dysb (i 0) (i 1)

theorem mem17 (t : Fin cfg0.N) (i : S8320x1024.Idx) :
    i ∈ ((cfg0.win 17).blk t).view.set ↔ ∀ a : Fin 2, win0_17.index t a * S208x1024.size a ≤ (i a).val ∧ (i a).val < win0_17.index t a * S208x1024.size a + S208x1024.size a := by
  show i ∈ ((View.whole main_v14_8).slice (win0_17.rect t)).set ↔ _
  rw [View.set_slice_whole, Rect.mem_set_unit]
  exact Iff.rfl

theorem arr17 (c : Dev nD) : (dats m 0 c).arrAt 17 cfg0.N = dysbArr m c := by
  refine (dats m 0 c).arrAt_eq_of_cover 17 _ (fun t _ => ?_) (fun i => ?_)
  · show (cfg0.win 17).cut (grid0.coords t) ((dats m 0 c).after 17 t) = _
    rw [after0_17]
    obtain ⟨e0, e1⟩ := idx17 t
    funext y
    rw [View.read_apply]
    have hb0 : (((cfg0.win 17).blk t).view.emb y 0 : Fin 8320) = rowOf t ⟨(y 0).val, (y 0).isLt⟩ :=
      Fin.ext (by show win0_17.index t (0 : Fin 2) * 208 + 1 * (y 0).val = t.val * 208 + (y 0).val; rw [e0, Nat.one_mul])
    have hb1 : (((cfg0.win 17).blk t).view.emb y 1 : Fin 1024) = ⟨(y 1).val, (y 1).isLt⟩ :=
      Fin.ext (by show win0_17.index t (1 : Fin 2) * 1024 + 1 * (y 1).val = (y 1).val; rw [e1, Nat.zero_mul, Nat.zero_add, Nat.one_mul])
    show ((outsAt0 m c t.val t.isLt).2.2.2.2.2.2.2.2.1 : S208x1024.Idx → EReal) ((cfg0.win 17).xinj (grid0.coords t) y) = (kargs m c).dysb _ _
    rw [hb0, hb1]
    have hy : (cfg0.win 17).xinj (grid0.coords t) y = (ix2 ⟨(y 0).val, (y 0).isLt⟩ ⟨(y 1).val, (y 1).isLt⟩ : S208x1024.Idx) := by
      funext a
      match a with
      | ⟨0, _⟩ => rfl
      | ⟨1, _⟩ => rfl
    rw [hy]
    exact (congrArg (fun v : S208x1024.Idx → EReal => v _) (rows_at m c t).2.2.2.2.2.2.2.2.1).trans (dysb_at (row_blocks m c t _) _)
  · have h0 : (i 0).val < 8320 := (i 0).isLt
    have h1 : (i 1).val < 1024 := (i 1).isLt
    have hlt : (i 0).val / 208 < cfg0.N := lt_of_lt_of_eq (by omega) (show cfg0.N = 40 from N_0).symm
    obtain ⟨e0, e1⟩ := idx17 ⟨(i 0).val / 208, hlt⟩
    refine ⟨⟨(i 0).val / 208, hlt⟩, flush0_17 _, ?_⟩
    rw [mem17]
    intro a
    match a with
    | ⟨0, _⟩ => show win0_17.index _ (0 : Fin 2) * 208 ≤ (i 0).val ∧ (i 0).val < win0_17.index _ (0 : Fin 2) * 208 + 208; rw [e0]; show (i 0).val / 208 * 208 ≤ (i 0).val ∧ (i 0).val < (i 0).val / 208 * 208 + 208; omega
    | ⟨1, _⟩ => show win0_17.index _ (1 : Fin 2) * 1024 ≤ (i 1).val ∧ (i 1).val < win0_17.index _ (1 : Fin 2) * 1024 + 1024; rw [e1]; omega

/-- The array of window 18 after the run. -/
def dyswArr (c : Dev nD) : Buf (Elt Ideal) ((c : Thread nD τ).loc main_v14_9) :=
  fun i : S8320x1024.Idx => (kargs m c).dysw (i 0) (i 1)

theorem mem18 (t : Fin cfg0.N) (i : S8320x1024.Idx) :
    i ∈ ((cfg0.win 18).blk t).view.set ↔ ∀ a : Fin 2, win0_18.index t a * S208x1024.size a ≤ (i a).val ∧ (i a).val < win0_18.index t a * S208x1024.size a + S208x1024.size a := by
  show i ∈ ((View.whole main_v14_9).slice (win0_18.rect t)).set ↔ _
  rw [View.set_slice_whole, Rect.mem_set_unit]
  exact Iff.rfl

theorem arr18 (c : Dev nD) : (dats m 0 c).arrAt 18 cfg0.N = dyswArr m c := by
  refine (dats m 0 c).arrAt_eq_of_cover 18 _ (fun t _ => ?_) (fun i => ?_)
  · show (cfg0.win 18).cut (grid0.coords t) ((dats m 0 c).after 18 t) = _
    rw [after0_18]
    obtain ⟨e0, e1⟩ := idx18 t
    funext y
    rw [View.read_apply]
    have hb0 : (((cfg0.win 18).blk t).view.emb y 0 : Fin 8320) = rowOf t ⟨(y 0).val, (y 0).isLt⟩ :=
      Fin.ext (by show win0_18.index t (0 : Fin 2) * 208 + 1 * (y 0).val = t.val * 208 + (y 0).val; rw [e0, Nat.one_mul])
    have hb1 : (((cfg0.win 18).blk t).view.emb y 1 : Fin 1024) = ⟨(y 1).val, (y 1).isLt⟩ :=
      Fin.ext (by show win0_18.index t (1 : Fin 2) * 1024 + 1 * (y 1).val = (y 1).val; rw [e1, Nat.zero_mul, Nat.zero_add, Nat.one_mul])
    show ((outsAt0 m c t.val t.isLt).2.2.2.2.2.2.2.2.2.1 : S208x1024.Idx → EReal) ((cfg0.win 18).xinj (grid0.coords t) y) = (kargs m c).dysw _ _
    rw [hb0, hb1]
    have hy : (cfg0.win 18).xinj (grid0.coords t) y = (ix2 ⟨(y 0).val, (y 0).isLt⟩ ⟨(y 1).val, (y 1).isLt⟩ : S208x1024.Idx) := by
      funext a
      match a with
      | ⟨0, _⟩ => rfl
      | ⟨1, _⟩ => rfl
    rw [hy]
    exact (congrArg (fun v : S208x1024.Idx → EReal => v _) (rows_at m c t).2.2.2.2.2.2.2.2.2).trans (dysw_at (row_blocks m c t _) _)
  · have h0 : (i 0).val < 8320 := (i 0).isLt
    have h1 : (i 1).val < 1024 := (i 1).isLt
    have hlt : (i 0).val / 208 < cfg0.N := lt_of_lt_of_eq (by omega) (show cfg0.N = 40 from N_0).symm
    obtain ⟨e0, e1⟩ := idx18 ⟨(i 0).val / 208, hlt⟩
    refine ⟨⟨(i 0).val / 208, hlt⟩, flush0_18 _, ?_⟩
    rw [mem18]
    intro a
    match a with
    | ⟨0, _⟩ => show win0_18.index _ (0 : Fin 2) * 208 ≤ (i 0).val ∧ (i 0).val < win0_18.index _ (0 : Fin 2) * 208 + 208; rw [e0]; show (i 0).val / 208 * 208 ≤ (i 0).val ∧ (i 0).val < (i 0).val / 208 * 208 + 208; omega
    | ⟨1, _⟩ => show win0_18.index _ (1 : Fin 2) * 1024 ≤ (i 1).val ∧ (i 1).val < win0_18.index _ (1 : Fin 2) * 1024 + 1024; rw [e1]; omega

/-- What window 19 holds after a point. -/
def dgfArrAfter (c : Dev nD) (n : ℕ) (hn : n < cfg0.N) : S1x1024.Idx → EReal :=
  (outsAt0 m c n hn).2.2.2.2.2.2.2.2.2.2.1

/-- The array of window 19 after the run: what the last point leaves. -/
def dgfArr (c : Dev nD) : Buf (Elt Ideal) ((c : Thread nD τ).loc main_v14_10) :=
  dgfArrAfter m c 39 (lt_of_lt_of_eq (by omega) (show cfg0.N = 40 from N_0).symm)

theorem dgfArr_last (c : Dev nD) (n : ℕ) (hn : n < cfg0.N) (h : n = 39) :
    (outsAt0 m c n hn).2.2.2.2.2.2.2.2.2.2.1 = dgfArrAfter m c 39 (lt_of_lt_of_eq (by omega) (show cfg0.N = 40 from N_0).symm) := by
  subst h
  exact Eq.refl (dgfArrAfter m c 39 hn)

theorem mem19 (t : Fin cfg0.N) (i : S1x1024.Idx) :
    i ∈ ((cfg0.win 19).blk t).view.set ↔ ∀ a : Fin 2, win0_19.index t a * S1x1024.size a ≤ (i a).val ∧ (i a).val < win0_19.index t a * S1x1024.size a + S1x1024.size a := by
  show i ∈ ((View.whole main_v14_10).slice (win0_19.rect t)).set ↔ _
  rw [View.set_slice_whole, Rect.mem_set_unit]
  exact Iff.rfl

theorem arr19 (c : Dev nD) : (dats m 0 c).arrAt 19 cfg0.N = dgfArr m c := by
  refine (dats m 0 c).arrAt_eq_of_cover 19 _ (fun t hf => ?_) (fun i => ?_)
  · show (cfg0.win 19).cut (grid0.coords t) ((dats m 0 c).after 19 t) = _
    rw [after0_19]
    have hm : t.val % 40 = 39 := (flush0_19 t).mp hf
    have hN : t.val < 40 := lt_of_lt_of_eq t.isLt (show cfg0.N = 40 from N_0)
    obtain ⟨e0, e1⟩ := idx19 t
    rw [dgfArr_last m c t.val t.isLt (by omega)]
    unfold dgfArr
    generalize dgfArrAfter m c 39 _ = Q
    funext y
    rw [View.read_apply]
    refine congrArg Q (funext fun a => Fin.ext ?_)
    match a with
    | ⟨0, _⟩ => show (y 0).val = win0_19.index t (0 : Fin 2) * 1 + 1 * (y 0).val; rw [e0]; omega
    | ⟨1, _⟩ => show (y 1).val = win0_19.index t (1 : Fin 2) * 1024 + 1 * (y 1).val; rw [e1]; omega
  · have h0 : (i 0).val < 1 := (i 0).isLt
    have h1 : (i 1).val < 1024 := (i 1).isLt
    have hlt : 39 < cfg0.N := lt_of_lt_of_eq (by omega) (show cfg0.N = 40 from N_0).symm
    obtain ⟨e0, e1⟩ := idx19 ⟨39, hlt⟩
    refine ⟨⟨39, hlt⟩, (flush0_19 _).mpr (by show 39 % 40 = 39; omega), ?_⟩
    rw [mem19]
    intro a
    match a with
    | ⟨0, _⟩ => show win0_19.index _ (0 : Fin 2) * 1 ≤ (i 0).val ∧ (i 0).val < win0_19.index _ (0 : Fin 2) * 1 + 1; rw [e0]; omega
    | ⟨1, _⟩ => show win0_19.index _ (1 : Fin 2) * 1024 ≤ (i 1).val ∧ (i 1).val < win0_19.index _ (1 : Fin 2) * 1024 + 1024; rw [e1]; omega

/-- What window 20 holds after a point. -/
def lossArrAfter (c : Dev nD) (n : ℕ) (hn : n < cfg0.N) : S8x128.Idx → EReal :=
  (outsAt0 m c n hn).2.2.2.2.2.2.2.2.2.2.2

/-- The array of window 20 after the run: what the last point leaves. -/
def lossArr (c : Dev nD) : Buf (Elt Ideal) ((c : Thread nD τ).loc main_v14_11) :=
  lossArrAfter m c 39 (lt_of_lt_of_eq (by omega) (show cfg0.N = 40 from N_0).symm)

theorem lossArr_last (c : Dev nD) (n : ℕ) (hn : n < cfg0.N) (h : n = 39) :
    (outsAt0 m c n hn).2.2.2.2.2.2.2.2.2.2.2 = lossArrAfter m c 39 (lt_of_lt_of_eq (by omega) (show cfg0.N = 40 from N_0).symm) := by
  subst h
  exact Eq.refl (lossArrAfter m c 39 hn)

theorem mem20 (t : Fin cfg0.N) (i : S8x128.Idx) :
    i ∈ ((cfg0.win 20).blk t).view.set ↔ ∀ a : Fin 2, win0_20.index t a * S8x128.size a ≤ (i a).val ∧ (i a).val < win0_20.index t a * S8x128.size a + S8x128.size a := by
  show i ∈ ((View.whole main_v14_11).slice (win0_20.rect t)).set ↔ _
  rw [View.set_slice_whole, Rect.mem_set_unit]
  exact Iff.rfl

theorem arr20 (c : Dev nD) : (dats m 0 c).arrAt 20 cfg0.N = lossArr m c := by
  refine (dats m 0 c).arrAt_eq_of_cover 20 _ (fun t hf => ?_) (fun i => ?_)
  · show (cfg0.win 20).cut (grid0.coords t) ((dats m 0 c).after 20 t) = _
    rw [after0_20]
    have hm : t.val % 40 = 39 := (flush0_20 t).mp hf
    have hN : t.val < 40 := lt_of_lt_of_eq t.isLt (show cfg0.N = 40 from N_0)
    obtain ⟨e0, e1⟩ := idx20 t
    rw [lossArr_last m c t.val t.isLt (by omega)]
    unfold lossArr
    generalize lossArrAfter m c 39 _ = Q
    funext y
    rw [View.read_apply]
    refine congrArg Q (funext fun a => Fin.ext ?_)
    match a with
    | ⟨0, _⟩ => show (y 0).val = win0_20.index t (0 : Fin 2) * 8 + 1 * (y 0).val; rw [e0]; omega
    | ⟨1, _⟩ => show (y 1).val = win0_20.index t (1 : Fin 2) * 128 + 1 * (y 1).val; rw [e1]; omega
  · have h0 : (i 0).val < 8 := (i 0).isLt
    have h1 : (i 1).val < 128 := (i 1).isLt
    have hlt : 39 < cfg0.N := lt_of_lt_of_eq (by omega) (show cfg0.N = 40 from N_0).symm
    obtain ⟨e0, e1⟩ := idx20 ⟨39, hlt⟩
    refine ⟨⟨39, hlt⟩, (flush0_20 _).mpr (by show 39 % 40 = 39; omega), ?_⟩
    rw [mem20]
    intro a
    match a with
    | ⟨0, _⟩ => show win0_20.index _ (0 : Fin 2) * 8 ≤ (i 0).val ∧ (i 0).val < win0_20.index _ (0 : Fin 2) * 8 + 8; rw [e0]; omega
    | ⟨1, _⟩ => show win0_20.index _ (1 : Fin 2) * 128 ≤ (i 1).val ∧ (i 1).val < win0_20.index _ (1 : Fin 2) * 128 + 128; rw [e1]; omega

/-- The gain's gradient, summed over all rows. -/
theorem dgfArr_at (c : Dev nD) (j : Fin 1024) : (dgfArr m c : S1x1024.Idx → EReal) (ix2 0 j) = (kargs m c).dgf j := by
  refine (gain_upto m c j 39 _).trans ?_
  rw [← sum_blocks (gainPart (kargs m c) j), Finset.sum_range]
  exact Finset.sum_congr rfl fun r _ => dif_pos r.isLt

/-- The loss, as the kernel sums it. -/
theorem lossArr_at (c : Dev nD) : (lossArr m c : S8x128.Idx → EReal) (ix2 0 0)
    = ∑ b ∈ Finset.range 40, Ideal.ofBits .f32 0x3A000000#32 * ∑ i ∈ Finset.range 208, sqPart (kargs m c) (b * 208 + i) :=
  loss_upto m c 39 _

end Cert.Tail

end
-- ==== Proof.TailRef.lean ====
/-
  The reference of the tail, read at an index: the formulas of `TailForm`.
-/
module

public import proofs.«01_k».proof.Proof.TailRead
public import proofs.«01_k».proof.Proof.Sums
public import proofs.«01_k».proof.Proof.Gen.Reference4Ideal.Read

@[expose] public section

set_option maxRecDepth 16384

noncomputable section

namespace Cert.Tail

open Idealize.ShloMosaic Idealize.ShloMosaic.TcCoe Cert.Reference4Ideal Cert.Reference4Ideal.Read Cert.Reals

variable (x0 : S1x8320x1024.Idx → EReal) (x1 : S1x8192x1024.Idx → EReal) (x2 : S1x8320x512.Idx → EReal)
  (x3 : S1x8320x1024.Idx → EReal) (x4 : S1x8320x3584.Idx → EReal) (x5 : S1x512x1024.Idx → EReal)
  (x6 x7 : S1x1024x1024.Idx → EReal) (x8 : S1024.Idx → EReal)

/-- The tokens' rows as an index of an array of one such row. -/
def rows8192 : Fin 8192 ≃ S1x8192.Idx where
  toFun r := ix2 0 r
  invFun i := i 1
  left_inv _ := rfl
  right_inv i := by
    funext a; match a with
    | ⟨0, _⟩ => exact Fin.ext (Nat.lt_one_iff.mp (i 0).isLt).symm
    | ⟨1, _⟩ => rfl

theorem ref_s0 (r : Fin 8320) (k : Fin 512) :
    val_main_v4_2 (F := Ideal) x4 (ix3 0 r k) = Ideal.logistic ((args x0 x1 x2 x3 x4 x5 x6 x7 x8).z0 r k) := by
  unfold val_main_v4_2 val_main_call0_v4 val_main_call0_v3 val_main_call0_v2 val_main_call0_v1 val_main_call0_v0 val_main_call0_cst val_main_call0_cst_0 val_main_v0
  pointwise
  rfl

theorem ref_s1 (r : Fin 8320) (k : Fin 1024) :
    val_main_v6_2 (F := Ideal) x4 (ix3 0 r k) = Ideal.logistic ((args x0 x1 x2 x3 x4 x5 x6 x7 x8).z1 r k) := by
  unfold val_main_v6_2 val_main_call1_v4 val_main_call1_v3 val_main_call1_v2 val_main_call1_v1 val_main_call1_v0 val_main_call1_cst val_main_call1_cst_0 val_main_v1
  pointwise
  rfl

theorem ref_s2 (r : Fin 8320) (k : Fin 1024) :
    val_main_v21 (F := Ideal) x4 (ix3 0 r k) = Ideal.logistic ((args x0 x1 x2 x3 x4 x5 x6 x7 x8).z2 r k) := by
  unfold val_main_v21 val_main_v20 val_main_v19 val_main_v18 val_main_v17 val_main_v16 val_main_cst val_main_cst_0 val_main_v14
  pointwise
  rfl

theorem ref_s3 (r : Fin 8320) (k : Fin 1024) :
    val_main_v31 (F := Ideal) x4 (ix3 0 r k) = Ideal.logistic ((args x0 x1 x2 x3 x4 x5 x6 x7 x8).z3 r k) := by
  unfold val_main_v31 val_main_v30 val_main_v29 val_main_v28 val_main_v27 val_main_v26 val_main_cst_2 val_main_cst_3 val_main_v15
  pointwise
  rfl

theorem ref_z0 (r : Fin 8320) (k : Fin 512) :
    val_main_v0 (F := Ideal) x4 (ix3 0 r k) = (args x0 x1 x2 x3 x4 x5 x6 x7 x8).z0 r k := by
  unfold val_main_v0
  pointwise
  rfl

theorem ref_z1 (r : Fin 8320) (k : Fin 1024) :
    val_main_v1 (F := Ideal) x4 (ix3 0 r k) = (args x0 x1 x2 x3 x4 x5 x6 x7 x8).z1 r k := by
  unfold val_main_v1
  pointwise
  rfl

theorem ref_g0 (r : Fin 8320) (k : Fin 512) :
    val_main_v4_0 (F := Ideal) x4 (ix3 0 r k) = (args x0 x1 x2 x3 x4 x5 x6 x7 x8).z0 r k * Ideal.logistic ((args x0 x1 x2 x3 x4 x5 x6 x7 x8).z0 r k) := by
  unfold val_main_v4_0
  pointwise
  simp only [ref_z0 x0 x1 x2 x3 x4 x5 x6 x7 x8, ref_s0 x0 x1 x2 x3 x4 x5 x6 x7 x8]

theorem ref_g1 (r : Fin 8320) (k : Fin 1024) :
    val_main_v6_0 (F := Ideal) x4 (ix3 0 r k) = (args x0 x1 x2 x3 x4 x5 x6 x7 x8).z1 r k * Ideal.logistic ((args x0 x1 x2 x3 x4 x5 x6 x7 x8).z1 r k) := by
  unfold val_main_v6_0
  pointwise
  simp only [ref_z1 x0 x1 x2 x3 x4 x5 x6 x7 x8, ref_s1 x0 x1 x2 x3 x4 x5 x6 x7 x8]

theorem ref_usb (r : Fin 8320) (k : Fin 512) :
    val_main_v5 (F := Ideal) x2 x4 (ix3 0 r k) = (args x0 x1 x2 x3 x4 x5 x6 x7 x8).usb r k := by
  unfold val_main_v5
  pointwise
  simp only [ref_g0 x0 x1 x2 x3 x4 x5 x6 x7 x8]
  rfl

theorem ref_usw (r : Fin 8320) (k : Fin 1024) :
    val_main_v7 (F := Ideal) x3 x4 (ix3 0 r k) = (args x0 x1 x2 x3 x4 x5 x6 x7 x8).usw r k := by
  unfold val_main_v7
  pointwise
  simp only [ref_g1 x0 x1 x2 x3 x4 x5 x6 x7 x8]
  rfl

theorem ref_ysb (r : Fin 8320) (j : Fin 1024) :
    val_main_v9 (F := Ideal) x2 x4 x5 (ix3 0 r j) = (args x0 x1 x2 x3 x4 x5 x6 x7 x8).ysb r j := by
  rw [val_main_v9_apply]
  refine Finset.sum_congr rfl fun k _ => ?_
  have e1 : lidx_main_v9 (ix3 0 r j) k = ix3 0 r k := by
    funext a; match a with
    | ⟨0, _⟩ => rfl
    | ⟨1, _⟩ => rfl
    | ⟨2, _⟩ => rfl
  have e2 : ridx_main_v9 (ix3 0 r j) k = ix2 k j := by
    funext a; match a with
    | ⟨0, _⟩ => rfl
    | ⟨1, _⟩ => rfl
  rw [e1, e2, ref_usb x0 x1 x2 x3 x4 x5 x6 x7 x8]
  unfold val_main_v8
  pointwise
  rfl

theorem ref_ysw (r : Fin 8320) (j : Fin 1024) :
    val_main_v11 (F := Ideal) x3 x4 x6 (ix3 0 r j) = (args x0 x1 x2 x3 x4 x5 x6 x7 x8).ysw r j := by
  rw [val_main_v11_apply]
  refine Finset.sum_congr rfl fun k _ => ?_
  have e1 : lidx_main_v11 (ix3 0 r j) k = ix3 0 r k := by
    funext a; match a with
    | ⟨0, _⟩ => rfl
    | ⟨1, _⟩ => rfl
    | ⟨2, _⟩ => rfl
  have e2 : ridx_main_v11 (ix3 0 r j) k = ix2 k j := by
    funext a; match a with
    | ⟨0, _⟩ => rfl
    | ⟨1, _⟩ => rfl
  rw [e1, e2, ref_usw x0 x1 x2 x3 x4 x5 x6 x7 x8]
  unfold val_main_v10
  pointwise
  rfl

theorem ref_mg (r : Fin 8320) (j : Fin 1024) :
    val_main_v36 (F := Ideal) x2 x3 x4 x5 x6 (ix3 0 r j) = (args x0 x1 x2 x3 x4 x5 x6 x7 x8).mg r j := by
  unfold val_main_v36 val_main_v35 val_main_v25
  pointwise
  simp only [ref_s2 x0 x1 x2 x3 x4 x5 x6 x7 x8, ref_s3 x0 x1 x2 x3 x4 x5 x6 x7 x8, ref_ysb x0 x1 x2 x3 x4 x5 x6 x7 x8, ref_ysw x0 x1 x2 x3 x4 x5 x6 x7 x8]
  rfl

theorem ref_mm (r : Fin 8320) (j : Fin 1024) :
    val_main_v38 (F := Ideal) x2 x3 x4 x5 x6 x7 (ix3 0 r j) = ∑ k, (args x0 x1 x2 x3 x4 x5 x6 x7 x8).mg r k * (args x0 x1 x2 x3 x4 x5 x6 x7 x8).wo k j := by
  rw [val_main_v38_apply]
  refine Finset.sum_congr rfl fun k _ => ?_
  have e1 : lidx_main_v38 (ix3 0 r j) k = ix3 0 r k := by
    funext a; match a with
    | ⟨0, _⟩ => rfl
    | ⟨1, _⟩ => rfl
    | ⟨2, _⟩ => rfl
  have e2 : ridx_main_v38 (ix3 0 r j) k = ix2 k j := by
    funext a; match a with
    | ⟨0, _⟩ => rfl
    | ⟨1, _⟩ => rfl
  rw [e1, e2, ref_mg x0 x1 x2 x3 x4 x5 x6 x7 x8]
  unfold val_main_v37
  pointwise
  rfl

theorem ref_h1 (r : Fin 8320) (j : Fin 1024) :
    val_main_v39 (F := Ideal) x0 x2 x3 x4 x5 x6 x7 (ix3 0 r j) = (args x0 x1 x2 x3 x4 x5 x6 x7 x8).h1 r j := by
  unfold val_main_v39
  pointwise
  simp only [ref_mm x0 x1 x2 x3 x4 x5 x6 x7 x8]
  rfl

theorem ref_var (r : Fin 8320) :
    val_main_v46 (F := Ideal) x0 x2 x3 x4 x5 x6 x7 (ix3 0 r 0) = rowVar ((args x0 x1 x2 x3 x4 x5 x6 x7 x8).h1 r) := by
  unfold val_main_v46 val_main_v45 val_main_v44 val_main_v43 val_main_v42 val_main_v41 val_main_v40 val_main_cst_5 val_main_cst_6 val_main_cst_7
  pointwise
  simp only [ref_h1 x0 x1 x2 x3 x4 x5 x6 x7 x8]
  rfl

theorem ref_rstd (r : Fin 8320) : val_main_v47 (F := Ideal) x0 x2 x3 x4 x5 x6 x7 (ix3 0 r 0) = rowRstd ((args x0 x1 x2 x3 x4 x5 x6 x7 x8).h1 r) :=
  congrArg Ideal.rsqrt (ref_var x0 x1 x2 x3 x4 x5 x6 x7 x8 r)

theorem ref_xn (r : Fin 8320) (j : Fin 1024) :
    val_main_v52 (F := Ideal) x0 x2 x3 x4 x5 x6 x7 (ix3 0 r j) = (args x0 x1 x2 x3 x4 x5 x6 x7 x8).h1 r j * rowRstd ((args x0 x1 x2 x3 x4 x5 x6 x7 x8).h1 r) := by
  unfold val_main_v52 val_main_v51
  pointwise
  simp only [ref_h1 x0 x1 x2 x3 x4 x5 x6 x7 x8, ref_rstd x0 x1 x2 x3 x4 x5 x6 x7 x8]

theorem ref_gf (j : Fin 1024) :
    val_main_v53 (F := Ideal) x8 (ix3 0 0 j) = (args x0 x1 x2 x3 x4 x5 x6 x7 x8).gf j := by
  unfold val_main_v53
  pointwise
  rfl

theorem ref_err (r : Fin 8192) (j : Fin 1024) :
    val_main_v57 (F := Ideal) x0 x1 x2 x3 x4 x5 x6 x7 x8 (ix3 0 r j) = (args x0 x1 x2 x3 x4 x5 x6 x7 x8).err ⟨r.val + 128, by omega⟩ j := by
  unfold val_main_v57 val_main_v56 val_main_v55 val_main_v54
  pointwise
  simp only [ref_gf x0 x1 x2 x3 x4 x5 x6 x7 x8]
  have e : (⟨128 + r.val, by omega⟩ : Fin 8320) = ⟨r.val + 128, by omega⟩ := Fin.ext (Nat.add_comm _ _)
  rw [e, ref_xn x0 x1 x2 x3 x4 x5 x6 x7 x8]
  unfold Args.err
  rw [if_pos (Nat.le_add_left _ _)]
  rfl

theorem ref_dtok (hA : (args x0 x1 x2 x3 x4 x5 x6 x7 x8).Real) (r : Fin 8192) (j : Fin 1024) :
    val_main_v71 (F := Ideal) x0 x1 x2 x3 x4 x5 x6 x7 x8 (ix3 0 r j) = (args x0 x1 x2 x3 x4 x5 x6 x7 x8).dy ⟨r.val + 128, by omega⟩ j := by
  unfold val_main_v71 val_main_v70 val_main_v69 val_main_v68 val_main_v67 val_main_v66 val_main_v60 val_main_v59 val_main_cst_14 val_main_cst_15 val_main_cst_16 val_main_cst_9
  pointwise
  simp only [ref_err x0 x1 x2 x3 x4 x5 x6 x7 x8]
  have h := Args.dy_twice (Args.err_real hA ⟨r.val + 128, by omega⟩ j)
  rw [mul_one (M := EReal)] at h
  exact h

theorem ref_dy (hA : (args x0 x1 x2 x3 x4 x5 x6 x7 x8).Real) (r : Fin 8320) (j : Fin 1024) :
    val_main_v72 (F := Ideal) x0 x1 x2 x3 x4 x5 x6 x7 x8 (ix3 0 r j) = (args x0 x1 x2 x3 x4 x5 x6 x7 x8).dy r j := by
  unfold val_main_v72 val_main_cst_17
  pointwise
  by_cases h : 128 ≤ r.val
  · rw [dif_pos ⟨h, by omega⟩, ref_dtok x0 x1 x2 x3 x4 x5 x6 x7 x8 hA]
    exact congrArg (fun q => (args x0 x1 x2 x3 x4 x5 x6 x7 x8).dy q j) (Fin.ext (Nat.sub_add_cancel h))
  · rw [dif_neg fun q => h q.1]
    unfold Args.dy Args.err
    rw [if_neg h, zero_mul (M₀ := EReal)]

theorem ref_dyg (hA : (args x0 x1 x2 x3 x4 x5 x6 x7 x8).Real) (r : Fin 8320) (j : Fin 1024) :
    val_main_v77 (F := Ideal) x0 x1 x2 x3 x4 x5 x6 x7 x8 (ix3 0 r j) = (args x0 x1 x2 x3 x4 x5 x6 x7 x8).dy r j * (args x0 x1 x2 x3 x4 x5 x6 x7 x8).gf j := by
  unfold val_main_v77 val_main_v76
  pointwise
  simp only [ref_dy x0 x1 x2 x3 x4 x5 x6 x7 x8 hA, ref_gf x0 x1 x2 x3 x4 x5 x6 x7 x8]

theorem ref_dsq (hA : (args x0 x1 x2 x3 x4 x5 x6 x7 x8).Real) (r : Fin 8320) :
    val_main_v87 (F := Ideal) x0 x1 x2 x3 x4 x5 x6 x7 x8 (ix1 r) = rowDsq ((args x0 x1 x2 x3 x4 x5 x6 x7 x8).h1 r) ((args x0 x1 x2 x3 x4 x5 x6 x7 x8).dy r) (args x0 x1 x2 x3 x4 x5 x6 x7 x8).gf := by
  unfold val_main_v87
  pointwise
  rw [reduce_d02]
  unfold val_main_v86 val_main_v85 val_main_v84 val_main_v81 val_main_v80 val_main_v79 val_main_v50 val_main_v49 val_main_v48 val_main_cst_22 val_main_cst_21 val_main_cst_20 val_main_cst_8
  pointwise
  simp only [ref_h1 x0 x1 x2 x3 x4 x5 x6 x7 x8, ref_dyg x0 x1 x2 x3 x4 x5 x6 x7 x8 hA, ref_rstd x0 x1 x2 x3 x4 x5 x6 x7 x8, ref_var x0 x1 x2 x3 x4 x5 x6 x7 x8]
  rfl

theorem ref_dh1 (hA : (args x0 x1 x2 x3 x4 x5 x6 x7 x8).Real) (r : Fin 8320) (j : Fin 1024) :
    val_main_v93 (F := Ideal) x0 x1 x2 x3 x4 x5 x6 x7 x8 (ix3 0 r j) = (args x0 x1 x2 x3 x4 x5 x6 x7 x8).dh1 r j := by
  unfold val_main_v93 val_main_v92 val_main_v91 val_main_v90 val_main_v89 val_main_v88 val_main_v83 val_main_v82
  pointwise
  simp only [ref_h1 x0 x1 x2 x3 x4 x5 x6 x7 x8, ref_dyg x0 x1 x2 x3 x4 x5 x6 x7 x8 hA, ref_rstd x0 x1 x2 x3 x4 x5 x6 x7 x8, ref_dsq x0 x1 x2 x3 x4 x5 x6 x7 x8 hA]
  exact (Args.dh1_eq hA r j).symm

theorem ref_dm (hA : (args x0 x1 x2 x3 x4 x5 x6 x7 x8).Real) (r : Fin 8320) (j : Fin 1024) :
    val_main_v94 (F := Ideal) x0 x1 x2 x3 x4 x5 x6 x7 x8 (ix3 0 r j) = (args x0 x1 x2 x3 x4 x5 x6 x7 x8).dm r j := by
  rw [val_main_v94_apply]
  refine Finset.sum_congr rfl fun k _ => ?_
  have e1 : lidx_main_v94 (ix3 0 r j) k = ix3 0 r k := by
    funext a; match a with
    | ⟨0, _⟩ => rfl
    | ⟨1, _⟩ => rfl
    | ⟨2, _⟩ => rfl
  have e2 : ridx_main_v94 (ix3 0 r j) k = ix2 j k := by
    funext a; match a with
    | ⟨0, _⟩ => rfl
    | ⟨1, _⟩ => rfl
  rw [e1, e2, ref_dh1 x0 x1 x2 x3 x4 x5 x6 x7 x8 hA]
  unfold val_main_v37
  pointwise
  rfl

theorem ref_dysb (hA : (args x0 x1 x2 x3 x4 x5 x6 x7 x8).Real) (r : Fin 8320) (j : Fin 1024) :
    val_main_v98 (F := Ideal) x0 x1 x2 x3 x4 x5 x6 x7 x8 (ix3 0 r j) = (args x0 x1 x2 x3 x4 x5 x6 x7 x8).dysb r j := by
  unfold val_main_v98
  pointwise
  simp only [ref_s2 x0 x1 x2 x3 x4 x5 x6 x7 x8, ref_dm x0 x1 x2 x3 x4 x5 x6 x7 x8 hA]
  exact mul_comm (G := EReal) _ _

theorem ref_dysw (hA : (args x0 x1 x2 x3 x4 x5 x6 x7 x8).Real) (r : Fin 8320) (j : Fin 1024) :
    val_main_v95 (F := Ideal) x0 x1 x2 x3 x4 x5 x6 x7 x8 (ix3 0 r j) = (args x0 x1 x2 x3 x4 x5 x6 x7 x8).dysw r j := by
  unfold val_main_v95
  pointwise
  simp only [ref_s3 x0 x1 x2 x3 x4 x5 x6 x7 x8, ref_dm x0 x1 x2 x3 x4 x5 x6 x7 x8 hA]
  exact mul_comm (G := EReal) _ _

theorem ref_dusb (hA : (args x0 x1 x2 x3 x4 x5 x6 x7 x8).Real) (r : Fin 8320) (j : Fin 512) :
    val_main_v105 (F := Ideal) x0 x1 x2 x3 x4 x5 x6 x7 x8 (ix3 0 r j) = (args x0 x1 x2 x3 x4 x5 x6 x7 x8).dusb r j := by
  rw [val_main_v105_apply]
  refine Finset.sum_congr rfl fun k _ => ?_
  have e1 : lidx_main_v105 (ix3 0 r j) k = ix3 0 r k := by
    funext a; match a with
    | ⟨0, _⟩ => rfl
    | ⟨1, _⟩ => rfl
    | ⟨2, _⟩ => rfl
  have e2 : ridx_main_v105 (ix3 0 r j) k = ix2 j k := by
    funext a; match a with
    | ⟨0, _⟩ => rfl
    | ⟨1, _⟩ => rfl
  rw [e1, e2, ref_dysb x0 x1 x2 x3 x4 x5 x6 x7 x8 hA]
  unfold val_main_v8
  pointwise
  rfl

theorem ref_dusw (hA : (args x0 x1 x2 x3 x4 x5 x6 x7 x8).Real) (r : Fin 8320) (j : Fin 1024) :
    val_main_v104 (F := Ideal) x0 x1 x2 x3 x4 x5 x6 x7 x8 (ix3 0 r j) = (args x0 x1 x2 x3 x4 x5 x6 x7 x8).dusw r j := by
  rw [val_main_v104_apply]
  refine Finset.sum_congr rfl fun k _ => ?_
  have e1 : lidx_main_v104 (ix3 0 r j) k = ix3 0 r k := by
    funext a; match a with
    | ⟨0, _⟩ => rfl
    | ⟨1, _⟩ => rfl
    | ⟨2, _⟩ => rfl
  have e2 : ridx_main_v104 (ix3 0 r j) k = ix2 j k := by
    funext a; match a with
    | ⟨0, _⟩ => rfl
    | ⟨1, _⟩ => rfl
  rw [e1, e2, ref_dysw x0 x1 x2 x3 x4 x5 x6 x7 x8 hA]
  unfold val_main_v10
  pointwise
  rfl

theorem ref_dosb (hA : (args x0 x1 x2 x3 x4 x5 x6 x7 x8).Real) (r : Fin 8320) (k : Fin 512) :
    val_main_v110 (F := Ideal) x0 x1 x2 x3 x4 x5 x6 x7 x8 (ix3 0 r k) = (args x0 x1 x2 x3 x4 x5 x6 x7 x8).dosb r k := by
  unfold val_main_v110
  pointwise
  simp only [ref_dusb x0 x1 x2 x3 x4 x5 x6 x7 x8 hA, ref_g0 x0 x1 x2 x3 x4 x5 x6 x7 x8]
  rfl

theorem ref_dosw (hA : (args x0 x1 x2 x3 x4 x5 x6 x7 x8).Real) (r : Fin 8320) (k : Fin 1024) :
    val_main_v107 (F := Ideal) x0 x1 x2 x3 x4 x5 x6 x7 x8 (ix3 0 r k) = (args x0 x1 x2 x3 x4 x5 x6 x7 x8).dosw r k := by
  unfold val_main_v107
  pointwise
  simp only [ref_dusw x0 x1 x2 x3 x4 x5 x6 x7 x8 hA, ref_g1 x0 x1 x2 x3 x4 x5 x6 x7 x8]
  rfl

theorem ref_dz0 (hA : (args x0 x1 x2 x3 x4 x5 x6 x7 x8).Real) (r : Fin 8320) (k : Fin 512) :
    val_main_v111 (F := Ideal) x0 x1 x2 x3 x4 x5 x6 x7 x8 (ix3 0 r k) = (args x0 x1 x2 x3 x4 x5 x6 x7 x8).dz0 r k := by
  unfold val_main_v111 val_main_call3_v2 val_main_call3_v1 val_main_call3_v0 val_main_v4_1 val_main_call0_v7 val_main_call0_v6 val_main_call0_cst_1 val_main_v109
  pointwise
  simp only [ref_z0 x0 x1 x2 x3 x4 x5 x6 x7 x8, ref_s0 x0 x1 x2 x3 x4 x5 x6 x7 x8, ref_dusb x0 x1 x2 x3 x4 x5 x6 x7 x8 hA]
  exact (add_comm (G := EReal) _ _).trans (Args.silu_deriv (Args.dusb_real hA r k) (hA.osb r k) (hA.ga _ _)).symm

theorem ref_dz1 (hA : (args x0 x1 x2 x3 x4 x5 x6 x7 x8).Real) (r : Fin 8320) (k : Fin 1024) :
    val_main_v108 (F := Ideal) x0 x1 x2 x3 x4 x5 x6 x7 x8 (ix3 0 r k) = (args x0 x1 x2 x3 x4 x5 x6 x7 x8).dz1 r k := by
  unfold val_main_v108 val_main_call2_v2 val_main_call2_v1 val_main_call2_v0 val_main_v6_1 val_main_call1_v7 val_main_call1_v6 val_main_call1_cst_1 val_main_v106
  pointwise
  simp only [ref_z1 x0 x1 x2 x3 x4 x5 x6 x7 x8, ref_s1 x0 x1 x2 x3 x4 x5 x6 x7 x8, ref_dusw x0 x1 x2 x3 x4 x5 x6 x7 x8 hA]
  exact (add_comm (G := EReal) _ _).trans (Args.silu_deriv (Args.dusw_real hA r k) (hA.osw r k) (hA.ga _ _)).symm

theorem ref_dz2 (hA : (args x0 x1 x2 x3 x4 x5 x6 x7 x8).Real) (r : Fin 8320) (k : Fin 1024) :
    val_main_v100 (F := Ideal) x0 x1 x2 x3 x4 x5 x6 x7 x8 (ix3 0 r k) = (args x0 x1 x2 x3 x4 x5 x6 x7 x8).dz2 r k := by
  unfold val_main_v100 val_main_v99 val_main_v24 val_main_v23 val_main_v22 val_main_cst_1
  pointwise
  simp only [ref_s2 x0 x1 x2 x3 x4 x5 x6 x7 x8, ref_dm x0 x1 x2 x3 x4 x5 x6 x7 x8 hA, ref_ysb x0 x1 x2 x3 x4 x5 x6 x7 x8]
  rfl

theorem ref_dz3 (hA : (args x0 x1 x2 x3 x4 x5 x6 x7 x8).Real) (r : Fin 8320) (k : Fin 1024) :
    val_main_v97 (F := Ideal) x0 x1 x2 x3 x4 x5 x6 x7 x8 (ix3 0 r k) = (args x0 x1 x2 x3 x4 x5 x6 x7 x8).dz3 r k := by
  unfold val_main_v97 val_main_v96 val_main_v34 val_main_v33 val_main_v32 val_main_cst_4
  pointwise
  simp only [ref_s3 x0 x1 x2 x3 x4 x5 x6 x7 x8, ref_dm x0 x1 x2 x3 x4 x5 x6 x7 x8 hA, ref_ysw x0 x1 x2 x3 x4 x5 x6 x7 x8]
  rfl

theorem ref_dga (hA : (args x0 x1 x2 x3 x4 x5 x6 x7 x8).Real) (r : Fin 8320) (k : Fin 3584) :
    val_main_v117 (F := Ideal) x0 x1 x2 x3 x4 x5 x6 x7 x8 (ix3 0 r k) = (args x0 x1 x2 x3 x4 x5 x6 x7 x8).dga r k := by
  unfold val_main_v117 val_main_v103 val_main_v114 val_main_v101 val_main_v102 val_main_v112 val_main_v113 val_main_cst_23 val_main_cst_24 val_main_cst_25 val_main_cst_26
  pointwise
  unfold Args.dga
  by_cases h0 : k.val < 512
  · rw [dif_pos h0, dif_pos h0, dif_pos h0, zero_add (M := EReal), ref_dz0 x0 x1 x2 x3 x4 x5 x6 x7 x8 hA]
  by_cases h1 : k.val < 1536
  · have h1' : k.val - 512 < 1024 := by omega
    rw [dif_neg h0, dif_neg h0, dif_neg h0, dif_pos h1, dif_pos h1', dif_pos h1', zero_add (M := EReal), ref_dz1 x0 x1 x2 x3 x4 x5 x6 x7 x8 hA]
  have h1' : ¬k.val - 512 < 1024 := by omega
  by_cases h2 : k.val < 2560
  · have h2' : k.val - 512 - 1024 < 1024 := by omega
    rw [dif_neg h0, dif_neg h0, dif_neg h0, dif_neg h1, dif_neg h1', dif_neg h1', dif_pos h2, dif_pos h2', dif_pos h2',
      add_zero (M := EReal), ref_dz2 x0 x1 x2 x3 x4 x5 x6 x7 x8 hA]
    exact congrArg (fun q => (args x0 x1 x2 x3 x4 x5 x6 x7 x8).dz2 r q) (Fin.ext (by show k.val - 512 - 1024 = k.val - 1536; omega))
  · have h2' : ¬k.val - 512 - 1024 < 1024 := by omega
    rw [dif_neg h0, dif_neg h0, dif_neg h0, dif_neg h1, dif_neg h1', dif_neg h1', dif_neg h2, dif_neg h2', dif_neg h2',
      add_zero (M := EReal), ref_dz3 x0 x1 x2 x3 x4 x5 x6 x7 x8 hA]
    exact congrArg (fun q => (args x0 x1 x2 x3 x4 x5 x6 x7 x8).dz3 r q) (Fin.ext (by show k.val - 512 - 1024 - 1024 = k.val - 2560; omega))

theorem ref_dgf (hA : (args x0 x1 x2 x3 x4 x5 x6 x7 x8).Real) (j : Fin 1024) :
    val_main_v132 (F := Ideal) x0 x1 x2 x3 x4 x5 x6 x7 x8 (ix2 0 j) = (args x0 x1 x2 x3 x4 x5 x6 x7 x8).dgf j := by
  unfold val_main_v132 val_main_v78 val_main_v75 val_main_v74 val_main_v73
  pointwise
  rw [reduce_d01]
  pointwise
  unfold val_main_cst_18 val_main_cst_19
  generalize hz : constant (F := Ideal) S_ .f32 0x00000000#32 (Shape.Idx.first Gen.h_S_) = z
  obtain rfl : z = (0 : EReal) := by rw [← hz]; pointwise
  refine (zero_add (M := EReal) _).trans ((zero_add (M := EReal) _).trans ?_)
  simp only [ref_xn x0 x1 x2 x3 x4 x5 x6 x7 x8, ref_dy x0 x1 x2 x3 x4 x5 x6 x7 x8 hA]
  exact Finset.sum_congr rfl fun r _ => mul_comm _ _

theorem ref_loss (i : S_.Idx) : val_main_v65 (F := Ideal) x0 x1 x2 x3 x4 x5 x6 x7 x8 i
    = Ideal.ofBits .f32 0x3F000000#32 * ∑ r : Fin 8192, Ideal.div (∑ j, (args x0 x1 x2 x3 x4 x5 x6 x7 x8).err ⟨r.val + 128, by omega⟩ j * (args x0 x1 x2 x3 x4 x5 x6 x7 x8).err ⟨r.val + 128, by omega⟩ j) (Ideal.ofBits .f32 0x44800000#32) := by
  unfold val_main_v65 val_main_cst_13
  pointwise
  rw [val_main_v64_apply]
  refine congrArg (Ideal.ofBits .f32 0x3F000000#32 * ·) ?_
  unfold val_main_cst_12
  generalize hz : constant (F := Ideal) S_ .f32 0x00000000#32 (Shape.Idx.first Gen.h_S_) = z
  obtain rfl : z = (0 : EReal) := by rw [← hz]; pointwise
  refine (zero_add (M := EReal) _).trans ?_
  refine (Fintype.sum_equiv rows8192 _ _ fun r => ?_).symm
  show _ = val_main_v63 (F := Ideal) x0 x1 x2 x3 x4 x5 x6 x7 x8 (ix2 0 r)
  unfold val_main_v63 val_main_v62 val_main_v61 val_main_v58 val_main_cst_10 val_main_cst_11
  pointwise
  simp only [ref_err x0 x1 x2 x3 x4 x5 x6 x7 x8]

theorem out_v115 (hA : (args x0 x1 x2 x3 x4 x5 x6 x7 x8).Real) : val_main_v115 (F := Ideal) x0 x1 x2 x3 x4 x5 x6 x7 x8 = fun i : S8320x512.Idx => (args x0 x1 x2 x3 x4 x5 x6 x7 x8).dosb (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v115
  pointwise
  exact ref_dosb x0 x1 x2 x3 x4 x5 x6 x7 x8 hA r k

theorem out_v116 (hA : (args x0 x1 x2 x3 x4 x5 x6 x7 x8).Real) : val_main_v116 (F := Ideal) x0 x1 x2 x3 x4 x5 x6 x7 x8 = fun i : S8320x1024.Idx => (args x0 x1 x2 x3 x4 x5 x6 x7 x8).dosw (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v116
  pointwise
  exact ref_dosw x0 x1 x2 x3 x4 x5 x6 x7 x8 hA r k

theorem out_v118 (hA : (args x0 x1 x2 x3 x4 x5 x6 x7 x8).Real) : val_main_v118 (F := Ideal) x0 x1 x2 x3 x4 x5 x6 x7 x8 = fun i : S8320x3584.Idx => (args x0 x1 x2 x3 x4 x5 x6 x7 x8).dga (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v118
  pointwise
  exact ref_dga x0 x1 x2 x3 x4 x5 x6 x7 x8 hA r k

theorem out_v119 (hA : (args x0 x1 x2 x3 x4 x5 x6 x7 x8).Real) : val_main_v119 (F := Ideal) x0 x1 x2 x3 x4 x5 x6 x7 x8 = fun i : S8320x1024.Idx => (args x0 x1 x2 x3 x4 x5 x6 x7 x8).dh1 (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v119
  pointwise
  exact ref_dh1 x0 x1 x2 x3 x4 x5 x6 x7 x8 hA r k

theorem out_v121 : val_main_v121 (F := Ideal) x2 x3 x4 x5 x6 = fun i : S8320x1024.Idx => (args x0 x1 x2 x3 x4 x5 x6 x7 x8).mg (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v121 val_main_v120
  pointwise
  exact ref_mg x0 x1 x2 x3 x4 x5 x6 x7 x8 r k

theorem out_v123 : val_main_v123 (F := Ideal) x2 x4 = fun i : S8320x512.Idx => (args x0 x1 x2 x3 x4 x5 x6 x7 x8).usb (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v123 val_main_v122
  pointwise
  exact ref_usb x0 x1 x2 x3 x4 x5 x6 x7 x8 r k

theorem out_v125 : val_main_v125 (F := Ideal) x3 x4 = fun i : S8320x1024.Idx => (args x0 x1 x2 x3 x4 x5 x6 x7 x8).usw (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v125 val_main_v124
  pointwise
  exact ref_usw x0 x1 x2 x3 x4 x5 x6 x7 x8 r k

theorem out_v127 (hA : (args x0 x1 x2 x3 x4 x5 x6 x7 x8).Real) : val_main_v127 (F := Ideal) x0 x1 x2 x3 x4 x5 x6 x7 x8 = fun i : S8320x1024.Idx => (args x0 x1 x2 x3 x4 x5 x6 x7 x8).dh1 (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v127 val_main_v126
  pointwise
  exact ref_dh1 x0 x1 x2 x3 x4 x5 x6 x7 x8 hA r k

theorem out_v129 (hA : (args x0 x1 x2 x3 x4 x5 x6 x7 x8).Real) : val_main_v129 (F := Ideal) x0 x1 x2 x3 x4 x5 x6 x7 x8 = fun i : S8320x1024.Idx => (args x0 x1 x2 x3 x4 x5 x6 x7 x8).dysb (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v129 val_main_v128
  pointwise
  exact ref_dysb x0 x1 x2 x3 x4 x5 x6 x7 x8 hA r k

theorem out_v131 (hA : (args x0 x1 x2 x3 x4 x5 x6 x7 x8).Real) : val_main_v131 (F := Ideal) x0 x1 x2 x3 x4 x5 x6 x7 x8 = fun i : S8320x1024.Idx => (args x0 x1 x2 x3 x4 x5 x6 x7 x8).dysw (i 0) (i 1) := by
  funext i
  obtain ⟨r, k, rfl⟩ : ∃ r k, i = ix2 r k := ⟨i 0, i 1, by
    funext a; match a with
    | ⟨0, _⟩ => rfl
    | ⟨1, _⟩ => rfl⟩
  unfold val_main_v131 val_main_v130
  pointwise
  exact ref_dysw x0 x1 x2 x3 x4 x5 x6 x7 x8 hA r k

end Cert.Tail

end
-- ==== Proof.TailRun.lean ====
/-
  The tail: the run of the kernel and the run of the reference end with the same results.
-/
module

public import proofs.«01_k».proof.Proof.TailValue
public import proofs.«01_k».proof.Proof.TailRef
public import proofs.«01_k».proof.Proof.Gen.Reference4Ideal.Run
public import proofs.«01_k».proof.Proof.Gen.Pre_finite_tail
public import proofs.«01_k».proof.Defs
public import Idealize.ShloMosaic.Lib.Pipeline.Value

@[expose] public section

set_option maxRecDepth 16384

noncomputable section

namespace Cert.Tail

open Idealize.ShloMosaic Idealize.ShloMosaic.TcCoe Idealize.SL.Sem Cert.Kernel4Ideal Cert.Kernel4Ideal.Gen

variable (m : (ℓ : Loc nD τ sig) → Buf (Elt Ideal) ℓ) (ρ : Dev nD → PrngReg)

/-- The loss as returned: the first element of the last window's array. -/
def lossRes (c : Dev nD) : Buf (Elt Ideal) ((c : Thread nD τ).loc main_v16) :=
  shapeCast S_ (extractStridedSlice S1x1 ![0, 0] (lossArr m c : FVec Ideal S8x128 .f32) slices_S8x128_S1x1_0_0) shapeCasts_S1x1_S_

theorem lossRes_at (c : Dev nD) (i : S_.Idx) : (lossRes m c : S_.Idx → EReal) i
    = ∑ b ∈ Finset.range 40, Ideal.ofBits .f32 0x3A000000#32 * ∑ i ∈ Finset.range 208, sqPart (kargs m c) (b * 208 + i) := by
  rw [← lossArr_at]
  unfold lossRes
  generalize lossArr m c = Q
  change S8x128.Idx → EReal at Q
  pointwise

/-- No two windows stage the same array. -/
theorem windows_apart : Function.Injective (Pipeline.arrRef spec0) := by decide

theorem tail_v16 (c : Dev nD) : Pipeline.afterTail₀ cfgs (dats m) 0 (V0 m) [hostOps1] c main_v16 = lossRes m c := by
  unfold Pipeline.afterTail₀ lossRes
  simp only [List.flatten_cons, List.flatten_nil, List.append_nil, hostOps1]
  after_results_simp
  rw [← arr20]
  exact congrArg (fun v : FVec Ideal S8x128 .f32 => shapeCast S_ (extractStridedSlice S1x1 ![0, 0] v slices_S8x128_S1x1_0_0) shapeCasts_S1x1_S_)
    (Pipeline.withArrays_arr spec0 windows_apart c (V0 m c) _ 20)

theorem run_kernel : θ_run defs (onTc (τ := τ) (main (F := Ideal))) ⟨m, fun _ => 0, ρ⟩ fun r => ∀ c : Dev nD,
      r.2.mem ((c.tc : Thread nD τ).loc main_v14_0) = dosbArr m c
      ∧ r.2.mem ((c.tc : Thread nD τ).loc main_v14_1) = doswArr m c
      ∧ r.2.mem ((c.tc : Thread nD τ).loc main_v14_2) = dgaArr m c
      ∧ r.2.mem ((c.tc : Thread nD τ).loc main_v14_3) = dh1Arr m c
      ∧ r.2.mem ((c.tc : Thread nD τ).loc main_v14_4) = mgArr m c
      ∧ r.2.mem ((c.tc : Thread nD τ).loc main_v14_5) = usbArr m c
      ∧ r.2.mem ((c.tc : Thread nD τ).loc main_v14_6) = uswArr m c
      ∧ r.2.mem ((c.tc : Thread nD τ).loc main_v14_7) = dh1bArr m c
      ∧ r.2.mem ((c.tc : Thread nD τ).loc main_v14_8) = dysbArr m c
      ∧ r.2.mem ((c.tc : Thread nD τ).loc main_v14_9) = dyswArr m c
      ∧ r.2.mem ((c.tc : Thread nD τ).loc main_v14_10) = dgfArr m c
      ∧ r.2.mem ((c.tc : Thread nD τ).loc main_v16) = lossRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (arr9 m c),
      ((h c).1 10).trans (arr10 m c),
      ((h c).1 11).trans (arr11 m c),
      ((h c).1 12).trans (arr12 m c),
      ((h c).1 13).trans (arr13 m c),
      ((h c).1 14).trans (arr14 m c),
      ((h c).1 15).trans (arr15 m c),
      ((h c).1 16).trans (arr16 m c),
      ((h c).1 17).trans (arr17 m c),
      ((h c).1 18).trans (arr18 m c),
      ((h c).1 19).trans (arr19 m c),
      ((h c).2 main_v16 (Pipeline.mem_restRefs_of main_v16 (by decide) (by decide))).trans (tail_v16 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

section
variable (m' : (ℓ : Loc Cert.Reference4Ideal.nD Cert.Reference4Ideal.τ Cert.Reference4Ideal.sig) → Buf (Elt Ideal) ℓ)

/-- The precondition's nine components say that the entries are real numbers. -/
theorem kargs_real (h : Cert.Pre_Kernel4Ideal_finite_tail (hPre_finite_tail := Cert.Pre_finite_tail.Gen.facts) m) (c : Dev nD) : (kargs m c).Real := by
  obtain ⟨h0, h1, h2, h3, h4, h5, h6, h7, h8⟩ := h c
  exact ⟨fun r j => Reals.real_of_finite _ _ h0 _, fun r j => Reals.real_of_finite _ _ h1 _, fun r j => Reals.real_of_finite _ _ h2 _,
    fun r j => Reals.real_of_finite _ _ h3 _, fun r j => Reals.real_of_finite _ _ h4 _, fun r j => Reals.real_of_finite _ _ h5 _,
    fun r j => Reals.real_of_finite _ _ h6 _, fun r j => Reals.real_of_finite _ _ h7 _, fun j => Reals.real_of_finite _ _ h8 _⟩

theorem algebraic_tail : Cert.algebraic_Kernel4Ideal_Reference4Ideal_pre_finite_tail (hKernel4Ideal := Cert.Kernel4Ideal.Gen.facts)
    (hReference4Ideal := Cert.Reference4Ideal.Gen.facts) (hPre_finite_tail := Cert.Pre_finite_tail.Gen.facts) := by
  intro m g m' g' hpre hagree
  refine ⟨dosbArr m, doswArr m, dgaArr m, dh1Arr m, mgArr m, usbArr m, uswArr m, dh1bArr m, dysbArr m, dyswArr m, dgfArr m, lossRes m, run_kernel m g,
    (θ_run _ _ _).mono (fun r h c => ?_) (Cert.Reference4Ideal.Value.run m' g')⟩
  obtain ⟨a0, a1, a2, a3, a4, a5, a6, a7, a8⟩ := hagree c
  have hA := kargs_real m hpre c
  refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, ((h c).2.2.2.2.2.2.2.2.2.1).trans ?_, ((h c).2.2.2.2.2.2.2.2.2.2.1).trans ?_, ((h c).2.2.2.2.2.2.2.2.2.2.2.1).trans ?_, (h c).2.2.2.2.2.2.2.2.2.2.2.2⟩
  all_goals clear h
  · refine (Cert.Reference4Ideal.Read.val_main_v115_eq (StableHlo.launchContents m' c)).trans ?_
    simp only [StableHlo.launchContents_devRef, a0, a1, a2, a3, a4, a5, a6, a7, a8]
    exact out_v115 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hA
  · refine (Cert.Reference4Ideal.Read.val_main_v116_eq (StableHlo.launchContents m' c)).trans ?_
    simp only [StableHlo.launchContents_devRef, a0, a1, a2, a3, a4, a5, a6, a7, a8]
    exact out_v116 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hA
  · refine (Cert.Reference4Ideal.Read.val_main_v118_eq (StableHlo.launchContents m' c)).trans ?_
    simp only [StableHlo.launchContents_devRef, a0, a1, a2, a3, a4, a5, a6, a7, a8]
    exact out_v118 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hA
  · refine (Cert.Reference4Ideal.Read.val_main_v119_eq (StableHlo.launchContents m' c)).trans ?_
    simp only [StableHlo.launchContents_devRef, a0, a1, a2, a3, a4, a5, a6, a7, a8]
    exact out_v119 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hA
  · refine (Cert.Reference4Ideal.Read.val_main_v121_eq (StableHlo.launchContents m' c)).trans ?_
    simp only [StableHlo.launchContents_devRef, a2, a3, a4, a5, a6]
    exact out_v121 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
  · refine (Cert.Reference4Ideal.Read.val_main_v123_eq (StableHlo.launchContents m' c)).trans ?_
    simp only [StableHlo.launchContents_devRef, a2, a4]
    exact out_v123 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
  · refine (Cert.Reference4Ideal.Read.val_main_v125_eq (StableHlo.launchContents m' c)).trans ?_
    simp only [StableHlo.launchContents_devRef, a3, a4]
    exact out_v125 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
  · refine (Cert.Reference4Ideal.Read.val_main_v127_eq (StableHlo.launchContents m' c)).trans ?_
    simp only [StableHlo.launchContents_devRef, a0, a1, a2, a3, a4, a5, a6, a7, a8]
    exact out_v127 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hA
  · refine (Cert.Reference4Ideal.Read.val_main_v129_eq (StableHlo.launchContents m' c)).trans ?_
    simp only [StableHlo.launchContents_devRef, a0, a1, a2, a3, a4, a5, a6, a7, a8]
    exact out_v129 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hA
  · refine (Cert.Reference4Ideal.Read.val_main_v131_eq (StableHlo.launchContents m' c)).trans ?_
    simp only [StableHlo.launchContents_devRef, a0, a1, a2, a3, a4, a5, a6, a7, a8]
    exact out_v131 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hA
  · refine (Cert.Reference4Ideal.Read.val_main_v132_eq (StableHlo.launchContents m' c)).trans ?_
    simp only [StableHlo.launchContents_devRef, a0, a1, a2, a3, a4, a5, a6, a7, a8]
    funext (i : S1x1024.Idx)
    obtain ⟨j, rfl⟩ : ∃ j, i = ix2 0 j := ⟨i 1, by
      funext a; match a with
      | ⟨0, _⟩ => exact Fin.ext (Nat.lt_one_iff.mp (i 0).isLt)
      | ⟨1, _⟩ => rfl⟩
    exact (ref_dgf _ _ _ _ _ _ _ _ _ hA j).trans (dgfArr_at m c j).symm
  · refine (Cert.Reference4Ideal.Read.val_main_v65_eq (StableHlo.launchContents m' c)).trans ?_
    simp only [StableHlo.launchContents_devRef, a0, a1, a2, a3, a4, a5, a6, a7, a8]
    funext (i : S_.Idx)
    refine (ref_loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i).trans ?_
    exact ((lossRes_at m c i).trans (Args.loss_eq hA (sqPart (kargs m c)) fun n => rfl)).symm

end

end Cert.Tail

end
-- ==== Proof.SfSpec.lean ====
/-
  What a row block of the attention's forward kernel computes, tile by tile, in the words of the backward kernel's tiles:
  the forward kernel's scores, weights and carried columns are the backward kernel's.
-/
module

public import proofs.«01_k».proof.Proof.SbMem
public import proofs.«01_k».proof.Proof.Gen.Kernel5Ideal.Skeleton

@[expose] public section

noncomputable section

namespace Cert.Kernel5Ideal.Sf

open Idealize.ShloMosaic Idealize.ShloMosaic.TcCoe
open Gen Cert.KernelIdeal.Sb

variable {F : FTy → Type} [FloatOps F]

/-- What the body carries from tile to tile: the row block's output, and the carried column of each of the two heads. -/
structure FSt (F : FTy → Type) where
  acc : Vec F S128x128 .f32
  c : Vec F S2x128x1 .f32

/-- What the body reads: the keys, each head's values alone, the stacked triangle, and each head's queries. -/
structure FEnv (F : FTy → Type) where
  kb : Vec F S8320x128 .bf16
  va : Vec F S8320x128 .bf16
  vc : Vec F S8320x128 .bf16
  u : Vec F S256x128 .bf16
  q0 : FVec F S128x128 .bf16
  q1 : FVec F S128x128 .bf16

/-- One tile: keys block `j` of the row block. -/
def ftile (E : FEnv F) (m : Option (IVec S128x128 1)) (j : Fin 65) (s : FSt F) : FSt F where
  acc := plusDot (plusDot s.acc (tW m E.q0 (rows j E.kb) E.u (colOf 0 s.c)) (rows j E.va))
    (tW m E.q1 (rows j E.kb) E.u (colOf 1 s.c)) (rows j E.vc)
  c := putCol 1 (tNext E.u (colOf 1 s.c) (tLm m E.q1 (rows j E.kb)))
    (putCol 0 (tNext E.u (colOf 0 s.c) (tLm m E.q0 (rows j E.kb))) s.c)

/-- The row block's operands from its blocks. -/
def fenv (kb va vc : Vec F S8320x128 .bf16) (u : Vec F S256x128 .bf16) (q : Vec F S128x128 .f32) : FEnv F where
  kb := kb
  va := va
  vc := vc
  u := u
  q0 := k0_pay62 q
  q1 := k0_pay63 q

/-- The body's carried values before the first tile. -/
def fstart : FSt F where
  acc := k0_pay64
  c := k0_pay65

/-- The tiles between: after `n` of them, going from keys block `i - 1` down. -/
def fbetween (E : FEnv F) (i : Fin 65) (s : FSt F) : Nat → FSt F
  | 0 => s
  | n + 1 => ftile E none ⟨i.val - 1 - n, by omega⟩ (fbetween E i s n)

/-- What the body leaves at row block `i`. -/
def frowBlock (E : FEnv F) (i : Fin 65) (s : FSt F) : FSt F :=
  if i.val = 0 then ftile E (some (diagMask i.val)) i s
  else ftile E (some Cert.KernelIdeal.Gen.k0_pay78) 0 (fbetween E i (ftile E (some (diagMask i.val)) i s) (i.val - 1))

/-! ## Where the row blocks lie -/

theorem foff1_eq (i : grid0.Coords) : k0_off1 i = ![128 * (i 1).val, 0] := by
  unfold k0_off1
  dsimp only
  rw [word_row ⟨(i 1).val, (i 1).isLt⟩]

theorem ftrips1_eq (i : grid0.Coords) : (k0_t1_loop i).trips = (i 1).val - 1 := word_trips ⟨(i 1).val, (i 1).isLt⟩

theorem ftrips2_eq (i : grid0.Coords) : (k0_t2_loop i).trips = 0 := word_rest ⟨(i 1).val, (i 1).isLt⟩

theorem foff2_eq (i : grid0.Coords) (k : Fin (k0_t1_loop i).trips) : k0_off2 i k = ![128 * ((i 1).val - 1 - k.val), 0] := by
  have h : (i 1).val < 65 := (i 1).isLt
  have hk : k.val < (i 1).val - 1 := lt_of_lt_of_eq k.isLt (ftrips1_eq i)
  have := word_between ⟨(i 1).val, h⟩ ⟨k.val, by omega⟩ hk
  unfold k0_off2
  dsimp only
  exact congrArg (fun x => ![x, 0]) this

end Cert.Kernel5Ideal.Sf

end
-- ==== Proof.SfState.lean ====
/-
  The tiles of a row block of the attention's forward kernel in real numbers: the row block's output is the sum of the
  weights times the values over the columns from a keys block on.
-/
module

public import proofs.«01_k».proof.Proof.SfSpec
public import proofs.«01_k».proof.Proof.SbState

@[expose] public section

noncomputable section

namespace Cert.Kernel5Ideal.Sf

open Idealize.ShloMosaic Idealize.ShloMosaic.TcCoe
open Gen Cert.KernelIdeal.Sb Cert.SbMath

/-- A column's part of the output of two heads side by side. -/
def oT (X : Lanes) (R l t : ℕ) : ℝ := w (X.za 0) R t * hm 0 l (X.v t l) + w (X.za 1) R t * hm 1 l (X.v t l)

/-- What a row block's tiles read, in real numbers. -/
structure FEnvR (E : FEnv Ideal) (X : Lanes) (i : ℕ) : Prop where
  kb : RL E.kb X.k
  va : RL E.va (fun t l => hm 0 l (X.v t l))
  vc : RL E.vc (fun t l => hm 1 l (X.v t l))
  u : Tri E.u
  q0 : R2 E.q0 (fun r l => X.qa 0 (128 * i + r) l)
  q1 : R2 E.q1 (fun r l => X.qa 1 (128 * i + r) l)

/-- What the body carries after the tiles from keys block `J` on, at row block `i`. -/
structure FHolds (X : Lanes) (i J : ℕ) (s : FSt Ideal) : Prop where
  acc : R2 s.acc (fun r l => ∑ t ∈ Finset.Ico (128 * J) 8320, oT X (128 * i + r) l t)
  c : ∀ (a : Fin 2) (r : Fin 128), s.c (ix3 a r 0) = ((lmFrom (X.za a) (128 * i + r.val) (128 * J) : ℝ) : EReal)

variable {X : Lanes} {E : FEnv Ideal} {s : FSt Ideal} {m : Option (IVec S128x128 1)} {i : ℕ}

theorem ftile_holds (j : Fin 65) (hE : FEnvR E X i) (hM : MaskIs m (128 * i) (128 * j.val)) (h : FHolds X i (j.val + 1) s) :
    FHolds X i j.val (ftile E m j s) := by
  have hj := j.isLt
  have c0 : RC (colOf 0 s.c) (fun r => lmFrom (X.za 0) (128 * i + r) (128 * (j.val + 1))) := fun r => h.c 0 r
  have c1 : RC (colOf 1 s.c) (fun r => lmFrom (X.za 1) (128 * i + r) (128 * (j.val + 1))) := fun r => h.c 1 r
  have z0 : R2 (rowsDot E.q0 (rows j E.kb)) (fun r c => X.za 0 (128 * i + r) (128 * j.val + c)) := rd_rowsDot hE.q0 (rd_rows' j hE.kb)
  have z1 : R2 (rowsDot E.q1 (rows j E.kb)) (fun r c => X.za 1 (128 * i + r) (128 * j.val + c)) := rd_rowsDot hE.q1 (rd_rows' j hE.kb)
  refine ⟨fun r l => ?_, fun a r => ?_⟩
  · refine (rd_plusDot (rd_plusDot h.acc (rd_w hj hM hE.u z0 c0) (rd_rows' j hE.va)) (rd_w hj hM hE.u z1 c1) (rd_rows' j hE.vc) r l).trans (congrArg _ ?_)
    beta_reduce
    rw [sum_block _ j.val hj, add_assoc, ← Finset.sum_add_distrib, add_comm]; rfl
  · match a with
    | ⟨0, _⟩ => exact rd_next (f := fun r t => lm (X.za 0) (128 * i + r) t) hj hE.u (rd_lm hM z0) c0 r
    | ⟨1, _⟩ => exact rd_next (f := fun r t => lm (X.za 1) (128 * i + r) t) hj hE.u (rd_lm hM z1) c1 r

theorem fstart_holds (i : ℕ) : FHolds X i (i + 1) fstart := by
  refine ⟨fun r l => ?_, fun a r => ?_⟩
  · refine Eq.trans (b := (0 : EReal)) ?_ ?_
    · show k0_pay64 (F := Ideal) (ix2 r l) = _
      unfold k0_pay64; pointwise
    · rw [← EReal.coe_zero]
      refine congrArg _ (Finset.sum_eq_zero fun t ht => ?_).symm
      have := Finset.mem_Ico.mp ht
      have hn : ¬ keep (128 * i + r.val) t := fun hk => by have := hk.1; omega
      unfold oT
      rw [w_of_not _ _ _ hn, w_of_not _ _ _ hn]; ring
  · refine Eq.trans (b := (0 : EReal)) ?_ ?_
    · show k0_pay65 (F := Ideal) (ix3 a r 0) = _
      unfold k0_pay65; pointwise
    · rw [lmFrom_zero _ _ _ (by omega), EReal.coe_zero]

theorem fbetween_holds (i : Fin 65) (hE : FEnvR E X i.val) (h : FHolds X i.val i.val s) (n : ℕ) (hn : n + 1 ≤ i.val) :
    FHolds X i.val (i.val - n) (fbetween E i s n) := by
  induction n with
  | zero => exact h
  | succ n ih =>
    have ih := ih (by omega)
    have e : i.val - n = (⟨i.val - 1 - n, by omega⟩ : Fin 65).val + 1 := by show i.val - n = i.val - 1 - n + 1; omega
    rw [e] at ih
    have := ftile_holds (m := none) ⟨i.val - 1 - n, by omega⟩ hE (mask_none _ _ (by show 0 < i.val - 1 - n; omega) (by show i.val - 1 - n < i.val; omega)) ih
    rw [show i.val - (n + 1) = i.val - 1 - n from by omega]
    exact this

/-- After a row block: all its tiles are done. -/
theorem frowBlock_holds (i : Fin 65) (hE : FEnvR E X i.val) : FHolds X i.val 0 (frowBlock E i fstart) := by
  have h := ftile_holds i hE (mask_diag i.val i.isLt) (fstart_holds (X := X) i.val)
  unfold frowBlock
  split
  · next h0 => rw [h0] at h ⊢; exact h
  · next h0 =>
    have hb := fbetween_holds i hE h (i.val - 1) (by omega)
    rw [show i.val - (i.val - 1) = (0 : Fin 65).val + 1 from by show i.val - (i.val - 1) = 0 + 1; omega] at hb
    exact ftile_holds 0 hE (mask_first i.val (by omega)) hb

end Cert.Kernel5Ideal.Sf

end
-- ==== Proof.SfTri.lean ====
/-
  The forward kernel's literal array is the backward kernel's: two stacked triangles of ones.
-/
module

public import proofs.«01_k».proof.Proof.SbTri
public import proofs.«01_k».proof.Proof.Gen.Kernel5Ideal.Frame

@[expose] public section

set_option maxRecDepth 16384

noncomputable section

namespace Cert.Kernel5Ideal.Sf

open Idealize.ShloMosaic Idealize.ShloMosaic.TcCoe Gen Cert.KernelIdeal.Sb

theorem lit_same : Cert.Kernel5Ideal.lit0t = Cert.KernelIdeal.lit0t := rfl

variable (m : (ℓ : Loc nD τ sig) → Buf (Elt Ideal) ℓ)

theorem fV_cst (c : Dev nD) (i : S256x128.Idx) :
    (V m c main_cst : S256x128.Idx → EReal) i = Ideal.ofBits .bf16 (lit0 (S256x128.rowMajor i)) := by
  unfold V
  after_reads_at

theorem fV_tri (c : Dev nD) : Tri (V m c main_cst) := fun r j => by
  refine (fV_cst m c (ix2 r j)).trans ?_
  have e : lit0 (S256x128.rowMajor (ix2 r j)) = Cert.KernelIdeal.lit0t (r.val * 128 + j.val) := by
    have hv : (S256x128.rowMajor (ix2 r j)).val = r.val * 128 + j.val := Shape.rowMajor_val_two _
    generalize S256x128.rowMajor (ix2 r j) = p at hv ⊢
    obtain ⟨p, hp⟩ := p
    exact (congrArg lit0t hv).trans (congrFun lit_same _)
  rw [e, lit_at]
  by_cases h : j.val < r.val % 128
  · rw [if_pos h, if_pos h]; exact one_bf16
  · rw [if_neg h, if_neg h]; exact zero_bf16

end Cert.Kernel5Ideal.Sf

end
-- ==== Proof.SfEnv.lean ====
/-
  What the attention's forward kernel reads at a point, in real numbers.
-/
module

public import proofs.«01_k».proof.Proof.SbEnv
public import proofs.«01_k».proof.Proof.SfState
public import proofs.«01_k».proof.Proof.SfTri

@[expose] public section

set_option maxRecDepth 16384

noncomputable section

namespace Cert.Kernel5Ideal.Sf

open Idealize.ShloMosaic Idealize.ShloMosaic.TcCoe
open Gen Cert.KernelIdeal.Sb Cert.SbMath Cert.SbRef

theorem fidx0 : ∀ t : Fin grid0.N, win0_0.index t (0 : Fin 2) = t.val % 65 ∧ win0_0.index t (1 : Fin 2) = t.val / 65 := by decide +kernel
theorem fidx1 : ∀ t : Fin grid0.N, win0_1.index t (0 : Fin 2) = 0 ∧ win0_1.index t (1 : Fin 2) = 4 + t.val / 65 := by decide +kernel
theorem fidx2 : ∀ t : Fin grid0.N, win0_2.index t (0 : Fin 2) = 0 ∧ win0_2.index t (1 : Fin 2) = 8 + t.val / 65 := by decide +kernel
theorem fidx3 : ∀ t : Fin grid0.N, win0_3.index t (0 : Fin 2) = 0 ∧ win0_3.index t (1 : Fin 2) = 0 := by decide +kernel

variable (m : (ℓ : Loc nD τ sig) → Buf (Elt Ideal) ℓ) (c : Dev nD) (t : Fin cfg0.N)

/-! ## The blocks -/

set_option maxHeartbeats 1600000 in
/-- The rows of the queries. -/
theorem fblk0 (r l : Fin 128) (R : Fin 8320) (k : Fin 1536) (hR : R.val = 128 * (t.val % 65) + r.val)
    (hk : k.val = 128 * (t.val / 65) + l.val) :
    (iblk m c 0 t : S128x128.Idx → EReal) (ix2 r l) = (V m c main_v0 : S8320x1536.Idx → EReal) (ix2 R k) := by
  unfold iblk
  rw [View.read_apply]
  show (V m c main_v0 : S8320x1536.Idx → EReal) _ = _
  generalize (V m c main_v0 : S8320x1536.Idx → EReal) = Y
  refine congrArg Y (funext fun a => Fin.ext ?_)
  have e := fidx0 t
  match a with
  | ⟨0, _⟩ =>
    show win0_0.index t (0 : Fin 2) * 128 + 1 * r.val = R.val
    omega
  | ⟨1, _⟩ =>
    show win0_0.index t (1 : Fin 2) * 128 + 1 * l.val = k.val
    omega

set_option maxHeartbeats 1600000 in
/-- The keys of a pair of heads. -/
theorem fblk1 (r : Fin 8320) (l : Fin 128) (k : Fin 1536) (hk : k.val = 512 + (128 * (t.val / 65) + l.val)) :
    (iblk m c 1 t : S8320x128.Idx → EReal) (ix2 r l) = (V m c main_v0 : S8320x1536.Idx → EReal) (ix2 r k) := by
  unfold iblk
  rw [View.read_apply]
  show (V m c main_v0 : S8320x1536.Idx → EReal) _ = _
  generalize (V m c main_v0 : S8320x1536.Idx → EReal) = Y
  refine congrArg Y (funext fun a => Fin.ext ?_)
  have e := fidx1 t
  match a with
  | ⟨0, _⟩ =>
    show win0_1.index t (0 : Fin 2) * 8320 + 1 * r.val = r.val
    omega
  | ⟨1, _⟩ =>
    show win0_1.index t (1 : Fin 2) * 128 + 1 * l.val = k.val
    omega

set_option maxHeartbeats 1600000 in
/-- The values of a pair of heads. -/
theorem fblk2 (r : Fin 8320) (l : Fin 128) (k : Fin 1536) (hk : k.val = 1024 + (128 * (t.val / 65) + l.val)) :
    (iblk m c 2 t : S8320x128.Idx → EReal) (ix2 r l) = (V m c main_v0 : S8320x1536.Idx → EReal) (ix2 r k) := by
  unfold iblk
  rw [View.read_apply]
  show (V m c main_v0 : S8320x1536.Idx → EReal) _ = _
  generalize (V m c main_v0 : S8320x1536.Idx → EReal) = Y
  refine congrArg Y (funext fun a => Fin.ext ?_)
  have e := fidx2 t
  match a with
  | ⟨0, _⟩ =>
    show win0_2.index t (0 : Fin 2) * 8320 + 1 * r.val = r.val
    omega
  | ⟨1, _⟩ =>
    show win0_2.index t (1 : Fin 2) * 128 + 1 * l.val = k.val
    omega

set_option maxHeartbeats 1600000 in
/-- The two stacked triangles. -/
theorem fblk3 (r : Fin 256) (l : Fin 128) :
    (iblk m c 3 t : S256x128.Idx → EReal) (ix2 r l) = (V m c main_cst : S256x128.Idx → EReal) (ix2 r l) := by
  unfold iblk
  rw [View.read_apply]
  show (V m c main_cst : S256x128.Idx → EReal) _ = _
  generalize (V m c main_cst : S256x128.Idx → EReal) = Y
  refine congrArg Y (funext fun a => Fin.ext ?_)
  have e := fidx3 t
  match a with
  | ⟨0, _⟩ =>
    show win0_3.index t (0 : Fin 2) * 256 + 1 * r.val = r.val
    omega
  | ⟨1, _⟩ =>
    show win0_3.index t (1 : Fin 2) * 128 + 1 * l.val = l.val
    omega

/-! ## What the body makes of them -/

section
variable {q k : ℕ → ℕ → ℝ}

theorem rd_57 {H : Vec Ideal S8320x128 .f32} (h : RL H k) : RL (k0_pay57 H) k := fun t l => by
  have e := h t l
  unfold k0_pay57
  pointwise
  exact e

theorem rd_59 {H : Vec Ideal S8320x128 .f32} (h : RL H k) : RL (k0_pay59 H) (fun t l => hm 0 l (k t l)) := fun t l => by
  have e := h t l
  unfold k0_pay59 k0_pay58 k0_pay56
  pointwise
  rw [e]
  exact sel_first l _

theorem rd_60 {H : Vec Ideal S8320x128 .f32} (h : RL H k) : RL (k0_pay60 H) (fun t l => hm 1 l (k t l)) := fun t l => by
  have e := h t l
  unfold k0_pay60 k0_pay58 k0_pay56
  pointwise
  rw [e]
  exact sel_second l _

theorem rd_62 {H : Vec Ideal S128x128 .f32} (h : R2 H q) : R2 (k0_pay62 H) (fun r l => hm 0 l (q r l * (1 / 8))) := fun r l => by
  have e := h r l
  unfold k0_pay62 k0_pay61 k0_pay56
  pointwise
  rw [e, const_eighth, ← EReal.coe_mul]
  exact sel_first l _

theorem rd_63 {H : Vec Ideal S128x128 .f32} (h : R2 H q) : R2 (k0_pay63 H) (fun r l => hm 1 l (q r l * (1 / 8))) := fun r l => by
  have e := h r l
  unfold k0_pay63 k0_pay61 k0_pay56
  pointwise
  rw [e, const_eighth, ← EReal.coe_mul]
  exact sel_second l _

/-- What the body makes of blocks of real numbers. -/
theorem fenv_real {kb va vc : Vec Ideal S8320x128 .bf16} {B0 : Vec Ideal S128x128 .f32} {B3 : Vec Ideal S256x128 .bf16} {X : Lanes} {i : ℕ}
    (hq : R2 B0 (fun r l => X.q (128 * i + r) l)) (hk : RL kb X.k) (ha : RL va (fun t l => hm 0 l (X.v t l)))
    (hc : RL vc (fun t l => hm 1 l (X.v t l))) (hu : Tri B3) : FEnvR (fenv kb va vc B3 B0) X i where
  kb := by show RL kb _; exact hk
  va := by show RL va _; exact ha
  vc := by show RL vc _; exact hc
  u := by show Tri B3; exact hu
  q0 := by show R2 (k0_pay62 B0) _; exact rd_62 hq
  q1 := by show R2 (k0_pay63 B0) _; exact rd_63 hq
end

/-! ## A pair of heads -/

/-- The fused projection, the program's argument. -/
def fq : S1x8320x1536.Idx → EReal := m ((c.tc : Thread nD τ).loc main_arg0)

/-- The pair `p` of heads: 128 columns of the fused projection's three parts. -/
def flanes (p : ℕ) : Lanes where
  q := fun R l => qF (fq m c) R (128 * p + l)
  k := fun t l => kF (fq m c) t (128 * p + l)
  v := fun t l => vF (fq m c) t (128 * p + l)
  d := fun _ _ => 0

/-- The pair's scores are the two heads'. -/
theorem fza_eq (p : ℕ) (a : Fin 2) : (flanes m c p).za a = zH (qF (fq m c)) (kF (fq m c)) (2 * p + a.val) := by
  funext R t
  unfold Lanes.za Lanes.qa zH
  rw [sum_lanes, Finset.sum_mul]
  refine Finset.sum_congr rfl fun d _ => ?_
  unfold flanes
  beta_reduce
  dsimp only
  rw [half]
  ring

theorem fV_v0 (R : Fin 8320) (k : Fin 1536) :
    (V m c main_v0 : S8320x1536.Idx → EReal) (ix2 R k) = (m ((c.tc : Thread nD τ).loc main_arg0) : S1x8320x1536.Idx → EReal) (ix3 0 R k) := by
  unfold V
  after_reads_at

variable (h0 : ∀ i, ∃ r : ℝ, fq m c i = r)
include h0

theorem fV_qkv (R : Fin 8320) (k : Fin 1536) : (V m c main_v0 : S8320x1536.Idx → EReal) (ix2 R k) = ((qkvF (fq m c) R.val k.val : ℝ) : EReal) :=
  (fV_v0 m c R k).trans (qkvF_eq h0 R k)

omit h0 in
theorem fn_lt : t.val < 260 := lt_of_lt_of_eq t.isLt (show cfg0.N = 260 from N_0)

theorem fq_at : R2 (iblk m c 0 t) (fun r l => (flanes m c (t.val / 65)).q (128 * (t.val % 65) + r) l) := fun r l => by
  have hp := fn_lt t
  rw [fblk0 m c t r l ⟨128 * (t.val % 65) + r.val, by omega⟩ ⟨128 * (t.val / 65) + l.val, by omega⟩ rfl rfl, fV_qkv m c h0]
  rfl

theorem fk_at : RL (iblk m c 1 t) (flanes m c (t.val / 65)).k := fun r l => by
  have hp := fn_lt t
  rw [fblk1 m c t r l ⟨512 + (128 * (t.val / 65) + l.val), by omega⟩ rfl, fV_qkv m c h0]
  rfl

theorem fv_at : RL (iblk m c 2 t) (flanes m c (t.val / 65)).v := fun r l => by
  have hp := fn_lt t
  rw [fblk2 m c t r l ⟨1024 + (128 * (t.val / 65) + l.val), by omega⟩ rfl, fV_qkv m c h0]
  rfl

omit h0 in
theorem fu_at : Tri (iblk m c 3 t) := fun r l => (fblk3 m c t r l).trans (fV_tri m c r l)

end Cert.Kernel5Ideal.Sf

end
-- ==== Proof.SfTrip.lean ====
/-
  The tiles between, of the attention's forward kernel: one trip of its loop is one tile, and all of them are the tiles
  one after the other.
-/
module

public import proofs.«01_k».proof.Proof.SfSpec
public import proofs.«01_k».proof.Proof.Gen.Kernel5Ideal.Loops
public import Idealize.ShloMosaic.Lib.Exec
public import Idealize.ShloMosaic.Lib.Tactic
public import Idealize.ShloMosaic.Lib.Pipeline.Kit

@[expose] public section

set_option maxRecDepth 16384

noncomputable section

namespace Cert.Kernel5Ideal.Sf

open Idealize.ShloMosaic Idealize.ShloMosaic.TcCoe Idealize.ShloMosaic.Tactic
open Gen Cert.KernelIdeal.Sb

variable {F : FTy → Type} [FloatOps F]

section
variable (𝒱 : Variants) (c : Dev nD) (bd : Option 𝒱.V) (i : grid0.Coords) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S256x128 .bf16) (harg5 : arg5.IsWhole) (arg6 : Memref sig .tc .vmem S128x128 .f32) (harg6 : arg6.IsWhole) (arg7 : Memref sig .tc .vmem S8320x128 .bf16) (harg7 : arg7.IsWhole) (arg8 : Memref sig .tc .vmem S8320x128 .bf16) (harg8 : arg8.IsWhole) (arg9 : Memref sig .tc .vmem S8320x128 .bf16) (harg9 : arg9.IsWhole) (arg10 : Memref sig .tc .vmem S128x128 .f32) (harg10 : arg10.IsWhole) (arg11 : Memref sig .tc .vmem S2x128x1 .f32) (harg11 : arg11.IsWhole)
  (arg1 : BitVec 32) (E : FEnv F)

set_option maxHeartbeats 1600000 in
/-- One trip is one tile without a mask. -/
theorem trip_tile (s : FSt F) (k : Fin (k0_t1_loop i).trips) (j : Fin 65) (hj : j.val = (i 1).val - 1 - k.val) :
    arg10.view.writes (Elt F) (harg10.unread s.acc) (tripL_k0_t1 (F := F) 𝒱 c bd i arg2 harg2 arg3 harg3 arg4 harg4 arg5 harg5 arg6 harg6 arg7 harg7 arg8 harg8 arg9 harg9 arg10 harg10 arg11 harg11 arg1 E.q0 E.q1 (harg5.unread E.u) (harg7.unread E.kb) (harg8.unread E.va) (harg9.unread E.vc) k (harg10.unread s.acc) (harg11.unread s.c)).1
        = harg10.unread (ftile E none j s).acc
    ∧ arg11.view.writes (Elt F) (harg11.unread s.c) (tripL_k0_t1 (F := F) 𝒱 c bd i arg2 harg2 arg3 harg3 arg4 harg4 arg5 harg5 arg6 harg6 arg7 harg7 arg8 harg8 arg9 harg9 arg10 harg10 arg11 harg11 arg1 E.q0 E.q1 (harg5.unread E.u) (harg7.unread E.kb) (harg8.unread E.va) (harg9.unread E.vc) k (harg10.unread s.acc) (harg11.unread s.c)).2
        = harg11.unread (ftile E none j s).c := by
  have ho : k0_off2 i k = ![128 * j.val, 0] := by rw [foff2_eq, hj]
  have rd7 := fun inb => read_rows harg7 E.kb j ho inb
  have rd8 := fun inb => read_rows harg8 E.va j ho inb
  have rd9 := fun inb => read_rows harg9 E.vc j ho inb
  have rd11_0 : ∀ inb, arg11.view.readAt (Elt F) (Rect.unit (s := S2x128x1) ![0, 0, 0] S1x128x1.size inb) (harg11.unread s.c) = _ := fun inb => read_col harg11 s.c 0 inb
  have rd11_1 : ∀ inb, arg11.view.readAt (Elt F) (Rect.unit (s := S2x128x1) ![1, 0, 0] S1x128x1.size inb) (harg11.unread s.c) = _ := fun inb => read_col harg11 s.c 1 inb
  have rd5 := fun inb => read_whole harg5 E.u (off := ![0, 0]) zeroOff inb
  have rd10 := fun inb => read_whole harg10 s.acc (off := ![0, 0]) zeroOff inb
  unfold tripL_k0_t1 trip_k0_t1
  dsimp only
  refine ⟨?_, ?_⟩
  · refine (writes_whole harg10 _ _ _ _).trans (congrArg harg10.unread ?_)
    unfold ftile
    dsimp only
    sl_unfold_run_names
    simp only [rd7, rd8, rd9, rd11_0, rd11_1, rd5, rd10]
    simp only [k0_pay3, k0_pay4, shapeCast_self]
    rfl
  · refine (writes_cols harg11 s.c _ _ _ _).trans (congrArg harg11.unread ?_)
    unfold ftile
    dsimp only
    refine congrArg₂ (fun x y => putCol 1 x (putCol 0 y _)) ?_ ?_
    all_goals
      sl_unfold_run_names
      simp only [rd7, rd8, rd9, rd11_0, rd11_1, rd5, rd10]
      rfl

/-- The tiles between, one after the other. -/
theorem between_tiles (n : Fin 65) (hn : n.val = (i 1).val) (s : FSt F) (k : ℕ) (hk : k ≤ (k0_t1_loop i).trips) :
    arg10.view.writes (Elt F) (harg10.unread s.acc) (pb_k0_t1 (F := F) 𝒱 c bd i arg2 harg2 arg3 harg3 arg4 harg4 arg5 harg5 arg6 harg6 arg7 harg7 arg8 harg8 arg9 harg9 arg10 harg10 arg11 harg11 arg1 E.q0 E.q1 (harg5.unread E.u) (harg7.unread E.kb) (harg8.unread E.va) (harg9.unread E.vc) (harg10.unread s.acc) (harg11.unread s.c) k).1
        = harg10.unread (fbetween E n s k).acc
    ∧ arg11.view.writes (Elt F) (harg11.unread s.c) (pb_k0_t1 (F := F) 𝒱 c bd i arg2 harg2 arg3 harg3 arg4 harg4 arg5 harg5 arg6 harg6 arg7 harg7 arg8 harg8 arg9 harg9 arg10 harg10 arg11 harg11 arg1 E.q0 E.q1 (harg5.unread E.u) (harg7.unread E.kb) (harg8.unread E.va) (harg9.unread E.vc) (harg10.unread s.acc) (harg11.unread s.c) k).2
        = harg11.unread (fbetween E n s k).c := by
  induction k with
  | zero => exact ⟨rfl, rfl⟩
  | succ k ih =>
    obtain ⟨h1, h2⟩ := ih (by omega)
    have e := pb_k0_t1_succ (F := F) 𝒱 c bd i arg2 harg2 arg3 harg3 arg4 harg4 arg5 harg5 arg6 harg6 arg7 harg7 arg8 harg8 arg9 harg9 arg10 harg10 arg11 harg11 arg1 E.q0 E.q1 (harg5.unread E.u) (harg7.unread E.kb) (harg8.unread E.va) (harg9.unread E.vc) (harg10.unread s.acc) (harg11.unread s.c) ⟨k, hk⟩
    dsimp only at e
    rw [e]
    dsimp only
    rw [View.writes_append, View.writes_append, h1, h2]
    exact trip_tile 𝒱 c bd i arg2 harg2 arg3 harg3 arg4 harg4 arg5 harg5 arg6 harg6 arg7 harg7 arg8 harg8 arg9 harg9 arg10 harg10 arg11 harg11 arg1 E (fbetween E n s k) ⟨k, hk⟩ ⟨n.val - 1 - k, by omega⟩ (by show n.val - 1 - k = _; rw [hn])
end

end Cert.Kernel5Ideal.Sf

end
-- ==== Proof.SfCases.lean ====
/-
  What the attention's forward kernel leaves at a point: at a pair's first row block the rounded keys and each head's rounded
  values, and at every row block the row block's output.
-/
module

public import proofs.«01_k».proof.Proof.SfTrip
public import proofs.«01_k».proof.Proof.Gen.Kernel5Ideal.Frame

@[expose] public section

set_option maxRecDepth 16384

noncomputable section

namespace Cert.Kernel5Ideal.Sf

open Idealize.ShloMosaic Idealize.ShloMosaic.TcCoe Idealize.ShloMosaic.Tactic
open Gen Cert.KernelIdeal.Sb

variable {F : FTy → Type} [FloatOps F]

section
variable (kb va vc : Vec F S8320x128 .bf16) (u : Vec F S256x128 .bf16) (q : Vec F S128x128 .f32) (m : IVec S128x128 1) (j : Fin 65)

/-- The diagonal tile's output. -/
theorem diag_acc : k0_pay2 (k0_pay75 k0_pay64 (k0_pay72 (k0_pay62 q) m (rows j kb) u (colOf 0 k0_pay65)) (rows j va))
      (k0_pay81 (k0_pay63 q) m (rows j kb) u (colOf 1 k0_pay65)) (rows j vc)
    = (ftile (fenv kb va vc u q) (some m) j fstart).acc := by
  simp only [k0_pay2, shapeCast_self]
  rfl

/-- The diagonal tile's carried columns. -/
theorem diag_c : putCol 1 (k0_pay1 (k0_pay82 (k0_pay63 q) m (rows j kb) u (colOf 1 k0_pay65)))
      (putCol 0 (k0_pay74 (k0_pay73 (k0_pay62 q) m (rows j kb) u (colOf 0 k0_pay65))) k0_pay65)
    = (ftile (fenv kb va vc u q) (some m) j fstart).c := rfl
end

section
variable (kb va vc : Vec F S8320x128 .bf16) (u : Vec F S256x128 .bf16) (q : Vec F S128x128 .f32)
theorem fenv_kb : (fenv kb va vc u q).kb = kb := rfl
theorem fenv_va : (fenv kb va vc u q).va = va := rfl
theorem fenv_vc : (fenv kb va vc u q).vc = vc := rfl
theorem fenv_u : (fenv kb va vc u q).u = u := rfl
theorem fenv_q0 : (fenv kb va vc u q).q0 = k0_pay62 q := rfl
theorem fenv_q1 : (fenv kb va vc u q).q1 = k0_pay63 q := rfl
end

/-- The first row block is number zero. -/
theorem word_first : ∀ n : Fin 65, (Scalar.cmpi .ne (Scalar.extui (Scalar.cmpi .eq (BitVec.ofNat 32 n.val) 0#32)) 0#32) = 1#1 ↔ n.val = 0 := by
  decide +kernel

/-- The second column read after the first was written. -/
theorem read_one {sig : RefSig} {a : Memref sig .tc .vmem S2x128x1 .f32} (f : BufTy.Contents (Elt F) a.view.ty)
    (inb0 : ∀ k, (![0, 0, 0] : Fin 3 → Nat) k + S1x128x1.size k ≤ S2x128x1.size k)
    (inb1 : ∀ k, (![1, 0, 0] : Fin 3 → Nat) k + S1x128x1.size k ≤ S2x128x1.size k) (w : Vec F S1x128x1 .f32)
    (L : List (View.Piece (Elt F) S2x128x1 .f32)) :
    a.view.readAt (Elt F) (Rect.unit (s := S2x128x1) ![1, 0, 0] S1x128x1.size inb1).toLoadRect
        (a.view.writes (Elt F) f (⟨Rect.unit (s := S2x128x1) ![0, 0, 0] S1x128x1.size inb0, w⟩ :: L))
      = a.view.readAt (Elt F) (Rect.unit (s := S2x128x1) ![1, 0, 0] S1x128x1.size inb1).toLoadRect (a.view.writes (Elt F) f L) := by
  have e : a.view.read (Elt F) (a.view.writes (Elt F) f (⟨Rect.unit (s := S2x128x1) ![0, 0, 0] S1x128x1.size inb0, w⟩ :: L))
      = putCol 0 w (a.view.read (Elt F) (a.view.writes (Elt F) f L)) := read_cons_col f 0 inb0 w L
  rw [View.readAt_eq_ld, View.readAt_eq_ld, e]
  funext p
  refine if_neg ?_
  show ¬((1 + 1 * (p 0).val : ℕ) = 0)
  omega

section
variable (E : FEnv F) (s : FSt F)

/-- The last tile's output. -/
theorem last_acc : k0_pay6 (k0_pay48 s.acc (k0_pay45 E.q0 (rows 0 E.kb) E.u (colOf 0 s.c)) (rows 0 E.va))
      (k0_pay54 E.q1 k0_pay39 (rows 0 E.kb) E.u (colOf 1 s.c)) (rows 0 E.vc)
    = (ftile E (some Cert.KernelIdeal.Gen.k0_pay78) 0 s).acc := by
  simp only [k0_pay6, shapeCast_self]
  rfl
end

section
variable (c : Dev nD) (i : grid0.Coords) (arg2 : Memref sig .tc .vmem S128x128 .f32) (harg2 : arg2.IsWhole) (arg3 : Memref sig .tc .vmem S8320x128 .f32) (harg3 : arg3.IsWhole) (arg4 : Memref sig .tc .vmem S8320x128 .f32) (harg4 : arg4.IsWhole) (arg5 : Memref sig .tc .vmem S256x128 .bf16) (harg5 : arg5.IsWhole) (arg6 : Memref sig .tc .vmem S128x128 .f32) (harg6 : arg6.IsWhole) (arg7 : Memref sig .tc .vmem S8320x128 .bf16) (harg7 : arg7.IsWhole) (arg8 : Memref sig .tc .vmem S8320x128 .bf16) (harg8 : arg8.IsWhole) (arg9 : Memref sig .tc .vmem S8320x128 .bf16) (harg9 : arg9.IsWhole) (arg10 : Memref sig .tc .vmem S128x128 .f32) (harg10 : arg10.IsWhole) (arg11 : Memref sig .tc .vmem S2x128x1 .f32) (harg11 : arg11.IsWhole)
  (x0 : Vec F S128x128 .f32) (x1 : Vec F S8320x128 .f32) (x2 : Vec F S8320x128 .f32) (x3 : Vec F S256x128 .bf16)

/-- The pair's first row block. -/
theorem out_first (hc0 : cond0_0 i) (hc1 : ¬cond0_1 i) :
    out0_A_4 c i arg2 harg2 arg3 harg3 arg4 harg4 arg5 harg5 arg6 harg6 arg7 harg7 arg8 harg8 arg9 harg9 arg10 harg10 arg11 harg11 hc0 hc1 x0 x1 x2 x3 = (frowBlock (fenv (k0_pay57 x1) (k0_pay59 x2) (k0_pay60 x2) x3 x0) (i 1) fstart).acc := by
  have ho := foff1_eq i
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_run_names
  have ra2 := fun inb => read_whole harg2 x0 (off := ![0, 0]) zeroOff inb
  have ra3 := fun inb => read_whole harg3 x1 (off := ![0, 0]) zeroOff inb
  have ra4 := fun inb => read_whole harg4 x2 (off := ![0, 0]) zeroOff inb
  have ra5 := fun inb => read_whole harg5 x3 (off := ![0, 0]) zeroOff inb
  have w7 := fun f inb w L => writes_whole (F := F) harg7 f (off := ![0, 0]) inb w L
  have w8 := fun f inb w L => writes_whole (F := F) harg8 f (off := ![0, 0]) inb w L
  have w9 := fun f inb w L => writes_whole (F := F) harg9 f (off := ![0, 0]) inb w L
  have w10 := fun f inb w L => writes_whole (F := F) harg10 f (off := ![0, 0]) inb w L
  have rb7 := fun inb kb => read_rows (F := F) harg7 kb (i 1) ho inb
  have rb8 := fun inb kb => read_rows (F := F) harg8 kb (i 1) ho inb
  have rb9 := fun inb kb => read_rows (F := F) harg9 kb (i 1) ho inb
  have rc10 := fun inb L x => cov_whole (F := F) harg10 x (off := ![0, 0]) zeroOff inb L
  have rc11_0 : ∀ inb inb', arg11.view.readCov (Val := Elt F) [⟨Rect.unit (s := S2x128x1) ![0, 0, 0] S2x128x1.size inb, k0_pay65⟩] (Rect.unit (s := S2x128x1) ![0, 0, 0] S1x128x1.size inb').toLoadRect = _ := fun inb inb' => cov_col harg11 (k0_pay65 (F := F)) 0 inb inb'
  have rc11_1 := fun w inb inb0 inb1 => cov_col_one harg11 (k0_pay65 (F := F)) w (off := ![0, 0, 0]) inb inb0 inb1
  have w11 := fun f x inb inb0 inb1 w0 w1 => writes_cols_whole (F := F) harg11 f x (off := ![0, 0, 0]) inb inb0 inb1 w0 w1
  simp only [ra2, ra3, ra4, ra5, w7, w8, w9, w10, rb7, rb8, rb9, rc10, rc11_0, rc11_1, w11]
  have bt := between_tiles (F := F) Variants.none c none i arg2 harg2 arg3 harg3 arg4 harg4 arg5 harg5 arg6 harg6 arg7 harg7 arg8 harg8 arg9 harg9 arg10 harg10 arg11 harg11 (BitVec.ofNat 32 (i 1).val) (fenv (k0_pay57 x1) (k0_pay59 x2) (k0_pay60 x2) x3 x0) (i 1) rfl
    (ftile (fenv (k0_pay57 x1) (k0_pay59 x2) (k0_pay60 x2) x3 x0) (some (k0_pay66 i)) (i 1) fstart) ((i 1).val - 1) (ftrips1_eq i).ge
  have rd10 := fun x inb => read_whole (F := F) harg10 x (off := ![0, 0]) zeroOff inb
  have e1 := word_trips (i 1)
  have e2 := word_rest (i 1)
  have hd := diag_acc (F := F) (k0_pay57 x1) (k0_pay59 x2) (k0_pay60 x2) x3 x0 (k0_pay66 i) (i 1)
  have hc := diag_c (F := F) (k0_pay57 x1) (k0_pay59 x2) (k0_pay60 x2) x3 x0 (k0_pay66 i) (i 1)
  simp only [fenv_kb, fenv_va, fenv_vc, fenv_u, fenv_q0, fenv_q1] at bt
  simp only [View.readCov, View.writes_append, w10, w11, hd, hc, e1, e2, pb_k0_t2.eq_1, List.nil_append, bt.1, bt.2, rd10]
  rw [View.canon_unit_zero zeroOff]
  unfold frowBlock
  have hz : (i 1).val = 0 := (word_first (i 1)).mp hc0
  rw [if_pos hz]
  have hm : (k0_pay66 i : IVec S128x128 1) = diagMask (i 1).val := rfl
  rw [← hm]
  generalize ftile (F := F) _ _ _ _ = s
  have hn : (i 1).val - 1 = 0 := by omega
  rw [hn]
  rfl

/-- A row block that is not the pair's first. -/
theorem out_next (hc0 : ¬cond0_0 i) (hc1 : cond0_1 i) (xs0 xs1 xs2 : Vec F S8320x128 .bf16) :
    out0_B_4 c i arg2 harg2 arg3 harg3 arg4 harg4 arg5 harg5 arg6 harg6 arg7 harg7 arg8 harg8 arg9 harg9 arg10 harg10 arg11 harg11 hc0 hc1 x0 x1 x2 x3 xs0 xs1 xs2 = (frowBlock (fenv xs0 xs1 xs2 x3 x0) (i 1) fstart).acc := by
  have ho := foff1_eq i
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_run_names
  have ra2 := fun inb => read_whole harg2 x0 (off := ![0, 0]) zeroOff inb
  have ra5 := fun inb => read_whole harg5 x3 (off := ![0, 0]) zeroOff inb
  have w10 := fun f inb w L => writes_whole (F := F) harg10 f (off := ![0, 0]) inb w L
  have rb7 := fun inb kb => read_rows (F := F) harg7 kb (i 1) ho inb
  have rb8 := fun inb kb => read_rows (F := F) harg8 kb (i 1) ho inb
  have rb9 := fun inb kb => read_rows (F := F) harg9 kb (i 1) ho inb
  have rc10 := fun inb L x => cov_whole (F := F) harg10 x (off := ![0, 0]) zeroOff inb L
  have rc11_0 : ∀ inb inb', arg11.view.readCov (Val := Elt F) [⟨Rect.unit (s := S2x128x1) ![0, 0, 0] S2x128x1.size inb, k0_pay65⟩] (Rect.unit (s := S2x128x1) ![0, 0, 0] S1x128x1.size inb').toLoadRect = _ := fun inb inb' => cov_col harg11 (k0_pay65 (F := F)) 0 inb inb'
  have rc11_1 := fun w inb inb0 inb1 => cov_col_one harg11 (k0_pay65 (F := F)) w (off := ![0, 0, 0]) inb inb0 inb1
  have w11 := fun f x inb inb0 inb1 w0 w1 => writes_cols_whole (F := F) harg11 f x (off := ![0, 0, 0]) inb inb0 inb1 w0 w1
  simp only [ra2, ra5, w10, rb7, rb8, rb9, rc10, rc11_0, rc11_1, w11]
  have bt := between_tiles (F := F) Variants.none c none i arg2 harg2 arg3 harg3 arg4 harg4 arg5 harg5 arg6 harg6 arg7 harg7 arg8 harg8 arg9 harg9 arg10 harg10 arg11 harg11 (BitVec.ofNat 32 (i 1).val) (fenv xs0 xs1 xs2 x3 x0) (i 1) rfl
    (ftile (fenv xs0 xs1 xs2 x3 x0) (some (k0_pay66 i)) (i 1) fstart) ((i 1).val - 1) (ftrips1_eq i).ge
  have rd10 := fun x inb => read_whole (F := F) harg10 x (off := ![0, 0]) zeroOff inb
  have e1 := word_trips (i 1)
  have e2 := word_rest (i 1)
  have hd := diag_acc (F := F) xs0 xs1 xs2 x3 x0 (k0_pay66 i) (i 1)
  have hc := diag_c (F := F) xs0 xs1 xs2 x3 x0 (k0_pay66 i) (i 1)
  have rz7 := fun inb kb => read_rows (F := F) harg7 kb 0 (off := ![0, 0]) rfl inb
  have rz8 := fun inb kb => read_rows (F := F) harg8 kb 0 (off := ![0, 0]) rfl inb
  have rz9 := fun inb kb => read_rows (F := F) harg9 kb 0 (off := ![0, 0]) rfl inb
  have rd11_0 : ∀ inb x, arg11.view.readAt (Elt F) (Rect.unit (s := S2x128x1) ![0, 0, 0] S1x128x1.size inb) (harg11.unread x) = _ := fun inb x => read_col harg11 x 0 inb
  have rd11_1 : ∀ inb x, arg11.view.readAt (Elt F) (Rect.unit (s := S2x128x1) ![1, 0, 0] S1x128x1.size inb) (harg11.unread x) = _ := fun inb x => read_col harg11 x 1 inb
  simp only [fenv_kb, fenv_va, fenv_vc, fenv_u, fenv_q0, fenv_q1] at bt
  simp only [View.readCov, View.writes_append, w10, w11, hd, hc, e1, e2, pb_k0_t2.eq_1, List.nil_append, bt.1, bt.2, rd10, rz7, rz8, rz9, rd11_0, rd11_1]
  rw [read_one]
  simp only [View.writes_append, w11, hc, bt.2, rd11_1]
  rw [View.canon_unit_zero zeroOff]
  unfold frowBlock
  have hz : ¬(i 1).val = 0 := fun h => hc0 ((word_first (i 1)).mpr h)
  rw [if_neg hz]
  exact last_acc (fenv xs0 xs1 xs2 x3 x0) _

/-- The rounded keys kept for the pair's later row blocks. -/
theorem kept0 (hc0 : cond0_0 i) (hc1 : ¬cond0_1 i) : sout0_A_0 c i arg2 harg2 arg3 harg3 arg4 harg4 arg5 harg5 arg6 harg6 arg7 harg7 arg8 harg8 arg9 harg9 arg10 harg10 arg11 harg11 hc0 hc1 x0 x1 x2 x3 = k0_pay57 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_run_names
  have ra := fun inb => read_whole harg3 x1 (off := ![0, 0]) zeroOff inb
  rw [View.canon_unit_zero zeroOff]
  exact congrArg k0_pay57 (ra _)

/-- The rounded first head's values kept for the pair's later row blocks. -/
theorem kept1 (hc0 : cond0_0 i) (hc1 : ¬cond0_1 i) : sout0_A_1 c i arg2 harg2 arg3 harg3 arg4 harg4 arg5 harg5 arg6 harg6 arg7 harg7 arg8 harg8 arg9 harg9 arg10 harg10 arg11 harg11 hc0 hc1 x0 x1 x2 x3 = k0_pay59 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_run_names
  have ra := fun inb => read_whole harg4 x2 (off := ![0, 0]) zeroOff inb
  rw [View.canon_unit_zero zeroOff]
  exact congrArg k0_pay59 (ra _)

/-- The rounded second head's values kept for the pair's later row blocks. -/
theorem kept2 (hc0 : cond0_0 i) (hc1 : ¬cond0_1 i) : sout0_A_2 c i arg2 harg2 arg3 harg3 arg4 harg4 arg5 harg5 arg6 harg6 arg7 harg7 arg8 harg8 arg9 harg9 arg10 harg10 arg11 harg11 hc0 hc1 x0 x1 x2 x3 = k0_pay60 x2 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_run_names
  have ra := fun inb => read_whole harg4 x2 (off := ![0, 0]) zeroOff inb
  rw [View.canon_unit_zero zeroOff]
  exact congrArg k0_pay60 (ra _)
end

end Cert.Kernel5Ideal.Sf

end
-- ==== Proof.SfRun.lean ====
/-
  The whole run of the attention's forward kernel and of the reference, and the equation of their output.
-/
module

public import proofs.«01_k».proof.Proof.SbOut
public import proofs.«01_k».proof.Proof.SbRun
public import proofs.«01_k».proof.Proof.SfEnv
public import proofs.«01_k».proof.Proof.SfCases
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Pre_finite_fwd
public import proofs.«01_k».proof.Defs

@[expose] public section

set_option maxRecDepth 16384

noncomputable section

namespace Cert.Kernel5Ideal.Sf

open Idealize.ShloMosaic Idealize.ShloMosaic.TcCoe Idealize.SL.Sem
open Gen Cert.KernelIdeal.Sb Cert.SbMath Cert.SbRef

variable (m : (ℓ : Loc nD τ sig) → Buf (Elt Ideal) ℓ) (c : Dev nD)

theorem fcoord1 (t : Fin cfg0.N) : (grid0.coords t 1).val = t.val % 65 := by
  have e1 : (grid0.coords t 1).val = t.val / 1 % 65 := Pipeline.Grid.coords_val t 1 (by decide) rfl
  rw [e1, Nat.div_one]

/-- What the kept arrays and the output block hold after a point. -/
structure After (X : Lanes) (i : ℕ) (s : Vec Ideal S128x128 .f32 × Vec Ideal S8320x128 .bf16 × Vec Ideal S8320x128 .bf16 × Vec Ideal S8320x128 .bf16) : Prop where
  out : R2 s.1 (fun r l => ∑ t ∈ Finset.Ico (128 * 0) 8320, oT X (128 * i + r) l t)
  kb : RL s.2.1 X.k
  va : RL s.2.2.1 (fun t l => hm 0 l (X.v t l))
  vc : RL s.2.2.2 (fun t l => hm 1 l (X.v t l))

/-- A row block's number given by the point's. -/
theorem out_block {X : Lanes} {E : FEnv Ideal} (i : Fin 65) (j : ℕ) (hj : i.val = j) (hE : FEnvR E X j) :
    R2 (frowBlock E i fstart).acc (fun r l => ∑ t ∈ Finset.Ico (128 * 0) 8320, oT X (128 * j + r) l t) := by
  subst hj
  exact (frowBlock_holds i hE).acc

variable (h0 : ∀ i, ∃ r : ℝ, fq m c i = r)
include h0

theorem after_first (t : Fin cfg0.N) (hz : t.val % 65 = 0) : After (flanes m c (t.val / 65)) (t.val % 65) (outsAt0 m c t.val t.isLt) := by
  rw [outsAt0_A m c t hz (by omega)]
  refine ⟨?_, ?_, ?_, ?_⟩
  all_goals dsimp only
  · rw [out_first]
    exact out_block (grid0.coords t 1) _ (fcoord1 t) (fenv_real (fq_at m c t h0) (rd_57 (fk_at m c t h0)) (rd_59 (fv_at m c t h0)) (rd_60 (fv_at m c t h0)) (fu_at m c t))
  · rw [kept0]; exact rd_57 (fk_at m c t h0)
  · rw [kept1]; exact rd_59 (fv_at m c t h0)
  · rw [kept2]; exact rd_60 (fv_at m c t h0)

theorem after_next (t : Fin cfg0.N) (hz : ¬t.val % 65 = 0)
    (hp : After (flanes m c ((t.val - 1) / 65)) ((t.val - 1) % 65) (outsAt0 m c (t.val - 1) (Nat.lt_of_le_of_lt (Nat.sub_le _ _) t.isLt))) :
    After (flanes m c (t.val / 65)) (t.val % 65) (outsAt0 m c t.val t.isLt) := by
  rw [outsAt0_B m c t hz (by omega)]
  generalize outsAt0 m c (t.val - 1) (Nat.lt_of_le_of_lt (Nat.sub_le _ _) t.isLt) = s at hp ⊢
  have e1 : (t.val - 1) / 65 = t.val / 65 := by omega
  rw [e1] at hp
  refine ⟨?_, hp.kb, hp.va, hp.vc⟩
  dsimp only
  rw [out_next]
  exact out_block (grid0.coords t 1) _ (fcoord1 t) (fenv_real (fq_at m c t h0) hp.kb hp.va hp.vc (fu_at m c t))

theorem after_all : ∀ (n : ℕ) (hn : n < cfg0.N), After (flanes m c (n / 65)) (n % 65) (outsAt0 m c n hn) := by
  intro n
  induction n with
  | zero => exact fun hn => after_first m c h0 ⟨0, hn⟩ rfl
  | succ n ih =>
    intro hn
    by_cases hz : (n + 1) % 65 = 0
    · exact after_first m c h0 ⟨n + 1, hn⟩ hz
    · exact after_next m c h0 ⟨n + 1, hn⟩ hz (ih (Nat.lt_of_succ_lt hn))

omit h0 in
/-- A pair's output is the heads'. -/
theorem o_eq (p R l : ℕ) (hl : l < 128) :
    ∑ t ∈ Finset.Ico (128 * 0) 8320, oT (flanes m c p) R l t = oH (qF (fq m c)) (kF (fq m c)) (vF (fq m c)) R (128 * p + l) := by
  unfold oH
  rw [Nat.mul_zero, ← Finset.range_eq_Ico]
  refine Finset.sum_congr rfl fun t _ => ?_
  unfold oT
  rw [fza_eq, fza_eq, head_of p l hl]
  exact two_hm l hl _ (fun a => w (zH (qF (fq m c)) (kF (fq m c)) (2 * p + a)) R t)

omit h0 in
/-- The array of the attention's output. -/
def arrO : Buf (Elt Ideal) ((c : Thread nD τ).loc main_v1) :=
  fun i : S8320x512.Idx => ((oH (qF (fq m c)) (kF (fq m c)) (vF (fq m c)) (i 0).val (i 1).val : ℝ) : EReal)

theorem arr_eq : Value.G4 m c = arrO m c := by
  funext (i : S8320x512.Idx)
  have b0 : (i 0).val < 8320 := (i 0).isLt
  have b1 : (i 1).val < 512 := (i 1).isLt
  have hlt : Value.pt4Of i < cfg0.N := lt_of_lt_of_eq (by show 1 * ((i 0).val / 128 - 0) + 65 * ((i 1).val / 128 - 0) < 260; omega) (show cfg0.N = 260 from N_0).symm
  unfold Value.G4
  rw [dif_pos hlt, ← Value.outsAt0_sweep m c _ hlt]
  have h := (after_all m c h0 _ hlt).out
  have e1 : Value.pt4Of i / 65 = (i 1).val / 128 := by show (1 * ((i 0).val / 128 - 0) + 65 * ((i 1).val / 128 - 0)) / 65 = _; omega
  have e2 : Value.pt4Of i % 65 = (i 0).val / 128 := by show (1 * ((i 0).val / 128 - 0) + 65 * ((i 1).val / 128 - 0)) % 65 = _; omega
  rw [e1, e2] at h
  have hl : Value.loc4Of i = (ix2 ⟨(i 0).val % 128, Nat.mod_lt _ (by decide)⟩ ⟨(i 1).val % 128, Nat.mod_lt _ (by decide)⟩ : S128x128.Idx) := by
    funext a
    match a with
    | ⟨0, _⟩ => rfl
    | ⟨1, _⟩ => rfl
  rw [hl, h]
  beta_reduce
  rw [o_eq m c _ _ _ (Nat.mod_lt _ (by decide))]
  refine congrArg (fun x : ℝ => (x : EReal)) (congrArg₂ (oH (qF (fq m c)) (kF (fq m c)) (vF (fq m c))) ?_ ?_)
  · show 128 * ((i 0).val / 128) + (i 0).val % 128 = (i 0).val; omega
  · show 128 * ((i 1).val / 128) + (i 1).val % 128 = (i 1).val; omega

end Cert.Kernel5Ideal.Sf

namespace Cert.SfRef

open Idealize.ShloMosaic Idealize.ShloMosaic.TcCoe Cert.ReferenceIdeal

section
variable (x0 : S1x8320x1536.Idx → EReal)

/-! The forward reference's stages are the gradient's reference's own forward stages. -/

theorem same5 : Cert.Reference5Ideal.Read.val_main_v5 (F := Ideal) x0 = Read.val_main_v5 (F := Ideal) x0 := rfl
theorem same8 : Cert.Reference5Ideal.Read.val_main_v8 (F := Ideal) x0 = Read.val_main_v8 (F := Ideal) x0 := rfl
theorem same19 : Cert.Reference5Ideal.Read.val_main_v19 (F := Ideal) = Read.val_main_v19 (F := Ideal) := rfl
theorem same20 : Cert.Reference5Ideal.Read.val_main_v20 (F := Ideal) x0 = Read.val_main_v20_0 (F := Ideal) x0 := rfl
theorem same21 : Cert.Reference5Ideal.Read.val_main_v21 (F := Ideal) x0 = Read.val_main_v21 (F := Ideal) x0 := rfl
theorem same22 : Cert.Reference5Ideal.Read.val_main_v22 (F := Ideal) x0 = Read.val_main_v22_0 (F := Ideal) x0 := rfl
theorem same23 : Cert.Reference5Ideal.Read.val_main_v23 (F := Ideal) x0 = Read.val_main_v23 (F := Ideal) x0 := rfl
theorem same29 : Cert.Reference5Ideal.Read.val_main_v29 (F := Ideal) x0 = Read.val_main_v30 (F := Ideal) x0 := rfl
theorem same30 : Cert.Reference5Ideal.Read.val_main_v30 (F := Ideal) x0 = Read.val_main_v31_0 (F := Ideal) x0 := rfl
theorem same32 : Cert.Reference5Ideal.Read.val_main_v32 (F := Ideal) x0 = Read.val_main_v33 (F := Ideal) x0 := rfl

theorem rd_out (h0 : ∀ i, ∃ r : ℝ, x0 i = r) (R : Fin 8320) (k : Fin 512) :
    (Cert.Reference5Ideal.Read.val_main_v33 (F := Ideal) x0 : S8320x512.Idx → EReal) (ix2 R k)
      = ((Cert.SbMath.oH (Cert.SbRef.qF x0) (Cert.SbRef.kF x0) (Cert.SbRef.vF x0) R.val k.val : ℝ) : EReal) := by
  unfold Cert.Reference5Ideal.Read.val_main_v33
  rw [same32]
  have ho := Cert.SbRef.rd_o h0
  generalize Read.val_main_v33 (F := Ideal) x0 = O at ho ⊢
  pointwise
  refine (ho _ _ _).trans ?_
  show ((Cert.SbMath.oH _ _ _ R.val (64 * (k.val / 64) + k.val % 64) : ℝ) : EReal) = _
  rw [Cert.SbRef.split_col]
end

end Cert.SfRef

namespace Cert.Kernel5Ideal.Sf

open Idealize.ShloMosaic Idealize.ShloMosaic.TcCoe Idealize.SL.Sem Gen

theorem algebraic_fwd : Cert.algebraic_Kernel5Ideal_Reference5Ideal_pre_finite_fwd (hKernel5Ideal := Cert.Kernel5Ideal.Gen.facts)
    (hReference5Ideal := Cert.Reference5Ideal.Gen.facts) (hPre_finite_fwd := Cert.Pre_finite_fwd.Gen.facts) := by
  intro m g m' g' hpre hagree
  have h0 : ∀ c i, ∃ r : ℝ, fq m c i = r := fun c i => Reals.real_of_finite _ _ (hpre c) i
  refine ⟨arrO m, (θ_run _ _ _).mono (fun r h c => ⟨(h c).1.trans (arr_eq m c (h0 c)), (h c).2⟩) (Value.run m g),
    (θ_run _ _ _).mono (fun r h c => ?_) (Cert.Reference5Ideal.Value.run m' g')⟩
  have a0 := hagree c
  refine ⟨(h c).1.trans ?_, (h c).2⟩
  rw [Cert.Reference5Ideal.Read.val_main_v33_eq, a0]
  funext (i : S8320x512.Idx)
  rw [Cert.KernelIdeal.Sb.eta i]
  exact Cert.SfRef.rd_out _ (h0 c) (i 0) (i 1)

end Cert.Kernel5Ideal.Sf

end
-- ==== Proof.SwCases.lean ====
/-
  What one grid point of the sliding-window attention's forward kernel leaves in its output block, as the printed
  payloads over the blocks it reads.
-/
module

public import proofs.«01_k».proof.Proof.Gen.Kernel6Ideal.Frame
public import Idealize.ShloMosaic.Lib.Pipeline.Value
public import Idealize.ShloMosaic.Lib.Pointwise

@[expose] public section

set_option maxRecDepth 16384

noncomputable section

namespace Cert.Sw

open Idealize.ShloMosaic Idealize.ShloMosaic.TcCoe Idealize.SL.Sem
open Cert.Kernel6Ideal Cert.Kernel6Ideal.Gen

variable {F : FTy → Type} [FloatOps F] [Named F]

theorem zeroOff2 : (![0, 0] : Fin 2 → Nat) = fun _ => 0 := funext fun a => by fin_cases a <;> rfl

/-- The key and value head a pair of query heads shares: the pair's number divided by four, rounded down. -/
def grp (b : BitVec 32) : BitVec 32 :=
  Scalar.select (Scalar.andi (Scalar.cmpi .ne (Scalar.subi (Scalar.extui (Scalar.cmpi .sgt b 0#32)) (Scalar.extui (Scalar.cmpi .slt b 0#32))) 1#32)
    (Scalar.cmpi .ne (Scalar.remsi b 4#32) 0#32)) (Scalar.subi (Scalar.divsi b 4#32) 1#32) (Scalar.divsi b 4#32)

theorem grp_eq : ∀ p : Fin 8, grp (BitVec.ofNat 32 p.val) = BitVec.ofNat 32 (p.val / 4) := by decide +kernel

/-- The sink of head `j`. -/
def sinkAt (x9 : Vec F S1x16 .f32) (j : ℕ) : Elt F .f32 := if h : j < 16 then x9 (ix2 0 ⟨j, h⟩) else x9 (ix2 0 0)

/-- The output block of one point: the masks, the rotated query block, the key and value bands with their halves
    exchanged, the number of the key head, the mask and the two sinks go into the printed payloads. -/
def pointOut (n p : ℕ) (x0 x1 x2 x3 x4 x5 x6 x7 x8 : Vec F S128x128 .f32) (x9 : Vec F S1x16 .f32) : FVec F S128x128 .f32 :=
  let q := k0_pay5 (k0_pay4 x0 x6 x8)
  let kb := k0_pay8 (k0_pay6 x1 x5 x7) (k0_pay7 x2) x6 x8
  let ks := k0_pay10 (k0_pay6 x1 x5 x7) (k0_pay7 x2) x6 x8
  let g := grp (BitVec.ofNat 32 p)
  let m := k0_pay12 (BitVec.ofNat 32 n)
  k0_pay1 k0_pay2 k0_pay3 (k0_pay13 (BitVec.ofNat 32 p) (k0_pay9 x3 x4) (k0_pay11 x3 x4) 4#32)
    (k0_pay15 (k0_pay14 (BitVec.ofNat 32 n) (BitVec.ofNat 32 p) k0_pay2 q kb ks 4#32) (sinkAt x9 (2 * p)))
    (k0_pay16 (k0_pay9 x3 x4) (k0_pay11 x3 x4) g) (k0_pay18 k0_pay3 q kb ks g m (sinkAt x9 (2 * p + 1)))
    (k0_pay19 k0_pay3 q kb ks g m (sinkAt x9 (2 * p + 1))) (k0_pay20 (sinkAt x9 (2 * p + 1)))

/-- The word that addresses the first and the second sink of a pair. -/
theorem word_sink : ∀ p : Fin 8, (Scalar.indexCast (Scalar.addi (Scalar.muli 2#32 (BitVec.ofNat 32 p.val)) 0#32)).toNat = 2 * p.val
    ∧ (Scalar.indexCast (Scalar.addi (Scalar.muli 2#32 (BitVec.ofNat 32 p.val)) 1#32)).toNat = 2 * p.val + 1 := by decide +kernel

/-- A sink read through a window of one element. -/
theorem ld_sink (x9 : Vec F S1x16 .f32) (off : Fin 2 → ℕ) (j : ℕ) (hj : j < 16) (ho : off = ![0, j]) (inb)
    (y : (Rect.unit (s := S1x16) off S1x1.size inb).shape.Idx) : View.ld x9 (Rect.unit (s := S1x16) off S1x1.size inb) y = sinkAt x9 j := by
  subst ho
  unfold sinkAt
  rw [dif_pos hj]
  refine congrArg x9 (funext fun a => Fin.ext ?_)
  match a with
  | ⟨0, _⟩ => show 0 + 1 * (y 0).val = 0; have : (y 0).val < 1 := (y 0).isLt; omega
  | ⟨1, _⟩ => show j + 1 * (y 1).val = j; have : (y 1).val < 1 := (y 1).isLt; omega

theorem off_first (i : grid0.Coords) : k0_off1 i 0#32 = ![0, 2 * (i 1).val] := by
  have h := (word_sink ⟨(i 1).val, (i 1).isLt⟩).1
  exact congrArg (fun v : ℕ => ![0, v]) h

theorem off_second (i : grid0.Coords) : k0_off1 i 1#32 = ![0, 2 * (i 1).val + 1] := by
  have h := (word_sink ⟨(i 1).val, (i 1).isLt⟩).2
  exact congrArg (fun v : ℕ => ![0, v]) h

set_option maxHeartbeats 4000000 in
theorem out_point (c : Dev nD) (i : grid0.Coords) (a2 : Memref sig .tc .vmem S128x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S128x128 .f32) (h7 : a7.IsWhole) (a8 : Memref sig .tc .vmem S128x128 .f32) (h8 : a8.IsWhole)
    (a9 : Memref sig .tc .vmem S128x128 .f32) (h9 : a9.IsWhole) (a10 : Memref sig .tc .vmem S128x128 .f32) (h10 : a10.IsWhole)
    (a11 : Memref sig .tc .smem S1x16 .f32) (h11 : a11.IsWhole) (a12 : Memref sig .tc .vmem S128x128 .f32) (h12 : a12.IsWhole)
    (x0 x1 x2 x3 x4 x5 x6 x7 x8 : Vec F S128x128 .f32) (x9 : Vec F S1x16 .f32) :
    out0_A_10 c i a2 h2 a3 h3 a4 h4 a5 h5 a6 h6 a7 h7 a8 h8 a9 h9 a10 h10 a11 h11 a12 h12 x0 x1 x2 x3 x4 x5 x6 x7 x8 x9
      = pointOut (i 0).val (i 1).val x0 x1 x2 x3 x4 x5 x6 x7 x8 x9 := by
  have hp : (i 1).val < 8 := (i 1).isLt
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 x7 x8 x9)]
  unfold kernelRun0_A
  dsimp only
  sl_unfold_words
  rw [View.canon_unit_zero zeroOff2]
  simp only [View.readAt_eq_ld, h2.read_unread, h3.read_unread, h4.read_unread, h5.read_unread, h6.read_unread, h7.read_unread, h8.read_unread, h9.read_unread, h10.read_unread, h11.read_unread, View.ld_unit_zero (S := S128x128) zeroOff2, shapeCast_self]
  unfold pointOut
  rw [← ld_sink x9 _ (2 * (i 1).val) (by omega) (off_first i) (k0_off1_inb i 0) (Shape.Idx.first (Nat.lt_of_lt_of_eq Nat.zero_lt_one numel1_S1x1.symm)),
    ← ld_sink x9 _ (2 * (i 1).val + 1) (by omega) (off_second i) (k0_off1_inb i 1) (Shape.Idx.first (Nat.lt_of_lt_of_eq Nat.zero_lt_one numel1_S1x1.symm))]
  rfl

end Cert.Sw

end
-- ==== Proof.SwMath.lean ====
/-
  The sliding-window attention with sinks in real numbers: the rotary embedding, the band of keys a row may attend to,
  the scores, the weights with the sink in the denominator, and the output.
-/
module

public import proofs.«01_k».proof.Proof.Reals
public import proofs.«01_k».proof.Proof.SbMath
public import Mathlib.Data.Finset.Fold

@[expose] public section

noncomputable section

namespace Cert.SwMath

open Idealize.ShloMosaic Finset

/-- The angle of position `R` at frequency `d`; the first token is at row 112. -/
def ang (R d : ℕ) : ℝ := ((R : ℝ) - 112) * Real.rpow 10000 (-(d : ℝ) / 32)

/-- The rotary embedding of lane `c` of row `R`: lanes 32 apart within a head are rotated by the position's angle. -/
def ro (X : ℕ → ℕ → ℝ) (R c : ℕ) : ℝ :=
  X R c * Real.cos (ang R (c % 32)) + (if c % 64 < 32 then 0 - X R (c + 32) else X R (c - 32)) * Real.sin (ang R (c % 32))

/-- Row `r` of block `n` attends to column `c` of its band of 256 keys: the keys from 127 before it to itself, but none
    of the 112 rows before the first token. -/
def valid (n r c : ℕ) : Prop := r < c ∧ c ≤ r + 128 ∧ 240 ≤ 128 * n + c

instance (n r c : ℕ) : Decidable (valid n r c) := by unfold valid; infer_instance

/-- The row of the key in column `c` of the band of block `n`. -/
def row (n c : ℕ) : ℕ := if c < 128 then 128 * (n - 1) + c else 128 * n + (c - 128)

section
variable (X : ℕ → ℕ → ℝ) (σ : ℕ → ℝ)

/-- The score of query row `R` and key row `T` in head `h`. -/
def sc (h R T : ℕ) : ℝ := (∑ d ∈ range 64, ro X R (1536 + (64 * h + d)) * ro X T (2560 + (64 * (h / 8) + d))) * (1 / 8)

/-- The weight before the division. -/
def ex (h n r c : ℕ) : ℝ := if valid n r c then Real.exp (sc X h (128 * n + r) (row n c)) else 0

/-- The denominator. -/
def den (h n r : ℕ) : ℝ := (∑ c ∈ range 256, ex X h n r c) + Real.exp (σ h)

/-- The weight. -/
def wt (h n r c : ℕ) : ℝ := ex X h n r c / den X σ h n r

/-- The output of head `h` in lane `d`. -/
def out (h n r d : ℕ) : ℝ := ∑ c ∈ range 256, wt X σ h n r c * X (row n c) (2688 + (64 * (h / 8) + d))

theorem ex_nonneg (h n r c : ℕ) : 0 ≤ ex X h n r c := by unfold ex; split <;> positivity

theorem den_pos (h n r : ℕ) : 0 < den X σ h n r := by
  unfold den; exact add_pos_of_nonneg_of_pos (sum_nonneg fun c _ => ex_nonneg X h n r c) (Real.exp_pos _)

end

/-! ## Constants, bits and sums -/

theorem const_eighth : Ideal.ofBits .f32 0x3E000000#32 = ((1 / 8 : ℝ) : EReal) := by
  simp [Ideal.ofBits, Ideal.ieee, -EReal.coe_mul]; norm_num

theorem bit_and (P Q : Prop) [Decidable P] [Decidable Q] : IntOp.andi (if P then 1#1 else 0#1) (if Q then 1#1 else 0#1) = if P ∧ Q then 1#1 else 0#1 := by
  by_cases hp : P <;> by_cases hq : Q <;> simp only [hp, hq, if_true, if_false, and_self, and_true, and_false] <;> decide

theorem bit_of (P : Prop) [Decidable P] : BitVec.ofBool (decide P) = if P then 1#1 else 0#1 := by
  by_cases h : P <;> simp [h]

/-- A sum of real numbers over a finite type, counted by natural numbers. -/
theorem fsum (n : ℕ) (f : ℕ → ℝ) : ∑ x : Fin n, ((f x.val : ℝ) : EReal) = ((∑ x ∈ Finset.range n, f x : ℝ) : EReal) := by
  rw [Cert.Reals.coe_sum, Finset.sum_range]

theorem const_ninf : Ideal.ofBits .f32 0xFF800000#32 = ⊥ := by
  simp [Ideal.ofBits, Ideal.ieee]

/-! ## The arrays in real numbers -/

/-- The projections' array. -/
def pF (x0 : (⟨3, ![1, 8320, 2816]⟩ : Shape).Idx → EReal) (R c : ℕ) : ℝ := if h : R < 8320 ∧ c < 2816 then (x0 (ix3 0 ⟨R, h.1⟩ ⟨c, h.2⟩)).toReal else 0

/-- The sinks. -/
def sF (x1 : (⟨2, ![1, 16]⟩ : Shape).Idx → EReal) (j : ℕ) : ℝ := if h : j < 16 then (x1 (ix2 0 ⟨j, h⟩)).toReal else 0

theorem pF_eq {x0 : (⟨3, ![1, 8320, 2816]⟩ : Shape).Idx → EReal} (h0 : ∀ i, ∃ r : ℝ, x0 i = r) (R : Fin 8320) (c : Fin 2816) :
    x0 (ix3 0 R c) = ((pF x0 R.val c.val : ℝ) : EReal) := by
  obtain ⟨r, hr⟩ := h0 (ix3 0 R c)
  unfold pF
  rw [dif_pos ⟨R.isLt, c.isLt⟩, hr, EReal.toReal_coe]

theorem sF_eq {x1 : (⟨2, ![1, 16]⟩ : Shape).Idx → EReal} (h1 : ∀ i, ∃ r : ℝ, x1 i = r) (j : Fin 16) : x1 (ix2 0 j) = ((sF x1 j.val : ℝ) : EReal) := by
  obtain ⟨r, hr⟩ := h1 (ix2 0 j)
  unfold sF
  rw [dif_pos j.isLt, hr, EReal.toReal_coe]

/-- A small number as a word, read as a real. -/
theorem word_real (d : ℕ) (hd : d < 2 ^ 31) : FloatOps.sitofp (F := Ideal) .f32 (BitVec.ofNat 32 d) = ((d : ℝ) : EReal) := by
  show (((BitVec.ofNat 32 d).toInt : ℝ) : EReal) = _
  have e : (BitVec.ofNat 32 d).toInt = (d : ℤ) := by
    rw [BitVec.toInt_ofNat']
    exact Int.bmod_eq_of_le (by omega) (by omega)
  rw [e]; norm_cast

/-- The position of a row. -/
theorem pos_real (R : ℕ) (hR : R < 8320) : FloatOps.sitofp (F := Ideal) .f32 (IntOp.subi (BitVec.ofNat 32 R) 112#32) = (((R : ℝ) - 112 : ℝ) : EReal) := by
  show (((BitVec.ofNat 32 R - 112#32).toInt : ℝ) : EReal) = _
  have e : (BitVec.ofNat 32 R - 112#32).toInt = (R : ℤ) - 112 := by
    rw [BitVec.toInt_sub, BitVec.toInt_ofNat', show (112#32).toInt = 112 from by decide, Int.bmod_eq_of_le (n := (R : ℤ)) (by omega) (by omega)]
    exact Int.bmod_eq_of_le (by omega) (by omega)
  rw [e]; push_cast; rfl

theorem const_base : Ideal.ofBits .f32 1176256512#32 = ((10000 : ℝ) : EReal) := by
  simp [Ideal.ofBits, Ideal.ieee, -EReal.coe_mul]; norm_num

theorem const_freqs : Ideal.ofBits .f32 1107296256#32 = ((32 : ℝ) : EReal) := by
  simp [Ideal.ofBits, Ideal.ieee, -EReal.coe_mul]; norm_num

/-- The rotary embedding's angle, from the position and the frequency's number. -/
theorem angle_real (R d : ℕ) (hR : R < 8320) (hd : d < 32) :
    (FloatOps.sitofp (F := Ideal) .f32 (IntOp.subi (BitVec.ofNat 32 R) 112#32) * Ideal.pow (Ideal.ofBits .f32 1176256512#32) (Ideal.div (-FloatOps.sitofp (F := Ideal) .f32 (BitVec.ofNat 32 d)) (Ideal.ofBits .f32 1107296256#32)) : EReal) = ((ang R d : ℝ) : EReal) := by
  rw [pos_real R hR, word_real d (by omega), const_base, const_freqs, ← EReal.coe_neg, Ideal.div_coe (by norm_num : (32 : ℝ) ≠ 0), ← EReal.coe_mul, Ideal.pow_coe_coe, ← EReal.coe_mul, mul_one_div]
  rfl

/-! ## The largest score -/

/-- Scores that are real or negative infinity, with one real number among them, have a real maximum. -/
theorem max_real {ι : Type*} (s : Finset ι) (f : ι → EReal) (y : ℝ) (hf : ∀ i ∈ s, f i < ⊤) : ∃ M : ℝ, max (s.fold max ⊥ f) (y : EReal) = M := by
  have h1 : max (s.fold max ⊥ f) (y : EReal) < ⊤ := max_lt ((Finset.fold_max_lt ⊤).mpr ⟨bot_lt_top, hf⟩) (EReal.coe_lt_top y)
  have h2 : ⊥ < max (s.fold max ⊥ f) (y : EReal) := lt_max_of_lt_right (EReal.bot_lt_coe y)
  exact ⟨_, (EReal.coe_toReal h1.ne h2.ne').symm⟩

theorem fold_real {ι : Type*} (s : Finset ι) (f : ι → EReal) (hf : ∀ i ∈ s, f i < ⊤) (hg : ∃ i ∈ s, ⊥ < f i) : ∃ M : ℝ, s.fold max ⊥ f = (M : EReal) := by
  have h1 : s.fold max ⊥ f < ⊤ := (Finset.fold_max_lt ⊤).mpr ⟨bot_lt_top, hf⟩
  have h2 : ⊥ < s.fold max ⊥ f := (Finset.lt_fold_max ⊥).mpr (Or.inr hg)
  exact ⟨_, (EReal.coe_toReal h1.ne h2.ne').symm⟩

/-- A masked score. -/
def ms (P : Prop) [Decidable P] (s : ℝ) : EReal := if P then (s : EReal) else ⊥

theorem ms_lt (P : Prop) [Decidable P] (s : ℝ) : ms P s < ⊤ := by
  unfold ms; split
  · exact EReal.coe_lt_top s
  · exact bot_lt_top

/-- A choice between a real number and negative infinity. -/
theorem masked {P : Prop} [Decidable P] {v : EReal} {s : ℝ} (hv : v = ((s : ℝ) : EReal)) : Scalar.select (if P then 1#1 else 0#1) v ⊥ = ms P s := by
  subst hv
  unfold ms
  by_cases h : P
  · rw [if_pos h, if_pos h]; rfl
  · rw [if_neg h, if_neg h]; rfl

/-- The exponential of a masked score less the maximum. -/
theorem exp_ms (P : Prop) [Decidable P] (s M : ℝ) : Ideal.exp (ms P s - (M : EReal)) = (((if P then Real.exp s else 0) * Real.exp (-M) : ℝ) : EReal) := by
  unfold ms
  by_cases h : P
  · rw [if_pos h, if_pos h, ← EReal.coe_sub, Ideal.exp_coe, ← Real.exp_add, sub_eq_add_neg]
  · rw [if_neg h, if_neg h, zero_mul, EReal.coe_zero]
    rfl

theorem exp_sub (s M : ℝ) : Ideal.exp ((s : EReal) - (M : EReal)) = ((Real.exp s * Real.exp (-M) : ℝ) : EReal) := by
  rw [← EReal.coe_sub, Ideal.exp_coe, ← Real.exp_add, sub_eq_add_neg]

/-- The maximum's factor cancels: the weights do not depend on it. -/
theorem cancel (e S t M : ℝ) (h : 0 < S + t) : (e * Real.exp (-M)) / (S * Real.exp (-M) + t * Real.exp (-M)) = e / (S + t) := by
  rw [← add_mul, mul_div_mul_right _ _ (Real.exp_pos _).ne']

/-! ## The two halves of a block of lanes -/

open Cert.SbMath in
/-- Lanes of one half: a sum over all of them with the other half zero. -/
theorem half_sum (a : Fin 2) (f g u : ℕ → ℝ) (hg : ∀ d, d < 64 → g (64 * a.val + d) = u d) :
    ∑ l ∈ range 128, hm a l (f l) * g l = ∑ d ∈ range 64, f (64 * a.val + d) * u d := by
  rw [sum_lanes]
  exact sum_congr rfl fun d hd => by rw [hg d (mem_range.mp hd)]

end Cert.SwMath

end
-- ==== Proof.SwTile.lean ====
/-
  The payloads of one grid point of the sliding-window attention's forward kernel on blocks of real numbers: the masks,
  the rotary embedding, the bands of keys and values, and the masked scores.
-/
module

public import proofs.«01_k».proof.Proof.SwCases
public import proofs.«01_k».proof.Proof.SwMath
public import Idealize.ShloMosaic.Lib.Pointwise.Tactic
public import Idealize.ShloMosaic.Lib.WordCmp

@[expose] public section

set_option maxRecDepth 16384

noncomputable section

namespace Cert.Sw

open Idealize.ShloMosaic Idealize.ShloMosaic.TcCoe
open Cert.Kernel6Ideal Cert.Kernel6Ideal.Gen Cert.SwMath Cert.SbMath

/-- The block holds the real numbers `f`. -/
def B2 {a b : ℕ} (X : (⟨2, ![a, b]⟩ : Shape).Idx → EReal) (f : ℕ → ℕ → ℝ) : Prop :=
  ∀ (r : Fin a) (c : Fin b), X (ix2 r c) = ((f r.val c.val : ℝ) : EReal)

/-! ## The lanes' masks -/

theorem first_half (l : Fin 128) : k0_pay2 (ix2 0 l) = if l.val < 64 then 1#1 else 0#1 := by
  unfold k0_pay2; pointwise; revert l; decide +kernel

theorem second_half (l : Fin 128) : k0_pay3 (ix2 0 l) = if l.val < 64 then 0#1 else 1#1 := by
  unfold k0_pay3; pointwise; revert l; decide +kernel

/-! ## The rotary embedding -/

/-- The first half of a head's lanes. -/
theorem lane_half : ∀ l : Fin 128, IntOp.cmpi .slt (Scalar.select (IntOp.andi (IntOp.xori (IntOp.cmpi .slt (IntOp.remsi .vector (BitVec.ofNat 32 l.val)
      (Scalar.select (Scalar.cmpi .eq 64#32 0#32) 1#32 64#32)) 0#32) (Scalar.cmpi .slt (Scalar.select (Scalar.cmpi .eq 64#32 0#32) 1#32 64#32) 0#32))
      (IntOp.cmpi .ne (IntOp.remsi .vector (BitVec.ofNat 32 l.val) (Scalar.select (Scalar.cmpi .eq 64#32 0#32) 1#32 64#32)) 0#32))
    (IntOp.addi (IntOp.remsi .vector (BitVec.ofNat 32 l.val) (Scalar.select (Scalar.cmpi .eq 64#32 0#32) 1#32 64#32))
      (Scalar.select (Scalar.cmpi .eq 64#32 0#32) 1#32 64#32))
    (IntOp.remsi .vector (BitVec.ofNat 32 l.val) (Scalar.select (Scalar.cmpi .eq 64#32 0#32) 1#32 64#32))) 32#32
    = if l.val % 64 < 32 then 1#1 else 0#1 := by decide +kernel

theorem rd_rope {X : ℕ → ℕ → ℝ} {R : ℕ → ℕ} {c0 : ℕ} (h0 : c0 % 64 = 0) {x c s : Vec Ideal S128x128 .f32}
    (hx : B2 x (fun r l => X (R r) (c0 + l))) (hc : B2 c (fun r l => Real.cos (ang (R r) (l % 32)))) (hs : B2 s (fun r l => Real.sin (ang (R r) (l % 32)))) :
    B2 (k0_pay4 x c s : S128x128.Idx → EReal) (fun r l => ro X (R r) (c0 + l)) := fun r l => by
  unfold k0_pay4; pointwise
  rw [lane_half l, hx, hx, hx, hc, hs]
  dsimp only
  unfold ro
  rw [show (c0 + l.val) % 32 = l.val % 32 by omega, show (c0 + l.val) % 64 = l.val % 64 by omega, EReal.coe_add, EReal.coe_mul, EReal.coe_mul]
  have hl := l.isLt
  by_cases h : l.val % 64 < 32
  · rw [if_pos h, if_pos h, show (l.val + 128 - 96) % 128 = l.val + 32 by omega, EReal.coe_sub, ← Nat.add_assoc]
    rfl
  · rw [if_neg h, if_neg h, show (l.val + 128 - 32) % 128 = l.val - 32 by omega, ← Nat.add_sub_assoc (by omega)]
    rfl

/-! ## The mask -/

theorem bit_low (r : Fin 128) (c : Fin 256) : IntOp.andi (IntOp.cmpi .sgt (BitVec.ofNat 32 c.val) (BitVec.ofNat 32 r.val))
    (IntOp.cmpi .sle (BitVec.ofNat 32 c.val) (IntOp.addi (BitVec.ofNat 32 r.val) 128#32)) = if r.val < c.val ∧ c.val ≤ r.val + 128 then 1#1 else 0#1 := by
  have h1 := r.isLt
  have h2 := c.isLt
  rw [show IntOp.addi (BitVec.ofNat 32 r.val) 128#32 = BitVec.ofNat 32 (r.val + 128) from (BitVec.ofNat_add r.val 128).symm,
    WordCmp.cmpi_sgt_ofNat (by omega) (by omega), WordCmp.cmpi_sle_ofNat (by omega) (by omega), bit_of, bit_of, bit_and]

theorem bit_pad : ∀ (n : Fin 65) (c : Fin 256), IntOp.cmpi .sge (IntOp.addi (Scalar.muli (Scalar.subi (BitVec.ofNat 32 n.val) 1#32) 128#32) (BitVec.ofNat 32 c.val)) 112#32
    = if 240 ≤ 128 * n.val + c.val then 1#1 else 0#1 := by decide +kernel

theorem rd_mask (n : Fin 65) (r : Fin 128) (c : Fin 256) :
    k0_pay12 (BitVec.ofNat 32 n.val) (ix2 r c) = if valid n.val r.val c.val then 1#1 else 0#1 := by
  unfold k0_pay12; pointwise
  rw [bit_low, bit_pad, bit_and]
  refine if_congr ?_ rfl rfl
  unfold valid
  rw [and_assoc]

/-! ## The bands -/

theorem rd_roll {x : Vec Ideal S256x128 .f32} {f : ℕ → ℕ → ℝ} (hx : B2 x f) (h) :
    B2 (dynamicRotate 1 64#32 none x h) (fun r l => f r ((l + 64) % 128)) := fun r l => by
  pointwise
  rw [hx]
  dsimp only
  rw [show (l.val + 128 - 64) % 128 = (l.val + 64) % 128 by omega]

theorem rd_cat {x y : Vec Ideal S128x128 .f32} {X : ℕ → ℕ → ℝ} {n c0 : ℕ} (hx : B2 x (fun r l => X (128 * (n - 1) + r) (c0 + l)))
    (hy : B2 y (fun r l => X (128 * n + r) (c0 + l))) (h) :
    B2 (concatenate S256x128 0 [⟨S128x128, x⟩, ⟨S128x128, y⟩] h) (fun r l => X (row n r) (c0 + l)) := fun r l => by
  pointwise
  unfold row
  by_cases hr : r.val < 128
  · rw [dif_pos hr, hx]; dsimp only; rw [if_pos hr]
  · rw [dif_neg hr, hy]; dsimp only; rw [if_neg hr]

theorem pick_group (p : Fin 8) (a : ℕ) (b : BitVec 32) (hb : b = BitVec.ofNat 32 a) (ha : a < 2) :
    Scalar.cmpi .eq (grp (BitVec.ofNat 32 p.val)) b = if p.val / 4 = a then 1#1 else 0#1 := by
  subst hb
  rw [grp_eq]
  have : ∀ (p : Fin 8) (a : Fin 2), Scalar.cmpi .eq (BitVec.ofNat 32 (p.val / 4)) (BitVec.ofNat 32 a.val) = if p.val / 4 = a.val then 1#1 else 0#1 := by decide +kernel
  exact this p ⟨a, ha⟩

/-- The band, or the band with its halves exchanged: in half `a` it holds the lanes of the pair's head. -/
theorem rd_sel {x y : Vec Ideal S256x128 .f32} {f : ℕ → ℕ → ℝ} (hx : B2 x f) (hy : B2 y (fun r l => f r ((l + 64) % 128))) (p : Fin 8) (a : ℕ)
    (b : BitVec 32) (hb : b = BitVec.ofNat 32 a) (ha : a < 2) :
    B2 (Scalar.select (Scalar.cmpi .eq (grp (BitVec.ofNat 32 p.val)) b) x y) (fun r l => if p.val / 4 = a then f r l else f r ((l + 64) % 128)) := by
  rw [pick_group p a b hb ha]
  by_cases h : p.val / 4 = a
  · simp only [if_pos h]; exact hx
  · simp only [if_neg h]; exact hy

/-! ## The scores -/

theorem first_sel (l : Fin 128) (x y : ℝ) : Scalar.select (k0_pay2 (ix2 0 l)) ((x : EReal) * (y : EReal)) 0 = ((hm 0 l.val x * y : ℝ) : EReal) := by
  rw [first_half]
  unfold hm
  by_cases h : l.val < 64
  · rw [if_pos h, if_pos (by simp [h]), EReal.coe_mul]; rfl
  · rw [if_neg h, if_neg (by simp [h]), zero_mul, EReal.coe_zero]; rfl

theorem second_sel (l : Fin 128) (x y : ℝ) : Scalar.select (k0_pay3 (ix2 0 l)) ((x : EReal) * (y : EReal)) 0 = ((hm 1 l.val x * y : ℝ) : EReal) := by
  rw [second_half]
  unfold hm
  by_cases h : l.val < 64
  · rw [if_pos h, if_neg (by simp [h]), zero_mul, EReal.coe_zero]; rfl
  · rw [if_neg h, if_pos (by simp [h]), EReal.coe_mul]; rfl

theorem named_mask : (Named.named (F := Ideal) (φ := .f32) κ "mask" 0xF149F2CA#32 : EReal) = ⊥ := by
  rfl

section
variable {X : ℕ → ℕ → ℝ} {n p : ℕ}

/-- A sum over the lanes is the score of one head of the pair. -/
theorem lanes_score (p : Fin 8) (a : Fin 2) (R T : ℕ) :
    ∑ l ∈ Finset.range 128, hm a l (ro X R (1536 + 128 * p.val + l) * (1 / 8)) * (if p.val / 4 = a.val then ro X T (2560 + l) else ro X T (2560 + (l + 64) % 128))
      = sc X (2 * p.val + a.val) R T := by
  have hp := p.isLt
  have ha := a.isLt
  rw [half_sum a _ _ (fun d => ro X T (2560 + (64 * ((2 * p.val + a.val) / 8) + d)))]
  · unfold sc
    rw [Finset.sum_mul]
    refine Finset.sum_congr rfl fun d _ => ?_
    rw [show 1536 + 128 * p.val + (64 * a.val + d) = 1536 + (64 * (2 * p.val + a.val) + d) by ring]
    ring
  · intro d hd
    by_cases h : p.val / 4 = a.val
    · rw [if_pos h]; congr 2; omega
    · rw [if_neg h]; congr 2; omega

theorem lanes_sum (p : Fin 8) (a : Fin 2) {q : Vec Ideal S128x128 .f32} {K : Vec Ideal S256x128 .f32} {n : ℕ} {M : IVec S1x128 1}
    (hq : B2 q (fun r l => ro X (128 * n + r) (1536 + 128 * p.val + l) * (1 / 8)))
    (hK : B2 K (fun c l => if p.val / 4 = a.val then ro X (row n c) (2560 + l) else ro X (row n c) (2560 + (l + 64) % 128)))
    (hM : ∀ (l : Fin 128) (x y : ℝ), Scalar.select (M (ix2 0 l)) ((x : EReal) * (y : EReal)) 0 = ((hm a l.val x * y : ℝ) : EReal))
    (r : Fin 128) (c : Fin 256) :
    ∑ l : Fin 128, Scalar.select (M (ix2 0 l)) ((q (ix2 r l) : EReal) * (K (ix2 c l) : EReal)) 0
      = ((sc X (2 * p.val + a.val) (128 * n + r.val) (row n c.val) : ℝ) : EReal) := by
  rw [← lanes_score p a, ← fsum]
  exact Finset.sum_congr rfl fun l _ => by rw [hq r l, hK c l, hM]

theorem rd_first (n : Fin 65) (p : Fin 8) {q : Vec Ideal S128x128 .f32} {kb ks : Vec Ideal S256x128 .f32}
    (hq : B2 q (fun r l => ro X (128 * n.val + r) (1536 + 128 * p.val + l) * (1 / 8))) (hk : B2 kb (fun c l => ro X (row n.val c) (2560 + l)))
    (hs : B2 ks (fun c l => ro X (row n.val c) (2560 + (l + 64) % 128))) (r : Fin 128) (c : Fin 256) :
    (k0_pay14 (F := Ideal) (BitVec.ofNat 32 n.val) (BitVec.ofNat 32 p.val) k0_pay2 q kb ks 4#32 : S128x256.Idx → EReal) (ix2 r c)
      = ms (valid n.val r.val c.val) (sc X (2 * p.val) (128 * n.val + r.val) (row n.val c.val)) := by
  have hsel := rd_sel hk hs p 0 0#32 rfl (by omega)
  have e : (k0_pay14 (F := Ideal) (BitVec.ofNat 32 n.val) (BitVec.ofNat 32 p.val) k0_pay2 q kb ks 4#32)
      = select (k0_pay12 (BitVec.ofNat 32 n.val)) (matmul (F := Ideal) dot_S128x128_S256x128_S128x256_1_1_0_0_n_n none
          (truncf (F := Ideal) .bf16 (select (broadcastTo S128x128 (shapeCast S1x128 k0_pay2 shapeCasts_S1x128_S1x128) broadcasts_S1x128_S128x128) q (broadcast S128x128 (Scalar.ofBits (F := Ideal) .f32 0x00000000#32))) bitsLt_bf16_f32)
          (truncf (F := Ideal) .bf16 (Scalar.select (Scalar.cmpi .eq (grp (BitVec.ofNat 32 p.val)) 0#32) kb ks) bitsLt_bf16_f32)
          (constant (F := Ideal) S128x256 .f32 0x00000000#32)) (broadcast S128x256 (Named.named κ "mask" 0xF149F2CA#32)) := rfl
  rw [e]
  generalize Scalar.select (Scalar.cmpi .eq (grp (BitVec.ofNat 32 p.val)) 0#32) kb ks = K at hsel ⊢
  pointwise [dot_S128x128_S256x128_S128x256_1_1_0_0_n_n]
  rw [rd_mask n r c, named_mask]
  exact masked (lanes_sum p 0 hq hsel (first_sel) r c)

theorem rd_second (n : Fin 65) (p : Fin 8) {q : Vec Ideal S128x128 .f32} {kb ks : Vec Ideal S256x128 .f32}
    (hq : B2 q (fun r l => ro X (128 * n.val + r) (1536 + 128 * p.val + l) * (1 / 8))) (hk : B2 kb (fun c l => ro X (row n.val c) (2560 + l)))
    (hs : B2 ks (fun c l => ro X (row n.val c) (2560 + (l + 64) % 128))) (r : Fin 128) (c : Fin 256) :
    (k0_pay17 (F := Ideal) k0_pay3 q kb ks (grp (BitVec.ofNat 32 p.val)) (k0_pay12 (BitVec.ofNat 32 n.val)) : S128x256.Idx → EReal) (ix2 r c)
      = ms (valid n.val r.val c.val) (sc X (2 * p.val + 1) (128 * n.val + r.val) (row n.val c.val)) := by
  have hsel := rd_sel hk hs p 1 1#32 rfl (by omega)
  unfold k0_pay17
  generalize Scalar.select (Scalar.cmpi .eq (grp (BitVec.ofNat 32 p.val)) 1#32) kb ks = K at hsel ⊢
  pointwise [dot_S128x128_S256x128_S128x256_1_1_0_0_n_n]
  rw [rd_mask n r c, named_mask]
  exact masked (lanes_sum p 1 hq hsel (second_sel) r c)

end

end Cert.Sw

end
-- ==== Proof.SwSoft.lean ====
/-
  The weights and the output block of one grid point of the sliding-window attention's forward kernel.
-/
module

public import proofs.«01_k».proof.Proof.SwTile

@[expose] public section

set_option maxRecDepth 16384

noncomputable section

namespace Cert.Sw

open Idealize.ShloMosaic Idealize.ShloMosaic.TcCoe
open Cert.Kernel6Ideal Cert.Kernel6Ideal.Gen Cert.SwMath Cert.SbMath

variable {X : ℕ → ℕ → ℝ} {σ : ℕ → ℝ} {n h : ℕ}

theorem one_div_coe (x : ℝ) (h : 0 < x) : Ideal.div 1 (x : EReal) = ((1 / x : ℝ) : EReal) := by
  rw [Ideal.div_coe h.ne', one_mul (M := EReal)]

/-- The exponential of a masked score less the maximum, as the weight before the division. -/
theorem exp_row {s : Fin 256 → EReal} {r : ℕ} {M : ℝ} (hs : ∀ c : Fin 256, s c = ms (valid n r c.val) (sc X h (128 * n + r) (row n c.val))) (c : Fin 256) :
    Ideal.exp (s c - (M : EReal)) = ((ex X h n r c.val * Real.exp (-M) : ℝ) : EReal) := by
  rw [hs c, exp_ms]; rfl

/-- One over the sum of a row's exponentials and the sink's. -/
theorem den_row {s : Fin 256 → EReal} {r : ℕ} {M : ℝ} {t : EReal} (hs : ∀ c : Fin 256, s c = ms (valid n r c.val) (sc X h (128 * n + r) (row n c.val)))
    (ht : t = ((σ h : ℝ) : EReal)) :
    ∑ x : Fin 256, Ideal.exp (s x - (M : EReal)) + Ideal.exp (t - (M : EReal)) = ((den X σ h n r * Real.exp (-M) : ℝ) : EReal) := by
  rw [Finset.sum_congr rfl fun x _ => exp_row hs x, fsum 256 (fun c => ex X h n r c * Real.exp (-M)), ht, exp_sub, ← EReal.coe_add]
  unfold den
  rw [add_mul, Finset.sum_mul]

/-- The weight of a column: its exponential times one over the sum. -/
theorem wt_row {s : Fin 256 → EReal} {r : ℕ} {M : ℝ} {t : EReal} (hs : ∀ c : Fin 256, s c = ms (valid n r c.val) (sc X h (128 * n + r) (row n c.val)))
    (ht : t = ((σ h : ℝ) : EReal)) (c : Fin 256) :
    Ideal.exp (s c - (M : EReal)) * Ideal.div 1 (∑ x : Fin 256, Ideal.exp (s x - (M : EReal)) + Ideal.exp (t - (M : EReal))) = ((wt X σ h n r c.val : ℝ) : EReal) := by
  have h1 := den_pos X σ h n r
  rw [exp_row hs c, den_row hs ht, one_div_coe _ (mul_pos h1 (Real.exp_pos _)), ← EReal.coe_mul]
  unfold wt
  have h2 := (Real.exp_pos (-M)).ne'
  congr 1
  field_simp

theorem max_row {s : Fin 256 → EReal} {r : ℕ} {t : EReal} (hs : ∀ c : Fin 256, s c = ms (valid n r c.val) (sc X h (128 * n + r) (row n c.val)))
    (ht : t = ((σ h : ℝ) : EReal)) : ∃ M : ℝ, max (Finset.fold max (Ideal.ofBits .f32 0xFF800000#32) s Finset.univ) t = (M : EReal) := by
  rw [ht, const_ninf]
  exact max_real _ _ _ fun c _ => by rw [hs c]; exact ms_lt _ _

theorem rd_soft {S : FVec Ideal S128x256 .f32} {t : Elt Ideal .f32} (hS : ∀ (r : Fin 128) (c : Fin 256), S (ix2 r c) = ms (valid n r.val c.val) (sc X h (128 * n + r.val) (row n c.val)))
    (ht : t = ((σ h : ℝ) : EReal)) : B2 (k0_pay15 S t) (fun r c => wt X σ h n r c) := fun r c => by
  unfold k0_pay15
  pointwise
  obtain ⟨M, hM⟩ := max_row (s := fun x => S (ix2 r x)) (hS r) ht
  rw [hM]
  exact wt_row (s := fun x => S (ix2 r x)) (hS r) ht c

/-- The output of a pair of heads in one lane: the head the lane belongs to. -/
theorem rd_out (p : Fin 8) {V0 V1 : FVec Ideal S256x128 .f32} {P0 S : FVec Ideal S128x256 .f32} {t : Elt Ideal .f32} {v4 : IVec S1x128 1}
    {q : FVec Ideal S128x128 .f32} {kb ks : FVec Ideal S256x128 .f32} {g : BitVec 32} {mk : IVec S128x256 1}
    (h0 : B2 P0 (fun r c => wt X σ (2 * p.val) n r c)) (hS0 : k0_pay17 v4 q kb ks g mk = S)
    (hS : ∀ (r : Fin 128) (c : Fin 256), S (ix2 r c) = ms (valid n r.val c.val) (sc X (2 * p.val + 1) (128 * n + r.val) (row n c.val)))
    (ht : t = ((σ (2 * p.val + 1) : ℝ) : EReal))
    (hV0 : B2 V0 (fun c l => if p.val / 4 = 0 then X (row n c) (2688 + l) else X (row n c) (2688 + (l + 64) % 128)))
    (hV1 : B2 V1 (fun c l => if p.val / 4 = 1 then X (row n c) (2688 + l) else X (row n c) (2688 + (l + 64) % 128))) :
    B2 (k0_pay1 (F := Ideal) k0_pay2 k0_pay3 V0 P0 V1 (k0_pay18 v4 q kb ks g mk t) (k0_pay19 v4 q kb ks g mk t) (k0_pay20 t))
      (fun r l => out X σ (2 * p.val + l / 64) n r (l % 64)) := fun r l => by
  obtain ⟨M, hM⟩ := max_row (s := fun x => S (ix2 r x)) (hS r) ht
  have hp := p.isLt
  have hl := l.isLt
  have hx : (k0_pay18 v4 q kb ks g mk t : S128x1.Idx → EReal) (ix2 r 0) = (M : EReal) := by
    unfold k0_pay18; rw [hS0]; pointwise; exact hM
  have hE : ∀ c : Fin 256, (k0_pay19 v4 q kb ks g mk t : S128x256.Idx → EReal) (ix2 r c) = Ideal.exp (S (ix2 r c) - (M : EReal)) := fun c => by
    unfold k0_pay19
    generalize k0_pay18 v4 q kb ks g mk t = Mx at hx ⊢
    rw [hS0]; pointwise; rw [hx]
  have hT : (k0_pay20 t : S128x1.Idx → EReal) (ix2 r 0) = t := by unfold k0_pay20; pointwise
  generalize k0_pay18 v4 q kb ks g mk t = Mx at hx ⊢
  generalize k0_pay19 v4 q kb ks g mk t = E at hE ⊢
  generalize k0_pay20 t = T at hT ⊢
  unfold k0_pay1
  pointwise [dot_S128x256_S256x128_S128x128_1_0_0_1_n_n]
  rw [hx, hT, Finset.sum_congr rfl fun x _ => hE x]
  simp only [hE, wt_row (s := fun x => S (ix2 r x)) (hS r) ht, h0 r, hV0 _ l, hV1 _ l, first_half, second_half]
  unfold out
  rw [← fsum]
  by_cases hh : l.val < 64
  · simp only [if_pos hh]
    refine (congrArg₂ (· + ·) (Finset.sum_congr rfl fun (c : Fin 256) _ => ?_) (Finset.sum_eq_zero fun (c : Fin 256) _ => ?_)).trans (add_zero (M := EReal) _)
    · refine (EReal.coe_mul _ _).symm.trans ?_
      rw [show 2 * p.val + l.val / 64 = 2 * p.val by omega]
      congr 2
      by_cases hg : p.val / 4 = 0
      · rw [if_pos hg]; congr 1; omega
      · rw [if_neg hg]; congr 1; omega
    · rfl
  · simp only [if_neg hh]
    refine (congrArg₂ (· + ·) (Finset.sum_eq_zero fun (c : Fin 256) _ => ?_) (Finset.sum_congr rfl fun (c : Fin 256) _ => ?_)).trans (zero_add (M := EReal) _)
    · rfl
    · refine (EReal.coe_mul _ _).symm.trans ?_
      rw [show 2 * p.val + l.val / 64 = 2 * p.val + 1 by omega]
      congr 2
      by_cases hg : p.val / 4 = 1
      · rw [if_pos hg]; congr 1; omega
      · rw [if_neg hg]; congr 1; omega

/-! ## The point -/

/-- The tables of the angles at the rows `R`. -/
def TabC (x : Vec Ideal S128x128 .f32) (R : ℕ → ℕ) : Prop := B2 x (fun r l => Real.cos (ang (R r) (l % 32)))
def TabS (x : Vec Ideal S128x128 .f32) (R : ℕ → ℕ) : Prop := B2 x (fun r l => Real.sin (ang (R r) (l % 32)))

/-- What a point leaves in its block, in real numbers: the output of its pair of heads at the rows of its block. -/
theorem rd_point (n : Fin 65) (p : Fin 8) {x0 x1 x2 x3 x4 x5 x6 x7 x8 : Vec Ideal S128x128 .f32} {x9 : Vec Ideal S1x16 .f32}
    (h0 : B2 x0 (fun r l => X (128 * n.val + r) (1536 + 128 * p.val + l))) (h1 : B2 x1 (fun r l => X (128 * (n.val - 1) + r) (2560 + l)))
    (h2 : B2 x2 (fun r l => X (128 * n.val + r) (2560 + l))) (h3 : B2 x3 (fun r l => X (128 * (n.val - 1) + r) (2688 + l)))
    (h4 : B2 x4 (fun r l => X (128 * n.val + r) (2688 + l))) (h5 : TabC x5 (fun r => 128 * (n.val - 1) + r)) (h6 : TabC x6 (fun r => 128 * n.val + r))
    (h7 : TabS x7 (fun r => 128 * (n.val - 1) + r)) (h8 : TabS x8 (fun r => 128 * n.val + r)) (h9 : ∀ j : Fin 16, x9 (ix2 0 j) = ((σ j.val : ℝ) : EReal)) :
    B2 (pointOut n.val p.val x0 x1 x2 x3 x4 x5 x6 x7 x8 x9) (fun r l => out X σ (2 * p.val + l / 64) n.val r (l % 64)) := by
  have hp := p.isLt
  have hs : ∀ j : ℕ, j < 16 → sinkAt x9 j = ((σ j : ℝ) : EReal) := fun j hj => by unfold sinkAt; rw [dif_pos hj]; exact h9 ⟨j, hj⟩
  have hq : B2 (k0_pay5 (k0_pay4 x0 x6 x8)) (fun r l => ro X (128 * n.val + r) (1536 + 128 * p.val + l) * (1 / 8)) := fun r l => by
    have e := rd_rope (X := X) (c0 := 1536 + 128 * p.val) (by omega) h0 h6 h8 r l
    unfold k0_pay5
    generalize k0_pay4 x0 x6 x8 = Y at e ⊢
    pointwise
    rw [e, const_eighth, ← EReal.coe_mul]
  have hp' : B2 (k0_pay6 x1 x5 x7) (fun r l => ro X (128 * (n.val - 1) + r) (2560 + l)) := rd_rope (X := X) (c0 := 2560) (by omega) h1 h5 h7
  have hc' : B2 (k0_pay4 x2 x6 x8) (fun r l => ro X (128 * n.val + r) (2560 + l)) := rd_rope (X := X) (c0 := 2560) (by omega) h2 h6 h8
  have hk : B2 (k0_pay8 (k0_pay6 x1 x5 x7) (k0_pay7 x2) x6 x8) (fun c l => ro X (row n.val c) (2560 + l)) :=
    rd_cat (X := ro X) (y := k0_pay4 x2 x6 x8) hp' hc' concatenates_S128x128_S128x128_S256x128_d0
  have hv : B2 (k0_pay9 x3 x4) (fun c l => X (row n.val c) (2688 + l)) := by
    unfold k0_pay9
    exact rd_cat (X := X) (by rw [shapeCast_self]; exact h3) (by rw [shapeCast_self]; exact h4) concatenates_S128x128_S128x128_S256x128_d0
  have hks : B2 (k0_pay10 (k0_pay6 x1 x5 x7) (k0_pay7 x2) x6 x8) (fun c l => ro X (row n.val c) (2560 + (l + 64) % 128)) := rd_roll hk rotates_S256x128_d1
  have hvs : B2 (k0_pay11 x3 x4) (fun c l => X (row n.val c) (2688 + (l + 64) % 128)) := rd_roll hv rotates_S256x128_d1
  unfold pointOut
  exact rd_out p (rd_soft (rd_first n p hq hk hks) (hs _ (by omega))) rfl (rd_second n p hq hk hks) (hs _ (by omega))
    (rd_sel hv hvs p 0 0#32 rfl (by omega)) (rd_sel hv hvs p 1 1#32 rfl (by omega))

end Cert.Sw

end
-- ==== Proof.SwEnv.lean ====
/-
  What one grid point of the sliding-window attention's forward kernel reads, in real numbers: the blocks of the
  projections' array, of the tables of angles and of the sinks.
-/
module

public import proofs.«01_k».proof.Proof.SwSoft
public import Idealize.ShloMosaic.Lib.StableHlo.ReadAt

@[expose] public section

set_option maxRecDepth 16384

noncomputable section

namespace Cert.Sw

open Idealize.ShloMosaic Idealize.ShloMosaic.TcCoe Idealize.SL.Sem
open Cert.Kernel6Ideal Cert.Kernel6Ideal.Gen Cert.SwMath

variable (m : (ℓ : Loc nD τ sig) → Buf (Elt Ideal) ℓ) (c : Dev nD) (t : Fin cfg0.N)

/-- The two arguments. -/
abbrev projA : S1x8320x2816.Idx → EReal := m ((c : Thread nD τ).loc main_arg0)
abbrev sinkA : S1x16.Idx → EReal := m ((c : Thread nD τ).loc main_arg1)

/-! ## The host's lines before the call -/

theorem host_proj (R : Fin 8320) (k : Fin 2816) : (V m c main_v23 : S8320x2816.Idx → EReal) (ix2 R k) = projA m c (ix3 0 R k) := by
  unfold V
  after_reads_at

theorem host_cos (R : Fin 8320) (l : Fin 128) : (V m c main_v18 : S8320x128.Idx → EReal) (ix2 R l) = ((Real.cos (ang R.val (l.val % 32)) : ℝ) : EReal) := by
  unfold V
  after_reads_at
  pointwise
  rw [angle_real R.val (l.val % 32) R.isLt (by omega), Ideal.cos_coe]

theorem host_sin (R : Fin 8320) (l : Fin 128) : (V m c main_v22 : S8320x128.Idx → EReal) (ix2 R l) = ((Real.sin (ang R.val (l.val % 32)) : ℝ) : EReal) := by
  unfold V
  after_reads_at
  pointwise
  rw [angle_real R.val (l.val % 32) R.isLt (by omega), Ideal.sin_coe]

theorem host_sinks : (V m c main_arg1 : S1x16.Idx → EReal) = sinkA m c := V_main_arg1 m c

/-! ## The blocks -/

/-- Two indices of a matrix with the same coordinates. -/
theorem same_at {a b : ℕ} {α : Type} (Y : (⟨2, ![a, b]⟩ : Shape).Idx → α) {i : (⟨2, ![a, b]⟩ : Shape).Idx} {R : Fin a} {k : Fin b}
    (h0 : (i 0).val = R.val) (h1 : (i 1).val = k.val) : Y i = Y (ix2 R k) :=
  congrArg Y (funext fun z => match z with
    | ⟨0, _⟩ => Fin.ext h0
    | ⟨1, _⟩ => Fin.ext h1)

theorem point_at : ∀ t : Fin grid0.N, (grid0.coords t 0).val = t.val / 8 ∧ (grid0.coords t 1).val = t.val % 8 := by decide +kernel
theorem widx0 : ∀ t : Fin grid0.N, win0_0.index t (0 : Fin 2) = t.val / 8 ∧ win0_0.index t (1 : Fin 2) = 12 + t.val % 8 := by decide +kernel
theorem widx1 : ∀ t : Fin grid0.N, win0_1.index t (0 : Fin 2) = t.val / 8 - 1 ∧ win0_1.index t (1 : Fin 2) = 20 := by decide +kernel
theorem widx2 : ∀ t : Fin grid0.N, win0_2.index t (0 : Fin 2) = t.val / 8 ∧ win0_2.index t (1 : Fin 2) = 20 := by decide +kernel
theorem widx3 : ∀ t : Fin grid0.N, win0_3.index t (0 : Fin 2) = t.val / 8 - 1 ∧ win0_3.index t (1 : Fin 2) = 21 := by decide +kernel
theorem widx4 : ∀ t : Fin grid0.N, win0_4.index t (0 : Fin 2) = t.val / 8 ∧ win0_4.index t (1 : Fin 2) = 21 := by decide +kernel
theorem widx5 : ∀ t : Fin grid0.N, win0_5.index t (0 : Fin 2) = t.val / 8 - 1 ∧ win0_5.index t (1 : Fin 2) = 0 := by decide +kernel
theorem widx6 : ∀ t : Fin grid0.N, win0_6.index t (0 : Fin 2) = t.val / 8 ∧ win0_6.index t (1 : Fin 2) = 0 := by decide +kernel
theorem widx7 : ∀ t : Fin grid0.N, win0_7.index t (0 : Fin 2) = t.val / 8 - 1 ∧ win0_7.index t (1 : Fin 2) = 0 := by decide +kernel
theorem widx8 : ∀ t : Fin grid0.N, win0_8.index t (0 : Fin 2) = t.val / 8 ∧ win0_8.index t (1 : Fin 2) = 0 := by decide +kernel
theorem widx9 : ∀ t : Fin grid0.N, win0_9.index t (0 : Fin 2) = 0 ∧ win0_9.index t (1 : Fin 2) = 0 := by decide +kernel
theorem widx10 : ∀ t : Fin grid0.N, win0_10.index t (0 : Fin 2) = t.val / 8 ∧ win0_10.index t (1 : Fin 2) = t.val % 8 := by decide +kernel

variable {m c} (h0 : ∀ i, ∃ r : ℝ, projA m c i = r)
include h0

theorem wblk0 : B2 (iblk m c 0 t) (fun r l => pF (projA m c) (128 * (t.val / 8) + r) (1536 + 128 * (t.val % 8) + l)) := fun r l => by
  have hN : t.val < 520 := lt_of_lt_of_eq t.isLt N_0
  have hr := r.isLt
  have hl := l.isLt
  obtain ⟨e0, e1⟩ := widx0 t
  unfold iblk
  rw [View.read_apply]
  refine (same_at (V m c main_v23 : S8320x2816.Idx → EReal) (R := ⟨128 * (t.val / 8) + r.val, by omega⟩) (k := ⟨1536 + 128 * (t.val % 8) + l.val, by omega⟩)
    (show win0_0.index t (0 : Fin 2) * 128 + 1 * r.val = 128 * (t.val / 8) + r.val by rw [e0]; omega) (show win0_0.index t (1 : Fin 2) * 128 + 1 * l.val = 1536 + 128 * (t.val % 8) + l.val by rw [e1]; omega)).trans ?_
  rw [host_proj, pF_eq h0]

theorem wblk1 : B2 (iblk m c 1 t) (fun r l => pF (projA m c) (128 * (t.val / 8 - 1) + r) (2560 + l)) := fun r l => by
  have hN : t.val < 520 := lt_of_lt_of_eq t.isLt N_0
  have hr := r.isLt
  have hl := l.isLt
  obtain ⟨e0, e1⟩ := widx1 t
  unfold iblk
  rw [View.read_apply]
  refine (same_at (V m c main_v23 : S8320x2816.Idx → EReal) (R := ⟨128 * (t.val / 8 - 1) + r.val, by omega⟩) (k := ⟨2560 + l.val, by omega⟩)
    (show win0_1.index t (0 : Fin 2) * 128 + 1 * r.val = 128 * (t.val / 8 - 1) + r.val by rw [e0]; omega) (show win0_1.index t (1 : Fin 2) * 128 + 1 * l.val = 2560 + l.val by rw [e1]; omega)).trans ?_
  rw [host_proj, pF_eq h0]

theorem wblk2 : B2 (iblk m c 2 t) (fun r l => pF (projA m c) (128 * (t.val / 8) + r) (2560 + l)) := fun r l => by
  have hN : t.val < 520 := lt_of_lt_of_eq t.isLt N_0
  have hr := r.isLt
  have hl := l.isLt
  obtain ⟨e0, e1⟩ := widx2 t
  unfold iblk
  rw [View.read_apply]
  refine (same_at (V m c main_v23 : S8320x2816.Idx → EReal) (R := ⟨128 * (t.val / 8) + r.val, by omega⟩) (k := ⟨2560 + l.val, by omega⟩)
    (show win0_2.index t (0 : Fin 2) * 128 + 1 * r.val = 128 * (t.val / 8) + r.val by rw [e0]; omega) (show win0_2.index t (1 : Fin 2) * 128 + 1 * l.val = 2560 + l.val by rw [e1]; omega)).trans ?_
  rw [host_proj, pF_eq h0]

theorem wblk3 : B2 (iblk m c 3 t) (fun r l => pF (projA m c) (128 * (t.val / 8 - 1) + r) (2688 + l)) := fun r l => by
  have hN : t.val < 520 := lt_of_lt_of_eq t.isLt N_0
  have hr := r.isLt
  have hl := l.isLt
  obtain ⟨e0, e1⟩ := widx3 t
  unfold iblk
  rw [View.read_apply]
  refine (same_at (V m c main_v23 : S8320x2816.Idx → EReal) (R := ⟨128 * (t.val / 8 - 1) + r.val, by omega⟩) (k := ⟨2688 + l.val, by omega⟩)
    (show win0_3.index t (0 : Fin 2) * 128 + 1 * r.val = 128 * (t.val / 8 - 1) + r.val by rw [e0]; omega) (show win0_3.index t (1 : Fin 2) * 128 + 1 * l.val = 2688 + l.val by rw [e1]; omega)).trans ?_
  rw [host_proj, pF_eq h0]

theorem wblk4 : B2 (iblk m c 4 t) (fun r l => pF (projA m c) (128 * (t.val / 8) + r) (2688 + l)) := fun r l => by
  have hN : t.val < 520 := lt_of_lt_of_eq t.isLt N_0
  have hr := r.isLt
  have hl := l.isLt
  obtain ⟨e0, e1⟩ := widx4 t
  unfold iblk
  rw [View.read_apply]
  refine (same_at (V m c main_v23 : S8320x2816.Idx → EReal) (R := ⟨128 * (t.val / 8) + r.val, by omega⟩) (k := ⟨2688 + l.val, by omega⟩)
    (show win0_4.index t (0 : Fin 2) * 128 + 1 * r.val = 128 * (t.val / 8) + r.val by rw [e0]; omega) (show win0_4.index t (1 : Fin 2) * 128 + 1 * l.val = 2688 + l.val by rw [e1]; omega)).trans ?_
  rw [host_proj, pF_eq h0]

omit h0

theorem wblk5 : TabC (iblk m c 5 t) (fun r => 128 * (t.val / 8 - 1) + r) := fun r l => by
  have hN : t.val < 520 := lt_of_lt_of_eq t.isLt N_0
  have hr := r.isLt
  have hl := l.isLt
  obtain ⟨e0, e1⟩ := widx5 t
  unfold iblk
  rw [View.read_apply]
  refine (same_at (V m c main_v18 : S8320x128.Idx → EReal) (R := ⟨128 * (t.val / 8 - 1) + r.val, by omega⟩) (k := l)
    (show win0_5.index t (0 : Fin 2) * 128 + 1 * r.val = 128 * (t.val / 8 - 1) + r.val by rw [e0]; omega) (show win0_5.index t (1 : Fin 2) * 128 + 1 * l.val = l.val by rw [e1]; omega)).trans ?_
  rw [host_cos]

theorem wblk6 : TabC (iblk m c 6 t) (fun r => 128 * (t.val / 8) + r) := fun r l => by
  have hN : t.val < 520 := lt_of_lt_of_eq t.isLt N_0
  have hr := r.isLt
  have hl := l.isLt
  obtain ⟨e0, e1⟩ := widx6 t
  unfold iblk
  rw [View.read_apply]
  refine (same_at (V m c main_v18 : S8320x128.Idx → EReal) (R := ⟨128 * (t.val / 8) + r.val, by omega⟩) (k := l)
    (show win0_6.index t (0 : Fin 2) * 128 + 1 * r.val = 128 * (t.val / 8) + r.val by rw [e0]; omega) (show win0_6.index t (1 : Fin 2) * 128 + 1 * l.val = l.val by rw [e1]; omega)).trans ?_
  rw [host_cos]

theorem wblk7 : TabS (iblk m c 7 t) (fun r => 128 * (t.val / 8 - 1) + r) := fun r l => by
  have hN : t.val < 520 := lt_of_lt_of_eq t.isLt N_0
  have hr := r.isLt
  have hl := l.isLt
  obtain ⟨e0, e1⟩ := widx7 t
  unfold iblk
  rw [View.read_apply]
  refine (same_at (V m c main_v22 : S8320x128.Idx → EReal) (R := ⟨128 * (t.val / 8 - 1) + r.val, by omega⟩) (k := l)
    (show win0_7.index t (0 : Fin 2) * 128 + 1 * r.val = 128 * (t.val / 8 - 1) + r.val by rw [e0]; omega) (show win0_7.index t (1 : Fin 2) * 128 + 1 * l.val = l.val by rw [e1]; omega)).trans ?_
  rw [host_sin]

theorem wblk8 : TabS (iblk m c 8 t) (fun r => 128 * (t.val / 8) + r) := fun r l => by
  have hN : t.val < 520 := lt_of_lt_of_eq t.isLt N_0
  have hr := r.isLt
  have hl := l.isLt
  obtain ⟨e0, e1⟩ := widx8 t
  unfold iblk
  rw [View.read_apply]
  refine (same_at (V m c main_v22 : S8320x128.Idx → EReal) (R := ⟨128 * (t.val / 8) + r.val, by omega⟩) (k := l)
    (show win0_8.index t (0 : Fin 2) * 128 + 1 * r.val = 128 * (t.val / 8) + r.val by rw [e0]; omega) (show win0_8.index t (1 : Fin 2) * 128 + 1 * l.val = l.val by rw [e1]; omega)).trans ?_
  rw [host_sin]

theorem wblk9 (h1 : ∀ i, ∃ r : ℝ, sinkA m c i = r) (j : Fin 16) : (iblk m c 9 t : S1x16.Idx → EReal) (ix2 0 j) = ((sF (sinkA m c) j.val : ℝ) : EReal) := by
  obtain ⟨e0, e1⟩ := widx9 t
  unfold iblk
  rw [View.read_apply]
  refine (same_at (V m c main_arg1 : S1x16.Idx → EReal) (R := 0) (k := j)
    (show win0_9.index t (0 : Fin 2) * 1 + 1 * 0 = 0 by rw [e0]) (show win0_9.index t (1 : Fin 2) * 16 + 1 * j.val = j.val by rw [e1]; omega)).trans ?_
  rw [host_sinks, sF_eq h1]

end Cert.Sw

end
-- ==== Proof.SwValue.lean ====
/-
  The array the sliding-window attention's forward kernel leaves, in real numbers.
-/
module

public import proofs.«01_k».proof.Proof.SwEnv
public import proofs.«01_k».proof.Proof.Gen.Kernel6Ideal.Value

@[expose] public section

set_option maxRecDepth 16384

noncomputable section

namespace Cert.Sw

open Idealize.ShloMosaic Idealize.ShloMosaic.TcCoe Idealize.SL.Sem
open Cert.Kernel6Ideal Cert.Kernel6Ideal.Gen Cert.SwMath

/-- The attention's output at a row and a lane, from the two arguments. -/
def outAt (x0 : (⟨3, ![1, 8320, 2816]⟩ : Shape).Idx → EReal) (x1 : (⟨2, ![1, 16]⟩ : Shape).Idx → EReal) (R j : ℕ) : ℝ :=
  out (pF x0) (sF x1) (j / 64) (R / 128) (R % 128) (j % 64)

variable (m : (ℓ : Loc nD τ sig) → Buf (Elt Ideal) ℓ) (c : Dev nD)

/-- The array after the call. -/
abbrev arrO : S8320x1024.Idx → EReal := fun i => ((outAt (projA m c) (sinkA m c) (i 0).val (i 1).val : ℝ) : EReal)

variable {m c} (h0 : ∀ i, ∃ r : ℝ, projA m c i = r) (h1 : ∀ i, ∃ r : ℝ, sinkA m c i = r)
include h0 h1

/-- One point's block. -/
theorem point_out (t : Fin cfg0.N) :
    B2 (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t))
      (fun r l => out (pF (projA m c)) (sF (sinkA m c)) (2 * (t.val % 8) + l / 64) (t.val / 8) r (l % 64)) := by
  have hN : t.val < 520 := lt_of_lt_of_eq t.isLt N_0
  obtain ⟨e0, e1⟩ := point_at t
  rw [out_point, e0, e1]
  exact rd_point ⟨t.val / 8, by omega⟩ ⟨t.val % 8, by omega⟩ (wblk0 t h0) (wblk1 t h0) (wblk2 t h0) (wblk3 t h0) (wblk4 t h0)
    (wblk5 t) (wblk6 t) (wblk7 t) (wblk8 t) (wblk9 t h1)

theorem flushed10 (t : Fin cfg0.N) : (dats m 0 c).flushed 10 t = ((cfg0.win 10).blk t).view.read (Elt Ideal) (arrO m c) := by
  rw [Value.flushed10_A]
  obtain ⟨e0, e1⟩ := widx10 t
  have e := point_out h0 h1 t
  generalize out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) = Y at e ⊢
  funext y
  have y0 : (y 0).val < 128 := (y 0).isLt
  have y1 : (y 1).val < 128 := (y 1).isLt
  have hb0 : (((cfg0.win 10).blk t).view.emb y 0).val = win0_10.index t (0 : Fin 2) * 128 + 1 * (y 0).val := rfl
  have hb1 : (((cfg0.win 10).blk t).view.emb y 1).val = win0_10.index t (1 : Fin 2) * 128 + 1 * (y 1).val := rfl
  rw [View.read_apply]
  show (Y : S128x128.Idx → EReal) ((cfg0.win 10).xinj (grid0.coords t) y) = ((outAt _ _ (((cfg0.win 10).blk t).view.emb y 0).val (((cfg0.win 10).blk t).view.emb y 1).val : ℝ) : EReal)
  have hy : (cfg0.win 10).xinj (grid0.coords t) y = (ix2 ⟨(y 0).val, y0⟩ ⟨(y 1).val, y1⟩ : S128x128.Idx) := by
    funext a
    match a with
    | ⟨0, _⟩ => rfl
    | ⟨1, _⟩ => rfl
  rw [hy, e, hb0, hb1, e0, e1]
  unfold outAt
  dsimp only
  congr 2 <;> omega

omit h0 h1 in
theorem mem10 (t : Fin cfg0.N) (i : S8320x1024.Idx) :
    i ∈ ((cfg0.win 10).blk t).view.set ↔ ∀ a : Fin 2, win0_10.index t a * S128x128.size a ≤ (i a).val ∧ (i a).val < win0_10.index t a * S128x128.size a + S128x128.size a := by
  show i ∈ ((View.whole main_v24).slice (win0_10.rect t)).set ↔ _
  rw [View.set_slice_whole, Rect.mem_set_unit]
  exact Iff.rfl

theorem arr10 : (dats m 0 c).arrAt 10 cfg0.N = arrO m c := by
  refine (dats m 0 c).arrAt_eq_of_cover 10 _ (fun t _ => flushed10 h0 h1 t) (fun i => ?_)
  have i0 : (i 0).val < 8320 := (i 0).isLt
  have i1 : (i 1).val < 1024 := (i 1).isLt
  have hlt : 8 * ((i 0).val / 128) + (i 1).val / 128 < cfg0.N := lt_of_lt_of_eq (by omega) (show cfg0.N = 520 from N_0).symm
  obtain ⟨e0, e1⟩ := widx10 ⟨8 * ((i 0).val / 128) + (i 1).val / 128, hlt⟩
  refine ⟨⟨8 * ((i 0).val / 128) + (i 1).val / 128, hlt⟩, flush0_10 _, ?_⟩
  rw [mem10]
  intro a
  match a with
  | ⟨0, _⟩ => show win0_10.index _ (0 : Fin 2) * 128 ≤ (i 0).val ∧ (i 0).val < win0_10.index _ (0 : Fin 2) * 128 + 128; rw [e0]; dsimp only; omega
  | ⟨1, _⟩ => show win0_10.index _ (1 : Fin 2) * 128 ≤ (i 1).val ∧ (i 1).val < win0_10.index _ (1 : Fin 2) * 128 + 128; rw [e1]; dsimp only; omega

end Cert.Sw

end
-- ==== Proof.SwRef.lean ====
/-
  The sliding-window attention's reference in real numbers: the rotary embeddings, the mask, the bands
  of keys and values, and the masked scores.
-/
module

public import proofs.«01_k».proof.Proof.SwMath
public import proofs.«01_k».proof.Proof.Gen.Reference6Ideal.Read
public import Idealize.ShloMosaic.Lib.Pointwise
public import Idealize.ShloMosaic.Lib.WordCmp

@[expose] public section

set_option maxRecDepth 16384

noncomputable section

namespace Cert.SwRef

open Idealize.ShloMosaic Idealize.ShloMosaic.TcCoe Idealize.SL.Sem Finset
open Cert.Reference6Ideal Cert.Reference6Ideal.Gen Cert.Reference6Ideal.Read Cert.SwMath

variable {x0 : (⟨S1x8320x2816, .f32⟩ : BufTy).Contents (Elt Ideal)} {x1 : (⟨S1x16, .f32⟩ : BufTy).Contents (Elt Ideal)}

/-! ## The rotary embeddings -/

theorem ang_q (R : Fin 8320) (d : Fin 32) : val_main_v20 (F := Ideal) (ix2 R d) = ((ang R.val d.val : ℝ) : EReal) := by
  unfold val_main_v20 val_main_v18 val_main_v19 val_main_v16 val_main_v17 val_main_v15 val_main_v14 val_main_v13 val_main_v12 val_main_v11 val_main_v10 val_main_v9 val_main_v8 val_main_v7 val_main_v5
  pointwise
  exact angle_real R.val d.val R.isLt d.isLt

theorem ang_k (R : Fin 8320) (d : Fin 32) : val_main_v52 (F := Ideal) (ix2 R d) = ((ang R.val d.val : ℝ) : EReal) := by
  simp only [val_main_v5, val_main_v39, val_main_v40, val_main_v41, val_main_v42, val_main_v43, val_main_v44, val_main_v45, val_main_v46, val_main_v47, val_main_v48, val_main_v49, val_main_v50, val_main_v51, val_main_v52]
  pointwise
  exact angle_real R.val d.val R.isLt d.isLt

/-- The first half of a head's lanes after the rotary embedding. -/
theorem ro_first {X : ℕ → ℕ → ℝ} {R k d : ℕ} (hd : d < 32) (hk : k % 64 = d) :
    ro X R k = X R k * Real.cos (ang R d) - X R (k + 32) * Real.sin (ang R d) := by
  unfold ro
  rw [if_pos (by omega), show k % 32 = d by omega]; ring

/-- The second half. -/
theorem ro_second {X : ℕ → ℕ → ℝ} {R k d : ℕ} (hd : d < 32) (hk : k % 64 = d + 32) :
    ro X R k = X R k * Real.cos (ang R d) + X R (k - 32) * Real.sin (ang R d) := by
  unfold ro
  rw [if_neg (by omega), show k % 32 = d by omega]

/-- The two halves put side by side. -/
theorem halves {X : ℕ → ℕ → ℝ} {R b d k0 k1 k2 k3 : ℕ} (hb : b % 64 = 0) (hd : d < 64) (e0 : d < 32 → k0 = b + d ∧ k1 = b + d + 32)
    (e1 : ¬ d < 32 → k2 = b + d ∧ k3 + 32 = b + d) :
    (if _h : d < 32 then ((X R k0 : ℝ) : EReal) * ((Real.cos (ang R d) : ℝ) : EReal) - ((X R k1 : ℝ) : EReal) * ((Real.sin (ang R d) : ℝ) : EReal)
      else ((X R k2 : ℝ) : EReal) * ((Real.cos (ang R (d - 32)) : ℝ) : EReal) + ((X R k3 : ℝ) : EReal) * ((Real.sin (ang R (d - 32)) : ℝ) : EReal))
      = ((ro X R (b + d) : ℝ) : EReal) := by
  by_cases h : d < 32
  · obtain ⟨rfl, rfl⟩ := e0 h
    rw [dif_pos h, ro_first h (by omega)]
    norm_cast
  · obtain ⟨rfl, e3⟩ := e1 h
    obtain rfl : k3 = b + d - 32 := by omega
    rw [dif_neg h, ro_second (d := d - 32) (by omega) (by omega)]
    norm_cast

section
variable (h0 : ∀ i, ∃ r : ℝ, (x0 i : EReal) = r)
include h0

theorem q_rope (R : Fin 8320) (h : Fin 16) (d : Fin 64) : val_main_v37 (F := Ideal) x0 (ix4 0 R h d) = ((ro (pF x0) R.val (1536 + (64 * h.val + d.val)) : ℝ) : EReal) := by
  have hh := h.isLt
  have hd := d.isLt
  have hx := pF_eq h0
  unfold val_main_v37 val_main_v31 val_main_v36 val_main_v28 val_main_v30 val_main_v33 val_main_v35 val_main_v27 val_main_v29 val_main_v32 val_main_v34 val_main_v22 val_main_v24 val_main_v21 val_main_v23 val_main_v25 val_main_v26 val_main_v6 val_main_v1
  pointwise
  simp only [hx, ang_q, Ideal.cos_coe, Ideal.sin_coe]
  rw [← Nat.add_assoc 1536 (64 * h.val)]
  refine halves (b := 1536 + 64 * h.val) (by omega) hd (fun h => ?_) (fun h => ?_) <;> omega

theorem k_rope (R : Fin 8320) (g : Fin 2) (d : Fin 64) : val_main_v69 (F := Ideal) x0 (ix4 0 R g d) = ((ro (pF x0) R.val (2560 + (64 * g.val + d.val)) : ℝ) : EReal) := by
  have hh := g.isLt
  have hd := d.isLt
  have hx := pF_eq h0
  simp only [val_main_v2, val_main_v38, val_main_v53, val_main_v54, val_main_v55, val_main_v56, val_main_v57, val_main_v58, val_main_v59, val_main_v60, val_main_v61, val_main_v62, val_main_v63, val_main_v64, val_main_v65, val_main_v66, val_main_v67, val_main_v68, val_main_v69]
  pointwise
  simp only [hx, ang_k, Ideal.cos_coe, Ideal.sin_coe]
  rw [← Nat.add_assoc 2560 (64 * g.val)]
  refine halves (b := 2560 + 64 * g.val) (by omega) hd (fun h => ?_) (fun h => ?_) <;> omega

theorem v_at (R : Fin 8320) (g : Fin 2) (d : Fin 64) : val_main_v70 (F := Ideal) x0 (ix4 0 R g d) = ((pF x0 R.val (2688 + (64 * g.val + d.val)) : ℝ) : EReal) := by
  have hh := g.isLt
  have hd := d.isLt
  have hx := pF_eq h0
  unfold val_main_v70 val_main_v3
  pointwise
  rw [hx]
  congr 2
  dsimp only
  omega

end

/-! ## The mask -/

theorem diff_int (r : Fin 128) (c : Fin 256) : (IntOp.subi (IntOp.addi 128#32 (BitVec.ofNat 32 r.val)) (BitVec.ofNat 32 c.val)).toInt = 128 + (r.val : ℤ) - c.val := by
  have h1 := r.isLt
  have h2 := c.isLt
  show (128#32 + BitVec.ofNat 32 r.val - BitVec.ofNat 32 c.val).toInt = _
  rw [BitVec.toInt_sub, BitVec.toInt_add, show (128#32).toInt = 128 from by decide, BitVec.toInt_ofNat', BitVec.toInt_ofNat',
    Int.bmod_eq_of_le (n := (r.val : ℤ)) (by omega) (by omega), Int.bmod_eq_of_le (n := (c.val : ℤ)) (by omega) (by omega),
    Int.bmod_eq_of_le (n := 128 + (r.val : ℤ)) (by omega) (by omega)]
  exact Int.bmod_eq_of_le (by omega) (by omega)

theorem bit_ge (r : Fin 128) (c : Fin 256) : IntOp.cmpi .sge (IntOp.subi (IntOp.addi 128#32 (BitVec.ofNat 32 r.val)) (BitVec.ofNat 32 c.val)) 0#32
    = if c.val ≤ r.val + 128 then 1#1 else 0#1 := by
  show BitVec.ofBool ((0#32).sle _) = _
  rw [BitVec.sle_eq_decide, diff_int, bit_of]
  exact if_congr (by rw [show (0#32).toInt = 0 from by decide]; omega) rfl rfl

theorem bit_lt (r : Fin 128) (c : Fin 256) : IntOp.cmpi .slt (IntOp.subi (IntOp.addi 128#32 (BitVec.ofNat 32 r.val)) (BitVec.ofNat 32 c.val)) 128#32
    = if r.val < c.val then 1#1 else 0#1 := by
  show BitVec.ofBool (BitVec.slt _ (128#32)) = _
  rw [BitVec.slt_eq_decide, diff_int, bit_of]
  exact if_congr (by rw [show (128#32).toInt = 128 from by decide]; omega) rfl rfl

theorem bit_row {R : ℕ} (hR : R < 8320) : IntOp.cmpi .sge (BitVec.ofNat 32 R) 112#32 = if 112 ≤ R then 1#1 else 0#1 := by
  rw [WordCmp.cmpi_sge_ofNat (by omega) (by omega), bit_of]

theorem mask (n : Fin 65) (r : Fin 128) (c : Fin 256) : val_main_v108 (F := Ideal) (ix3 n r c) = if valid n.val r.val c.val then 1#1 else 0#1 := by
  unfold val_main_v108 val_main_v106 val_main_v107 val_main_v105 val_main_v104 val_main_v103 val_main_v102 val_main_v100 val_main_v98 val_main_v99 val_main_v101 val_main_v96 val_main_v97 val_main_v95 val_main_v94 val_main_v93 val_main_v92 val_main_v91 val_main_v90 val_main_v85 val_main_v84 val_main_v83 val_main_v82 val_main_v72 val_main_v71 val_main_v5
  pointwise
  have hn := n.isLt
  have hr := r.isLt
  have hc := c.isLt
  simp only [val_main_c_9, val_main_c_10, val_main_c_11, val_main_c_7, val_main_c_4]
  pointwise
  rw [bit_ge, bit_lt, bit_and]
  have e : (if h : c.val < 128 then (if h : (1 ≤ n.val ∧ n.val - 1 < 64) ∧ c.val < 128 then IntOp.cmpi .sge (BitVec.ofNat 32 ((n.val - 1) * 128 + c.val)) 112#32 else 0#1)
      else IntOp.cmpi .sge (BitVec.ofNat 32 (n.val * 128 + (c.val - 128))) 112#32) = if 240 ≤ 128 * n.val + c.val then 1#1 else 0#1 := by
    by_cases h1 : c.val < 128
    · rw [dif_pos h1]
      by_cases h2 : 1 ≤ n.val
      · rw [dif_pos ⟨⟨h2, by omega⟩, h1⟩, bit_row (by omega)]
        exact if_congr (by omega) rfl rfl
      · rw [dif_neg (fun h => h2 h.1.1), if_neg (by omega)]
    · rw [dif_neg h1, bit_row (by omega)]
      exact if_congr (by omega) rfl rfl
  rw [e, bit_and]
  unfold valid
  exact if_congr (by omega) rfl rfl

/-! ## The bands -/

section
variable (h0 : ∀ i, ∃ r : ℝ, (x0 i : EReal) = r)
include h0

/-- A key in the band, where there is a block before or the column is in the block itself. -/
theorem k_band (n : Fin 65) (c : Fin 256) (g : Fin 2) (d : Fin 64) (hc : 240 ≤ 128 * n.val + c.val) :
    val_main_v77 (F := Ideal) x0 (ix5 0 n c g d) = ((ro (pF x0) (row n.val c.val) (2560 + (64 * g.val + d.val)) : ℝ) : EReal) := by
  have hk := k_rope h0
  unfold val_main_v77 val_main_v76 val_main_v75 val_main_v74
  generalize val_main_v69 (F := Ideal) x0 = Y at hk ⊢
  pointwise
  unfold row
  by_cases h1 : c.val < 128
  · rw [dif_pos h1, dif_pos (by omega), hk, if_pos h1]
    congr 2
    dsimp only
    omega
  · rw [dif_neg h1, hk, if_neg h1]
    congr 2
    dsimp only
    omega

/-- A value in the band. -/
theorem v_band (n : Fin 65) (c : Fin 256) (g : Fin 2) (d : Fin 64) (hc : 240 ≤ 128 * n.val + c.val) :
    val_main_v81 (F := Ideal) x0 (ix5 0 n c g d) = ((pF x0 (row n.val c.val) (2688 + (64 * g.val + d.val)) : ℝ) : EReal) := by
  have hv := v_at h0
  unfold val_main_v81 val_main_v80 val_main_v79 val_main_v78
  generalize val_main_v70 (F := Ideal) x0 = Y at hv ⊢
  pointwise
  unfold row
  by_cases h1 : c.val < 128
  · rw [dif_pos h1, dif_pos (by omega), hv, if_pos h1]
    congr 2
    dsimp only
    omega
  · rw [dif_neg h1, hv, if_neg h1]
    congr 2
    dsimp only
    omega

/-- Every value in the band is real: the block before the first one is zero. -/
theorem v_real (n : Fin 65) (c : Fin 256) (g : Fin 2) (d : Fin 64) : ∃ y : ℝ, (val_main_v81 (F := Ideal) x0 (ix5 0 n c g d) : EReal) = (y : EReal) := by
  have hv := v_at h0
  unfold val_main_v81 val_main_v80 val_main_v79 val_main_v78 val_main_call1_v0 val_main_c_6
  generalize val_main_v70 (F := Ideal) x0 = Y at hv ⊢
  pointwise
  split
  · split
    · exact ⟨_, hv _ _ _⟩
    · exact ⟨_, rfl⟩
  · exact ⟨_, hv _ _ _⟩

/-- A score, where the column has a key. -/
theorem score_at (n : Fin 65) (g : Fin 2) (h : Fin 8) (r : Fin 128) (c : Fin 256) (hc : 240 ≤ 128 * n.val + c.val) :
    val_main_v89 (F := Ideal) x0 (ix6 0 n g h r c) = ((sc (pF x0) (8 * g.val + h.val) (128 * n.val + r.val) (row n.val c.val) : ℝ) : EReal) := by
  have hg := g.isLt
  have hh := h.isLt
  have hn := n.isLt
  have hr := r.isLt
  have hq : ∀ d : Fin 64, val_main_v73 (F := Ideal) x0 (ix6 0 n r g h d) = ((ro (pF x0) (128 * n.val + r.val) (1536 + (64 * (8 * g.val + h.val) + d.val)) : ℝ) : EReal) := fun d => by
    have e := q_rope h0 ⟨128 * n.val + r.val, by omega⟩ ⟨8 * g.val + h.val, by omega⟩ d
    unfold val_main_v73
    generalize val_main_v37 (F := Ideal) x0 = Y at e ⊢
    pointwise
    refine Eq.trans (congrArg Y ?_) e
    congr 1 <;> exact Fin.ext (by dsimp only; omega)
  have e : val_main_v86 (F := Ideal) x0 (ix6 0 n g c r h) = ((∑ d ∈ range 64, ro (pF x0) (128 * n.val + r.val) (1536 + (64 * (8 * g.val + h.val) + d)) * ro (pF x0) (row n.val c.val) (2560 + (64 * ((8 * g.val + h.val) / 8) + d)) : ℝ) : EReal) := by
    rw [val_main_v86_apply, ← fsum 64 (fun d => ro (pF x0) (128 * n.val + r.val) (1536 + (64 * (8 * g.val + h.val) + d)) * ro (pF x0) (row n.val c.val) (2560 + (64 * ((8 * g.val + h.val) / 8) + d)))]
    refine Finset.sum_congr rfl fun d _ => ?_
    rw [show lidx_main_v86 (ix6 0 n g c r h) d = ix5 0 n c g d from funext fun a => match a with | ⟨0, _⟩ => rfl | ⟨1, _⟩ => rfl | ⟨2, _⟩ => rfl | ⟨3, _⟩ => rfl | ⟨4, _⟩ => rfl, show ridx_main_v86 (ix6 0 n g c r h) d = ix6 0 n r g h d from funext fun a => match a with | ⟨0, _⟩ => rfl | ⟨1, _⟩ => rfl | ⟨2, _⟩ => rfl | ⟨3, _⟩ => rfl | ⟨4, _⟩ => rfl | ⟨5, _⟩ => rfl, k_band h0 n c g d hc, hq d, ← EReal.coe_mul, show (8 * g.val + h.val) / 8 = g.val by omega, mul_comm]
  unfold val_main_v89 val_main_v87 val_main_v88 val_main_cst_8
  generalize val_main_v86 (F := Ideal) x0 = Y at e ⊢
  pointwise
  rw [e, const_eighth, ← EReal.coe_mul]
  rfl

/-- The masked score. -/
theorem score (n : Fin 65) (g : Fin 2) (h : Fin 8) (r : Fin 128) (c : Fin 256) :
    val_main_v110 (F := Ideal) x0 (ix6 0 n g h r c) = ms (valid n.val r.val c.val) (sc (pF x0) (8 * g.val + h.val) (128 * n.val + r.val) (row n.val c.val)) := by
  have hm := mask n r c
  have hs := score_at h0 n g h r c
  unfold val_main_v110 val_main_call3_v1 val_main_call3_v2 val_main_call3_v0 val_main_v109 val_main_cst_12
  generalize val_main_v108 (F := Ideal) = Y at hm ⊢
  generalize val_main_v89 (F := Ideal) x0 = S at hs ⊢
  dsimp only [id]
  pointwise
  rw [hm, const_ninf]
  by_cases hv : valid n.val r.val c.val
  · exact masked (hs hv.2.2)
  · unfold ms
    rw [if_neg hv, if_neg hv]
    rfl

end

end Cert.SwRef

end
-- ==== Proof.SwRefSoft.lean ====
/-
  The second half of the sliding-window attention's reference in real numbers: the softmax with the sink and the result,
  which is the same function of the two arguments as the kernel's.
-/
module

public import proofs.«01_k».proof.Proof.SwRef

@[expose] public section

set_option maxRecDepth 16384

noncomputable section

namespace Cert.SwRef

open Idealize.ShloMosaic Idealize.ShloMosaic.TcCoe Idealize.SL.Sem Finset
open Cert.Reference6Ideal Cert.Reference6Ideal.Gen Cert.Reference6Ideal.Read Cert.SwMath

variable {x0 : (⟨S1x8320x2816, .f32⟩ : BufTy).Contents (Elt Ideal)} {x1 : (⟨S1x16, .f32⟩ : BufTy).Contents (Elt Ideal)}

variable (h0 : ∀ i, ∃ r : ℝ, (x0 i : EReal) = r)
include h0

/-! ## The softmax with the sink -/

omit h0 in
theorem sink_at (h1 : ∀ i, ∃ r : ℝ, (x1 i : EReal) = r) (n : Fin 65) (g : Fin 2) (h : Fin 8) (r : Fin 128) :
    val_main_v113 (F := Ideal) x1 (ix6 0 n g h r 0) = ((sF x1 (8 * g.val + h.val) : ℝ) : EReal) := by
  have hx := sF_eq h1
  unfold val_main_v113 val_main_v112 val_main_v111 val_main_v4
  pointwise
  rw [hx]
  congr 2
  dsimp only
  omega

/-- The 257 scores of a row: the masked scores of the band and the sink. -/
theorem row_at (h1 : ∀ i, ∃ r : ℝ, (x1 i : EReal) = r) (n : Fin 65) (g : Fin 2) (h : Fin 8) (r : Fin 128) (c : Fin 257) :
    val_main_v114 (F := Ideal) x0 x1 (ix6 0 n g h r c) =
      if c.val < 256 then ms (valid n.val r.val c.val) (sc (pF x0) (8 * g.val + h.val) (128 * n.val + r.val) (row n.val c.val)) else ((sF x1 (8 * g.val + h.val) : ℝ) : EReal) := by
  have hs := score h0 n g h r
  have ht := sink_at h1 n g h r
  unfold val_main_v114
  generalize val_main_v110 (F := Ideal) x0 = Y at hs ⊢
  generalize val_main_v113 (F := Ideal) x1 = T at ht ⊢
  pointwise
  by_cases hc : c.val < 256
  · rw [dif_pos hc, if_pos hc, hs]
  · rw [dif_neg hc, if_neg hc]
    refine Eq.trans (congrArg T ?_) ht
    exact congrArg (ix6 0 n g h r) (Fin.ext (by have := c.isLt; show c.val - 256 = 0; omega))

omit h0 in
/-- The largest of a row's scores, as a fold over its columns. -/
theorem max_fold (Y : FVec Ideal S1x65x2x8x128x257 .f32) (n : Fin 65) (g : Fin 2) (h : Fin 8) (r : Fin 128) :
    Host.reduce (FloatOps.maximumf (F := Ideal) (φ := .f32)) Y (constant S_ .f32 0xFF800000#32) reducesTo_S1x65x2x8x128x257_S1x65x2x8x128_d5 h_S_ (ix5 0 n g h r)
      = (Finset.univ : Finset (Fin 257)).fold max ⊥ (fun c => (Y (ix6 0 n g h r c) : EReal)) := by
  have hr : Shape.Reduces S1x65x2x8x128x257 [5] S1x65x2x8x128 := by decide
  refine (Host.reduce_eq_fold_single (FloatOps.maximumf (F := Ideal) (φ := .f32)) Y _ _ hr h_S_ _).trans ?_
  have e : (constant S_ .f32 0xFF800000#32 : FVec Ideal S_ .f32) (Shape.Idx.first h_S_) = (⊥ : EReal) := const_ninf
  rw [e]
  refine congrArg (Finset.fold max ⊥ · Finset.univ) (funext fun c => congrArg Y (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

/-- The largest of them is a real number. -/
theorem max_at (h1 : ∀ i, ∃ r : ℝ, (x1 i : EReal) = r) (n : Fin 65) (g : Fin 2) (h : Fin 8) (r : Fin 128) :
    ∃ M : ℝ, ∀ c : Fin 257, (val_main_v119 (F := Ideal) x0 x1 (ix6 0 n g h r c) : EReal) = (M : EReal) := by
  have hs := row_at h0 h1 n g h r
  have hb : ∀ c ∈ (Finset.univ : Finset (Fin 257)), (val_main_v114 (F := Ideal) x0 x1 (ix6 0 n g h r c) : EReal) < ⊤ := fun c _ => by
    rw [hs]
    split
    · exact ms_lt _ _
    · exact EReal.coe_lt_top _
  have hl : ∃ c ∈ (Finset.univ : Finset (Fin 257)), ⊥ < (val_main_v114 (F := Ideal) x0 x1 (ix6 0 n g h r c) : EReal) :=
    ⟨Fin.last 256, Finset.mem_univ _, by rw [hs, if_neg (show ¬ (Fin.last 256).val < 256 from lt_irrefl 256)]; exact EReal.bot_lt_coe _⟩
  obtain ⟨M, hM⟩ := fold_real _ _ hb hl
  have hf : (val_main_v115 (F := Ideal) x0 x1 (ix5 0 n g h r) : EReal) = (M : EReal) := (max_fold _ n g h r).trans hM
  have hm : (val_main_v117 (F := Ideal) x0 x1 (ix5 0 n g h r) : EReal) = (M : EReal) := by
    have hn : (val_main_v116 (F := Ideal) (ix5 0 n g h r) : EReal) = ⊥ := by
      unfold val_main_v116 val_main_cst_14
      pointwise
      exact const_ninf
    have ha : (val_main_v117 (F := Ideal) x0 x1 (ix5 0 n g h r) : EReal) = max (val_main_v116 (F := Ideal) (ix5 0 n g h r) : EReal) (val_main_v115 (F := Ideal) x0 x1 (ix5 0 n g h r) : EReal) := val_main_v117_apply x0 x1 _
    rw [ha, hn, hf]
    exact max_eq_right bot_le
  refine ⟨M, fun c => ?_⟩
  unfold val_main_v119 val_main_v118
  generalize val_main_v117 (F := Ideal) x0 x1 = Y at hm ⊢
  pointwise
  exact hm

/-- A weight: masked columns have weight zero. -/
theorem weight (h1 : ∀ i, ∃ r : ℝ, (x1 i : EReal) = r) (n : Fin 65) (g : Fin 2) (h : Fin 8) (r : Fin 128) (c : Fin 256) :
    (val_main_v126 (F := Ideal) x0 x1 (ix6 0 n g h r c) : EReal) = ((wt (pF x0) (sF x1) (8 * g.val + h.val) n.val r.val c.val : ℝ) : EReal) := by
  obtain ⟨M, hM⟩ := max_at h0 h1 n g h r
  have hs := row_at h0 h1 n g h r
  have hE : ∀ c : Fin 257, (val_main_v121 (F := Ideal) x0 x1 (ix6 0 n g h r c) : EReal) =
      (((if c.val < 256 then ex (pF x0) (8 * g.val + h.val) n.val r.val c.val else Real.exp (sF x1 (8 * g.val + h.val))) * Real.exp (-M) : ℝ) : EReal) := fun c => by
    have a := hs c
    have b := hM c
    unfold val_main_v121 val_main_v120
    generalize val_main_v114 (F := Ideal) x0 x1 = Y at a ⊢
    generalize val_main_v119 (F := Ideal) x0 x1 = Z at b ⊢
    pointwise
    rw [a, b]
    by_cases hc : c.val < 256
    · rw [if_pos hc, if_pos hc, exp_ms]; rfl
    · rw [if_neg hc, if_neg hc, exp_sub]
  have hD : (val_main_v122 (F := Ideal) x0 x1 (ix5 0 n g h r) : EReal) = ((den (pF x0) (sF x1) (8 * g.val + h.val) n.val r.val * Real.exp (-M) : ℝ) : EReal) := by
    rw [val_main_v122_apply]
    have e : ∀ k : Fin 257, idx_main_v122 (ix5 0 n g h r) k = ix6 0 n g h r k := fun k => funext fun a => match a with
      | ⟨0, _⟩ => rfl | ⟨1, _⟩ => rfl | ⟨2, _⟩ => rfl | ⟨3, _⟩ => rfl | ⟨4, _⟩ => rfl | ⟨5, _⟩ => rfl
    rw [Finset.sum_congr rfl fun k _ => (congrArg _ (e k)).trans (hE k),
      fsum 257 (fun k => (if k < 256 then ex (pF x0) (8 * g.val + h.val) n.val r.val k else Real.exp (sF x1 (8 * g.val + h.val))) * Real.exp (-M)),
      Finset.sum_range_succ, ← Finset.sum_mul, ← add_mul, if_neg (by omega), Finset.sum_congr rfl fun k hk => if_pos (mem_range.mp hk)]
    unfold val_main_cst_15
    pointwise
    rfl
  have hP := den_pos (pF x0) (sF x1) (8 * g.val + h.val) n.val r.val
  have hX := Real.exp_pos (-M)
  have hEc := hE ⟨c.val, by have := c.isLt; omega⟩
  unfold val_main_v126 val_main_v125 val_main_v124 val_main_v123
  generalize val_main_v121 (F := Ideal) x0 x1 = Y at hEc ⊢
  generalize val_main_v122 (F := Ideal) x0 x1 = Z at hD ⊢
  pointwise
  rw [hEc, hD, if_pos c.isLt, Ideal.div_coe (mul_pos hP hX).ne', ← EReal.coe_mul]
  unfold wt
  congr 1
  have h3 := hP.ne'
  have h4 := hX.ne'
  field_simp

/-- The result. -/
theorem result (h1 : ∀ i, ∃ r : ℝ, (x1 i : EReal) = r) (R : Fin 8320) (j : Fin 1024) :
    (val_main_v130 (F := Ideal) x0 x1 (ix2 R j) : EReal) = ((out (pF x0) (sF x1) (j.val / 64) (R.val / 128) (R.val % 128) (j.val % 64) : ℝ) : EReal) := by
  have hR := R.isLt
  have hj := j.isLt
  have key : ∀ (n : Fin 65) (g : Fin 2) (h : Fin 8) (r : Fin 128) (d : Fin 64),
      (val_main_v127 (F := Ideal) x0 x1 (ix6 0 n g d h r) : EReal) = ((out (pF x0) (sF x1) (8 * g.val + h.val) n.val r.val d.val : ℝ) : EReal) := fun n g h r d => by
    have hg := g.isLt
    have hh := h.isLt
    have el : ∀ k : Fin 256, lidx_main_v127 (ix6 0 n g d h r) k = ix5 0 n k g d := fun k => funext fun a => match a with
      | ⟨0, _⟩ => rfl | ⟨1, _⟩ => rfl | ⟨2, _⟩ => rfl | ⟨3, _⟩ => rfl | ⟨4, _⟩ => rfl
    have er : ∀ k : Fin 256, ridx_main_v127 (ix6 0 n g d h r) k = ix6 0 n g h r k := fun k => funext fun a => match a with
      | ⟨0, _⟩ => rfl | ⟨1, _⟩ => rfl | ⟨2, _⟩ => rfl | ⟨3, _⟩ => rfl | ⟨4, _⟩ => rfl | ⟨5, _⟩ => rfl
    rw [val_main_v127_apply]
    unfold out
    rw [← fsum 256 (fun c => wt (pF x0) (sF x1) (8 * g.val + h.val) n.val r.val c * pF x0 (row n.val c) (2688 + (64 * ((8 * g.val + h.val) / 8) + d.val)))]
    refine Finset.sum_congr rfl fun c _ => ?_
    rw [el, er, weight h0 h1]
    by_cases hv : valid n.val r.val c.val
    · rw [v_band h0 n c g d hv.2.2, ← EReal.coe_mul, show (8 * g.val + h.val) / 8 = g.val by omega, mul_comm]
    · obtain ⟨y, hy⟩ := v_real h0 n c g d
      rw [hy, ← EReal.coe_mul]
      have : wt (pF x0) (sF x1) (8 * g.val + h.val) n.val r.val c.val = 0 := by
        unfold wt ex
        rw [if_neg hv, zero_div]
      rw [this, mul_zero, zero_mul]
  have e := key ⟨R.val / 128, by omega⟩ ⟨j.val / 512, by omega⟩ ⟨j.val / 64 % 8, by omega⟩ ⟨R.val % 128, by omega⟩ ⟨j.val % 64, by omega⟩
  unfold val_main_v130 val_main_v129 val_main_v128
  generalize val_main_v127 (F := Ideal) x0 x1 = Y at e ⊢
  pointwise
  refine e.trans ?_
  dsimp only
  rw [show 8 * (j.val / 512) + j.val / 64 % 8 = j.val / 64 by omega]

end Cert.SwRef

end
-- ==== Proof.SwRun.lean ====
/-
  The sliding-window attention's forward kernel and its reference have the same result.
-/
module

public import proofs.«01_k».proof.Proof.SwValue
public import proofs.«01_k».proof.Proof.SwRefSoft
public import proofs.«01_k».proof.Proof.Gen.Reference6Ideal.Run
public import proofs.«01_k».proof.Defs
public import proofs.«01_k».proof.Proof.Gen.Pre_finite_swa

@[expose] public section

noncomputable section

namespace Cert.Sw

open Idealize.ShloMosaic Idealize.ShloMosaic.TcCoe Idealize.SL.Sem Cert.Kernel6Ideal Cert.Kernel6Ideal.Gen

/-- From equal finite arguments the kernel and its reference end with equal results, their arguments unchanged. -/
theorem algebraic_swa : Cert.algebraic_Kernel6Ideal_Reference6Ideal_pre_finite_swa (hKernel6Ideal := Cert.Kernel6Ideal.Gen.facts)
    (hReference6Ideal := Cert.Reference6Ideal.Gen.facts) (hPre_finite_swa := Cert.Pre_finite_swa.Gen.facts) := by
  intro m g m' g' hpre hagree
  have h0 : ∀ c i, ∃ r : ℝ, projA m c i = r := fun c i => Reals.real_of_finite _ _ (hpre c).1 i
  have h1 : ∀ c i, ∃ r : ℝ, sinkA m c i = r := fun c i => Reals.real_of_finite _ _ (hpre c).2 i
  refine ⟨arrO m, (θ_run _ _ _).mono (fun r h c => ⟨(h c).1.trans (arr10 (h0 c) (h1 c)), (h c).2⟩) (Value.run_blocks m g),
    (θ_run _ _ _).mono (fun r h c => ?_) (Cert.Reference6Ideal.Value.run m' g')⟩
  obtain ⟨a0, a1⟩ := hagree c
  refine ⟨(h c).1.trans ?_, (h c).2⟩
  rw [Cert.Reference6Ideal.Read.val_main_v130_eq, a0, a1]
  funext (i : S8320x1024.Idx)
  rw [eq_ix2 i]
  exact Cert.SwRef.result (h0 c) (h1 c) (i 0) (i 1)

end Cert.Sw

end
-- ==== Proof.IpFrame.lean ====
/-
  The projection's forward kernel point by point: what its two outputs hold after each point, the body's obligation, and
  the run of the whole program.
-/
module

public import proofs.«01_k».proof.Proof.Gen.Kernel7Ideal.Frame
public import proofs.«01_k».proof.Proof.Gen.Kernel7Ideal.Skeleton
public import Idealize.ShloMosaic.Lib.VecWindow
public import Idealize.ShloMosaic.Lib.Pipeline.TableIdle
public import Idealize.ShloMosaic.Lib.Claim

@[expose] public section

set_option maxRecDepth 16384

noncomputable section

namespace Cert.Kernel7Ideal.Ip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whether the point is the first of its row block. -/
abbrev first (i : grid0.Coords) : Prop := k0_cond1 i = 1#1

theorem first_iff : ∀ t : Fin grid0.N, first (grid0.coords t) ↔ t.val % 2 = 0 := by decide +kernel

/-! ## The rows' block stays through the two points of a row block -/

theorem idx0 : ∀ t : Fin grid0.N, win0_0.index t (0 : Fin 2) = t.val / 2 ∧ win0_0.index t (1 : Fin 2) = 0 := by decide +kernel
theorem idx1 : ∀ t : Fin grid0.N, win0_1.index t (0 : Fin 2) = 0 ∧ win0_1.index t (1 : Fin 2) = 0 := by decide +kernel

theorem stay0 (c : Dev nD) (t t' : Fin cfg0.N) (h : t.val / 2 = t'.val / 2) : iblk m c 0 t = iblk m c 0 t' := by
  unfold iblk
  generalize V m c (Pipeline.arrRef spec0 0) = X
  funext p
  rw [View.read_apply, View.read_apply]
  refine congrArg X (funext fun a => Fin.ext ?_)
  have e := idx0 t
  have e' := idx0 t'
  match a with
  | ⟨0, _⟩ =>
    show win0_0.index t (0 : Fin 2) * 640 + 1 * (p (0 : Fin 2)).val = win0_0.index t' (0 : Fin 2) * 640 + 1 * (p (0 : Fin 2)).val
    omega
  | ⟨1, _⟩ =>
    show win0_0.index t (1 : Fin 2) * 1024 + 1 * (p (1 : Fin 2)).val = win0_0.index t' (1 : Fin 2) * 1024 + 1 * (p (1 : Fin 2)).val
    omega

theorem stay1 (c : Dev nD) (t t' : Fin cfg0.N) : iblk m c 1 t = iblk m c 1 t' := by
  unfold iblk
  generalize V m c (Pipeline.arrRef spec0 1) = X
  funext p
  rw [View.read_apply, View.read_apply]
  refine congrArg X (funext fun a => Fin.ext ?_)
  have e := idx1 t
  have e' := idx1 t'
  match a with
  | ⟨0, _⟩ =>
    show win0_1.index t (0 : Fin 2) * 1 + 1 * (p (0 : Fin 2)).val = win0_1.index t' (0 : Fin 2) * 1 + 1 * (p (0 : Fin 2)).val
    omega
  | ⟨1, _⟩ =>
    show win0_1.index t (1 : Fin 2) * 1024 + 1 * (p (1 : Fin 2)).val = win0_1.index t' (1 : Fin 2) * 1024 + 1 * (p (1 : Fin 2)).val
    omega

/-- The normalised rows of the point's row block. -/
def xnAt (c : Dev nD) (t : Fin cfg0.N) : Vec F S640x1024 .bf16 := k0_pay1 (iblk m c 0 t) (iblk m c 1 t)

theorem xnAt_stay (c : Dev nD) (t t' : Fin cfg0.N) (h : t.val / 2 = t'.val / 2) : xnAt m c t = xnAt m c t' := by
  unfold xnAt; rw [stay0 m c t t' h, stay1 m c t t']

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (xnAt m c t) (iblk m c 2 t)
    | ⟨4, _⟩ => xnAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (xnAt m c t) (iblk m c 2 t) := by dsimp only [dats]
theorem after0_4 (c : Dev nD) (t : Fin cfg0.N) : (dats m 0 c).after 4 t = xnAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The rows' output is found as the point before left it -/

theorem idle4 : ∀ t : Fin cfg0.N, ¬t.val % 2 = 0 → cfg0.idle 4 (grid0.coords t) = true ∧ (cfg0.win 4).flush t = true ∧ cfg0.fresh 4 t.val = false := by
  decide +kernel
theorem live4 : ∀ t : Fin cfg0.N, t.val % 2 = 0 → cfg0.idle 4 (grid0.coords t) = false := by
  decide +kernel

theorem before0_4 (c : Dev nD) (t : Fin cfg0.N) (h : ¬t.val % 2 = 0) (d) : (dats m 0 c).before 4 t d = xnAt m c t := by
  rw [Dat.before_out_traj (dats m 0 c) 4 rfl (fun _ _ => rfl) (fun t' _ hi _ => by
      rw [after0_4, after0_4]
      refine xnAt_stay m c _ _ ?_
      show t'.val / 2 = (t'.val - 1) / 2
      have : ¬t'.val % 2 = 0 := fun h0 => by rw [live4 t' h0] at hi; exact Bool.false_ne_true hi
      omega) t.val t rfl d,
    if_neg (by rw [(idle4 t h).2.2]; exact Bool.false_ne_true), after0_4]
  refine xnAt_stay m c _ _ ?_
  show (t.val - 1) / 2 = t.val / 2
  omega

/-! ## The body at a point -/

/-- A load of a whole buffer reads what the buffer holds. -/
theorem load_whole {κ : Kind} {sp : Space} {s : Shape} {e : EltTy} {a : Memref sig κ sp s e} (h : a.IsWhole) (x : s.Idx → Elt F e)
    {off : Fin s.rank → Nat} (inb : ∀ b, off b + s.size b ≤ s.size b) :
    a.view.readAt (Elt F) (Rect.unit (s := s) off s.size inb).toLoadRect (h.unread x) = x :=
  (View.readAt_full a.view _ inb).trans (h.read_unread x)

set_option maxHeartbeats 1000000 in
/-- At the first point of a row block the body normalises the rows, then multiplies. -/
theorem runA (c : Dev nD) (i : grid0.Coords) (arg2 : Memref sig .tc .vmem S640x1024 .f32) (harg2 : arg2.IsWhole) (arg3 : Memref sig .tc .vmem S1x1024 .f32) (harg3 : arg3.IsWhole) (arg4 : Memref sig .tc .vmem S1024x1792 .bf16) (harg4 : arg4.IsWhole) (arg5 : Memref sig .tc .vmem S640x1792 .f32) (harg5 : arg5.IsWhole) (arg6 : Memref sig .tc .vmem S640x1024 .bf16) (harg6 : arg6.IsWhole) (hc : first i)
    (h : Vec F S640x1024 .f32) (g : Vec F S1x1024 .f32) (w : Vec F S1024x1792 .bf16) (E : Set ℕ) (K : PUnit → sProp 𝕄) :
    iprop(owns (c : Thread nD τ) arg2 fullShare h ∗ owns (c : Thread nD τ) arg3 fullShare g ∗ owns (c : Thread nD τ) arg4 fullShare w ∗ (∃ d, owns (c : Thread nD τ) arg5 fullShare d) ∗ (∃ d, owns (c : Thread nD τ) arg6 fullShare d)
        ∗ (iprop(owns (c : Thread nD τ) arg2 fullShare h ∗ owns (c : Thread nD τ) arg3 fullShare g ∗ owns (c : Thread nD τ) arg4 fullShare w ∗ owns (c : Thread nD τ) arg5 fullShare (k0_pay2 (k0_pay1 h g) w) ∗ owns (c : Thread nD τ) arg6 fullShare (k0_pay1 h g)) -∗ K ⟨⟩))
      ⊢ wp frame (wpE (defs₀ (F := F)) Variants.none c none) E (cc0_in_proj_gates i arg2 harg2 arg3 harg3 arg4 harg4 arg5 harg5 arg6 harg6) K := by
  simp only [cc0_in_proj_gates_eq_skeleton]; unfold cc0_in_proj_gates_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    refine (View.read_writes_full arg5.view _ _ _ _).trans ?_
    exact congrArg₂ k0_pay2 ((View.readCov_full arg6.view _ _ _ _).trans (congrArg₂ k0_pay1 (load_whole harg2 h _) (load_whole harg3 g _))) (load_whole harg4 w _)
  iexists _; isplitr; swap; · iexact H4
  ipureintro
  sl_unfold_run_names
  refine (View.read_writes_full arg6.view _ _ _ _).trans ?_
  exact congrArg₂ k0_pay1 (load_whole harg2 h _) (load_whole harg3 g _)

set_option maxHeartbeats 1000000 in
/-- At the second point it multiplies the rows it finds. -/
theorem runB (c : Dev nD) (i : grid0.Coords) (arg2 : Memref sig .tc .vmem S640x1024 .f32) (harg2 : arg2.IsWhole) (arg3 : Memref sig .tc .vmem S1x1024 .f32) (harg3 : arg3.IsWhole) (arg4 : Memref sig .tc .vmem S1024x1792 .bf16) (harg4 : arg4.IsWhole) (arg5 : Memref sig .tc .vmem S640x1792 .f32) (harg5 : arg5.IsWhole) (arg6 : Memref sig .tc .vmem S640x1024 .bf16) (harg6 : arg6.IsWhole) (hc : ¬first i)
    (h : Vec F S640x1024 .f32) (g : Vec F S1x1024 .f32) (w : Vec F S1024x1792 .bf16) (x : Vec F S640x1024 .bf16) (E : Set ℕ) (K : PUnit → sProp 𝕄) :
    iprop(owns (c : Thread nD τ) arg2 fullShare h ∗ owns (c : Thread nD τ) arg3 fullShare g ∗ owns (c : Thread nD τ) arg4 fullShare w ∗ (∃ d, owns (c : Thread nD τ) arg5 fullShare d) ∗ owns (c : Thread nD τ) arg6 fullShare x
        ∗ (iprop(owns (c : Thread nD τ) arg2 fullShare h ∗ owns (c : Thread nD τ) arg3 fullShare g ∗ owns (c : Thread nD τ) arg4 fullShare w ∗ owns (c : Thread nD τ) arg5 fullShare (k0_pay2 x w) ∗ owns (c : Thread nD τ) arg6 fullShare x) -∗ K ⟨⟩))
      ⊢ wp frame (wpE (defs₀ (F := F)) Variants.none c none) E (cc0_in_proj_gates i arg2 harg2 arg3 harg3 arg4 harg4 arg5 harg5 arg6 harg6) K := by
  simp only [cc0_in_proj_gates_eq_skeleton]; unfold cc0_in_proj_gates_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full arg5.view _ _ _ _).trans ?_
    exact congrArg₂ k0_pay2 (load_whole harg6 x _) (load_whole harg4 w _)
  iexists _; isplitr; swap; · iexact H4
  ipureintro
  exact harg6.read_unread _

abbrev ms0_0 (t : Fin cfg0.N) : Memref sig .tc .vmem S640x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x1792 .bf16 := win0_2.stage (cfg0.slots t 2)
abbrev ms0_3 (t : Fin cfg0.N) : Memref sig .tc .vmem S640x1792 .f32 := win0_3.stage (cfg0.slots t 3)
abbrev ms0_4 (t : Fin cfg0.N) : Memref sig .tc .vmem S640x1024 .bf16 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves4 (c : Dev nD) (t : Fin cfg0.N) :
    (dats m 0 c).leavesExact 4 t = owns (c : Thread nD τ) (ms0_4 t) fullShare (xnAt m c t) := by
  by_cases h : t.val % 2 = 0
  · unfold Dat.leavesExact; rw [live4 t h, after0_4]
  · unfold Dat.leavesExact; rw [(idle4 t h).1, (idle4 t h).2.1, after0_4]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (k0_pay2 (xnAt m c t) (iblk m c 2 t)) from rfl,
    leaves4]
  by_cases h0 : t.val % 2 = 0
  · iintro ⟨HΦ, Ho, ⟨%d0, H0⟩, ⟨%d1, H1⟩, ⟨%d2, H2⟩, ⟨%d3, H3⟩, ⟨%d4, H4⟩⟩
    iapply (runA c (grid0.coords t) _ _ _ _ _ _ _ _ _ _ ((first_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t h0]
    iintro ⟨HΦ, Ho, ⟨%d0, H0⟩, ⟨%d1, H1⟩, ⟨%d2, H2⟩, ⟨%d3, H3⟩, ⟨%d4, H4⟩⟩
    iapply (runB c (grid0.coords t) _ _ _ _ _ _ _ _ _ _ (fun h => h0 ((first_iff t).mp h)) (iblk m c 0 t) (iblk m c 1 t) (iblk m c 2 t) (xnAt m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and nothing left outstanding. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel7Ideal.Ip

end
-- ==== Proof.IpKernel.lean ====
/-
  The projection's forward kernel before idealization has the same text as the ideal kernel: its frame is the run of
  `IpFrame` at the bits.
-/
module

public import proofs.«01_k».proof.Defs
public import proofs.«01_k».proof.Proof.Gen.Kernel7
public import proofs.«01_k».proof.Proof.IpFrame
public import Idealize.ShloMosaic.Lib.Tactic

@[expose] public section

set_option maxRecDepth 16384

noncomputable section

namespace Cert.Kernel7Ideal.Ip

open Idealize.ShloMosaic Idealize.SL.Sem Gen

/-- The frame claim of the kernel is that of the ideal kernel's text at the bits. -/
theorem same_text : Cert.quiescent_Kernel7 (hKernel7 := Cert.Kernel7.Gen.facts) =
    ∀ (m : (ℓ : Loc nD τ sig) → Buf (Elt Bits) ℓ) (ρ : Dev nD → PrngReg), True →
      θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) := by
  sl_kernel_rfl

theorem frame_kernel : Cert.quiescent_Kernel7 (hKernel7 := Cert.Kernel7.Gen.facts) :=
  same_text.mpr fun m ρ _ => frame (F := Bits) m ρ

end Cert.Kernel7Ideal.Ip

end
-- ==== Proof.IpForm.lean ====
/-
  The input projection's normalised rows, its gates and its weight's gradient, as formulas of `InProjForm`'s arguments.
-/
module

public import proofs.«01_k».proof.Proof.InProjForm

@[expose] public section

noncomputable section

namespace Cert.Ip

open Idealize.ShloMosaic
open Cert.InProj (Args args)

/-- The arguments by their coordinates; the two cotangents of the backward pass are not among them. -/
def fargs (x0 : (⟨3, ![1, 8192, 1024]⟩ : Shape).Idx → EReal) (x1 : (⟨2, ![16, 1024]⟩ : Shape).Idx → EReal)
    (x2 : (⟨2, ![1, 1024]⟩ : Shape).Idx → EReal) (x3 : (⟨3, ![1, 1024, 6400]⟩ : Shape).Idx → EReal) : Args :=
  args x0 x1 x2 x3 (fun _ => 0) (fun _ => 0)

/-- The normalised rows. -/
def xn (A : Args) (r : Fin 8320) (j : Fin 1024) : EReal := A.xhat r j * A.gain j

/-- The gates: the normalised rows times the last columns of the weight. -/
def gates (A : Args) (r : Fin 8320) (k : Fin 3584) : EReal := ∑ j, xn A r j * A.w j ⟨2816 + k.val, by omega⟩

/-- The gradient of the projection's weight: the transposed normalised rows times the cotangent. -/
def dw (A : Args) (j : Fin 1024) (k : Fin 6400) : EReal := ∑ r, xn A r j * A.dproj r k

/-- A row's part of it, by a natural number. -/
def dwPart (A : Args) (j : Fin 1024) (k : Fin 6400) (r : ℕ) : EReal := if h : r < 8320 then xn A ⟨r, h⟩ j * A.dproj ⟨r, h⟩ k else 0

end Cert.Ip

end
-- ==== Proof.IpValue.lean ====
/-
  What the projection's forward kernel leaves in its two arrays, as the formulas of `InProjForm`.
-/
module

public import proofs.«01_k».proof.Proof.IpFrame
public import proofs.«01_k».proof.Proof.IpForm
public import Idealize.ShloMosaic.Lib.Pointwise.Tactic
public import Idealize.ShloMosaic.Lib.Pointwise
public import Idealize.ShloMosaic.Lib.StableHlo.ReadAt
public import Idealize.ShloMosaic.Lib.Pipeline.Value

@[expose] public section

set_option maxRecDepth 16384

noncomputable section

namespace Cert.Ip

open Idealize.ShloMosaic Idealize.ShloMosaic.TcCoe Idealize.SL.Sem Cert.Kernel7Ideal Cert.Kernel7Ideal.Gen Cert.Kernel7Ideal.Ip Cert.Reals
open Cert.InProj (Args args)

variable (m : (ℓ : Loc nD τ sig) → Buf (Elt Ideal) ℓ)

/-- The kernel's arguments by their coordinates. -/
def kargs (c : Dev nD) : Args := fargs (m ((c.tc : Thread nD τ).loc main_arg0)) (m ((c.tc : Thread nD τ).loc main_arg1))
  (m ((c.tc : Thread nD τ).loc main_arg2)) (m ((c.tc : Thread nD τ).loc main_arg3))

/-! ## What the region's arrays hold at its entry -/

theorem V_h (c : Dev nD) (i : Fin 8320) (j : Fin 1024) :
    (V m c main_v2 : S8320x1024.Idx → EReal) (ix2 i j) = (kargs m c).hid i j := by
  have e : V m c main_v2 = (concatenate S8320x1024 0 [⟨S112x1024, (broadcastInDim S112x1024 ![] bcast_S_S112x1024 (constant (F := Ideal) S_ .f32 0x00000000#32) : FVec Ideal S112x1024 .f32)⟩,
     ⟨S16x1024, (m ((c.tc : Thread nD τ).loc main_arg1) : FVec Ideal S16x1024 .f32)⟩,
     ⟨S8192x1024, (shapeCast S8192x1024 (m ((c.tc : Thread nD τ).loc main_arg0) : FVec Ideal S1x8192x1024 .f32) shapeCasts_S1x8192x1024_S8192x1024 : FVec Ideal S8192x1024 .f32)⟩] concatenates_S112x1024_S16x1024_S8192x1024_S8320x1024_d0 : FVec Ideal S8320x1024 .f32) := by
    unfold V
    simp only [hostOps0]
    after_results_simp <;> (try dsimp only [Matrix.cons_val]) <;> (try after_results_simp) <;> rfl
  rw [e]
  unfold kargs fargs
  clean_types
  generalize m (c.tc.loc main_arg0) = X
  generalize m (c.tc.loc main_arg1) = Y
  change S1x8192x1024.Idx → EReal at X
  change S16x1024.Idx → EReal at Y
  pointwise
  rfl

theorem V_w (c : Dev nD) (j : Fin 1024) (k : Fin 3584) :
    (V m c main_v5 : S1024x3584.Idx → EReal) (ix2 j k) = (kargs m c).w j ⟨2816 + k.val, by omega⟩ := by
  unfold V
  after_reads_at
  rfl

theorem V_gain (c : Dev nD) (j : Fin 1024) : (V m c main_arg2 : S1x1024.Idx → EReal) (ix2 0 j) = (kargs m c).gain j := by
  rw [V_main_arg2]
  rfl

/-! ## The blocks of the windows -/

theorem idx2 : ∀ t : Fin grid0.N, win0_2.index t (0 : Fin 2) = 0 ∧ win0_2.index t (1 : Fin 2) = t.val % 2 := by decide +kernel
theorem idx3 : ∀ t : Fin grid0.N, win0_3.index t (0 : Fin 2) = t.val / 2 ∧ win0_3.index t (1 : Fin 2) = t.val % 2 := by decide +kernel
theorem idx4 : ∀ t : Fin grid0.N, win0_4.index t (0 : Fin 2) = t.val / 2 ∧ win0_4.index t (1 : Fin 2) = 0 := by decide +kernel

theorem blk0 (c : Dev nD) (t : Fin cfg0.N) (i : Fin 640) (j : Fin 1024) (r : Fin 8320) (hr : r.val = t.val / 2 * 640 + i.val) :
    (iblk m c 0 t : S640x1024.Idx → EReal) (ix2 i j) = (kargs m c).hid r j := by
  refine Eq.trans ?_ (V_h m c r j)
  unfold iblk
  rw [View.read_apply]
  show V m c main_v2 _ = _
  refine congrArg _ (funext fun a => Fin.ext ?_)
  match a with
  | ⟨0, _⟩ => show win0_0.index t (0 : Fin 2) * 640 + 1 * i.val = r.val; have := (idx0 t).1; omega
  | ⟨1, _⟩ => show win0_0.index t (1 : Fin 2) * 1024 + 1 * j.val = j.val; have := (idx0 t).2; omega

theorem blk1 (c : Dev nD) (t : Fin cfg0.N) (j : Fin 1024) :
    (iblk m c 1 t : S1x1024.Idx → EReal) (ix2 0 j) = (kargs m c).gain j := by
  refine Eq.trans ?_ (V_gain m c j)
  unfold iblk
  rw [View.read_apply]
  show V m c main_arg2 _ = _
  refine congrArg _ (funext fun a => Fin.ext ?_)
  match a with
  | ⟨0, _⟩ => show win0_1.index t (0 : Fin 2) * 1 + 1 * 0 = 0; have := (idx1 t).1; omega
  | ⟨1, _⟩ => show win0_1.index t (1 : Fin 2) * 1024 + 1 * j.val = j.val; have := (idx1 t).2; omega

theorem blk2 (c : Dev nD) (t : Fin cfg0.N) (j : Fin 1024) (k : Fin 1792) (q : Fin 3584) (hq : q.val = t.val % 2 * 1792 + k.val) :
    (iblk m c 2 t : S1024x1792.Idx → EReal) (ix2 j k) = (kargs m c).w j ⟨2816 + q.val, by omega⟩ := by
  refine Eq.trans ?_ (V_w m c j q)
  unfold iblk
  rw [View.read_apply]
  show V m c main_v5 _ = _
  refine congrArg _ (funext fun a => Fin.ext ?_)
  match a with
  | ⟨0, _⟩ => show win0_2.index t (0 : Fin 2) * 1024 + 1 * j.val = j.val; have := (idx2 t).1; omega
  | ⟨1, _⟩ => show win0_2.index t (1 : Fin 2) * 1792 + 1 * k.val = q.val; have := (idx2 t).2; omega

/-! ## The payloads -/

theorem xnAt_at (c : Dev nD) (t : Fin cfg0.N) (i : Fin 640) (j : Fin 1024) (r : Fin 8320) (hr : r.val = t.val / 2 * 640 + i.val) :
    (xnAt m c t : S640x1024.Idx → EReal) (ix2 i j) = xn (kargs m c) r j := by
  unfold xnAt
  have hh : ∀ j, ((iblk m c 0 t : S640x1024.Idx → EReal) (ix2 i j) : EReal) = (kargs m c).hid r j := fun j => blk0 m c t i j r hr
  have hg := fun j => blk1 m c t j
  generalize iblk m c 0 t = H at hh ⊢
  generalize iblk m c 1 t = G at hg ⊢
  change S640x1024.Idx → EReal at H
  change S1x1024.Idx → EReal at G
  unfold k0_pay1
  pointwise
  simp only [hh, hg]
  rfl

theorem gates_at (c : Dev nD) (t : Fin cfg0.N) (i : Fin 640) (k : Fin 1792) (r : Fin 8320) (q : Fin 3584) (hr : r.val = t.val / 2 * 640 + i.val)
    (hq : q.val = t.val % 2 * 1792 + k.val) :
    (k0_pay2 (F := Ideal) (xnAt m c t) (iblk m c 2 t) : S640x1792.Idx → EReal) (ix2 i k) = gates (kargs m c) r q := by
  have hx := fun j => xnAt_at m c t i j r hr
  have hw := fun j => blk2 m c t j k q hq
  generalize xnAt m c t = X at hx ⊢
  generalize iblk m c 2 t = W at hw ⊢
  change S640x1024.Idx → EReal at X
  change S1024x1792.Idx → EReal at W
  unfold k0_pay2
  pointwise [dot_S640x1024_S1024x1792_S640x1792_1_0_0_1_n_n]
  simp only [hx, hw]
  rfl

/-! ## The arrays after the run -/

/-- The array of the gates. -/
def gatesArr (c : Dev nD) : Buf (Elt Ideal) ((c : Thread nD τ).loc main_v6_0) :=
  fun i : S8320x3584.Idx => gates (kargs m c) (i 0) (i 1)

/-- The array of the normalised rows. -/
def xnArr (c : Dev nD) : Buf (Elt Ideal) ((c : Thread nD τ).loc main_v6_1) :=
  fun i : S8320x1024.Idx => xn (kargs m c) (i 0) (i 1)

theorem flushed3 (c : Dev nD) (t : Fin cfg0.N) (hf : (cfg0.win 3).flush t = true) :
    (dats m 0 c).flushed 3 t = ((cfg0.win 3).blk t).view.read (Elt Ideal) (gatesArr m c) := by
  show (cfg0.win 3).cut (grid0.coords t) ((dats m 0 c).after 3 t) = _
  rw [after0_3]
  obtain ⟨e0, e1⟩ := idx3 t
  funext y
  have hb0 : (((cfg0.win 3).blk t).view.emb y 0).val = win0_3.index t (0 : Fin 2) * 640 + 1 * (y 0).val := rfl
  have hb1 : (((cfg0.win 3).blk t).view.emb y 1).val = win0_3.index t (1 : Fin 2) * 1792 + 1 * (y 1).val := rfl
  rw [View.read_apply]
  show (k0_pay2 (F := Ideal) (xnAt m c t) (iblk m c 2 t) : S640x1792.Idx → EReal) ((cfg0.win 3).xinj (grid0.coords t) y) = gates (kargs m c) _ _
  have hy : (cfg0.win 3).xinj (grid0.coords t) y = (ix2 ⟨(y 0).val, (y 0).isLt⟩ ⟨(y 1).val, (y 1).isLt⟩ : S640x1792.Idx) := by
    funext a
    match a with
    | ⟨0, _⟩ => rfl
    | ⟨1, _⟩ => rfl
  rw [hy]
  exact gates_at m c t _ _ (((cfg0.win 3).blk t).view.emb y 0) (((cfg0.win 3).blk t).view.emb y 1)
    (by rw [hb0, e0]; show _ = _ + (y 0).val; omega) (by rw [hb1, e1]; show _ = _ + (y 1).val; omega)

theorem mem3 (t : Fin cfg0.N) (i : S8320x3584.Idx) :
    i ∈ ((cfg0.win 3).blk t).view.set ↔ ∀ a : Fin 2, win0_3.index t a * S640x1792.size a ≤ (i a).val ∧ (i a).val < win0_3.index t a * S640x1792.size a + S640x1792.size a := by
  show i ∈ ((View.whole main_v6_0).slice (win0_3.rect t)).set ↔ _
  rw [View.set_slice_whole, Rect.mem_set_unit]
  exact Iff.rfl

theorem arr3 (c : Dev nD) : (dats m 0 c).arrAt 3 cfg0.N = gatesArr m c := by
  refine (dats m 0 c).arrAt_eq_of_cover 3 _ (fun t hf => flushed3 m c t hf) (fun i => ?_)
  have h0 : (i 0).val < 8320 := (i 0).isLt
  have h1 : (i 1).val < 3584 := (i 1).isLt
  have hlt : 2 * ((i 0).val / 640) + (i 1).val / 1792 < cfg0.N := lt_of_lt_of_eq (by omega) (show cfg0.N = 26 from N_0).symm
  obtain ⟨e0, e1⟩ := idx3 ⟨2 * ((i 0).val / 640) + (i 1).val / 1792, hlt⟩
  refine ⟨⟨2 * ((i 0).val / 640) + (i 1).val / 1792, hlt⟩, flush0_3 _, ?_⟩
  rw [mem3]
  intro a
  match a with
  | ⟨0, _⟩ => show win0_3.index _ (0 : Fin 2) * 640 ≤ (i 0).val ∧ (i 0).val < win0_3.index _ (0 : Fin 2) * 640 + 640; rw [e0]; show (2 * ((i 0).val / 640) + (i 1).val / 1792) / 2 * 640 ≤ (i 0).val ∧ (i 0).val < (2 * ((i 0).val / 640) + (i 1).val / 1792) / 2 * 640 + 640; omega
  | ⟨1, _⟩ => show win0_3.index _ (1 : Fin 2) * 1792 ≤ (i 1).val ∧ (i 1).val < win0_3.index _ (1 : Fin 2) * 1792 + 1792; rw [e1]; show (2 * ((i 0).val / 640) + (i 1).val / 1792) % 2 * 1792 ≤ (i 1).val ∧ (i 1).val < (2 * ((i 0).val / 640) + (i 1).val / 1792) % 2 * 1792 + 1792; omega

theorem flushed4 (c : Dev nD) (t : Fin cfg0.N) (hf : (cfg0.win 4).flush t = true) :
    (dats m 0 c).flushed 4 t = ((cfg0.win 4).blk t).view.read (Elt Ideal) (xnArr m c) := by
  show (cfg0.win 4).cut (grid0.coords t) ((dats m 0 c).after 4 t) = _
  rw [after0_4]
  obtain ⟨e0, e1⟩ := idx4 t
  funext y
  have hb0 : (((cfg0.win 4).blk t).view.emb y 0).val = win0_4.index t (0 : Fin 2) * 640 + 1 * (y 0).val := rfl
  have hb1 : (((cfg0.win 4).blk t).view.emb y 1).val = win0_4.index t (1 : Fin 2) * 1024 + 1 * (y 1).val := rfl
  rw [View.read_apply]
  show (xnAt m c t : S640x1024.Idx → EReal) ((cfg0.win 4).xinj (grid0.coords t) y) = xn (kargs m c) _ _
  have hy : (cfg0.win 4).xinj (grid0.coords t) y = (ix2 ⟨(y 0).val, (y 0).isLt⟩ ⟨(y 1).val, (y 1).isLt⟩ : S640x1024.Idx) := by
    funext a
    match a with
    | ⟨0, _⟩ => rfl
    | ⟨1, _⟩ => rfl
  rw [hy, xnAt_at m c t _ _ (((cfg0.win 4).blk t).view.emb y 0) (by rw [hb0, e0]; show _ = _ + (y 0).val; omega)]
  refine congrArg _ (Fin.ext ?_)
  rw [hb1, e1]
  show (y 1).val = _
  omega

theorem mem4 (t : Fin cfg0.N) (i : S8320x1024.Idx) :
    i ∈ ((cfg0.win 4).blk t).view.set ↔ ∀ a : Fin 2, win0_4.index t a * S640x1024.size a ≤ (i a).val ∧ (i a).val < win0_4.index t a * S640x1024.size a + S640x1024.size a := by
  show i ∈ ((View.whole main_v6_1).slice (win0_4.rect t)).set ↔ _
  rw [View.set_slice_whole, Rect.mem_set_unit]
  exact Iff.rfl

theorem arr4 (c : Dev nD) : (dats m 0 c).arrAt 4 cfg0.N = xnArr m c := by
  refine (dats m 0 c).arrAt_eq_of_cover 4 _ (fun t hf => flushed4 m c t hf) (fun i => ?_)
  have h0 : (i 0).val < 8320 := (i 0).isLt
  have h1 : (i 1).val < 1024 := (i 1).isLt
  have hlt : 2 * ((i 0).val / 640) + 1 < cfg0.N := lt_of_lt_of_eq (by omega) (show cfg0.N = 26 from N_0).symm
  obtain ⟨e0, e1⟩ := idx4 ⟨2 * ((i 0).val / 640) + 1, hlt⟩
  refine ⟨⟨2 * ((i 0).val / 640) + 1, hlt⟩, (flush0_4 _).mpr (by show (2 * ((i 0).val / 640) + 1) % 2 = 1; omega), ?_⟩
  rw [mem4]
  intro a
  match a with
  | ⟨0, _⟩ => show win0_4.index _ (0 : Fin 2) * 640 ≤ (i 0).val ∧ (i 0).val < win0_4.index _ (0 : Fin 2) * 640 + 640; rw [e0]; show (2 * ((i 0).val / 640) + 1) / 2 * 640 ≤ (i 0).val ∧ (i 0).val < (2 * ((i 0).val / 640) + 1) / 2 * 640 + 640; omega
  | ⟨1, _⟩ => show win0_4.index _ (1 : Fin 2) * 1024 ≤ (i 1).val ∧ (i 1).val < win0_4.index _ (1 : Fin 2) * 1024 + 1024; rw [e1]; omega

end Cert.Ip

end
-- ==== Proof.IpRun.lean ====
/-
  The projection's forward call: the run of the kernel and the run of the reference end with the same results.
-/
module

public import proofs.«01_k».proof.Proof.IpValue
public import proofs.«01_k».proof.Proof.Gen.Reference7Ideal.Run
public import proofs.«01_k».proof.Proof.Gen.Reference7Ideal.Read
public import proofs.«01_k».proof.Defs

@[expose] public section

set_option maxRecDepth 16384

noncomputable section

namespace Cert.Ip

open Idealize.ShloMosaic Idealize.ShloMosaic.TcCoe Idealize.SL.Sem Cert.Reals
open Cert.InProj (Args args)

/-! ## The reference, read at an index -/

section
open Cert.Reference7Ideal Cert.Reference7Ideal.Read
variable (x0 : S1x8192x1024.Idx → EReal) (x1 : S16x1024.Idx → EReal) (x2 : S1x1024.Idx → EReal) (x3 : S1x1024x6400.Idx → EReal)

theorem ref_hid (r : Fin 8320) (j : Fin 1024) : val_main_v2 (F := Ideal) x0 x1 (ix3 0 r j) = (fargs x0 x1 x2 x3).hid r j := by
  unfold val_main_v2 val_main_v1 val_main_v0 val_main_cst
  pointwise
  rfl

theorem ref_rstd (r : Fin 8320) : val_main_v11 (F := Ideal) x0 x1 (ix3 0 r 0) = (fargs x0 x1 x2 x3).rstd r := by
  unfold val_main_v11 val_main_v10 val_main_v9 val_main_v8 val_main_v7 val_main_v6 val_main_v5 val_main_v4 val_main_cst_0 val_main_cst_1 val_main_cst_2
  pointwise
  simp only [ref_hid x0 x1 x2 x3]
  rfl

theorem ref_xn (r : Fin 8320) (j : Fin 1024) : val_main_v16 (F := Ideal) x0 x1 x2 (ix3 0 r j) = xn (fargs x0 x1 x2 x3) r j := by
  unfold val_main_v16 val_main_v15 val_main_v14 val_main_v13 val_main_v12 val_main_v3
  pointwise
  simp only [ref_hid x0 x1 x2 x3, ref_rstd x0 x1 x2 x3]
  rfl

theorem ref_prod (r : Fin 8320) (k : Fin 6400) :
    val_main_v18 (F := Ideal) x0 x1 x2 x3 (ix3 0 r k) = ∑ j, xn (fargs x0 x1 x2 x3) r j * (fargs x0 x1 x2 x3).w j k := by
  rw [val_main_v18_apply]
  refine Finset.sum_congr rfl fun j _ => ?_
  have e1 : lidx_main_v18 (ix3 0 r k) j = ix3 0 r j := by
    funext a; match a with
    | ⟨0, _⟩ => rfl
    | ⟨1, _⟩ => rfl
    | ⟨2, _⟩ => rfl
  have e2 : ridx_main_v18 (ix3 0 r k) j = ix2 j k := by
    funext a; match a with
    | ⟨0, _⟩ => rfl
    | ⟨1, _⟩ => rfl
  rw [e1, e2, ref_xn x0 x1 x2 x3]
  unfold val_main_v17
  pointwise
  rfl

theorem ref_gates (r : Fin 8320) (k : Fin 3584) : val_main_v20 (F := Ideal) x0 x1 x2 x3 (ix2 r k) = gates (fargs x0 x1 x2 x3) r k := by
  unfold val_main_v20 val_main_v19
  pointwise
  exact ref_prod x0 x1 x2 x3 r ⟨2816 + k.val, by omega⟩

theorem ref_rows (r : Fin 8320) (j : Fin 1024) : val_main_v22 (F := Ideal) x0 x1 x2 (ix2 r j) = xn (fargs x0 x1 x2 x3) r j := by
  unfold val_main_v22 val_main_v21
  pointwise
  exact ref_xn x0 x1 x2 x3 r j

end

/-! ## The run of the kernel -/

section
open Cert.Kernel7Ideal Cert.Kernel7Ideal.Gen Cert.Kernel7Ideal.Ip
variable (m : (ℓ : Loc nD τ sig) → Buf (Elt Ideal) ℓ) (ρ : Dev nD → PrngReg)

theorem run_kernel : θ_run defs (onTc (τ := τ) (main (F := Ideal))) ⟨m, fun _ => 0, ρ⟩ fun r => ∀ c : Dev nD,
      r.2.mem ((c.tc : Thread nD τ).loc main_v6_0) = gatesArr m c
      ∧ r.2.mem ((c.tc : Thread nD τ).loc main_v6_1) = xnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (arr3 m c), ((h c).1 4).trans (arr4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end

/-! ## The equation -/

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨gatesArr m, xnArr m, run_kernel m g, (θ_run _ _ _).mono (fun r h c => ?_) (Cert.Reference7Ideal.Value.run m' g')⟩
  obtain ⟨a0, a1, a2, a3⟩ := hagree c
  refine ⟨(h c).1.trans ?_, (h c).2.1.trans ?_, (h c).2.2⟩
  all_goals clear h
  · rw [Cert.Reference7Ideal.Read.val_main_v20_eq, a0, a1, a2, a3]
    funext (i : Cert.Kernel7Ideal.S8320x3584.Idx)
    have hi : i = ix2 (i 0) (i 1) := by
      funext a; match a with
      | ⟨0, _⟩ => rfl
      | ⟨1, _⟩ => rfl
    rw [hi]
    exact ref_gates _ _ _ _ (i 0) (i 1)
  · rw [Cert.Reference7Ideal.Read.val_main_v22_eq, a0, a1, a2]
    funext (i : Cert.Kernel7Ideal.S8320x1024.Idx)
    have hi : i = ix2 (i 0) (i 1) := by
      funext a; match a with
      | ⟨0, _⟩ => rfl
      | ⟨1, _⟩ => rfl
    rw [hi]
    exact ref_rows _ _ _ (m ((c.tc : Thread Cert.Kernel7Ideal.nD Cert.Kernel7Ideal.τ).loc Cert.Kernel7Ideal.main_arg3)) (i 0) (i 1)

end Cert.Ip

end
-- ==== Proof.DwValue.lean ====
/-
  What the kernel of the projection weight's gradient leaves in its array: the transposed rows times the cotangent.
-/
module

public import proofs.«01_k».proof.Proof.IpForm
public import proofs.«01_k».proof.Proof.Gen.Kernel8Ideal.Value
public import Idealize.ShloMosaic.Lib.Pointwise.Tactic
public import Idealize.ShloMosaic.Lib.Pointwise
public import Idealize.ShloMosaic.Lib.StableHlo.ReadAt
public import Idealize.ShloMosaic.Lib.Pipeline.Value

@[expose] public section

set_option maxRecDepth 16384

noncomputable section

namespace Cert.Dw

open Idealize.ShloMosaic Idealize.ShloMosaic.TcCoe Idealize.SL.Sem Cert.Kernel8Ideal Cert.Kernel8Ideal.Gen Cert.Kernel8Ideal.Value Cert.Reals Cert.Ip
open Cert.InProj (Args args)

variable (m : (ℓ : Loc nD τ sig) → Buf (Elt Ideal) ℓ)

/-- The kernel's arguments by their coordinates. -/
def kargs (c : Dev nD) : Args := args (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (fun _ => 0)

/-! ## What the region's arrays hold at its entry -/

/-- The padded rows. -/
def rows (x : FVec Ideal S1x8192x1024 .f32) (tok : FVec Ideal S16x1024 .f32) : FVec Ideal S8320x1024 .f32 :=
  concatenate S8320x1024 0 [⟨S112x1024, (broadcastInDim S112x1024 ![] bcast_S_S112x1024 (constant (F := Ideal) S_ .f32 0x00000000#32) : FVec Ideal S112x1024 .f32)⟩,
     ⟨S16x1024, tok⟩, ⟨S8192x1024, (shapeCast S8192x1024 x shapeCasts_S1x8192x1024_S8192x1024 : FVec Ideal S8192x1024 .f32)⟩] concatenates_S112x1024_S16x1024_S8192x1024_S8320x1024_d0

/-- The transposed normalised rows of given rows. -/
def normed (h : FVec Ideal S8320x1024 .f32) (g : FVec Ideal S1x1024 .f32) : FVec Ideal S1024x8320 .bf16 :=
  transpose S1024x8320 [1, 0] (truncf .bf16 (mulf (mulf h (broadcastInDim S8320x1024 ![0, 1] bcast_S8320x1_S8320x1024_0_1
    (Host.rsqrt (addf (Host.divf (broadcastInDim S8320x1 ![0] bcast_S8320_S8320x1_0
      (Host.reduceAdd (mulf h h) (constant S_ .f32 0x00000000#32) reducesTo_S8320x1024_S8320_d1 h_S_))
      (broadcastInDim S8320x1 ![] bcast_S_S8320x1 (constant S_ .f32 0x44800000#32)))
      (broadcastInDim S8320x1 ![] bcast_S_S8320x1 (constant S_ .f32 0x358637BD#32))) : FVec Ideal S8320x1 .f32)))
    (broadcastInDim S8320x1024 ![0, 1] bcast_S1x1024_S8320x1024_0_1 g)) bitsLt_bf16_f32) transposes_S8320x1024_S1024x8320_1_0

theorem rows_at (x : S1x8192x1024.Idx → EReal) (tok : S16x1024.Idx → EReal) (g : S1x1024.Idx → EReal) (w : S1x1024x6400.Idx → EReal)
    (d : S1x8320x6400.Idx → EReal) (i : Fin 8320) (j : Fin 1024) : (rows x tok : S8320x1024.Idx → EReal) (ix2 i j) = (args x tok g w d (fun _ => 0)).hid i j := by
  unfold rows
  pointwise
  rfl

theorem normed_at (h : S8320x1024.Idx → EReal) (g : S1x1024.Idx → EReal) (A : Args) (hh : ∀ i j, h (ix2 i j) = A.hid i j) (hg : ∀ j, g (ix2 0 j) = A.gain j)
    (i : Fin 8320) (j : Fin 1024) : (normed h g : S1024x8320.Idx → EReal) (ix2 j i) = xn A i j := by
  unfold normed
  pointwise
  simp only [hh, hg]
  rfl

theorem V_xn (c : Dev nD) (j : Fin 1024) (i : Fin 8320) : (V m c main_v16 : S1024x8320.Idx → EReal) (ix2 j i) = xn (kargs m c) i j := by
  have e : V m c main_v16 = normed (rows (m ((c.tc : Thread nD τ).loc main_arg0)) (m ((c.tc : Thread nD τ).loc main_arg1))) (m ((c.tc : Thread nD τ).loc main_arg2)) := by
    unfold V normed rows
    simp only [hostOps0]
    after_results_simp <;> (try dsimp only [Matrix.cons_val]) <;> (try after_results_simp) <;> rfl
  rw [e]
  exact normed_at _ _ _ (fun i j => rows_at _ _ _ _ _ i j) (fun _ => rfl) i j

theorem V_d (c : Dev nD) (i : Fin 8320) (k : Fin 6400) : (V m c main_v18 : S8320x6400.Idx → EReal) (ix2 i k) = (kargs m c).dproj i k := by
  unfold V
  after_reads_at
  rfl

/-! ## The blocks and one step -/

theorem idx0 : ∀ t : Fin grid0.N, win0_0.index t (0 : Fin 2) = 0 ∧ win0_0.index t (1 : Fin 2) = t.val % 13 := by decide +kernel
theorem idx1 : ∀ t : Fin grid0.N, win0_1.index t (0 : Fin 2) = t.val % 13 ∧ win0_1.index t (1 : Fin 2) = t.val / 13 := by decide +kernel

theorem blk0 (c : Dev nD) (t : Fin cfg0.N) (j : Fin 1024) (s : Fin 640) (r : Fin 8320) (hr : r.val = t.val % 13 * 640 + s.val) :
    (iblk m c 0 t : S1024x640.Idx → EReal) (ix2 j s) = xn (kargs m c) r j := by
  refine Eq.trans ?_ (V_xn m c j r)
  unfold iblk
  rw [View.read_apply]
  show V m c main_v16 _ = _
  refine congrArg _ (funext fun a => Fin.ext ?_)
  match a with
  | ⟨0, _⟩ => show win0_0.index t (0 : Fin 2) * 1024 + 1 * j.val = j.val; have := (idx0 t).1; omega
  | ⟨1, _⟩ => show win0_0.index t (1 : Fin 2) * 640 + 1 * s.val = r.val; have := (idx0 t).2; omega

theorem blk1 (c : Dev nD) (t : Fin cfg0.N) (s : Fin 640) (k : Fin 1280) (r : Fin 8320) (q : Fin 6400) (hr : r.val = t.val % 13 * 640 + s.val)
    (hq : q.val = t.val / 13 * 1280 + k.val) : (iblk m c 1 t : S640x1280.Idx → EReal) (ix2 s k) = (kargs m c).dproj r q := by
  refine Eq.trans ?_ (V_d m c r q)
  unfold iblk
  rw [View.read_apply]
  show V m c main_v18 _ = _
  refine congrArg _ (funext fun a => Fin.ext ?_)
  match a with
  | ⟨0, _⟩ => show win0_1.index t (0 : Fin 2) * 640 + 1 * s.val = r.val; have := (idx1 t).1; omega
  | ⟨1, _⟩ => show win0_1.index t (1 : Fin 2) * 1280 + 1 * k.val = q.val; have := (idx1 t).2; omega

theorem pay_at (acc : S1024x1280.Idx → EReal) (X : S1024x640.Idx → EReal) (W : S640x1280.Idx → EReal) (j : Fin 1024) (k : Fin 1280) :
    (k0_pay2 (F := Ideal) acc X W : S1024x1280.Idx → EReal) (ix2 j k) = acc (ix2 j k) + ∑ s : Fin 640, X (ix2 j s) * W (ix2 s k) := by
  unfold k0_pay2
  pointwise [dot_S1024x640_S640x1280_S1024x1280_1_0_0_1_n_n]

theorem step_at (c : Dev nD) (t : Fin cfg0.N) (acc : S1024x1280.Idx → EReal) (j : Fin 1024) (k : Fin 1280) (q : Fin 6400) (hq : q.val = t.val / 13 * 1280 + k.val) :
    (k0_pay2 (F := Ideal) acc (iblk m c 0 t) (iblk m c 1 t) : S1024x1280.Idx → EReal) (ix2 j k)
      = acc (ix2 j k) + ∑ s ∈ Finset.range 640, dwPart (kargs m c) j q (t.val % 13 * 640 + s) := by
  refine (pay_at acc (iblk m c 0 t) (iblk m c 1 t) j k).trans (congrArg (acc (ix2 j k) + ·) ?_)
  rw [Finset.sum_range]
  refine Finset.sum_congr rfl fun s _ => ?_
  have hlt : t.val % 13 * 640 + s.val < 8320 := by omega
  exact (congrArg₂ (· * · : EReal → EReal → EReal) (blk0 m c t j s ⟨_, hlt⟩ rfl) (blk1 m c t s k ⟨_, hlt⟩ q rfl hq)).trans (by unfold dwPart; rw [dif_pos hlt])

theorem dw_sum (A : Args) (j : Fin 1024) (k : Fin 6400) : dw A j k = ∑ r ∈ Finset.range 8320, dwPart A j k r := by
  rw [Finset.sum_range]
  exact Finset.sum_congr rfl fun r _ => by unfold dwPart; rw [dif_pos r.isLt]

/-! ## The array after the run -/

theorem dw_at (c : Dev nD) (j : Fin 1024) (k : Fin 6400) : (G2 m c : S1024x6400.Idx → EReal) (ix2 j k) = dw (kargs m c) j k := by
  have hk := k.isLt
  have hrun : run2Of (ix2 j k) = k.val / 1280 := by
    show 5 * (j.val / 1024 - 0) + 1 * (k.val / 1280 - 0) = _
    have := j.isLt
    omega
  have hlt : 13 * run2Of (ix2 j k) + 12 < cfg0.N := lt_of_lt_of_eq (by rw [hrun]; omega) (show cfg0.N = 65 from N_0).symm
  unfold G2
  rw [dif_pos hlt]
  have key := Pipeline.accAt_add_apply (β := EReal) (reset2 m c) (step2 m c) (fun _ => 0)
    (fun n (i : S1024x1280.Idx) => ∑ s ∈ Finset.range 640, dwPart (kargs m c) (i 0) ⟨(k.val / 1280 * 1280 + (i 1).val) % 6400, Nat.mod_lt _ (by decide)⟩ (n % 13 * 640 + s))
    (13 * run2Of (ix2 j k)) 12 (fun h i => ?_) (fun n h acc i h1 h2 => ?_) 12 le_rfl hlt (loc2Of (ix2 j k))
  · refine key.trans ?_
    refine (zero_add (M := EReal) _).trans ?_
    rw [dw_sum, show 8320 = 13 * 640 from rfl, sum_blocks]
    refine Finset.sum_congr rfl fun n hn => Finset.sum_congr rfl fun s _ => ?_
    have hn' := Finset.mem_range.mp hn
    refine congr (congr (congrArg (dwPart (kargs m c)) (Fin.ext ?_)) (Fin.ext ?_)) ?_
    · show j.val % 1024 = j.val
      exact Nat.mod_eq_of_lt j.isLt
    · show (k.val / 1280 * 1280 + k.val % 1280) % 6400 = k.val
      omega
    · rw [show (13 * run2Of (ix2 j k) + n) % 13 = n by omega]
  · have hi : i = ix2 (i 0) (i 1) := by
      funext a; match a with
      | ⟨0, _⟩ => rfl
      | ⟨1, _⟩ => rfl
    have h1 : (i 1).val < 1280 := (i 1).isLt
    unfold reset2
    refine Eq.trans (congrArg (k0_pay2 (F := Ideal) (k0_pay1 (F := Ideal)) (iblk m c 0 ⟨_, h⟩) (iblk m c 1 ⟨_, h⟩) : S1024x1280.Idx → EReal) hi) ?_
    refine (step_at m c ⟨_, h⟩ _ (i 0) (i 1) ⟨(k.val / 1280 * 1280 + (i 1).val) % 6400, Nat.mod_lt _ (by decide)⟩ ?_).trans ?_
    · show (k.val / 1280 * 1280 + (i 1).val) % 6400 = 13 * run2Of (ix2 j k) / 13 * 1280 + (i 1).val
      rw [hrun]
      omega
    · refine congrArg (· + _) ?_
      unfold k0_pay1
      pointwise
  · have hi : i = ix2 (i 0) (i 1) := by
      funext a; match a with
      | ⟨0, _⟩ => rfl
      | ⟨1, _⟩ => rfl
    have h3 : (i 1).val < 1280 := (i 1).isLt
    unfold step2
    refine Eq.trans (congrArg (k0_pay2 (F := Ideal) acc (iblk m c 0 ⟨_, h⟩) (iblk m c 1 ⟨_, h⟩) : S1024x1280.Idx → EReal) hi) ?_
    refine (step_at m c ⟨_, h⟩ _ (i 0) (i 1) ⟨(k.val / 1280 * 1280 + (i 1).val) % 6400, Nat.mod_lt _ (by decide)⟩ ?_).trans ?_
    · show (k.val / 1280 * 1280 + (i 1).val) % 6400 = n / 13 * 1280 + (i 1).val
      rw [hrun] at h1 h2
      omega
    · exact congrArg (· + _) (congrArg acc hi.symm)

end Cert.Dw

end
-- ==== Proof.DwRun.lean ====
/-
  The gradient of the projection's weight: the run of the kernel and the run of the reference end with the same result.
-/
module

public import proofs.«01_k».proof.Proof.DwValue
public import proofs.«01_k».proof.Proof.Gen.Reference8Ideal.Run
public import proofs.«01_k».proof.Proof.Gen.Reference8Ideal.Read
public import proofs.«01_k».proof.Defs
public import Idealize.ShloMosaic.Lib.TwoAxisContraction

@[expose] public section

set_option maxRecDepth 16384

noncomputable section

namespace Cert.Dw

open Idealize.ShloMosaic Idealize.ShloMosaic.TcCoe Idealize.SL.Sem Cert.Ip
open Cert.InProj (Args args)

/-! ## The reference, read at an index -/

section
open Cert.Reference8Ideal Cert.Reference8Ideal.Read
variable (x0 : S1x8192x1024.Idx → EReal) (x1 : S16x1024.Idx → EReal) (x2 : S1x1024.Idx → EReal) (x3 : S1x1024x6400.Idx → EReal)
  (x4 : S1x8320x6400.Idx → EReal)

/-- The reference's arguments by their coordinates. -/
abbrev rargs : Args := args x0 x1 x2 x3 x4 (fun _ => 0)

theorem ref_hid (r : Fin 8320) (j : Fin 1024) : val_main_v2 (F := Ideal) x0 x1 (ix3 0 r j) = (rargs x0 x1 x2 x3 x4).hid r j := by
  unfold val_main_v2 val_main_v1 val_main_v0 val_main_cst
  pointwise
  rfl

theorem ref_rstd (r : Fin 8320) : val_main_v11 (F := Ideal) x0 x1 (ix3 0 r 0) = (rargs x0 x1 x2 x3 x4).rstd r := by
  unfold val_main_v11 val_main_v10 val_main_v9 val_main_v8 val_main_v7 val_main_v6 val_main_v5 val_main_v4 val_main_cst_0 val_main_cst_1 val_main_cst_2
  pointwise
  simp only [ref_hid x0 x1 x2 x3 x4]
  rfl

theorem ref_xn (r : Fin 8320) (j : Fin 1024) : val_main_v16 (F := Ideal) x0 x1 x2 (ix3 0 r j) = xn (rargs x0 x1 x2 x3 x4) r j := by
  unfold val_main_v16 val_main_v15 val_main_v14 val_main_v13 val_main_v12 val_main_v3
  pointwise
  simp only [ref_hid x0 x1 x2 x3 x4, ref_rstd x0 x1 x2 x3 x4]
  rfl

theorem ref_prod (k : Fin 6400) (j : Fin 1024) : val_main_v19 (F := Ideal) x0 x1 x2 x4 (ix2 k j) = dw (rargs x0 x1 x2 x3 x4) j k := by
  unfold val_main_v19
  have hx : ∀ r : Fin 8320, val_main_v16 (F := Ideal) x0 x1 x2 (ix3 0 r j) = xn (rargs x0 x1 x2 x3 x4) r j := fun r => ref_xn x0 x1 x2 x3 x4 r j
  generalize val_main_v16 (F := Ideal) x0 x1 x2 = X at hx ⊢
  refine (Ideal.dotGeneral_apply _ _ _ _ _ _).trans ?_
  refine (ValueIdx.sum_contr2 _ 1 8320 rfl rfl rfl _).trans ?_
  rw [Fin.sum_univ_one]
  unfold dw
  refine Finset.sum_congr rfl fun r _ => ?_
  refine (mul_comm (G := EReal) _ _).trans (congrArg₂ (· * · : EReal → EReal → EReal) ((congrArg X ?_).trans (hx r)) (congrArg x4 ?_))
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl

theorem ref_dw (j : Fin 1024) (k : Fin 6400) : val_main_v22 (F := Ideal) x0 x1 x2 x4 (ix2 j k) = dw (rargs x0 x1 x2 x3 x4) j k := by
  unfold val_main_v22 val_main_v21 val_main_v20
  have hp := ref_prod x0 x1 x2 x3 x4 k j
  generalize val_main_v19 (F := Ideal) x0 x1 x2 x4 = Y at hp ⊢
  pointwise
  exact hp

end

/-! ## The equation -/

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨_, Cert.Kernel8Ideal.Value.run (F := Ideal) m g,
    (θ_run _ _ _).mono (fun r h c => ⟨?_, (h c).2⟩) (Cert.Reference8Ideal.Value.run m' g')⟩
  obtain ⟨a0, a1, a2, a3, a4⟩ := hagree c
  refine (h c).1.trans ?_
  clear h
  rw [Cert.Reference8Ideal.Read.val_main_v22_eq, a0, a1, a2, a4]
  funext (i : Cert.Kernel8Ideal.S1024x6400.Idx)
  have hi : i = ix2 (i 0) (i 1) := by
    funext a; match a with
    | ⟨0, _⟩ => rfl
    | ⟨1, _⟩ => rfl
  rw [hi]
  exact (ref_dw _ _ _ (m ((c.tc : Thread Cert.Kernel8Ideal.nD Cert.Kernel8Ideal.τ).loc Cert.Kernel8Ideal.main_arg3)) _ (i 0) (i 1)).trans
    (dw_at m c (i 0) (i 1)).symm

end Cert.Dw

end
-- ==== Proof.AdamForm.lean ====
/-
  The optimiser's step as functions of one entry's numbers, and what the body's values and the reference are at an index.
-/
module

public import proofs.«01_k».proof.Proof.Gen.Kernel9Ideal.Frame
public import proofs.«01_k».proof.Proof.Gen.Reference9Ideal.Read
public import Idealize.ShloMosaic.Lib.Pointwise.Tactic
public import Idealize.ShloMosaic.Lib.Pointwise
public import Idealize.ShloMosaic.Lib.Pipeline.Value

@[expose] public section

set_option maxRecDepth 16384

noncomputable section

namespace Cert.Adam

open Idealize.ShloMosaic Idealize.ShloMosaic.TcCoe

/-- A literal. -/
abbrev lit (b : BitVec 32) : EReal := Ideal.ofBits .f32 b

/-- The new first moment. -/
def newM (g m : EReal) : EReal := lit 0x3F666666#32 * m + lit 0x3DCCCCCD#32 * g

/-- The new second moment. -/
def newV (g v : EReal) : EReal := lit 0x3F7FBE77#32 * v + lit 0x3A83126F#32 * (g * g)

/-- The step of the weight. -/
def delta (g w m v : EReal) : EReal :=
  lit 0xBA83126F#32 * (Ideal.div (Ideal.div (newM g m) (lit 0x3F26BD02#32)) (Ideal.sqrt (Ideal.div (newV g v) (lit 0x3C231ACC#32)) + lit 0x322BCC77#32)
    + lit 0x3C23D70A#32 * w)

section
open Cert.Kernel9Ideal Cert.Kernel9Ideal.Gen

theorem pay1_at (g m : S528x128.Idx → EReal) (i : S528x128.Idx) : (k0_pay1 (F := Ideal) g (k0_pay5 (F := Ideal) m) : S528x128.Idx → EReal) i = newM (g i) (m i) := by
  unfold k0_pay1 k0_pay5
  pointwise
  rfl

theorem pay2_at (g v : S528x128.Idx → EReal) (i : S528x128.Idx) : (k0_pay2 (F := Ideal) g v : S528x128.Idx → EReal) i = newV (g i) (v i) := by
  unfold k0_pay2
  pointwise
  rfl

theorem pay3_at (g w m v : S528x128.Idx → EReal) (i : S528x128.Idx) :
    (k0_pay3 (F := Ideal) g w v (k0_pay5 (F := Ideal) m) : S528x128.Idx → EReal) i = delta (g i) (w i) (m i) (v i) := by
  have h1 := pay1_at g m i
  have h2 := pay2_at g v i
  unfold k0_pay3
  generalize k0_pay1 (F := Ideal) g (k0_pay5 (F := Ideal) m) = X at h1 ⊢
  generalize k0_pay2 (F := Ideal) g v = Y at h2 ⊢
  change S528x128.Idx → EReal at X Y
  pointwise
  rw [h1, h2]
  rfl

theorem pay4_at (a0 a1 a2 a3 a4 a5 a6 a7 : S1x528x128.Idx → EReal) (r : Fin 528) (k : Fin 128) :
    (k0_pay4 (F := Ideal) a0 a1 a2 a3 a4 a5 a6 a7 : S528x128.Idx → EReal) (ix2 r k)
      = a0 (ix3 0 r k) + a1 (ix3 0 r k) + a2 (ix3 0 r k) + a3 (ix3 0 r k) + a4 (ix3 0 r k) + a5 (ix3 0 r k) + a6 (ix3 0 r k) + a7 (ix3 0 r k) := by
  unfold k0_pay4
  pointwise

theorem zeroOff : (![0, 0] : Fin 2 → ℕ) = fun _ => 0 := funext fun a => match a with
  | ⟨0, _⟩ => rfl
  | ⟨1, _⟩ => rfl

variable (X0 : S8x528x128.Idx → EReal) (X1 X2 X3 : S528x128.Idx → EReal)

theorem ld_at (d : Fin 8) (inb : ∀ a, (![d.val, 0, 0] : Fin 3 → ℕ) a + S1x528x128.size a ≤ S8x528x128.size a) (r : Fin 528) (k : Fin 128) :
    X0 ((Rect.unit (s := S8x528x128) ![d.val, 0, 0] S1x528x128.size inb).idx (ix3 0 r k)) = X0 (ix3 d r k) :=
  congrArg X0 (funext fun a => match a with
    | ⟨0, _⟩ => rfl
    | ⟨1, _⟩ => Fin.ext (show 0 + 1 * r.val = r.val by omega)
    | ⟨2, _⟩ => Fin.ext (show 0 + 1 * k.val = k.val by omega))

theorem ld_ex (d : Fin 8) (inb : ∀ a, (![d.val, 0, 0] : Fin 3 → ℕ) a + S1x528x128.size a ≤ S8x528x128.size a) (r : Fin 528) (k : Fin 128) :
    ∃ a : S1x528x128.Idx → EReal, View.ld (Val := Elt Ideal) (e' := .f32) X0 (Rect.unit (s := S8x528x128) ![d.val, 0, 0] S1x528x128.size inb) = a
      ∧ a (ix3 0 r k) = X0 (ix3 d r k) :=
  ⟨_, rfl, ld_at X0 d inb r k⟩

theorem pay6_at (r : Fin 528) (k : Fin 128) : (k0_pay6 (F := Ideal) X0 X1 X2 X3 : S528x128.Idx → EReal) (ix2 r k) = ∑ d : Fin 8, X0 (ix3 d r k) := by
  rw [Fin.sum_univ_eight]
  unfold k0_pay6
  obtain ⟨a0, e0, h0⟩ := ld_ex X0 0 inb_S8x528x128_S1x528x128_0_0_0 r k
  obtain ⟨a1, e1, h1⟩ := ld_ex X0 1 inb_S8x528x128_S1x528x128_1_0_0 r k
  obtain ⟨a2, e2, h2⟩ := ld_ex X0 2 inb_S8x528x128_S1x528x128_2_0_0 r k
  obtain ⟨a3, e3, h3⟩ := ld_ex X0 3 inb_S8x528x128_S1x528x128_3_0_0 r k
  obtain ⟨a4, e4, h4⟩ := ld_ex X0 4 inb_S8x528x128_S1x528x128_4_0_0 r k
  obtain ⟨a5, e5, h5⟩ := ld_ex X0 5 inb_S8x528x128_S1x528x128_5_0_0 r k
  obtain ⟨a6, e6, h6⟩ := ld_ex X0 6 inb_S8x528x128_S1x528x128_6_0_0 r k
  obtain ⟨a7, e7, h7⟩ := ld_ex X0 7 inb_S8x528x128_S1x528x128_7_0_0 r k
  rw [← h0, ← h1, ← h2, ← h3, ← h4, ← h5, ← h6, ← h7]
  refine Eq.trans ?_ (pay4_at a0 a1 a2 a3 a4 a5 a6 a7 r k)
  rw [← e0, ← e1, ← e2, ← e3, ← e4, ← e5, ← e6, ← e7]
  rfl

theorem out4_at (r : Fin 528) (k : Fin 128) : (out0_4 (F := Ideal) X0 X1 X2 X3 : S528x128.Idx → EReal) (ix2 r k) = ∑ d : Fin 8, X0 (ix3 d r k) := by
  unfold out0_4
  rw [View.canon_unit_zero (S := S528x128) zeroOff]
  exact pay6_at X0 X1 X2 X3 r k

theorem out5_at (r : Fin 528) (k : Fin 128) : (out0_5 (F := Ideal) X0 X1 X2 X3 : S528x128.Idx → EReal) (ix2 r k)
    = delta (∑ d : Fin 8, X0 (ix3 d r k)) (X1 (ix2 r k)) (X2 (ix2 r k)) (X3 (ix2 r k)) := by
  unfold out0_5 k0_pay7
  rw [View.canon_unit_zero (S := S528x128) zeroOff]
  simp only [View.ld_unit_zero (S := S528x128) zeroOff]
  rw [← pay6_at X0 X1 X2 X3]
  exact pay3_at _ X1 X2 X3 _

theorem out6_at (r : Fin 528) (k : Fin 128) : (out0_6 (F := Ideal) X0 X1 X2 X3 : S528x128.Idx → EReal) (ix2 r k)
    = newM (∑ d : Fin 8, X0 (ix3 d r k)) (X2 (ix2 r k)) := by
  unfold out0_6 k0_pay7
  rw [View.canon_unit_zero (S := S528x128) zeroOff]
  simp only [View.ld_unit_zero (S := S528x128) zeroOff]
  rw [← pay6_at X0 X1 X2 X3]
  exact pay1_at _ X2 _

theorem out7_at (r : Fin 528) (k : Fin 128) : (out0_7 (F := Ideal) X0 X1 X2 X3 : S528x128.Idx → EReal) (ix2 r k)
    = newV (∑ d : Fin 8, X0 (ix3 d r k)) (X3 (ix2 r k)) := by
  unfold out0_7
  rw [View.canon_unit_zero (S := S528x128) zeroOff]
  simp only [View.ld_unit_zero (S := S528x128) zeroOff]
  rw [← pay6_at X0 X1 X2 X3]
  exact pay2_at _ X3 _

end

section
open Cert.Reference9Ideal Cert.Reference9Ideal.Read
variable (x0 : S8x8976x128.Idx → EReal) (x1 x2 x3 : S8976x128.Idx → EReal)

theorem ref_g (r : Fin 8976) (k : Fin 128) : val_main_v0 (F := Ideal) x0 (ix2 r k) = ∑ d : Fin 8, x0 (ix3 d r k) := by
  unfold val_main_v0 val_main_cst
  pointwise

theorem ref_m (r : Fin 8976) (k : Fin 128) : val_main_v5 (F := Ideal) x0 x2 (ix2 r k) = newM (∑ d : Fin 8, x0 (ix3 d r k)) (x2 (ix2 r k)) := by
  have h := ref_g x0 r k
  unfold val_main_v5 val_main_v4 val_main_v3 val_main_v2 val_main_v1 val_main_cst_0 val_main_cst_1
  generalize val_main_v0 (F := Ideal) x0 = X at h ⊢
  change S8976x128.Idx → EReal at X
  pointwise
  rw [h]
  rfl

theorem ref_v (r : Fin 8976) (k : Fin 128) : val_main_v11 (F := Ideal) x0 x3 (ix2 r k) = newV (∑ d : Fin 8, x0 (ix3 d r k)) (x3 (ix2 r k)) := by
  have h := ref_g x0 r k
  unfold val_main_v11 val_main_v10 val_main_v9 val_main_v8 val_main_v7 val_main_v6 val_main_cst_2 val_main_cst_3
  generalize val_main_v0 (F := Ideal) x0 = X at h ⊢
  change S8976x128.Idx → EReal at X
  pointwise
  rw [h]
  rfl

theorem ref_delta (r : Fin 8976) (k : Fin 128) : val_main_v24 (F := Ideal) x0 x1 x2 x3 (ix2 r k)
    = delta (∑ d : Fin 8, x0 (ix3 d r k)) (x1 (ix2 r k)) (x2 (ix2 r k)) (x3 (ix2 r k)) := by
  have h1 := ref_m x0 x2 r k
  have h2 := ref_v x0 x3 r k
  unfold val_main_v24 val_main_v23 val_main_v22 val_main_v21 val_main_v20 val_main_v19 val_main_v18 val_main_v17 val_main_v16 val_main_v15 val_main_v14 val_main_v13
    val_main_v12 val_main_cst_4 val_main_cst_5 val_main_cst_6 val_main_cst_7 val_main_cst_8
  generalize val_main_v5 (F := Ideal) x0 x2 = X at h1 ⊢
  generalize val_main_v11 (F := Ideal) x0 x3 = Y at h2 ⊢
  change S8976x128.Idx → EReal at X Y
  pointwise
  rw [h1, h2]
  rfl

end

end Cert.Adam

end
-- ==== Proof.AdamRun.lean ====
/-
  The sum of the devices' gradients and the optimiser's step: the arrays after the run, and the equation with the reference.
-/
module

public import proofs.«01_k».proof.Proof.AdamForm
public import proofs.«01_k».proof.Proof.Gen.Reference9Ideal.Run
public import proofs.«01_k».proof.Defs
public import Idealize.ShloMosaic.Lib.Pipeline.Value

@[expose] public section

set_option maxRecDepth 16384

noncomputable section

namespace Cert.Adam

open Idealize.ShloMosaic Idealize.ShloMosaic.TcCoe Idealize.SL.Sem

section
open Cert.Kernel9Ideal Cert.Kernel9Ideal.Gen

variable (m : (ℓ : Loc nD τ sig) → Buf (Elt Ideal) ℓ) (ρ : Dev nD → PrngReg)

/-! ## What one entry of the arguments is -/

/-- The devices' parts of the gradient. -/
abbrev parts (c : Dev nD) : S8x8976x128.Idx → EReal := m ((c.tc : Thread nD τ).loc main_arg0)
/-- The weights. -/
abbrev wt (c : Dev nD) : S8976x128.Idx → EReal := m ((c.tc : Thread nD τ).loc main_arg1)
/-- The first moments. -/
abbrev m1 (c : Dev nD) : S8976x128.Idx → EReal := m ((c.tc : Thread nD τ).loc main_arg2)
/-- The second moments. -/
abbrev m2 (c : Dev nD) : S8976x128.Idx → EReal := m ((c.tc : Thread nD τ).loc main_arg3)

/-- The gradient: the sum over the devices. -/
def grad (c : Dev nD) (r : Fin 8976) (k : Fin 128) : EReal := ∑ d : Fin 8, parts m c (ix3 d r k)

/-! ## The blocks -/

theorem idx0 : ∀ t : Fin grid0.N, win0_0.index t (0 : Fin 3) = 0 ∧ win0_0.index t (1 : Fin 3) = t.val ∧ win0_0.index t (2 : Fin 3) = 0 := by decide +kernel
/-- All the other windows have the same blocks: 528 rows at a time. -/
theorem idx1 : ∀ t : Fin grid0.N, win0_1.index t (0 : Fin 2) = t.val ∧ win0_1.index t (1 : Fin 2) = 0 := by decide +kernel

/-- Where a block's entry lies in the array. -/
theorem rect_idx (t : Fin grid0.N) (y : (win0_1.rect t).shape.Idx) (q : Fin 8976) (k : Fin 128) (hq : q.val = t.val * 528 + (y 0).val) (hk : k.val = (y 1).val) :
    (win0_1.rect t).idx y = (ix2 q k : S8976x128.Idx) := by
  obtain ⟨e0, e1⟩ := idx1 t
  funext a
  refine Fin.ext ?_
  match a with
  | ⟨0, _⟩ => show win0_1.index t (0 : Fin 2) * 528 + 1 * (y 0).val = q.val; omega
  | ⟨1, _⟩ => show win0_1.index t (1 : Fin 2) * 128 + 1 * (y 1).val = k.val; omega

/-- Every entry of the array lies in a block. -/
theorem rect_cover (i : S8976x128.Idx) : ∃ t : Fin grid0.N, i ∈ (win0_1.rect t).set := by
  have h0 : (i 0).val < 8976 := (i 0).isLt
  have h1 : (i 1).val < 128 := (i 1).isLt
  have hlt : (i 0).val / 528 < grid0.N := lt_of_lt_of_eq (by omega) (show grid0.N = 17 from N_0).symm
  obtain ⟨e0, e1⟩ := idx1 ⟨(i 0).val / 528, hlt⟩
  refine ⟨⟨(i 0).val / 528, hlt⟩, ?_⟩
  rw [Rect.mem_set_unit]
  intro a
  match a with
  | ⟨0, _⟩ => show win0_1.index _ (0 : Fin 2) * 528 ≤ (i 0).val ∧ (i 0).val < win0_1.index _ (0 : Fin 2) * 528 + 528; rw [e0]; show (i 0).val / 528 * 528 ≤ (i 0).val ∧ (i 0).val < (i 0).val / 528 * 528 + 528; omega
  | ⟨1, _⟩ => show win0_1.index _ (1 : Fin 2) * 128 ≤ (i 1).val ∧ (i 1).val < win0_1.index _ (1 : Fin 2) * 128 + 128; rw [e1]; omega

/-- A block that agrees with an array at every row and column of it is the array's block. -/
theorem tile_eq (t : Fin grid0.N) (O : S528x128.Idx → EReal) (G : S8976x128.Idx → EReal)
    (h : ∀ (r : Fin 528) (k : Fin 128) (q : Fin 8976), q.val = t.val * 528 + r.val → O (ix2 r k) = G (ix2 q k)) :
    (fun y : (win0_1.rect t).shape.Idx => O (win0_1.xinj (grid0.coords t) y)) = fun y => G ((win0_1.rect t).idx y) := by
  have ht : t.val < 17 := lt_of_lt_of_eq t.isLt N_0
  funext y
  have hy0 : (y 0).val < 528 := (y 0).isLt
  have hy1 : (y 1).val < 128 := (y 1).isLt
  have hy : win0_1.xinj (grid0.coords t) y = (ix2 ⟨(y 0).val, hy0⟩ ⟨(y 1).val, hy1⟩ : S528x128.Idx) := by
    funext a
    match a with
    | ⟨0, _⟩ => rfl
    | ⟨1, _⟩ => rfl
  rw [hy, rect_idx t y ⟨t.val * 528 + (y 0).val, by omega⟩ ⟨(y 1).val, hy1⟩ rfl rfl]
  exact h _ _ _ rfl

theorem blk0 (c : Dev nD) (t : Fin cfg0.N) (d : Fin 8) (r : Fin 528) (k : Fin 128) (q : Fin 8976) (hq : q.val = t.val * 528 + r.val) :
    (iblk m c 0 t : S8x528x128.Idx → EReal) (ix3 d r k) = parts m c (ix3 d q k) := by
  unfold iblk
  rw [View.read_apply]
  show m ((c.tc : Thread nD τ).loc main_arg0) _ = m ((c.tc : Thread nD τ).loc main_arg0) _
  refine congrArg _ (funext fun a => Fin.ext ?_)
  obtain ⟨e0, e1, e2⟩ := idx0 t
  match a with
  | ⟨0, _⟩ => show win0_0.index t (0 : Fin 3) * 8 + 1 * d.val = d.val; omega
  | ⟨1, _⟩ => show win0_0.index t (1 : Fin 3) * 528 + 1 * r.val = q.val; omega
  | ⟨2, _⟩ => show win0_0.index t (2 : Fin 3) * 128 + 1 * k.val = k.val; omega

theorem blk1 (c : Dev nD) (t : Fin cfg0.N) (r : Fin 528) (k : Fin 128) (q : Fin 8976) (hq : q.val = t.val * 528 + r.val) :
    (iblk m c 1 t : S528x128.Idx → EReal) (ix2 r k) = wt m c (ix2 q k) := by
  unfold iblk
  rw [View.read_apply]
  exact congrArg (wt m c) (rect_idx t _ q k hq rfl)

theorem blk2 (c : Dev nD) (t : Fin cfg0.N) (r : Fin 528) (k : Fin 128) (q : Fin 8976) (hq : q.val = t.val * 528 + r.val) :
    (iblk m c 2 t : S528x128.Idx → EReal) (ix2 r k) = m1 m c (ix2 q k) := by
  unfold iblk
  rw [View.read_apply]
  exact congrArg (m1 m c) (rect_idx t _ q k hq rfl)

theorem blk3 (c : Dev nD) (t : Fin cfg0.N) (r : Fin 528) (k : Fin 128) (q : Fin 8976) (hq : q.val = t.val * 528 + r.val) :
    (iblk m c 3 t : S528x128.Idx → EReal) (ix2 r k) = m2 m c (ix2 q k) := by
  unfold iblk
  rw [View.read_apply]
  exact congrArg (m2 m c) (rect_idx t _ q k hq rfl)

theorem grad_at (c : Dev nD) (X : S8x528x128.Idx → EReal) (r : Fin 528) (k : Fin 128) (q : Fin 8976)
    (h : ∀ d : Fin 8, X (ix3 d r k) = parts m c (ix3 d q k)) : ∑ d : Fin 8, X (ix3 d r k) = grad m c q k :=
  Finset.sum_congr rfl fun d _ => h d

/-! ## The four arrays -/

/-- The gradient's array. -/
def gradArr (c : Dev nD) : Buf (Elt Ideal) ((c.tc : Thread nD τ).loc main_v0_0) := fun i : S8976x128.Idx => grad m c (i 0) (i 1)
/-- The step's array. -/
def deltaArr (c : Dev nD) : Buf (Elt Ideal) ((c.tc : Thread nD τ).loc main_v0_1) := fun i : S8976x128.Idx =>
  delta (grad m c (i 0) (i 1)) (wt m c (ix2 (i 0) (i 1))) (m1 m c (ix2 (i 0) (i 1))) (m2 m c (ix2 (i 0) (i 1)))
/-- The first moment's array. -/
def newMArr (c : Dev nD) : Buf (Elt Ideal) ((c.tc : Thread nD τ).loc main_v0_2) := fun i : S8976x128.Idx =>
  newM (grad m c (i 0) (i 1)) (m1 m c (ix2 (i 0) (i 1)))
/-- The second moment's array. -/
def newVArr (c : Dev nD) : Buf (Elt Ideal) ((c.tc : Thread nD τ).loc main_v0_3) := fun i : S8976x128.Idx =>
  newV (grad m c (i 0) (i 1)) (m2 m c (ix2 (i 0) (i 1)))

theorem arr4 (c : Dev nD) : (dats m 0 c).arrAt 4 cfg0.N = gradArr m c := by
  refine (dats m 0 c).arrAt_eq_of_cover 4 _ (fun t _ => ?_) (fun i => ?_)
  · show (cfg0.win 4).cut (grid0.coords t) ((dats m 0 c).after 4 t) = _
    rw [after0_4]
    refine tile_eq t (out0_4 (F := Ideal) (iblk m c 0 t) (iblk m c 1 t) (iblk m c 2 t) (iblk m c 3 t)) (gradArr m c) fun r k q hq => ?_
    refine (out4_at (iblk m c 0 t) (iblk m c 1 t) (iblk m c 2 t) (iblk m c 3 t) r k).trans ?_
    rw [grad_at m c (iblk m c 0 t) r k q (fun d => blk0 m c t d r k q hq)]
    rfl
  · obtain ⟨t, h⟩ := rect_cover i
    exact ⟨t, flush0_4 t, by rw [View.set_slice_whole]; exact h⟩

theorem arr5 (c : Dev nD) : (dats m 0 c).arrAt 5 cfg0.N = deltaArr m c := by
  refine (dats m 0 c).arrAt_eq_of_cover 5 _ (fun t _ => ?_) (fun i => ?_)
  · show (cfg0.win 5).cut (grid0.coords t) ((dats m 0 c).after 5 t) = _
    rw [after0_5]
    refine tile_eq t (out0_5 (F := Ideal) (iblk m c 0 t) (iblk m c 1 t) (iblk m c 2 t) (iblk m c 3 t)) (deltaArr m c) fun r k q hq => ?_
    refine (out5_at (iblk m c 0 t) (iblk m c 1 t) (iblk m c 2 t) (iblk m c 3 t) r k).trans ?_
    rw [grad_at m c (iblk m c 0 t) r k q (fun d => blk0 m c t d r k q hq), blk1 m c t r k q hq, blk2 m c t r k q hq, blk3 m c t r k q hq]
    rfl
  · obtain ⟨t, h⟩ := rect_cover i
    exact ⟨t, flush0_5 t, by rw [View.set_slice_whole]; exact h⟩

theorem arr6 (c : Dev nD) : (dats m 0 c).arrAt 6 cfg0.N = newMArr m c := by
  refine (dats m 0 c).arrAt_eq_of_cover 6 _ (fun t _ => ?_) (fun i => ?_)
  · show (cfg0.win 6).cut (grid0.coords t) ((dats m 0 c).after 6 t) = _
    rw [after0_6]
    refine tile_eq t (out0_6 (F := Ideal) (iblk m c 0 t) (iblk m c 1 t) (iblk m c 2 t) (iblk m c 3 t)) (newMArr m c) fun r k q hq => ?_
    refine (out6_at (iblk m c 0 t) (iblk m c 1 t) (iblk m c 2 t) (iblk m c 3 t) r k).trans ?_
    rw [grad_at m c (iblk m c 0 t) r k q (fun d => blk0 m c t d r k q hq), blk2 m c t r k q hq]
    rfl
  · obtain ⟨t, h⟩ := rect_cover i
    exact ⟨t, flush0_6 t, by rw [View.set_slice_whole]; exact h⟩

theorem arr7 (c : Dev nD) : (dats m 0 c).arrAt 7 cfg0.N = newVArr m c := by
  refine (dats m 0 c).arrAt_eq_of_cover 7 _ (fun t _ => ?_) (fun i => ?_)
  · show (cfg0.win 7).cut (grid0.coords t) ((dats m 0 c).after 7 t) = _
    rw [after0_7]
    refine tile_eq t (out0_7 (F := Ideal) (iblk m c 0 t) (iblk m c 1 t) (iblk m c 2 t) (iblk m c 3 t)) (newVArr m c) fun r k q hq => ?_
    refine (out7_at (iblk m c 0 t) (iblk m c 1 t) (iblk m c 2 t) (iblk m c 3 t) r k).trans ?_
    rw [grad_at m c (iblk m c 0 t) r k q (fun d => blk0 m c t d r k q hq), blk3 m c t r k q hq]
    rfl
  · obtain ⟨t, h⟩ := rect_cover i
    exact ⟨t, flush0_7 t, by rw [View.set_slice_whole]; exact h⟩

/-! ## The run of the kernel -/

theorem run_kernel : θ_run defs (onTc (τ := τ) (main (F := Ideal))) ⟨m, fun _ => 0, ρ⟩ fun r => ∀ c : Dev nD,
      r.2.mem ((c.tc : Thread nD τ).loc main_v0_0) = gradArr m c
      ∧ r.2.mem ((c.tc : Thread nD τ).loc main_v0_1) = deltaArr m c
      ∧ r.2.mem ((c.tc : Thread nD τ).loc main_v0_2) = newMArr m c
      ∧ r.2.mem ((c.tc : Thread nD τ).loc main_v0_3) = newVArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (arr4 m c), ((h c).1 5).trans (arr5 m c), ((h c).1 6).trans (arr6 m c), ((h c).1 7).trans (arr7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end

/-! ## The equation -/

theorem idx_eq (i : (⟨2, ![8976, 128]⟩ : Shape).Idx) : i = ix2 (i 0) (i 1) := by
  funext a; match a with
  | ⟨0, _⟩ => rfl
  | ⟨1, _⟩ => rfl

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨gradArr m, deltaArr m, newMArr m, newVArr m, run_kernel m g, (θ_run _ _ _).mono (fun r h c => ?_) (Cert.Reference9Ideal.Value.run m' g')⟩
  obtain ⟨a0, a1, a2, a3⟩ := hagree c
  refine ⟨(h c).1.trans ?_, (h c).2.1.trans ?_, (h c).2.2.1.trans ?_, (h c).2.2.2.1.trans ?_, (h c).2.2.2.2⟩
  all_goals clear h
  · rw [Cert.Reference9Ideal.Read.val_main_v0_eq, a0]
    funext (i : Cert.Kernel9Ideal.S8976x128.Idx)
    rw [idx_eq i]
    exact ref_g _ (i 0) (i 1)
  · rw [Cert.Reference9Ideal.Read.val_main_v24_eq, a0, a1, a2, a3]
    funext (i : Cert.Kernel9Ideal.S8976x128.Idx)
    rw [idx_eq i]
    exact ref_delta _ _ _ _ (i 0) (i 1)
  · rw [Cert.Reference9Ideal.Read.val_main_v5_eq, a0, a2]
    funext (i : Cert.Kernel9Ideal.S8976x128.Idx)
    rw [idx_eq i]
    exact ref_m _ _ (i 0) (i 1)
  · rw [Cert.Reference9Ideal.Read.val_main_v11_eq, a0, a3]
    funext (i : Cert.Kernel9Ideal.S8976x128.Idx)
    rw [idx_eq i]
    exact ref_v _ _ (i 0) (i 1)

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite_sb
public import proofs.«01_k».proof.Proof.Gen.Pre_finite_in
public import proofs.«01_k».proof.Proof.Gen.Pre_finite_tail
public import proofs.«01_k».proof.Proof.Gen.Pre_finite_fwd
public import proofs.«01_k».proof.Proof.Gen.Pre_finite_swa
public import proofs.«01_k».proof.Proof.SbKernel
public import proofs.«01_k».proof.Proof.SbRun
public import proofs.«01_k».proof.Proof.InProjRun
public import proofs.«01_k».proof.Proof.TailRun
public import proofs.«01_k».proof.Proof.SfRun
public import proofs.«01_k».proof.Proof.SwRun
public import proofs.«01_k».proof.Proof.IpKernel
public import proofs.«01_k».proof.Proof.IpRun
public import proofs.«01_k».proof.Proof.DwRun
public import proofs.«01_k».proof.Proof.AdamRun
public import Idealize.ShloMosaic.Adequacy
public import Idealize.ShloMosaic.Init

@[expose] public section

noncomputable section

namespace Cert.Proof

open Idealize.ShloMosaic Idealize.SL.Sem Cert.Kernel

/-- The reference ends with its arguments unchanged and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference of `in_proj_bwd` ends with its arguments unchanged and declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The reference of `tail_fwd_bwd` ends with its arguments unchanged and declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2.2.2.2.2.2.2.2.2, sem_eq_zero_of_no_sems (by decide) r.2⟩)
    (Cert.Reference4Ideal.Value.run (F := Ideal) m ρ)

/-- The reference of the attention's forward call ends with its argument unchanged and declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the sliding-window attention ends with its arguments unchanged and declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of the projection's forward call ends with its arguments unchanged and declares no semaphore. -/
theorem frame_reference7 : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The reference of the weight's gradient ends with its arguments unchanged and declares no semaphore. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of the optimiser's step ends with its arguments unchanged and declares no semaphore. -/
theorem frame_reference9 : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_sb.Gen.facts, Cert.Pre_finite_in.Gen.facts, Cert.Pre_finite_tail.Gen.facts, Cert.Pre_finite_fwd.Gen.facts,
  Cert.Pre_finite_swa.Gen.facts,
  Cert.KernelIdeal.Sb.frame_kernel,
  fun m ρ _ => Cert.KernelIdeal.Sb.frame m ρ,
  fun m ρ _ => Cert.KernelIdeal.Sb.frame m ρ,
  frame_reference,
  fun m ρ _ => frame_reference m ρ trivial,
  fun m ρ _ => Cert.Kernel2.Gen.frame (F := Bits) m ρ,
  fun m ρ _ => Cert.Kernel2Ideal.Gen.frame (F := Ideal) m ρ,
  fun m ρ _ => Cert.Kernel2Ideal.Gen.frame (F := Ideal) m ρ,
  frame_reference2,
  fun m ρ _ => frame_reference2 m ρ trivial,
  fun m ρ _ => Cert.Kernel4.Gen.frame (F := Bits) m ρ,
  fun m ρ _ => Cert.Kernel4Ideal.Gen.frame (F := Ideal) m ρ,
  fun m ρ _ => Cert.Kernel4Ideal.Gen.frame (F := Ideal) m ρ,
  frame_reference4,
  fun m ρ _ => frame_reference4 m ρ trivial,
  fun m ρ _ => Cert.Kernel5.Gen.frame (F := Bits) m ρ,
  fun m ρ _ => Cert.Kernel5Ideal.Gen.frame (F := Ideal) m ρ,
  fun m ρ _ => Cert.Kernel5Ideal.Gen.frame (F := Ideal) m ρ,
  frame_reference5,
  fun m ρ _ => frame_reference5 m ρ trivial,
  fun m ρ _ => Cert.Kernel6.Gen.frame (F := Bits) m ρ,
  fun m ρ _ => Cert.Kernel6Ideal.Gen.frame (F := Ideal) m ρ,
  fun m ρ _ => Cert.Kernel6Ideal.Gen.frame (F := Ideal) m ρ,
  frame_reference6,
  fun m ρ _ => frame_reference6 m ρ trivial,
  Cert.Kernel7Ideal.Ip.frame_kernel,
  fun m ρ _ => Cert.Kernel7Ideal.Ip.frame (F := Ideal) m ρ,
  frame_reference7,
  fun m ρ _ => Cert.Kernel8.Gen.frame (F := Bits) m ρ,
  fun m ρ _ => Cert.Kernel8Ideal.Gen.frame (F := Ideal) m ρ,
  frame_reference8,
  fun m ρ _ => Cert.Kernel9.Gen.frame (F := Bits) m ρ,
  fun m ρ _ => Cert.Kernel9Ideal.Gen.frame (F := Ideal) m ρ,
  frame_reference9,
  trivial,
  Cert.KernelIdeal.Sb.algebraic,
  trivial,
  Cert.InProj.algebraic_in,
  trivial,
  Cert.Tail.algebraic_tail,
  trivial,
  Cert.Kernel5Ideal.Sf.algebraic_fwd,
  IdealRules.named_const.statement _ _ _ _ _ rfl,
  Cert.Sw.algebraic_swa,
  trivial,
  Cert.Ip.algebraic,
  trivial,
  Cert.Dw.algebraic,
  trivial,
  Cert.Adam.algebraic⟩
